-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.2.1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.2.2.1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.2.2.2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).2.1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).2.2.1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).2.2.2.1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).2.2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Sconv (m : (ℓ : Loc Cert.Sconv.nD Cert.Sconv.τ Cert.Sconv.sig) → Buf (Elt Bits) ℓ) : Prop :=
  True

def Pre_SconvIdeal (m : (ℓ : Loc Cert.SconvIdeal.nD Cert.SconvIdeal.τ Cert.SconvIdeal.sig) → Buf (Elt Ideal) ℓ) : Prop :=
  True

def Pre_SconvRefIdeal (m : (ℓ : Loc Cert.SconvRefIdeal.nD Cert.SconvRefIdeal.τ Cert.SconvRefIdeal.sig) → Buf (Elt Ideal) ℓ) : Prop :=
  True

def Pre_Res (m : (ℓ : Loc Cert.Res.nD Cert.Res.τ Cert.Res.sig) → Buf (Elt Bits) ℓ) : Prop :=
  True

def Pre_ResIdeal (m : (ℓ : Loc Cert.ResIdeal.nD Cert.ResIdeal.τ Cert.ResIdeal.sig) → Buf (Elt Ideal) ℓ) : Prop :=
  True

def Pre_ResRefIdeal (m : (ℓ : Loc Cert.ResRefIdeal.nD Cert.ResRefIdeal.τ Cert.ResRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_norm_finite [hPre_norm_finite : Cert.Pre_norm_finite.Facts] (m : (ℓ : Loc Cert.NormIdeal.nD Cert.NormIdeal.τ Cert.NormIdeal.sig) → Buf (Elt Ideal) ℓ) : Prop :=
  ∀ c : Dev Cert.NormIdeal.nD,
    (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5))).1 = (fun _ => 1#1)
    ∧ (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5))).2.1 = (fun _ => 1#1)
    ∧ (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5))).2.2.1 = (fun _ => 1#1)
    ∧ (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5))).2.2.2 = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_norm_finite [hPre_norm_finite : Cert.Pre_norm_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))).1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))).2.1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))).2.2.1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))).2.2.2 = (fun _ => 1#1)

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInIdeal_normin_finite [hPre_normin_finite : Cert.Pre_normin_finite.Facts] (m : (ℓ : Loc Cert.NormInIdeal.nD Cert.NormInIdeal.τ Cert.NormInIdeal.sig) → Buf (Elt Ideal) ℓ) : Prop :=
  ∀ c : Dev Cert.NormInIdeal.nD,
    (Cert.Pre_normin_finite.fn (F := Ideal) (m ((c.tc : Thread Cert.NormInIdeal.nD Cert.NormInIdeal.τ).loc Cert.NormInIdeal.main_arg0)) (m ((c.tc : Thread Cert.NormInIdeal.nD Cert.NormInIdeal.τ).loc Cert.NormInIdeal.main_arg1)) (m ((c.tc : Thread Cert.NormInIdeal.nD Cert.NormInIdeal.τ).loc Cert.NormInIdeal.main_arg2)) (m ((c.tc : Thread Cert.NormInIdeal.nD Cert.NormInIdeal.τ).loc Cert.NormInIdeal.main_arg3)) (m ((c.tc : Thread Cert.NormInIdeal.nD Cert.NormInIdeal.τ).loc Cert.NormInIdeal.main_arg4)) (m ((c.tc : Thread Cert.NormInIdeal.nD Cert.NormInIdeal.τ).loc Cert.NormInIdeal.main_arg5)) (m ((c.tc : Thread Cert.NormInIdeal.nD Cert.NormInIdeal.τ).loc Cert.NormInIdeal.main_arg6)) (m ((c.tc : Thread Cert.NormInIdeal.nD Cert.NormInIdeal.τ).loc Cert.NormInIdeal.main_arg7))).1 = (fun _ => 1#1)
    ∧ (Cert.Pre_normin_finite.fn (F := Ideal) (m ((c.tc : Thread Cert.NormInIdeal.nD Cert.NormInIdeal.τ).loc Cert.NormInIdeal.main_arg0)) (m ((c.tc : Thread Cert.NormInIdeal.nD Cert.NormInIdeal.τ).loc Cert.NormInIdeal.main_arg1)) (m ((c.tc : Thread Cert.NormInIdeal.nD Cert.NormInIdeal.τ).loc Cert.NormInIdeal.main_arg2)) (m ((c.tc : Thread Cert.NormInIdeal.nD Cert.NormInIdeal.τ).loc Cert.NormInIdeal.main_arg3)) (m ((c.tc : Thread Cert.NormInIdeal.nD Cert.NormInIdeal.τ).loc Cert.NormInIdeal.main_arg4)) (m ((c.tc : Thread Cert.NormInIdeal.nD Cert.NormInIdeal.τ).loc Cert.NormInIdeal.main_arg5)) (m ((c.tc : Thread Cert.NormInIdeal.nD Cert.NormInIdeal.τ).loc Cert.NormInIdeal.main_arg6)) (m ((c.tc : Thread Cert.NormInIdeal.nD Cert.NormInIdeal.τ).loc Cert.NormInIdeal.main_arg7))).2.1 = (fun _ => 1#1)
    ∧ (Cert.Pre_normin_finite.fn (F := Ideal) (m ((c.tc : Thread Cert.NormInIdeal.nD Cert.NormInIdeal.τ).loc Cert.NormInIdeal.main_arg0)) (m ((c.tc : Thread Cert.NormInIdeal.nD Cert.NormInIdeal.τ).loc Cert.NormInIdeal.main_arg1)) (m ((c.tc : Thread Cert.NormInIdeal.nD Cert.NormInIdeal.τ).loc Cert.NormInIdeal.main_arg2)) (m ((c.tc : Thread Cert.NormInIdeal.nD Cert.NormInIdeal.τ).loc Cert.NormInIdeal.main_arg3)) (m ((c.tc : Thread Cert.NormInIdeal.nD Cert.NormInIdeal.τ).loc Cert.NormInIdeal.main_arg4)) (m ((c.tc : Thread Cert.NormInIdeal.nD Cert.NormInIdeal.τ).loc Cert.NormInIdeal.main_arg5)) (m ((c.tc : Thread Cert.NormInIdeal.nD Cert.NormInIdeal.τ).loc Cert.NormInIdeal.main_arg6)) (m ((c.tc : Thread Cert.NormInIdeal.nD Cert.NormInIdeal.τ).loc Cert.NormInIdeal.main_arg7))).2.2.1 = (fun _ => 1#1)
    ∧ (Cert.Pre_normin_finite.fn (F := Ideal) (m ((c.tc : Thread Cert.NormInIdeal.nD Cert.NormInIdeal.τ).loc Cert.NormInIdeal.main_arg0)) (m ((c.tc : Thread Cert.NormInIdeal.nD Cert.NormInIdeal.τ).loc Cert.NormInIdeal.main_arg1)) (m ((c.tc : Thread Cert.NormInIdeal.nD Cert.NormInIdeal.τ).loc Cert.NormInIdeal.main_arg2)) (m ((c.tc : Thread Cert.NormInIdeal.nD Cert.NormInIdeal.τ).loc Cert.NormInIdeal.main_arg3)) (m ((c.tc : Thread Cert.NormInIdeal.nD Cert.NormInIdeal.τ).loc Cert.NormInIdeal.main_arg4)) (m ((c.tc : Thread Cert.NormInIdeal.nD Cert.NormInIdeal.τ).loc Cert.NormInIdeal.main_arg5)) (m ((c.tc : Thread Cert.NormInIdeal.nD Cert.NormInIdeal.τ).loc Cert.NormInIdeal.main_arg6)) (m ((c.tc : Thread Cert.NormInIdeal.nD Cert.NormInIdeal.τ).loc Cert.NormInIdeal.main_arg7))).2.2.2.1 = (fun _ => 1#1)
    ∧ (Cert.Pre_normin_finite.fn (F := Ideal) (m ((c.tc : Thread Cert.NormInIdeal.nD Cert.NormInIdeal.τ).loc Cert.NormInIdeal.main_arg0)) (m ((c.tc : Thread Cert.NormInIdeal.nD Cert.NormInIdeal.τ).loc Cert.NormInIdeal.main_arg1)) (m ((c.tc : Thread Cert.NormInIdeal.nD Cert.NormInIdeal.τ).loc Cert.NormInIdeal.main_arg2)) (m ((c.tc : Thread Cert.NormInIdeal.nD Cert.NormInIdeal.τ).loc Cert.NormInIdeal.main_arg3)) (m ((c.tc : Thread Cert.NormInIdeal.nD Cert.NormInIdeal.τ).loc Cert.NormInIdeal.main_arg4)) (m ((c.tc : Thread Cert.NormInIdeal.nD Cert.NormInIdeal.τ).loc Cert.NormInIdeal.main_arg5)) (m ((c.tc : Thread Cert.NormInIdeal.nD Cert.NormInIdeal.τ).loc Cert.NormInIdeal.main_arg6)) (m ((c.tc : Thread Cert.NormInIdeal.nD Cert.NormInIdeal.τ).loc Cert.NormInIdeal.main_arg7))).2.2.2.2.1 = (fun _ => 1#1)
    ∧ (Cert.Pre_normin_finite.fn (F := Ideal) (m ((c.tc : Thread Cert.NormInIdeal.nD Cert.NormInIdeal.τ).loc Cert.NormInIdeal.main_arg0)) (m ((c.tc : Thread Cert.NormInIdeal.nD Cert.NormInIdeal.τ).loc Cert.NormInIdeal.main_arg1)) (m ((c.tc : Thread Cert.NormInIdeal.nD Cert.NormInIdeal.τ).loc Cert.NormInIdeal.main_arg2)) (m ((c.tc : Thread Cert.NormInIdeal.nD Cert.NormInIdeal.τ).loc Cert.NormInIdeal.main_arg3)) (m ((c.tc : Thread Cert.NormInIdeal.nD Cert.NormInIdeal.τ).loc Cert.NormInIdeal.main_arg4)) (m ((c.tc : Thread Cert.NormInIdeal.nD Cert.NormInIdeal.τ).loc Cert.NormInIdeal.main_arg5)) (m ((c.tc : Thread Cert.NormInIdeal.nD Cert.NormInIdeal.τ).loc Cert.NormInIdeal.main_arg6)) (m ((c.tc : Thread Cert.NormInIdeal.nD Cert.NormInIdeal.τ).loc Cert.NormInIdeal.main_arg7))).2.2.2.2.2.1 = (fun _ => 1#1)
    ∧ (Cert.Pre_normin_finite.fn (F := Ideal) (m ((c.tc : Thread Cert.NormInIdeal.nD Cert.NormInIdeal.τ).loc Cert.NormInIdeal.main_arg0)) (m ((c.tc : Thread Cert.NormInIdeal.nD Cert.NormInIdeal.τ).loc Cert.NormInIdeal.main_arg1)) (m ((c.tc : Thread Cert.NormInIdeal.nD Cert.NormInIdeal.τ).loc Cert.NormInIdeal.main_arg2)) (m ((c.tc : Thread Cert.NormInIdeal.nD Cert.NormInIdeal.τ).loc Cert.NormInIdeal.main_arg3)) (m ((c.tc : Thread Cert.NormInIdeal.nD Cert.NormInIdeal.τ).loc Cert.NormInIdeal.main_arg4)) (m ((c.tc : Thread Cert.NormInIdeal.nD Cert.NormInIdeal.τ).loc Cert.NormInIdeal.main_arg5)) (m ((c.tc : Thread Cert.NormInIdeal.nD Cert.NormInIdeal.τ).loc Cert.NormInIdeal.main_arg6)) (m ((c.tc : Thread Cert.NormInIdeal.nD Cert.NormInIdeal.τ).loc Cert.NormInIdeal.main_arg7))).2.2.2.2.2.2 = (fun _ => 1#1)

def Pre_NormInRefIdeal (m : (ℓ : Loc Cert.NormInRefIdeal.nD Cert.NormInRefIdeal.τ Cert.NormInRefIdeal.sig) → Buf (Elt Ideal) ℓ) : Prop :=
  True

def Pre_NormInRefIdeal_normin_finite [hPre_normin_finite : Cert.Pre_normin_finite.Facts] (m : (ℓ : Loc Cert.NormInRefIdeal.nD Cert.NormInRefIdeal.τ Cert.NormInRefIdeal.sig) → Buf (Elt Ideal) ℓ) : Prop :=
  ∀ c : Dev Cert.NormInRefIdeal.nD,
    (Cert.Pre_normin_finite.fn (F := Ideal) (m ((c.tc : Thread Cert.NormInRefIdeal.nD Cert.NormInRefIdeal.τ).loc Cert.NormInRefIdeal.main_arg0)) (m ((c.tc : Thread Cert.NormInRefIdeal.nD Cert.NormInRefIdeal.τ).loc Cert.NormInRefIdeal.main_arg1)) (m ((c.tc : Thread Cert.NormInRefIdeal.nD Cert.NormInRefIdeal.τ).loc Cert.NormInRefIdeal.main_arg2)) (m ((c.tc : Thread Cert.NormInRefIdeal.nD Cert.NormInRefIdeal.τ).loc Cert.NormInRefIdeal.main_arg3)) (m ((c.tc : Thread Cert.NormInRefIdeal.nD Cert.NormInRefIdeal.τ).loc Cert.NormInRefIdeal.main_arg4)) (m ((c.tc : Thread Cert.NormInRefIdeal.nD Cert.NormInRefIdeal.τ).loc Cert.NormInRefIdeal.main_arg5)) (m ((c.tc : Thread Cert.NormInRefIdeal.nD Cert.NormInRefIdeal.τ).loc Cert.NormInRefIdeal.main_arg6)) (m ((c.tc : Thread Cert.NormInRefIdeal.nD Cert.NormInRefIdeal.τ).loc Cert.NormInRefIdeal.main_arg7))).1 = (fun _ => 1#1)
    ∧ (Cert.Pre_normin_finite.fn (F := Ideal) (m ((c.tc : Thread Cert.NormInRefIdeal.nD Cert.NormInRefIdeal.τ).loc Cert.NormInRefIdeal.main_arg0)) (m ((c.tc : Thread Cert.NormInRefIdeal.nD Cert.NormInRefIdeal.τ).loc Cert.NormInRefIdeal.main_arg1)) (m ((c.tc : Thread Cert.NormInRefIdeal.nD Cert.NormInRefIdeal.τ).loc Cert.NormInRefIdeal.main_arg2)) (m ((c.tc : Thread Cert.NormInRefIdeal.nD Cert.NormInRefIdeal.τ).loc Cert.NormInRefIdeal.main_arg3)) (m ((c.tc : Thread Cert.NormInRefIdeal.nD Cert.NormInRefIdeal.τ).loc Cert.NormInRefIdeal.main_arg4)) (m ((c.tc : Thread Cert.NormInRefIdeal.nD Cert.NormInRefIdeal.τ).loc Cert.NormInRefIdeal.main_arg5)) (m ((c.tc : Thread Cert.NormInRefIdeal.nD Cert.NormInRefIdeal.τ).loc Cert.NormInRefIdeal.main_arg6)) (m ((c.tc : Thread Cert.NormInRefIdeal.nD Cert.NormInRefIdeal.τ).loc Cert.NormInRefIdeal.main_arg7))).2.1 = (fun _ => 1#1)
    ∧ (Cert.Pre_normin_finite.fn (F := Ideal) (m ((c.tc : Thread Cert.NormInRefIdeal.nD Cert.NormInRefIdeal.τ).loc Cert.NormInRefIdeal.main_arg0)) (m ((c.tc : Thread Cert.NormInRefIdeal.nD Cert.NormInRefIdeal.τ).loc Cert.NormInRefIdeal.main_arg1)) (m ((c.tc : Thread Cert.NormInRefIdeal.nD Cert.NormInRefIdeal.τ).loc Cert.NormInRefIdeal.main_arg2)) (m ((c.tc : Thread Cert.NormInRefIdeal.nD Cert.NormInRefIdeal.τ).loc Cert.NormInRefIdeal.main_arg3)) (m ((c.tc : Thread Cert.NormInRefIdeal.nD Cert.NormInRefIdeal.τ).loc Cert.NormInRefIdeal.main_arg4)) (m ((c.tc : Thread Cert.NormInRefIdeal.nD Cert.NormInRefIdeal.τ).loc Cert.NormInRefIdeal.main_arg5)) (m ((c.tc : Thread Cert.NormInRefIdeal.nD Cert.NormInRefIdeal.τ).loc Cert.NormInRefIdeal.main_arg6)) (m ((c.tc : Thread Cert.NormInRefIdeal.nD Cert.NormInRefIdeal.τ).loc Cert.NormInRefIdeal.main_arg7))).2.2.1 = (fun _ => 1#1)
    ∧ (Cert.Pre_normin_finite.fn (F := Ideal) (m ((c.tc : Thread Cert.NormInRefIdeal.nD Cert.NormInRefIdeal.τ).loc Cert.NormInRefIdeal.main_arg0)) (m ((c.tc : Thread Cert.NormInRefIdeal.nD Cert.NormInRefIdeal.τ).loc Cert.NormInRefIdeal.main_arg1)) (m ((c.tc : Thread Cert.NormInRefIdeal.nD Cert.NormInRefIdeal.τ).loc Cert.NormInRefIdeal.main_arg2)) (m ((c.tc : Thread Cert.NormInRefIdeal.nD Cert.NormInRefIdeal.τ).loc Cert.NormInRefIdeal.main_arg3)) (m ((c.tc : Thread Cert.NormInRefIdeal.nD Cert.NormInRefIdeal.τ).loc Cert.NormInRefIdeal.main_arg4)) (m ((c.tc : Thread Cert.NormInRefIdeal.nD Cert.NormInRefIdeal.τ).loc Cert.NormInRefIdeal.main_arg5)) (m ((c.tc : Thread Cert.NormInRefIdeal.nD Cert.NormInRefIdeal.τ).loc Cert.NormInRefIdeal.main_arg6)) (m ((c.tc : Thread Cert.NormInRefIdeal.nD Cert.NormInRefIdeal.τ).loc Cert.NormInRefIdeal.main_arg7))).2.2.2.1 = (fun _ => 1#1)
    ∧ (Cert.Pre_normin_finite.fn (F := Ideal) (m ((c.tc : Thread Cert.NormInRefIdeal.nD Cert.NormInRefIdeal.τ).loc Cert.NormInRefIdeal.main_arg0)) (m ((c.tc : Thread Cert.NormInRefIdeal.nD Cert.NormInRefIdeal.τ).loc Cert.NormInRefIdeal.main_arg1)) (m ((c.tc : Thread Cert.NormInRefIdeal.nD Cert.NormInRefIdeal.τ).loc Cert.NormInRefIdeal.main_arg2)) (m ((c.tc : Thread Cert.NormInRefIdeal.nD Cert.NormInRefIdeal.τ).loc Cert.NormInRefIdeal.main_arg3)) (m ((c.tc : Thread Cert.NormInRefIdeal.nD Cert.NormInRefIdeal.τ).loc Cert.NormInRefIdeal.main_arg4)) (m ((c.tc : Thread Cert.NormInRefIdeal.nD Cert.NormInRefIdeal.τ).loc Cert.NormInRefIdeal.main_arg5)) (m ((c.tc : Thread Cert.NormInRefIdeal.nD Cert.NormInRefIdeal.τ).loc Cert.NormInRefIdeal.main_arg6)) (m ((c.tc : Thread Cert.NormInRefIdeal.nD Cert.NormInRefIdeal.τ).loc Cert.NormInRefIdeal.main_arg7))).2.2.2.2.1 = (fun _ => 1#1)
    ∧ (Cert.Pre_normin_finite.fn (F := Ideal) (m ((c.tc : Thread Cert.NormInRefIdeal.nD Cert.NormInRefIdeal.τ).loc Cert.NormInRefIdeal.main_arg0)) (m ((c.tc : Thread Cert.NormInRefIdeal.nD Cert.NormInRefIdeal.τ).loc Cert.NormInRefIdeal.main_arg1)) (m ((c.tc : Thread Cert.NormInRefIdeal.nD Cert.NormInRefIdeal.τ).loc Cert.NormInRefIdeal.main_arg2)) (m ((c.tc : Thread Cert.NormInRefIdeal.nD Cert.NormInRefIdeal.τ).loc Cert.NormInRefIdeal.main_arg3)) (m ((c.tc : Thread Cert.NormInRefIdeal.nD Cert.NormInRefIdeal.τ).loc Cert.NormInRefIdeal.main_arg4)) (m ((c.tc : Thread Cert.NormInRefIdeal.nD Cert.NormInRefIdeal.τ).loc Cert.NormInRefIdeal.main_arg5)) (m ((c.tc : Thread Cert.NormInRefIdeal.nD Cert.NormInRefIdeal.τ).loc Cert.NormInRefIdeal.main_arg6)) (m ((c.tc : Thread Cert.NormInRefIdeal.nD Cert.NormInRefIdeal.τ).loc Cert.NormInRefIdeal.main_arg7))).2.2.2.2.2.1 = (fun _ => 1#1)
    ∧ (Cert.Pre_normin_finite.fn (F := Ideal) (m ((c.tc : Thread Cert.NormInRefIdeal.nD Cert.NormInRefIdeal.τ).loc Cert.NormInRefIdeal.main_arg0)) (m ((c.tc : Thread Cert.NormInRefIdeal.nD Cert.NormInRefIdeal.τ).loc Cert.NormInRefIdeal.main_arg1)) (m ((c.tc : Thread Cert.NormInRefIdeal.nD Cert.NormInRefIdeal.τ).loc Cert.NormInRefIdeal.main_arg2)) (m ((c.tc : Thread Cert.NormInRefIdeal.nD Cert.NormInRefIdeal.τ).loc Cert.NormInRefIdeal.main_arg3)) (m ((c.tc : Thread Cert.NormInRefIdeal.nD Cert.NormInRefIdeal.τ).loc Cert.NormInRefIdeal.main_arg4)) (m ((c.tc : Thread Cert.NormInRefIdeal.nD Cert.NormInRefIdeal.τ).loc Cert.NormInRefIdeal.main_arg5)) (m ((c.tc : Thread Cert.NormInRefIdeal.nD Cert.NormInRefIdeal.τ).loc Cert.NormInRefIdeal.main_arg6)) (m ((c.tc : Thread Cert.NormInRefIdeal.nD Cert.NormInRefIdeal.τ).loc Cert.NormInRefIdeal.main_arg7))).2.2.2.2.2.2 = (fun _ => 1#1)

def Pre_NormF (m : (ℓ : Loc Cert.NormF.nD Cert.NormF.τ Cert.NormF.sig) → Buf (Elt Bits) ℓ) : Prop :=
  True

def Pre_NormFIdeal (m : (ℓ : Loc Cert.NormFIdeal.nD Cert.NormFIdeal.τ Cert.NormFIdeal.sig) → Buf (Elt Ideal) ℓ) : Prop :=
  True

def Pre_NormFRefIdeal (m : (ℓ : Loc Cert.NormFRefIdeal.nD Cert.NormFRefIdeal.τ Cert.NormFRefIdeal.sig) → Buf (Elt Ideal) ℓ) : Prop :=
  True

def Pre_UpX (m : (ℓ : Loc Cert.UpX.nD Cert.UpX.τ Cert.UpX.sig) → Buf (Elt Bits) ℓ) : Prop :=
  True

def Pre_UpXIdeal (m : (ℓ : Loc Cert.UpXIdeal.nD Cert.UpXIdeal.τ Cert.UpXIdeal.sig) → Buf (Elt Ideal) ℓ) : Prop :=
  True

def Pre_UpXRefIdeal (m : (ℓ : Loc Cert.UpXRefIdeal.nD Cert.UpXRefIdeal.τ Cert.UpXRefIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWRefIdeal (m : (ℓ : Loc Cert.UpWRefIdeal.nD Cert.UpWRefIdeal.τ Cert.UpWRefIdeal.sig) → Buf (Elt Ideal) ℓ) : Prop :=
  True

def Pre_DownX (m : (ℓ : Loc Cert.DownX.nD Cert.DownX.τ Cert.DownX.sig) → Buf (Elt Bits) ℓ) : Prop :=
  True

def Pre_DownXIdeal (m : (ℓ : Loc Cert.DownXIdeal.nD Cert.DownXIdeal.τ Cert.DownXIdeal.sig) → Buf (Elt Ideal) ℓ) : Prop :=
  True

def Pre_DownXRefIdeal (m : (ℓ : Loc Cert.DownXRefIdeal.nD Cert.DownXRefIdeal.τ Cert.DownXRefIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWRefIdeal (m : (ℓ : Loc Cert.DownWRefIdeal.nD Cert.DownWRefIdeal.τ Cert.DownWRefIdeal.sig) → Buf (Elt Ideal) ℓ) : Prop :=
  True

def Pre_In3X (m : (ℓ : Loc Cert.In3X.nD Cert.In3X.τ Cert.In3X.sig) → Buf (Elt Bits) ℓ) : Prop :=
  True

def Pre_In3XIdeal (m : (ℓ : Loc Cert.In3XIdeal.nD Cert.In3XIdeal.τ Cert.In3XIdeal.sig) → Buf (Elt Ideal) ℓ) : Prop :=
  True

def Pre_In3XRefIdeal (m : (ℓ : Loc Cert.In3XRefIdeal.nD Cert.In3XRefIdeal.τ Cert.In3XRefIdeal.sig) → Buf (Elt Ideal) ℓ) : Prop :=
  True

def Pre_In3W (m : (ℓ : Loc Cert.In3W.nD Cert.In3W.τ Cert.In3W.sig) → Buf (Elt Bits) ℓ) : Prop :=
  True

def Pre_In3WIdeal (m : (ℓ : Loc Cert.In3WIdeal.nD Cert.In3WIdeal.τ Cert.In3WIdeal.sig) → Buf (Elt Ideal) ℓ) : Prop :=
  True

def Pre_In3WRefIdeal (m : (ℓ : Loc Cert.In3WRefIdeal.nD Cert.In3WRefIdeal.τ Cert.In3WRefIdeal.sig) → Buf (Elt Ideal) ℓ) : Prop :=
  True

def Pre_OutX (m : (ℓ : Loc Cert.OutX.nD Cert.OutX.τ Cert.OutX.sig) → Buf (Elt Bits) ℓ) : Prop :=
  True

def Pre_OutXIdeal (m : (ℓ : Loc Cert.OutXIdeal.nD Cert.OutXIdeal.τ Cert.OutXIdeal.sig) → Buf (Elt Ideal) ℓ) : Prop :=
  True

def Pre_OutXRefIdeal (m : (ℓ : Loc Cert.OutXRefIdeal.nD Cert.OutXRefIdeal.τ Cert.OutXRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_In2X (m : (ℓ : Loc Cert.In2X.nD Cert.In2X.τ Cert.In2X.sig) → Buf (Elt Bits) ℓ) : Prop :=
  True

def Pre_In2XIdeal (m : (ℓ : Loc Cert.In2XIdeal.nD Cert.In2XIdeal.τ Cert.In2XIdeal.sig) → Buf (Elt Ideal) ℓ) : Prop :=
  True

def Pre_In2XRefIdeal (m : (ℓ : Loc Cert.In2XRefIdeal.nD Cert.In2XRefIdeal.τ Cert.In2XRefIdeal.sig) → Buf (Elt Ideal) ℓ) : Prop :=
  True

def Pre_In2W (m : (ℓ : Loc Cert.In2W.nD Cert.In2W.τ Cert.In2W.sig) → Buf (Elt Bits) ℓ) : Prop :=
  True

def Pre_In2WIdeal (m : (ℓ : Loc Cert.In2WIdeal.nD Cert.In2WIdeal.τ Cert.In2WIdeal.sig) → Buf (Elt Ideal) ℓ) : Prop :=
  True

def Pre_In2WRefIdeal (m : (ℓ : Loc Cert.In2WRefIdeal.nD Cert.In2WRefIdeal.τ Cert.In2WRefIdeal.sig) → Buf (Elt Ideal) ℓ) : Prop :=
  True

def Pre_In1X (m : (ℓ : Loc Cert.In1X.nD Cert.In1X.τ Cert.In1X.sig) → Buf (Elt Bits) ℓ) : Prop :=
  True

def Pre_In1XIdeal (m : (ℓ : Loc Cert.In1XIdeal.nD Cert.In1XIdeal.τ Cert.In1XIdeal.sig) → Buf (Elt Ideal) ℓ) : Prop :=
  True

def Pre_In1XRefIdeal (m : (ℓ : Loc Cert.In1XRefIdeal.nD Cert.In1XRefIdeal.τ Cert.In1XRefIdeal.sig) → Buf (Elt Ideal) ℓ) : Prop :=
  True

def Pre_In1W (m : (ℓ : Loc Cert.In1W.nD Cert.In1W.τ Cert.In1W.sig) → Buf (Elt Bits) ℓ) : Prop :=
  True

def Pre_In1WIdeal (m : (ℓ : Loc Cert.In1WIdeal.nD Cert.In1WIdeal.τ Cert.In1WIdeal.sig) → Buf (Elt Ideal) ℓ) : Prop :=
  True

def Pre_In1WRefIdeal (m : (ℓ : Loc Cert.In1WRefIdeal.nD Cert.In1WRefIdeal.τ Cert.In1WRefIdeal.sig) → Buf (Elt Ideal) ℓ) : Prop :=
  True

def Pre_UpF (m : (ℓ : Loc Cert.UpF.nD Cert.UpF.τ Cert.UpF.sig) → Buf (Elt Bits) ℓ) : Prop :=
  True

def Pre_UpFIdeal (m : (ℓ : Loc Cert.UpFIdeal.nD Cert.UpFIdeal.τ Cert.UpFIdeal.sig) → Buf (Elt Ideal) ℓ) : Prop :=
  True

def Pre_UpFRefIdeal (m : (ℓ : Loc Cert.UpFRefIdeal.nD Cert.UpFRefIdeal.τ Cert.UpFRefIdeal.sig) → Buf (Elt Ideal) ℓ) : Prop :=
  True

def Pre_In3F (m : (ℓ : Loc Cert.In3F.nD Cert.In3F.τ Cert.In3F.sig) → Buf (Elt Bits) ℓ) : Prop :=
  True

def Pre_In3FIdeal (m : (ℓ : Loc Cert.In3FIdeal.nD Cert.In3FIdeal.τ Cert.In3FIdeal.sig) → Buf (Elt Ideal) ℓ) : Prop :=
  True

def Pre_In3FRefIdeal (m : (ℓ : Loc Cert.In3FRefIdeal.nD Cert.In3FRefIdeal.τ Cert.In3FRefIdeal.sig) → Buf (Elt Ideal) ℓ) : Prop :=
  True

def Pre_In2F (m : (ℓ : Loc Cert.In2F.nD Cert.In2F.τ Cert.In2F.sig) → Buf (Elt Bits) ℓ) : Prop :=
  True

def Pre_In2FIdeal (m : (ℓ : Loc Cert.In2FIdeal.nD Cert.In2FIdeal.τ Cert.In2FIdeal.sig) → Buf (Elt Ideal) ℓ) : Prop :=
  True

def Pre_In2FRefIdeal (m : (ℓ : Loc Cert.In2FRefIdeal.nD Cert.In2FRefIdeal.τ Cert.In2FRefIdeal.sig) → Buf (Elt Ideal) ℓ) : Prop :=
  True

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_Sconv [hSconv : Cert.Sconv.Facts] : Prop :=
  ∀ (m : (ℓ : Loc Cert.Sconv.nD Cert.Sconv.τ Cert.Sconv.sig) → Buf (Elt Bits) ℓ) (g : Dev Cert.Sconv.nD → PrngReg), Pre_Sconv m →
    θ_run (Cert.Sconv.defs (F := Bits)) (onTc (τ := Cert.Sconv.τ) (Cert.Sconv.main (F := Bits))) ⟨m, fun _ => 0, g⟩ (fun r => (∀ c : Dev Cert.Sconv.nD,
      r.2.mem ((c.tc : Thread Cert.Sconv.nD Cert.Sconv.τ).loc Cert.Sconv.main_arg0) = m ((c.tc : Thread Cert.Sconv.nD Cert.Sconv.τ).loc Cert.Sconv.main_arg0)
      ∧ r.2.mem ((c.tc : Thread Cert.Sconv.nD Cert.Sconv.τ).loc Cert.Sconv.main_arg1) = m ((c.tc : Thread Cert.Sconv.nD Cert.Sconv.τ).loc Cert.Sconv.main_arg1)
      ∧ r.2.mem ((c.tc : Thread Cert.Sconv.nD Cert.Sconv.τ).loc Cert.Sconv.main_arg2) = m ((c.tc : Thread Cert.Sconv.nD Cert.Sconv.τ).loc Cert.Sconv.main_arg2))
      ∧ r.2.sem = fun _ => 0)

def quiescent_SconvIdeal [hSconvIdeal : Cert.SconvIdeal.Facts] : Prop :=
  ∀ (m : (ℓ : Loc Cert.SconvIdeal.nD Cert.SconvIdeal.τ Cert.SconvIdeal.sig) → Buf (Elt Ideal) ℓ) (g : Dev Cert.SconvIdeal.nD → PrngReg), Pre_SconvIdeal m →
    θ_run (Cert.SconvIdeal.defs (F := Ideal)) (onTc (τ := Cert.SconvIdeal.τ) (Cert.SconvIdeal.main (F := Ideal))) ⟨m, fun _ => 0, g⟩ (fun r => (∀ c : Dev Cert.SconvIdeal.nD,
      r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
      ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
      ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2))
      ∧ r.2.sem = fun _ => 0)

def quiescent_SconvRefIdeal [hSconvRefIdeal : Cert.SconvRefIdeal.Facts] : Prop :=
  ∀ (m : (ℓ : Loc Cert.SconvRefIdeal.nD Cert.SconvRefIdeal.τ Cert.SconvRefIdeal.sig) → Buf (Elt Ideal) ℓ) (g : Dev Cert.SconvRefIdeal.nD → PrngReg), Pre_SconvRefIdeal m →
    θ_run (Cert.SconvRefIdeal.defs (F := Ideal)) (onTc (τ := Cert.SconvRefIdeal.τ) (Cert.SconvRefIdeal.main (F := Ideal))) ⟨m, fun _ => 0, g⟩ (fun r => (∀ c : Dev Cert.SconvRefIdeal.nD,
      r.2.mem ((c.tc : Thread Cert.SconvRefIdeal.nD Cert.SconvRefIdeal.τ).loc Cert.SconvRefIdeal.main_arg0) = m ((c.tc : Thread Cert.SconvRefIdeal.nD Cert.SconvRefIdeal.τ).loc Cert.SconvRefIdeal.main_arg0)
      ∧ r.2.mem ((c.tc : Thread Cert.SconvRefIdeal.nD Cert.SconvRefIdeal.τ).loc Cert.SconvRefIdeal.main_arg1) = m ((c.tc : Thread Cert.SconvRefIdeal.nD Cert.SconvRefIdeal.τ).loc Cert.SconvRefIdeal.main_arg1)
      ∧ r.2.mem ((c.tc : Thread Cert.SconvRefIdeal.nD Cert.SconvRefIdeal.τ).loc Cert.SconvRefIdeal.main_arg2) = m ((c.tc : Thread Cert.SconvRefIdeal.nD Cert.SconvRefIdeal.τ).loc Cert.SconvRefIdeal.main_arg2))
      ∧ r.2.sem = fun _ => 0)

def quiescent_Res [hRes : Cert.Res.Facts] : Prop :=
  ∀ (m : (ℓ : Loc Cert.Res.nD Cert.Res.τ Cert.Res.sig) → Buf (Elt Bits) ℓ) (g : Dev Cert.Res.nD → PrngReg), Pre_Res m →
    θ_run (Cert.Res.defs (F := Bits)) (onTc (τ := Cert.Res.τ) (Cert.Res.main (F := Bits))) ⟨m, fun _ => 0, g⟩ (fun r => (∀ c : Dev Cert.Res.nD,
      r.2.mem ((c.tc : Thread Cert.Res.nD Cert.Res.τ).loc Cert.Res.main_arg0) = m ((c.tc : Thread Cert.Res.nD Cert.Res.τ).loc Cert.Res.main_arg0)
      ∧ r.2.mem ((c.tc : Thread Cert.Res.nD Cert.Res.τ).loc Cert.Res.main_arg1) = m ((c.tc : Thread Cert.Res.nD Cert.Res.τ).loc Cert.Res.main_arg1)
      ∧ r.2.mem ((c.tc : Thread Cert.Res.nD Cert.Res.τ).loc Cert.Res.main_arg2) = m ((c.tc : Thread Cert.Res.nD Cert.Res.τ).loc Cert.Res.main_arg2))
      ∧ r.2.sem = fun _ => 0)

def quiescent_ResIdeal [hResIdeal : Cert.ResIdeal.Facts] : Prop :=
  ∀ (m : (ℓ : Loc Cert.ResIdeal.nD Cert.ResIdeal.τ Cert.ResIdeal.sig) → Buf (Elt Ideal) ℓ) (g : Dev Cert.ResIdeal.nD → PrngReg), Pre_ResIdeal m →
    θ_run (Cert.ResIdeal.defs (F := Ideal)) (onTc (τ := Cert.ResIdeal.τ) (Cert.ResIdeal.main (F := Ideal))) ⟨m, fun _ => 0, g⟩ (fun r => (∀ c : Dev Cert.ResIdeal.nD,
      r.2.mem ((c.tc : Thread Cert.ResIdeal.nD Cert.ResIdeal.τ).loc Cert.ResIdeal.main_arg0) = m ((c.tc : Thread Cert.ResIdeal.nD Cert.ResIdeal.τ).loc Cert.ResIdeal.main_arg0)
      ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
      ∧ r.2.mem ((c.tc : Thread Cert.ResIdeal.nD Cert.ResIdeal.τ).loc Cert.ResIdeal.main_arg2) = m ((c.tc : Thread Cert.ResIdeal.nD Cert.ResIdeal.τ).loc Cert.ResIdeal.main_arg2))
      ∧ r.2.sem = fun _ => 0)

def quiescent_ResRefIdeal [hResRefIdeal : Cert.ResRefIdeal.Facts] : Prop :=
  ∀ (m : (ℓ : Loc Cert.ResRefIdeal.nD Cert.ResRefIdeal.τ Cert.ResRefIdeal.sig) → Buf (Elt Ideal) ℓ) (g : Dev Cert.ResRefIdeal.nD → PrngReg), Pre_ResRefIdeal m →
    θ_run (Cert.ResRefIdeal.defs (F := Ideal)) (onTc (τ := Cert.ResRefIdeal.τ) (Cert.ResRefIdeal.main (F := Ideal))) ⟨m, fun _ => 0, g⟩ (fun r => (∀ c : Dev Cert.ResRefIdeal.nD,
      r.2.mem ((c.tc : Thread Cert.ResRefIdeal.nD Cert.ResRefIdeal.τ).loc Cert.ResRefIdeal.main_arg0) = m ((c.tc : Thread Cert.ResRefIdeal.nD Cert.ResRefIdeal.τ).loc Cert.ResRefIdeal.main_arg0)
      ∧ r.2.mem ((c.tc : Thread Cert.ResRefIdeal.nD Cert.ResRefIdeal.τ).loc Cert.ResRefIdeal.main_arg1) = m ((c.tc : Thread Cert.ResRefIdeal.nD Cert.ResRefIdeal.τ).loc Cert.ResRefIdeal.main_arg1)
      ∧ r.2.mem ((c.tc : Thread Cert.ResRefIdeal.nD Cert.ResRefIdeal.τ).loc Cert.ResRefIdeal.main_arg2) = m ((c.tc : Thread Cert.ResRefIdeal.nD Cert.ResRefIdeal.τ).loc Cert.ResRefIdeal.main_arg2))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1)
      ∧ r.2.mem ((c.tc : Thread Cert.RopeRefIdeal.nD Cert.RopeRefIdeal.τ).loc Cert.RopeRefIdeal.main_arg2) = m ((c.tc : Thread Cert.RopeRefIdeal.nD Cert.RopeRefIdeal.τ).loc Cert.RopeRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormIdeal_pre_norm_finite [hNormIdeal : Cert.NormIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_norm_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5))
      ∧ r.2.sem = fun _ => 0)

def quiescent_NormRefIdeal_pre_norm_finite [hNormRefIdeal : Cert.NormRefIdeal.Facts] [hPre_norm_finite : Cert.Pre_norm_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_norm_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2)
      ∧ r.2.mem ((c.tc : Thread Cert.NormIn.nD Cert.NormIn.τ).loc Cert.NormIn.main_arg3) = m ((c.tc : Thread Cert.NormIn.nD Cert.NormIn.τ).loc Cert.NormIn.main_arg3)
      ∧ r.2.mem ((c.tc : Thread Cert.NormIn.nD Cert.NormIn.τ).loc Cert.NormIn.main_arg4) = m ((c.tc : Thread Cert.NormIn.nD Cert.NormIn.τ).loc Cert.NormIn.main_arg4)
      ∧ r.2.mem ((c.tc : Thread Cert.NormIn.nD Cert.NormIn.τ).loc Cert.NormIn.main_arg5) = m ((c.tc : Thread Cert.NormIn.nD Cert.NormIn.τ).loc Cert.NormIn.main_arg5)
      ∧ r.2.mem ((c.tc : Thread Cert.NormIn.nD Cert.NormIn.τ).loc Cert.NormIn.main_arg6) = m ((c.tc : Thread Cert.NormIn.nD Cert.NormIn.τ).loc Cert.NormIn.main_arg6)
      ∧ r.2.mem ((c.tc : Thread Cert.NormIn.nD Cert.NormIn.τ).loc Cert.NormIn.main_arg7) = m ((c.tc : Thread Cert.NormIn.nD Cert.NormIn.τ).loc Cert.NormIn.main_arg7))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
      ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4)
      ∧ r.2.mem ((c.tc : Thread Cert.NormInIdeal.nD Cert.NormInIdeal.τ).loc Cert.NormInIdeal.main_arg5) = m ((c.tc : Thread Cert.NormInIdeal.nD Cert.NormInIdeal.τ).loc Cert.NormInIdeal.main_arg5)
      ∧ r.2.mem ((c.tc : Thread Cert.NormInIdeal.nD Cert.NormInIdeal.τ).loc Cert.NormInIdeal.main_arg6) = m ((c.tc : Thread Cert.NormInIdeal.nD Cert.NormInIdeal.τ).loc Cert.NormInIdeal.main_arg6)
      ∧ r.2.mem ((c.tc : Thread Cert.NormInIdeal.nD Cert.NormInIdeal.τ).loc Cert.NormInIdeal.main_arg7) = m ((c.tc : Thread Cert.NormInIdeal.nD Cert.NormInIdeal.τ).loc Cert.NormInIdeal.main_arg7))
      ∧ r.2.sem = fun _ => 0)

def quiescent_NormInIdeal_pre_normin_finite [hNormInIdeal : Cert.NormInIdeal.Facts] [hPre_normin_finite : Cert.Pre_normin_finite.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal_normin_finite m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
      ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4)
      ∧ r.2.mem ((c.tc : Thread Cert.NormInIdeal.nD Cert.NormInIdeal.τ).loc Cert.NormInIdeal.main_arg5) = m ((c.tc : Thread Cert.NormInIdeal.nD Cert.NormInIdeal.τ).loc Cert.NormInIdeal.main_arg5)
      ∧ r.2.mem ((c.tc : Thread Cert.NormInIdeal.nD Cert.NormInIdeal.τ).loc Cert.NormInIdeal.main_arg6) = m ((c.tc : Thread Cert.NormInIdeal.nD Cert.NormInIdeal.τ).loc Cert.NormInIdeal.main_arg6)
      ∧ r.2.mem ((c.tc : Thread Cert.NormInIdeal.nD Cert.NormInIdeal.τ).loc Cert.NormInIdeal.main_arg7) = m ((c.tc : Thread Cert.NormInIdeal.nD Cert.NormInIdeal.τ).loc Cert.NormInIdeal.main_arg7))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1)
      ∧ r.2.mem ((c.tc : Thread Cert.NormInRefIdeal.nD Cert.NormInRefIdeal.τ).loc Cert.NormInRefIdeal.main_arg2) = m ((c.tc : Thread Cert.NormInRefIdeal.nD Cert.NormInRefIdeal.τ).loc Cert.NormInRefIdeal.main_arg2)
      ∧ r.2.mem ((c.tc : Thread Cert.NormInRefIdeal.nD Cert.NormInRefIdeal.τ).loc Cert.NormInRefIdeal.main_arg3) = m ((c.tc : Thread Cert.NormInRefIdeal.nD Cert.NormInRefIdeal.τ).loc Cert.NormInRefIdeal.main_arg3)
      ∧ r.2.mem ((c.tc : Thread Cert.NormInRefIdeal.nD Cert.NormInRefIdeal.τ).loc Cert.NormInRefIdeal.main_arg4) = m ((c.tc : Thread Cert.NormInRefIdeal.nD Cert.NormInRefIdeal.τ).loc Cert.NormInRefIdeal.main_arg4)
      ∧ r.2.mem ((c.tc : Thread Cert.NormInRefIdeal.nD Cert.NormInRefIdeal.τ).loc Cert.NormInRefIdeal.main_arg5) = m ((c.tc : Thread Cert.NormInRefIdeal.nD Cert.NormInRefIdeal.τ).loc Cert.NormInRefIdeal.main_arg5)
      ∧ r.2.mem ((c.tc : Thread Cert.NormInRefIdeal.nD Cert.NormInRefIdeal.τ).loc Cert.NormInRefIdeal.main_arg6) = m ((c.tc : Thread Cert.NormInRefIdeal.nD Cert.NormInRefIdeal.τ).loc Cert.NormInRefIdeal.main_arg6)
      ∧ r.2.mem ((c.tc : Thread Cert.NormInRefIdeal.nD Cert.NormInRefIdeal.τ).loc Cert.NormInRefIdeal.main_arg7) = m ((c.tc : Thread Cert.NormInRefIdeal.nD Cert.NormInRefIdeal.τ).loc Cert.NormInRefIdeal.main_arg7))
      ∧ r.2.sem = fun _ => 0)

def quiescent_NormInRefIdeal_pre_normin_finite [hNormInRefIdeal : Cert.NormInRefIdeal.Facts] [hPre_normin_finite : Cert.Pre_normin_finite.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal_normin_finite m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1)
      ∧ r.2.mem ((c.tc : Thread Cert.NormInRefIdeal.nD Cert.NormInRefIdeal.τ).loc Cert.NormInRefIdeal.main_arg2) = m ((c.tc : Thread Cert.NormInRefIdeal.nD Cert.NormInRefIdeal.τ).loc Cert.NormInRefIdeal.main_arg2)
      ∧ r.2.mem ((c.tc : Thread Cert.NormInRefIdeal.nD Cert.NormInRefIdeal.τ).loc Cert.NormInRefIdeal.main_arg3) = m ((c.tc : Thread Cert.NormInRefIdeal.nD Cert.NormInRefIdeal.τ).loc Cert.NormInRefIdeal.main_arg3)
      ∧ r.2.mem ((c.tc : Thread Cert.NormInRefIdeal.nD Cert.NormInRefIdeal.τ).loc Cert.NormInRefIdeal.main_arg4) = m ((c.tc : Thread Cert.NormInRefIdeal.nD Cert.NormInRefIdeal.τ).loc Cert.NormInRefIdeal.main_arg4)
      ∧ r.2.mem ((c.tc : Thread Cert.NormInRefIdeal.nD Cert.NormInRefIdeal.τ).loc Cert.NormInRefIdeal.main_arg5) = m ((c.tc : Thread Cert.NormInRefIdeal.nD Cert.NormInRefIdeal.τ).loc Cert.NormInRefIdeal.main_arg5)
      ∧ r.2.mem ((c.tc : Thread Cert.NormInRefIdeal.nD Cert.NormInRefIdeal.τ).loc Cert.NormInRefIdeal.main_arg6) = m ((c.tc : Thread Cert.NormInRefIdeal.nD Cert.NormInRefIdeal.τ).loc Cert.NormInRefIdeal.main_arg6)
      ∧ r.2.mem ((c.tc : Thread Cert.NormInRefIdeal.nD Cert.NormInRefIdeal.τ).loc Cert.NormInRefIdeal.main_arg7) = m ((c.tc : Thread Cert.NormInRefIdeal.nD Cert.NormInRefIdeal.τ).loc Cert.NormInRefIdeal.main_arg7))
      ∧ r.2.sem = fun _ => 0)

def quiescent_NormF [hNormF : Cert.NormF.Facts] : Prop :=
  ∀ (m : (ℓ : Loc Cert.NormF.nD Cert.NormF.τ Cert.NormF.sig) → Buf (Elt Bits) ℓ) (g : Dev Cert.NormF.nD → PrngReg), Pre_NormF m →
    θ_run (Cert.NormF.defs (F := Bits)) (onTc (τ := Cert.NormF.τ) (Cert.NormF.main (F := Bits))) ⟨m, fun _ => 0, g⟩ (fun r => (∀ c : Dev Cert.NormF.nD,
      r.2.mem ((c.tc : Thread Cert.NormF.nD Cert.NormF.τ).loc Cert.NormF.main_arg0) = m ((c.tc : Thread Cert.NormF.nD Cert.NormF.τ).loc Cert.NormF.main_arg0)
      ∧ r.2.mem ((c.tc : Thread Cert.NormF.nD Cert.NormF.τ).loc Cert.NormF.main_arg1) = m ((c.tc : Thread Cert.NormF.nD Cert.NormF.τ).loc Cert.NormF.main_arg1)
      ∧ r.2.mem ((c.tc : Thread Cert.NormF.nD Cert.NormF.τ).loc Cert.NormF.main_arg2) = m ((c.tc : Thread Cert.NormF.nD Cert.NormF.τ).loc Cert.NormF.main_arg2))
      ∧ r.2.sem = fun _ => 0)

def quiescent_NormFIdeal [hNormFIdeal : Cert.NormFIdeal.Facts] : Prop :=
  ∀ (m : (ℓ : Loc Cert.NormFIdeal.nD Cert.NormFIdeal.τ Cert.NormFIdeal.sig) → Buf (Elt Ideal) ℓ) (g : Dev Cert.NormFIdeal.nD → PrngReg), Pre_NormFIdeal m →
    θ_run (Cert.NormFIdeal.defs (F := Ideal)) (onTc (τ := Cert.NormFIdeal.τ) (Cert.NormFIdeal.main (F := Ideal))) ⟨m, fun _ => 0, g⟩ (fun r => (∀ c : Dev Cert.NormFIdeal.nD,
      r.2.mem ((c.tc : Thread Cert.NormFIdeal.nD Cert.NormFIdeal.τ).loc Cert.NormFIdeal.main_arg0) = m ((c.tc : Thread Cert.NormFIdeal.nD Cert.NormFIdeal.τ).loc Cert.NormFIdeal.main_arg0)
      ∧ r.2.mem ((c.tc : Thread Cert.NormFIdeal.nD Cert.NormFIdeal.τ).loc Cert.NormFIdeal.main_arg1) = m ((c.tc : Thread Cert.NormFIdeal.nD Cert.NormFIdeal.τ).loc Cert.NormFIdeal.main_arg1)
      ∧ r.2.mem ((c.tc : Thread Cert.NormFIdeal.nD Cert.NormFIdeal.τ).loc Cert.NormFIdeal.main_arg2) = m ((c.tc : Thread Cert.NormFIdeal.nD Cert.NormFIdeal.τ).loc Cert.NormFIdeal.main_arg2))
      ∧ r.2.sem = fun _ => 0)

def quiescent_NormFRefIdeal [hNormFRefIdeal : Cert.NormFRefIdeal.Facts] : Prop :=
  ∀ (m : (ℓ : Loc Cert.NormFRefIdeal.nD Cert.NormFRefIdeal.τ Cert.NormFRefIdeal.sig) → Buf (Elt Ideal) ℓ) (g : Dev Cert.NormFRefIdeal.nD → PrngReg), Pre_NormFRefIdeal m →
    θ_run (Cert.NormFRefIdeal.defs (F := Ideal)) (onTc (τ := Cert.NormFRefIdeal.τ) (Cert.NormFRefIdeal.main (F := Ideal))) ⟨m, fun _ => 0, g⟩ (fun r => (∀ c : Dev Cert.NormFRefIdeal.nD,
      r.2.mem ((c.tc : Thread Cert.NormFRefIdeal.nD Cert.NormFRefIdeal.τ).loc Cert.NormFRefIdeal.main_arg0) = m ((c.tc : Thread Cert.NormFRefIdeal.nD Cert.NormFRefIdeal.τ).loc Cert.NormFRefIdeal.main_arg0)
      ∧ r.2.mem ((c.tc : Thread Cert.NormFRefIdeal.nD Cert.NormFRefIdeal.τ).loc Cert.NormFRefIdeal.main_arg1) = m ((c.tc : Thread Cert.NormFRefIdeal.nD Cert.NormFRefIdeal.τ).loc Cert.NormFRefIdeal.main_arg1)
      ∧ r.2.mem ((c.tc : Thread Cert.NormFRefIdeal.nD Cert.NormFRefIdeal.τ).loc Cert.NormFRefIdeal.main_arg2) = m ((c.tc : Thread Cert.NormFRefIdeal.nD Cert.NormFRefIdeal.τ).loc Cert.NormFRefIdeal.main_arg2))
      ∧ r.2.sem = fun _ => 0)

def quiescent_UpX [hUpX : Cert.UpX.Facts] : Prop :=
  ∀ (m : (ℓ : Loc Cert.UpX.nD Cert.UpX.τ Cert.UpX.sig) → Buf (Elt Bits) ℓ) (g : Dev Cert.UpX.nD → PrngReg), Pre_UpX m →
    θ_run (Cert.UpX.defs (F := Bits)) (onTc (τ := Cert.UpX.τ) (Cert.UpX.main (F := Bits))) ⟨m, fun _ => 0, g⟩ (fun r => (∀ c : Dev Cert.UpX.nD,
      r.2.mem ((c.tc : Thread Cert.UpX.nD Cert.UpX.τ).loc Cert.UpX.main_arg0) = m ((c.tc : Thread Cert.UpX.nD Cert.UpX.τ).loc Cert.UpX.main_arg0)
      ∧ r.2.mem ((c.tc : Thread Cert.UpX.nD Cert.UpX.τ).loc Cert.UpX.main_arg1) = m ((c.tc : Thread Cert.UpX.nD Cert.UpX.τ).loc Cert.UpX.main_arg1))
      ∧ r.2.sem = fun _ => 0)

def quiescent_UpXIdeal [hUpXIdeal : Cert.UpXIdeal.Facts] : Prop :=
  ∀ (m : (ℓ : Loc Cert.UpXIdeal.nD Cert.UpXIdeal.τ Cert.UpXIdeal.sig) → Buf (Elt Ideal) ℓ) (g : Dev Cert.UpXIdeal.nD → PrngReg), Pre_UpXIdeal m →
    θ_run (Cert.UpXIdeal.defs (F := Ideal)) (onTc (τ := Cert.UpXIdeal.τ) (Cert.UpXIdeal.main (F := Ideal))) ⟨m, fun _ => 0, g⟩ (fun r => (∀ c : Dev Cert.UpXIdeal.nD,
      r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
      ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1))
      ∧ r.2.sem = fun _ => 0)

def quiescent_UpXRefIdeal [hUpXRefIdeal : Cert.UpXRefIdeal.Facts] : Prop :=
  ∀ (m : (ℓ : Loc Cert.UpXRefIdeal.nD Cert.UpXRefIdeal.τ Cert.UpXRefIdeal.sig) → Buf (Elt Ideal) ℓ) (g : Dev Cert.UpXRefIdeal.nD → PrngReg), Pre_UpXRefIdeal m →
    θ_run (Cert.UpXRefIdeal.defs (F := Ideal)) (onTc (τ := Cert.UpXRefIdeal.τ) (Cert.UpXRefIdeal.main (F := Ideal))) ⟨m, fun _ => 0, g⟩ (fun r => (∀ c : Dev Cert.UpXRefIdeal.nD,
      r.2.mem ((c.tc : Thread Cert.UpXRefIdeal.nD Cert.UpXRefIdeal.τ).loc Cert.UpXRefIdeal.main_arg0) = m ((c.tc : Thread Cert.UpXRefIdeal.nD Cert.UpXRefIdeal.τ).loc Cert.UpXRefIdeal.main_arg0)
      ∧ r.2.mem ((c.tc : Thread Cert.UpXRefIdeal.nD Cert.UpXRefIdeal.τ).loc Cert.UpXRefIdeal.main_arg1) = m ((c.tc : Thread Cert.UpXRefIdeal.nD Cert.UpXRefIdeal.τ).loc Cert.UpXRefIdeal.main_arg1))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ r.2.sem = fun _ => 0)

def quiescent_UpWRefIdeal [hUpWRefIdeal : Cert.UpWRefIdeal.Facts] : Prop :=
  ∀ (m : (ℓ : Loc Cert.UpWRefIdeal.nD Cert.UpWRefIdeal.τ Cert.UpWRefIdeal.sig) → Buf (Elt Ideal) ℓ) (g : Dev Cert.UpWRefIdeal.nD → PrngReg), Pre_UpWRefIdeal m →
    θ_run (Cert.UpWRefIdeal.defs (F := Ideal)) (onTc (τ := Cert.UpWRefIdeal.τ) (Cert.UpWRefIdeal.main (F := Ideal))) ⟨m, fun _ => 0, g⟩ (fun r => (∀ c : Dev Cert.UpWRefIdeal.nD,
      r.2.mem ((c.tc : Thread Cert.UpWRefIdeal.nD Cert.UpWRefIdeal.τ).loc Cert.UpWRefIdeal.main_arg0) = m ((c.tc : Thread Cert.UpWRefIdeal.nD Cert.UpWRefIdeal.τ).loc Cert.UpWRefIdeal.main_arg0)
      ∧ r.2.mem ((c.tc : Thread Cert.UpWRefIdeal.nD Cert.UpWRefIdeal.τ).loc Cert.UpWRefIdeal.main_arg1) = m ((c.tc : Thread Cert.UpWRefIdeal.nD Cert.UpWRefIdeal.τ).loc Cert.UpWRefIdeal.main_arg1))
      ∧ r.2.sem = fun _ => 0)

def quiescent_DownX [hDownX : Cert.DownX.Facts] : Prop :=
  ∀ (m : (ℓ : Loc Cert.DownX.nD Cert.DownX.τ Cert.DownX.sig) → Buf (Elt Bits) ℓ) (g : Dev Cert.DownX.nD → PrngReg), Pre_DownX m →
    θ_run (Cert.DownX.defs (F := Bits)) (onTc (τ := Cert.DownX.τ) (Cert.DownX.main (F := Bits))) ⟨m, fun _ => 0, g⟩ (fun r => (∀ c : Dev Cert.DownX.nD,
      r.2.mem ((c.tc : Thread Cert.DownX.nD Cert.DownX.τ).loc Cert.DownX.main_arg0) = m ((c.tc : Thread Cert.DownX.nD Cert.DownX.τ).loc Cert.DownX.main_arg0)
      ∧ r.2.mem ((c.tc : Thread Cert.DownX.nD Cert.DownX.τ).loc Cert.DownX.main_arg1) = m ((c.tc : Thread Cert.DownX.nD Cert.DownX.τ).loc Cert.DownX.main_arg1))
      ∧ r.2.sem = fun _ => 0)

def quiescent_DownXIdeal [hDownXIdeal : Cert.DownXIdeal.Facts] : Prop :=
  ∀ (m : (ℓ : Loc Cert.DownXIdeal.nD Cert.DownXIdeal.τ Cert.DownXIdeal.sig) → Buf (Elt Ideal) ℓ) (g : Dev Cert.DownXIdeal.nD → PrngReg), Pre_DownXIdeal m →
    θ_run (Cert.DownXIdeal.defs (F := Ideal)) (onTc (τ := Cert.DownXIdeal.τ) (Cert.DownXIdeal.main (F := Ideal))) ⟨m, fun _ => 0, g⟩ (fun r => (∀ c : Dev Cert.DownXIdeal.nD,
      r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
      ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1))
      ∧ r.2.sem = fun _ => 0)

def quiescent_DownXRefIdeal [hDownXRefIdeal : Cert.DownXRefIdeal.Facts] : Prop :=
  ∀ (m : (ℓ : Loc Cert.DownXRefIdeal.nD Cert.DownXRefIdeal.τ Cert.DownXRefIdeal.sig) → Buf (Elt Ideal) ℓ) (g : Dev Cert.DownXRefIdeal.nD → PrngReg), Pre_DownXRefIdeal m →
    θ_run (Cert.DownXRefIdeal.defs (F := Ideal)) (onTc (τ := Cert.DownXRefIdeal.τ) (Cert.DownXRefIdeal.main (F := Ideal))) ⟨m, fun _ => 0, g⟩ (fun r => (∀ c : Dev Cert.DownXRefIdeal.nD,
      r.2.mem ((c.tc : Thread Cert.DownXRefIdeal.nD Cert.DownXRefIdeal.τ).loc Cert.DownXRefIdeal.main_arg0) = m ((c.tc : Thread Cert.DownXRefIdeal.nD Cert.DownXRefIdeal.τ).loc Cert.DownXRefIdeal.main_arg0)
      ∧ r.2.mem ((c.tc : Thread Cert.DownXRefIdeal.nD Cert.DownXRefIdeal.τ).loc Cert.DownXRefIdeal.main_arg1) = m ((c.tc : Thread Cert.DownXRefIdeal.nD Cert.DownXRefIdeal.τ).loc Cert.DownXRefIdeal.main_arg1))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_DownWRefIdeal [hDownWRefIdeal : Cert.DownWRefIdeal.Facts] : Prop :=
  ∀ (m : (ℓ : Loc Cert.DownWRefIdeal.nD Cert.DownWRefIdeal.τ Cert.DownWRefIdeal.sig) → Buf (Elt Ideal) ℓ) (g : Dev Cert.DownWRefIdeal.nD → PrngReg), Pre_DownWRefIdeal m →
    θ_run (Cert.DownWRefIdeal.defs (F := Ideal)) (onTc (τ := Cert.DownWRefIdeal.τ) (Cert.DownWRefIdeal.main (F := Ideal))) ⟨m, fun _ => 0, g⟩ (fun r => (∀ c : Dev Cert.DownWRefIdeal.nD,
      r.2.mem ((c.tc : Thread Cert.DownWRefIdeal.nD Cert.DownWRefIdeal.τ).loc Cert.DownWRefIdeal.main_arg0) = m ((c.tc : Thread Cert.DownWRefIdeal.nD Cert.DownWRefIdeal.τ).loc Cert.DownWRefIdeal.main_arg0)
      ∧ r.2.mem ((c.tc : Thread Cert.DownWRefIdeal.nD Cert.DownWRefIdeal.τ).loc Cert.DownWRefIdeal.main_arg1) = m ((c.tc : Thread Cert.DownWRefIdeal.nD Cert.DownWRefIdeal.τ).loc Cert.DownWRefIdeal.main_arg1))
      ∧ r.2.sem = fun _ => 0)

def quiescent_In3X [hIn3X : Cert.In3X.Facts] : Prop :=
  ∀ (m : (ℓ : Loc Cert.In3X.nD Cert.In3X.τ Cert.In3X.sig) → Buf (Elt Bits) ℓ) (g : Dev Cert.In3X.nD → PrngReg), Pre_In3X m →
    θ_run (Cert.In3X.defs (F := Bits)) (onTc (τ := Cert.In3X.τ) (Cert.In3X.main (F := Bits))) ⟨m, fun _ => 0, g⟩ (fun r => (∀ c : Dev Cert.In3X.nD,
      r.2.mem ((c.tc : Thread Cert.In3X.nD Cert.In3X.τ).loc Cert.In3X.main_arg0) = m ((c.tc : Thread Cert.In3X.nD Cert.In3X.τ).loc Cert.In3X.main_arg0)
      ∧ r.2.mem ((c.tc : Thread Cert.In3X.nD Cert.In3X.τ).loc Cert.In3X.main_arg1) = m ((c.tc : Thread Cert.In3X.nD Cert.In3X.τ).loc Cert.In3X.main_arg1))
      ∧ r.2.sem = fun _ => 0)

def quiescent_In3XIdeal [hIn3XIdeal : Cert.In3XIdeal.Facts] : Prop :=
  ∀ (m : (ℓ : Loc Cert.In3XIdeal.nD Cert.In3XIdeal.τ Cert.In3XIdeal.sig) → Buf (Elt Ideal) ℓ) (g : Dev Cert.In3XIdeal.nD → PrngReg), Pre_In3XIdeal m →
    θ_run (Cert.In3XIdeal.defs (F := Ideal)) (onTc (τ := Cert.In3XIdeal.τ) (Cert.In3XIdeal.main (F := Ideal))) ⟨m, fun _ => 0, g⟩ (fun r => (∀ c : Dev Cert.In3XIdeal.nD,
      r.2.mem ((c.tc : Thread Cert.In3XIdeal.nD Cert.In3XIdeal.τ).loc Cert.In3XIdeal.main_arg0) = m ((c.tc : Thread Cert.In3XIdeal.nD Cert.In3XIdeal.τ).loc Cert.In3XIdeal.main_arg0)
      ∧ r.2.mem ((c.tc : Thread Cert.In3XIdeal.nD Cert.In3XIdeal.τ).loc Cert.In3XIdeal.main_arg1) = m ((c.tc : Thread Cert.In3XIdeal.nD Cert.In3XIdeal.τ).loc Cert.In3XIdeal.main_arg1))
      ∧ r.2.sem = fun _ => 0)

def quiescent_In3XRefIdeal [hIn3XRefIdeal : Cert.In3XRefIdeal.Facts] : Prop :=
  ∀ (m : (ℓ : Loc Cert.In3XRefIdeal.nD Cert.In3XRefIdeal.τ Cert.In3XRefIdeal.sig) → Buf (Elt Ideal) ℓ) (g : Dev Cert.In3XRefIdeal.nD → PrngReg), Pre_In3XRefIdeal m →
    θ_run (Cert.In3XRefIdeal.defs (F := Ideal)) (onTc (τ := Cert.In3XRefIdeal.τ) (Cert.In3XRefIdeal.main (F := Ideal))) ⟨m, fun _ => 0, g⟩ (fun r => (∀ c : Dev Cert.In3XRefIdeal.nD,
      r.2.mem ((c.tc : Thread Cert.In3XRefIdeal.nD Cert.In3XRefIdeal.τ).loc Cert.In3XRefIdeal.main_arg0) = m ((c.tc : Thread Cert.In3XRefIdeal.nD Cert.In3XRefIdeal.τ).loc Cert.In3XRefIdeal.main_arg0)
      ∧ r.2.mem ((c.tc : Thread Cert.In3XRefIdeal.nD Cert.In3XRefIdeal.τ).loc Cert.In3XRefIdeal.main_arg1) = m ((c.tc : Thread Cert.In3XRefIdeal.nD Cert.In3XRefIdeal.τ).loc Cert.In3XRefIdeal.main_arg1))
      ∧ r.2.sem = fun _ => 0)

def quiescent_In3W [hIn3W : Cert.In3W.Facts] : Prop :=
  ∀ (m : (ℓ : Loc Cert.In3W.nD Cert.In3W.τ Cert.In3W.sig) → Buf (Elt Bits) ℓ) (g : Dev Cert.In3W.nD → PrngReg), Pre_In3W m →
    θ_run (Cert.In3W.defs (F := Bits)) (onTc (τ := Cert.In3W.τ) (Cert.In3W.main (F := Bits))) ⟨m, fun _ => 0, g⟩ (fun r => (∀ c : Dev Cert.In3W.nD,
      r.2.mem ((c.tc : Thread Cert.In3W.nD Cert.In3W.τ).loc Cert.In3W.main_arg0) = m ((c.tc : Thread Cert.In3W.nD Cert.In3W.τ).loc Cert.In3W.main_arg0)
      ∧ r.2.mem ((c.tc : Thread Cert.In3W.nD Cert.In3W.τ).loc Cert.In3W.main_arg1) = m ((c.tc : Thread Cert.In3W.nD Cert.In3W.τ).loc Cert.In3W.main_arg1))
      ∧ r.2.sem = fun _ => 0)

def quiescent_In3WIdeal [hIn3WIdeal : Cert.In3WIdeal.Facts] : Prop :=
  ∀ (m : (ℓ : Loc Cert.In3WIdeal.nD Cert.In3WIdeal.τ Cert.In3WIdeal.sig) → Buf (Elt Ideal) ℓ) (g : Dev Cert.In3WIdeal.nD → PrngReg), Pre_In3WIdeal m →
    θ_run (Cert.In3WIdeal.defs (F := Ideal)) (onTc (τ := Cert.In3WIdeal.τ) (Cert.In3WIdeal.main (F := Ideal))) ⟨m, fun _ => 0, g⟩ (fun r => (∀ c : Dev Cert.In3WIdeal.nD,
      r.2.mem ((c.tc : Thread Cert.In3WIdeal.nD Cert.In3WIdeal.τ).loc Cert.In3WIdeal.main_arg0) = m ((c.tc : Thread Cert.In3WIdeal.nD Cert.In3WIdeal.τ).loc Cert.In3WIdeal.main_arg0)
      ∧ r.2.mem ((c.tc : Thread Cert.In3WIdeal.nD Cert.In3WIdeal.τ).loc Cert.In3WIdeal.main_arg1) = m ((c.tc : Thread Cert.In3WIdeal.nD Cert.In3WIdeal.τ).loc Cert.In3WIdeal.main_arg1))
      ∧ r.2.sem = fun _ => 0)

def quiescent_In3WRefIdeal [hIn3WRefIdeal : Cert.In3WRefIdeal.Facts] : Prop :=
  ∀ (m : (ℓ : Loc Cert.In3WRefIdeal.nD Cert.In3WRefIdeal.τ Cert.In3WRefIdeal.sig) → Buf (Elt Ideal) ℓ) (g : Dev Cert.In3WRefIdeal.nD → PrngReg), Pre_In3WRefIdeal m →
    θ_run (Cert.In3WRefIdeal.defs (F := Ideal)) (onTc (τ := Cert.In3WRefIdeal.τ) (Cert.In3WRefIdeal.main (F := Ideal))) ⟨m, fun _ => 0, g⟩ (fun r => (∀ c : Dev Cert.In3WRefIdeal.nD,
      r.2.mem ((c.tc : Thread Cert.In3WRefIdeal.nD Cert.In3WRefIdeal.τ).loc Cert.In3WRefIdeal.main_arg0) = m ((c.tc : Thread Cert.In3WRefIdeal.nD Cert.In3WRefIdeal.τ).loc Cert.In3WRefIdeal.main_arg0)
      ∧ r.2.mem ((c.tc : Thread Cert.In3WRefIdeal.nD Cert.In3WRefIdeal.τ).loc Cert.In3WRefIdeal.main_arg1) = m ((c.tc : Thread Cert.In3WRefIdeal.nD Cert.In3WRefIdeal.τ).loc Cert.In3WRefIdeal.main_arg1))
      ∧ r.2.sem = fun _ => 0)

def quiescent_OutX [hOutX : Cert.OutX.Facts] : Prop :=
  ∀ (m : (ℓ : Loc Cert.OutX.nD Cert.OutX.τ Cert.OutX.sig) → Buf (Elt Bits) ℓ) (g : Dev Cert.OutX.nD → PrngReg), Pre_OutX m →
    θ_run (Cert.OutX.defs (F := Bits)) (onTc (τ := Cert.OutX.τ) (Cert.OutX.main (F := Bits))) ⟨m, fun _ => 0, g⟩ (fun r => (∀ c : Dev Cert.OutX.nD,
      r.2.mem ((c.tc : Thread Cert.OutX.nD Cert.OutX.τ).loc Cert.OutX.main_arg0) = m ((c.tc : Thread Cert.OutX.nD Cert.OutX.τ).loc Cert.OutX.main_arg0)
      ∧ r.2.mem ((c.tc : Thread Cert.OutX.nD Cert.OutX.τ).loc Cert.OutX.main_arg1) = m ((c.tc : Thread Cert.OutX.nD Cert.OutX.τ).loc Cert.OutX.main_arg1))
      ∧ r.2.sem = fun _ => 0)

def quiescent_OutXIdeal [hOutXIdeal : Cert.OutXIdeal.Facts] : Prop :=
  ∀ (m : (ℓ : Loc Cert.OutXIdeal.nD Cert.OutXIdeal.τ Cert.OutXIdeal.sig) → Buf (Elt Ideal) ℓ) (g : Dev Cert.OutXIdeal.nD → PrngReg), Pre_OutXIdeal m →
    θ_run (Cert.OutXIdeal.defs (F := Ideal)) (onTc (τ := Cert.OutXIdeal.τ) (Cert.OutXIdeal.main (F := Ideal))) ⟨m, fun _ => 0, g⟩ (fun r => (∀ c : Dev Cert.OutXIdeal.nD,
      r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
      ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ r.2.sem = fun _ => 0)

def quiescent_OutXRefIdeal [hOutXRefIdeal : Cert.OutXRefIdeal.Facts] : Prop :=
  ∀ (m : (ℓ : Loc Cert.OutXRefIdeal.nD Cert.OutXRefIdeal.τ Cert.OutXRefIdeal.sig) → Buf (Elt Ideal) ℓ) (g : Dev Cert.OutXRefIdeal.nD → PrngReg), Pre_OutXRefIdeal m →
    θ_run (Cert.OutXRefIdeal.defs (F := Ideal)) (onTc (τ := Cert.OutXRefIdeal.τ) (Cert.OutXRefIdeal.main (F := Ideal))) ⟨m, fun _ => 0, g⟩ (fun r => (∀ c : Dev Cert.OutXRefIdeal.nD,
      r.2.mem ((c.tc : Thread Cert.OutXRefIdeal.nD Cert.OutXRefIdeal.τ).loc Cert.OutXRefIdeal.main_arg0) = m ((c.tc : Thread Cert.OutXRefIdeal.nD Cert.OutXRefIdeal.τ).loc Cert.OutXRefIdeal.main_arg0)
      ∧ r.2.mem ((c.tc : Thread Cert.OutXRefIdeal.nD Cert.OutXRefIdeal.τ).loc Cert.OutXRefIdeal.main_arg1) = m ((c.tc : Thread Cert.OutXRefIdeal.nD Cert.OutXRefIdeal.τ).loc Cert.OutXRefIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1))
      ∧ r.2.sem = fun _ => 0)

def quiescent_In2X [hIn2X : Cert.In2X.Facts] : Prop :=
  ∀ (m : (ℓ : Loc Cert.In2X.nD Cert.In2X.τ Cert.In2X.sig) → Buf (Elt Bits) ℓ) (g : Dev Cert.In2X.nD → PrngReg), Pre_In2X m →
    θ_run (Cert.In2X.defs (F := Bits)) (onTc (τ := Cert.In2X.τ) (Cert.In2X.main (F := Bits))) ⟨m, fun _ => 0, g⟩ (fun r => (∀ c : Dev Cert.In2X.nD,
      r.2.mem ((c.tc : Thread Cert.In2X.nD Cert.In2X.τ).loc Cert.In2X.main_arg0) = m ((c.tc : Thread Cert.In2X.nD Cert.In2X.τ).loc Cert.In2X.main_arg0)
      ∧ r.2.mem ((c.tc : Thread Cert.In2X.nD Cert.In2X.τ).loc Cert.In2X.main_arg1) = m ((c.tc : Thread Cert.In2X.nD Cert.In2X.τ).loc Cert.In2X.main_arg1))
      ∧ r.2.sem = fun _ => 0)

def quiescent_In2XIdeal [hIn2XIdeal : Cert.In2XIdeal.Facts] : Prop :=
  ∀ (m : (ℓ : Loc Cert.In2XIdeal.nD Cert.In2XIdeal.τ Cert.In2XIdeal.sig) → Buf (Elt Ideal) ℓ) (g : Dev Cert.In2XIdeal.nD → PrngReg), Pre_In2XIdeal m →
    θ_run (Cert.In2XIdeal.defs (F := Ideal)) (onTc (τ := Cert.In2XIdeal.τ) (Cert.In2XIdeal.main (F := Ideal))) ⟨m, fun _ => 0, g⟩ (fun r => (∀ c : Dev Cert.In2XIdeal.nD,
      r.2.mem ((c.tc : Thread Cert.In2XIdeal.nD Cert.In2XIdeal.τ).loc Cert.In2XIdeal.main_arg0) = m ((c.tc : Thread Cert.In2XIdeal.nD Cert.In2XIdeal.τ).loc Cert.In2XIdeal.main_arg0)
      ∧ r.2.mem ((c.tc : Thread Cert.In2XIdeal.nD Cert.In2XIdeal.τ).loc Cert.In2XIdeal.main_arg1) = m ((c.tc : Thread Cert.In2XIdeal.nD Cert.In2XIdeal.τ).loc Cert.In2XIdeal.main_arg1))
      ∧ r.2.sem = fun _ => 0)

def quiescent_In2XRefIdeal [hIn2XRefIdeal : Cert.In2XRefIdeal.Facts] : Prop :=
  ∀ (m : (ℓ : Loc Cert.In2XRefIdeal.nD Cert.In2XRefIdeal.τ Cert.In2XRefIdeal.sig) → Buf (Elt Ideal) ℓ) (g : Dev Cert.In2XRefIdeal.nD → PrngReg), Pre_In2XRefIdeal m →
    θ_run (Cert.In2XRefIdeal.defs (F := Ideal)) (onTc (τ := Cert.In2XRefIdeal.τ) (Cert.In2XRefIdeal.main (F := Ideal))) ⟨m, fun _ => 0, g⟩ (fun r => (∀ c : Dev Cert.In2XRefIdeal.nD,
      r.2.mem ((c.tc : Thread Cert.In2XRefIdeal.nD Cert.In2XRefIdeal.τ).loc Cert.In2XRefIdeal.main_arg0) = m ((c.tc : Thread Cert.In2XRefIdeal.nD Cert.In2XRefIdeal.τ).loc Cert.In2XRefIdeal.main_arg0)
      ∧ r.2.mem ((c.tc : Thread Cert.In2XRefIdeal.nD Cert.In2XRefIdeal.τ).loc Cert.In2XRefIdeal.main_arg1) = m ((c.tc : Thread Cert.In2XRefIdeal.nD Cert.In2XRefIdeal.τ).loc Cert.In2XRefIdeal.main_arg1))
      ∧ r.2.sem = fun _ => 0)

def quiescent_In2W [hIn2W : Cert.In2W.Facts] : Prop :=
  ∀ (m : (ℓ : Loc Cert.In2W.nD Cert.In2W.τ Cert.In2W.sig) → Buf (Elt Bits) ℓ) (g : Dev Cert.In2W.nD → PrngReg), Pre_In2W m →
    θ_run (Cert.In2W.defs (F := Bits)) (onTc (τ := Cert.In2W.τ) (Cert.In2W.main (F := Bits))) ⟨m, fun _ => 0, g⟩ (fun r => (∀ c : Dev Cert.In2W.nD,
      r.2.mem ((c.tc : Thread Cert.In2W.nD Cert.In2W.τ).loc Cert.In2W.main_arg0) = m ((c.tc : Thread Cert.In2W.nD Cert.In2W.τ).loc Cert.In2W.main_arg0)
      ∧ r.2.mem ((c.tc : Thread Cert.In2W.nD Cert.In2W.τ).loc Cert.In2W.main_arg1) = m ((c.tc : Thread Cert.In2W.nD Cert.In2W.τ).loc Cert.In2W.main_arg1))
      ∧ r.2.sem = fun _ => 0)

def quiescent_In2WIdeal [hIn2WIdeal : Cert.In2WIdeal.Facts] : Prop :=
  ∀ (m : (ℓ : Loc Cert.In2WIdeal.nD Cert.In2WIdeal.τ Cert.In2WIdeal.sig) → Buf (Elt Ideal) ℓ) (g : Dev Cert.In2WIdeal.nD → PrngReg), Pre_In2WIdeal m →
    θ_run (Cert.In2WIdeal.defs (F := Ideal)) (onTc (τ := Cert.In2WIdeal.τ) (Cert.In2WIdeal.main (F := Ideal))) ⟨m, fun _ => 0, g⟩ (fun r => (∀ c : Dev Cert.In2WIdeal.nD,
      r.2.mem ((c.tc : Thread Cert.In2WIdeal.nD Cert.In2WIdeal.τ).loc Cert.In2WIdeal.main_arg0) = m ((c.tc : Thread Cert.In2WIdeal.nD Cert.In2WIdeal.τ).loc Cert.In2WIdeal.main_arg0)
      ∧ r.2.mem ((c.tc : Thread Cert.In2WIdeal.nD Cert.In2WIdeal.τ).loc Cert.In2WIdeal.main_arg1) = m ((c.tc : Thread Cert.In2WIdeal.nD Cert.In2WIdeal.τ).loc Cert.In2WIdeal.main_arg1))
      ∧ r.2.sem = fun _ => 0)

def quiescent_In2WRefIdeal [hIn2WRefIdeal : Cert.In2WRefIdeal.Facts] : Prop :=
  ∀ (m : (ℓ : Loc Cert.In2WRefIdeal.nD Cert.In2WRefIdeal.τ Cert.In2WRefIdeal.sig) → Buf (Elt Ideal) ℓ) (g : Dev Cert.In2WRefIdeal.nD → PrngReg), Pre_In2WRefIdeal m →
    θ_run (Cert.In2WRefIdeal.defs (F := Ideal)) (onTc (τ := Cert.In2WRefIdeal.τ) (Cert.In2WRefIdeal.main (F := Ideal))) ⟨m, fun _ => 0, g⟩ (fun r => (∀ c : Dev Cert.In2WRefIdeal.nD,
      r.2.mem ((c.tc : Thread Cert.In2WRefIdeal.nD Cert.In2WRefIdeal.τ).loc Cert.In2WRefIdeal.main_arg0) = m ((c.tc : Thread Cert.In2WRefIdeal.nD Cert.In2WRefIdeal.τ).loc Cert.In2WRefIdeal.main_arg0)
      ∧ r.2.mem ((c.tc : Thread Cert.In2WRefIdeal.nD Cert.In2WRefIdeal.τ).loc Cert.In2WRefIdeal.main_arg1) = m ((c.tc : Thread Cert.In2WRefIdeal.nD Cert.In2WRefIdeal.τ).loc Cert.In2WRefIdeal.main_arg1))
      ∧ r.2.sem = fun _ => 0)

def quiescent_In1X [hIn1X : Cert.In1X.Facts] : Prop :=
  ∀ (m : (ℓ : Loc Cert.In1X.nD Cert.In1X.τ Cert.In1X.sig) → Buf (Elt Bits) ℓ) (g : Dev Cert.In1X.nD → PrngReg), Pre_In1X m →
    θ_run (Cert.In1X.defs (F := Bits)) (onTc (τ := Cert.In1X.τ) (Cert.In1X.main (F := Bits))) ⟨m, fun _ => 0, g⟩ (fun r => (∀ c : Dev Cert.In1X.nD,
      r.2.mem ((c.tc : Thread Cert.In1X.nD Cert.In1X.τ).loc Cert.In1X.main_arg0) = m ((c.tc : Thread Cert.In1X.nD Cert.In1X.τ).loc Cert.In1X.main_arg0)
      ∧ r.2.mem ((c.tc : Thread Cert.In1X.nD Cert.In1X.τ).loc Cert.In1X.main_arg1) = m ((c.tc : Thread Cert.In1X.nD Cert.In1X.τ).loc Cert.In1X.main_arg1))
      ∧ r.2.sem = fun _ => 0)

def quiescent_In1XIdeal [hIn1XIdeal : Cert.In1XIdeal.Facts] : Prop :=
  ∀ (m : (ℓ : Loc Cert.In1XIdeal.nD Cert.In1XIdeal.τ Cert.In1XIdeal.sig) → Buf (Elt Ideal) ℓ) (g : Dev Cert.In1XIdeal.nD → PrngReg), Pre_In1XIdeal m →
    θ_run (Cert.In1XIdeal.defs (F := Ideal)) (onTc (τ := Cert.In1XIdeal.τ) (Cert.In1XIdeal.main (F := Ideal))) ⟨m, fun _ => 0, g⟩ (fun r => (∀ c : Dev Cert.In1XIdeal.nD,
      r.2.mem ((c.tc : Thread Cert.In1XIdeal.nD Cert.In1XIdeal.τ).loc Cert.In1XIdeal.main_arg0) = m ((c.tc : Thread Cert.In1XIdeal.nD Cert.In1XIdeal.τ).loc Cert.In1XIdeal.main_arg0)
      ∧ r.2.mem ((c.tc : Thread Cert.In1XIdeal.nD Cert.In1XIdeal.τ).loc Cert.In1XIdeal.main_arg1) = m ((c.tc : Thread Cert.In1XIdeal.nD Cert.In1XIdeal.τ).loc Cert.In1XIdeal.main_arg1))
      ∧ r.2.sem = fun _ => 0)

def quiescent_In1XRefIdeal [hIn1XRefIdeal : Cert.In1XRefIdeal.Facts] : Prop :=
  ∀ (m : (ℓ : Loc Cert.In1XRefIdeal.nD Cert.In1XRefIdeal.τ Cert.In1XRefIdeal.sig) → Buf (Elt Ideal) ℓ) (g : Dev Cert.In1XRefIdeal.nD → PrngReg), Pre_In1XRefIdeal m →
    θ_run (Cert.In1XRefIdeal.defs (F := Ideal)) (onTc (τ := Cert.In1XRefIdeal.τ) (Cert.In1XRefIdeal.main (F := Ideal))) ⟨m, fun _ => 0, g⟩ (fun r => (∀ c : Dev Cert.In1XRefIdeal.nD,
      r.2.mem ((c.tc : Thread Cert.In1XRefIdeal.nD Cert.In1XRefIdeal.τ).loc Cert.In1XRefIdeal.main_arg0) = m ((c.tc : Thread Cert.In1XRefIdeal.nD Cert.In1XRefIdeal.τ).loc Cert.In1XRefIdeal.main_arg0)
      ∧ r.2.mem ((c.tc : Thread Cert.In1XRefIdeal.nD Cert.In1XRefIdeal.τ).loc Cert.In1XRefIdeal.main_arg1) = m ((c.tc : Thread Cert.In1XRefIdeal.nD Cert.In1XRefIdeal.τ).loc Cert.In1XRefIdeal.main_arg1))
      ∧ r.2.sem = fun _ => 0)

def quiescent_In1W [hIn1W : Cert.In1W.Facts] : Prop :=
  ∀ (m : (ℓ : Loc Cert.In1W.nD Cert.In1W.τ Cert.In1W.sig) → Buf (Elt Bits) ℓ) (g : Dev Cert.In1W.nD → PrngReg), Pre_In1W m →
    θ_run (Cert.In1W.defs (F := Bits)) (onTc (τ := Cert.In1W.τ) (Cert.In1W.main (F := Bits))) ⟨m, fun _ => 0, g⟩ (fun r => (∀ c : Dev Cert.In1W.nD,
      r.2.mem ((c.tc : Thread Cert.In1W.nD Cert.In1W.τ).loc Cert.In1W.main_arg0) = m ((c.tc : Thread Cert.In1W.nD Cert.In1W.τ).loc Cert.In1W.main_arg0)
      ∧ r.2.mem ((c.tc : Thread Cert.In1W.nD Cert.In1W.τ).loc Cert.In1W.main_arg1) = m ((c.tc : Thread Cert.In1W.nD Cert.In1W.τ).loc Cert.In1W.main_arg1))
      ∧ r.2.sem = fun _ => 0)

def quiescent_In1WIdeal [hIn1WIdeal : Cert.In1WIdeal.Facts] : Prop :=
  ∀ (m : (ℓ : Loc Cert.In1WIdeal.nD Cert.In1WIdeal.τ Cert.In1WIdeal.sig) → Buf (Elt Ideal) ℓ) (g : Dev Cert.In1WIdeal.nD → PrngReg), Pre_In1WIdeal m →
    θ_run (Cert.In1WIdeal.defs (F := Ideal)) (onTc (τ := Cert.In1WIdeal.τ) (Cert.In1WIdeal.main (F := Ideal))) ⟨m, fun _ => 0, g⟩ (fun r => (∀ c : Dev Cert.In1WIdeal.nD,
      r.2.mem ((c.tc : Thread Cert.In1WIdeal.nD Cert.In1WIdeal.τ).loc Cert.In1WIdeal.main_arg0) = m ((c.tc : Thread Cert.In1WIdeal.nD Cert.In1WIdeal.τ).loc Cert.In1WIdeal.main_arg0)
      ∧ r.2.mem ((c.tc : Thread Cert.In1WIdeal.nD Cert.In1WIdeal.τ).loc Cert.In1WIdeal.main_arg1) = m ((c.tc : Thread Cert.In1WIdeal.nD Cert.In1WIdeal.τ).loc Cert.In1WIdeal.main_arg1))
      ∧ r.2.sem = fun _ => 0)

def quiescent_In1WRefIdeal [hIn1WRefIdeal : Cert.In1WRefIdeal.Facts] : Prop :=
  ∀ (m : (ℓ : Loc Cert.In1WRefIdeal.nD Cert.In1WRefIdeal.τ Cert.In1WRefIdeal.sig) → Buf (Elt Ideal) ℓ) (g : Dev Cert.In1WRefIdeal.nD → PrngReg), Pre_In1WRefIdeal m →
    θ_run (Cert.In1WRefIdeal.defs (F := Ideal)) (onTc (τ := Cert.In1WRefIdeal.τ) (Cert.In1WRefIdeal.main (F := Ideal))) ⟨m, fun _ => 0, g⟩ (fun r => (∀ c : Dev Cert.In1WRefIdeal.nD,
      r.2.mem ((c.tc : Thread Cert.In1WRefIdeal.nD Cert.In1WRefIdeal.τ).loc Cert.In1WRefIdeal.main_arg0) = m ((c.tc : Thread Cert.In1WRefIdeal.nD Cert.In1WRefIdeal.τ).loc Cert.In1WRefIdeal.main_arg0)
      ∧ r.2.mem ((c.tc : Thread Cert.In1WRefIdeal.nD Cert.In1WRefIdeal.τ).loc Cert.In1WRefIdeal.main_arg1) = m ((c.tc : Thread Cert.In1WRefIdeal.nD Cert.In1WRefIdeal.τ).loc Cert.In1WRefIdeal.main_arg1))
      ∧ r.2.sem = fun _ => 0)

def quiescent_UpF [hUpF : Cert.UpF.Facts] : Prop :=
  ∀ (m : (ℓ : Loc Cert.UpF.nD Cert.UpF.τ Cert.UpF.sig) → Buf (Elt Bits) ℓ) (g : Dev Cert.UpF.nD → PrngReg), Pre_UpF m →
    θ_run (Cert.UpF.defs (F := Bits)) (onTc (τ := Cert.UpF.τ) (Cert.UpF.main (F := Bits))) ⟨m, fun _ => 0, g⟩ (fun r => (∀ c : Dev Cert.UpF.nD,
      r.2.mem ((c.tc : Thread Cert.UpF.nD Cert.UpF.τ).loc Cert.UpF.main_arg0) = m ((c.tc : Thread Cert.UpF.nD Cert.UpF.τ).loc Cert.UpF.main_arg0)
      ∧ r.2.mem ((c.tc : Thread Cert.UpF.nD Cert.UpF.τ).loc Cert.UpF.main_arg1) = m ((c.tc : Thread Cert.UpF.nD Cert.UpF.τ).loc Cert.UpF.main_arg1))
      ∧ r.2.sem = fun _ => 0)

def quiescent_UpFIdeal [hUpFIdeal : Cert.UpFIdeal.Facts] : Prop :=
  ∀ (m : (ℓ : Loc Cert.UpFIdeal.nD Cert.UpFIdeal.τ Cert.UpFIdeal.sig) → Buf (Elt Ideal) ℓ) (g : Dev Cert.UpFIdeal.nD → PrngReg), Pre_UpFIdeal m →
    θ_run (Cert.UpFIdeal.defs (F := Ideal)) (onTc (τ := Cert.UpFIdeal.τ) (Cert.UpFIdeal.main (F := Ideal))) ⟨m, fun _ => 0, g⟩ (fun r => (∀ c : Dev Cert.UpFIdeal.nD,
      r.2.mem ((c.tc : Thread Cert.UpFIdeal.nD Cert.UpFIdeal.τ).loc Cert.UpFIdeal.main_arg0) = m ((c.tc : Thread Cert.UpFIdeal.nD Cert.UpFIdeal.τ).loc Cert.UpFIdeal.main_arg0)
      ∧ r.2.mem ((c.tc : Thread Cert.UpFIdeal.nD Cert.UpFIdeal.τ).loc Cert.UpFIdeal.main_arg1) = m ((c.tc : Thread Cert.UpFIdeal.nD Cert.UpFIdeal.τ).loc Cert.UpFIdeal.main_arg1))
      ∧ r.2.sem = fun _ => 0)

def quiescent_UpFRefIdeal [hUpFRefIdeal : Cert.UpFRefIdeal.Facts] : Prop :=
  ∀ (m : (ℓ : Loc Cert.UpFRefIdeal.nD Cert.UpFRefIdeal.τ Cert.UpFRefIdeal.sig) → Buf (Elt Ideal) ℓ) (g : Dev Cert.UpFRefIdeal.nD → PrngReg), Pre_UpFRefIdeal m →
    θ_run (Cert.UpFRefIdeal.defs (F := Ideal)) (onTc (τ := Cert.UpFRefIdeal.τ) (Cert.UpFRefIdeal.main (F := Ideal))) ⟨m, fun _ => 0, g⟩ (fun r => (∀ c : Dev Cert.UpFRefIdeal.nD,
      r.2.mem ((c.tc : Thread Cert.UpFRefIdeal.nD Cert.UpFRefIdeal.τ).loc Cert.UpFRefIdeal.main_arg0) = m ((c.tc : Thread Cert.UpFRefIdeal.nD Cert.UpFRefIdeal.τ).loc Cert.UpFRefIdeal.main_arg0)
      ∧ r.2.mem ((c.tc : Thread Cert.UpFRefIdeal.nD Cert.UpFRefIdeal.τ).loc Cert.UpFRefIdeal.main_arg1) = m ((c.tc : Thread Cert.UpFRefIdeal.nD Cert.UpFRefIdeal.τ).loc Cert.UpFRefIdeal.main_arg1))
      ∧ r.2.sem = fun _ => 0)

def quiescent_In3F [hIn3F : Cert.In3F.Facts] : Prop :=
  ∀ (m : (ℓ : Loc Cert.In3F.nD Cert.In3F.τ Cert.In3F.sig) → Buf (Elt Bits) ℓ) (g : Dev Cert.In3F.nD → PrngReg), Pre_In3F m →
    θ_run (Cert.In3F.defs (F := Bits)) (onTc (τ := Cert.In3F.τ) (Cert.In3F.main (F := Bits))) ⟨m, fun _ => 0, g⟩ (fun r => (∀ c : Dev Cert.In3F.nD,
      r.2.mem ((c.tc : Thread Cert.In3F.nD Cert.In3F.τ).loc Cert.In3F.main_arg0) = m ((c.tc : Thread Cert.In3F.nD Cert.In3F.τ).loc Cert.In3F.main_arg0)
      ∧ r.2.mem ((c.tc : Thread Cert.In3F.nD Cert.In3F.τ).loc Cert.In3F.main_arg1) = m ((c.tc : Thread Cert.In3F.nD Cert.In3F.τ).loc Cert.In3F.main_arg1))
      ∧ r.2.sem = fun _ => 0)

def quiescent_In3FIdeal [hIn3FIdeal : Cert.In3FIdeal.Facts] : Prop :=
  ∀ (m : (ℓ : Loc Cert.In3FIdeal.nD Cert.In3FIdeal.τ Cert.In3FIdeal.sig) → Buf (Elt Ideal) ℓ) (g : Dev Cert.In3FIdeal.nD → PrngReg), Pre_In3FIdeal m →
    θ_run (Cert.In3FIdeal.defs (F := Ideal)) (onTc (τ := Cert.In3FIdeal.τ) (Cert.In3FIdeal.main (F := Ideal))) ⟨m, fun _ => 0, g⟩ (fun r => (∀ c : Dev Cert.In3FIdeal.nD,
      r.2.mem ((c.tc : Thread Cert.In3FIdeal.nD Cert.In3FIdeal.τ).loc Cert.In3FIdeal.main_arg0) = m ((c.tc : Thread Cert.In3FIdeal.nD Cert.In3FIdeal.τ).loc Cert.In3FIdeal.main_arg0)
      ∧ r.2.mem ((c.tc : Thread Cert.In3FIdeal.nD Cert.In3FIdeal.τ).loc Cert.In3FIdeal.main_arg1) = m ((c.tc : Thread Cert.In3FIdeal.nD Cert.In3FIdeal.τ).loc Cert.In3FIdeal.main_arg1))
      ∧ r.2.sem = fun _ => 0)

def quiescent_In3FRefIdeal [hIn3FRefIdeal : Cert.In3FRefIdeal.Facts] : Prop :=
  ∀ (m : (ℓ : Loc Cert.In3FRefIdeal.nD Cert.In3FRefIdeal.τ Cert.In3FRefIdeal.sig) → Buf (Elt Ideal) ℓ) (g : Dev Cert.In3FRefIdeal.nD → PrngReg), Pre_In3FRefIdeal m →
    θ_run (Cert.In3FRefIdeal.defs (F := Ideal)) (onTc (τ := Cert.In3FRefIdeal.τ) (Cert.In3FRefIdeal.main (F := Ideal))) ⟨m, fun _ => 0, g⟩ (fun r => (∀ c : Dev Cert.In3FRefIdeal.nD,
      r.2.mem ((c.tc : Thread Cert.In3FRefIdeal.nD Cert.In3FRefIdeal.τ).loc Cert.In3FRefIdeal.main_arg0) = m ((c.tc : Thread Cert.In3FRefIdeal.nD Cert.In3FRefIdeal.τ).loc Cert.In3FRefIdeal.main_arg0)
      ∧ r.2.mem ((c.tc : Thread Cert.In3FRefIdeal.nD Cert.In3FRefIdeal.τ).loc Cert.In3FRefIdeal.main_arg1) = m ((c.tc : Thread Cert.In3FRefIdeal.nD Cert.In3FRefIdeal.τ).loc Cert.In3FRefIdeal.main_arg1))
      ∧ r.2.sem = fun _ => 0)

def quiescent_In2F [hIn2F : Cert.In2F.Facts] : Prop :=
  ∀ (m : (ℓ : Loc Cert.In2F.nD Cert.In2F.τ Cert.In2F.sig) → Buf (Elt Bits) ℓ) (g : Dev Cert.In2F.nD → PrngReg), Pre_In2F m →
    θ_run (Cert.In2F.defs (F := Bits)) (onTc (τ := Cert.In2F.τ) (Cert.In2F.main (F := Bits))) ⟨m, fun _ => 0, g⟩ (fun r => (∀ c : Dev Cert.In2F.nD,
      r.2.mem ((c.tc : Thread Cert.In2F.nD Cert.In2F.τ).loc Cert.In2F.main_arg0) = m ((c.tc : Thread Cert.In2F.nD Cert.In2F.τ).loc Cert.In2F.main_arg0)
      ∧ r.2.mem ((c.tc : Thread Cert.In2F.nD Cert.In2F.τ).loc Cert.In2F.main_arg1) = m ((c.tc : Thread Cert.In2F.nD Cert.In2F.τ).loc Cert.In2F.main_arg1))
      ∧ r.2.sem = fun _ => 0)

def quiescent_In2FIdeal [hIn2FIdeal : Cert.In2FIdeal.Facts] : Prop :=
  ∀ (m : (ℓ : Loc Cert.In2FIdeal.nD Cert.In2FIdeal.τ Cert.In2FIdeal.sig) → Buf (Elt Ideal) ℓ) (g : Dev Cert.In2FIdeal.nD → PrngReg), Pre_In2FIdeal m →
    θ_run (Cert.In2FIdeal.defs (F := Ideal)) (onTc (τ := Cert.In2FIdeal.τ) (Cert.In2FIdeal.main (F := Ideal))) ⟨m, fun _ => 0, g⟩ (fun r => (∀ c : Dev Cert.In2FIdeal.nD,
      r.2.mem ((c.tc : Thread Cert.In2FIdeal.nD Cert.In2FIdeal.τ).loc Cert.In2FIdeal.main_arg0) = m ((c.tc : Thread Cert.In2FIdeal.nD Cert.In2FIdeal.τ).loc Cert.In2FIdeal.main_arg0)
      ∧ r.2.mem ((c.tc : Thread Cert.In2FIdeal.nD Cert.In2FIdeal.τ).loc Cert.In2FIdeal.main_arg1) = m ((c.tc : Thread Cert.In2FIdeal.nD Cert.In2FIdeal.τ).loc Cert.In2FIdeal.main_arg1))
      ∧ r.2.sem = fun _ => 0)

def quiescent_In2FRefIdeal [hIn2FRefIdeal : Cert.In2FRefIdeal.Facts] : Prop :=
  ∀ (m : (ℓ : Loc Cert.In2FRefIdeal.nD Cert.In2FRefIdeal.τ Cert.In2FRefIdeal.sig) → Buf (Elt Ideal) ℓ) (g : Dev Cert.In2FRefIdeal.nD → PrngReg), Pre_In2FRefIdeal m →
    θ_run (Cert.In2FRefIdeal.defs (F := Ideal)) (onTc (τ := Cert.In2FRefIdeal.τ) (Cert.In2FRefIdeal.main (F := Ideal))) ⟨m, fun _ => 0, g⟩ (fun r => (∀ c : Dev Cert.In2FRefIdeal.nD,
      r.2.mem ((c.tc : Thread Cert.In2FRefIdeal.nD Cert.In2FRefIdeal.τ).loc Cert.In2FRefIdeal.main_arg0) = m ((c.tc : Thread Cert.In2FRefIdeal.nD Cert.In2FRefIdeal.τ).loc Cert.In2FRefIdeal.main_arg0)
      ∧ r.2.mem ((c.tc : Thread Cert.In2FRefIdeal.nD Cert.In2FRefIdeal.τ).loc Cert.In2FRefIdeal.main_arg1) = m ((c.tc : Thread Cert.In2FRefIdeal.nD Cert.In2FRefIdeal.τ).loc Cert.In2FRefIdeal.main_arg1))
      ∧ r.2.sem = fun _ => 0)

def preserves_Gate_GateIdeal : Prop :=
  IdealRules.named_const.Statement Cert.GateIdeal.κ "cubic" .f32 0x3D372713#32 ((8943 / 200000 : ℝ) : EReal)
  ∧ IdealRules.named_const.Statement Cert.GateIdeal.κ "cubic3" .f32 0x3E095D4F#32 ((26829 / 200000 : ℝ) : EReal)

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v3_0)) (v1 : (c : Dev Cert.GateIdeal.nD) → Buf (Elt Ideal) ((c.tc : Thread Cert.GateIdeal.nD Cert.GateIdeal.τ).loc Cert.GateIdeal.main_v3_1)) (v2 : (c : Dev Cert.GateIdeal.nD) → Buf (Elt Ideal) ((c.tc : Thread Cert.GateIdeal.nD Cert.GateIdeal.τ).loc Cert.GateIdeal.main_v3_2)) (v3 : (c : Dev Cert.GateIdeal.nD) → Buf (Elt Ideal) ((c.tc : Thread Cert.GateIdeal.nD Cert.GateIdeal.τ).loc Cert.GateIdeal.main_v3_3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v3_0) = v0 c
          ∧ r.2.mem ((c.tc : Thread Cert.GateIdeal.nD Cert.GateIdeal.τ).loc Cert.GateIdeal.main_v3_1) = v1 c
          ∧ r.2.mem ((c.tc : Thread Cert.GateIdeal.nD Cert.GateIdeal.τ).loc Cert.GateIdeal.main_v3_2) = v2 c
          ∧ r.2.mem ((c.tc : Thread Cert.GateIdeal.nD Cert.GateIdeal.τ).loc Cert.GateIdeal.main_v3_3) = v3 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v101) = v0 c
          ∧ r.2.mem ((c.tc : Thread Cert.GateRefIdeal.nD Cert.GateRefIdeal.τ).loc Cert.GateRefIdeal.main_v55) = v1 c
          ∧ r.2.mem ((c.tc : Thread Cert.GateRefIdeal.nD Cert.GateRefIdeal.τ).loc Cert.GateRefIdeal.main_v103) = v2 c
          ∧ r.2.mem ((c.tc : Thread Cert.GateRefIdeal.nD Cert.GateRefIdeal.τ).loc Cert.GateRefIdeal.main_v105) = v3 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v1_0)) (v1 : (c : Dev Cert.MergeIdeal.nD) → Buf (Elt Ideal) ((c.tc : Thread Cert.MergeIdeal.nD Cert.MergeIdeal.τ).loc Cert.MergeIdeal.main_v1_1)) (v2 : (c : Dev Cert.MergeIdeal.nD) → Buf (Elt Ideal) ((c.tc : Thread Cert.MergeIdeal.nD Cert.MergeIdeal.τ).loc Cert.MergeIdeal.main_v1_2)) (v3 : (c : Dev Cert.MergeIdeal.nD) → Buf (Elt Ideal) ((c.tc : Thread Cert.MergeIdeal.nD Cert.MergeIdeal.τ).loc Cert.MergeIdeal.main_v1_3)) (v4 : (c : Dev Cert.MergeIdeal.nD) → Buf (Elt Ideal) ((c.tc : Thread Cert.MergeIdeal.nD Cert.MergeIdeal.τ).loc Cert.MergeIdeal.main_v1_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1_0) = v0 c
          ∧ r.2.mem ((c.tc : Thread Cert.MergeIdeal.nD Cert.MergeIdeal.τ).loc Cert.MergeIdeal.main_v1_1) = v1 c
          ∧ r.2.mem ((c.tc : Thread Cert.MergeIdeal.nD Cert.MergeIdeal.τ).loc Cert.MergeIdeal.main_v1_2) = v2 c
          ∧ r.2.mem ((c.tc : Thread Cert.MergeIdeal.nD Cert.MergeIdeal.τ).loc Cert.MergeIdeal.main_v1_3) = v3 c
          ∧ r.2.mem ((c.tc : Thread Cert.MergeIdeal.nD Cert.MergeIdeal.τ).loc Cert.MergeIdeal.main_v1_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v43) = v0 c
          ∧ r.2.mem ((c.tc : Thread Cert.MergeRefIdeal.nD Cert.MergeRefIdeal.τ).loc Cert.MergeRefIdeal.main_v44) = v1 c
          ∧ r.2.mem ((c.tc : Thread Cert.MergeRefIdeal.nD Cert.MergeRefIdeal.τ).loc Cert.MergeRefIdeal.main_v45) = v2 c
          ∧ r.2.mem ((c.tc : Thread Cert.MergeRefIdeal.nD Cert.MergeRefIdeal.τ).loc Cert.MergeRefIdeal.main_v46) = v3 c
          ∧ r.2.mem ((c.tc : Thread Cert.MergeRefIdeal.nD Cert.MergeRefIdeal.τ).loc Cert.MergeRefIdeal.main_v48) = v4 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_Sconv_SconvIdeal : Prop :=
  True

def algebraic_SconvIdeal_SconvRefIdeal [hSconvIdeal : Cert.SconvIdeal.Facts] [hSconvRefIdeal : Cert.SconvRefIdeal.Facts] : Prop :=
  ∀ (m : (ℓ : Loc Cert.SconvIdeal.nD Cert.SconvIdeal.τ Cert.SconvIdeal.sig) → Buf (Elt Ideal) ℓ) (g : Dev Cert.SconvIdeal.nD → PrngReg)
    (m' : (ℓ : Loc Cert.SconvRefIdeal.nD Cert.SconvRefIdeal.τ Cert.SconvRefIdeal.sig) → Buf (Elt Ideal) ℓ) (g' : Dev Cert.SconvRefIdeal.nD → PrngReg), Pre_SconvIdeal m →
    (∀ c : Dev Cert.SconvIdeal.nD,
      m' ((c.tc : Thread Cert.SconvRefIdeal.nD Cert.SconvRefIdeal.τ).loc Cert.SconvRefIdeal.main_arg0) = m ((c.tc : Thread Cert.SconvIdeal.nD Cert.SconvIdeal.τ).loc Cert.SconvIdeal.main_arg0)
      ∧ m' ((c.tc : Thread Cert.SconvRefIdeal.nD Cert.SconvRefIdeal.τ).loc Cert.SconvRefIdeal.main_arg1) = m ((c.tc : Thread Cert.SconvIdeal.nD Cert.SconvIdeal.τ).loc Cert.SconvIdeal.main_arg1)
      ∧ m' ((c.tc : Thread Cert.SconvRefIdeal.nD Cert.SconvRefIdeal.τ).loc Cert.SconvRefIdeal.main_arg2) = m ((c.tc : Thread Cert.SconvIdeal.nD Cert.SconvIdeal.τ).loc Cert.SconvIdeal.main_arg2)) →
    ∃ (v0 : (c : Dev Cert.SconvIdeal.nD) → Buf (Elt Ideal) ((c.tc : Thread Cert.SconvIdeal.nD Cert.SconvIdeal.τ).loc Cert.SconvIdeal.main_v1_0)) (v1 : (c : Dev Cert.SconvIdeal.nD) → Buf (Elt Ideal) ((c.tc : Thread Cert.SconvIdeal.nD Cert.SconvIdeal.τ).loc Cert.SconvIdeal.main_v1_1)),
      θ_run (Cert.SconvIdeal.defs (F := Ideal)) (onTc (τ := Cert.SconvIdeal.τ) (Cert.SconvIdeal.main (F := Ideal))) ⟨m, fun _ => 0, g⟩ (fun r => ∀ c : Dev Cert.SconvIdeal.nD,
          r.2.mem ((c.tc : Thread Cert.SconvIdeal.nD Cert.SconvIdeal.τ).loc Cert.SconvIdeal.main_v1_0) = v0 c
          ∧ r.2.mem ((c.tc : Thread Cert.SconvIdeal.nD Cert.SconvIdeal.τ).loc Cert.SconvIdeal.main_v1_1) = v1 c
          ∧ r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
          ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
          ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2))
      ∧ θ_run (Cert.SconvRefIdeal.defs (F := Ideal)) (onTc (τ := Cert.SconvRefIdeal.τ) (Cert.SconvRefIdeal.main (F := Ideal))) ⟨m', fun _ => 0, g'⟩ (fun r => ∀ c : Dev Cert.SconvRefIdeal.nD,
          r.2.mem ((c.tc : Thread Cert.SconvRefIdeal.nD Cert.SconvRefIdeal.τ).loc Cert.SconvRefIdeal.main_v153) = v0 c
          ∧ r.2.mem ((c.tc : Thread Cert.SconvRefIdeal.nD Cert.SconvRefIdeal.τ).loc Cert.SconvRefIdeal.main_v154) = v1 c
          ∧ r.2.mem ((c.tc : Thread Cert.SconvRefIdeal.nD Cert.SconvRefIdeal.τ).loc Cert.SconvRefIdeal.main_arg0) = m' ((c.tc : Thread Cert.SconvRefIdeal.nD Cert.SconvRefIdeal.τ).loc Cert.SconvRefIdeal.main_arg0)
          ∧ r.2.mem ((c.tc : Thread Cert.SconvRefIdeal.nD Cert.SconvRefIdeal.τ).loc Cert.SconvRefIdeal.main_arg1) = m' ((c.tc : Thread Cert.SconvRefIdeal.nD Cert.SconvRefIdeal.τ).loc Cert.SconvRefIdeal.main_arg1)
          ∧ r.2.mem ((c.tc : Thread Cert.SconvRefIdeal.nD Cert.SconvRefIdeal.τ).loc Cert.SconvRefIdeal.main_arg2) = m' ((c.tc : Thread Cert.SconvRefIdeal.nD Cert.SconvRefIdeal.τ).loc Cert.SconvRefIdeal.main_arg2))

def preserves_Res_ResIdeal : Prop :=
  True

def algebraic_ResIdeal_ResRefIdeal [hResIdeal : Cert.ResIdeal.Facts] [hResRefIdeal : Cert.ResRefIdeal.Facts] : Prop :=
  ∀ (m : (ℓ : Loc Cert.ResIdeal.nD Cert.ResIdeal.τ Cert.ResIdeal.sig) → Buf (Elt Ideal) ℓ) (g : Dev Cert.ResIdeal.nD → PrngReg)
    (m' : (ℓ : Loc Cert.ResRefIdeal.nD Cert.ResRefIdeal.τ Cert.ResRefIdeal.sig) → Buf (Elt Ideal) ℓ) (g' : Dev Cert.ResRefIdeal.nD → PrngReg), Pre_ResIdeal m →
    (∀ c : Dev Cert.ResIdeal.nD,
      m' ((c.tc : Thread Cert.ResRefIdeal.nD Cert.ResRefIdeal.τ).loc Cert.ResRefIdeal.main_arg0) = m ((c.tc : Thread Cert.ResIdeal.nD Cert.ResIdeal.τ).loc Cert.ResIdeal.main_arg0)
      ∧ m' ((c.tc : Thread Cert.ResRefIdeal.nD Cert.ResRefIdeal.τ).loc Cert.ResRefIdeal.main_arg1) = m ((c.tc : Thread Cert.ResIdeal.nD Cert.ResIdeal.τ).loc Cert.ResIdeal.main_arg1)
      ∧ m' ((c.tc : Thread Cert.ResRefIdeal.nD Cert.ResRefIdeal.τ).loc Cert.ResRefIdeal.main_arg2) = m ((c.tc : Thread Cert.ResIdeal.nD Cert.ResIdeal.τ).loc Cert.ResIdeal.main_arg2)) →
    ∃ (v0 : (c : Dev Cert.ResIdeal.nD) → Buf (Elt Ideal) ((c.tc : Thread Cert.ResIdeal.nD Cert.ResIdeal.τ).loc Cert.ResIdeal.main_v0_0)) (v1 : (c : Dev Cert.ResIdeal.nD) → Buf (Elt Ideal) ((c.tc : Thread Cert.ResIdeal.nD Cert.ResIdeal.τ).loc Cert.ResIdeal.main_v0_1)),
      θ_run (Cert.ResIdeal.defs (F := Ideal)) (onTc (τ := Cert.ResIdeal.τ) (Cert.ResIdeal.main (F := Ideal))) ⟨m, fun _ => 0, g⟩ (fun r => ∀ c : Dev Cert.ResIdeal.nD,
          r.2.mem ((c.tc : Thread Cert.ResIdeal.nD Cert.ResIdeal.τ).loc Cert.ResIdeal.main_v0_0) = v0 c
          ∧ r.2.mem ((c.tc : Thread Cert.ResIdeal.nD Cert.ResIdeal.τ).loc Cert.ResIdeal.main_v0_1) = v1 c
          ∧ r.2.mem ((c.tc : Thread Cert.ResIdeal.nD Cert.ResIdeal.τ).loc Cert.ResIdeal.main_arg0) = m ((c.tc : Thread Cert.ResIdeal.nD Cert.ResIdeal.τ).loc Cert.ResIdeal.main_arg0)
          ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
          ∧ r.2.mem ((c.tc : Thread Cert.ResIdeal.nD Cert.ResIdeal.τ).loc Cert.ResIdeal.main_arg2) = m ((c.tc : Thread Cert.ResIdeal.nD Cert.ResIdeal.τ).loc Cert.ResIdeal.main_arg2))
      ∧ θ_run (Cert.ResRefIdeal.defs (F := Ideal)) (onTc (τ := Cert.ResRefIdeal.τ) (Cert.ResRefIdeal.main (F := Ideal))) ⟨m', fun _ => 0, g'⟩ (fun r => ∀ c : Dev Cert.ResRefIdeal.nD,
          r.2.mem ((c.tc : Thread Cert.ResRefIdeal.nD Cert.ResRefIdeal.τ).loc Cert.ResRefIdeal.main_v27) = v0 c
          ∧ r.2.mem ((c.tc : Thread Cert.ResRefIdeal.nD Cert.ResRefIdeal.τ).loc Cert.ResRefIdeal.main_v31) = v1 c
          ∧ r.2.mem ((c.tc : Thread Cert.ResRefIdeal.nD Cert.ResRefIdeal.τ).loc Cert.ResRefIdeal.main_arg0) = m' ((c.tc : Thread Cert.ResRefIdeal.nD Cert.ResRefIdeal.τ).loc Cert.ResRefIdeal.main_arg0)
          ∧ r.2.mem ((c.tc : Thread Cert.ResRefIdeal.nD Cert.ResRefIdeal.τ).loc Cert.ResRefIdeal.main_arg1) = m' ((c.tc : Thread Cert.ResRefIdeal.nD Cert.ResRefIdeal.τ).loc Cert.ResRefIdeal.main_arg1)
          ∧ r.2.mem ((c.tc : Thread Cert.ResRefIdeal.nD Cert.ResRefIdeal.τ).loc Cert.ResRefIdeal.main_arg2) = m' ((c.tc : Thread Cert.ResRefIdeal.nD Cert.ResRefIdeal.τ).loc Cert.ResRefIdeal.main_arg2))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)
      ∧ m' ((c.tc : Thread Cert.RopeRefIdeal.nD Cert.RopeRefIdeal.τ).loc Cert.RopeRefIdeal.main_arg2) = m ((c.tc : Thread Cert.RopeIdeal.nD Cert.RopeIdeal.τ).loc Cert.RopeIdeal.main_arg2)) →
    ∃ (v0 : (c : Dev Cert.RopeIdeal.nD) → Buf (Elt Ideal) ((c.tc : Thread Cert.RopeIdeal.nD Cert.RopeIdeal.τ).loc Cert.RopeIdeal.main_v44)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v44) = v0 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v106) = v0 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1)
          ∧ r.2.mem ((c.tc : Thread Cert.RopeRefIdeal.nD Cert.RopeRefIdeal.τ).loc Cert.RopeRefIdeal.main_arg2) = m' ((c.tc : Thread Cert.RopeRefIdeal.nD Cert.RopeRefIdeal.τ).loc Cert.RopeRefIdeal.main_arg2))

def preserves_Norm_NormIdeal : Prop :=
  True

def algebraic_NormIdeal_NormRefIdeal_pre_norm_finite [hNormIdeal : Cert.NormIdeal.Facts] [hNormRefIdeal : Cert.NormRefIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_norm_finite m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)) (v2 : (c : Dev Cert.NormIdeal.nD) → Buf (Elt Ideal) ((c.tc : Thread Cert.NormIdeal.nD Cert.NormIdeal.τ).loc Cert.NormIdeal.main_v1_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_v1_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v146) = v0 c
          ∧ r.2.mem ((c.tc : Thread Cert.NormRefIdeal.nD Cert.NormRefIdeal.τ).loc Cert.NormRefIdeal.main_v155) = v1 c
          ∧ r.2.mem ((c.tc : Thread Cert.NormRefIdeal.nD Cert.NormRefIdeal.τ).loc Cert.NormRefIdeal.main_v157) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5))

def preserves_NormIn_NormInIdeal : Prop :=
  True

def algebraic_NormInIdeal_NormInRefIdeal_pre_normin_finite [hNormInIdeal : Cert.NormInIdeal.Facts] [hNormInRefIdeal : Cert.NormInRefIdeal.Facts] [hPre_normin_finite : Cert.Pre_normin_finite.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal_normin_finite m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)
      ∧ m' ((c.tc : Thread Cert.NormInRefIdeal.nD Cert.NormInRefIdeal.τ).loc Cert.NormInRefIdeal.main_arg2) = m ((c.tc : Thread Cert.NormInIdeal.nD Cert.NormInIdeal.τ).loc Cert.NormInIdeal.main_arg2)
      ∧ m' ((c.tc : Thread Cert.NormInRefIdeal.nD Cert.NormInRefIdeal.τ).loc Cert.NormInRefIdeal.main_arg3) = m ((c.tc : Thread Cert.NormInIdeal.nD Cert.NormInIdeal.τ).loc Cert.NormInIdeal.main_arg3)
      ∧ m' ((c.tc : Thread Cert.NormInRefIdeal.nD Cert.NormInRefIdeal.τ).loc Cert.NormInRefIdeal.main_arg4) = m ((c.tc : Thread Cert.NormInIdeal.nD Cert.NormInIdeal.τ).loc Cert.NormInIdeal.main_arg4)
      ∧ m' ((c.tc : Thread Cert.NormInRefIdeal.nD Cert.NormInRefIdeal.τ).loc Cert.NormInRefIdeal.main_arg5) = m ((c.tc : Thread Cert.NormInIdeal.nD Cert.NormInIdeal.τ).loc Cert.NormInIdeal.main_arg5)
      ∧ m' ((c.tc : Thread Cert.NormInRefIdeal.nD Cert.NormInRefIdeal.τ).loc Cert.NormInRefIdeal.main_arg6) = m ((c.tc : Thread Cert.NormInIdeal.nD Cert.NormInIdeal.τ).loc Cert.NormInIdeal.main_arg6)
      ∧ m' ((c.tc : Thread Cert.NormInRefIdeal.nD Cert.NormInRefIdeal.τ).loc Cert.NormInRefIdeal.main_arg7) = m ((c.tc : Thread Cert.NormInIdeal.nD Cert.NormInIdeal.τ).loc Cert.NormInIdeal.main_arg7)) →
    ∃ (v0 : (c : Dev Cert.NormInIdeal.nD) → Buf (Elt Ideal) ((c.tc : Thread Cert.NormInIdeal.nD Cert.NormInIdeal.τ).loc Cert.NormInIdeal.main_v1_0)) (v1 : (c : Dev Cert.NormInIdeal.nD) → Buf (Elt Ideal) ((c.tc : Thread Cert.NormInIdeal.nD Cert.NormInIdeal.τ).loc Cert.NormInIdeal.main_v1_1)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v1_0) = v0 c
          ∧ r.2.mem ((c.tc : Thread Cert.NormInIdeal.nD Cert.NormInIdeal.τ).loc Cert.NormInIdeal.main_v1_1) = v1 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
          ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
          ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4)
          ∧ r.2.mem ((c.tc : Thread Cert.NormInIdeal.nD Cert.NormInIdeal.τ).loc Cert.NormInIdeal.main_arg5) = m ((c.tc : Thread Cert.NormInIdeal.nD Cert.NormInIdeal.τ).loc Cert.NormInIdeal.main_arg5)
          ∧ r.2.mem ((c.tc : Thread Cert.NormInIdeal.nD Cert.NormInIdeal.τ).loc Cert.NormInIdeal.main_arg6) = m ((c.tc : Thread Cert.NormInIdeal.nD Cert.NormInIdeal.τ).loc Cert.NormInIdeal.main_arg6)
          ∧ r.2.mem ((c.tc : Thread Cert.NormInIdeal.nD Cert.NormInIdeal.τ).loc Cert.NormInIdeal.main_arg7) = m ((c.tc : Thread Cert.NormInIdeal.nD Cert.NormInIdeal.τ).loc Cert.NormInIdeal.main_arg7))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v126) = v0 c
          ∧ r.2.mem ((c.tc : Thread Cert.NormInRefIdeal.nD Cert.NormInRefIdeal.τ).loc Cert.NormInRefIdeal.main_v134) = v1 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1)
          ∧ r.2.mem ((c.tc : Thread Cert.NormInRefIdeal.nD Cert.NormInRefIdeal.τ).loc Cert.NormInRefIdeal.main_arg2) = m' ((c.tc : Thread Cert.NormInRefIdeal.nD Cert.NormInRefIdeal.τ).loc Cert.NormInRefIdeal.main_arg2)
          ∧ r.2.mem ((c.tc : Thread Cert.NormInRefIdeal.nD Cert.NormInRefIdeal.τ).loc Cert.NormInRefIdeal.main_arg3) = m' ((c.tc : Thread Cert.NormInRefIdeal.nD Cert.NormInRefIdeal.τ).loc Cert.NormInRefIdeal.main_arg3)
          ∧ r.2.mem ((c.tc : Thread Cert.NormInRefIdeal.nD Cert.NormInRefIdeal.τ).loc Cert.NormInRefIdeal.main_arg4) = m' ((c.tc : Thread Cert.NormInRefIdeal.nD Cert.NormInRefIdeal.τ).loc Cert.NormInRefIdeal.main_arg4)
          ∧ r.2.mem ((c.tc : Thread Cert.NormInRefIdeal.nD Cert.NormInRefIdeal.τ).loc Cert.NormInRefIdeal.main_arg5) = m' ((c.tc : Thread Cert.NormInRefIdeal.nD Cert.NormInRefIdeal.τ).loc Cert.NormInRefIdeal.main_arg5)
          ∧ r.2.mem ((c.tc : Thread Cert.NormInRefIdeal.nD Cert.NormInRefIdeal.τ).loc Cert.NormInRefIdeal.main_arg6) = m' ((c.tc : Thread Cert.NormInRefIdeal.nD Cert.NormInRefIdeal.τ).loc Cert.NormInRefIdeal.main_arg6)
          ∧ r.2.mem ((c.tc : Thread Cert.NormInRefIdeal.nD Cert.NormInRefIdeal.τ).loc Cert.NormInRefIdeal.main_arg7) = m' ((c.tc : Thread Cert.NormInRefIdeal.nD Cert.NormInRefIdeal.τ).loc Cert.NormInRefIdeal.main_arg7))

def preserves_NormF_NormFIdeal : Prop :=
  True

def algebraic_NormFIdeal_NormFRefIdeal [hNormFIdeal : Cert.NormFIdeal.Facts] [hNormFRefIdeal : Cert.NormFRefIdeal.Facts] : Prop :=
  ∀ (m : (ℓ : Loc Cert.NormFIdeal.nD Cert.NormFIdeal.τ Cert.NormFIdeal.sig) → Buf (Elt Ideal) ℓ) (g : Dev Cert.NormFIdeal.nD → PrngReg)
    (m' : (ℓ : Loc Cert.NormFRefIdeal.nD Cert.NormFRefIdeal.τ Cert.NormFRefIdeal.sig) → Buf (Elt Ideal) ℓ) (g' : Dev Cert.NormFRefIdeal.nD → PrngReg), Pre_NormFIdeal m →
    (∀ c : Dev Cert.NormFIdeal.nD,
      m' ((c.tc : Thread Cert.NormFRefIdeal.nD Cert.NormFRefIdeal.τ).loc Cert.NormFRefIdeal.main_arg0) = m ((c.tc : Thread Cert.NormFIdeal.nD Cert.NormFIdeal.τ).loc Cert.NormFIdeal.main_arg0)
      ∧ m' ((c.tc : Thread Cert.NormFRefIdeal.nD Cert.NormFRefIdeal.τ).loc Cert.NormFRefIdeal.main_arg1) = m ((c.tc : Thread Cert.NormFIdeal.nD Cert.NormFIdeal.τ).loc Cert.NormFIdeal.main_arg1)
      ∧ m' ((c.tc : Thread Cert.NormFRefIdeal.nD Cert.NormFRefIdeal.τ).loc Cert.NormFRefIdeal.main_arg2) = m ((c.tc : Thread Cert.NormFIdeal.nD Cert.NormFIdeal.τ).loc Cert.NormFIdeal.main_arg2)) →
    ∃ (v0 : (c : Dev Cert.NormFIdeal.nD) → Buf (Elt Ideal) ((c.tc : Thread Cert.NormFIdeal.nD Cert.NormFIdeal.τ).loc Cert.NormFIdeal.main_v1)),
      θ_run (Cert.NormFIdeal.defs (F := Ideal)) (onTc (τ := Cert.NormFIdeal.τ) (Cert.NormFIdeal.main (F := Ideal))) ⟨m, fun _ => 0, g⟩ (fun r => ∀ c : Dev Cert.NormFIdeal.nD,
          r.2.mem ((c.tc : Thread Cert.NormFIdeal.nD Cert.NormFIdeal.τ).loc Cert.NormFIdeal.main_v1) = v0 c
          ∧ r.2.mem ((c.tc : Thread Cert.NormFIdeal.nD Cert.NormFIdeal.τ).loc Cert.NormFIdeal.main_arg0) = m ((c.tc : Thread Cert.NormFIdeal.nD Cert.NormFIdeal.τ).loc Cert.NormFIdeal.main_arg0)
          ∧ r.2.mem ((c.tc : Thread Cert.NormFIdeal.nD Cert.NormFIdeal.τ).loc Cert.NormFIdeal.main_arg1) = m ((c.tc : Thread Cert.NormFIdeal.nD Cert.NormFIdeal.τ).loc Cert.NormFIdeal.main_arg1)
          ∧ r.2.mem ((c.tc : Thread Cert.NormFIdeal.nD Cert.NormFIdeal.τ).loc Cert.NormFIdeal.main_arg2) = m ((c.tc : Thread Cert.NormFIdeal.nD Cert.NormFIdeal.τ).loc Cert.NormFIdeal.main_arg2))
      ∧ θ_run (Cert.NormFRefIdeal.defs (F := Ideal)) (onTc (τ := Cert.NormFRefIdeal.τ) (Cert.NormFRefIdeal.main (F := Ideal))) ⟨m', fun _ => 0, g'⟩ (fun r => ∀ c : Dev Cert.NormFRefIdeal.nD,
          r.2.mem ((c.tc : Thread Cert.NormFRefIdeal.nD Cert.NormFRefIdeal.τ).loc Cert.NormFRefIdeal.main_v53) = v0 c
          ∧ r.2.mem ((c.tc : Thread Cert.NormFRefIdeal.nD Cert.NormFRefIdeal.τ).loc Cert.NormFRefIdeal.main_arg0) = m' ((c.tc : Thread Cert.NormFRefIdeal.nD Cert.NormFRefIdeal.τ).loc Cert.NormFRefIdeal.main_arg0)
          ∧ r.2.mem ((c.tc : Thread Cert.NormFRefIdeal.nD Cert.NormFRefIdeal.τ).loc Cert.NormFRefIdeal.main_arg1) = m' ((c.tc : Thread Cert.NormFRefIdeal.nD Cert.NormFRefIdeal.τ).loc Cert.NormFRefIdeal.main_arg1)
          ∧ r.2.mem ((c.tc : Thread Cert.NormFRefIdeal.nD Cert.NormFRefIdeal.τ).loc Cert.NormFRefIdeal.main_arg2) = m' ((c.tc : Thread Cert.NormFRefIdeal.nD Cert.NormFRefIdeal.τ).loc Cert.NormFRefIdeal.main_arg2))

def preserves_UpX_UpXIdeal : Prop :=
  True

def algebraic_UpXIdeal_UpXRefIdeal [hUpXIdeal : Cert.UpXIdeal.Facts] [hUpXRefIdeal : Cert.UpXRefIdeal.Facts] : Prop :=
  ∀ (m : (ℓ : Loc Cert.UpXIdeal.nD Cert.UpXIdeal.τ Cert.UpXIdeal.sig) → Buf (Elt Ideal) ℓ) (g : Dev Cert.UpXIdeal.nD → PrngReg)
    (m' : (ℓ : Loc Cert.UpXRefIdeal.nD Cert.UpXRefIdeal.τ Cert.UpXRefIdeal.sig) → Buf (Elt Ideal) ℓ) (g' : Dev Cert.UpXRefIdeal.nD → PrngReg), Pre_UpXIdeal m →
    (∀ c : Dev Cert.UpXIdeal.nD,
      m' ((c.tc : Thread Cert.UpXRefIdeal.nD Cert.UpXRefIdeal.τ).loc Cert.UpXRefIdeal.main_arg0) = m ((c.tc : Thread Cert.UpXIdeal.nD Cert.UpXIdeal.τ).loc Cert.UpXIdeal.main_arg0)
      ∧ m' ((c.tc : Thread Cert.UpXRefIdeal.nD Cert.UpXRefIdeal.τ).loc Cert.UpXRefIdeal.main_arg1) = m ((c.tc : Thread Cert.UpXIdeal.nD Cert.UpXIdeal.τ).loc Cert.UpXIdeal.main_arg1)) →
    ∃ (v0 : (c : Dev Cert.UpXIdeal.nD) → Buf (Elt Ideal) ((c.tc : Thread Cert.UpXIdeal.nD Cert.UpXIdeal.τ).loc Cert.UpXIdeal.main_v0)),
      θ_run (Cert.UpXIdeal.defs (F := Ideal)) (onTc (τ := Cert.UpXIdeal.τ) (Cert.UpXIdeal.main (F := Ideal))) ⟨m, fun _ => 0, g⟩ (fun r => ∀ c : Dev Cert.UpXIdeal.nD,
          r.2.mem ((c.tc : Thread Cert.UpXIdeal.nD Cert.UpXIdeal.τ).loc Cert.UpXIdeal.main_v0) = v0 c
          ∧ r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
          ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1))
      ∧ θ_run (Cert.UpXRefIdeal.defs (F := Ideal)) (onTc (τ := Cert.UpXRefIdeal.τ) (Cert.UpXRefIdeal.main (F := Ideal))) ⟨m', fun _ => 0, g'⟩ (fun r => ∀ c : Dev Cert.UpXRefIdeal.nD,
          r.2.mem ((c.tc : Thread Cert.UpXRefIdeal.nD Cert.UpXRefIdeal.τ).loc Cert.UpXRefIdeal.main_v4) = v0 c
          ∧ r.2.mem ((c.tc : Thread Cert.UpXRefIdeal.nD Cert.UpXRefIdeal.τ).loc Cert.UpXRefIdeal.main_arg0) = m' ((c.tc : Thread Cert.UpXRefIdeal.nD Cert.UpXRefIdeal.τ).loc Cert.UpXRefIdeal.main_arg0)
          ∧ r.2.mem ((c.tc : Thread Cert.UpXRefIdeal.nD Cert.UpXRefIdeal.τ).loc Cert.UpXRefIdeal.main_arg1) = m' ((c.tc : Thread Cert.UpXRefIdeal.nD Cert.UpXRefIdeal.τ).loc Cert.UpXRefIdeal.main_arg1))

def preserves_UpW_UpWIdeal : Prop :=
  True

def algebraic_UpWIdeal_UpWRefIdeal [hUpWIdeal : Cert.UpWIdeal.Facts] [hUpWRefIdeal : Cert.UpWRefIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWRefIdeal.nD Cert.UpWRefIdeal.τ Cert.UpWRefIdeal.sig) → Buf (Elt Ideal) ℓ) (g' : Dev Cert.UpWRefIdeal.nD → PrngReg), Pre_UpWIdeal m →
    (∀ c : Dev Cert.UpWIdeal.nD,
      m' ((c.tc : Thread Cert.UpWRefIdeal.nD Cert.UpWRefIdeal.τ).loc Cert.UpWRefIdeal.main_arg0) = m ((c.tc : Thread Cert.UpWIdeal.nD Cert.UpWIdeal.τ).loc Cert.UpWIdeal.main_arg0)
      ∧ m' ((c.tc : Thread Cert.UpWRefIdeal.nD Cert.UpWRefIdeal.τ).loc Cert.UpWRefIdeal.main_arg1) = m ((c.tc : Thread Cert.UpWIdeal.nD Cert.UpWIdeal.τ).loc Cert.UpWIdeal.main_arg1)) →
    ∃ (v0 : (c : Dev Cert.UpWIdeal.nD) → Buf (Elt Ideal) ((c.tc : Thread Cert.UpWIdeal.nD Cert.UpWIdeal.τ).loc Cert.UpWIdeal.main_v0)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v0) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ θ_run (Cert.UpWRefIdeal.defs (F := Ideal)) (onTc (τ := Cert.UpWRefIdeal.τ) (Cert.UpWRefIdeal.main (F := Ideal))) ⟨m', fun _ => 0, g'⟩ (fun r => ∀ c : Dev Cert.UpWRefIdeal.nD,
          r.2.mem ((c.tc : Thread Cert.UpWRefIdeal.nD Cert.UpWRefIdeal.τ).loc Cert.UpWRefIdeal.main_v6) = v0 c
          ∧ r.2.mem ((c.tc : Thread Cert.UpWRefIdeal.nD Cert.UpWRefIdeal.τ).loc Cert.UpWRefIdeal.main_arg0) = m' ((c.tc : Thread Cert.UpWRefIdeal.nD Cert.UpWRefIdeal.τ).loc Cert.UpWRefIdeal.main_arg0)
          ∧ r.2.mem ((c.tc : Thread Cert.UpWRefIdeal.nD Cert.UpWRefIdeal.τ).loc Cert.UpWRefIdeal.main_arg1) = m' ((c.tc : Thread Cert.UpWRefIdeal.nD Cert.UpWRefIdeal.τ).loc Cert.UpWRefIdeal.main_arg1))

def preserves_DownX_DownXIdeal : Prop :=
  True

def algebraic_DownXIdeal_DownXRefIdeal [hDownXIdeal : Cert.DownXIdeal.Facts] [hDownXRefIdeal : Cert.DownXRefIdeal.Facts] : Prop :=
  ∀ (m : (ℓ : Loc Cert.DownXIdeal.nD Cert.DownXIdeal.τ Cert.DownXIdeal.sig) → Buf (Elt Ideal) ℓ) (g : Dev Cert.DownXIdeal.nD → PrngReg)
    (m' : (ℓ : Loc Cert.DownXRefIdeal.nD Cert.DownXRefIdeal.τ Cert.DownXRefIdeal.sig) → Buf (Elt Ideal) ℓ) (g' : Dev Cert.DownXRefIdeal.nD → PrngReg), Pre_DownXIdeal m →
    (∀ c : Dev Cert.DownXIdeal.nD,
      m' ((c.tc : Thread Cert.DownXRefIdeal.nD Cert.DownXRefIdeal.τ).loc Cert.DownXRefIdeal.main_arg0) = m ((c.tc : Thread Cert.DownXIdeal.nD Cert.DownXIdeal.τ).loc Cert.DownXIdeal.main_arg0)
      ∧ m' ((c.tc : Thread Cert.DownXRefIdeal.nD Cert.DownXRefIdeal.τ).loc Cert.DownXRefIdeal.main_arg1) = m ((c.tc : Thread Cert.DownXIdeal.nD Cert.DownXIdeal.τ).loc Cert.DownXIdeal.main_arg1)) →
    ∃ (v0 : (c : Dev Cert.DownXIdeal.nD) → Buf (Elt Ideal) ((c.tc : Thread Cert.DownXIdeal.nD Cert.DownXIdeal.τ).loc Cert.DownXIdeal.main_v0)),
      θ_run (Cert.DownXIdeal.defs (F := Ideal)) (onTc (τ := Cert.DownXIdeal.τ) (Cert.DownXIdeal.main (F := Ideal))) ⟨m, fun _ => 0, g⟩ (fun r => ∀ c : Dev Cert.DownXIdeal.nD,
          r.2.mem ((c.tc : Thread Cert.DownXIdeal.nD Cert.DownXIdeal.τ).loc Cert.DownXIdeal.main_v0) = v0 c
          ∧ r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
          ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1))
      ∧ θ_run (Cert.DownXRefIdeal.defs (F := Ideal)) (onTc (τ := Cert.DownXRefIdeal.τ) (Cert.DownXRefIdeal.main (F := Ideal))) ⟨m', fun _ => 0, g'⟩ (fun r => ∀ c : Dev Cert.DownXRefIdeal.nD,
          r.2.mem ((c.tc : Thread Cert.DownXRefIdeal.nD Cert.DownXRefIdeal.τ).loc Cert.DownXRefIdeal.main_v4) = v0 c
          ∧ r.2.mem ((c.tc : Thread Cert.DownXRefIdeal.nD Cert.DownXRefIdeal.τ).loc Cert.DownXRefIdeal.main_arg0) = m' ((c.tc : Thread Cert.DownXRefIdeal.nD Cert.DownXRefIdeal.τ).loc Cert.DownXRefIdeal.main_arg0)
          ∧ r.2.mem ((c.tc : Thread Cert.DownXRefIdeal.nD Cert.DownXRefIdeal.τ).loc Cert.DownXRefIdeal.main_arg1) = m' ((c.tc : Thread Cert.DownXRefIdeal.nD Cert.DownXRefIdeal.τ).loc Cert.DownXRefIdeal.main_arg1))

def preserves_DownW_DownWIdeal : Prop :=
  True

def algebraic_DownWIdeal_DownWRefIdeal [hDownWIdeal : Cert.DownWIdeal.Facts] [hDownWRefIdeal : Cert.DownWRefIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWRefIdeal.nD Cert.DownWRefIdeal.τ Cert.DownWRefIdeal.sig) → Buf (Elt Ideal) ℓ) (g' : Dev Cert.DownWRefIdeal.nD → PrngReg), Pre_DownWIdeal m →
    (∀ c : Dev Cert.DownWIdeal.nD,
      m' ((c.tc : Thread Cert.DownWRefIdeal.nD Cert.DownWRefIdeal.τ).loc Cert.DownWRefIdeal.main_arg0) = m ((c.tc : Thread Cert.DownWIdeal.nD Cert.DownWIdeal.τ).loc Cert.DownWIdeal.main_arg0)
      ∧ m' ((c.tc : Thread Cert.DownWRefIdeal.nD Cert.DownWRefIdeal.τ).loc Cert.DownWRefIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v0)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v0) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.DownWRefIdeal.defs (F := Ideal)) (onTc (τ := Cert.DownWRefIdeal.τ) (Cert.DownWRefIdeal.main (F := Ideal))) ⟨m', fun _ => 0, g'⟩ (fun r => ∀ c : Dev Cert.DownWRefIdeal.nD,
          r.2.mem ((c.tc : Thread Cert.DownWRefIdeal.nD Cert.DownWRefIdeal.τ).loc Cert.DownWRefIdeal.main_v6) = v0 c
          ∧ r.2.mem ((c.tc : Thread Cert.DownWRefIdeal.nD Cert.DownWRefIdeal.τ).loc Cert.DownWRefIdeal.main_arg0) = m' ((c.tc : Thread Cert.DownWRefIdeal.nD Cert.DownWRefIdeal.τ).loc Cert.DownWRefIdeal.main_arg0)
          ∧ r.2.mem ((c.tc : Thread Cert.DownWRefIdeal.nD Cert.DownWRefIdeal.τ).loc Cert.DownWRefIdeal.main_arg1) = m' ((c.tc : Thread Cert.DownWRefIdeal.nD Cert.DownWRefIdeal.τ).loc Cert.DownWRefIdeal.main_arg1))

def preserves_In3X_In3XIdeal : Prop :=
  True

def algebraic_In3XIdeal_In3XRefIdeal [hIn3XIdeal : Cert.In3XIdeal.Facts] [hIn3XRefIdeal : Cert.In3XRefIdeal.Facts] : Prop :=
  ∀ (m : (ℓ : Loc Cert.In3XIdeal.nD Cert.In3XIdeal.τ Cert.In3XIdeal.sig) → Buf (Elt Ideal) ℓ) (g : Dev Cert.In3XIdeal.nD → PrngReg)
    (m' : (ℓ : Loc Cert.In3XRefIdeal.nD Cert.In3XRefIdeal.τ Cert.In3XRefIdeal.sig) → Buf (Elt Ideal) ℓ) (g' : Dev Cert.In3XRefIdeal.nD → PrngReg), Pre_In3XIdeal m →
    (∀ c : Dev Cert.In3XIdeal.nD,
      m' ((c.tc : Thread Cert.In3XRefIdeal.nD Cert.In3XRefIdeal.τ).loc Cert.In3XRefIdeal.main_arg0) = m ((c.tc : Thread Cert.In3XIdeal.nD Cert.In3XIdeal.τ).loc Cert.In3XIdeal.main_arg0)
      ∧ m' ((c.tc : Thread Cert.In3XRefIdeal.nD Cert.In3XRefIdeal.τ).loc Cert.In3XRefIdeal.main_arg1) = m ((c.tc : Thread Cert.In3XIdeal.nD Cert.In3XIdeal.τ).loc Cert.In3XIdeal.main_arg1)) →
    ∃ (v0 : (c : Dev Cert.In3XIdeal.nD) → Buf (Elt Ideal) ((c.tc : Thread Cert.In3XIdeal.nD Cert.In3XIdeal.τ).loc Cert.In3XIdeal.main_v0)),
      θ_run (Cert.In3XIdeal.defs (F := Ideal)) (onTc (τ := Cert.In3XIdeal.τ) (Cert.In3XIdeal.main (F := Ideal))) ⟨m, fun _ => 0, g⟩ (fun r => ∀ c : Dev Cert.In3XIdeal.nD,
          r.2.mem ((c.tc : Thread Cert.In3XIdeal.nD Cert.In3XIdeal.τ).loc Cert.In3XIdeal.main_v0) = v0 c
          ∧ r.2.mem ((c.tc : Thread Cert.In3XIdeal.nD Cert.In3XIdeal.τ).loc Cert.In3XIdeal.main_arg0) = m ((c.tc : Thread Cert.In3XIdeal.nD Cert.In3XIdeal.τ).loc Cert.In3XIdeal.main_arg0)
          ∧ r.2.mem ((c.tc : Thread Cert.In3XIdeal.nD Cert.In3XIdeal.τ).loc Cert.In3XIdeal.main_arg1) = m ((c.tc : Thread Cert.In3XIdeal.nD Cert.In3XIdeal.τ).loc Cert.In3XIdeal.main_arg1))
      ∧ θ_run (Cert.In3XRefIdeal.defs (F := Ideal)) (onTc (τ := Cert.In3XRefIdeal.τ) (Cert.In3XRefIdeal.main (F := Ideal))) ⟨m', fun _ => 0, g'⟩ (fun r => ∀ c : Dev Cert.In3XRefIdeal.nD,
          r.2.mem ((c.tc : Thread Cert.In3XRefIdeal.nD Cert.In3XRefIdeal.τ).loc Cert.In3XRefIdeal.main_v4) = v0 c
          ∧ r.2.mem ((c.tc : Thread Cert.In3XRefIdeal.nD Cert.In3XRefIdeal.τ).loc Cert.In3XRefIdeal.main_arg0) = m' ((c.tc : Thread Cert.In3XRefIdeal.nD Cert.In3XRefIdeal.τ).loc Cert.In3XRefIdeal.main_arg0)
          ∧ r.2.mem ((c.tc : Thread Cert.In3XRefIdeal.nD Cert.In3XRefIdeal.τ).loc Cert.In3XRefIdeal.main_arg1) = m' ((c.tc : Thread Cert.In3XRefIdeal.nD Cert.In3XRefIdeal.τ).loc Cert.In3XRefIdeal.main_arg1))

def preserves_In3W_In3WIdeal : Prop :=
  True

def algebraic_In3WIdeal_In3WRefIdeal [hIn3WIdeal : Cert.In3WIdeal.Facts] [hIn3WRefIdeal : Cert.In3WRefIdeal.Facts] : Prop :=
  ∀ (m : (ℓ : Loc Cert.In3WIdeal.nD Cert.In3WIdeal.τ Cert.In3WIdeal.sig) → Buf (Elt Ideal) ℓ) (g : Dev Cert.In3WIdeal.nD → PrngReg)
    (m' : (ℓ : Loc Cert.In3WRefIdeal.nD Cert.In3WRefIdeal.τ Cert.In3WRefIdeal.sig) → Buf (Elt Ideal) ℓ) (g' : Dev Cert.In3WRefIdeal.nD → PrngReg), Pre_In3WIdeal m →
    (∀ c : Dev Cert.In3WIdeal.nD,
      m' ((c.tc : Thread Cert.In3WRefIdeal.nD Cert.In3WRefIdeal.τ).loc Cert.In3WRefIdeal.main_arg0) = m ((c.tc : Thread Cert.In3WIdeal.nD Cert.In3WIdeal.τ).loc Cert.In3WIdeal.main_arg0)
      ∧ m' ((c.tc : Thread Cert.In3WRefIdeal.nD Cert.In3WRefIdeal.τ).loc Cert.In3WRefIdeal.main_arg1) = m ((c.tc : Thread Cert.In3WIdeal.nD Cert.In3WIdeal.τ).loc Cert.In3WIdeal.main_arg1)) →
    ∃ (v0 : (c : Dev Cert.In3WIdeal.nD) → Buf (Elt Ideal) ((c.tc : Thread Cert.In3WIdeal.nD Cert.In3WIdeal.τ).loc Cert.In3WIdeal.main_v0)),
      θ_run (Cert.In3WIdeal.defs (F := Ideal)) (onTc (τ := Cert.In3WIdeal.τ) (Cert.In3WIdeal.main (F := Ideal))) ⟨m, fun _ => 0, g⟩ (fun r => ∀ c : Dev Cert.In3WIdeal.nD,
          r.2.mem ((c.tc : Thread Cert.In3WIdeal.nD Cert.In3WIdeal.τ).loc Cert.In3WIdeal.main_v0) = v0 c
          ∧ r.2.mem ((c.tc : Thread Cert.In3WIdeal.nD Cert.In3WIdeal.τ).loc Cert.In3WIdeal.main_arg0) = m ((c.tc : Thread Cert.In3WIdeal.nD Cert.In3WIdeal.τ).loc Cert.In3WIdeal.main_arg0)
          ∧ r.2.mem ((c.tc : Thread Cert.In3WIdeal.nD Cert.In3WIdeal.τ).loc Cert.In3WIdeal.main_arg1) = m ((c.tc : Thread Cert.In3WIdeal.nD Cert.In3WIdeal.τ).loc Cert.In3WIdeal.main_arg1))
      ∧ θ_run (Cert.In3WRefIdeal.defs (F := Ideal)) (onTc (τ := Cert.In3WRefIdeal.τ) (Cert.In3WRefIdeal.main (F := Ideal))) ⟨m', fun _ => 0, g'⟩ (fun r => ∀ c : Dev Cert.In3WRefIdeal.nD,
          r.2.mem ((c.tc : Thread Cert.In3WRefIdeal.nD Cert.In3WRefIdeal.τ).loc Cert.In3WRefIdeal.main_v6) = v0 c
          ∧ r.2.mem ((c.tc : Thread Cert.In3WRefIdeal.nD Cert.In3WRefIdeal.τ).loc Cert.In3WRefIdeal.main_arg0) = m' ((c.tc : Thread Cert.In3WRefIdeal.nD Cert.In3WRefIdeal.τ).loc Cert.In3WRefIdeal.main_arg0)
          ∧ r.2.mem ((c.tc : Thread Cert.In3WRefIdeal.nD Cert.In3WRefIdeal.τ).loc Cert.In3WRefIdeal.main_arg1) = m' ((c.tc : Thread Cert.In3WRefIdeal.nD Cert.In3WRefIdeal.τ).loc Cert.In3WRefIdeal.main_arg1))

def preserves_OutX_OutXIdeal : Prop :=
  True

def algebraic_OutXIdeal_OutXRefIdeal [hOutXIdeal : Cert.OutXIdeal.Facts] [hOutXRefIdeal : Cert.OutXRefIdeal.Facts] : Prop :=
  ∀ (m : (ℓ : Loc Cert.OutXIdeal.nD Cert.OutXIdeal.τ Cert.OutXIdeal.sig) → Buf (Elt Ideal) ℓ) (g : Dev Cert.OutXIdeal.nD → PrngReg)
    (m' : (ℓ : Loc Cert.OutXRefIdeal.nD Cert.OutXRefIdeal.τ Cert.OutXRefIdeal.sig) → Buf (Elt Ideal) ℓ) (g' : Dev Cert.OutXRefIdeal.nD → PrngReg), Pre_OutXIdeal m →
    (∀ c : Dev Cert.OutXIdeal.nD,
      m' ((c.tc : Thread Cert.OutXRefIdeal.nD Cert.OutXRefIdeal.τ).loc Cert.OutXRefIdeal.main_arg0) = m ((c.tc : Thread Cert.OutXIdeal.nD Cert.OutXIdeal.τ).loc Cert.OutXIdeal.main_arg0)
      ∧ m' ((c.tc : Thread Cert.OutXRefIdeal.nD Cert.OutXRefIdeal.τ).loc Cert.OutXRefIdeal.main_arg1) = m ((c.tc : Thread Cert.OutXIdeal.nD Cert.OutXIdeal.τ).loc Cert.OutXIdeal.main_arg1)) →
    ∃ (v0 : (c : Dev Cert.OutXIdeal.nD) → Buf (Elt Ideal) ((c.tc : Thread Cert.OutXIdeal.nD Cert.OutXIdeal.τ).loc Cert.OutXIdeal.main_v0)),
      θ_run (Cert.OutXIdeal.defs (F := Ideal)) (onTc (τ := Cert.OutXIdeal.τ) (Cert.OutXIdeal.main (F := Ideal))) ⟨m, fun _ => 0, g⟩ (fun r => ∀ c : Dev Cert.OutXIdeal.nD,
          r.2.mem ((c.tc : Thread Cert.OutXIdeal.nD Cert.OutXIdeal.τ).loc Cert.OutXIdeal.main_v0) = v0 c
          ∧ r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
          ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ θ_run (Cert.OutXRefIdeal.defs (F := Ideal)) (onTc (τ := Cert.OutXRefIdeal.τ) (Cert.OutXRefIdeal.main (F := Ideal))) ⟨m', fun _ => 0, g'⟩ (fun r => ∀ c : Dev Cert.OutXRefIdeal.nD,
          r.2.mem ((c.tc : Thread Cert.OutXRefIdeal.nD Cert.OutXRefIdeal.τ).loc Cert.OutXRefIdeal.main_v4) = v0 c
          ∧ r.2.mem ((c.tc : Thread Cert.OutXRefIdeal.nD Cert.OutXRefIdeal.τ).loc Cert.OutXRefIdeal.main_arg0) = m' ((c.tc : Thread Cert.OutXRefIdeal.nD Cert.OutXRefIdeal.τ).loc Cert.OutXRefIdeal.main_arg0)
          ∧ r.2.mem ((c.tc : Thread Cert.OutXRefIdeal.nD Cert.OutXRefIdeal.τ).loc Cert.OutXRefIdeal.main_arg1) = m' ((c.tc : Thread Cert.OutXRefIdeal.nD Cert.OutXRefIdeal.τ).loc Cert.OutXRefIdeal.main_arg1))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v6) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1))

def preserves_In2X_In2XIdeal : Prop :=
  True

def algebraic_In2XIdeal_In2XRefIdeal [hIn2XIdeal : Cert.In2XIdeal.Facts] [hIn2XRefIdeal : Cert.In2XRefIdeal.Facts] : Prop :=
  ∀ (m : (ℓ : Loc Cert.In2XIdeal.nD Cert.In2XIdeal.τ Cert.In2XIdeal.sig) → Buf (Elt Ideal) ℓ) (g : Dev Cert.In2XIdeal.nD → PrngReg)
    (m' : (ℓ : Loc Cert.In2XRefIdeal.nD Cert.In2XRefIdeal.τ Cert.In2XRefIdeal.sig) → Buf (Elt Ideal) ℓ) (g' : Dev Cert.In2XRefIdeal.nD → PrngReg), Pre_In2XIdeal m →
    (∀ c : Dev Cert.In2XIdeal.nD,
      m' ((c.tc : Thread Cert.In2XRefIdeal.nD Cert.In2XRefIdeal.τ).loc Cert.In2XRefIdeal.main_arg0) = m ((c.tc : Thread Cert.In2XIdeal.nD Cert.In2XIdeal.τ).loc Cert.In2XIdeal.main_arg0)
      ∧ m' ((c.tc : Thread Cert.In2XRefIdeal.nD Cert.In2XRefIdeal.τ).loc Cert.In2XRefIdeal.main_arg1) = m ((c.tc : Thread Cert.In2XIdeal.nD Cert.In2XIdeal.τ).loc Cert.In2XIdeal.main_arg1)) →
    ∃ (v0 : (c : Dev Cert.In2XIdeal.nD) → Buf (Elt Ideal) ((c.tc : Thread Cert.In2XIdeal.nD Cert.In2XIdeal.τ).loc Cert.In2XIdeal.main_v0)),
      θ_run (Cert.In2XIdeal.defs (F := Ideal)) (onTc (τ := Cert.In2XIdeal.τ) (Cert.In2XIdeal.main (F := Ideal))) ⟨m, fun _ => 0, g⟩ (fun r => ∀ c : Dev Cert.In2XIdeal.nD,
          r.2.mem ((c.tc : Thread Cert.In2XIdeal.nD Cert.In2XIdeal.τ).loc Cert.In2XIdeal.main_v0) = v0 c
          ∧ r.2.mem ((c.tc : Thread Cert.In2XIdeal.nD Cert.In2XIdeal.τ).loc Cert.In2XIdeal.main_arg0) = m ((c.tc : Thread Cert.In2XIdeal.nD Cert.In2XIdeal.τ).loc Cert.In2XIdeal.main_arg0)
          ∧ r.2.mem ((c.tc : Thread Cert.In2XIdeal.nD Cert.In2XIdeal.τ).loc Cert.In2XIdeal.main_arg1) = m ((c.tc : Thread Cert.In2XIdeal.nD Cert.In2XIdeal.τ).loc Cert.In2XIdeal.main_arg1))
      ∧ θ_run (Cert.In2XRefIdeal.defs (F := Ideal)) (onTc (τ := Cert.In2XRefIdeal.τ) (Cert.In2XRefIdeal.main (F := Ideal))) ⟨m', fun _ => 0, g'⟩ (fun r => ∀ c : Dev Cert.In2XRefIdeal.nD,
          r.2.mem ((c.tc : Thread Cert.In2XRefIdeal.nD Cert.In2XRefIdeal.τ).loc Cert.In2XRefIdeal.main_v4) = v0 c
          ∧ r.2.mem ((c.tc : Thread Cert.In2XRefIdeal.nD Cert.In2XRefIdeal.τ).loc Cert.In2XRefIdeal.main_arg0) = m' ((c.tc : Thread Cert.In2XRefIdeal.nD Cert.In2XRefIdeal.τ).loc Cert.In2XRefIdeal.main_arg0)
          ∧ r.2.mem ((c.tc : Thread Cert.In2XRefIdeal.nD Cert.In2XRefIdeal.τ).loc Cert.In2XRefIdeal.main_arg1) = m' ((c.tc : Thread Cert.In2XRefIdeal.nD Cert.In2XRefIdeal.τ).loc Cert.In2XRefIdeal.main_arg1))

def preserves_In2W_In2WIdeal : Prop :=
  True

def algebraic_In2WIdeal_In2WRefIdeal [hIn2WIdeal : Cert.In2WIdeal.Facts] [hIn2WRefIdeal : Cert.In2WRefIdeal.Facts] : Prop :=
  ∀ (m : (ℓ : Loc Cert.In2WIdeal.nD Cert.In2WIdeal.τ Cert.In2WIdeal.sig) → Buf (Elt Ideal) ℓ) (g : Dev Cert.In2WIdeal.nD → PrngReg)
    (m' : (ℓ : Loc Cert.In2WRefIdeal.nD Cert.In2WRefIdeal.τ Cert.In2WRefIdeal.sig) → Buf (Elt Ideal) ℓ) (g' : Dev Cert.In2WRefIdeal.nD → PrngReg), Pre_In2WIdeal m →
    (∀ c : Dev Cert.In2WIdeal.nD,
      m' ((c.tc : Thread Cert.In2WRefIdeal.nD Cert.In2WRefIdeal.τ).loc Cert.In2WRefIdeal.main_arg0) = m ((c.tc : Thread Cert.In2WIdeal.nD Cert.In2WIdeal.τ).loc Cert.In2WIdeal.main_arg0)
      ∧ m' ((c.tc : Thread Cert.In2WRefIdeal.nD Cert.In2WRefIdeal.τ).loc Cert.In2WRefIdeal.main_arg1) = m ((c.tc : Thread Cert.In2WIdeal.nD Cert.In2WIdeal.τ).loc Cert.In2WIdeal.main_arg1)) →
    ∃ (v0 : (c : Dev Cert.In2WIdeal.nD) → Buf (Elt Ideal) ((c.tc : Thread Cert.In2WIdeal.nD Cert.In2WIdeal.τ).loc Cert.In2WIdeal.main_v0)),
      θ_run (Cert.In2WIdeal.defs (F := Ideal)) (onTc (τ := Cert.In2WIdeal.τ) (Cert.In2WIdeal.main (F := Ideal))) ⟨m, fun _ => 0, g⟩ (fun r => ∀ c : Dev Cert.In2WIdeal.nD,
          r.2.mem ((c.tc : Thread Cert.In2WIdeal.nD Cert.In2WIdeal.τ).loc Cert.In2WIdeal.main_v0) = v0 c
          ∧ r.2.mem ((c.tc : Thread Cert.In2WIdeal.nD Cert.In2WIdeal.τ).loc Cert.In2WIdeal.main_arg0) = m ((c.tc : Thread Cert.In2WIdeal.nD Cert.In2WIdeal.τ).loc Cert.In2WIdeal.main_arg0)
          ∧ r.2.mem ((c.tc : Thread Cert.In2WIdeal.nD Cert.In2WIdeal.τ).loc Cert.In2WIdeal.main_arg1) = m ((c.tc : Thread Cert.In2WIdeal.nD Cert.In2WIdeal.τ).loc Cert.In2WIdeal.main_arg1))
      ∧ θ_run (Cert.In2WRefIdeal.defs (F := Ideal)) (onTc (τ := Cert.In2WRefIdeal.τ) (Cert.In2WRefIdeal.main (F := Ideal))) ⟨m', fun _ => 0, g'⟩ (fun r => ∀ c : Dev Cert.In2WRefIdeal.nD,
          r.2.mem ((c.tc : Thread Cert.In2WRefIdeal.nD Cert.In2WRefIdeal.τ).loc Cert.In2WRefIdeal.main_v6) = v0 c
          ∧ r.2.mem ((c.tc : Thread Cert.In2WRefIdeal.nD Cert.In2WRefIdeal.τ).loc Cert.In2WRefIdeal.main_arg0) = m' ((c.tc : Thread Cert.In2WRefIdeal.nD Cert.In2WRefIdeal.τ).loc Cert.In2WRefIdeal.main_arg0)
          ∧ r.2.mem ((c.tc : Thread Cert.In2WRefIdeal.nD Cert.In2WRefIdeal.τ).loc Cert.In2WRefIdeal.main_arg1) = m' ((c.tc : Thread Cert.In2WRefIdeal.nD Cert.In2WRefIdeal.τ).loc Cert.In2WRefIdeal.main_arg1))

def preserves_In1X_In1XIdeal : Prop :=
  True

def algebraic_In1XIdeal_In1XRefIdeal [hIn1XIdeal : Cert.In1XIdeal.Facts] [hIn1XRefIdeal : Cert.In1XRefIdeal.Facts] : Prop :=
  ∀ (m : (ℓ : Loc Cert.In1XIdeal.nD Cert.In1XIdeal.τ Cert.In1XIdeal.sig) → Buf (Elt Ideal) ℓ) (g : Dev Cert.In1XIdeal.nD → PrngReg)
    (m' : (ℓ : Loc Cert.In1XRefIdeal.nD Cert.In1XRefIdeal.τ Cert.In1XRefIdeal.sig) → Buf (Elt Ideal) ℓ) (g' : Dev Cert.In1XRefIdeal.nD → PrngReg), Pre_In1XIdeal m →
    (∀ c : Dev Cert.In1XIdeal.nD,
      m' ((c.tc : Thread Cert.In1XRefIdeal.nD Cert.In1XRefIdeal.τ).loc Cert.In1XRefIdeal.main_arg0) = m ((c.tc : Thread Cert.In1XIdeal.nD Cert.In1XIdeal.τ).loc Cert.In1XIdeal.main_arg0)
      ∧ m' ((c.tc : Thread Cert.In1XRefIdeal.nD Cert.In1XRefIdeal.τ).loc Cert.In1XRefIdeal.main_arg1) = m ((c.tc : Thread Cert.In1XIdeal.nD Cert.In1XIdeal.τ).loc Cert.In1XIdeal.main_arg1)) →
    ∃ (v0 : (c : Dev Cert.In1XIdeal.nD) → Buf (Elt Ideal) ((c.tc : Thread Cert.In1XIdeal.nD Cert.In1XIdeal.τ).loc Cert.In1XIdeal.main_v0)),
      θ_run (Cert.In1XIdeal.defs (F := Ideal)) (onTc (τ := Cert.In1XIdeal.τ) (Cert.In1XIdeal.main (F := Ideal))) ⟨m, fun _ => 0, g⟩ (fun r => ∀ c : Dev Cert.In1XIdeal.nD,
          r.2.mem ((c.tc : Thread Cert.In1XIdeal.nD Cert.In1XIdeal.τ).loc Cert.In1XIdeal.main_v0) = v0 c
          ∧ r.2.mem ((c.tc : Thread Cert.In1XIdeal.nD Cert.In1XIdeal.τ).loc Cert.In1XIdeal.main_arg0) = m ((c.tc : Thread Cert.In1XIdeal.nD Cert.In1XIdeal.τ).loc Cert.In1XIdeal.main_arg0)
          ∧ r.2.mem ((c.tc : Thread Cert.In1XIdeal.nD Cert.In1XIdeal.τ).loc Cert.In1XIdeal.main_arg1) = m ((c.tc : Thread Cert.In1XIdeal.nD Cert.In1XIdeal.τ).loc Cert.In1XIdeal.main_arg1))
      ∧ θ_run (Cert.In1XRefIdeal.defs (F := Ideal)) (onTc (τ := Cert.In1XRefIdeal.τ) (Cert.In1XRefIdeal.main (F := Ideal))) ⟨m', fun _ => 0, g'⟩ (fun r => ∀ c : Dev Cert.In1XRefIdeal.nD,
          r.2.mem ((c.tc : Thread Cert.In1XRefIdeal.nD Cert.In1XRefIdeal.τ).loc Cert.In1XRefIdeal.main_v4) = v0 c
          ∧ r.2.mem ((c.tc : Thread Cert.In1XRefIdeal.nD Cert.In1XRefIdeal.τ).loc Cert.In1XRefIdeal.main_arg0) = m' ((c.tc : Thread Cert.In1XRefIdeal.nD Cert.In1XRefIdeal.τ).loc Cert.In1XRefIdeal.main_arg0)
          ∧ r.2.mem ((c.tc : Thread Cert.In1XRefIdeal.nD Cert.In1XRefIdeal.τ).loc Cert.In1XRefIdeal.main_arg1) = m' ((c.tc : Thread Cert.In1XRefIdeal.nD Cert.In1XRefIdeal.τ).loc Cert.In1XRefIdeal.main_arg1))

def preserves_In1W_In1WIdeal : Prop :=
  True

def algebraic_In1WIdeal_In1WRefIdeal [hIn1WIdeal : Cert.In1WIdeal.Facts] [hIn1WRefIdeal : Cert.In1WRefIdeal.Facts] : Prop :=
  ∀ (m : (ℓ : Loc Cert.In1WIdeal.nD Cert.In1WIdeal.τ Cert.In1WIdeal.sig) → Buf (Elt Ideal) ℓ) (g : Dev Cert.In1WIdeal.nD → PrngReg)
    (m' : (ℓ : Loc Cert.In1WRefIdeal.nD Cert.In1WRefIdeal.τ Cert.In1WRefIdeal.sig) → Buf (Elt Ideal) ℓ) (g' : Dev Cert.In1WRefIdeal.nD → PrngReg), Pre_In1WIdeal m →
    (∀ c : Dev Cert.In1WIdeal.nD,
      m' ((c.tc : Thread Cert.In1WRefIdeal.nD Cert.In1WRefIdeal.τ).loc Cert.In1WRefIdeal.main_arg0) = m ((c.tc : Thread Cert.In1WIdeal.nD Cert.In1WIdeal.τ).loc Cert.In1WIdeal.main_arg0)
      ∧ m' ((c.tc : Thread Cert.In1WRefIdeal.nD Cert.In1WRefIdeal.τ).loc Cert.In1WRefIdeal.main_arg1) = m ((c.tc : Thread Cert.In1WIdeal.nD Cert.In1WIdeal.τ).loc Cert.In1WIdeal.main_arg1)) →
    ∃ (v0 : (c : Dev Cert.In1WIdeal.nD) → Buf (Elt Ideal) ((c.tc : Thread Cert.In1WIdeal.nD Cert.In1WIdeal.τ).loc Cert.In1WIdeal.main_v0)),
      θ_run (Cert.In1WIdeal.defs (F := Ideal)) (onTc (τ := Cert.In1WIdeal.τ) (Cert.In1WIdeal.main (F := Ideal))) ⟨m, fun _ => 0, g⟩ (fun r => ∀ c : Dev Cert.In1WIdeal.nD,
          r.2.mem ((c.tc : Thread Cert.In1WIdeal.nD Cert.In1WIdeal.τ).loc Cert.In1WIdeal.main_v0) = v0 c
          ∧ r.2.mem ((c.tc : Thread Cert.In1WIdeal.nD Cert.In1WIdeal.τ).loc Cert.In1WIdeal.main_arg0) = m ((c.tc : Thread Cert.In1WIdeal.nD Cert.In1WIdeal.τ).loc Cert.In1WIdeal.main_arg0)
          ∧ r.2.mem ((c.tc : Thread Cert.In1WIdeal.nD Cert.In1WIdeal.τ).loc Cert.In1WIdeal.main_arg1) = m ((c.tc : Thread Cert.In1WIdeal.nD Cert.In1WIdeal.τ).loc Cert.In1WIdeal.main_arg1))
      ∧ θ_run (Cert.In1WRefIdeal.defs (F := Ideal)) (onTc (τ := Cert.In1WRefIdeal.τ) (Cert.In1WRefIdeal.main (F := Ideal))) ⟨m', fun _ => 0, g'⟩ (fun r => ∀ c : Dev Cert.In1WRefIdeal.nD,
          r.2.mem ((c.tc : Thread Cert.In1WRefIdeal.nD Cert.In1WRefIdeal.τ).loc Cert.In1WRefIdeal.main_v6) = v0 c
          ∧ r.2.mem ((c.tc : Thread Cert.In1WRefIdeal.nD Cert.In1WRefIdeal.τ).loc Cert.In1WRefIdeal.main_arg0) = m' ((c.tc : Thread Cert.In1WRefIdeal.nD Cert.In1WRefIdeal.τ).loc Cert.In1WRefIdeal.main_arg0)
          ∧ r.2.mem ((c.tc : Thread Cert.In1WRefIdeal.nD Cert.In1WRefIdeal.τ).loc Cert.In1WRefIdeal.main_arg1) = m' ((c.tc : Thread Cert.In1WRefIdeal.nD Cert.In1WRefIdeal.τ).loc Cert.In1WRefIdeal.main_arg1))

def preserves_UpF_UpFIdeal : Prop :=
  True

def algebraic_UpFIdeal_UpFRefIdeal [hUpFIdeal : Cert.UpFIdeal.Facts] [hUpFRefIdeal : Cert.UpFRefIdeal.Facts] : Prop :=
  ∀ (m : (ℓ : Loc Cert.UpFIdeal.nD Cert.UpFIdeal.τ Cert.UpFIdeal.sig) → Buf (Elt Ideal) ℓ) (g : Dev Cert.UpFIdeal.nD → PrngReg)
    (m' : (ℓ : Loc Cert.UpFRefIdeal.nD Cert.UpFRefIdeal.τ Cert.UpFRefIdeal.sig) → Buf (Elt Ideal) ℓ) (g' : Dev Cert.UpFRefIdeal.nD → PrngReg), Pre_UpFIdeal m →
    (∀ c : Dev Cert.UpFIdeal.nD,
      m' ((c.tc : Thread Cert.UpFRefIdeal.nD Cert.UpFRefIdeal.τ).loc Cert.UpFRefIdeal.main_arg0) = m ((c.tc : Thread Cert.UpFIdeal.nD Cert.UpFIdeal.τ).loc Cert.UpFIdeal.main_arg0)
      ∧ m' ((c.tc : Thread Cert.UpFRefIdeal.nD Cert.UpFRefIdeal.τ).loc Cert.UpFRefIdeal.main_arg1) = m ((c.tc : Thread Cert.UpFIdeal.nD Cert.UpFIdeal.τ).loc Cert.UpFIdeal.main_arg1)) →
    ∃ (v0 : (c : Dev Cert.UpFIdeal.nD) → Buf (Elt Ideal) ((c.tc : Thread Cert.UpFIdeal.nD Cert.UpFIdeal.τ).loc Cert.UpFIdeal.main_v0)),
      θ_run (Cert.UpFIdeal.defs (F := Ideal)) (onTc (τ := Cert.UpFIdeal.τ) (Cert.UpFIdeal.main (F := Ideal))) ⟨m, fun _ => 0, g⟩ (fun r => ∀ c : Dev Cert.UpFIdeal.nD,
          r.2.mem ((c.tc : Thread Cert.UpFIdeal.nD Cert.UpFIdeal.τ).loc Cert.UpFIdeal.main_v0) = v0 c
          ∧ r.2.mem ((c.tc : Thread Cert.UpFIdeal.nD Cert.UpFIdeal.τ).loc Cert.UpFIdeal.main_arg0) = m ((c.tc : Thread Cert.UpFIdeal.nD Cert.UpFIdeal.τ).loc Cert.UpFIdeal.main_arg0)
          ∧ r.2.mem ((c.tc : Thread Cert.UpFIdeal.nD Cert.UpFIdeal.τ).loc Cert.UpFIdeal.main_arg1) = m ((c.tc : Thread Cert.UpFIdeal.nD Cert.UpFIdeal.τ).loc Cert.UpFIdeal.main_arg1))
      ∧ θ_run (Cert.UpFRefIdeal.defs (F := Ideal)) (onTc (τ := Cert.UpFRefIdeal.τ) (Cert.UpFRefIdeal.main (F := Ideal))) ⟨m', fun _ => 0, g'⟩ (fun r => ∀ c : Dev Cert.UpFRefIdeal.nD,
          r.2.mem ((c.tc : Thread Cert.UpFRefIdeal.nD Cert.UpFRefIdeal.τ).loc Cert.UpFRefIdeal.main_v2) = v0 c
          ∧ r.2.mem ((c.tc : Thread Cert.UpFRefIdeal.nD Cert.UpFRefIdeal.τ).loc Cert.UpFRefIdeal.main_arg0) = m' ((c.tc : Thread Cert.UpFRefIdeal.nD Cert.UpFRefIdeal.τ).loc Cert.UpFRefIdeal.main_arg0)
          ∧ r.2.mem ((c.tc : Thread Cert.UpFRefIdeal.nD Cert.UpFRefIdeal.τ).loc Cert.UpFRefIdeal.main_arg1) = m' ((c.tc : Thread Cert.UpFRefIdeal.nD Cert.UpFRefIdeal.τ).loc Cert.UpFRefIdeal.main_arg1))

def preserves_In3F_In3FIdeal : Prop :=
  True

def algebraic_In3FIdeal_In3FRefIdeal [hIn3FIdeal : Cert.In3FIdeal.Facts] [hIn3FRefIdeal : Cert.In3FRefIdeal.Facts] : Prop :=
  ∀ (m : (ℓ : Loc Cert.In3FIdeal.nD Cert.In3FIdeal.τ Cert.In3FIdeal.sig) → Buf (Elt Ideal) ℓ) (g : Dev Cert.In3FIdeal.nD → PrngReg)
    (m' : (ℓ : Loc Cert.In3FRefIdeal.nD Cert.In3FRefIdeal.τ Cert.In3FRefIdeal.sig) → Buf (Elt Ideal) ℓ) (g' : Dev Cert.In3FRefIdeal.nD → PrngReg), Pre_In3FIdeal m →
    (∀ c : Dev Cert.In3FIdeal.nD,
      m' ((c.tc : Thread Cert.In3FRefIdeal.nD Cert.In3FRefIdeal.τ).loc Cert.In3FRefIdeal.main_arg0) = m ((c.tc : Thread Cert.In3FIdeal.nD Cert.In3FIdeal.τ).loc Cert.In3FIdeal.main_arg0)
      ∧ m' ((c.tc : Thread Cert.In3FRefIdeal.nD Cert.In3FRefIdeal.τ).loc Cert.In3FRefIdeal.main_arg1) = m ((c.tc : Thread Cert.In3FIdeal.nD Cert.In3FIdeal.τ).loc Cert.In3FIdeal.main_arg1)) →
    ∃ (v0 : (c : Dev Cert.In3FIdeal.nD) → Buf (Elt Ideal) ((c.tc : Thread Cert.In3FIdeal.nD Cert.In3FIdeal.τ).loc Cert.In3FIdeal.main_v0)),
      θ_run (Cert.In3FIdeal.defs (F := Ideal)) (onTc (τ := Cert.In3FIdeal.τ) (Cert.In3FIdeal.main (F := Ideal))) ⟨m, fun _ => 0, g⟩ (fun r => ∀ c : Dev Cert.In3FIdeal.nD,
          r.2.mem ((c.tc : Thread Cert.In3FIdeal.nD Cert.In3FIdeal.τ).loc Cert.In3FIdeal.main_v0) = v0 c
          ∧ r.2.mem ((c.tc : Thread Cert.In3FIdeal.nD Cert.In3FIdeal.τ).loc Cert.In3FIdeal.main_arg0) = m ((c.tc : Thread Cert.In3FIdeal.nD Cert.In3FIdeal.τ).loc Cert.In3FIdeal.main_arg0)
          ∧ r.2.mem ((c.tc : Thread Cert.In3FIdeal.nD Cert.In3FIdeal.τ).loc Cert.In3FIdeal.main_arg1) = m ((c.tc : Thread Cert.In3FIdeal.nD Cert.In3FIdeal.τ).loc Cert.In3FIdeal.main_arg1))
      ∧ θ_run (Cert.In3FRefIdeal.defs (F := Ideal)) (onTc (τ := Cert.In3FRefIdeal.τ) (Cert.In3FRefIdeal.main (F := Ideal))) ⟨m', fun _ => 0, g'⟩ (fun r => ∀ c : Dev Cert.In3FRefIdeal.nD,
          r.2.mem ((c.tc : Thread Cert.In3FRefIdeal.nD Cert.In3FRefIdeal.τ).loc Cert.In3FRefIdeal.main_v2) = v0 c
          ∧ r.2.mem ((c.tc : Thread Cert.In3FRefIdeal.nD Cert.In3FRefIdeal.τ).loc Cert.In3FRefIdeal.main_arg0) = m' ((c.tc : Thread Cert.In3FRefIdeal.nD Cert.In3FRefIdeal.τ).loc Cert.In3FRefIdeal.main_arg0)
          ∧ r.2.mem ((c.tc : Thread Cert.In3FRefIdeal.nD Cert.In3FRefIdeal.τ).loc Cert.In3FRefIdeal.main_arg1) = m' ((c.tc : Thread Cert.In3FRefIdeal.nD Cert.In3FRefIdeal.τ).loc Cert.In3FRefIdeal.main_arg1))

def preserves_In2F_In2FIdeal : Prop :=
  True

def algebraic_In2FIdeal_In2FRefIdeal [hIn2FIdeal : Cert.In2FIdeal.Facts] [hIn2FRefIdeal : Cert.In2FRefIdeal.Facts] : Prop :=
  ∀ (m : (ℓ : Loc Cert.In2FIdeal.nD Cert.In2FIdeal.τ Cert.In2FIdeal.sig) → Buf (Elt Ideal) ℓ) (g : Dev Cert.In2FIdeal.nD → PrngReg)
    (m' : (ℓ : Loc Cert.In2FRefIdeal.nD Cert.In2FRefIdeal.τ Cert.In2FRefIdeal.sig) → Buf (Elt Ideal) ℓ) (g' : Dev Cert.In2FRefIdeal.nD → PrngReg), Pre_In2FIdeal m →
    (∀ c : Dev Cert.In2FIdeal.nD,
      m' ((c.tc : Thread Cert.In2FRefIdeal.nD Cert.In2FRefIdeal.τ).loc Cert.In2FRefIdeal.main_arg0) = m ((c.tc : Thread Cert.In2FIdeal.nD Cert.In2FIdeal.τ).loc Cert.In2FIdeal.main_arg0)
      ∧ m' ((c.tc : Thread Cert.In2FRefIdeal.nD Cert.In2FRefIdeal.τ).loc Cert.In2FRefIdeal.main_arg1) = m ((c.tc : Thread Cert.In2FIdeal.nD Cert.In2FIdeal.τ).loc Cert.In2FIdeal.main_arg1)) →
    ∃ (v0 : (c : Dev Cert.In2FIdeal.nD) → Buf (Elt Ideal) ((c.tc : Thread Cert.In2FIdeal.nD Cert.In2FIdeal.τ).loc Cert.In2FIdeal.main_v0)),
      θ_run (Cert.In2FIdeal.defs (F := Ideal)) (onTc (τ := Cert.In2FIdeal.τ) (Cert.In2FIdeal.main (F := Ideal))) ⟨m, fun _ => 0, g⟩ (fun r => ∀ c : Dev Cert.In2FIdeal.nD,
          r.2.mem ((c.tc : Thread Cert.In2FIdeal.nD Cert.In2FIdeal.τ).loc Cert.In2FIdeal.main_v0) = v0 c
          ∧ r.2.mem ((c.tc : Thread Cert.In2FIdeal.nD Cert.In2FIdeal.τ).loc Cert.In2FIdeal.main_arg0) = m ((c.tc : Thread Cert.In2FIdeal.nD Cert.In2FIdeal.τ).loc Cert.In2FIdeal.main_arg0)
          ∧ r.2.mem ((c.tc : Thread Cert.In2FIdeal.nD Cert.In2FIdeal.τ).loc Cert.In2FIdeal.main_arg1) = m ((c.tc : Thread Cert.In2FIdeal.nD Cert.In2FIdeal.τ).loc Cert.In2FIdeal.main_arg1))
      ∧ θ_run (Cert.In2FRefIdeal.defs (F := Ideal)) (onTc (τ := Cert.In2FRefIdeal.τ) (Cert.In2FRefIdeal.main (F := Ideal))) ⟨m', fun _ => 0, g'⟩ (fun r => ∀ c : Dev Cert.In2FRefIdeal.nD,
          r.2.mem ((c.tc : Thread Cert.In2FRefIdeal.nD Cert.In2FRefIdeal.τ).loc Cert.In2FRefIdeal.main_v2) = v0 c
          ∧ r.2.mem ((c.tc : Thread Cert.In2FRefIdeal.nD Cert.In2FRefIdeal.τ).loc Cert.In2FRefIdeal.main_arg0) = m' ((c.tc : Thread Cert.In2FRefIdeal.nD Cert.In2FRefIdeal.τ).loc Cert.In2FRefIdeal.main_arg0)
          ∧ r.2.mem ((c.tc : Thread Cert.In2FRefIdeal.nD Cert.In2FRefIdeal.τ).loc Cert.In2FRefIdeal.main_arg1) = m' ((c.tc : Thread Cert.In2FRefIdeal.nD Cert.In2FRefIdeal.τ).loc Cert.In2FRefIdeal.main_arg1))

def Claim : Prop :=
  ∃ (hGate : Cert.Gate.Facts) (hGateIdeal : Cert.GateIdeal.Facts) (hGateRefIdeal : Cert.GateRefIdeal.Facts) (hMerge : Cert.Merge.Facts) (hMergeIdeal : Cert.MergeIdeal.Facts) (hMergeRefIdeal : Cert.MergeRefIdeal.Facts) (hSconv : Cert.Sconv.Facts) (hSconvIdeal : Cert.SconvIdeal.Facts) (hSconvRefIdeal : Cert.SconvRefIdeal.Facts) (hRes : Cert.Res.Facts) (hResIdeal : Cert.ResIdeal.Facts) (hResRefIdeal : Cert.ResRefIdeal.Facts) (hRope : Cert.Rope.Facts) (hRopeIdeal : Cert.RopeIdeal.Facts) (hRopeRefIdeal : Cert.RopeRefIdeal.Facts) (hNorm : Cert.Norm.Facts) (hNormIdeal : Cert.NormIdeal.Facts) (hNormRefIdeal : Cert.NormRefIdeal.Facts) (hNormIn : Cert.NormIn.Facts) (hNormInIdeal : Cert.NormInIdeal.Facts) (hNormInRefIdeal : Cert.NormInRefIdeal.Facts) (hNormF : Cert.NormF.Facts) (hNormFIdeal : Cert.NormFIdeal.Facts) (hNormFRefIdeal : Cert.NormFRefIdeal.Facts) (hUpX : Cert.UpX.Facts) (hUpXIdeal : Cert.UpXIdeal.Facts) (hUpXRefIdeal : Cert.UpXRefIdeal.Facts) (hUpW : Cert.UpW.Facts) (hUpWIdeal : Cert.UpWIdeal.Facts) (hUpWRefIdeal : Cert.UpWRefIdeal.Facts) (hDownX : Cert.DownX.Facts) (hDownXIdeal : Cert.DownXIdeal.Facts) (hDownXRefIdeal : Cert.DownXRefIdeal.Facts) (hDownW : Cert.DownW.Facts) (hDownWIdeal : Cert.DownWIdeal.Facts) (hDownWRefIdeal : Cert.DownWRefIdeal.Facts) (hIn3X : Cert.In3X.Facts) (hIn3XIdeal : Cert.In3XIdeal.Facts) (hIn3XRefIdeal : Cert.In3XRefIdeal.Facts) (hIn3W : Cert.In3W.Facts) (hIn3WIdeal : Cert.In3WIdeal.Facts) (hIn3WRefIdeal : Cert.In3WRefIdeal.Facts) (hOutX : Cert.OutX.Facts) (hOutXIdeal : Cert.OutXIdeal.Facts) (hOutXRefIdeal : Cert.OutXRefIdeal.Facts) (hOutW : Cert.OutW.Facts) (hOutWIdeal : Cert.OutWIdeal.Facts) (hOutWRefIdeal : Cert.OutWRefIdeal.Facts) (hIn2X : Cert.In2X.Facts) (hIn2XIdeal : Cert.In2XIdeal.Facts) (hIn2XRefIdeal : Cert.In2XRefIdeal.Facts) (hIn2W : Cert.In2W.Facts) (hIn2WIdeal : Cert.In2WIdeal.Facts) (hIn2WRefIdeal : Cert.In2WRefIdeal.Facts) (hIn1X : Cert.In1X.Facts) (hIn1XIdeal : Cert.In1XIdeal.Facts) (hIn1XRefIdeal : Cert.In1XRefIdeal.Facts) (hIn1W : Cert.In1W.Facts) (hIn1WIdeal : Cert.In1WIdeal.Facts) (hIn1WRefIdeal : Cert.In1WRefIdeal.Facts) (hUpF : Cert.UpF.Facts) (hUpFIdeal : Cert.UpFIdeal.Facts) (hUpFRefIdeal : Cert.UpFRefIdeal.Facts) (hIn3F : Cert.In3F.Facts) (hIn3FIdeal : Cert.In3FIdeal.Facts) (hIn3FRefIdeal : Cert.In3FRefIdeal.Facts) (hIn2F : Cert.In2F.Facts) (hIn2FIdeal : Cert.In2FIdeal.Facts) (hIn2FRefIdeal : Cert.In2FRefIdeal.Facts) (hPre_gate_finite : Cert.Pre_gate_finite.Facts) (hPre_norm_finite : Cert.Pre_norm_finite.Facts) (hPre_normin_finite : Cert.Pre_normin_finite.Facts),
    quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_Merge (hMerge := hMerge)
    ∧ quiescent_MergeIdeal (hMergeIdeal := hMergeIdeal)
    ∧ quiescent_MergeRefIdeal (hMergeRefIdeal := hMergeRefIdeal)
    ∧ quiescent_Sconv (hSconv := hSconv)
    ∧ quiescent_SconvIdeal (hSconvIdeal := hSconvIdeal)
    ∧ quiescent_SconvRefIdeal (hSconvRefIdeal := hSconvRefIdeal)
    ∧ quiescent_Res (hRes := hRes)
    ∧ quiescent_ResIdeal (hResIdeal := hResIdeal)
    ∧ quiescent_ResRefIdeal (hResRefIdeal := hResRefIdeal)
    ∧ quiescent_Rope (hRope := hRope)
    ∧ quiescent_RopeIdeal (hRopeIdeal := hRopeIdeal)
    ∧ quiescent_RopeRefIdeal (hRopeRefIdeal := hRopeRefIdeal)
    ∧ quiescent_Norm (hNorm := hNorm)
    ∧ quiescent_NormIdeal (hNormIdeal := hNormIdeal)
    ∧ quiescent_NormIdeal_pre_norm_finite (hNormIdeal := hNormIdeal) (hPre_norm_finite := hPre_norm_finite)
    ∧ quiescent_NormRefIdeal (hNormRefIdeal := hNormRefIdeal)
    ∧ quiescent_NormRefIdeal_pre_norm_finite (hNormRefIdeal := hNormRefIdeal) (hPre_norm_finite := hPre_norm_finite)
    ∧ quiescent_NormIn (hNormIn := hNormIn)
    ∧ quiescent_NormInIdeal (hNormInIdeal := hNormInIdeal)
    ∧ quiescent_NormInIdeal_pre_normin_finite (hNormInIdeal := hNormInIdeal) (hPre_normin_finite := hPre_normin_finite)
    ∧ quiescent_NormInRefIdeal (hNormInRefIdeal := hNormInRefIdeal)
    ∧ quiescent_NormInRefIdeal_pre_normin_finite (hNormInRefIdeal := hNormInRefIdeal) (hPre_normin_finite := hPre_normin_finite)
    ∧ quiescent_NormF (hNormF := hNormF)
    ∧ quiescent_NormFIdeal (hNormFIdeal := hNormFIdeal)
    ∧ quiescent_NormFRefIdeal (hNormFRefIdeal := hNormFRefIdeal)
    ∧ quiescent_UpX (hUpX := hUpX)
    ∧ quiescent_UpXIdeal (hUpXIdeal := hUpXIdeal)
    ∧ quiescent_UpXRefIdeal (hUpXRefIdeal := hUpXRefIdeal)
    ∧ quiescent_UpW (hUpW := hUpW)
    ∧ quiescent_UpWIdeal (hUpWIdeal := hUpWIdeal)
    ∧ quiescent_UpWRefIdeal (hUpWRefIdeal := hUpWRefIdeal)
    ∧ quiescent_DownX (hDownX := hDownX)
    ∧ quiescent_DownXIdeal (hDownXIdeal := hDownXIdeal)
    ∧ quiescent_DownXRefIdeal (hDownXRefIdeal := hDownXRefIdeal)
    ∧ quiescent_DownW (hDownW := hDownW)
    ∧ quiescent_DownWIdeal (hDownWIdeal := hDownWIdeal)
    ∧ quiescent_DownWRefIdeal (hDownWRefIdeal := hDownWRefIdeal)
    ∧ quiescent_In3X (hIn3X := hIn3X)
    ∧ quiescent_In3XIdeal (hIn3XIdeal := hIn3XIdeal)
    ∧ quiescent_In3XRefIdeal (hIn3XRefIdeal := hIn3XRefIdeal)
    ∧ quiescent_In3W (hIn3W := hIn3W)
    ∧ quiescent_In3WIdeal (hIn3WIdeal := hIn3WIdeal)
    ∧ quiescent_In3WRefIdeal (hIn3WRefIdeal := hIn3WRefIdeal)
    ∧ quiescent_OutX (hOutX := hOutX)
    ∧ quiescent_OutXIdeal (hOutXIdeal := hOutXIdeal)
    ∧ quiescent_OutXRefIdeal (hOutXRefIdeal := hOutXRefIdeal)
    ∧ quiescent_OutW (hOutW := hOutW)
    ∧ quiescent_OutWIdeal (hOutWIdeal := hOutWIdeal)
    ∧ quiescent_OutWRefIdeal (hOutWRefIdeal := hOutWRefIdeal)
    ∧ quiescent_In2X (hIn2X := hIn2X)
    ∧ quiescent_In2XIdeal (hIn2XIdeal := hIn2XIdeal)
    ∧ quiescent_In2XRefIdeal (hIn2XRefIdeal := hIn2XRefIdeal)
    ∧ quiescent_In2W (hIn2W := hIn2W)
    ∧ quiescent_In2WIdeal (hIn2WIdeal := hIn2WIdeal)
    ∧ quiescent_In2WRefIdeal (hIn2WRefIdeal := hIn2WRefIdeal)
    ∧ quiescent_In1X (hIn1X := hIn1X)
    ∧ quiescent_In1XIdeal (hIn1XIdeal := hIn1XIdeal)
    ∧ quiescent_In1XRefIdeal (hIn1XRefIdeal := hIn1XRefIdeal)
    ∧ quiescent_In1W (hIn1W := hIn1W)
    ∧ quiescent_In1WIdeal (hIn1WIdeal := hIn1WIdeal)
    ∧ quiescent_In1WRefIdeal (hIn1WRefIdeal := hIn1WRefIdeal)
    ∧ quiescent_UpF (hUpF := hUpF)
    ∧ quiescent_UpFIdeal (hUpFIdeal := hUpFIdeal)
    ∧ quiescent_UpFRefIdeal (hUpFRefIdeal := hUpFRefIdeal)
    ∧ quiescent_In3F (hIn3F := hIn3F)
    ∧ quiescent_In3FIdeal (hIn3FIdeal := hIn3FIdeal)
    ∧ quiescent_In3FRefIdeal (hIn3FRefIdeal := hIn3FRefIdeal)
    ∧ quiescent_In2F (hIn2F := hIn2F)
    ∧ quiescent_In2FIdeal (hIn2FIdeal := hIn2FIdeal)
    ∧ quiescent_In2FRefIdeal (hIn2FRefIdeal := hIn2FRefIdeal)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_Merge_MergeIdeal
    ∧ algebraic_MergeIdeal_MergeRefIdeal (hMergeIdeal := hMergeIdeal) (hMergeRefIdeal := hMergeRefIdeal)
    ∧ preserves_Sconv_SconvIdeal
    ∧ algebraic_SconvIdeal_SconvRefIdeal (hSconvIdeal := hSconvIdeal) (hSconvRefIdeal := hSconvRefIdeal)
    ∧ preserves_Res_ResIdeal
    ∧ algebraic_ResIdeal_ResRefIdeal (hResIdeal := hResIdeal) (hResRefIdeal := hResRefIdeal)
    ∧ preserves_Rope_RopeIdeal
    ∧ algebraic_RopeIdeal_RopeRefIdeal (hRopeIdeal := hRopeIdeal) (hRopeRefIdeal := hRopeRefIdeal)
    ∧ preserves_Norm_NormIdeal
    ∧ algebraic_NormIdeal_NormRefIdeal_pre_norm_finite (hNormIdeal := hNormIdeal) (hNormRefIdeal := hNormRefIdeal) (hPre_norm_finite := hPre_norm_finite)
    ∧ preserves_NormIn_NormInIdeal
    ∧ algebraic_NormInIdeal_NormInRefIdeal_pre_normin_finite (hNormInIdeal := hNormInIdeal) (hNormInRefIdeal := hNormInRefIdeal) (hPre_normin_finite := hPre_normin_finite)
    ∧ preserves_NormF_NormFIdeal
    ∧ algebraic_NormFIdeal_NormFRefIdeal (hNormFIdeal := hNormFIdeal) (hNormFRefIdeal := hNormFRefIdeal)
    ∧ preserves_UpX_UpXIdeal
    ∧ algebraic_UpXIdeal_UpXRefIdeal (hUpXIdeal := hUpXIdeal) (hUpXRefIdeal := hUpXRefIdeal)
    ∧ preserves_UpW_UpWIdeal
    ∧ algebraic_UpWIdeal_UpWRefIdeal (hUpWIdeal := hUpWIdeal) (hUpWRefIdeal := hUpWRefIdeal)
    ∧ preserves_DownX_DownXIdeal
    ∧ algebraic_DownXIdeal_DownXRefIdeal (hDownXIdeal := hDownXIdeal) (hDownXRefIdeal := hDownXRefIdeal)
    ∧ preserves_DownW_DownWIdeal
    ∧ algebraic_DownWIdeal_DownWRefIdeal (hDownWIdeal := hDownWIdeal) (hDownWRefIdeal := hDownWRefIdeal)
    ∧ preserves_In3X_In3XIdeal
    ∧ algebraic_In3XIdeal_In3XRefIdeal (hIn3XIdeal := hIn3XIdeal) (hIn3XRefIdeal := hIn3XRefIdeal)
    ∧ preserves_In3W_In3WIdeal
    ∧ algebraic_In3WIdeal_In3WRefIdeal (hIn3WIdeal := hIn3WIdeal) (hIn3WRefIdeal := hIn3WRefIdeal)
    ∧ preserves_OutX_OutXIdeal
    ∧ algebraic_OutXIdeal_OutXRefIdeal (hOutXIdeal := hOutXIdeal) (hOutXRefIdeal := hOutXRefIdeal)
    ∧ preserves_OutW_OutWIdeal
    ∧ algebraic_OutWIdeal_OutWRefIdeal (hOutWIdeal := hOutWIdeal) (hOutWRefIdeal := hOutWRefIdeal)
    ∧ preserves_In2X_In2XIdeal
    ∧ algebraic_In2XIdeal_In2XRefIdeal (hIn2XIdeal := hIn2XIdeal) (hIn2XRefIdeal := hIn2XRefIdeal)
    ∧ preserves_In2W_In2WIdeal
    ∧ algebraic_In2WIdeal_In2WRefIdeal (hIn2WIdeal := hIn2WIdeal) (hIn2WRefIdeal := hIn2WRefIdeal)
    ∧ preserves_In1X_In1XIdeal
    ∧ algebraic_In1XIdeal_In1XRefIdeal (hIn1XIdeal := hIn1XIdeal) (hIn1XRefIdeal := hIn1XRefIdeal)
    ∧ preserves_In1W_In1WIdeal
    ∧ algebraic_In1WIdeal_In1WRefIdeal (hIn1WIdeal := hIn1WIdeal) (hIn1WRefIdeal := hIn1WRefIdeal)
    ∧ preserves_UpF_UpFIdeal
    ∧ algebraic_UpFIdeal_UpFRefIdeal (hUpFIdeal := hUpFIdeal) (hUpFRefIdeal := hUpFRefIdeal)
    ∧ preserves_In3F_In3FIdeal
    ∧ algebraic_In3FIdeal_In3FRefIdeal (hIn3FIdeal := hIn3FIdeal) (hIn3FRefIdeal := hIn3FRefIdeal)
    ∧ preserves_In2F_In2FIdeal
    ∧ algebraic_In2FIdeal_In2FRefIdeal (hIn2FIdeal := hIn2FIdeal) (hIn2FRefIdeal := hIn2FRefIdeal)
-- ==== Pre_gate_finite.lean ====
abbrev S8448x2048 : Shape := ⟨2, ![8448, 2048]⟩
abbrev S8448x1024 : Shape := ⟨2, ![8448, 1024]⟩
abbrev S8x128x128 : Shape := ⟨3, ![8, 128, 128]⟩
abbrev S8x128 : Shape := ⟨2, ![8, 128]⟩
abbrev S1024 : Shape := ⟨1, ![1024]⟩
abbrev S_ : Shape := ⟨0, ![]⟩

class Facts : Prop where
  bcast_S_S8448x2048 : S_.BroadcastsInDim S8448x2048 (![] : Fin 0 → Fin S8448x2048.rank)
  bcast_S_S8448x1024 : S_.BroadcastsInDim S8448x1024 (![] : Fin 0 → Fin S8448x1024.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S1024 : S_.BroadcastsInDim S1024 (![] : Fin 0 → Fin S1024.rank)

variable [Facts]

def fn {F : FTy → Type} [FloatOps F] (main_arg0 : FVec F S8448x2048 .f32) (main_arg1 : FVec F S8448x1024 .f32) (main_arg2 : FVec F S8x128x128 .f32) (main_arg3 : FVec F S8x128 .f32) (main_arg4 : FVec F S1024 .f32) : IVec S8448x2048 1 × IVec S8448x1024 1 × IVec S8x128x128 1 × IVec S8x128 1 × IVec S1024 1 :=
  let main_v0 : FVec F S8448x2048 .f32 := Host.absf main_arg0
  let main_cst : FVec F S_ .f32 := constant S_ .f32 0x7F800000#32
  let main_v1 : FVec F S8448x2048 .f32 := broadcastInDim S8448x2048 ![] bcast_S_S8448x2048 main_cst
  let main_v2 : IVec S8448x2048 1 := cmpf .olt main_v0 main_v1
  let main_v3 : FVec F S8448x1024 .f32 := Host.absf main_arg1
  let main_cst_0 : FVec F S_ .f32 := constant S_ .f32 0x7F800000#32
  let main_v4 : FVec F S8448x1024 .f32 := broadcastInDim S8448x1024 ![] bcast_S_S8448x1024 main_cst_0
  let main_v5 : IVec S8448x1024 1 := cmpf .olt main_v3 main_v4
  let main_v6 : FVec F S8x128x128 .f32 := Host.absf main_arg2
  let main_cst_1 : FVec F S_ .f32 := constant S_ .f32 0x7F800000#32
  let main_v7 : FVec F S8x128x128 .f32 := broadcastInDim S8x128x128 ![] bcast_S_S8x128x128 main_cst_1
  let main_v8 : IVec S8x128x128 1 := cmpf .olt main_v6 main_v7
  let main_v9 : FVec F S8x128 .f32 := Host.absf main_arg3
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  (main_v2, main_v5, main_v8, main_v11, main_v14)
-- ==== Pre_norm_finite.lean ====
abbrev S8448x1024 : Shape := ⟨2, ![8448, 1024]⟩
abbrev S1024 : Shape := ⟨1, ![1024]⟩
abbrev S8x6144 : Shape := ⟨2, ![8, 6144]⟩
abbrev S_ : Shape := ⟨0, ![]⟩

class Facts : Prop where
  bcast_S_S8448x1024 : S_.BroadcastsInDim S8448x1024 (![] : Fin 0 → Fin S8448x1024.rank)
  bcast_S_S1024 : S_.BroadcastsInDim S1024 (![] : Fin 0 → Fin S1024.rank)
  bcast_S_S8x6144 : S_.BroadcastsInDim S8x6144 (![] : Fin 0 → Fin S8x6144.rank)

variable [Facts]

def fn {F : FTy → Type} [FloatOps F] (main_arg0 : FVec F S8448x1024 .f32) (main_arg1 : FVec F S8448x1024 .f32) (main_arg2 : FVec F S8448x1024 .f32) (main_arg3 : FVec F S8448x1024 .f32) (main_arg4 : FVec F S1024 .f32) (main_arg5 : FVec F S8x6144 .f32) : IVec S8448x1024 1 × IVec S8448x1024 1 × IVec S1024 1 × IVec S8x6144 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_v3 : FVec F S8448x1024 .f32 := Host.absf main_arg1
  let main_cst_0 : FVec F S_ .f32 := constant S_ .f32 0x7F800000#32
  let main_v4 : FVec F S8448x1024 .f32 := broadcastInDim S8448x1024 ![] bcast_S_S8448x1024 main_cst_0
  let main_v5 : IVec S8448x1024 1 := cmpf .olt main_v3 main_v4
  let main_v6 : FVec F S1024 .f32 := Host.absf main_arg4
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S8x6144 .f32 := Host.absf main_arg5
  let main_cst_2 : FVec F S_ .f32 := constant S_ .f32 0x7F800000#32
  let main_v10 : FVec F S8x6144 .f32 := broadcastInDim S8x6144 ![] bcast_S_S8x6144 main_cst_2
  let main_v11 : IVec S8x6144 1 := cmpf .olt main_v9 main_v10
  (main_v2, main_v5, main_v8, main_v11)
-- ==== Pre_normin_finite.lean ====
abbrev S8448x1024 : Shape := ⟨2, ![8448, 1024]⟩
abbrev S1024 : Shape := ⟨1, ![1024]⟩
abbrev S8x6144 : Shape := ⟨2, ![8, 6144]⟩
abbrev S_ : Shape := ⟨0, ![]⟩

class Facts : Prop where
  bcast_S_S8448x1024 : S_.BroadcastsInDim S8448x1024 (![] : Fin 0 → Fin S8448x1024.rank)
  bcast_S_S1024 : S_.BroadcastsInDim S1024 (![] : Fin 0 → Fin S1024.rank)
  bcast_S_S8x6144 : S_.BroadcastsInDim S8x6144 (![] : Fin 0 → Fin S8x6144.rank)

variable [Facts]

def fn_part1 {F : FTy → Type} [FloatOps F] (main_arg7 : FVec F S8x6144 .f32) (main_v2 : IVec S8448x1024 1) (main_v5 : IVec S8448x1024 1) (main_v8 : IVec S8448x1024 1) (main_v11 : IVec S8448x1024 1) (main_v14 : IVec S8448x1024 1) (main_v17 : IVec S1024 1) : IVec S8448x1024 1 × IVec S8448x1024 1 × IVec S8448x1024 1 × IVec S8448x1024 1 × IVec S8448x1024 1 × IVec S1024 1 × IVec S8x6144 1 :=
  let main_v18 : FVec F S8x6144 .f32 := Host.absf main_arg7
  let main_cst_5 : FVec F S_ .f32 := constant S_ .f32 0x7F800000#32
  let main_v19 : FVec F S8x6144 .f32 := broadcastInDim S8x6144 ![] bcast_S_S8x6144 main_cst_5
  let main_v20 : IVec S8x6144 1 := cmpf .olt main_v18 main_v19
  (main_v2, main_v5, main_v8, main_v11, main_v14, main_v17, main_v20)

def fn {F : FTy → Type} [FloatOps F] (main_arg0 : FVec F S8448x1024 .f32) (main_arg1 : FVec F S8448x1024 .f32) (main_arg2 : FVec F S8448x1024 .f32) (main_arg3 : FVec F S8448x1024 .f32) (main_arg4 : FVec F S8448x1024 .f32) (main_arg5 : FVec F S8448x1024 .f32) (main_arg6 : FVec F S1024 .f32) (main_arg7 : FVec F S8x6144 .f32) : IVec S8448x1024 1 × IVec S8448x1024 1 × IVec S8448x1024 1 × IVec S8448x1024 1 × IVec S8448x1024 1 × IVec S1024 1 × IVec S8x6144 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_v3 : FVec F S8448x1024 .f32 := Host.absf main_arg1
  let main_cst_0 : FVec F S_ .f32 := constant S_ .f32 0x7F800000#32
  let main_v4 : FVec F S8448x1024 .f32 := broadcastInDim S8448x1024 ![] bcast_S_S8448x1024 main_cst_0
  let main_v5 : IVec S8448x1024 1 := cmpf .olt main_v3 main_v4
  let main_v6 : FVec F S8448x1024 .f32 := Host.absf main_arg2
  let main_cst_1 : FVec F S_ .f32 := constant S_ .f32 0x7F800000#32
  let main_v7 : FVec F S8448x1024 .f32 := broadcastInDim S8448x1024 ![] bcast_S_S8448x1024 main_cst_1
  let main_v8 : IVec S8448x1024 1 := cmpf .olt main_v6 main_v7
  let main_v9 : FVec F S8448x1024 .f32 := Host.absf main_arg3
  let main_cst_2 : FVec F S_ .f32 := constant S_ .f32 0x7F800000#32
  let main_v10 : FVec F S8448x1024 .f32 := broadcastInDim S8448x1024 ![] bcast_S_S8448x1024 main_cst_2
  let main_v11 : IVec S8448x1024 1 := cmpf .olt main_v9 main_v10
  let main_v12 : FVec F S8448x1024 .f32 := Host.absf main_arg4
  let main_cst_3 : FVec F S_ .f32 := constant S_ .f32 0x7F800000#32
  let main_v13 : FVec F S8448x1024 .f32 := broadcastInDim S8448x1024 ![] bcast_S_S8448x1024 main_cst_3
  let main_v14 : IVec S8448x1024 1 := cmpf .olt main_v12 main_v13
  let main_v15 : FVec F S1024 .f32 := Host.absf main_arg6
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg7 main_v2 main_v5 main_v8 main_v11 main_v14 main_v17
-- ==== Gate.lean ====
abbrev S8448x2048 : Shape := ⟨2, ![8448, 2048]⟩
abbrev S8448x1024 : Shape := ⟨2, ![8448, 1024]⟩
abbrev S8x128x128 : Shape := ⟨3, ![8, 128, 128]⟩
abbrev S8x128 : Shape := ⟨2, ![8, 128]⟩
abbrev S1024 : Shape := ⟨1, ![1024]⟩
abbrev S8x128x1 : Shape := ⟨3, ![8, 128, 1]⟩
abbrev S1x1024 : Shape := ⟨2, ![1, 1024]⟩
abbrev S8x1024 : Shape := ⟨2, ![8, 1024]⟩
abbrev S128x2048 : Shape := ⟨2, ![128, 2048]⟩
abbrev S128x1024 : Shape := ⟨2, ![128, 1024]⟩
abbrev S128 : Shape := ⟨1, ![128]⟩
abbrev S128x1 : Shape := ⟨2, ![128, 1]⟩
abbrev S1x128x128 : Shape := ⟨3, ![1, 128, 128]⟩
abbrev S128x128 : Shape := ⟨2, ![128, 128]⟩

abbrev nBuf : Space → Nat
  | .hbm => 12
  | .vmem => 12
  | .smem => 0
  | _ => 0

abbrev bufTy : (tb : Table) → Fin (tcTables nBuf tb) → BufTy
  | .hbm, ⟨0, _⟩ => ⟨S8448x2048, .f32⟩
  | .hbm, ⟨1, _⟩ => ⟨S8448x1024, .f32⟩
  | .hbm, ⟨2, _⟩ => ⟨S8x128x128, .f32⟩
  | .hbm, ⟨3, _⟩ => ⟨S8x128, .f32⟩
  | .hbm, ⟨4, _⟩ => ⟨S1024, .f32⟩
  | .hbm, ⟨5, _⟩ => ⟨S8x128x1, .f32⟩
  | .hbm, ⟨6, _⟩ => ⟨S8x128x128, .f32⟩
  | .hbm, ⟨7, _⟩ => ⟨S1x1024, .f32⟩
  | .hbm, ⟨8, _⟩ => ⟨S8448x2048, .bf16⟩
  | .hbm, ⟨9, _⟩ => ⟨S8x128x128, .f32⟩
  | .hbm, ⟨10, _⟩ => ⟨S8x128x128, .f32⟩
  | .hbm, ⟨11, _⟩ => ⟨S8x1024, .f32⟩
  | .local _ .vmem, ⟨0, _⟩ => ⟨S128x2048, .f32⟩
  | .local _ .vmem, ⟨1, _⟩ => ⟨S128x2048, .f32⟩
  | .local _ .vmem, ⟨2, _⟩ => ⟨S128x1024, .f32⟩
  | .local _ .vmem, ⟨3, _⟩ => ⟨S128x1024, .f32⟩
  | .local _ .vmem, ⟨4, _⟩ => ⟨S8x128x128, .f32⟩
  | .local _ .vmem, ⟨5, _⟩ => ⟨S8x128x128, .f32⟩
  | .local _ .vmem, ⟨6, _⟩ => ⟨S1x1024, .f32⟩
  | .local _ .vmem, ⟨7, _⟩ => ⟨S128x2048, .bf16⟩
  | .local _ .vmem, ⟨8, _⟩ => ⟨S128x2048, .bf16⟩
  | .local _ .vmem, ⟨9, _⟩ => ⟨S8x128x128, .f32⟩
  | .local _ .vmem, ⟨10, _⟩ => ⟨S8x128x128, .f32⟩
  | .local _ .vmem, ⟨11, _⟩ => ⟨S8x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== GateIdeal.lean ====
variable {F : FTy → Type} [FloatOps F] [Named F]
def κ : String → Option EReal := fun
  | "cubic" => some ((8943 / 200000 : ℝ) : EReal)
  | "cubic3" => some ((26829 / 200000 : ℝ) : EReal)
  | _ => none
-- ==== GateRefIdeal.lean ====
abbrev S8448x2048 : Shape := ⟨2, ![8448, 2048]⟩
abbrev S8448x1024 : Shape := ⟨2, ![8448, 1024]⟩
abbrev S8x128x128 : Shape := ⟨3, ![8, 128, 128]⟩
abbrev S8x128 : Shape := ⟨2, ![8, 128]⟩
abbrev S1024 : Shape := ⟨1, ![1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S66x128x8x128 : Shape := ⟨4, ![66, 128, 8, 128]⟩
abbrev S8x66x128x128 : Shape := ⟨4, ![8, 66, 128, 128]⟩
abbrev S128x8 : Shape := ⟨2, ![128, 8]⟩
abbrev S1x128x8x1 : Shape := ⟨4, ![1, 128, 8, 1]⟩
abbrev S8x128x1 : Shape := ⟨3, ![8, 128, 1]⟩
abbrev S8x1024 : Shape := ⟨2, ![8, 1024]⟩

abbrev nBuf : Space → Nat
  | .hbm => 137
  | .vmem => 0
  | .smem => 0
  | _ => 0

abbrev hbmTy0_0 (i : Nat) : BufTy := match i % 128 with
  | 0 => ⟨S8448x2048, .f32⟩
  | 1 => ⟨S8448x1024, .f32⟩
  | 2 => ⟨S8x128x128, .f32⟩
  | 3 => ⟨S8x128, .f32⟩
  | 4 => ⟨S1024, .f32⟩
  | 5 => ⟨S_, .f32⟩
  | 6 => ⟨S8448x2048, .f32⟩
  | 7 => ⟨S8448x2048, .f32⟩
  | 8 => ⟨S8448x2048, .f32⟩
  | 9 => ⟨S8448x2048, .f32⟩
  | 10 => ⟨S_, .f32⟩
  | 11 => ⟨S8448x2048, .f32⟩
  | 12 => ⟨S8448x2048, .f32⟩
  | 13 => ⟨S_, .f32⟩
  | 14 => ⟨S8448x2048, .f32⟩
  | 15 => ⟨S8448x2048, .f32⟩
  | 16 => ⟨S8448x2048, .f32⟩
  | 17 => ⟨S_, .f32⟩
  | 18 => ⟨S8448x2048, .f32⟩
  | 19 => ⟨S8448x2048, .f32⟩
  | 20 => ⟨S8448x2048, .f32⟩
  | 21 => ⟨S_, .f32⟩
  | 22 => ⟨S8448x2048, .f32⟩
  | 23 => ⟨S8448x2048, .f32⟩
  | 24 => ⟨S_, .f32⟩
  | 25 => ⟨S8448x2048, .f32⟩
  | 26 => ⟨S8448x2048, .f32⟩
  | 27 => ⟨S8448x2048, .f32⟩
  | 28 => ⟨S_, .f32⟩
  | 29 => ⟨S8448x2048, .f32⟩
  | 30 => ⟨S8448x2048, .f32⟩
  | 31 => ⟨S8448x2048, .f32⟩
  | 32 => ⟨S8448x1024, .f32⟩
  | 33 => ⟨S8448x1024, .f32⟩
  | 34 => ⟨S8448x1024, .f32⟩
  | 35 => ⟨S_, .f32⟩
  | 36 => ⟨S8448, .f32⟩
  | 37 => ⟨S8448x1, .f32⟩
  | 38 => ⟨S_, .f32⟩
  | 39 => ⟨S8448x1, .f32⟩
  | 40 => ⟨S8448x1, .f32⟩
  | 41 => ⟨S_, .f32⟩
  | 42 => ⟨S8448x1, .f32⟩
  | 43 => ⟨S8448x1, .f32⟩
  | 44 => ⟨S8448x1, .f32⟩
  | 45 => ⟨S8448x1, .f32⟩
  | 46 => ⟨S_, .f32⟩
  | 47 => ⟨S8448x1, .f32⟩
  | 48 => ⟨S8448x1, .f32⟩
  | 49 => ⟨S8448x1024, .f32⟩
  | 50 => ⟨S8448x1024, .f32⟩
  | 51 => ⟨S1x1024, .f32⟩
  | 52 => ⟨S8448x1024, .f32⟩
  | 53 => ⟨S8448x1024, .f32⟩
  | 54 => ⟨S66x128x8x128, .f32⟩
  | 55 => ⟨S8x66x128x128, .f32⟩
  | 56 => ⟨S66x128x8x128, .f32⟩
  | 57 => ⟨S128x8, .f32⟩
  | 58 => ⟨S1x128x8x1, .f32⟩
  | 59 => ⟨S66x128x8x128, .f32⟩
  | 60 => ⟨S66x128x8x128, .f32⟩
  | 61 => ⟨S8448x1024, .f32⟩
  | 62 => ⟨S8448x1024, .f32⟩
  | 63 => ⟨S8448x1024, .f32⟩
  | 64 => ⟨S8448x1024, .f32⟩
  | 65 => ⟨S66x128x8x128, .f32⟩
  | 66 => ⟨S_, .f32⟩
  | 67 => ⟨S128x8, .f32⟩
  | 68 => ⟨S1x128x8x1, .f32⟩
  | 69 => ⟨S_, .f32⟩
  | 70 => ⟨S128x8, .f32⟩
  | 71 => ⟨S8x128, .f32⟩
  | 72 => ⟨S8x66x128x128, .f32⟩
  | 73 => ⟨S8x128x128, .f32⟩
  | 74 => ⟨S8x66x128x128, .f32⟩
  | 75 => ⟨S66x128x8x128, .f32⟩
  | 76 => ⟨S8448x1024, .f32⟩
  | 77 => ⟨S8448x1024, .f32⟩
  | 78 => ⟨S_, .f32⟩
  | 79 => ⟨S1024, .f32⟩
  | 80 => ⟨S1x1024, .f32⟩
  | 81 => ⟨S8448x1024, .f32⟩
  | 82 => ⟨S8448x1024, .f32⟩
  | 83 => ⟨S_, .f32⟩
  | 84 => ⟨S1024, .f32⟩
  | 85 => ⟨S8448x1024, .f32⟩
  | 86 => ⟨S_, .f32⟩
  | 87 => ⟨S8448, .f32⟩
  | 88 => ⟨S8448x1, .f32⟩
  | 89 => ⟨S8448x1024, .f32⟩
  | 90 => ⟨S8448x1024, .f32⟩
  | 91 => ⟨S8448x1, .f32⟩
  | 92 => ⟨S_, .f32⟩
  | 93 => ⟨S8448x1, .f32⟩
  | 94 => ⟨S8448x1, .f32⟩
  | 95 => ⟨S_, .f32⟩
  | 96 => ⟨S8448, .f32⟩
  | 97 => ⟨S8448x1024, .f32⟩
  | 98 => ⟨S8448x1024, .f32⟩
  | 99 => ⟨S8448x1024, .f32⟩
  | 100 => ⟨S8448x1024, .f32⟩
  | 101 => ⟨S8448x1024, .f32⟩
  | 102 => ⟨S_, .f32⟩
  | 103 => ⟨S8448x2048, .f32⟩
  | 104 => ⟨S_, .f32⟩
  | 105 => ⟨S8448x2048, .f32⟩
  | 106 => ⟨S8448x2048, .f32⟩
  | 107 => ⟨S8448x2048, .f32⟩
  | 108 => ⟨S8448x2048, .f32⟩
  | 109 => ⟨S8448x2048, .f32⟩
  | 110 => ⟨S_, .f32⟩
  | 111 => ⟨S8448x2048, .f32⟩
  | 112 => ⟨S8448x2048, .f32⟩
  | 113 => ⟨S_, .f32⟩
  | 114 => ⟨S8448x2048, .f32⟩
  | 115 => ⟨S8448x2048, .f32⟩
  | 116 => ⟨S_, .f32⟩
  | 117 => ⟨S8448x2048, .f32⟩
  | 118 => ⟨S8448x2048, .f32⟩
  | 119 => ⟨S8448x2048, .f32⟩
  | 120 => ⟨S8448x2048, .f32⟩
  | 121 => ⟨S8448x2048, .f32⟩
  | 122 => ⟨S8448x2048, .f32⟩
  | 123 => ⟨S8448x2048, .f32⟩
  | 124 => ⟨S8448x2048, .f32⟩
  | 125 => ⟨S8448x2048, .f32⟩
  | 126 => ⟨S_, .f32⟩
  | 127 => ⟨S8448x2048, .f32⟩
  | _ => ⟨S8448x2048, .f32⟩

abbrev hbmTy0_1 (i : Nat) : BufTy := match i % 128 with
  | 0 => ⟨S8448x2048, .f32⟩
  | 1 => ⟨S8448x2048, .f32⟩
  | 2 => ⟨S8448x2048, .bf16⟩
  | 3 => ⟨S8x128x1, .f32⟩
  | 4 => ⟨S8x128x128, .f32⟩
  | 5 => ⟨S1x1024, .f32⟩
  | 6 => ⟨S_, .i32⟩
  | 7 => ⟨S_, .f32⟩
  | 8 => ⟨S8x1024, .f32⟩
  | _ => ⟨S8448x2048, .f32⟩

abbrev hbmTy (i : Nat) : BufTy := match i / 128 with
  | 0 => hbmTy0_0 i
  | 1 => hbmTy0_1 i
  | _ => ⟨S8448x2048, .f32⟩

abbrev bufTy : (tb : Table) → Fin (tcTables nBuf tb) → BufTy
  | .hbm, ⟨i, _⟩ => hbmTy i
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_10 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_12 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_13 : Ref sig .tc := ⟨.hbm, 83, rfl⟩
abbrev main_v64 : Ref sig .tc := ⟨.hbm, 84, rfl⟩
abbrev main_v65 : Ref sig .tc := ⟨.hbm, 85, rfl⟩
abbrev main_cst_14 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_15 : Ref sig .tc := ⟨.hbm, 92, rfl⟩
abbrev main_v71 : Ref sig .tc := ⟨.hbm, 93, rfl⟩
abbrev main_v72 : Ref sig .tc := ⟨.hbm, 94, rfl⟩
abbrev main_cst_16 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_17 : Ref sig .tc := ⟨.hbm, 102, rfl⟩
abbrev main_v79 : Ref sig .tc := ⟨.hbm, 103, rfl⟩
abbrev main_cst_18 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_19 : Ref sig .tc := ⟨.hbm, 110, rfl⟩
abbrev main_v85 : Ref sig .tc := ⟨.hbm, 111, rfl⟩
abbrev main_v86 : Ref sig .tc := ⟨.hbm, 112, rfl⟩
abbrev main_cst_20 : Ref sig .tc := ⟨.hbm, 113, rfl⟩
abbrev main_v87 : Ref sig .tc := ⟨.hbm, 114, rfl⟩
abbrev main_v88 : Ref sig .tc := ⟨.hbm, 115, rfl⟩
abbrev main_cst_21 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_22 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_c : Ref sig .tc := ⟨.hbm, 134, rfl⟩
abbrev main_call0_v0 : Ref sig .tc := ⟨.hbm, 135, rfl⟩
abbrev main_v105 : Ref sig .tc := ⟨.hbm, 136, rfl⟩

abbrev nD : Nat := 1
abbrev τ : Topo := Topo.v7x

variable {F : FTy → Type} [FloatOps F]
-- ==== Merge.lean ====
abbrev S8448x1024 : Shape := ⟨2, ![8448, 1024]⟩
abbrev S3x8448x1024 : Shape := ⟨3, ![3, 8448, 1024]⟩
abbrev S8448x3072 : Shape := ⟨2, ![8448, 3072]⟩
abbrev S3072 : Shape := ⟨1, ![3072]⟩
abbrev S1x3072 : Shape := ⟨2, ![1, 3072]⟩
abbrev S8x3072 : Shape := ⟨2, ![8, 3072]⟩
abbrev S256x1024 : Shape := ⟨2, ![256, 1024]⟩
abbrev S1x256x1024 : Shape := ⟨3, ![1, 256, 1024]⟩
abbrev S256x3072 : Shape := ⟨2, ![256, 3072]⟩
abbrev S1x1024 : Shape := ⟨2, ![1, 1024]⟩
abbrev S1024 : Shape := ⟨1, ![1024]⟩

abbrev nBuf : Space → Nat
  | .hbm => 10
  | .vmem => 20
  | .smem => 0
  | _ => 0

abbrev bufTy : (tb : Table) → Fin (tcTables nBuf tb) → BufTy
  | .hbm, ⟨0, _⟩ => ⟨S8448x1024, .f32⟩
  | .hbm, ⟨1, _⟩ => ⟨S3x8448x1024, .f32⟩
  | .hbm, ⟨2, _⟩ => ⟨S8448x3072, .f32⟩
  | .hbm, ⟨3, _⟩ => ⟨S3072, .f32⟩
  | .hbm, ⟨4, _⟩ => ⟨S1x3072, .f32⟩
  | .hbm, ⟨5, _⟩ => ⟨S8448x1024, .bf16⟩
  | .hbm, ⟨6, _⟩ => ⟨S8448x1024, .bf16⟩
  | .hbm, ⟨7, _⟩ => ⟨S8448x1024, .bf16⟩
  | .hbm, ⟨8, _⟩ => ⟨S8448x3072, .bf16⟩
  | .hbm, ⟨9, _⟩ => ⟨S8x3072, .f32⟩
  | .local _ .vmem, ⟨0, _⟩ => ⟨S256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S256x3072, .f32⟩
  | .local _ .vmem, ⟨9, _⟩ => ⟨S256x3072, .f32⟩
  | .local _ .vmem, ⟨10, _⟩ => ⟨S1x3072, .f32⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x3072, .bf16⟩
  | .local _ .vmem, ⟨18, _⟩ => ⟨S256x3072, .bf16⟩
  | .local _ .vmem, ⟨19, _⟩ => ⟨S8x3072, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32_39 : BitVec 32 := 0#32
  let v71 : BitVec 1 := Scalar.cmpi .eq arg0 c0_i32_39
  let v72 : BitVec 32 := Scalar.extui v71
  let c0_i32_40 : BitVec 32 := 0#32
  let v73 : BitVec 1 := Scalar.cmpi .ne v72 c0_i32_40
  v73

def k0_cond2 (i : grid0.Coords) : BitVec 1 :=
  let arg0 : BitVec 32 := BitVec.ofNat 32 (i 0).val
  let c0_i32_41 : BitVec 32 := 0#32
  let v74 : BitVec 1 := Scalar.cmpi .sgt arg0 c0_i32_41
  let v75 : BitVec 32 := Scalar.extui v74
  let c0_i32_42 : BitVec 32 := 0#32
  let v76 : BitVec 1 := Scalar.cmpi .ne v75 c0_i32_42
  v76

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MergeRefIdeal.lean ====
abbrev S8448x1024 : Shape := ⟨2, ![8448, 1024]⟩
abbrev S3x8448x1024 : Shape := ⟨3, ![3, 8448, 1024]⟩
abbrev S8448x3072 : Shape := ⟨2, ![8448, 3072]⟩
abbrev S3072 : Shape := ⟨1, ![3072]⟩
abbrev S1x8448x1024 : Shape := ⟨3, ![1, 8448, 1024]⟩
abbrev S1x3072 : Shape := ⟨2, ![1, 3072]⟩
abbrev S_ : Shape := ⟨0, ![]⟩
abbrev S8x3072 : Shape := ⟨2, ![8, 3072]⟩

abbrev nBuf : Space → Nat
  | .hbm => 63
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S3x8448x1024, .f32⟩
  | .hbm, ⟨2, _⟩ => ⟨S8448x3072, .f32⟩
  | .hbm, ⟨3, _⟩ => ⟨S3072, .f32⟩
  | .hbm, ⟨4, _⟩ => ⟨S1x8448x1024, .f32⟩
  | .hbm, ⟨5, _⟩ => ⟨S8448x1024, .f32⟩
  | .hbm, ⟨6, _⟩ => ⟨S1x8448x1024, .f32⟩
  | .hbm, ⟨7, _⟩ => ⟨S8448x1024, .f32⟩
  | .hbm, ⟨8, _⟩ => ⟨S1x8448x1024, .f32⟩
  | .hbm, ⟨9, _⟩ => ⟨S8448x1024, .f32⟩
  | .hbm, ⟨10, _⟩ => ⟨S1x3072, .f32⟩
  | .hbm, ⟨11, _⟩ => ⟨S8448x3072, .f32⟩
  | .hbm, ⟨12, _⟩ => ⟨S8448x3072, .f32⟩
  | .hbm, ⟨13, _⟩ => ⟨S8448x3072, .f32⟩
  | .hbm, ⟨14, _⟩ => ⟨S8448x3072, .f32⟩
  | .hbm, ⟨15, _⟩ => ⟨S_, .f32⟩
  | .hbm, ⟨16, _⟩ => ⟨S8448x3072, .f32⟩
  | .hbm, ⟨17, _⟩ => ⟨S8448x3072, .f32⟩
  | .hbm, ⟨18, _⟩ => ⟨S_, .f32⟩
  | .hbm, ⟨19, _⟩ => ⟨S8448x3072, .f32⟩
  | .hbm, ⟨20, _⟩ => ⟨S8448x3072, .f32⟩
  | .hbm, ⟨21, _⟩ => ⟨S_, .f32⟩
  | .hbm, ⟨22, _⟩ => ⟨S8448x3072, .f32⟩
  | .hbm, ⟨23, _⟩ => ⟨S8448x3072, .f32⟩
  | .hbm, ⟨24, _⟩ => ⟨S8448x3072, .f32⟩
  | .hbm, ⟨25, _⟩ => ⟨S8448x1024, .f32⟩
  | .hbm, ⟨26, _⟩ => ⟨S8448x1024, .f32⟩
  | .hbm, ⟨27, _⟩ => ⟨S8448x1024, .f32⟩
  | .hbm, ⟨28, _⟩ => ⟨S8448x1024, .f32⟩
  | .hbm, ⟨29, _⟩ => ⟨S8448x1024, .f32⟩
  | .hbm, ⟨30, _⟩ => ⟨S8448x1024, .f32⟩
  | .hbm, ⟨31, _⟩ => ⟨S8448x1024, .f32⟩
  | .hbm, ⟨32, _⟩ => ⟨S8448x1024, .f32⟩
  | .hbm, ⟨33, _⟩ => ⟨S8448x1024, .f32⟩
  | .hbm, ⟨34, _⟩ => ⟨S8448x1024, .f32⟩
  | .hbm, ⟨35, _⟩ => ⟨S8448x1024, .f32⟩
  | .hbm, ⟨36, _⟩ => ⟨S8448x1024, .f32⟩
  | .hbm, ⟨37, _⟩ => ⟨S8448x1024, .f32⟩
  | .hbm, ⟨38, _⟩ => ⟨S8448x1024, .f32⟩
  | .hbm, ⟨39, _⟩ => ⟨S8448x1024, .f32⟩
  | .hbm, ⟨40, _⟩ => ⟨S8448x1024, .f32⟩
  | .hbm, ⟨41, _⟩ => ⟨S_, .f32⟩
  | .hbm, ⟨42, _⟩ => ⟨S8448x3072, .f32⟩
  | .hbm, ⟨43, _⟩ => ⟨S_, .f32⟩
  | .hbm, ⟨44, _⟩ => ⟨S8448x3072, .f32⟩
  | .hbm, ⟨45, _⟩ => ⟨S8448x3072, .f32⟩
  | .hbm, ⟨46, _⟩ => ⟨S_, .f32⟩
  | .hbm, ⟨47, _⟩ => ⟨S8448x3072, .f32⟩
  | .hbm, ⟨48, _⟩ => ⟨S8448x3072, .f32⟩
  | .hbm, ⟨49, _⟩ => ⟨S8448x3072, .f32⟩
  | .hbm, ⟨50, _⟩ => ⟨S_, .f32⟩
  | .hbm, ⟨51, _⟩ => ⟨S3072, .f32⟩
  | .hbm, ⟨52, _⟩ => ⟨S1x3072, .f32⟩
  | .hbm, ⟨53, _⟩ => ⟨S_, .f32⟩
  | .hbm, ⟨54, _⟩ => ⟨S3072, .f32⟩
  | .hbm, ⟨55, _⟩ => ⟨S8448x1024, .bf16⟩
  | .hbm, ⟨56, _⟩ => ⟨S8448x1024, .bf16⟩
  | .hbm, ⟨57, _⟩ => ⟨S8448x1024, .bf16⟩
  | .hbm, ⟨58, _⟩ => ⟨S8448x3072, .bf16⟩
  | .hbm, ⟨59, _⟩ => ⟨S1x3072, .f32⟩
  | .hbm, ⟨60, _⟩ => ⟨S_, .i32⟩
  | .hbm, ⟨61, _⟩ => ⟨S_, .f32⟩
  | .hbm, ⟨62, _⟩ => ⟨S8x3072, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_2 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c : Ref sig .tc := ⟨.hbm, 60, rfl⟩
abbrev main_call0_v0 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Sconv.lean ====
abbrev S8448x3072 : Shape := ⟨2, ![8448, 3072]⟩
abbrev S8448x1024 : Shape := ⟨2, ![8448, 1024]⟩
abbrev S3x1024 : Shape := ⟨2, ![3, 1024]⟩
abbrev S_ : Shape := ⟨0, ![]⟩
abbrev S8x1024 : Shape := ⟨2, ![8, 1024]⟩
abbrev S256x3072 : Shape := ⟨2, ![256, 3072]⟩
abbrev S8x3072 : Shape := ⟨2, ![8, 3072]⟩
abbrev S256x1024 : Shape := ⟨2, ![256, 1024]⟩
abbrev S256x1 : Shape := ⟨2, ![256, 1]⟩
abbrev S1x1024 : Shape := ⟨2, ![1, 1024]⟩
abbrev S1024 : Shape := ⟨1, ![1024]⟩

abbrev nBuf : Space → Nat
  | .hbm => 8
  | .vmem => 16
  | .smem => 0
  | _ => 0

abbrev bufTy : (tb : Table) → Fin (tcTables nBuf tb) → BufTy
  | .hbm, ⟨0, _⟩ => ⟨S8448x3072, .f32⟩
  | .hbm, ⟨1, _⟩ => ⟨S8448x1024, .f32⟩
  | .hbm, ⟨2, _⟩ => ⟨S3x1024, .f32⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S8448x3072, .bf16⟩
  | .hbm, ⟨7, _⟩ => ⟨S8x1024, .f32⟩
  | .local _ .vmem, ⟨0, _⟩ => ⟨S256x3072, .f32⟩
  | .local _ .vmem, ⟨1, _⟩ => ⟨S256x3072, .f32⟩
  | .local _ .vmem, ⟨2, _⟩ => ⟨S8x3072, .f32⟩
  | .local _ .vmem, ⟨3, _⟩ => ⟨S8x3072, .f32⟩
  | .local _ .vmem, ⟨4, _⟩ => ⟨S8x3072, .f32⟩
  | .local _ .vmem, ⟨5, _⟩ => ⟨S8x3072, .f32⟩
  | .local _ .vmem, ⟨6, _⟩ => ⟨S256x1024, .f32⟩
  | .local _ .vmem, ⟨7, _⟩ => ⟨S256x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S256x3072, .bf16⟩
  | .local _ .vmem, ⟨14, _⟩ => ⟨S256x3072, .bf16⟩
  | .local _ .vmem, ⟨15, _⟩ => ⟨S8x1024, .f32⟩
  | _, _ => ⟨S8448x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32_54 : BitVec 32 := 0#32
  let v161 : BitVec 1 := Scalar.cmpi .eq arg0 c0_i32_54
  let v162 : BitVec 32 := Scalar.extui v161
  let c0_i32_55 : BitVec 32 := 0#32
  let v163 : BitVec 1 := Scalar.cmpi .ne v162 c0_i32_55
  v163

def k0_cond2 (i : grid0.Coords) : BitVec 1 :=
  let arg0 : BitVec 32 := BitVec.ofNat 32 (i 0).val
  let c0_i32_56 : BitVec 32 := 0#32
  let v164 : BitVec 1 := Scalar.cmpi .sgt arg0 c0_i32_56
  let v165 : BitVec 32 := Scalar.extui v164
  let c0_i32_57 : BitVec 32 := 0#32
  let v166 : BitVec 1 := Scalar.cmpi .ne v165 c0_i32_57
  v166

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1055_i32 : BitVec 32 := 1055#32
  let v2 : BitVec 32 := Scalar.minsi v1 c1055_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1055_i32 : BitVec 32 := 1055#32
  let v2 : BitVec 32 := Scalar.minsi v1 c1055_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== SconvRefIdeal.lean ====
abbrev S8448x3072 : Shape := ⟨2, ![8448, 3072]⟩
abbrev S8448x1024 : Shape := ⟨2, ![8448, 1024]⟩
abbrev S3x1024 : Shape := ⟨2, ![3, 1024]⟩
abbrev S8192x3072 : Shape := ⟨2, ![8192, 3072]⟩
abbrev S8192x1024 : Shape := ⟨2, ![8192, 1024]⟩
abbrev S_ : Shape := ⟨0, ![]⟩
abbrev S1x1024 : Shape := ⟨2, ![1, 1024]⟩
abbrev S8191x1024 : Shape := ⟨2, ![8191, 1024]⟩
abbrev S1024 : Shape := ⟨1, ![1024]⟩
abbrev S256x3072 : Shape := ⟨2, ![256, 3072]⟩
abbrev S256x1024 : Shape := ⟨2, ![256, 1024]⟩
abbrev S255x1024 : Shape := ⟨2, ![255, 1024]⟩
abbrev S8x1024 : Shape := ⟨2, ![8, 1024]⟩

abbrev nBuf : Space → Nat
  | .hbm => 196
  | .vmem => 0
  | .smem => 0
  | _ => 0

abbrev hbmTy0_0 (i : Nat) : BufTy := match i % 128 with
  | 0 => ⟨S8448x3072, .f32⟩
  | 1 => ⟨S8448x1024, .f32⟩
  | 2 => ⟨S3x1024, .f32⟩
  | 3 => ⟨S8192x3072, .f32⟩
  | 4 => ⟨S8192x1024, .f32⟩
  | 5 => ⟨S8192x1024, .f32⟩
  | 6 => ⟨S8192x1024, .f32⟩
  | 7 => ⟨S8192x1024, .f32⟩
  | 8 => ⟨S_, .f32⟩
  | 9 => ⟨S1x1024, .f32⟩
  | 10 => ⟨S8191x1024, .f32⟩
  | 11 => ⟨S8192x1024, .f32⟩
  | 12 => ⟨S_, .f32⟩
  | 13 => ⟨S1x1024, .f32⟩
  | 14 => ⟨S8191x1024, .f32⟩
  | 15 => ⟨S8192x1024, .f32⟩
  | 16 => ⟨S_, .f32⟩
  | 17 => ⟨S1x1024, .f32⟩
  | 18 => ⟨S1x1024, .f32⟩
  | 19 => ⟨S1024, .f32⟩
  | 20 => ⟨S1x1024, .f32⟩
  | 21 => ⟨S8192x1024, .f32⟩
  | 22 => ⟨S8192x1024, .f32⟩
  | 23 => ⟨S1x1024, .f32⟩
  | 24 => ⟨S1024, .f32⟩
  | 25 => ⟨S1x1024, .f32⟩
  | 26 => ⟨S8192x1024, .f32⟩
  | 27 => ⟨S8192x1024, .f32⟩
  | 28 => ⟨S8192x1024, .f32⟩
  | 29 => ⟨S1x1024, .f32⟩
  | 30 => ⟨S1024, .f32⟩
  | 31 => ⟨S1x1024, .f32⟩
  | 32 => ⟨S8192x1024, .f32⟩
  | 33 => ⟨S8192x1024, .f32⟩
  | 34 => ⟨S8192x1024, .f32⟩
  | 35 => ⟨S8192x1024, .f32⟩
  | 36 => ⟨S256x3072, .f32⟩
  | 37 => ⟨S256x1024, .f32⟩
  | 38 => ⟨S256x1024, .f32⟩
  | 39 => ⟨S256x1024, .f32⟩
  | 40 => ⟨S256x1024, .f32⟩
  | 41 => ⟨S_, .f32⟩
  | 42 => ⟨S1x1024, .f32⟩
  | 43 => ⟨S255x1024, .f32⟩
  | 44 => ⟨S256x1024, .f32⟩
  | 45 => ⟨S_, .f32⟩
  | 46 => ⟨S1x1024, .f32⟩
  | 47 => ⟨S255x1024, .f32⟩
  | 48 => ⟨S256x1024, .f32⟩
  | 49 => ⟨S_, .f32⟩
  | 50 => ⟨S1x1024, .f32⟩
  | 51 => ⟨S1x1024, .f32⟩
  | 52 => ⟨S1024, .f32⟩
  | 53 => ⟨S1x1024, .f32⟩
  | 54 => ⟨S256x1024, .f32⟩
  | 55 => ⟨S256x1024, .f32⟩
  | 56 => ⟨S1x1024, .f32⟩
  | 57 => ⟨S1024, .f32⟩
  | 58 => ⟨S1x1024, .f32⟩
  | 59 => ⟨S256x1024, .f32⟩
  | 60 => ⟨S256x1024, .f32⟩
  | 61 => ⟨S256x1024, .f32⟩
  | 62 => ⟨S1x1024, .f32⟩
  | 63 => ⟨S1024, .f32⟩
  | 64 => ⟨S1x1024, .f32⟩
  | 65 => ⟨S256x1024, .f32⟩
  | 66 => ⟨S256x1024, .f32⟩
  | 67 => ⟨S256x1024, .f32⟩
  | 68 => ⟨S256x1024, .f32⟩
  | 69 => ⟨S8448x1024, .f32⟩
  | 70 => ⟨S8192x1024, .f32⟩
  | 71 => ⟨S256x1024, .f32⟩
  | 72 => ⟨S256x1024, .f32⟩
  | 73 => ⟨S256x1024, .f32⟩
  | 74 => ⟨S256x1024, .f32⟩
  | 75 => ⟨S256x1024, .f32⟩
  | 76 => ⟨S256x1024, .f32⟩
  | 77 => ⟨S_, .f32⟩
  | 78 => ⟨S1024, .f32⟩
  | 79 => ⟨S1x1024, .f32⟩
  | 80 => ⟨S_, .f32⟩
  | 81 => ⟨S1024, .f32⟩
  | 82 => ⟨S1x1024, .f32⟩
  | 83 => ⟨S_, .f32⟩
  | 84 => ⟨S3x1024, .f32⟩
  | 85 => ⟨S256x1024, .f32⟩
  | 86 => ⟨S256x1024, .f32⟩
  | 87 => ⟨S256x1024, .f32⟩
  | 88 => ⟨S_, .f32⟩
  | 89 => ⟨S1024, .f32⟩
  | 90 => ⟨S1x1024, .f32⟩
  | 91 => ⟨S_, .f32⟩
  | 92 => ⟨S1024, .f32⟩
  | 93 => ⟨S1x1024, .f32⟩
  | 94 => ⟨S_, .f32⟩
  | 95 => ⟨S3x1024, .f32⟩
  | 96 => ⟨S3x1024, .f32⟩
  | 97 => ⟨S256x1024, .f32⟩
  | 98 => ⟨S256x1024, .f32⟩
  | 99 => ⟨S256x1024, .f32⟩
  | 100 => ⟨S_, .f32⟩
  | 101 => ⟨S1024, .f32⟩
  | 102 => ⟨S1x1024, .f32⟩
  | 103 => ⟨S_, .f32⟩
  | 104 => ⟨S1024, .f32⟩
  | 105 => ⟨S1x1024, .f32⟩
  | 106 => ⟨S_, .f32⟩
  | 107 => ⟨S3x1024, .f32⟩
  | 108 => ⟨S3x1024, .f32⟩
  | 109 => ⟨S255x1024, .f32⟩
  | 110 => ⟨S1x1024, .f32⟩
  | 111 => ⟨S_, .f32⟩
  | 112 => ⟨S256x1024, .f32⟩
  | 113 => ⟨S256x1024, .f32⟩
  | 114 => ⟨S1x1024, .f32⟩
  | 115 => ⟨S255x1024, .f32⟩
  | 116 => ⟨S_, .f32⟩
  | 117 => ⟨S256x1024, .f32⟩
  | 118 => ⟨S256x1024, .f32⟩
  | 119 => ⟨S256x1024, .f32⟩
  | 120 => ⟨S256x1024, .f32⟩
  | 121 => ⟨S_, .f32⟩
  | 122 => ⟨S256x3072, .f32⟩
  | 123 => ⟨S_, .f32⟩
  | 124 => ⟨S256x3072, .f32⟩
  | 125 => ⟨S256x3072, .f32⟩
  | 126 => ⟨S_, .f32⟩
  | 127 => ⟨S256x3072, .f32⟩
  | _ => ⟨S8448x3072, .f32⟩

abbrev hbmTy0_1 (i : Nat) : BufTy := match i % 128 with
  | 0 => ⟨S256x3072, .f32⟩
  | 1 => ⟨S_, .f32⟩
  | 2 => ⟨S8448x3072, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S_, .f32⟩
  | 9 => ⟨S1024, .f32⟩
  | 10 => ⟨S1x1024, .f32⟩
  | 11 => ⟨S_, .f32⟩
  | 12 => ⟨S1024, .f32⟩
  | 13 => ⟨S1x1024, .f32⟩
  | 14 => ⟨S_, .f32⟩
  | 15 => ⟨S3x1024, .f32⟩
  | 16 => ⟨S3x1024, .f32⟩
  | 17 => ⟨S8192x1024, .f32⟩
  | 18 => ⟨S8192x1024, .f32⟩
  | 19 => ⟨S8192x1024, .f32⟩
  | 20 => ⟨S_, .f32⟩
  | 21 => ⟨S1024, .f32⟩
  | 22 => ⟨S1x1024, .f32⟩
  | 23 => ⟨S_, .f32⟩
  | 24 => ⟨S1024, .f32⟩
  | 25 => ⟨S1x1024, .f32⟩
  | 26 => ⟨S_, .f32⟩
  | 27 => ⟨S3x1024, .f32⟩
  | 28 => ⟨S3x1024, .f32⟩
  | 29 => ⟨S8192x1024, .f32⟩
  | 30 => ⟨S8192x1024, .f32⟩
  | 31 => ⟨S8192x1024, .f32⟩
  | 32 => ⟨S_, .f32⟩
  | 33 => ⟨S1024, .f32⟩
  | 34 => ⟨S1x1024, .f32⟩
  | 35 => ⟨S_, .f32⟩
  | 36 => ⟨S1024, .f32⟩
  | 37 => ⟨S1x1024, .f32⟩
  | 38 => ⟨S_, .f32⟩
  | 39 => ⟨S3x1024, .f32⟩
  | 40 => ⟨S3x1024, .f32⟩
  | 41 => ⟨S8191x1024, .f32⟩
  | 42 => ⟨S1x1024, .f32⟩
  | 43 => ⟨S_, .f32⟩
  | 44 => ⟨S8192x1024, .f32⟩
  | 45 => ⟨S8192x1024, .f32⟩
  | 46 => ⟨S1x1024, .f32⟩
  | 47 => ⟨S8191x1024, .f32⟩
  | 48 => ⟨S_, .f32⟩
  | 49 => ⟨S8192x1024, .f32⟩
  | 50 => ⟨S8192x1024, .f32⟩
  | 51 => ⟨S8192x1024, .f32⟩
  | 52 => ⟨S8192x1024, .f32⟩
  | 53 => ⟨S_, .f32⟩
  | 54 => ⟨S8192x3072, .f32⟩
  | 55 => ⟨S_, .f32⟩
  | 56 => ⟨S8192x3072, .f32⟩
  | 57 => ⟨S8192x3072, .f32⟩
  | 58 => ⟨S_, .f32⟩
  | 59 => ⟨S8192x3072, .f32⟩
  | 60 => ⟨S8192x3072, .f32⟩
  | 61 => ⟨S_, .f32⟩
  | 62 => ⟨S8448x3072, .f32⟩
  | 63 => ⟨S8448x3072, .f32⟩
  | 64 => ⟨S8448x3072, .bf16⟩
  | 65 => ⟨S_, .i32⟩
  | 66 => ⟨S_, .f32⟩
  | 67 => ⟨S8x1024, .f32⟩
  | _ => ⟨S8448x3072, .f32⟩

abbrev hbmTy (i : Nat) : BufTy := match i / 128 with
  | 0 => hbmTy0_0 i
  | 1 => hbmTy0_1 i
  | _ => ⟨S8448x3072, .f32⟩

abbrev bufTy : (tb : Table) → Fin (tcTables nBuf tb) → BufTy
  | .hbm, ⟨i, _⟩ => hbmTy i
  | _, _ => ⟨S8448x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_cst_5 : Ref sig .tc := ⟨.hbm, 77, rfl⟩
abbrev main_v68 : Ref sig .tc := ⟨.hbm, 78, rfl⟩
abbrev main_v69 : Ref sig .tc := ⟨.hbm, 79, rfl⟩
abbrev main_cst_6 : Ref sig .tc := ⟨.hbm, 80, rfl⟩
abbrev main_v70 : Ref sig .tc := ⟨.hbm, 81, rfl⟩
abbrev main_v71 : Ref sig .tc := ⟨.hbm, 82, rfl⟩
abbrev main_cst_7 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_cst_8 : Ref sig .tc := ⟨.hbm, 88, rfl⟩
abbrev main_v76 : Ref sig .tc := ⟨.hbm, 89, rfl⟩
abbrev main_v77 : Ref sig .tc := ⟨.hbm, 90, rfl⟩
abbrev main_cst_9 : Ref sig .tc := ⟨.hbm, 91, rfl⟩
abbrev main_v78 : Ref sig .tc := ⟨.hbm, 92, rfl⟩
abbrev main_v79 : Ref sig .tc := ⟨.hbm, 93, rfl⟩
abbrev main_cst_10 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_cst_11 : Ref sig .tc := ⟨.hbm, 100, rfl⟩
abbrev main_v85 : Ref sig .tc := ⟨.hbm, 101, rfl⟩
abbrev main_v86 : Ref sig .tc := ⟨.hbm, 102, rfl⟩
abbrev main_cst_12 : Ref sig .tc := ⟨.hbm, 103, rfl⟩
abbrev main_v87 : Ref sig .tc := ⟨.hbm, 104, rfl⟩
abbrev main_v88 : Ref sig .tc := ⟨.hbm, 105, rfl⟩
abbrev main_cst_13 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_cst_14 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_cst_15 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_cst_16 : Ref sig .tc := ⟨.hbm, 121, rfl⟩
abbrev main_v101 : Ref sig .tc := ⟨.hbm, 122, rfl⟩
abbrev main_cst_17 : Ref sig .tc := ⟨.hbm, 123, rfl⟩
abbrev main_v102 : Ref sig .tc := ⟨.hbm, 124, rfl⟩
abbrev main_v103 : Ref sig .tc := ⟨.hbm, 125, rfl⟩
abbrev main_cst_18 : Ref sig .tc := ⟨.hbm, 126, rfl⟩
abbrev main_v104 : Ref sig .tc := ⟨.hbm, 127, rfl⟩
abbrev main_v105 : Ref sig .tc := ⟨.hbm, 128, rfl⟩
abbrev main_cst_19 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_cst_20 : Ref sig .tc := ⟨.hbm, 136, rfl⟩
abbrev main_v112 : Ref sig .tc := ⟨.hbm, 137, rfl⟩
abbrev main_v113 : Ref sig .tc := ⟨.hbm, 138, rfl⟩
abbrev main_cst_21 : Ref sig .tc := ⟨.hbm, 139, rfl⟩
abbrev main_v114 : Ref sig .tc := ⟨.hbm, 140, rfl⟩
abbrev main_v115 : Ref sig .tc := ⟨.hbm, 141, rfl⟩
abbrev main_cst_22 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_cst_23 : Ref sig .tc := ⟨.hbm, 148, rfl⟩
abbrev main_v121 : Ref sig .tc := ⟨.hbm, 149, rfl⟩
abbrev main_v122 : Ref sig .tc := ⟨.hbm, 150, rfl⟩
abbrev main_cst_24 : Ref sig .tc := ⟨.hbm, 151, rfl⟩
abbrev main_v123 : Ref sig .tc := ⟨.hbm, 152, rfl⟩
abbrev main_v124 : Ref sig .tc := ⟨.hbm, 153, rfl⟩
abbrev main_cst_25 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_cst_26 : Ref sig .tc := ⟨.hbm, 160, rfl⟩
abbrev main_v130 : Ref sig .tc := ⟨.hbm, 161, rfl⟩
abbrev main_v131 : Ref sig .tc := ⟨.hbm, 162, rfl⟩
abbrev main_cst_27 : Ref sig .tc := ⟨.hbm, 163, rfl⟩
abbrev main_v132 : Ref sig .tc := ⟨.hbm, 164, rfl⟩
abbrev main_v133 : Ref sig .tc := ⟨.hbm, 165, rfl⟩
abbrev main_cst_28 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_cst_29 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_cst_30 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_cst_31 : Ref sig .tc := ⟨.hbm, 181, rfl⟩
abbrev main_v146 : Ref sig .tc := ⟨.hbm, 182, rfl⟩
abbrev main_cst_32 : Ref sig .tc := ⟨.hbm, 183, rfl⟩
abbrev main_v147 : Ref sig .tc := ⟨.hbm, 184, rfl⟩
abbrev main_v148 : Ref sig .tc := ⟨.hbm, 185, rfl⟩
abbrev main_cst_33 : Ref sig .tc := ⟨.hbm, 186, rfl⟩
abbrev main_v149 : Ref sig .tc := ⟨.hbm, 187, rfl⟩
abbrev main_v150 : Ref sig .tc := ⟨.hbm, 188, rfl⟩
abbrev main_cst_34 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_c : Ref sig .tc := ⟨.hbm, 193, rfl⟩
abbrev main_call0_v0 : Ref sig .tc := ⟨.hbm, 194, rfl⟩
abbrev main_v154 : Ref sig .tc := ⟨.hbm, 195, rfl⟩

abbrev nD : Nat := 1
abbrev τ : Topo := Topo.v7x

variable {F : FTy → Type} [FloatOps F]
-- ==== Res.lean ====
abbrev S8448x1024 : Shape := ⟨2, ![8448, 1024]⟩
abbrev S8x6144 : Shape := ⟨2, ![8, 6144]⟩
abbrev S8x1024 : Shape := ⟨2, ![8, 1024]⟩
abbrev S256x1024 : Shape := ⟨2, ![256, 1024]⟩
abbrev S1x1024 : Shape := ⟨2, ![1, 1024]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8x6144, .f32⟩
  | .hbm, ⟨3, _⟩ => ⟨S8448x1024, .bf16⟩
  | .hbm, ⟨4, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x6144, .f32⟩
  | .local _ .vmem, ⟨5, _⟩ => ⟨S256x1024, .bf16⟩
  | .local _ .vmem, ⟨6, _⟩ => ⟨S256x1024, .bf16⟩
  | .local _ .vmem, ⟨7, _⟩ => ⟨S8x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32_11 : BitVec 32 := 0#32
  let v33 : BitVec 1 := Scalar.cmpi .eq arg0 c0_i32_11
  let v34 : BitVec 32 := Scalar.extui v33
  let c0_i32_12 : BitVec 32 := 0#32
  let v35 : BitVec 1 := Scalar.cmpi .ne v34 c0_i32_12
  v35

def k0_cond2 (i : grid0.Coords) : BitVec 1 :=
  let arg0 : BitVec 32 := BitVec.ofNat 32 (i 0).val
  let c0_i32_13 : BitVec 32 := 0#32
  let v36 : BitVec 1 := Scalar.cmpi .sgt arg0 c0_i32_13
  let v37 : BitVec 32 := Scalar.extui v36
  let c0_i32_14 : BitVec 32 := 0#32
  let v38 : BitVec 1 := Scalar.cmpi .ne v37 c0_i32_14
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ResRefIdeal.lean ====
abbrev S8448x1024 : Shape := ⟨2, ![8448, 1024]⟩
abbrev S8x6144 : Shape := ⟨2, ![8, 6144]⟩
abbrev S1x1024 : Shape := ⟨2, ![1, 1024]⟩
abbrev S1024 : Shape := ⟨1, ![1024]⟩
abbrev S8192x1024 : Shape := ⟨2, ![8192, 1024]⟩
abbrev S_ : Shape := ⟨0, ![]⟩
abbrev S256x1024 : Shape := ⟨2, ![256, 1024]⟩
abbrev S6x1024 : Shape := ⟨2, ![6, 1024]⟩
abbrev S8x1024 : Shape := ⟨2, ![8, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8x6144, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S8192x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S_, .f32⟩
  | .hbm, ⟨19, _⟩ => ⟨S1024, .f32⟩
  | .hbm, ⟨20, _⟩ => ⟨S256x1024, .f32⟩
  | .hbm, ⟨21, _⟩ => ⟨S1x1024, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S_, .f32⟩
  | .hbm, ⟨32, _⟩ => ⟨S1024, .f32⟩
  | .hbm, ⟨33, _⟩ => ⟨S8448x1024, .f32⟩
  | .hbm, ⟨34, _⟩ => ⟨S8448x1024, .bf16⟩
  | .hbm, ⟨35, _⟩ => ⟨S1x1024, .f32⟩
  | .hbm, ⟨36, _⟩ => ⟨S1x1024, .f32⟩
  | .hbm, ⟨37, _⟩ => ⟨S_, .f32⟩
  | .hbm, ⟨38, _⟩ => ⟨S6x1024, .f32⟩
  | .hbm, ⟨39, _⟩ => ⟨S8x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Rope.lean ====
abbrev S8448x1024 : Shape := ⟨2, ![8448, 1024]⟩
abbrev S8448x256 : Shape := ⟨2, ![8448, 256]⟩
abbrev S128 : Shape := ⟨1, ![128]⟩
abbrev S128x1 : Shape := ⟨2, ![128, 1]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8192x64 : Shape := ⟨2, ![8192, 64]⟩
abbrev S256x64 : Shape := ⟨2, ![256, 64]⟩
abbrev S8448x64 : Shape := ⟨2, ![8448, 64]⟩
abbrev S1x8448x1x64 : Shape := ⟨4, ![1, 8448, 1, 64]⟩
abbrev S1x8448x2x64 : Shape := ⟨4, ![1, 8448, 2, 64]⟩
abbrev S8448x128 : Shape := ⟨2, ![8448, 128]⟩
abbrev S8448x1536 : Shape := ⟨2, ![8448, 1536]⟩
abbrev S256x1024 : Shape := ⟨2, ![256, 1024]⟩
abbrev S256x256 : Shape := ⟨2, ![256, 256]⟩
abbrev S256x128 : Shape := ⟨2, ![256, 128]⟩
abbrev S256x1536 : Shape := ⟨2, ![256, 1536]⟩

abbrev nBuf : Space → Nat
  | .hbm => 54
  | .vmem => 12
  | .smem => 0
  | _ => 0

abbrev bufTy : (tb : Table) → Fin (tcTables nBuf tb) → BufTy
  | .hbm, ⟨0, _⟩ => ⟨S8448x1024, .f32⟩
  | .hbm, ⟨1, _⟩ => ⟨S8448x256, .f32⟩
  | .hbm, ⟨2, _⟩ => ⟨S8448x256, .f32⟩
  | .hbm, ⟨3, _⟩ => ⟨S128, .f32⟩
  | .hbm, ⟨4, _⟩ => ⟨S128x1, .f32⟩
  | .hbm, ⟨5, _⟩ => ⟨S128x64, .f32⟩
  | .hbm, ⟨6, _⟩ => ⟨S8192, .f32⟩
  | .hbm, ⟨7, _⟩ => ⟨S64, .f32⟩
  | .hbm, ⟨8, _⟩ => ⟨S1x64, .f32⟩
  | .hbm, ⟨9, _⟩ => ⟨S128x64, .f32⟩
  | .hbm, ⟨10, _⟩ => ⟨S8192, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S8192x1, .f32⟩
  | .hbm, ⟨26, _⟩ => ⟨S1x16, .f32⟩
  | .hbm, ⟨27, _⟩ => ⟨S8192x16, .f32⟩
  | .hbm, ⟨28, _⟩ => ⟨S8192x16, .f32⟩
  | .hbm, ⟨29, _⟩ => ⟨S8192x16, .f32⟩
  | .hbm, ⟨30, _⟩ => ⟨S8192x1, .f32⟩
  | .hbm, ⟨31, _⟩ => ⟨S1x16, .f32⟩
  | .hbm, ⟨32, _⟩ => ⟨S8192x16, .f32⟩
  | .hbm, ⟨33, _⟩ => ⟨S8192x16, .f32⟩
  | .hbm, ⟨34, _⟩ => ⟨S8192x16, .f32⟩
  | .hbm, ⟨35, _⟩ => ⟨S8192x32, .f32⟩
  | .hbm, ⟨36, _⟩ => ⟨S8192x32, .f32⟩
  | .hbm, ⟨37, _⟩ => ⟨S8192x32, .f32⟩
  | .hbm, ⟨38, _⟩ => ⟨S8192x64, .f32⟩
  | .hbm, ⟨39, _⟩ => ⟨S8192x32, .f32⟩
  | .hbm, ⟨40, _⟩ => ⟨S8192x64, .f32⟩
  | .hbm, ⟨41, _⟩ => ⟨S_, .f32⟩
  | .hbm, ⟨42, _⟩ => ⟨S256x64, .f32⟩
  | .hbm, ⟨43, _⟩ => ⟨S8448x64, .f32⟩
  | .hbm, ⟨44, _⟩ => ⟨S_, .f32⟩
  | .hbm, ⟨45, _⟩ => ⟨S256x64, .f32⟩
  | .hbm, ⟨46, _⟩ => ⟨S8448x64, .f32⟩
  | .hbm, ⟨47, _⟩ => ⟨S1x8448x1x64, .f32⟩
  | .hbm, ⟨48, _⟩ => ⟨S1x8448x2x64, .f32⟩
  | .hbm, ⟨49, _⟩ => ⟨S8448x128, .f32⟩
  | .hbm, ⟨50, _⟩ => ⟨S1x8448x1x64, .f32⟩
  | .hbm, ⟨51, _⟩ => ⟨S1x8448x2x64, .f32⟩
  | .hbm, ⟨52, _⟩ => ⟨S8448x128, .f32⟩
  | .hbm, ⟨53, _⟩ => ⟨S8448x1536, .bf16⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x1536, .bf16⟩
  | .local _ .vmem, ⟨11, _⟩ => ⟨S256x1536, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RopeRefIdeal.lean ====
abbrev S8448x1024 : Shape := ⟨2, ![8448, 1024]⟩
abbrev S8448x256 : Shape := ⟨2, ![8448, 256]⟩
abbrev S128 : Shape := ⟨1, ![128]⟩
abbrev S128x1 : Shape := ⟨2, ![128, 1]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8448x16x64 : Shape := ⟨3, ![8448, 16, 64]⟩
abbrev S8192x16x64 : Shape := ⟨3, ![8192, 16, 64]⟩
abbrev S8192x16x32 : Shape := ⟨3, ![8192, 16, 32]⟩
abbrev S8192x1x32 : Shape := ⟨3, ![8192, 1, 32]⟩
abbrev S256x16x64 : Shape := ⟨3, ![256, 16, 64]⟩
abbrev S8448x4x64 : Shape := ⟨3, ![8448, 4, 64]⟩
abbrev S8192x4x64 : Shape := ⟨3, ![8192, 4, 64]⟩
abbrev S8192x4x32 : Shape := ⟨3, ![8192, 4, 32]⟩
abbrev S256x4x64 : Shape := ⟨3, ![256, 4, 64]⟩
abbrev S8448x1536 : Shape := ⟨2, ![8448, 1536]⟩

abbrev nBuf : Space → Nat
  | .hbm => 120
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x256, .f32⟩
  | .hbm, ⟨2, _⟩ => ⟨S8448x256, .f32⟩
  | .hbm, ⟨3, _⟩ => ⟨S128, .f32⟩
  | .hbm, ⟨4, _⟩ => ⟨S128x1, .f32⟩
  | .hbm, ⟨5, _⟩ => ⟨S128x64, .f32⟩
  | .hbm, ⟨6, _⟩ => ⟨S8192, .f32⟩
  | .hbm, ⟨7, _⟩ => ⟨S64, .f32⟩
  | .hbm, ⟨8, _⟩ => ⟨S1x64, .f32⟩
  | .hbm, ⟨9, _⟩ => ⟨S128x64, .f32⟩
  | .hbm, ⟨10, _⟩ => ⟨S8192, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S8192x1, .f32⟩
  | .hbm, ⟨26, _⟩ => ⟨S1x16, .f32⟩
  | .hbm, ⟨27, _⟩ => ⟨S8192x16, .f32⟩
  | .hbm, ⟨28, _⟩ => ⟨S8192x16, .f32⟩
  | .hbm, ⟨29, _⟩ => ⟨S8192x16, .f32⟩
  | .hbm, ⟨30, _⟩ => ⟨S8192x1, .f32⟩
  | .hbm, ⟨31, _⟩ => ⟨S1x16, .f32⟩
  | .hbm, ⟨32, _⟩ => ⟨S8192x16, .f32⟩
  | .hbm, ⟨33, _⟩ => ⟨S8192x16, .f32⟩
  | .hbm, ⟨34, _⟩ => ⟨S8192x16, .f32⟩
  | .hbm, ⟨35, _⟩ => ⟨S8192x32, .f32⟩
  | .hbm, ⟨36, _⟩ => ⟨S8192x32, .f32⟩
  | .hbm, ⟨37, _⟩ => ⟨S8192x32, .f32⟩
  | .hbm, ⟨38, _⟩ => ⟨S8448x16x64, .f32⟩
  | .hbm, ⟨39, _⟩ => ⟨S_, .f32⟩
  | .hbm, ⟨40, _⟩ => ⟨S8192x16x64, .f32⟩
  | .hbm, ⟨41, _⟩ => ⟨S8192x16x32, .f32⟩
  | .hbm, ⟨42, _⟩ => ⟨S8192x16x32, .f32⟩
  | .hbm, ⟨43, _⟩ => ⟨S8192x1x32, .f32⟩
  | .hbm, ⟨44, _⟩ => ⟨S8192x1x32, .f32⟩
  | .hbm, ⟨45, _⟩ => ⟨S8192x16x32, .f32⟩
  | .hbm, ⟨46, _⟩ => ⟨S8192x16x32, .f32⟩
  | .hbm, ⟨47, _⟩ => ⟨S8192x16x32, .f32⟩
  | .hbm, ⟨48, _⟩ => ⟨S8192x16x32, .f32⟩
  | .hbm, ⟨49, _⟩ => ⟨S8192x16x32, .f32⟩
  | .hbm, ⟨50, _⟩ => ⟨S8192x16x32, .f32⟩
  | .hbm, ⟨51, _⟩ => ⟨S8192x16x32, .f32⟩
  | .hbm, ⟨52, _⟩ => ⟨S8192x16x32, .f32⟩
  | .hbm, ⟨53, _⟩ => ⟨S8192x16x32, .f32⟩
  | .hbm, ⟨54, _⟩ => ⟨S8192x16x32, .f32⟩
  | .hbm, ⟨55, _⟩ => ⟨S8192x16x64, .f32⟩
  | .hbm, ⟨56, _⟩ => ⟨S8192x16x64, .f32⟩
  | .hbm, ⟨57, _⟩ => ⟨S8192x16x32, .f32⟩
  | .hbm, ⟨58, _⟩ => ⟨S8192x16x32, .f32⟩
  | .hbm, ⟨59, _⟩ => ⟨S8192x16x32, .f32⟩
  | .hbm, ⟨60, _⟩ => ⟨S8192x16x32, .f32⟩
  | .hbm, ⟨61, _⟩ => ⟨S8192x16x32, .f32⟩
  | .hbm, ⟨62, _⟩ => ⟨S8192x16x32, .f32⟩
  | .hbm, ⟨63, _⟩ => ⟨S8192x16x32, .f32⟩
  | .hbm, ⟨64, _⟩ => ⟨S8192x16x32, .f32⟩
  | .hbm, ⟨65, _⟩ => ⟨S8192x16x32, .f32⟩
  | .hbm, ⟨66, _⟩ => ⟨S8192x16x32, .f32⟩
  | .hbm, ⟨67, _⟩ => ⟨S8192x16x32, .f32⟩
  | .hbm, ⟨68, _⟩ => ⟨S8192x16x32, .f32⟩
  | .hbm, ⟨69, _⟩ => ⟨S8192x16x32, .f32⟩
  | .hbm, ⟨70, _⟩ => ⟨S_, .f32⟩
  | .hbm, ⟨71, _⟩ => ⟨S8192x16x64, .f32⟩
  | .hbm, ⟨72, _⟩ => ⟨S_, .f32⟩
  | .hbm, ⟨73, _⟩ => ⟨S8192x16x64, .f32⟩
  | .hbm, ⟨74, _⟩ => ⟨S8192x16x64, .f32⟩
  | .hbm, ⟨75, _⟩ => ⟨S256x16x64, .f32⟩
  | .hbm, ⟨76, _⟩ => ⟨S8448x16x64, .f32⟩
  | .hbm, ⟨77, _⟩ => ⟨S8448x1024, .f32⟩
  | .hbm, ⟨78, _⟩ => ⟨S8448x4x64, .f32⟩
  | .hbm, ⟨79, _⟩ => ⟨S_, .f32⟩
  | .hbm, ⟨80, _⟩ => ⟨S8192x4x64, .f32⟩
  | .hbm, ⟨81, _⟩ => ⟨S8192x4x32, .f32⟩
  | .hbm, ⟨82, _⟩ => ⟨S8192x4x32, .f32⟩
  | .hbm, ⟨83, _⟩ => ⟨S8192x1x32, .f32⟩
  | .hbm, ⟨84, _⟩ => ⟨S8192x1x32, .f32⟩
  | .hbm, ⟨85, _⟩ => ⟨S8192x4x32, .f32⟩
  | .hbm, ⟨86, _⟩ => ⟨S8192x4x32, .f32⟩
  | .hbm, ⟨87, _⟩ => ⟨S8192x4x32, .f32⟩
  | .hbm, ⟨88, _⟩ => ⟨S8192x4x32, .f32⟩
  | .hbm, ⟨89, _⟩ => ⟨S8192x4x32, .f32⟩
  | .hbm, ⟨90, _⟩ => ⟨S8192x4x32, .f32⟩
  | .hbm, ⟨91, _⟩ => ⟨S8192x4x32, .f32⟩
  | .hbm, ⟨92, _⟩ => ⟨S8192x4x32, .f32⟩
  | .hbm, ⟨93, _⟩ => ⟨S8192x4x32, .f32⟩
  | .hbm, ⟨94, _⟩ => ⟨S8192x4x32, .f32⟩
  | .hbm, ⟨95, _⟩ => ⟨S8192x4x64, .f32⟩
  | .hbm, ⟨96, _⟩ => ⟨S8192x4x64, .f32⟩
  | .hbm, ⟨97, _⟩ => ⟨S8192x4x32, .f32⟩
  | .hbm, ⟨98, _⟩ => ⟨S8192x4x32, .f32⟩
  | .hbm, ⟨99, _⟩ => ⟨S8192x4x32, .f32⟩
  | .hbm, ⟨100, _⟩ => ⟨S8192x4x32, .f32⟩
  | .hbm, ⟨101, _⟩ => ⟨S8192x4x32, .f32⟩
  | .hbm, ⟨102, _⟩ => ⟨S8192x4x32, .f32⟩
  | .hbm, ⟨103, _⟩ => ⟨S8192x4x32, .f32⟩
  | .hbm, ⟨104, _⟩ => ⟨S8192x4x32, .f32⟩
  | .hbm, ⟨105, _⟩ => ⟨S8192x4x32, .f32⟩
  | .hbm, ⟨106, _⟩ => ⟨S8192x4x32, .f32⟩
  | .hbm, ⟨107, _⟩ => ⟨S8192x4x32, .f32⟩
  | .hbm, ⟨108, _⟩ => ⟨S8192x4x32, .f32⟩
  | .hbm, ⟨109, _⟩ => ⟨S8192x4x32, .f32⟩
  | .hbm, ⟨110, _⟩ => ⟨S_, .f32⟩
  | .hbm, ⟨111, _⟩ => ⟨S8192x4x64, .f32⟩
  | .hbm, ⟨112, _⟩ => ⟨S_, .f32⟩
  | .hbm, ⟨113, _⟩ => ⟨S8192x4x64, .f32⟩
  | .hbm, ⟨114, _⟩ => ⟨S8192x4x64, .f32⟩
  | .hbm, ⟨115, _⟩ => ⟨S256x4x64, .f32⟩
  | .hbm, ⟨116, _⟩ => ⟨S8448x4x64, .f32⟩
  | .hbm, ⟨117, _⟩ => ⟨S8448x256, .f32⟩
  | .hbm, ⟨118, _⟩ => ⟨S8448x1536, .f32⟩
  | .hbm, ⟨119, _⟩ => ⟨S8448x1536, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_cst_4 : Ref sig .tc := ⟨.hbm, 70, rfl⟩
abbrev main_v62 : Ref sig .tc := ⟨.hbm, 71, rfl⟩
abbrev main_cst_5 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_cst_6 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_cst_7 : Ref sig .tc := ⟨.hbm, 110, rfl⟩
abbrev main_v99 : Ref sig .tc := ⟨.hbm, 111, rfl⟩
abbrev main_cst_8 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩

abbrev nD : Nat := 1
abbrev τ : Topo := Topo.v7x

variable {F : FTy → Type} [FloatOps F]
-- ==== Norm.lean ====
abbrev S8448x1024 : Shape := ⟨2, ![8448, 1024]⟩
abbrev S1024 : Shape := ⟨1, ![1024]⟩
abbrev S8x6144 : Shape := ⟨2, ![8, 6144]⟩
abbrev S1x1024 : Shape := ⟨2, ![1, 1024]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 15
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .f32⟩
  | .hbm, ⟨3, _⟩ => ⟨S8448x1024, .f32⟩
  | .hbm, ⟨4, _⟩ => ⟨S1024, .f32⟩
  | .hbm, ⟨5, _⟩ => ⟨S8x6144, .f32⟩
  | .hbm, ⟨6, _⟩ => ⟨S1x1024, .f32⟩
  | .hbm, ⟨7, _⟩ => ⟨S8448x1024, .f32⟩
  | .hbm, ⟨8, _⟩ => ⟨S8x1024, .f32⟩
  | .hbm, ⟨9, _⟩ => ⟨S8448x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S8x6144, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S8x1024, .f32⟩
  | .local _ .vmem, ⟨13, _⟩ => ⟨S256x1024, .bf16⟩
  | .local _ .vmem, ⟨14, _⟩ => ⟨S256x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32_36 : BitVec 32 := 0#32
  let v117 : BitVec 1 := Scalar.cmpi .eq arg0 c0_i32_36
  let v118 : BitVec 32 := Scalar.extui v117
  let c0_i32_37 : BitVec 32 := 0#32
  let v119 : BitVec 1 := Scalar.cmpi .ne v118 c0_i32_37
  v119

def k0_cond2 (i : grid0.Coords) : BitVec 1 :=
  let arg0 : BitVec 32 := BitVec.ofNat 32 (i 0).val
  let c0_i32_38 : BitVec 32 := 0#32
  let v120 : BitVec 1 := Scalar.cmpi .sgt arg0 c0_i32_38
  let v121 : BitVec 32 := Scalar.extui v120
  let c0_i32_39 : BitVec 32 := 0#32
  let v122 : BitVec 1 := Scalar.cmpi .ne v121 c0_i32_39
  v122

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== NormRefIdeal.lean ====
abbrev S8448x1024 : Shape := ⟨2, ![8448, 1024]⟩
abbrev S1024 : Shape := ⟨1, ![1024]⟩
abbrev S8x6144 : Shape := ⟨2, ![8, 6144]⟩
abbrev S8192x1024 : Shape := ⟨2, ![8192, 1024]⟩
abbrev S1x6144 : Shape := ⟨2, ![1, 6144]⟩
abbrev S6144 : Shape := ⟨1, ![6144]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S8x1024 : Shape := ⟨2, ![8, 1024]⟩

abbrev nBuf : Space → Nat
  | .hbm => 197
  | .vmem => 0
  | .smem => 0
  | _ => 0

abbrev hbmTy0_0 (i : Nat) : BufTy := match i % 128 with
  | 0 => ⟨S8448x1024, .f32⟩
  | 1 => ⟨S8448x1024, .f32⟩
  | 2 => ⟨S8448x1024, .f32⟩
  | 3 => ⟨S8448x1024, .f32⟩
  | 4 => ⟨S1024, .f32⟩
  | 5 => ⟨S8x6144, .f32⟩
  | 6 => ⟨S8192x1024, .f32⟩
  | 7 => ⟨S8192x1024, .f32⟩
  | 8 => ⟨S8192x1024, .f32⟩
  | 9 => ⟨S8192x1024, .f32⟩
  | 10 => ⟨S1x6144, .f32⟩
  | 11 => ⟨S6144, .f32⟩
  | 12 => ⟨S1024, .f32⟩
  | 13 => ⟨S1024, .f32⟩
  | 14 => ⟨S1024, .f32⟩
  | 15 => ⟨S8192x1024, .f32⟩
  | 16 => ⟨S_, .f32⟩
  | 17 => ⟨S8192, .f32⟩
  | 18 => ⟨S8192x1, .f32⟩
  | 19 => ⟨S_, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1, .f32⟩
  | 26 => ⟨S8192x1, .f32⟩
  | 27 => ⟨S_, .f32⟩
  | 28 => ⟨S8192x1, .f32⟩
  | 29 => ⟨S8192x1, .f32⟩
  | 30 => ⟨S8192x1024, .f32⟩
  | 31 => ⟨S8192x1024, .f32⟩
  | 32 => ⟨S1x1024, .f32⟩
  | 33 => ⟨S8192x1024, .f32⟩
  | 34 => ⟨S8192x1024, .f32⟩
  | 35 => ⟨S_, .f32⟩
  | 36 => ⟨S1024, .f32⟩
  | 37 => ⟨S1024, .f32⟩
  | 38 => ⟨S1x1024, .f32⟩
  | 39 => ⟨S8192x1024, .f32⟩
  | 40 => ⟨S8192x1024, .f32⟩
  | 41 => ⟨S1x1024, .f32⟩
  | 42 => ⟨S8192x1024, .f32⟩
  | 43 => ⟨S8192x1024, .f32⟩
  | 44 => ⟨S_, .f32⟩
  | 45 => ⟨S1024, .f32⟩
  | 46 => ⟨S1x1024, .f32⟩
  | 47 => ⟨S_, .f32⟩
  | 48 => ⟨S1024, .f32⟩
  | 49 => ⟨S8192x1024, .f32⟩
  | 50 => ⟨S_, .f32⟩
  | 51 => ⟨S1024, .f32⟩
  | 52 => ⟨S1x1024, .f32⟩
  | 53 => ⟨S8192x1024, .f32⟩
  | 54 => ⟨S8192x1024, .f32⟩
  | 55 => ⟨S_, .f32⟩
  | 56 => ⟨S1024, .f32⟩
  | 57 => ⟨S8192x1024, .f32⟩
  | 58 => ⟨S_, .f32⟩
  | 59 => ⟨S1024, .f32⟩
  | 60 => ⟨S1x1024, .f32⟩
  | 61 => ⟨S8192x1024, .f32⟩
  | 62 => ⟨S8192x1024, .f32⟩
  | 63 => ⟨S_, .f32⟩
  | 64 => ⟨S1024, .f32⟩
  | 65 => ⟨S8192x1024, .f32⟩
  | 66 => ⟨S_, .f32⟩
  | 67 => ⟨S8192, .f32⟩
  | 68 => ⟨S8192x1, .f32⟩
  | 69 => ⟨S8192x1024, .f32⟩
  | 70 => ⟨S8192x1024, .f32⟩
  | 71 => ⟨S8192x1, .f32⟩
  | 72 => ⟨S_, .f32⟩
  | 73 => ⟨S8192x1, .f32⟩
  | 74 => ⟨S8192x1, .f32⟩
  | 75 => ⟨S_, .f32⟩
  | 76 => ⟨S8192, .f32⟩
  | 77 => ⟨S8192x1024, .f32⟩
  | 78 => ⟨S8192x1024, .f32⟩
  | 79 => ⟨S8192x1024, .f32⟩
  | 80 => ⟨S8192x1024, .f32⟩
  | 81 => ⟨S8192x1024, .f32⟩
  | 82 => ⟨S8192x1024, .f32⟩
  | 83 => ⟨S1x1024, .f32⟩
  | 84 => ⟨S8192x1024, .f32⟩
  | 85 => ⟨S8192x1024, .f32⟩
  | 86 => ⟨S8192x1024, .f32⟩
  | 87 => ⟨S8192x1024, .f32⟩
  | 88 => ⟨S8192x1024, .f32⟩
  | 89 => ⟨S_, .f32⟩
  | 90 => ⟨S1024, .f32⟩
  | 91 => ⟨S1x1024, .f32⟩
  | 92 => ⟨S_, .f32⟩
  | 93 => ⟨S1024, .f32⟩
  | 94 => ⟨S256x1024, .f32⟩
  | 95 => ⟨S256x1024, .f32⟩
  | 96 => ⟨S256x1024, .f32⟩
  | 97 => ⟨S256x1024, .f32⟩
  | 98 => ⟨S1x6144, .f32⟩
  | 99 => ⟨S6144, .f32⟩
  | 100 => ⟨S1024, .f32⟩
  | 101 => ⟨S1024, .f32⟩
  | 102 => ⟨S1024, .f32⟩
  | 103 => ⟨S256x1024, .f32⟩
  | 104 => ⟨S_, .f32⟩
  | 105 => ⟨S256, .f32⟩
  | 106 => ⟨S256x1, .f32⟩
  | 107 => ⟨S_, .f32⟩
  | 108 => ⟨S256x1, .f32⟩
  | 109 => ⟨S256x1, .f32⟩
  | 110 => ⟨S_, .f32⟩
  | 111 => ⟨S256x1, .f32⟩
  | 112 => ⟨S256x1, .f32⟩
  | 113 => ⟨S256x1, .f32⟩
  | 114 => ⟨S256x1, .f32⟩
  | 115 => ⟨S_, .f32⟩
  | 116 => ⟨S256x1, .f32⟩
  | 117 => ⟨S256x1, .f32⟩
  | 118 => ⟨S256x1024, .f32⟩
  | 119 => ⟨S256x1024, .f32⟩
  | 120 => ⟨S1x1024, .f32⟩
  | 121 => ⟨S256x1024, .f32⟩
  | 122 => ⟨S256x1024, .f32⟩
  | 123 => ⟨S_, .f32⟩
  | 124 => ⟨S1024, .f32⟩
  | 125 => ⟨S1024, .f32⟩
  | 126 => ⟨S1x1024, .f32⟩
  | 127 => ⟨S256x1024, .f32⟩
  | _ => ⟨S8448x1024, .f32⟩

abbrev hbmTy0_1 (i : Nat) : BufTy := match i % 128 with
  | 0 => ⟨S256x1024, .f32⟩
  | 1 => ⟨S1x1024, .f32⟩
  | 2 => ⟨S256x1024, .f32⟩
  | 3 => ⟨S256x1024, .f32⟩
  | 4 => ⟨S_, .f32⟩
  | 5 => ⟨S1024, .f32⟩
  | 6 => ⟨S1x1024, .f32⟩
  | 7 => ⟨S_, .f32⟩
  | 8 => ⟨S1024, .f32⟩
  | 9 => ⟨S256x1024, .f32⟩
  | 10 => ⟨S_, .f32⟩
  | 11 => ⟨S1024, .f32⟩
  | 12 => ⟨S1x1024, .f32⟩
  | 13 => ⟨S256x1024, .f32⟩
  | 14 => ⟨S256x1024, .f32⟩
  | 15 => ⟨S_, .f32⟩
  | 16 => ⟨S1024, .f32⟩
  | 17 => ⟨S256x1024, .f32⟩
  | 18 => ⟨S_, .f32⟩
  | 19 => ⟨S1024, .f32⟩
  | 20 => ⟨S1x1024, .f32⟩
  | 21 => ⟨S256x1024, .f32⟩
  | 22 => ⟨S256x1024, .f32⟩
  | 23 => ⟨S_, .f32⟩
  | 24 => ⟨S1024, .f32⟩
  | 25 => ⟨S256x1024, .f32⟩
  | 26 => ⟨S_, .f32⟩
  | 27 => ⟨S256, .f32⟩
  | 28 => ⟨S256x1, .f32⟩
  | 29 => ⟨S256x1024, .f32⟩
  | 30 => ⟨S256x1024, .f32⟩
  | 31 => ⟨S256x1, .f32⟩
  | 32 => ⟨S_, .f32⟩
  | 33 => ⟨S256x1, .f32⟩
  | 34 => ⟨S256x1, .f32⟩
  | 35 => ⟨S_, .f32⟩
  | 36 => ⟨S256, .f32⟩
  | 37 => ⟨S256x1024, .f32⟩
  | 38 => ⟨S256x1024, .f32⟩
  | 39 => ⟨S256x1024, .f32⟩
  | 40 => ⟨S256x1024, .f32⟩
  | 41 => ⟨S256x1024, .f32⟩
  | 42 => ⟨S256x1024, .f32⟩
  | 43 => ⟨S1x1024, .f32⟩
  | 44 => ⟨S256x1024, .f32⟩
  | 45 => ⟨S256x1024, .f32⟩
  | 46 => ⟨S256x1024, .f32⟩
  | 47 => ⟨S256x1024, .f32⟩
  | 48 => ⟨S256x1024, .f32⟩
  | 49 => ⟨S_, .f32⟩
  | 50 => ⟨S1024, .f32⟩
  | 51 => ⟨S1x1024, .f32⟩
  | 52 => ⟨S_, .f32⟩
  | 53 => ⟨S1024, .f32⟩
  | 54 => ⟨S1024, .f32⟩
  | 55 => ⟨S_, .f32⟩
  | 56 => ⟨S1024, .f32⟩
  | 57 => ⟨S8448x1024, .f32⟩
  | 58 => ⟨S1x1024, .f32⟩
  | 59 => ⟨S1x1024, .f32⟩
  | 60 => ⟨S1x1024, .f32⟩
  | 61 => ⟨S1x1024, .f32⟩
  | 62 => ⟨S1x1024, .f32⟩
  | 63 => ⟨S1x1024, .f32⟩
  | 64 => ⟨S1x1024, .f32⟩
  | 65 => ⟨S1x1024, .f32⟩
  | 66 => ⟨S8x1024, .f32⟩
  | 67 => ⟨S8448x1024, .f32⟩
  | 68 => ⟨S8448x1024, .bf16⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_13 : Ref sig .tc := ⟨.hbm, 89, rfl⟩
abbrev main_v69 : Ref sig .tc := ⟨.hbm, 90, rfl⟩
abbrev main_v70 : Ref sig .tc := ⟨.hbm, 91, rfl⟩
abbrev main_cst_14 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_15 : Ref sig .tc := ⟨.hbm, 104, rfl⟩
abbrev main_v82 : Ref sig .tc := ⟨.hbm, 105, rfl⟩
abbrev main_v83 : Ref sig .tc := ⟨.hbm, 106, rfl⟩
abbrev main_cst_16 : Ref sig .tc := ⟨.hbm, 107, rfl⟩
abbrev main_v84 : Ref sig .tc := ⟨.hbm, 108, rfl⟩
abbrev main_v85 : Ref sig .tc := ⟨.hbm, 109, rfl⟩
abbrev main_cst_17 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_18 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_cst_19 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_20 : Ref sig .tc := ⟨.hbm, 132, rfl⟩
abbrev main_v105 : Ref sig .tc := ⟨.hbm, 133, rfl⟩
abbrev main_v106 : Ref sig .tc := ⟨.hbm, 134, rfl⟩
abbrev main_cst_21 : Ref sig .tc := ⟨.hbm, 135, rfl⟩
abbrev main_v107 : Ref sig .tc := ⟨.hbm, 136, rfl⟩
abbrev main_v108 : Ref sig .tc := ⟨.hbm, 137, rfl⟩
abbrev main_cst_22 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_23 : Ref sig .tc := ⟨.hbm, 143, rfl⟩
abbrev main_v113 : Ref sig .tc := ⟨.hbm, 144, rfl⟩
abbrev main_v114 : Ref sig .tc := ⟨.hbm, 145, rfl⟩
abbrev main_cst_24 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_cst_25 : Ref sig .tc := ⟨.hbm, 151, rfl⟩
abbrev main_v119 : Ref sig .tc := ⟨.hbm, 152, rfl⟩
abbrev main_v120 : Ref sig .tc := ⟨.hbm, 153, rfl⟩
abbrev main_cst_26 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_cst_27 : Ref sig .tc := ⟨.hbm, 160, rfl⟩
abbrev main_v126 : Ref sig .tc := ⟨.hbm, 161, rfl⟩
abbrev main_v127 : Ref sig .tc := ⟨.hbm, 162, rfl⟩
abbrev main_cst_28 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_cst_29 : Ref sig .tc := ⟨.hbm, 177, rfl⟩
abbrev main_v141 : Ref sig .tc := ⟨.hbm, 178, rfl⟩
abbrev main_v142 : Ref sig .tc := ⟨.hbm, 179, rfl⟩
abbrev main_cst_30 : Ref sig .tc := ⟨.hbm, 180, rfl⟩
abbrev main_v143 : Ref sig .tc := ⟨.hbm, 181, rfl⟩
abbrev main_v144 : Ref sig .tc := ⟨.hbm, 182, rfl⟩
abbrev main_cst_31 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩

abbrev nD : Nat := 1
abbrev τ : Topo := Topo.v7x

variable {F : FTy → Type} [FloatOps F]
-- ==== NormIn.lean ====
abbrev S8448x1024 : Shape := ⟨2, ![8448, 1024]⟩
abbrev S1024 : Shape := ⟨1, ![1024]⟩
abbrev S8x6144 : Shape := ⟨2, ![8, 6144]⟩
abbrev S1x1024 : Shape := ⟨2, ![1, 1024]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩

abbrev nBuf : Space → Nat
  | .hbm => 11
  | .vmem => 17
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .f32⟩
  | .hbm, ⟨3, _⟩ => ⟨S8448x1024, .f32⟩
  | .hbm, ⟨4, _⟩ => ⟨S8448x1024, .f32⟩
  | .hbm, ⟨5, _⟩ => ⟨S8448x1024, .f32⟩
  | .hbm, ⟨6, _⟩ => ⟨S1024, .f32⟩
  | .hbm, ⟨7, _⟩ => ⟨S8x6144, .f32⟩
  | .hbm, ⟨8, _⟩ => ⟨S1x1024, .f32⟩
  | .hbm, ⟨9, _⟩ => ⟨S8448x1024, .f32⟩
  | .hbm, ⟨10, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S8x6144, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S8x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32_32 : BitVec 32 := 0#32
  let v96 : BitVec 1 := Scalar.cmpi .eq arg0 c0_i32_32
  let v97 : BitVec 32 := Scalar.extui v96
  let c0_i32_33 : BitVec 32 := 0#32
  let v98 : BitVec 1 := Scalar.cmpi .ne v97 c0_i32_33
  v98

def k0_cond2 (i : grid0.Coords) : BitVec 1 :=
  let arg0 : BitVec 32 := BitVec.ofNat 32 (i 0).val
  let c0_i32_34 : BitVec 32 := 0#32
  let v99 : BitVec 1 := Scalar.cmpi .sgt arg0 c0_i32_34
  let v100 : BitVec 32 := Scalar.extui v99
  let c0_i32_35 : BitVec 32 := 0#32
  let v101 : BitVec 1 := Scalar.cmpi .ne v100 c0_i32_35
  v101

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormInRefIdeal.lean ====
abbrev S8448x1024 : Shape := ⟨2, ![8448, 1024]⟩
abbrev S1024 : Shape := ⟨1, ![1024]⟩
abbrev S8x6144 : Shape := ⟨2, ![8, 6144]⟩
abbrev S8192x1024 : Shape := ⟨2, ![8192, 1024]⟩
abbrev S1x6144 : Shape := ⟨2, ![1, 6144]⟩
abbrev S6144 : Shape := ⟨1, ![6144]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S5x1024 : Shape := ⟨2, ![5, 1024]⟩
abbrev S3x1024 : Shape := ⟨2, ![3, 1024]⟩
abbrev S8x1024 : Shape := ⟨2, ![8, 1024]⟩

abbrev nBuf : Space → Nat
  | .hbm => 172
  | .vmem => 0
  | .smem => 0
  | _ => 0

abbrev hbmTy0_0 (i : Nat) : BufTy := match i % 128 with
  | 0 => ⟨S8448x1024, .f32⟩
  | 1 => ⟨S8448x1024, .f32⟩
  | 2 => ⟨S8448x1024, .f32⟩
  | 3 => ⟨S8448x1024, .f32⟩
  | 4 => ⟨S8448x1024, .f32⟩
  | 5 => ⟨S8448x1024, .f32⟩
  | 6 => ⟨S1024, .f32⟩
  | 7 => ⟨S8x6144, .f32⟩
  | 8 => ⟨S8448x1024, .f32⟩
  | 9 => ⟨S8448x1024, .f32⟩
  | 10 => ⟨S8448x1024, .f32⟩
  | 11 => ⟨S8192x1024, .f32⟩
  | 12 => ⟨S8192x1024, .f32⟩
  | 13 => ⟨S8192x1024, .f32⟩
  | 14 => ⟨S1x6144, .f32⟩
  | 15 => ⟨S6144, .f32⟩
  | 16 => ⟨S1024, .f32⟩
  | 17 => ⟨S1024, .f32⟩
  | 18 => ⟨S8192x1024, .f32⟩
  | 19 => ⟨S_, .f32⟩
  | 20 => ⟨S8192, .f32⟩
  | 21 => ⟨S8192x1, .f32⟩
  | 22 => ⟨S_, .f32⟩
  | 23 => ⟨S8192x1, .f32⟩
  | 24 => ⟨S8192x1, .f32⟩
  | 25 => ⟨S_, .f32⟩
  | 26 => ⟨S8192x1, .f32⟩
  | 27 => ⟨S8192x1, .f32⟩
  | 28 => ⟨S8192x1, .f32⟩
  | 29 => ⟨S8192x1, .f32⟩
  | 30 => ⟨S_, .f32⟩
  | 31 => ⟨S8192x1, .f32⟩
  | 32 => ⟨S8192x1, .f32⟩
  | 33 => ⟨S8192x1024, .f32⟩
  | 34 => ⟨S8192x1024, .f32⟩
  | 35 => ⟨S1x1024, .f32⟩
  | 36 => ⟨S8192x1024, .f32⟩
  | 37 => ⟨S8192x1024, .f32⟩
  | 38 => ⟨S_, .f32⟩
  | 39 => ⟨S1024, .f32⟩
  | 40 => ⟨S1024, .f32⟩
  | 41 => ⟨S1x1024, .f32⟩
  | 42 => ⟨S8192x1024, .f32⟩
  | 43 => ⟨S8192x1024, .f32⟩
  | 44 => ⟨S1x1024, .f32⟩
  | 45 => ⟨S8192x1024, .f32⟩
  | 46 => ⟨S8192x1024, .f32⟩
  | 47 => ⟨S_, .f32⟩
  | 48 => ⟨S1024, .f32⟩
  | 49 => ⟨S1x1024, .f32⟩
  | 50 => ⟨S_, .f32⟩
  | 51 => ⟨S1024, .f32⟩
  | 52 => ⟨S8192x1024, .f32⟩
  | 53 => ⟨S_, .f32⟩
  | 54 => ⟨S1024, .f32⟩
  | 55 => ⟨S1x1024, .f32⟩
  | 56 => ⟨S8192x1024, .f32⟩
  | 57 => ⟨S8192x1024, .f32⟩
  | 58 => ⟨S_, .f32⟩
  | 59 => ⟨S1024, .f32⟩
  | 60 => ⟨S8192x1024, .f32⟩
  | 61 => ⟨S_, .f32⟩
  | 62 => ⟨S1024, .f32⟩
  | 63 => ⟨S1x1024, .f32⟩
  | 64 => ⟨S8192x1024, .f32⟩
  | 65 => ⟨S8192x1024, .f32⟩
  | 66 => ⟨S_, .f32⟩
  | 67 => ⟨S1024, .f32⟩
  | 68 => ⟨S8192x1024, .f32⟩
  | 69 => ⟨S_, .f32⟩
  | 70 => ⟨S8192, .f32⟩
  | 71 => ⟨S8192x1, .f32⟩
  | 72 => ⟨S8192x1024, .f32⟩
  | 73 => ⟨S8192x1024, .f32⟩
  | 74 => ⟨S8192x1, .f32⟩
  | 75 => ⟨S_, .f32⟩
  | 76 => ⟨S8192x1, .f32⟩
  | 77 => ⟨S8192x1, .f32⟩
  | 78 => ⟨S_, .f32⟩
  | 79 => ⟨S8192, .f32⟩
  | 80 => ⟨S8192x1024, .f32⟩
  | 81 => ⟨S8192x1024, .f32⟩
  | 82 => ⟨S8192x1024, .f32⟩
  | 83 => ⟨S8192x1024, .f32⟩
  | 84 => ⟨S8192x1024, .f32⟩
  | 85 => ⟨S8192x1024, .f32⟩
  | 86 => ⟨S256x1024, .f32⟩
  | 87 => ⟨S256x1024, .f32⟩
  | 88 => ⟨S256x1024, .f32⟩
  | 89 => ⟨S1x6144, .f32⟩
  | 90 => ⟨S6144, .f32⟩
  | 91 => ⟨S1024, .f32⟩
  | 92 => ⟨S1024, .f32⟩
  | 93 => ⟨S256x1024, .f32⟩
  | 94 => ⟨S_, .f32⟩
  | 95 => ⟨S256, .f32⟩
  | 96 => ⟨S256x1, .f32⟩
  | 97 => ⟨S_, .f32⟩
  | 98 => ⟨S256x1, .f32⟩
  | 99 => ⟨S256x1, .f32⟩
  | 100 => ⟨S_, .f32⟩
  | 101 => ⟨S256x1, .f32⟩
  | 102 => ⟨S256x1, .f32⟩
  | 103 => ⟨S256x1, .f32⟩
  | 104 => ⟨S256x1, .f32⟩
  | 105 => ⟨S_, .f32⟩
  | 106 => ⟨S256x1, .f32⟩
  | 107 => ⟨S256x1, .f32⟩
  | 108 => ⟨S256x1024, .f32⟩
  | 109 => ⟨S256x1024, .f32⟩
  | 110 => ⟨S1x1024, .f32⟩
  | 111 => ⟨S256x1024, .f32⟩
  | 112 => ⟨S256x1024, .f32⟩
  | 113 => ⟨S_, .f32⟩
  | 114 => ⟨S1024, .f32⟩
  | 115 => ⟨S1024, .f32⟩
  | 116 => ⟨S1x1024, .f32⟩
  | 117 => ⟨S256x1024, .f32⟩
  | 118 => ⟨S256x1024, .f32⟩
  | 119 => ⟨S1x1024, .f32⟩
  | 120 => ⟨S256x1024, .f32⟩
  | 121 => ⟨S256x1024, .f32⟩
  | 122 => ⟨S_, .f32⟩
  | 123 => ⟨S1024, .f32⟩
  | 124 => ⟨S1x1024, .f32⟩
  | 125 => ⟨S_, .f32⟩
  | 126 => ⟨S1024, .f32⟩
  | 127 => ⟨S256x1024, .f32⟩
  | _ => ⟨S8448x1024, .f32⟩

abbrev hbmTy0_1 (i : Nat) : BufTy := match i % 128 with
  | 0 => ⟨S_, .f32⟩
  | 1 => ⟨S1024, .f32⟩
  | 2 => ⟨S1x1024, .f32⟩
  | 3 => ⟨S256x1024, .f32⟩
  | 4 => ⟨S256x1024, .f32⟩
  | 5 => ⟨S_, .f32⟩
  | 6 => ⟨S1024, .f32⟩
  | 7 => ⟨S256x1024, .f32⟩
  | 8 => ⟨S_, .f32⟩
  | 9 => ⟨S1024, .f32⟩
  | 10 => ⟨S1x1024, .f32⟩
  | 11 => ⟨S256x1024, .f32⟩
  | 12 => ⟨S256x1024, .f32⟩
  | 13 => ⟨S_, .f32⟩
  | 14 => ⟨S1024, .f32⟩
  | 15 => ⟨S256x1024, .f32⟩
  | 16 => ⟨S_, .f32⟩
  | 17 => ⟨S256, .f32⟩
  | 18 => ⟨S256x1, .f32⟩
  | 19 => ⟨S256x1024, .f32⟩
  | 20 => ⟨S256x1024, .f32⟩
  | 21 => ⟨S256x1, .f32⟩
  | 22 => ⟨S_, .f32⟩
  | 23 => ⟨S256x1, .f32⟩
  | 24 => ⟨S256x1, .f32⟩
  | 25 => ⟨S_, .f32⟩
  | 26 => ⟨S256, .f32⟩
  | 27 => ⟨S256x1024, .f32⟩
  | 28 => ⟨S256x1024, .f32⟩
  | 29 => ⟨S256x1024, .f32⟩
  | 30 => ⟨S256x1024, .f32⟩
  | 31 => ⟨S256x1024, .f32⟩
  | 32 => ⟨S256x1024, .f32⟩
  | 33 => ⟨S1024, .f32⟩
  | 34 => ⟨S8448x1024, .f32⟩
  | 35 => ⟨S1x1024, .f32⟩
  | 36 => ⟨S1x1024, .f32⟩
  | 37 => ⟨S1x1024, .f32⟩
  | 38 => ⟨S1x1024, .f32⟩
  | 39 => ⟨S1x1024, .f32⟩
  | 40 => ⟨S5x1024, .f32⟩
  | 41 => ⟨S_, .f32⟩
  | 42 => ⟨S3x1024, .f32⟩
  | 43 => ⟨S8x1024, .f32⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_cst_12 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_13 : Ref sig .tc := ⟨.hbm, 94, rfl⟩
abbrev main_v72 : Ref sig .tc := ⟨.hbm, 95, rfl⟩
abbrev main_v73 : Ref sig .tc := ⟨.hbm, 96, rfl⟩
abbrev main_cst_14 : Ref sig .tc := ⟨.hbm, 97, rfl⟩
abbrev main_v74 : Ref sig .tc := ⟨.hbm, 98, rfl⟩
abbrev main_v75 : Ref sig .tc := ⟨.hbm, 99, rfl⟩
abbrev main_cst_15 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_16 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_17 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_18 : Ref sig .tc := ⟨.hbm, 122, rfl⟩
abbrev main_v95 : Ref sig .tc := ⟨.hbm, 123, rfl⟩
abbrev main_v96 : Ref sig .tc := ⟨.hbm, 124, rfl⟩
abbrev main_cst_19 : Ref sig .tc := ⟨.hbm, 125, rfl⟩
abbrev main_v97 : Ref sig .tc := ⟨.hbm, 126, rfl⟩
abbrev main_v98 : Ref sig .tc := ⟨.hbm, 127, rfl⟩
abbrev main_cst_20 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_21 : Ref sig .tc := ⟨.hbm, 133, rfl⟩
abbrev main_v103 : Ref sig .tc := ⟨.hbm, 134, rfl⟩
abbrev main_v104 : Ref sig .tc := ⟨.hbm, 135, rfl⟩
abbrev main_cst_22 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_23 : Ref sig .tc := ⟨.hbm, 141, rfl⟩
abbrev main_v109 : Ref sig .tc := ⟨.hbm, 142, rfl⟩
abbrev main_v110 : Ref sig .tc := ⟨.hbm, 143, rfl⟩
abbrev main_cst_24 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_cst_25 : Ref sig .tc := ⟨.hbm, 150, rfl⟩
abbrev main_v116 : Ref sig .tc := ⟨.hbm, 151, rfl⟩
abbrev main_v117 : Ref sig .tc := ⟨.hbm, 152, rfl⟩
abbrev main_cst_26 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_cst_27 : Ref sig .tc := ⟨.hbm, 169, rfl⟩
abbrev main_v133 : Ref sig .tc := ⟨.hbm, 170, rfl⟩
abbrev main_v134 : Ref sig .tc := ⟨.hbm, 171, rfl⟩

abbrev nD : Nat := 1
abbrev τ : Topo := Topo.v7x

variable {F : FTy → Type} [FloatOps F]
-- ==== NormF.lean ====
abbrev S8448x1024 : Shape := ⟨2, ![8448, 1024]⟩
abbrev S1024 : Shape := ⟨1, ![1024]⟩
abbrev S8x6144 : Shape := ⟨2, ![8, 6144]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S8x6144, .f32⟩
  | .hbm, ⟨3, _⟩ => ⟨S1x1024, .f32⟩
  | .hbm, ⟨4, _⟩ => ⟨S8448x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x6144, .f32⟩
  | .local _ .vmem, ⟨4, _⟩ => ⟨S256x1024, .bf16⟩
  | .local _ .vmem, ⟨5, _⟩ => ⟨S256x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormFRefIdeal.lean ====
abbrev S8448x1024 : Shape := ⟨2, ![8448, 1024]⟩
abbrev S1024 : Shape := ⟨1, ![1024]⟩
abbrev S8x6144 : Shape := ⟨2, ![8, 6144]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S256x1024 : Shape := ⟨2, ![256, 1024]⟩
abbrev S256 : Shape := ⟨1, ![256]⟩
abbrev S256x1 : Shape := ⟨2, ![256, 1]⟩

abbrev nBuf : Space → Nat
  | .hbm => 65
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S8x6144, .f32⟩
  | .hbm, ⟨3, _⟩ => ⟨S8192x1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S256x1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S1024, .f32⟩
  | .hbm, ⟨38, _⟩ => ⟨S256x1024, .f32⟩
  | .hbm, ⟨39, _⟩ => ⟨S_, .f32⟩
  | .hbm, ⟨40, _⟩ => ⟨S256, .f32⟩
  | .hbm, ⟨41, _⟩ => ⟨S256x1, .f32⟩
  | .hbm, ⟨42, _⟩ => ⟨S_, .f32⟩
  | .hbm, ⟨43, _⟩ => ⟨S256x1, .f32⟩
  | .hbm, ⟨44, _⟩ => ⟨S256x1, .f32⟩
  | .hbm, ⟨45, _⟩ => ⟨S_, .f32⟩
  | .hbm, ⟨46, _⟩ => ⟨S256x1, .f32⟩
  | .hbm, ⟨47, _⟩ => ⟨S256x1, .f32⟩
  | .hbm, ⟨48, _⟩ => ⟨S256x1, .f32⟩
  | .hbm, ⟨49, _⟩ => ⟨S256x1024, .f32⟩
  | .hbm, ⟨50, _⟩ => ⟨S256x1024, .f32⟩
  | .hbm, ⟨51, _⟩ => ⟨S1x1024, .f32⟩
  | .hbm, ⟨52, _⟩ => ⟨S256x1024, .f32⟩
  | .hbm, ⟨53, _⟩ => ⟨S256x1024, .f32⟩
  | .hbm, ⟨54, _⟩ => ⟨S_, .f32⟩
  | .hbm, ⟨55, _⟩ => ⟨S1024, .f32⟩
  | .hbm, ⟨56, _⟩ => ⟨S1024, .f32⟩
  | .hbm, ⟨57, _⟩ => ⟨S1x1024, .f32⟩
  | .hbm, ⟨58, _⟩ => ⟨S256x1024, .f32⟩
  | .hbm, ⟨59, _⟩ => ⟨S256x1024, .f32⟩
  | .hbm, ⟨60, _⟩ => ⟨S1x1024, .f32⟩
  | .hbm, ⟨61, _⟩ => ⟨S256x1024, .f32⟩
  | .hbm, ⟨62, _⟩ => ⟨S256x1024, .f32⟩
  | .hbm, ⟨63, _⟩ => ⟨S8448x1024, .f32⟩
  | .hbm, ⟨64, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]
-- ==== UpX.lean ====
abbrev S8448x5632 : Shape := ⟨2, ![8448, 5632]⟩
abbrev S1024x5632 : Shape := ⟨2, ![1024, 5632]⟩
abbrev S8448x1024 : Shape := ⟨2, ![8448, 1024]⟩
abbrev S1056x1408 : Shape := ⟨2, ![1056, 1408]⟩
abbrev S1024x1408 : Shape := ⟨2, ![1024, 1408]⟩
abbrev S1056x1024 : Shape := ⟨2, ![1056, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x5632, .bf16⟩
  | .hbm, ⟨1, _⟩ => ⟨S1024x5632, .bf16⟩
  | .hbm, ⟨2, _⟩ => ⟨S8448x1024, .f32⟩
  | .local _ .vmem, ⟨0, _⟩ => ⟨S1056x1408, .bf16⟩
  | .local _ .vmem, ⟨1, _⟩ => ⟨S1056x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpXRefIdeal.lean ====
abbrev S8448x5632 : Shape := ⟨2, ![8448, 5632]⟩
abbrev S1024x5632 : Shape := ⟨2, ![1024, 5632]⟩
abbrev S_ : Shape := ⟨0, ![]⟩
abbrev S8448x1024 : Shape := ⟨2, ![8448, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S1024x5632, .bf16⟩
  | .hbm, ⟨2, _⟩ => ⟨S_, .f32⟩
  | .hbm, ⟨3, _⟩ => ⟨S8448x1024, .f32⟩
  | .hbm, ⟨4, _⟩ => ⟨S1024x5632, .f32⟩
  | .hbm, ⟨5, _⟩ => ⟨S8448x5632, .f32⟩
  | .hbm, ⟨6, _⟩ => ⟨S8448x5632, .f32⟩
  | .hbm, ⟨7, _⟩ => ⟨S8448x1024, .f32⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpW.lean ====
abbrev S8448x1024 : Shape := ⟨2, ![8448, 1024]⟩
abbrev S8448x5632 : Shape := ⟨2, ![8448, 5632]⟩
abbrev S1024x5632 : Shape := ⟨2, ![1024, 5632]⟩
abbrev S1408x1024 : Shape := ⟨2, ![1408, 1024]⟩
abbrev S1408x1408 : Shape := ⟨2, ![1408, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x5632, .bf16⟩
  | .hbm, ⟨2, _⟩ => ⟨S1024x5632, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1408, .bf16⟩
  | .local _ .vmem, ⟨3, _⟩ => ⟨S1408x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 6], ![false, false, false]⟩

def k0_cond3 (i : grid0.Coords) : BitVec 1 :=
  let arg2 : BitVec 32 := BitVec.ofNat 32 (i 2).val
  let c5_i32 : BitVec 32 := 5#32
  let v6 : BitVec 1 := Scalar.cmpi .eq arg2 c5_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWRefIdeal.lean ====
abbrev S8448x1024 : Shape := ⟨2, ![8448, 1024]⟩
abbrev S8448x5632 : Shape := ⟨2, ![8448, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x5632, .bf16⟩
  | .hbm, ⟨2, _⟩ => ⟨S_, .f32⟩
  | .hbm, ⟨3, _⟩ => ⟨S1024x5632, .f32⟩
  | .hbm, ⟨4, _⟩ => ⟨S8448x1024, .f32⟩
  | .hbm, ⟨5, _⟩ => ⟨S8448x5632, .f32⟩
  | .hbm, ⟨6, _⟩ => ⟨S8448x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownX.lean ====
abbrev S8448x1024 : Shape := ⟨2, ![8448, 1024]⟩
abbrev S2816x1024 : Shape := ⟨2, ![2816, 1024]⟩
abbrev S8448x2816 : Shape := ⟨2, ![8448, 2816]⟩
abbrev S1056x1024 : Shape := ⟨2, ![1056, 1024]⟩
abbrev S1408x1024 : Shape := ⟨2, ![1408, 1024]⟩
abbrev S1056x1408 : Shape := ⟨2, ![1056, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S2816x1024, .bf16⟩
  | .hbm, ⟨2, _⟩ => ⟨S8448x2816, .f32⟩
  | .local _ .vmem, ⟨0, _⟩ => ⟨S1056x1024, .bf16⟩
  | .local _ .vmem, ⟨1, _⟩ => ⟨S1056x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1056x1408, .f32⟩
  | .local _ .vmem, ⟨5, _⟩ => ⟨S1056x1408, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownXRefIdeal.lean ====
abbrev S8448x1024 : Shape := ⟨2, ![8448, 1024]⟩
abbrev S2816x1024 : Shape := ⟨2, ![2816, 1024]⟩
abbrev S_ : Shape := ⟨0, ![]⟩
abbrev S8448x2816 : Shape := ⟨2, ![8448, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S2816x1024, .bf16⟩
  | .hbm, ⟨2, _⟩ => ⟨S_, .f32⟩
  | .hbm, ⟨3, _⟩ => ⟨S8448x2816, .f32⟩
  | .hbm, ⟨4, _⟩ => ⟨S2816x1024, .f32⟩
  | .hbm, ⟨5, _⟩ => ⟨S8448x1024, .f32⟩
  | .hbm, ⟨6, _⟩ => ⟨S8448x1024, .f32⟩
  | .hbm, ⟨7, _⟩ => ⟨S8448x2816, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownW.lean ====
abbrev S8448x2816 : Shape := ⟨2, ![8448, 2816]⟩
abbrev S8448x1024 : Shape := ⟨2, ![8448, 1024]⟩
abbrev S2816x1024 : Shape := ⟨2, ![2816, 1024]⟩
abbrev S1408x1408 : Shape := ⟨2, ![1408, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S2816x1024, .bf16⟩
  | .local _ .vmem, ⟨0, _⟩ => ⟨S1408x1408, .bf16⟩
  | .local _ .vmem, ⟨1, _⟩ => ⟨S1408x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond3 (i : grid0.Coords) : BitVec 1 :=
  let arg2 : BitVec 32 := BitVec.ofNat 32 (i 2).val
  let c5_i32 : BitVec 32 := 5#32
  let v6 : BitVec 1 := Scalar.cmpi .eq arg2 c5_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWRefIdeal.lean ====
abbrev S8448x2816 : Shape := ⟨2, ![8448, 2816]⟩
abbrev S8448x1024 : Shape := ⟨2, ![8448, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S_, .f32⟩
  | .hbm, ⟨3, _⟩ => ⟨S2816x1024, .f32⟩
  | .hbm, ⟨4, _⟩ => ⟨S8448x2816, .f32⟩
  | .hbm, ⟨5, _⟩ => ⟨S8448x1024, .f32⟩
  | .hbm, ⟨6, _⟩ => ⟨S8448x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== In3X.lean ====
abbrev S8448x3072 : Shape := ⟨2, ![8448, 3072]⟩
abbrev S1024x3072 : Shape := ⟨2, ![1024, 3072]⟩
abbrev S8448x1024 : Shape := ⟨2, ![8448, 1024]⟩
abbrev S1056x1536 : Shape := ⟨2, ![1056, 1536]⟩
abbrev S1024x1536 : Shape := ⟨2, ![1024, 1536]⟩
abbrev S1056x1024 : Shape := ⟨2, ![1056, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x3072, .bf16⟩
  | .hbm, ⟨1, _⟩ => ⟨S1024x3072, .bf16⟩
  | .hbm, ⟨2, _⟩ => ⟨S8448x1024, .f32⟩
  | .local _ .vmem, ⟨0, _⟩ => ⟨S1056x1536, .bf16⟩
  | .local _ .vmem, ⟨1, _⟩ => ⟨S1056x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | _, _ => ⟨S8448x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== In3XRefIdeal.lean ====
abbrev S8448x3072 : Shape := ⟨2, ![8448, 3072]⟩
abbrev S1024x3072 : Shape := ⟨2, ![1024, 3072]⟩
abbrev S_ : Shape := ⟨0, ![]⟩
abbrev S8448x1024 : Shape := ⟨2, ![8448, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8448x3072, .bf16⟩
  | .hbm, ⟨1, _⟩ => ⟨S1024x3072, .bf16⟩
  | .hbm, ⟨2, _⟩ => ⟨S_, .f32⟩
  | .hbm, ⟨3, _⟩ => ⟨S8448x1024, .f32⟩
  | .hbm, ⟨4, _⟩ => ⟨S1024x3072, .f32⟩
  | .hbm, ⟨5, _⟩ => ⟨S8448x3072, .f32⟩
  | .hbm, ⟨6, _⟩ => ⟨S8448x3072, .f32⟩
  | .hbm, ⟨7, _⟩ => ⟨S8448x1024, .f32⟩
  | _, _ => ⟨S8448x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== In3W.lean ====
abbrev S8448x1024 : Shape := ⟨2, ![8448, 1024]⟩
abbrev S8448x3072 : Shape := ⟨2, ![8448, 3072]⟩
abbrev S1024x3072 : Shape := ⟨2, ![1024, 3072]⟩
abbrev S1408x1024 : Shape := ⟨2, ![1408, 1024]⟩
abbrev S1408x1536 : Shape := ⟨2, ![1408, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x3072, .bf16⟩
  | .hbm, ⟨2, _⟩ => ⟨S1024x3072, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1536, .bf16⟩
  | .local _ .vmem, ⟨3, _⟩ => ⟨S1408x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 6], ![false, false, false]⟩

def k0_cond3 (i : grid0.Coords) : BitVec 1 :=
  let arg2 : BitVec 32 := BitVec.ofNat 32 (i 2).val
  let c5_i32 : BitVec 32 := 5#32
  let v6 : BitVec 1 := Scalar.cmpi .eq arg2 c5_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== In3WRefIdeal.lean ====
abbrev S8448x1024 : Shape := ⟨2, ![8448, 1024]⟩
abbrev S8448x3072 : Shape := ⟨2, ![8448, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x3072, .bf16⟩
  | .hbm, ⟨2, _⟩ => ⟨S_, .f32⟩
  | .hbm, ⟨3, _⟩ => ⟨S1024x3072, .f32⟩
  | .hbm, ⟨4, _⟩ => ⟨S8448x1024, .f32⟩
  | .hbm, ⟨5, _⟩ => ⟨S8448x3072, .f32⟩
  | .hbm, ⟨6, _⟩ => ⟨S8448x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutX.lean ====
abbrev S8448x1024 : Shape := ⟨2, ![8448, 1024]⟩
abbrev S1024x1024 : Shape := ⟨2, ![1024, 1024]⟩
abbrev S1056x1024 : Shape := ⟨2, ![1056, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .local _ .vmem, ⟨0, _⟩ => ⟨S1056x1024, .bf16⟩
  | .local _ .vmem, ⟨1, _⟩ => ⟨S1056x1024, .bf16⟩
  | .local _ .vmem, ⟨2, _⟩ => ⟨S1024x1024, .bf16⟩
  | .local _ .vmem, ⟨3, _⟩ => ⟨S1056x1024, .f32⟩
  | .local _ .vmem, ⟨4, _⟩ => ⟨S1056x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutXRefIdeal.lean ====
abbrev S8448x1024 : Shape := ⟨2, ![8448, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S_, .f32⟩
  | .hbm, ⟨3, _⟩ => ⟨S8448x1024, .f32⟩
  | .hbm, ⟨4, _⟩ => ⟨S1024x1024, .f32⟩
  | .hbm, ⟨5, _⟩ => ⟨S8448x1024, .f32⟩
  | .hbm, ⟨6, _⟩ => ⟨S8448x1024, .f32⟩
  | .hbm, ⟨7, _⟩ => ⟨S8448x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutW.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v6 : BitVec 1 := Scalar.cmpi .eq arg2 c5_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWRefIdeal.lean ====
abbrev S8448x1024 : Shape := ⟨2, ![8448, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S_, .f32⟩
  | .hbm, ⟨3, _⟩ => ⟨S1024x1024, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== In2X.lean ====
abbrev S8448x2048 : Shape := ⟨2, ![8448, 2048]⟩
abbrev S1024x2048 : Shape := ⟨2, ![1024, 2048]⟩
abbrev S8448x1024 : Shape := ⟨2, ![8448, 1024]⟩
abbrev S1056x2048 : Shape := ⟨2, ![1056, 2048]⟩
abbrev S1056x1024 : Shape := ⟨2, ![1056, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x2048, .bf16⟩
  | .hbm, ⟨1, _⟩ => ⟨S1024x2048, .bf16⟩
  | .hbm, ⟨2, _⟩ => ⟨S8448x1024, .f32⟩
  | .local _ .vmem, ⟨0, _⟩ => ⟨S1056x2048, .bf16⟩
  | .local _ .vmem, ⟨1, _⟩ => ⟨S1056x2048, .bf16⟩
  | .local _ .vmem, ⟨2, _⟩ => ⟨S1024x2048, .bf16⟩
  | .local _ .vmem, ⟨3, _⟩ => ⟨S1056x1024, .f32⟩
  | .local _ .vmem, ⟨4, _⟩ => ⟨S1056x1024, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== In2XRefIdeal.lean ====
abbrev S8448x2048 : Shape := ⟨2, ![8448, 2048]⟩
abbrev S1024x2048 : Shape := ⟨2, ![1024, 2048]⟩
abbrev S_ : Shape := ⟨0, ![]⟩
abbrev S8448x1024 : Shape := ⟨2, ![8448, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S1024x2048, .bf16⟩
  | .hbm, ⟨2, _⟩ => ⟨S_, .f32⟩
  | .hbm, ⟨3, _⟩ => ⟨S8448x1024, .f32⟩
  | .hbm, ⟨4, _⟩ => ⟨S1024x2048, .f32⟩
  | .hbm, ⟨5, _⟩ => ⟨S8448x2048, .f32⟩
  | .hbm, ⟨6, _⟩ => ⟨S8448x2048, .f32⟩
  | .hbm, ⟨7, _⟩ => ⟨S8448x1024, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== In2W.lean ====
abbrev S8448x1024 : Shape := ⟨2, ![8448, 1024]⟩
abbrev S8448x2048 : Shape := ⟨2, ![8448, 2048]⟩
abbrev S1024x2048 : Shape := ⟨2, ![1024, 2048]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x2048, .bf16⟩
  | .hbm, ⟨2, _⟩ => ⟨S1024x2048, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 6], ![false, false, false]⟩

def k0_cond3 (i : grid0.Coords) : BitVec 1 :=
  let arg2 : BitVec 32 := BitVec.ofNat 32 (i 2).val
  let c5_i32 : BitVec 32 := 5#32
  let v6 : BitVec 1 := Scalar.cmpi .eq arg2 c5_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== In2WRefIdeal.lean ====
abbrev S8448x1024 : Shape := ⟨2, ![8448, 1024]⟩
abbrev S8448x2048 : Shape := ⟨2, ![8448, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x2048, .bf16⟩
  | .hbm, ⟨2, _⟩ => ⟨S_, .f32⟩
  | .hbm, ⟨3, _⟩ => ⟨S1024x2048, .f32⟩
  | .hbm, ⟨4, _⟩ => ⟨S8448x1024, .f32⟩
  | .hbm, ⟨5, _⟩ => ⟨S8448x2048, .f32⟩
  | .hbm, ⟨6, _⟩ => ⟨S8448x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== In1X.lean ====
abbrev S8448x1536 : Shape := ⟨2, ![8448, 1536]⟩
abbrev S1024x1536 : Shape := ⟨2, ![1024, 1536]⟩
abbrev S8448x1024 : Shape := ⟨2, ![8448, 1024]⟩
abbrev S1056x1536 : Shape := ⟨2, ![1056, 1536]⟩
abbrev S1056x1024 : Shape := ⟨2, ![1056, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1536, .bf16⟩
  | .hbm, ⟨1, _⟩ => ⟨S1024x1536, .bf16⟩
  | .hbm, ⟨2, _⟩ => ⟨S8448x1024, .f32⟩
  | .local _ .vmem, ⟨0, _⟩ => ⟨S1056x1536, .bf16⟩
  | .local _ .vmem, ⟨1, _⟩ => ⟨S1056x1536, .bf16⟩
  | .local _ .vmem, ⟨2, _⟩ => ⟨S1024x1536, .bf16⟩
  | .local _ .vmem, ⟨3, _⟩ => ⟨S1056x1024, .f32⟩
  | .local _ .vmem, ⟨4, _⟩ => ⟨S1056x1024, .f32⟩
  | _, _ => ⟨S8448x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== In1XRefIdeal.lean ====
abbrev S8448x1536 : Shape := ⟨2, ![8448, 1536]⟩
abbrev S1024x1536 : Shape := ⟨2, ![1024, 1536]⟩
abbrev S_ : Shape := ⟨0, ![]⟩
abbrev S8448x1024 : Shape := ⟨2, ![8448, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8448x1536, .bf16⟩
  | .hbm, ⟨1, _⟩ => ⟨S1024x1536, .bf16⟩
  | .hbm, ⟨2, _⟩ => ⟨S_, .f32⟩
  | .hbm, ⟨3, _⟩ => ⟨S8448x1024, .f32⟩
  | .hbm, ⟨4, _⟩ => ⟨S1024x1536, .f32⟩
  | .hbm, ⟨5, _⟩ => ⟨S8448x1536, .f32⟩
  | .hbm, ⟨6, _⟩ => ⟨S8448x1536, .f32⟩
  | .hbm, ⟨7, _⟩ => ⟨S8448x1024, .f32⟩
  | _, _ => ⟨S8448x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== In1W.lean ====
abbrev S8448x1024 : Shape := ⟨2, ![8448, 1024]⟩
abbrev S8448x1536 : Shape := ⟨2, ![8448, 1536]⟩
abbrev S1024x1536 : Shape := ⟨2, ![1024, 1536]⟩
abbrev S1408x1024 : Shape := ⟨2, ![1408, 1024]⟩
abbrev S1408x1536 : Shape := ⟨2, ![1408, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1536, .bf16⟩
  | .hbm, ⟨2, _⟩ => ⟨S1024x1536, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1536, .bf16⟩
  | .local _ .vmem, ⟨3, _⟩ => ⟨S1408x1536, .bf16⟩
  | .local _ .vmem, ⟨4, _⟩ => ⟨S1024x1536, .bf16⟩
  | .local _ .vmem, ⟨5, _⟩ => ⟨S1024x1536, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v6 : BitVec 1 := Scalar.cmpi .eq arg2 c5_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== In1WRefIdeal.lean ====
abbrev S8448x1024 : Shape := ⟨2, ![8448, 1024]⟩
abbrev S8448x1536 : Shape := ⟨2, ![8448, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1536, .bf16⟩
  | .hbm, ⟨2, _⟩ => ⟨S_, .f32⟩
  | .hbm, ⟨3, _⟩ => ⟨S1024x1536, .f32⟩
  | .hbm, ⟨4, _⟩ => ⟨S8448x1024, .f32⟩
  | .hbm, ⟨5, _⟩ => ⟨S8448x1536, .f32⟩
  | .hbm, ⟨6, _⟩ => ⟨S8448x1536, .f32⟩
  | .hbm, ⟨7, _⟩ => ⟨S1536x1024, .f32⟩
  | .hbm, ⟨8, _⟩ => ⟨S1024x1536, .f32⟩
  | .hbm, ⟨9, _⟩ => ⟨S1024x1536, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpF.lean ====
abbrev S8448x1024 : Shape := ⟨2, ![8448, 1024]⟩
abbrev S1024x5632 : Shape := ⟨2, ![1024, 5632]⟩
abbrev S8448x5632 : Shape := ⟨2, ![8448, 5632]⟩
abbrev S1056x1024 : Shape := ⟨2, ![1056, 1024]⟩
abbrev S1024x1408 : Shape := ⟨2, ![1024, 1408]⟩
abbrev S1056x1408 : Shape := ⟨2, ![1056, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S1024x5632, .bf16⟩
  | .hbm, ⟨2, _⟩ => ⟨S8448x5632, .f32⟩
  | .local _ .vmem, ⟨0, _⟩ => ⟨S1056x1024, .bf16⟩
  | .local _ .vmem, ⟨1, _⟩ => ⟨S1056x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1056x1408, .f32⟩
  | .local _ .vmem, ⟨5, _⟩ => ⟨S1056x1408, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFRefIdeal.lean ====
abbrev S8448x1024 : Shape := ⟨2, ![8448, 1024]⟩
abbrev S1024x5632 : Shape := ⟨2, ![1024, 5632]⟩
abbrev S8448x5632 : Shape := ⟨2, ![8448, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x5632, .bf16⟩
  | .hbm, ⟨2, _⟩ => ⟨S8448x1024, .f32⟩
  | .hbm, ⟨3, _⟩ => ⟨S1024x5632, .f32⟩
  | .hbm, ⟨4, _⟩ => ⟨S8448x5632, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== In3F.lean ====
abbrev S8448x1024 : Shape := ⟨2, ![8448, 1024]⟩
abbrev S1024x3072 : Shape := ⟨2, ![1024, 3072]⟩
abbrev S8448x3072 : Shape := ⟨2, ![8448, 3072]⟩
abbrev S1056x1024 : Shape := ⟨2, ![1056, 1024]⟩
abbrev S1024x1536 : Shape := ⟨2, ![1024, 1536]⟩
abbrev S1056x1536 : Shape := ⟨2, ![1056, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S1024x3072, .bf16⟩
  | .hbm, ⟨2, _⟩ => ⟨S8448x3072, .f32⟩
  | .local _ .vmem, ⟨0, _⟩ => ⟨S1056x1024, .bf16⟩
  | .local _ .vmem, ⟨1, _⟩ => ⟨S1056x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1056x1536, .f32⟩
  | .local _ .vmem, ⟨5, _⟩ => ⟨S1056x1536, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== In3FRefIdeal.lean ====
abbrev S8448x1024 : Shape := ⟨2, ![8448, 1024]⟩
abbrev S1024x3072 : Shape := ⟨2, ![1024, 3072]⟩
abbrev S8448x3072 : Shape := ⟨2, ![8448, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x3072, .bf16⟩
  | .hbm, ⟨2, _⟩ => ⟨S8448x1024, .f32⟩
  | .hbm, ⟨3, _⟩ => ⟨S1024x3072, .f32⟩
  | .hbm, ⟨4, _⟩ => ⟨S8448x3072, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== In2F.lean ====
abbrev S8448x1024 : Shape := ⟨2, ![8448, 1024]⟩
abbrev S1024x2048 : Shape := ⟨2, ![1024, 2048]⟩
abbrev S8448x2048 : Shape := ⟨2, ![8448, 2048]⟩
abbrev S1056x1024 : Shape := ⟨2, ![1056, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S1024x2048, .bf16⟩
  | .hbm, ⟨2, _⟩ => ⟨S8448x2048, .f32⟩
  | .local _ .vmem, ⟨0, _⟩ => ⟨S1056x1024, .bf16⟩
  | .local _ .vmem, ⟨1, _⟩ => ⟨S1056x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1056x1024, .f32⟩
  | .local _ .vmem, ⟨5, _⟩ => ⟨S1056x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== In2FRefIdeal.lean ====
abbrev S8448x1024 : Shape := ⟨2, ![8448, 1024]⟩
abbrev S1024x2048 : Shape := ⟨2, ![1024, 2048]⟩
abbrev S8448x2048 : Shape := ⟨2, ![8448, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x2048, .bf16⟩
  | .hbm, ⟨2, _⟩ => ⟨S8448x1024, .f32⟩
  | .hbm, ⟨3, _⟩ => ⟨S1024x2048, .f32⟩
  | .hbm, ⟨4, _⟩ => ⟨S8448x2048, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.UpXValue.lean ====
/- The gradient of the up projection with respect to its input: the array the kernel leaves is the whole product,
   tile by tile, against one contraction over all 5632 terms. -/
module

public import proofs.«01_k».proof.Proof.Gen.UpXIdeal.Frame
public import proofs.«01_k».proof.Proof.Gen.UpXRefIdeal.Run
public import proofs.«01_k».proof.Proof.Gen.UpXRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpXIdeal.Product

open Cert.UpXIdeal Cert.UpXIdeal.Gen

variable (m : (ℓ : Loc nD τ sig) → Buf (Elt Ideal) ℓ)

/-- Which block each window is on at a grid point. -/
theorem idx : ∀ t : Fin cfg0.N,
    win0_0.index t = ![t.val / 4, t.val % 4] ∧ win0_1.index t = ![0, t.val % 4] ∧ win0_2.index t = ![t.val / 4, 0] :=
  (by decide +kernel : ∀ t : Fin grid0.N, _)

/-- The product one grid point computes, at an index of its block. -/
def part (a : FVec Ideal S1056x1408 .bf16) (b : FVec Ideal S1024x1408 .bf16) (r : Fin 1056) (l : Fin 1024) : EReal :=
  ∑ k : Fin 1408, a (ix2 r k) * b (ix2 l k)

/-- The first store of a run of points, at an index. -/
theorem pay1_at (a : FVec Ideal S1056x1408 .bf16) (b : FVec Ideal S1024x1408 .bf16) (r : Fin 1056) (l : Fin 1024) :
    k0_pay1 (F := Ideal) a b (ix2 r l) = part a b r l := by
  pointwise [k0_pay1, part]

/-- A later store of a run of points adds its product to what the scratch held. -/
theorem pay2_at (s : FVec Ideal S1056x1024 .f32) (a : FVec Ideal S1056x1408 .bf16) (b : FVec Ideal S1024x1408 .bf16)
    (r : Fin 1056) (l : Fin 1024) : k0_pay2 (F := Ideal) s a b (ix2 r l) = s (ix2 r l) + part a b r l := by
  rw [← pay1_at]
  pointwise [k0_pay1, k0_pay2]

/-- The scratch after the first point of a run. -/
theorem scr_first (c : Dev nD) (t : Fin cfg0.N) (h : t.val % 4 = 0) :
    (outsAt0 m c t.val t.isLt).2 = k0_pay1 (iblk m c 0 t) (iblk m c 1 t) := by
  rw [outsAt0_A m c t h (by omega) (by omega)]
  frame_out

/-- The scratch after a later point of a run. -/
theorem scr_next (c : Dev nD) (t : Fin cfg0.N) (h : ¬t.val % 4 = 0) :
    (outsAt0 m c t.val t.isLt).2
      = k0_pay2 (outsAt0 m c (t.val - 1) (Nat.lt_of_le_of_lt (Nat.sub_le _ _) t.isLt)).2 (iblk m c 0 t) (iblk m c 1 t) := by
  by_cases h2 : t.val % 4 = 3
  · rw [outsAt0_C m c t h (by omega) h2]
    frame_out
    exact congrArg (k0_pay2 · _ _) (Memref.IsWhole.read_unread (Memref.isWhole_whole _) _)
  · rw [outsAt0_B m c t h (by omega) h2]
    frame_out
    exact congrArg (k0_pay2 · _ _) (Memref.IsWhole.read_unread (Memref.isWhole_whole _) _)

/-- The output block at the last point of a run is the scratch. -/
theorem out_last (c : Dev nD) (t : Fin cfg0.N) (h : t.val % 4 = 3) :
    (outsAt0 m c t.val t.isLt).1 = (outsAt0 m c t.val t.isLt).2 := by
  rw [outsAt0_C m c t (by omega) (by omega) (by omega)]
  frame_out

/-- The array the kernel leaves: the whole product, as the reference computes it. -/
theorem final (c : Dev nD) : (dats m 0 c).arrAt 2 cfg0.N
    = Cert.UpXRefIdeal.Read.val_main_v4 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2, out_last m c t ((flush0_2 t).mp hf)]
  idx_vars y
  rw [Pipeline.eq_sum_fin_of_reset_step_apply_of_flush (fun n h => (outsAt0 m c n h).2) 4 (fun _ => (0 : EReal))
    (fun t j => part (iblk m c 0 t) (iblk m c 1 t) (j 0) (j 1))
    (fun t h j => by idx_vars j; rw [scr_first m c t h, pay1_at, zero_add])
    (fun t h j => by idx_vars j; rw [scr_next m c t h, pay2_at])
    t ((flush0_2 t).mp hf) _, zero_add]
  rw [Cert.UpXRefIdeal.Read.val_main_v4_apply]
  refine Fin.sum_mul_add_congr fun s k hl => ?_
  pointwise [Cert.UpXRefIdeal.Read.val_main_v1, Cert.UpXRefIdeal.Read.val_main_v3]
  blk_point [iblk, V, idx t, idx ⟨_, Pipeline.run_point_lt_of_flush t ((flush0_2 t).mp hf) s⟩]

end Cert.UpXIdeal.Product

end
-- ==== Proof.UpWValue.lean ====
/- The gradient of the up projection with respect to its weight: the array the kernel leaves is the whole product,
   tile by tile, against one contraction over all 8448 terms. -/
module

public import proofs.«01_k».proof.Proof.Gen.UpWIdeal.Frame
public import proofs.«01_k».proof.Proof.Gen.UpWRefIdeal.Run
public import proofs.«01_k».proof.Proof.Gen.UpWRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpWIdeal.Product

open Cert.UpWIdeal Cert.UpWIdeal.Gen

variable (m : (ℓ : Loc nD τ sig) → Buf (Elt Ideal) ℓ)

/-- Which block each window is on at a grid point. -/
theorem idx : ∀ t : Fin cfg0.N,
    win0_0.index t = ![t.val % 6, 0] ∧ win0_1.index t = ![t.val % 6, t.val / 6] ∧ win0_2.index t = ![0, t.val / 6] :=
  (by decide +kernel : ∀ t : Fin grid0.N, _)

/-- The product one grid point computes, at an index of its block. -/
def part (a : FVec Ideal S1408x1024 .bf16) (b : FVec Ideal S1408x1408 .bf16) (r : Fin 1024) (l : Fin 1408) : EReal :=
  ∑ k : Fin 1408, b (ix2 k l) * a (ix2 k r)

/-- The first store of a run of points, at an index. -/
theorem pay1_at (a : FVec Ideal S1408x1024 .bf16) (b : FVec Ideal S1408x1408 .bf16) (r : Fin 1024) (l : Fin 1408) :
    k0_pay1 (F := Ideal) a b (ix2 r l) = part a b r l := by
  pointwise [k0_pay1, part]
  exact Finset.sum_congr rfl fun k _ => mul_comm _ _

/-- A later store of a run of points adds its product to what the scratch held. -/
theorem pay2_at (s : FVec Ideal S1024x1408 .f32) (a : FVec Ideal S1408x1024 .bf16) (b : FVec Ideal S1408x1408 .bf16)
    (r : Fin 1024) (l : Fin 1408) : k0_pay2 (F := Ideal) s a b (ix2 r l) = s (ix2 r l) + part a b r l := by
  rw [← pay1_at]
  pointwise [k0_pay1, k0_pay2]

/-- The scratch after the first point of a run. -/
theorem scr_first (c : Dev nD) (t : Fin cfg0.N) (h : t.val % 6 = 0) :
    (outsAt0 m c t.val t.isLt).2 = k0_pay1 (iblk m c 0 t) (iblk m c 1 t) := by
  rw [outsAt0_A m c t h (by omega) (by omega)]
  frame_out

/-- The scratch after a later point of a run. -/
theorem scr_next (c : Dev nD) (t : Fin cfg0.N) (h : ¬t.val % 6 = 0) :
    (outsAt0 m c t.val t.isLt).2
      = k0_pay2 (outsAt0 m c (t.val - 1) (Nat.lt_of_le_of_lt (Nat.sub_le _ _) t.isLt)).2 (iblk m c 0 t) (iblk m c 1 t) := by
  by_cases h2 : t.val % 6 = 5
  · rw [outsAt0_C m c t h (by omega) h2]
    frame_out
    exact congrArg (k0_pay2 · _ _) (Memref.IsWhole.read_unread (Memref.isWhole_whole _) _)
  · rw [outsAt0_B m c t h (by omega) h2]
    frame_out
    exact congrArg (k0_pay2 · _ _) (Memref.IsWhole.read_unread (Memref.isWhole_whole _) _)

/-- The output block at the last point of a run is the scratch. -/
theorem out_last (c : Dev nD) (t : Fin cfg0.N) (h : t.val % 6 = 5) :
    (outsAt0 m c t.val t.isLt).1 = k0_pay3 (outsAt0 m c t.val t.isLt).2 := by
  rw [outsAt0_C m c t (by omega) (by omega) (by omega)]
  frame_out

/-- The array the kernel leaves: the whole product, as the reference computes it. -/
theorem final (c : Dev nD) : (dats m 0 c).arrAt 2 cfg0.N
    = Cert.UpWRefIdeal.Read.val_main_v6 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2, out_last m c t ((flush0_2 t).mp hf)]
  idx_vars y
  pointwise [k0_pay3]
  rw [Pipeline.eq_sum_fin_of_reset_step_apply_of_flush (fun n h => (outsAt0 m c n h).2) 6 (fun _ => (0 : EReal))
    (fun t j => part (iblk m c 0 t) (iblk m c 1 t) (j 0) (j 1))
    (fun t h j => by idx_vars j; rw [scr_first m c t h, pay1_at, zero_add])
    (fun t h j => by idx_vars j; rw [scr_next m c t h, pay2_at])
    t ((flush0_2 t).mp hf) _, zero_add]
  rw [Cert.UpWRefIdeal.Read.val_main_v6_apply, Cert.UpWRefIdeal.Read.val_main_v5_apply, Cert.UpWRefIdeal.Read.val_main_v4_apply]
  refine Fin.sum_mul_add_congr fun s k hl => ?_
  pointwise [Cert.UpWRefIdeal.Read.val_main_v1, Cert.UpWRefIdeal.Read.val_main_v3]
  blk_point [iblk, V, idx t, idx ⟨_, Pipeline.run_point_lt_of_flush t ((flush0_2 t).mp hf) s⟩]

end Cert.UpWIdeal.Product

end
-- ==== Proof.DownXValue.lean ====
/- The gradient of the down projection with respect to its input: the array the kernel leaves is the whole product,
   tile by tile, against one contraction over all 1024 terms. -/
module

public import proofs.«01_k».proof.Proof.Gen.DownXIdeal.Frame
public import proofs.«01_k».proof.Proof.Gen.DownXRefIdeal.Run
public import proofs.«01_k».proof.Proof.Gen.DownXRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownXIdeal.Product

open Cert.DownXIdeal Cert.DownXIdeal.Gen

variable (m : (ℓ : Loc nD τ sig) → Buf (Elt Ideal) ℓ)

/-- Which block each window is on at a grid point. -/
theorem idx : ∀ t : Fin cfg0.N,
    win0_0.index t = ![t.val / 2, 0] ∧ win0_1.index t = ![t.val % 2, 0] ∧ win0_2.index t = ![t.val / 2, t.val % 2] :=
  (by decide +kernel : ∀ t : Fin grid0.N, _)

/-- The product one grid point computes, at an index of its block. -/
def part (a : FVec Ideal S1056x1024 .bf16) (b : FVec Ideal S1408x1024 .bf16) (r : Fin 1056) (l : Fin 1408) : EReal :=
  ∑ k : Fin 1024, a (ix2 r k) * b (ix2 l k)

/-- The stored payload at an index. -/
theorem pay1_at (a : FVec Ideal S1056x1024 .bf16) (b : FVec Ideal S1408x1024 .bf16) (r : Fin 1056) (l : Fin 1408) :
    k0_pay1 (F := Ideal) a b (ix2 r l) = part a b r l := by
  pointwise [k0_pay1, part]

/-- The array the kernel leaves: the whole product, as the reference computes it. -/
theorem final (c : Dev nD) : (dats m 0 c).arrAt 2 cfg0.N
    = Cert.DownXRefIdeal.Read.val_main_v4 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  idx_vars y
  rw [pay1_at]
  rw [Cert.DownXRefIdeal.Read.val_main_v4_apply]
  refine Fin.sum_fin_congr fun k => ?_
  pointwise [Cert.DownXRefIdeal.Read.val_main_v1, Cert.DownXRefIdeal.Read.val_main_v3]
  blk_point [iblk, V, idx t]

end Cert.DownXIdeal.Product

end
-- ==== Proof.DownWValue.lean ====
/- The gradient of the down projection with respect to its weight: the array the kernel leaves is the whole product,
   tile by tile, against one contraction over all 8448 terms. -/
module

public import proofs.«01_k».proof.Proof.Gen.DownWIdeal.Frame
public import proofs.«01_k».proof.Proof.Gen.DownWRefIdeal.Run
public import proofs.«01_k».proof.Proof.Gen.DownWRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownWIdeal.Product

open Cert.DownWIdeal Cert.DownWIdeal.Gen

variable (m : (ℓ : Loc nD τ sig) → Buf (Elt Ideal) ℓ)

/-- Which block each window is on at a grid point. -/
theorem idx : ∀ t : Fin cfg0.N,
    win0_0.index t = ![t.val % 6, t.val / 6] ∧ win0_1.index t = ![t.val % 6, 0] ∧ win0_2.index t = ![t.val / 6, 0] :=
  (by decide +kernel : ∀ t : Fin grid0.N, _)

/-- The product one grid point computes, at an index of its block. -/
def part (a : FVec Ideal S1408x1408 .bf16) (b : FVec Ideal S1408x1024 .bf16) (r : Fin 1408) (l : Fin 1024) : EReal :=
  ∑ k : Fin 1408, b (ix2 k l) * a (ix2 k r)

/-- The first store of a run of points, at an index. -/
theorem pay1_at (a : FVec Ideal S1408x1408 .bf16) (b : FVec Ideal S1408x1024 .bf16) (r : Fin 1408) (l : Fin 1024) :
    k0_pay1 (F := Ideal) a b (ix2 r l) = part a b r l := by
  pointwise [k0_pay1, part]
  exact Finset.sum_congr rfl fun k _ => mul_comm _ _

/-- A later store of a run of points adds its product to what the scratch held. -/
theorem pay2_at (s : FVec Ideal S1408x1024 .f32) (a : FVec Ideal S1408x1408 .bf16) (b : FVec Ideal S1408x1024 .bf16)
    (r : Fin 1408) (l : Fin 1024) : k0_pay2 (F := Ideal) s a b (ix2 r l) = s (ix2 r l) + part a b r l := by
  rw [← pay1_at]
  pointwise [k0_pay1, k0_pay2]

/-- The scratch after the first point of a run. -/
theorem scr_first (c : Dev nD) (t : Fin cfg0.N) (h : t.val % 6 = 0) :
    (outsAt0 m c t.val t.isLt).2 = k0_pay1 (iblk m c 0 t) (iblk m c 1 t) := by
  rw [outsAt0_A m c t h (by omega) (by omega)]
  frame_out

/-- The scratch after a later point of a run. -/
theorem scr_next (c : Dev nD) (t : Fin cfg0.N) (h : ¬t.val % 6 = 0) :
    (outsAt0 m c t.val t.isLt).2
      = k0_pay2 (outsAt0 m c (t.val - 1) (Nat.lt_of_le_of_lt (Nat.sub_le _ _) t.isLt)).2 (iblk m c 0 t) (iblk m c 1 t) := by
  by_cases h2 : t.val % 6 = 5
  · rw [outsAt0_C m c t h (by omega) h2]
    frame_out
    exact congrArg (k0_pay2 · _ _) (Memref.IsWhole.read_unread (Memref.isWhole_whole _) _)
  · rw [outsAt0_B m c t h (by omega) h2]
    frame_out
    exact congrArg (k0_pay2 · _ _) (Memref.IsWhole.read_unread (Memref.isWhole_whole _) _)

/-- The output block at the last point of a run is the scratch. -/
theorem out_last (c : Dev nD) (t : Fin cfg0.N) (h : t.val % 6 = 5) :
    (outsAt0 m c t.val t.isLt).1 = k0_pay3 (outsAt0 m c t.val t.isLt).2 := by
  rw [outsAt0_C m c t (by omega) (by omega) (by omega)]
  frame_out

/-- The array the kernel leaves: the whole product, as the reference computes it. -/
theorem final (c : Dev nD) : (dats m 0 c).arrAt 2 cfg0.N
    = Cert.DownWRefIdeal.Read.val_main_v6 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2, out_last m c t ((flush0_2 t).mp hf)]
  idx_vars y
  pointwise [k0_pay3]
  rw [Pipeline.eq_sum_fin_of_reset_step_apply_of_flush (fun n h => (outsAt0 m c n h).2) 6 (fun _ => (0 : EReal))
    (fun t j => part (iblk m c 0 t) (iblk m c 1 t) (j 0) (j 1))
    (fun t h j => by idx_vars j; rw [scr_first m c t h, pay1_at, zero_add])
    (fun t h j => by idx_vars j; rw [scr_next m c t h, pay2_at])
    t ((flush0_2 t).mp hf) _, zero_add]
  rw [Cert.DownWRefIdeal.Read.val_main_v6_apply, Cert.DownWRefIdeal.Read.val_main_v5_apply, Cert.DownWRefIdeal.Read.val_main_v4_apply]
  refine Fin.sum_mul_add_congr fun s k hl => ?_
  pointwise [Cert.DownWRefIdeal.Read.val_main_v1, Cert.DownWRefIdeal.Read.val_main_v3]
  blk_point [iblk, V, idx t, idx ⟨_, Pipeline.run_point_lt_of_flush t ((flush0_2 t).mp hf) s⟩]

end Cert.DownWIdeal.Product

end
-- ==== Proof.In3XValue.lean ====
/- The gradient of a three-way slice of the input projection with respect to its input: the array the kernel leaves is the whole product,
   tile by tile, against one contraction over all 3072 terms. -/
module

public import proofs.«01_k».proof.Proof.Gen.In3XIdeal.Frame
public import proofs.«01_k».proof.Proof.Gen.In3XRefIdeal.Run
public import proofs.«01_k».proof.Proof.Gen.In3XRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.In3XIdeal.Product

open Cert.In3XIdeal Cert.In3XIdeal.Gen

variable (m : (ℓ : Loc nD τ sig) → Buf (Elt Ideal) ℓ)

/-- Which block each window is on at a grid point. -/
theorem idx : ∀ t : Fin cfg0.N,
    win0_0.index t = ![t.val / 2, t.val % 2] ∧ win0_1.index t = ![0, t.val % 2] ∧ win0_2.index t = ![t.val / 2, 0] :=
  (by decide +kernel : ∀ t : Fin grid0.N, _)

/-- The product one grid point computes, at an index of its block. -/
def part (a : FVec Ideal S1056x1536 .bf16) (b : FVec Ideal S1024x1536 .bf16) (r : Fin 1056) (l : Fin 1024) : EReal :=
  ∑ k : Fin 1536, a (ix2 r k) * b (ix2 l k)

/-- The first store of a run of points, at an index. -/
theorem pay1_at (a : FVec Ideal S1056x1536 .bf16) (b : FVec Ideal S1024x1536 .bf16) (r : Fin 1056) (l : Fin 1024) :
    k0_pay1 (F := Ideal) a b (ix2 r l) = part a b r l := by
  pointwise [k0_pay1, part]

/-- A later store of a run of points adds its product to what the scratch held. -/
theorem pay2_at (s : FVec Ideal S1056x1024 .f32) (a : FVec Ideal S1056x1536 .bf16) (b : FVec Ideal S1024x1536 .bf16)
    (r : Fin 1056) (l : Fin 1024) : k0_pay2 (F := Ideal) s a b (ix2 r l) = s (ix2 r l) + part a b r l := by
  rw [← pay1_at]
  pointwise [k0_pay1, k0_pay2]

/-- The scratch after the first point of a run. -/
theorem scr_first (c : Dev nD) (t : Fin cfg0.N) (h : t.val % 2 = 0) :
    (outsAt0 m c t.val t.isLt).2 = k0_pay1 (iblk m c 0 t) (iblk m c 1 t) := by
  rw [outsAt0_A m c t h (by omega) (by omega)]
  frame_out

/-- The scratch after a later point of a run. -/
theorem scr_next (c : Dev nD) (t : Fin cfg0.N) (h : ¬t.val % 2 = 0) :
    (outsAt0 m c t.val t.isLt).2
      = k0_pay2 (outsAt0 m c (t.val - 1) (Nat.lt_of_le_of_lt (Nat.sub_le _ _) t.isLt)).2 (iblk m c 0 t) (iblk m c 1 t) := by
  rw [outsAt0_B m c t h (by omega) (by omega)]
  frame_out
  exact congrArg (k0_pay2 · _ _) (Memref.IsWhole.read_unread (Memref.isWhole_whole _) _)

/-- The output block at the last point of a run is the scratch. -/
theorem out_last (c : Dev nD) (t : Fin cfg0.N) (h : t.val % 2 = 1) :
    (outsAt0 m c t.val t.isLt).1 = (outsAt0 m c t.val t.isLt).2 := by
  rw [outsAt0_B m c t (by omega) (by omega) (by omega)]
  frame_out

/-- The array the kernel leaves: the whole product, as the reference computes it. -/
theorem final (c : Dev nD) : (dats m 0 c).arrAt 2 cfg0.N
    = Cert.In3XRefIdeal.Read.val_main_v4 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2, out_last m c t ((flush0_2 t).mp hf)]
  idx_vars y
  rw [Pipeline.eq_sum_fin_of_reset_step_apply_of_flush (fun n h => (outsAt0 m c n h).2) 2 (fun _ => (0 : EReal))
    (fun t j => part (iblk m c 0 t) (iblk m c 1 t) (j 0) (j 1))
    (fun t h j => by idx_vars j; rw [scr_first m c t h, pay1_at, zero_add])
    (fun t h j => by idx_vars j; rw [scr_next m c t h, pay2_at])
    t ((flush0_2 t).mp hf) _, zero_add]
  rw [Cert.In3XRefIdeal.Read.val_main_v4_apply]
  refine Fin.sum_mul_add_congr fun s k hl => ?_
  pointwise [Cert.In3XRefIdeal.Read.val_main_v1, Cert.In3XRefIdeal.Read.val_main_v3]
  blk_point [iblk, V, idx t, idx ⟨_, Pipeline.run_point_lt_of_flush t ((flush0_2 t).mp hf) s⟩]

end Cert.In3XIdeal.Product

end
-- ==== Proof.In3WValue.lean ====
/- The gradient of a three-way slice of the input projection with respect to its weight: the array the kernel leaves is the whole product,
   tile by tile, against one contraction over all 8448 terms. -/
module

public import proofs.«01_k».proof.Proof.Gen.In3WIdeal.Frame
public import proofs.«01_k».proof.Proof.Gen.In3WRefIdeal.Run
public import proofs.«01_k».proof.Proof.Gen.In3WRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.In3WIdeal.Product

open Cert.In3WIdeal Cert.In3WIdeal.Gen

variable (m : (ℓ : Loc nD τ sig) → Buf (Elt Ideal) ℓ)

/-- Which block each window is on at a grid point. -/
theorem idx : ∀ t : Fin cfg0.N,
    win0_0.index t = ![t.val % 6, 0] ∧ win0_1.index t = ![t.val % 6, t.val / 6] ∧ win0_2.index t = ![0, t.val / 6] :=
  (by decide +kernel : ∀ t : Fin grid0.N, _)

/-- The product one grid point computes, at an index of its block. -/
def part (a : FVec Ideal S1408x1024 .bf16) (b : FVec Ideal S1408x1536 .bf16) (r : Fin 1024) (l : Fin 1536) : EReal :=
  ∑ k : Fin 1408, b (ix2 k l) * a (ix2 k r)

/-- The first store of a run of points, at an index. -/
theorem pay1_at (a : FVec Ideal S1408x1024 .bf16) (b : FVec Ideal S1408x1536 .bf16) (r : Fin 1024) (l : Fin 1536) :
    k0_pay1 (F := Ideal) a b (ix2 r l) = part a b r l := by
  pointwise [k0_pay1, part]
  exact Finset.sum_congr rfl fun k _ => mul_comm _ _

/-- A later store of a run of points adds its product to what the scratch held. -/
theorem pay2_at (s : FVec Ideal S1024x1536 .f32) (a : FVec Ideal S1408x1024 .bf16) (b : FVec Ideal S1408x1536 .bf16)
    (r : Fin 1024) (l : Fin 1536) : k0_pay2 (F := Ideal) s a b (ix2 r l) = s (ix2 r l) + part a b r l := by
  rw [← pay1_at]
  pointwise [k0_pay1, k0_pay2]

/-- The scratch after the first point of a run. -/
theorem scr_first (c : Dev nD) (t : Fin cfg0.N) (h : t.val % 6 = 0) :
    (outsAt0 m c t.val t.isLt).2 = k0_pay1 (iblk m c 0 t) (iblk m c 1 t) := by
  rw [outsAt0_A m c t h (by omega) (by omega)]
  frame_out

/-- The scratch after a later point of a run. -/
theorem scr_next (c : Dev nD) (t : Fin cfg0.N) (h : ¬t.val % 6 = 0) :
    (outsAt0 m c t.val t.isLt).2
      = k0_pay2 (outsAt0 m c (t.val - 1) (Nat.lt_of_le_of_lt (Nat.sub_le _ _) t.isLt)).2 (iblk m c 0 t) (iblk m c 1 t) := by
  by_cases h2 : t.val % 6 = 5
  · rw [outsAt0_C m c t h (by omega) h2]
    frame_out
    exact congrArg (k0_pay2 · _ _) (Memref.IsWhole.read_unread (Memref.isWhole_whole _) _)
  · rw [outsAt0_B m c t h (by omega) h2]
    frame_out
    exact congrArg (k0_pay2 · _ _) (Memref.IsWhole.read_unread (Memref.isWhole_whole _) _)

/-- The output block at the last point of a run is the scratch. -/
theorem out_last (c : Dev nD) (t : Fin cfg0.N) (h : t.val % 6 = 5) :
    (outsAt0 m c t.val t.isLt).1 = k0_pay3 (outsAt0 m c t.val t.isLt).2 := by
  rw [outsAt0_C m c t (by omega) (by omega) (by omega)]
  frame_out

/-- The array the kernel leaves: the whole product, as the reference computes it. -/
theorem final (c : Dev nD) : (dats m 0 c).arrAt 2 cfg0.N
    = Cert.In3WRefIdeal.Read.val_main_v6 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2, out_last m c t ((flush0_2 t).mp hf)]
  idx_vars y
  pointwise [k0_pay3]
  rw [Pipeline.eq_sum_fin_of_reset_step_apply_of_flush (fun n h => (outsAt0 m c n h).2) 6 (fun _ => (0 : EReal))
    (fun t j => part (iblk m c 0 t) (iblk m c 1 t) (j 0) (j 1))
    (fun t h j => by idx_vars j; rw [scr_first m c t h, pay1_at, zero_add])
    (fun t h j => by idx_vars j; rw [scr_next m c t h, pay2_at])
    t ((flush0_2 t).mp hf) _, zero_add]
  rw [Cert.In3WRefIdeal.Read.val_main_v6_apply, Cert.In3WRefIdeal.Read.val_main_v5_apply, Cert.In3WRefIdeal.Read.val_main_v4_apply]
  refine Fin.sum_mul_add_congr fun s k hl => ?_
  pointwise [Cert.In3WRefIdeal.Read.val_main_v1, Cert.In3WRefIdeal.Read.val_main_v3]
  blk_point [iblk, V, idx t, idx ⟨_, Pipeline.run_point_lt_of_flush t ((flush0_2 t).mp hf) s⟩]

end Cert.In3WIdeal.Product

end
-- ==== Proof.OutXValue.lean ====
/- The gradient of a square projection with respect to its input: the array the kernel leaves is the whole product,
   tile by tile, against one contraction over all 1024 terms. -/
module

public import proofs.«01_k».proof.Proof.Gen.OutXIdeal.Frame
public import proofs.«01_k».proof.Proof.Gen.OutXRefIdeal.Run
public import proofs.«01_k».proof.Proof.Gen.OutXRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutXIdeal.Product

open Cert.OutXIdeal Cert.OutXIdeal.Gen

variable (m : (ℓ : Loc nD τ sig) → Buf (Elt Ideal) ℓ)

/-- Which block each window is on at a grid point. -/
theorem idx : ∀ t : Fin cfg0.N,
    win0_0.index t = ![t.val, 0] ∧ win0_1.index t = ![0, 0] ∧ win0_2.index t = ![t.val, 0] :=
  (by decide +kernel : ∀ t : Fin grid0.N, _)

/-- The product one grid point computes, at an index of its block. -/
def part (a : FVec Ideal S1056x1024 .bf16) (b : FVec Ideal S1024x1024 .bf16) (r : Fin 1056) (l : Fin 1024) : EReal :=
  ∑ k : Fin 1024, a (ix2 r k) * b (ix2 l k)

/-- The stored payload at an index. -/
theorem pay1_at (a : FVec Ideal S1056x1024 .bf16) (b : FVec Ideal S1024x1024 .bf16) (r : Fin 1056) (l : Fin 1024) :
    k0_pay1 (F := Ideal) a b (ix2 r l) = part a b r l := by
  pointwise [k0_pay1, part]

/-- The array the kernel leaves: the whole product, as the reference computes it. -/
theorem final (c : Dev nD) : (dats m 0 c).arrAt 2 cfg0.N
    = Cert.OutXRefIdeal.Read.val_main_v4 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  idx_vars y
  rw [pay1_at]
  rw [Cert.OutXRefIdeal.Read.val_main_v4_apply]
  refine Fin.sum_fin_congr fun k => ?_
  pointwise [Cert.OutXRefIdeal.Read.val_main_v1, Cert.OutXRefIdeal.Read.val_main_v3]
  blk_point [iblk, V, idx t]

end Cert.OutXIdeal.Product

end
-- ==== Proof.OutWValue.lean ====
/- The gradient of a square projection with respect to its weight: the array the kernel leaves is the whole product,
   tile by tile, against one contraction over all 8448 terms. -/
module

public import proofs.«01_k».proof.Proof.Gen.OutWIdeal.Frame
public import proofs.«01_k».proof.Proof.Gen.OutWRefIdeal.Run
public import proofs.«01_k».proof.Proof.Gen.OutWRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutWIdeal.Product

open Cert.OutWIdeal Cert.OutWIdeal.Gen

variable (m : (ℓ : Loc nD τ sig) → Buf (Elt Ideal) ℓ)

/-- Which block each window is on at a grid point. -/
theorem idx : ∀ t : Fin cfg0.N,
    win0_0.index t = ![t.val, 0] ∧ win0_1.index t = ![t.val, 0] ∧ win0_2.index t = ![0, 0] :=
  (by decide +kernel : ∀ t : Fin grid0.N, _)

/-- The product one grid point computes, at an index of its block. -/
def part (a : FVec Ideal S1408x1024 .bf16) (b : FVec Ideal S1408x1024 .bf16) (r : Fin 1024) (l : Fin 1024) : EReal :=
  ∑ k : Fin 1408, b (ix2 k l) * a (ix2 k r)

/-- The first store of a run of points, at an index. -/
theorem pay1_at (a : FVec Ideal S1408x1024 .bf16) (b : FVec Ideal S1408x1024 .bf16) (r : Fin 1024) (l : Fin 1024) :
    k0_pay1 (F := Ideal) a b (ix2 r l) = part a b r l := by
  pointwise [k0_pay1, part]
  exact Finset.sum_congr rfl fun k _ => mul_comm _ _

/-- A later store of a run of points adds its product to what the scratch held. -/
theorem pay2_at (s : FVec Ideal S1024x1024 .f32) (a : FVec Ideal S1408x1024 .bf16) (b : FVec Ideal S1408x1024 .bf16)
    (r : Fin 1024) (l : Fin 1024) : k0_pay2 (F := Ideal) s a b (ix2 r l) = s (ix2 r l) + part a b r l := by
  rw [← pay1_at]
  pointwise [k0_pay1, k0_pay2]

/-- The scratch after the first point of a run. -/
theorem scr_first (c : Dev nD) (t : Fin cfg0.N) (h : t.val % 6 = 0) :
    (outsAt0 m c t.val t.isLt).2 = k0_pay1 (iblk m c 0 t) (iblk m c 1 t) := by
  have hN : t.val < 6 := t.isLt
  rw [outsAt0_A m c t h (by omega) (by omega)]
  frame_out

/-- The scratch after a later point of a run. -/
theorem scr_next (c : Dev nD) (t : Fin cfg0.N) (h : ¬t.val % 6 = 0) :
    (outsAt0 m c t.val t.isLt).2
      = k0_pay2 (outsAt0 m c (t.val - 1) (Nat.lt_of_le_of_lt (Nat.sub_le _ _) t.isLt)).2 (iblk m c 0 t) (iblk m c 1 t) := by
  by_cases h2 : t.val % 6 = 5
  · rw [outsAt0_C m c t h (by omega) h2]
    frame_out
    exact congrArg (k0_pay2 · _ _) (Memref.IsWhole.read_unread (Memref.isWhole_whole _) _)
  · rw [outsAt0_B m c t h (by omega) h2]
    frame_out
    exact congrArg (k0_pay2 · _ _) (Memref.IsWhole.read_unread (Memref.isWhole_whole _) _)

/-- The output block at the last point of a run is the scratch. -/
theorem out_last (c : Dev nD) (t : Fin cfg0.N) (h : t.val % 6 = 5) :
    (outsAt0 m c t.val t.isLt).1 = k0_pay3 (outsAt0 m c t.val t.isLt).2 := by
  rw [outsAt0_C m c t (by omega) (by omega) (by omega)]
  frame_out

/-- The array the kernel leaves: the whole product, as the reference computes it. -/
theorem final (c : Dev nD) : (dats m 0 c).arrAt 2 cfg0.N
    = Cert.OutWRefIdeal.Read.val_main_v6 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2, out_last m c t ((flush0_2 t).mp hf)]
  idx_vars y
  pointwise [k0_pay3]
  rw [Pipeline.eq_sum_fin_of_reset_step_apply_of_flush (fun n h => (outsAt0 m c n h).2) 6 (fun _ => (0 : EReal))
    (fun t j => part (iblk m c 0 t) (iblk m c 1 t) (j 0) (j 1))
    (fun t h j => by idx_vars j; rw [scr_first m c t h, pay1_at, zero_add])
    (fun t h j => by idx_vars j; rw [scr_next m c t h, pay2_at])
    t ((flush0_2 t).mp hf) _, zero_add]
  rw [Cert.OutWRefIdeal.Read.val_main_v6_apply, Cert.OutWRefIdeal.Read.val_main_v5_apply, Cert.OutWRefIdeal.Read.val_main_v4_apply]
  refine Fin.sum_mul_add_congr fun s k hl => ?_
  pointwise [Cert.OutWRefIdeal.Read.val_main_v1, Cert.OutWRefIdeal.Read.val_main_v3]
  blk_point [iblk, V, idx t, idx ⟨_, Pipeline.run_point_lt_of_flush t ((flush0_2 t).mp hf) s⟩]

end Cert.OutWIdeal.Product

end
-- ==== Proof.In2XValue.lean ====
/- The gradient of the gating slice of the input projection with respect to its input: the array the kernel leaves is the whole product,
   tile by tile, against one contraction over all 2048 terms. -/
module

public import proofs.«01_k».proof.Proof.Gen.In2XIdeal.Frame
public import proofs.«01_k».proof.Proof.Gen.In2XRefIdeal.Run
public import proofs.«01_k».proof.Proof.Gen.In2XRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.In2XIdeal.Product

open Cert.In2XIdeal Cert.In2XIdeal.Gen

variable (m : (ℓ : Loc nD τ sig) → Buf (Elt Ideal) ℓ)

/-- Which block each window is on at a grid point. -/
theorem idx : ∀ t : Fin cfg0.N,
    win0_0.index t = ![t.val, 0] ∧ win0_1.index t = ![0, 0] ∧ win0_2.index t = ![t.val, 0] :=
  (by decide +kernel : ∀ t : Fin grid0.N, _)

/-- The product one grid point computes, at an index of its block. -/
def part (a : FVec Ideal S1056x2048 .bf16) (b : FVec Ideal S1024x2048 .bf16) (r : Fin 1056) (l : Fin 1024) : EReal :=
  ∑ k : Fin 2048, a (ix2 r k) * b (ix2 l k)

/-- The stored payload at an index. -/
theorem pay1_at (a : FVec Ideal S1056x2048 .bf16) (b : FVec Ideal S1024x2048 .bf16) (r : Fin 1056) (l : Fin 1024) :
    k0_pay1 (F := Ideal) a b (ix2 r l) = part a b r l := by
  pointwise [k0_pay1, part]

/-- The array the kernel leaves: the whole product, as the reference computes it. -/
theorem final (c : Dev nD) : (dats m 0 c).arrAt 2 cfg0.N
    = Cert.In2XRefIdeal.Read.val_main_v4 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  idx_vars y
  rw [pay1_at]
  rw [Cert.In2XRefIdeal.Read.val_main_v4_apply]
  refine Fin.sum_fin_congr fun k => ?_
  pointwise [Cert.In2XRefIdeal.Read.val_main_v1, Cert.In2XRefIdeal.Read.val_main_v3]
  blk_point [iblk, V, idx t]

end Cert.In2XIdeal.Product

end
-- ==== Proof.In2WValue.lean ====
/- The gradient of the gating slice of the input projection with respect to its weight: the array the kernel leaves is the whole product,
   tile by tile, against one contraction over all 8448 terms. -/
module

public import proofs.«01_k».proof.Proof.Gen.In2WIdeal.Frame
public import proofs.«01_k».proof.Proof.Gen.In2WRefIdeal.Run
public import proofs.«01_k».proof.Proof.Gen.In2WRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.In2WIdeal.Product

open Cert.In2WIdeal Cert.In2WIdeal.Gen

variable (m : (ℓ : Loc nD τ sig) → Buf (Elt Ideal) ℓ)

/-- Which block each window is on at a grid point. -/
theorem idx : ∀ t : Fin cfg0.N,
    win0_0.index t = ![t.val % 6, 0] ∧ win0_1.index t = ![t.val % 6, t.val / 6] ∧ win0_2.index t = ![0, t.val / 6] :=
  (by decide +kernel : ∀ t : Fin grid0.N, _)

/-- The product one grid point computes, at an index of its block. -/
def part (a : FVec Ideal S1408x1024 .bf16) (b : FVec Ideal S1408x1024 .bf16) (r : Fin 1024) (l : Fin 1024) : EReal :=
  ∑ k : Fin 1408, b (ix2 k l) * a (ix2 k r)

/-- The first store of a run of points, at an index. -/
theorem pay1_at (a : FVec Ideal S1408x1024 .bf16) (b : FVec Ideal S1408x1024 .bf16) (r : Fin 1024) (l : Fin 1024) :
    k0_pay1 (F := Ideal) a b (ix2 r l) = part a b r l := by
  pointwise [k0_pay1, part]
  exact Finset.sum_congr rfl fun k _ => mul_comm _ _

/-- A later store of a run of points adds its product to what the scratch held. -/
theorem pay2_at (s : FVec Ideal S1024x1024 .f32) (a : FVec Ideal S1408x1024 .bf16) (b : FVec Ideal S1408x1024 .bf16)
    (r : Fin 1024) (l : Fin 1024) : k0_pay2 (F := Ideal) s a b (ix2 r l) = s (ix2 r l) + part a b r l := by
  rw [← pay1_at]
  pointwise [k0_pay1, k0_pay2]

/-- The scratch after the first point of a run. -/
theorem scr_first (c : Dev nD) (t : Fin cfg0.N) (h : t.val % 6 = 0) :
    (outsAt0 m c t.val t.isLt).2 = k0_pay1 (iblk m c 0 t) (iblk m c 1 t) := by
  rw [outsAt0_A m c t h (by omega) (by omega)]
  frame_out

/-- The scratch after a later point of a run. -/
theorem scr_next (c : Dev nD) (t : Fin cfg0.N) (h : ¬t.val % 6 = 0) :
    (outsAt0 m c t.val t.isLt).2
      = k0_pay2 (outsAt0 m c (t.val - 1) (Nat.lt_of_le_of_lt (Nat.sub_le _ _) t.isLt)).2 (iblk m c 0 t) (iblk m c 1 t) := by
  by_cases h2 : t.val % 6 = 5
  · rw [outsAt0_C m c t h (by omega) h2]
    frame_out
    exact congrArg (k0_pay2 · _ _) (Memref.IsWhole.read_unread (Memref.isWhole_whole _) _)
  · rw [outsAt0_B m c t h (by omega) h2]
    frame_out
    exact congrArg (k0_pay2 · _ _) (Memref.IsWhole.read_unread (Memref.isWhole_whole _) _)

/-- The output block at the last point of a run is the scratch. -/
theorem out_last (c : Dev nD) (t : Fin cfg0.N) (h : t.val % 6 = 5) :
    (outsAt0 m c t.val t.isLt).1 = k0_pay3 (outsAt0 m c t.val t.isLt).2 := by
  rw [outsAt0_C m c t (by omega) (by omega) (by omega)]
  frame_out

/-- The array the kernel leaves: the whole product, as the reference computes it. -/
theorem final (c : Dev nD) : (dats m 0 c).arrAt 2 cfg0.N
    = Cert.In2WRefIdeal.Read.val_main_v6 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2, out_last m c t ((flush0_2 t).mp hf)]
  idx_vars y
  pointwise [k0_pay3]
  rw [Pipeline.eq_sum_fin_of_reset_step_apply_of_flush (fun n h => (outsAt0 m c n h).2) 6 (fun _ => (0 : EReal))
    (fun t j => part (iblk m c 0 t) (iblk m c 1 t) (j 0) (j 1))
    (fun t h j => by idx_vars j; rw [scr_first m c t h, pay1_at, zero_add])
    (fun t h j => by idx_vars j; rw [scr_next m c t h, pay2_at])
    t ((flush0_2 t).mp hf) _, zero_add]
  rw [Cert.In2WRefIdeal.Read.val_main_v6_apply, Cert.In2WRefIdeal.Read.val_main_v5_apply, Cert.In2WRefIdeal.Read.val_main_v4_apply]
  refine Fin.sum_mul_add_congr fun s k hl => ?_
  pointwise [Cert.In2WRefIdeal.Read.val_main_v1, Cert.In2WRefIdeal.Read.val_main_v3]
  blk_point [iblk, V, idx t, idx ⟨_, Pipeline.run_point_lt_of_flush t ((flush0_2 t).mp hf) s⟩]

end Cert.In2WIdeal.Product

end
-- ==== Proof.In1XValue.lean ====
/- The gradient of the attention slice of the input projection with respect to its input: the array the kernel leaves is the whole product,
   tile by tile, against one contraction over all 1536 terms. -/
module

public import proofs.«01_k».proof.Proof.Gen.In1XIdeal.Frame
public import proofs.«01_k».proof.Proof.Gen.In1XRefIdeal.Run
public import proofs.«01_k».proof.Proof.Gen.In1XRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.In1XIdeal.Product

open Cert.In1XIdeal Cert.In1XIdeal.Gen

variable (m : (ℓ : Loc nD τ sig) → Buf (Elt Ideal) ℓ)

/-- Which block each window is on at a grid point. -/
theorem idx : ∀ t : Fin cfg0.N,
    win0_0.index t = ![t.val, 0] ∧ win0_1.index t = ![0, 0] ∧ win0_2.index t = ![t.val, 0] :=
  (by decide +kernel : ∀ t : Fin grid0.N, _)

/-- The product one grid point computes, at an index of its block. -/
def part (a : FVec Ideal S1056x1536 .bf16) (b : FVec Ideal S1024x1536 .bf16) (r : Fin 1056) (l : Fin 1024) : EReal :=
  ∑ k : Fin 1536, a (ix2 r k) * b (ix2 l k)

/-- The stored payload at an index. -/
theorem pay1_at (a : FVec Ideal S1056x1536 .bf16) (b : FVec Ideal S1024x1536 .bf16) (r : Fin 1056) (l : Fin 1024) :
    k0_pay1 (F := Ideal) a b (ix2 r l) = part a b r l := by
  pointwise [k0_pay1, part]

/-- The array the kernel leaves: the whole product, as the reference computes it. -/
theorem final (c : Dev nD) : (dats m 0 c).arrAt 2 cfg0.N
    = Cert.In1XRefIdeal.Read.val_main_v4 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  idx_vars y
  rw [pay1_at]
  rw [Cert.In1XRefIdeal.Read.val_main_v4_apply]
  refine Fin.sum_fin_congr fun k => ?_
  pointwise [Cert.In1XRefIdeal.Read.val_main_v1, Cert.In1XRefIdeal.Read.val_main_v3]
  blk_point [iblk, V, idx t]

end Cert.In1XIdeal.Product

end
-- ==== Proof.In1WValue.lean ====
/- The gradient of the attention slice of the input projection with respect to its weight: the array the kernel leaves is the whole product,
   tile by tile, against one contraction over all 8448 terms. -/
module

public import proofs.«01_k».proof.Proof.Gen.In1WIdeal.Frame
public import proofs.«01_k».proof.Proof.Gen.In1WRefIdeal.Run
public import proofs.«01_k».proof.Proof.Gen.In1WRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.In1WIdeal.Product

open Cert.In1WIdeal Cert.In1WIdeal.Gen

variable (m : (ℓ : Loc nD τ sig) → Buf (Elt Ideal) ℓ)

/-- Which block each window is on at a grid point. -/
theorem idx : ∀ t : Fin cfg0.N,
    win0_0.index t = ![t.val, 0] ∧ win0_1.index t = ![t.val, 0] ∧ win0_2.index t = ![0, 0] :=
  (by decide +kernel : ∀ t : Fin grid0.N, _)

/-- The product one grid point computes, at an index of its block. -/
def part (a : FVec Ideal S1408x1024 .bf16) (b : FVec Ideal S1408x1536 .bf16) (r : Fin 1024) (l : Fin 1536) : EReal :=
  ∑ k : Fin 1408, b (ix2 k l) * a (ix2 k r)

/-- The first store of a run of points, at an index. -/
theorem pay1_at (a : FVec Ideal S1408x1024 .bf16) (b : FVec Ideal S1408x1536 .bf16) (r : Fin 1024) (l : Fin 1536) :
    k0_pay1 (F := Ideal) a b (ix2 r l) = part a b r l := by
  pointwise [k0_pay1, part]
  exact Finset.sum_congr rfl fun k _ => mul_comm _ _

/-- A later store of a run of points adds its product to what the scratch held. -/
theorem pay2_at (s : FVec Ideal S1024x1536 .f32) (a : FVec Ideal S1408x1024 .bf16) (b : FVec Ideal S1408x1536 .bf16)
    (r : Fin 1024) (l : Fin 1536) : k0_pay2 (F := Ideal) s a b (ix2 r l) = s (ix2 r l) + part a b r l := by
  rw [← pay1_at]
  pointwise [k0_pay1, k0_pay2]

/-- The scratch after the first point of a run. -/
theorem scr_first (c : Dev nD) (t : Fin cfg0.N) (h : t.val % 6 = 0) :
    (outsAt0 m c t.val t.isLt).2 = k0_pay1 (iblk m c 0 t) (iblk m c 1 t) := by
  have hN : t.val < 6 := t.isLt
  rw [outsAt0_A m c t h (by omega) (by omega)]
  frame_out

/-- The scratch after a later point of a run. -/
theorem scr_next (c : Dev nD) (t : Fin cfg0.N) (h : ¬t.val % 6 = 0) :
    (outsAt0 m c t.val t.isLt).2
      = k0_pay2 (outsAt0 m c (t.val - 1) (Nat.lt_of_le_of_lt (Nat.sub_le _ _) t.isLt)).2 (iblk m c 0 t) (iblk m c 1 t) := by
  by_cases h2 : t.val % 6 = 5
  · rw [outsAt0_C m c t h (by omega) h2]
    frame_out
    exact congrArg (k0_pay2 · _ _) (Memref.IsWhole.read_unread (Memref.isWhole_whole _) _)
  · rw [outsAt0_B m c t h (by omega) h2]
    frame_out
    exact congrArg (k0_pay2 · _ _) (Memref.IsWhole.read_unread (Memref.isWhole_whole _) _)

/-- The output block at the last point of a run is the scratch. -/
theorem out_last (c : Dev nD) (t : Fin cfg0.N) (h : t.val % 6 = 5) :
    (outsAt0 m c t.val t.isLt).1 = k0_pay3 (outsAt0 m c t.val t.isLt).2 := by
  rw [outsAt0_C m c t (by omega) (by omega) (by omega)]
  frame_out

/-- The array the kernel leaves: the whole product, as the reference computes it. -/
theorem final (c : Dev nD) : (dats m 0 c).arrAt 2 cfg0.N
    = Cert.In1WRefIdeal.Read.val_main_v6 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2, out_last m c t ((flush0_2 t).mp hf)]
  idx_vars y
  pointwise [k0_pay3]
  rw [Pipeline.eq_sum_fin_of_reset_step_apply_of_flush (fun n h => (outsAt0 m c n h).2) 6 (fun _ => (0 : EReal))
    (fun t j => part (iblk m c 0 t) (iblk m c 1 t) (j 0) (j 1))
    (fun t h j => by idx_vars j; rw [scr_first m c t h, pay1_at, zero_add])
    (fun t h j => by idx_vars j; rw [scr_next m c t h, pay2_at])
    t ((flush0_2 t).mp hf) _, zero_add]
  rw [Cert.In1WRefIdeal.Read.val_main_v6_apply, Cert.In1WRefIdeal.Read.val_main_v5_apply, Cert.In1WRefIdeal.Read.val_main_v4_apply]
  refine Fin.sum_mul_add_congr fun s k hl => ?_
  pointwise [Cert.In1WRefIdeal.Read.val_main_v1, Cert.In1WRefIdeal.Read.val_main_v3]
  blk_point [iblk, V, idx t, idx ⟨_, Pipeline.run_point_lt_of_flush t ((flush0_2 t).mp hf) s⟩]

end Cert.In1WIdeal.Product

end
-- ==== Proof.UpFValue.lean ====
/- The up projection: the array the kernel leaves is the whole product,
   tile by tile, against one contraction over all 1024 terms. -/
module

public import proofs.«01_k».proof.Proof.Gen.UpFIdeal.Frame
public import proofs.«01_k».proof.Proof.Gen.UpFRefIdeal.Run
public import proofs.«01_k».proof.Proof.Gen.UpFRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpFIdeal.Product

open Cert.UpFIdeal Cert.UpFIdeal.Gen

variable (m : (ℓ : Loc nD τ sig) → Buf (Elt Ideal) ℓ)

/-- Which block each window is on at a grid point. -/
theorem idx : ∀ t : Fin cfg0.N,
    win0_0.index t = ![t.val / 4, 0] ∧ win0_1.index t = ![0, t.val % 4] ∧ win0_2.index t = ![t.val / 4, t.val % 4] :=
  (by decide +kernel : ∀ t : Fin grid0.N, _)

/-- The product one grid point computes, at an index of its block. -/
def part (a : FVec Ideal S1056x1024 .bf16) (b : FVec Ideal S1024x1408 .bf16) (r : Fin 1056) (l : Fin 1408) : EReal :=
  ∑ k : Fin 1024, a (ix2 r k) * b (ix2 k l)

/-- The stored payload at an index. -/
theorem pay1_at (a : FVec Ideal S1056x1024 .bf16) (b : FVec Ideal S1024x1408 .bf16) (r : Fin 1056) (l : Fin 1408) :
    k0_pay1 (F := Ideal) a b (ix2 r l) = part a b r l := by
  pointwise [k0_pay1, part]

/-- The array the kernel leaves: the whole product, as the reference computes it. -/
theorem final (c : Dev nD) : (dats m 0 c).arrAt 2 cfg0.N
    = Cert.UpFRefIdeal.Read.val_main_v2 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  idx_vars y
  rw [pay1_at]
  rw [Cert.UpFRefIdeal.Read.val_main_v2_apply]
  refine Fin.sum_fin_congr fun k => ?_
  pointwise [Cert.UpFRefIdeal.Read.val_main_v0, Cert.UpFRefIdeal.Read.val_main_v1]
  blk_point [iblk, V, idx t]

end Cert.UpFIdeal.Product

end
-- ==== Proof.In3FValue.lean ====
/- A three-way slice of the input projection: the array the kernel leaves is the whole product,
   tile by tile, against one contraction over all 1024 terms. -/
module

public import proofs.«01_k».proof.Proof.Gen.In3FIdeal.Frame
public import proofs.«01_k».proof.Proof.Gen.In3FRefIdeal.Run
public import proofs.«01_k».proof.Proof.Gen.In3FRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.In3FIdeal.Product

open Cert.In3FIdeal Cert.In3FIdeal.Gen

variable (m : (ℓ : Loc nD τ sig) → Buf (Elt Ideal) ℓ)

/-- Which block each window is on at a grid point. -/
theorem idx : ∀ t : Fin cfg0.N,
    win0_0.index t = ![t.val / 2, 0] ∧ win0_1.index t = ![0, t.val % 2] ∧ win0_2.index t = ![t.val / 2, t.val % 2] :=
  (by decide +kernel : ∀ t : Fin grid0.N, _)

/-- The product one grid point computes, at an index of its block. -/
def part (a : FVec Ideal S1056x1024 .bf16) (b : FVec Ideal S1024x1536 .bf16) (r : Fin 1056) (l : Fin 1536) : EReal :=
  ∑ k : Fin 1024, a (ix2 r k) * b (ix2 k l)

/-- The stored payload at an index. -/
theorem pay1_at (a : FVec Ideal S1056x1024 .bf16) (b : FVec Ideal S1024x1536 .bf16) (r : Fin 1056) (l : Fin 1536) :
    k0_pay1 (F := Ideal) a b (ix2 r l) = part a b r l := by
  pointwise [k0_pay1, part]

/-- The array the kernel leaves: the whole product, as the reference computes it. -/
theorem final (c : Dev nD) : (dats m 0 c).arrAt 2 cfg0.N
    = Cert.In3FRefIdeal.Read.val_main_v2 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  idx_vars y
  rw [pay1_at]
  rw [Cert.In3FRefIdeal.Read.val_main_v2_apply]
  refine Fin.sum_fin_congr fun k => ?_
  pointwise [Cert.In3FRefIdeal.Read.val_main_v0, Cert.In3FRefIdeal.Read.val_main_v1]
  blk_point [iblk, V, idx t]

end Cert.In3FIdeal.Product

end
-- ==== Proof.In2FValue.lean ====
/- The gating slice of the input projection: the array the kernel leaves is the whole product,
   tile by tile, against one contraction over all 1024 terms. -/
module

public import proofs.«01_k».proof.Proof.Gen.In2FIdeal.Frame
public import proofs.«01_k».proof.Proof.Gen.In2FRefIdeal.Run
public import proofs.«01_k».proof.Proof.Gen.In2FRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.In2FIdeal.Product

open Cert.In2FIdeal Cert.In2FIdeal.Gen

variable (m : (ℓ : Loc nD τ sig) → Buf (Elt Ideal) ℓ)

/-- Which block each window is on at a grid point. -/
theorem idx : ∀ t : Fin cfg0.N,
    win0_0.index t = ![t.val / 2, 0] ∧ win0_1.index t = ![0, t.val % 2] ∧ win0_2.index t = ![t.val / 2, t.val % 2] :=
  (by decide +kernel : ∀ t : Fin grid0.N, _)

/-- The product one grid point computes, at an index of its block. -/
def part (a : FVec Ideal S1056x1024 .bf16) (b : FVec Ideal S1024x1024 .bf16) (r : Fin 1056) (l : Fin 1024) : EReal :=
  ∑ k : Fin 1024, a (ix2 r k) * b (ix2 k l)

/-- The stored payload at an index. -/
theorem pay1_at (a : FVec Ideal S1056x1024 .bf16) (b : FVec Ideal S1024x1024 .bf16) (r : Fin 1056) (l : Fin 1024) :
    k0_pay1 (F := Ideal) a b (ix2 r l) = part a b r l := by
  pointwise [k0_pay1, part]

/-- The array the kernel leaves: the whole product, as the reference computes it. -/
theorem final (c : Dev nD) : (dats m 0 c).arrAt 2 cfg0.N
    = Cert.In2FRefIdeal.Read.val_main_v2 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  idx_vars y
  rw [pay1_at]
  rw [Cert.In2FRefIdeal.Read.val_main_v2_apply]
  refine Fin.sum_fin_congr fun k => ?_
  pointwise [Cert.In2FRefIdeal.Read.val_main_v0, Cert.In2FRefIdeal.Read.val_main_v1]
  blk_point [iblk, V, idx t]

end Cert.In2FIdeal.Product

end
-- ==== Proof.GateReals.lean ====
/- The gating's gradient over the real numbers, on one chunk of 128 rows, and how real arithmetic sits inside the
   extended reals. -/
module

public import Idealize.ShloMosaic.Lib.Pointwise
public import Idealize.ShloMosaic.Lib.Claim

@[expose] public section

noncomputable section

open Idealize.ShloMosaic

namespace Cert.GateReals

/-! ## Reals inside the extended reals -/

/-- A finite sum of reals, read as an extended real. -/
theorem sum_coe {ι : Type} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

/-- The hyperbolic tangent of a real. -/
theorem tanh_coe (x : ℝ) : Ideal.tanh (x : EReal) = ((Real.tanh x : ℝ) : EReal) := rfl

/-- The quotient of two reals, the divisor not zero. -/
theorem div_coe (x : ℝ) {y : ℝ} (h : y ≠ 0) : Ideal.div (x : EReal) (y : EReal) = ((x / y : ℝ) : EReal) := by
  rw [Ideal.div_coe h, ← EReal.coe_mul, mul_one_div]

/-- The reciprocal square root of a positive real. -/
theorem rsqrt_coe {x : ℝ} (h : 0 < x) : Ideal.rsqrt (x : EReal) = (((√x)⁻¹ : ℝ) : EReal) := by
  show (if x < 0 then ⊥ else if x = 0 then ⊤ else ((Real.sqrt x)⁻¹ : EReal)) = _
  rw [if_neg (not_lt.mpr h.le), if_neg h.ne', EReal.coe_inv]

/-- The float word of 1/2. -/
theorem c_half : Ideal.ofBits .f32 0x3F000000#32 = ((1 / 2 : ℝ) : EReal) := by
  simp [Ideal.ofBits, Ideal.ieee]; rw [← EReal.coe_mul]; norm_num
/-- The float word of -1/2. -/
theorem c_mhalf : Ideal.ofBits .f32 0xBF000000#32 = ((-(1 / 2) : ℝ) : EReal) := by
  simp [Ideal.ofBits, Ideal.ieee]; rw [← EReal.coe_mul]; norm_num
/-- The float word of 1. -/
theorem c_one : Ideal.ofBits .f32 0x3F800000#32 = ((1 : ℝ) : EReal) := by
  simp [Ideal.ofBits, Ideal.ieee]; rw [← EReal.coe_mul]; norm_num
/-- The float word of 1024. -/
theorem c_width : Ideal.ofBits .f32 0x44800000#32 = ((1024 : ℝ) : EReal) := by
  simp [Ideal.ofBits, Ideal.ieee]; rw [← EReal.coe_mul]; norm_num
/-- The float word next to the square root of 2/π. -/
theorem c_k : Ideal.ofBits .f32 0x3F4C422A#32 = ((13386282 / 16777216 : ℝ) : EReal) := by
  simp [Ideal.ofBits, Ideal.ieee]; rw [← EReal.coe_mul]; norm_num
/-- The float word next to a millionth. -/
theorem c_eps : Ideal.ofBits .f32 0x358637BD#32 = ((8796093 / 8796093022208 : ℝ) : EReal) := by
  simp [Ideal.ofBits, Ideal.ieee]; rw [← EReal.coe_mul]; norm_num
/-- The float word of 8943. -/
theorem c_num : Ideal.ofBits .f32 0x460BBC00#32 = ((8943 : ℝ) : EReal) := by
  simp [Ideal.ofBits, Ideal.ieee]; rw [← EReal.coe_mul]; norm_num
/-- The float word of 200000. -/
theorem c_den : Ideal.ofBits .f32 0x48435000#32 = ((200000 : ℝ) : EReal) := by
  simp [Ideal.ofBits, Ideal.ieee]; rw [← EReal.coe_mul]; norm_num

/-! ## The gating's gradient on one chunk

`u` and `v` are the two halves of the rows of a chunk before the activation, `d` the gradient that comes in, `w` and `b`
the mixing weights and biases of the eight groups of lanes, `g` the scale of the normalisation. -/

/-- The scale inside the activation: the float next to the square root of 2/π. -/
def kk : ℝ := 13386282 / 16777216
/-- The hyperbolic tangent inside the activation. -/
def th (x : ℝ) : ℝ := Real.tanh (kk * (x + 8943 / 200000 * (x * x * x)))
/-- The activation. -/
def gel (x : ℝ) : ℝ := x * (1 / 2 * (1 + th x))
/-- The derivative of the activation. -/
def dgel (x : ℝ) : ℝ :=
  1 / 2 * (1 + th x) + 1 / 2 * x * (1 - th x * th x) * kk * (1 + 26829 / 200000 * x * x)

/-- The group of a lane. -/
def grp (l : Fin 1024) : Fin 8 := ⟨l.val / 128, by omega⟩
/-- Lane `c` of a group. -/
def lane (a : Fin 8) (c : Fin 128) : Fin 1024 := ⟨128 * a.val + c.val, by omega⟩

/-- The mean square of a row after the activation, and the small constant. -/
def ms (v : Fin 128 → Fin 1024 → ℝ) (q : Fin 128) : ℝ :=
  (∑ k, gel (v q k) * gel (v q k)) / 1024 + 8796093 / 8796093022208
/-- The factor that normalises a row. -/
def pr (v : Fin 128 → Fin 1024 → ℝ) (q : Fin 128) : ℝ := (√(ms v q))⁻¹
/-- The normalised row, before its scale. -/
def vhat (v : Fin 128 → Fin 1024 → ℝ) (q : Fin 128) (l : Fin 1024) : ℝ := gel (v q l) * pr v q
/-- The normalised row. -/
def vnorm (v : Fin 128 → Fin 1024 → ℝ) (g : Fin 1024 → ℝ) (q : Fin 128) (l : Fin 1024) : ℝ := vhat v q l * g l
/-- The rows of a chunk, mixed in each group of lanes. -/
def mixed (v : Fin 128 → Fin 1024 → ℝ) (w : Fin 8 → Fin 128 → Fin 128 → ℝ) (b : Fin 8 → Fin 128 → ℝ) (g : Fin 1024 → ℝ)
    (p : Fin 128) (l : Fin 1024) : ℝ := (∑ q, w (grp l) p q * vnorm v g q l) + b (grp l) p
/-- The gradient at the left half of a row. -/
def dleft (u v d : Fin 128 → Fin 1024 → ℝ) (w : Fin 8 → Fin 128 → Fin 128 → ℝ) (b : Fin 8 → Fin 128 → ℝ)
    (g : Fin 1024 → ℝ) (p : Fin 128) (l : Fin 1024) : ℝ := d p l * mixed v w b g p l * dgel (u p l)
/-- The gradient at the mixed rows. -/
def dmix (u d : Fin 128 → Fin 1024 → ℝ) (p : Fin 128) (l : Fin 1024) : ℝ := d p l * gel (u p l)
/-- The gradient at the normalised rows. -/
def dvn (u d : Fin 128 → Fin 1024 → ℝ) (w : Fin 8 → Fin 128 → Fin 128 → ℝ) (q : Fin 128) (l : Fin 1024) : ℝ :=
  ∑ p, w (grp l) p q * dmix u d p l
/-- What a chunk adds to the gradient of the mixing weights. -/
def dwt (u v d : Fin 128 → Fin 1024 → ℝ) (g : Fin 1024 → ℝ) (a : Fin 8) (p q : Fin 128) : ℝ :=
  ∑ c, dmix u d p (lane a c) * vnorm v g q (lane a c)
/-- What a chunk adds to the gradient of the biases. -/
def dbt (u d : Fin 128 → Fin 1024 → ℝ) (a : Fin 8) (p : Fin 128) : ℝ := ∑ c, dmix u d p (lane a c)
/-- What a chunk adds to the gradient of the normalisation's scale. -/
def dgt (u v d : Fin 128 → Fin 1024 → ℝ) (w : Fin 8 → Fin 128 → Fin 128 → ℝ) (l : Fin 1024) : ℝ :=
  ∑ q, dvn u d w q l * vhat v q l
/-- The gradient at the right half of a row. -/
def dright (u v d : Fin 128 → Fin 1024 → ℝ) (w : Fin 8 → Fin 128 → Fin 128 → ℝ) (g : Fin 1024 → ℝ)
    (q : Fin 128) (l : Fin 1024) : ℝ :=
  pr v q * (dvn u d w q l * g l
    - vhat v q l * ((∑ k, dvn u d w q k * g k * vhat v q k) / 1024)) * dgel (v q l)

/-- The mean square with its constant is positive. -/
theorem ms_pos (v : Fin 128 → Fin 1024 → ℝ) (q : Fin 128) : 0 < ms v q := by
  have h : 0 ≤ ∑ k, gel (v q k) * gel (v q k) := Finset.sum_nonneg fun k _ => mul_self_nonneg _
  have h2 : 0 ≤ (∑ k, gel (v q k) * gel (v q k)) / 1024 := by positivity
  unfold ms
  linarith [show (0 : ℝ) < 8796093 / 8796093022208 by norm_num]

end Cert.GateReals

end
-- ==== Proof.GateLift.lean ====
/- What the kernel's payloads compute on one chunk, over the real numbers: the activation and its derivative, the
   normalised rows, and, per group of lanes, the tiles it stores. -/
module

public import proofs.«01_k».proof.Proof.Gen.GateIdeal.Frame
public import proofs.«01_k».proof.Proof.GateReals
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Cert.GateReals

namespace Cert.GateIdeal.Lift

open Cert.GateIdeal Cert.GateIdeal.Gen

/-- The scale of the cube, named. -/
theorem n_cubic : Named.named (F := Ideal) Cert.GateIdeal.κ "cubic" (φ := .f32) 0x3D372713#32 = ((8943 / 200000 : ℝ) : EReal) := rfl
/-- Three times the scale of the cube, named. -/
theorem n_cubic3 : Named.named (F := Ideal) Cert.GateIdeal.κ "cubic3" (φ := .f32) 0x3E095D4F#32 = ((26829 / 200000 : ℝ) : EReal) := rfl

variable {u v d : Fin 128 → Fin 1024 → ℝ} {g : Fin 1024 → ℝ}
variable {x3 x32 x75 x16 x31 x74 : FVec Ideal S128x1024 .f32} {x61 : FVec Ideal S1x1024 .f32}

/-- The activation of the left half. -/
theorem pay7_at (h : ∀ q l, x3 (ix2 q l) = ((u q l : ℝ) : EReal)) (q : Fin 128) (l : Fin 1024) :
    k0_pay7 (F := Ideal) x3 (ix2 q l) = ((gel (u q l) : ℝ) : EReal) := by
  pointwise [k0_pay7, k0_pay6, k0_pay5]
  simp only [h, n_cubic, c_half, c_one, c_width, c_k, c_eps, ← EReal.coe_mul, ← EReal.coe_add, ← EReal.coe_sub, sum_coe, tanh_coe]
  rfl

/-- The derivative of the activation of the left half. -/
theorem pay8_at (h : ∀ q l, x3 (ix2 q l) = ((u q l : ℝ) : EReal)) (q : Fin 128) (l : Fin 1024) :
    k0_pay8 (F := Ideal) x3 (ix2 q l) = ((dgel (u q l) : ℝ) : EReal) := by
  pointwise [k0_pay8, k0_pay6, k0_pay5]
  simp only [h, n_cubic, n_cubic3, c_half, c_one, c_width, c_k, c_eps, ← EReal.coe_mul, ← EReal.coe_add, ← EReal.coe_sub, sum_coe, tanh_coe]
  rfl

/-- The activation of the right half. -/
theorem pay11_at (h : ∀ q l, x32 (ix2 q l) = ((v q l : ℝ) : EReal)) (q : Fin 128) (l : Fin 1024) :
    k0_pay11 (F := Ideal) x32 (k0_pay9 (F := Ideal) x32) (ix2 q l) = ((gel (v q l) : ℝ) : EReal) := by
  pointwise [k0_pay11, k0_pay10, k0_pay9]
  simp only [h, n_cubic, c_half, c_one, c_width, c_k, c_eps, ← EReal.coe_mul, ← EReal.coe_add, ← EReal.coe_sub, sum_coe, tanh_coe]
  rfl

/-- The derivative of the activation of the right half. -/
theorem pay12_at (h : ∀ q l, x32 (ix2 q l) = ((v q l : ℝ) : EReal)) (q : Fin 128) (l : Fin 1024) :
    k0_pay12 (F := Ideal) x32 (k0_pay9 (F := Ideal) x32) (ix2 q l) = ((dgel (v q l) : ℝ) : EReal) := by
  pointwise [k0_pay12, k0_pay10, k0_pay9]
  simp only [h, n_cubic, n_cubic3, c_half, c_one, c_width, c_k, c_eps, ← EReal.coe_mul, ← EReal.coe_add, ← EReal.coe_sub, sum_coe, tanh_coe]
  rfl

/-- The factor that normalises a row. -/
theorem pay14_at (h : ∀ q l, x32 (ix2 q l) = ((v q l : ℝ) : EReal)) (q : Fin 128) :
    k0_pay14 (F := Ideal) x32 (k0_pay9 (F := Ideal) x32) (ix2 q 0) = ((pr v q : ℝ) : EReal) := by
  pointwise [k0_pay14]
  simp only [pay11_at h, c_half, c_one, c_width, c_k, c_eps, ← EReal.coe_mul, ← EReal.coe_add, ← EReal.coe_sub, sum_coe, tanh_coe, div_coe _ (show (1024 : ℝ) ≠ 0 by norm_num)]
  exact rsqrt_coe (ms_pos v q)

/-- The normalised row before its scale. -/
theorem pay15_at (h : ∀ q l, x32 (ix2 q l) = ((v q l : ℝ) : EReal)) (q : Fin 128) (l : Fin 1024) :
    k0_pay15 (F := Ideal) x32 (k0_pay9 (F := Ideal) x32) (ix2 q l) = ((vhat v q l : ℝ) : EReal) := by
  pointwise [k0_pay15]
  simp only [pay11_at h, pay14_at h, ← EReal.coe_mul, ← EReal.coe_add, ← EReal.coe_sub, sum_coe, tanh_coe]
  rfl

/-- The normalised row. -/
theorem pay16_at (h : ∀ q l, x32 (ix2 q l) = ((v q l : ℝ) : EReal)) (hg : ∀ l, x61 (ix2 0 l) = ((g l : ℝ) : EReal))
    (q : Fin 128) (l : Fin 1024) :
    k0_pay16 (F := Ideal) x32 (k0_pay9 (F := Ideal) x32) x61 (ix2 q l) = ((vnorm v g q l : ℝ) : EReal) := by
  pointwise [k0_pay16, k0_pay13]
  simp only [pay15_at h, hg, ← EReal.coe_mul, ← EReal.coe_add, ← EReal.coe_sub, sum_coe, tanh_coe]
  rfl

/-- Lane `c` of the first group. -/
theorem lane_zero (c : Fin 128) : lane 0 c = ⟨c.val, by omega⟩ := by
  ext; simp [lane]

variable {dY gU dU nV : Fin 128 → Fin 1024 → ℝ} {wG : Fin 128 → Fin 128 → ℝ} {bG : Fin 128 → ℝ}
variable {w bb : FVec Ideal S1x128x128 .f32}

/-- Group 0: the tile of the left half's gradient. -/
theorem left0 (h31 : ∀ q l, x31 (ix2 q l) = ((dU q l : ℝ) : EReal)) (h74 : ∀ q l, k0_pay16 (F := Ideal) x32 (k0_pay9 (F := Ideal) x32) x61 (ix2 q l) = ((nV q l : ℝ) : EReal))
    (h75 : ∀ q l, x75 (ix2 q l) = ((dY q l : ℝ) : EReal)) (hw : ∀ p q, w (ix3 0 p q) = ((wG p q : ℝ) : EReal))
    (hb : ∀ p q, bb (ix3 0 p q) = ((bG p : ℝ) : EReal)) (p c : Fin 128) :
    k0_pay20 (F := Ideal) x31 x75 (k0_pay19 (F := Ideal) x32 (k0_pay9 (F := Ideal) x32) x61 w) bb (ix2 p c)
      = ((dY p (lane 0 c) * ((∑ q, wG p q * nV q (lane 0 c)) + bG p) * dU p (lane 0 c) : ℝ) : EReal) := by
  pointwise [k0_pay20, k0_pay19, k0_pay18, k0_pay17]
  simp only [h31, h74, h75, hw, hb, ← EReal.coe_mul, ← EReal.coe_add, ← EReal.coe_sub, sum_coe, tanh_coe]
  simp only [lane_zero]

/-- Group 1: the tile of the left half's gradient. -/
theorem left1 (h31 : ∀ q l, x31 (ix2 q l) = ((dU q l : ℝ) : EReal)) (h74 : ∀ q l, x74 (ix2 q l) = ((nV q l : ℝ) : EReal))
    (h75 : ∀ q l, x75 (ix2 q l) = ((dY q l : ℝ) : EReal)) (hw : ∀ p q, w (ix3 0 p q) = ((wG p q : ℝ) : EReal))
    (hb : ∀ p q, bb (ix3 0 p q) = ((bG p : ℝ) : EReal)) (p c : Fin 128) :
    k0_pay29 (F := Ideal) x31 x75 (k0_pay26 (F := Ideal) w) (k0_pay27 (F := Ideal) x74) bb (ix2 p c)
      = ((dY p (lane 1 c) * ((∑ q, wG p q * nV q (lane 1 c)) + bG p) * dU p (lane 1 c) : ℝ) : EReal) := by
  pointwise [k0_pay29, k0_pay28, k0_pay27, k0_pay26]
  simp only [h31, h74, h75, hw, hb, ← EReal.coe_mul, ← EReal.coe_add, ← EReal.coe_sub, sum_coe, tanh_coe]
  rfl

/-- Group 2: the tile of the left half's gradient. -/
theorem left2 (h31 : ∀ q l, x31 (ix2 q l) = ((dU q l : ℝ) : EReal)) (h74 : ∀ q l, x74 (ix2 q l) = ((nV q l : ℝ) : EReal))
    (h75 : ∀ q l, x75 (ix2 q l) = ((dY q l : ℝ) : EReal)) (hw : ∀ p q, w (ix3 0 p q) = ((wG p q : ℝ) : EReal))
    (hb : ∀ p q, bb (ix3 0 p q) = ((bG p : ℝ) : EReal)) (p c : Fin 128) :
    k0_pay37 (F := Ideal) x31 x74 x75 w bb (ix2 p c)
      = ((dY p (lane 2 c) * ((∑ q, wG p q * nV q (lane 2 c)) + bG p) * dU p (lane 2 c) : ℝ) : EReal) := by
  pointwise [k0_pay37, k0_pay36, k0_pay35]
  simp only [h31, h74, h75, hw, hb, ← EReal.coe_mul, ← EReal.coe_add, ← EReal.coe_sub, sum_coe, tanh_coe]
  rfl

/-- Group 3: the tile of the left half's gradient. -/
theorem left3 (h31 : ∀ q l, x31 (ix2 q l) = ((dU q l : ℝ) : EReal)) (h74 : ∀ q l, x74 (ix2 q l) = ((nV q l : ℝ) : EReal))
    (h75 : ∀ q l, x75 (ix2 q l) = ((dY q l : ℝ) : EReal)) (hw : ∀ p q, w (ix3 0 p q) = ((wG p q : ℝ) : EReal))
    (hb : ∀ p q, bb (ix3 0 p q) = ((bG p : ℝ) : EReal)) (p c : Fin 128) :
    k0_pay45 (F := Ideal) x31 x74 x75 w bb (ix2 p c)
      = ((dY p (lane 3 c) * ((∑ q, wG p q * nV q (lane 3 c)) + bG p) * dU p (lane 3 c) : ℝ) : EReal) := by
  pointwise [k0_pay45, k0_pay44, k0_pay43]
  simp only [h31, h74, h75, hw, hb, ← EReal.coe_mul, ← EReal.coe_add, ← EReal.coe_sub, sum_coe, tanh_coe]
  rfl

/-- Group 4: the tile of the left half's gradient. -/
theorem left4 (h31 : ∀ q l, x31 (ix2 q l) = ((dU q l : ℝ) : EReal)) (h74 : ∀ q l, x74 (ix2 q l) = ((nV q l : ℝ) : EReal))
    (h75 : ∀ q l, x75 (ix2 q l) = ((dY q l : ℝ) : EReal)) (hw : ∀ p q, w (ix3 0 p q) = ((wG p q : ℝ) : EReal))
    (hb : ∀ p q, bb (ix3 0 p q) = ((bG p : ℝ) : EReal)) (p c : Fin 128) :
    k0_pay54 (F := Ideal) x31 x74 x75 w bb (ix2 p c)
      = ((dY p (lane 4 c) * ((∑ q, wG p q * nV q (lane 4 c)) + bG p) * dU p (lane 4 c) : ℝ) : EReal) := by
  pointwise [k0_pay54, k0_pay53, k0_pay52]
  simp only [h31, h74, h75, hw, hb, ← EReal.coe_mul, ← EReal.coe_add, ← EReal.coe_sub, sum_coe, tanh_coe]
  rfl

/-- Group 5: the tile of the left half's gradient. -/
theorem left5 (h31 : ∀ q l, x31 (ix2 q l) = ((dU q l : ℝ) : EReal)) (h74 : ∀ q l, x74 (ix2 q l) = ((nV q l : ℝ) : EReal))
    (h75 : ∀ q l, x75 (ix2 q l) = ((dY q l : ℝ) : EReal)) (hw : ∀ p q, w (ix3 0 p q) = ((wG p q : ℝ) : EReal))
    (hb : ∀ p q, bb (ix3 0 p q) = ((bG p : ℝ) : EReal)) (p c : Fin 128) :
    k0_pay64 (F := Ideal) x31 x74 x75 w bb (ix2 p c)
      = ((dY p (lane 5 c) * ((∑ q, wG p q * nV q (lane 5 c)) + bG p) * dU p (lane 5 c) : ℝ) : EReal) := by
  pointwise [k0_pay64, k0_pay63, k0_pay62]
  simp only [h31, h74, h75, hw, hb, ← EReal.coe_mul, ← EReal.coe_add, ← EReal.coe_sub, sum_coe, tanh_coe]
  rfl

/-- Group 6: the tile of the left half's gradient. -/
theorem left6 (h31 : ∀ q l, x31 (ix2 q l) = ((dU q l : ℝ) : EReal)) (h74 : ∀ q l, x74 (ix2 q l) = ((nV q l : ℝ) : EReal))
    (h75 : ∀ q l, x75 (ix2 q l) = ((dY q l : ℝ) : EReal)) (hw : ∀ p q, w (ix3 0 p q) = ((wG p q : ℝ) : EReal))
    (hb : ∀ p q, bb (ix3 0 p q) = ((bG p : ℝ) : EReal)) (p c : Fin 128) :
    k0_pay73 (F := Ideal) x31 x74 x75 w bb (ix2 p c)
      = ((dY p (lane 6 c) * ((∑ q, wG p q * nV q (lane 6 c)) + bG p) * dU p (lane 6 c) : ℝ) : EReal) := by
  pointwise [k0_pay73, k0_pay72, k0_pay71]
  simp only [h31, h74, h75, hw, hb, ← EReal.coe_mul, ← EReal.coe_add, ← EReal.coe_sub, sum_coe, tanh_coe]
  rfl

/-- Group 7: the tile of the left half's gradient. -/
theorem left7 (h31 : ∀ q l, x31 (ix2 q l) = ((dU q l : ℝ) : EReal)) (h74 : ∀ q l, x74 (ix2 q l) = ((nV q l : ℝ) : EReal))
    (h75 : ∀ q l, x75 (ix2 q l) = ((dY q l : ℝ) : EReal)) (hw : ∀ p q, w (ix3 0 p q) = ((wG p q : ℝ) : EReal))
    (hb : ∀ p q, bb (ix3 0 p q) = ((bG p : ℝ) : EReal)) (p c : Fin 128) :
    k0_pay81 (F := Ideal) x31 x74 x75 w bb (ix2 p c)
      = ((dY p (lane 7 c) * ((∑ q, wG p q * nV q (lane 7 c)) + bG p) * dU p (lane 7 c) : ℝ) : EReal) := by
  pointwise [k0_pay81, k0_pay80, k0_pay79]
  simp only [h31, h74, h75, hw, hb, ← EReal.coe_mul, ← EReal.coe_add, ← EReal.coe_sub, sum_coe, tanh_coe]
  rfl

/-- Group 0: the gradient at the normalised rows. -/
theorem back0 (h16 : ∀ q l, x16 (ix2 q l) = ((gU q l : ℝ) : EReal))
    (h75 : ∀ q l, x75 (ix2 q l) = ((dY q l : ℝ) : EReal)) (hw : ∀ p q, w (ix3 0 p q) = ((wG p q : ℝ) : EReal)) (q c : Fin 128) :
    k0_pay23 (F := Ideal) x16 x75 (k0_pay17 (F := Ideal) w) (ix2 q c)
      = ((∑ p, wG p q * (dY p (lane 0 c) * gU p (lane 0 c)) : ℝ) : EReal) := by
  pointwise [k0_pay23, k0_pay22, k0_pay21, k0_pay17]
  simp only [h16, h75, hw, ← EReal.coe_mul, ← EReal.coe_add, ← EReal.coe_sub, sum_coe, tanh_coe]
  simp only [lane_zero]

/-- Group 1: the gradient at the normalised rows. -/
theorem back1 (h16 : ∀ q l, x16 (ix2 q l) = ((gU q l : ℝ) : EReal))
    (h75 : ∀ q l, x75 (ix2 q l) = ((dY q l : ℝ) : EReal)) (hw : ∀ p q, w (ix3 0 p q) = ((wG p q : ℝ) : EReal)) (q c : Fin 128) :
    k0_pay32 (F := Ideal) x16 x75 (k0_pay26 (F := Ideal) w) (ix2 q c)
      = ((∑ p, wG p q * (dY p (lane 1 c) * gU p (lane 1 c)) : ℝ) : EReal) := by
  pointwise [k0_pay32, k0_pay31, k0_pay30, k0_pay26]
  simp only [h16, h75, hw, ← EReal.coe_mul, ← EReal.coe_add, ← EReal.coe_sub, sum_coe, tanh_coe]
  rfl

/-- Group 2: the gradient at the normalised rows. -/
theorem back2 (h16 : ∀ q l, x16 (ix2 q l) = ((gU q l : ℝ) : EReal))
    (h75 : ∀ q l, x75 (ix2 q l) = ((dY q l : ℝ) : EReal)) (hw : ∀ p q, w (ix3 0 p q) = ((wG p q : ℝ) : EReal)) (q c : Fin 128) :
    k0_pay40 (F := Ideal) x16 x75 w (ix2 q c)
      = ((∑ p, wG p q * (dY p (lane 2 c) * gU p (lane 2 c)) : ℝ) : EReal) := by
  pointwise [k0_pay40, k0_pay39, k0_pay38, k0_pay35]
  simp only [h16, h75, hw, ← EReal.coe_mul, ← EReal.coe_add, ← EReal.coe_sub, sum_coe, tanh_coe]
  rfl

/-- Group 3: the gradient at the normalised rows. -/
theorem back3 (h16 : ∀ q l, x16 (ix2 q l) = ((gU q l : ℝ) : EReal))
    (h75 : ∀ q l, x75 (ix2 q l) = ((dY q l : ℝ) : EReal)) (hw : ∀ p q, w (ix3 0 p q) = ((wG p q : ℝ) : EReal)) (q c : Fin 128) :
    k0_pay48 (F := Ideal) x16 x75 w (ix2 q c)
      = ((∑ p, wG p q * (dY p (lane 3 c) * gU p (lane 3 c)) : ℝ) : EReal) := by
  pointwise [k0_pay48, k0_pay47, k0_pay46, k0_pay43]
  simp only [h16, h75, hw, ← EReal.coe_mul, ← EReal.coe_add, ← EReal.coe_sub, sum_coe, tanh_coe]
  rfl

/-- Group 4: the gradient at the normalised rows. -/
theorem back4 (h16 : ∀ q l, x16 (ix2 q l) = ((gU q l : ℝ) : EReal))
    (h75 : ∀ q l, x75 (ix2 q l) = ((dY q l : ℝ) : EReal)) (hw : ∀ p q, w (ix3 0 p q) = ((wG p q : ℝ) : EReal)) (q c : Fin 128) :
    k0_pay57 (F := Ideal) x16 x75 w (ix2 q c)
      = ((∑ p, wG p q * (dY p (lane 4 c) * gU p (lane 4 c)) : ℝ) : EReal) := by
  pointwise [k0_pay57, k0_pay56, k0_pay55, k0_pay52]
  simp only [h16, h75, hw, ← EReal.coe_mul, ← EReal.coe_add, ← EReal.coe_sub, sum_coe, tanh_coe]
  rfl

/-- Group 5: the gradient at the normalised rows. -/
theorem back5 (h16 : ∀ q l, x16 (ix2 q l) = ((gU q l : ℝ) : EReal))
    (h75 : ∀ q l, x75 (ix2 q l) = ((dY q l : ℝ) : EReal)) (hw : ∀ p q, w (ix3 0 p q) = ((wG p q : ℝ) : EReal)) (q c : Fin 128) :
    k0_pay67 (F := Ideal) x16 x75 w (ix2 q c)
      = ((∑ p, wG p q * (dY p (lane 5 c) * gU p (lane 5 c)) : ℝ) : EReal) := by
  pointwise [k0_pay67, k0_pay66, k0_pay65, k0_pay62]
  simp only [h16, h75, hw, ← EReal.coe_mul, ← EReal.coe_add, ← EReal.coe_sub, sum_coe, tanh_coe]
  rfl

/-- Group 6: the gradient at the normalised rows. -/
theorem back6 (h16 : ∀ q l, x16 (ix2 q l) = ((gU q l : ℝ) : EReal))
    (h75 : ∀ q l, x75 (ix2 q l) = ((dY q l : ℝ) : EReal)) (hw : ∀ p q, w (ix3 0 p q) = ((wG p q : ℝ) : EReal)) (q c : Fin 128) :
    k0_pay76 (F := Ideal) x16 x75 w (ix2 q c)
      = ((∑ p, wG p q * (dY p (lane 6 c) * gU p (lane 6 c)) : ℝ) : EReal) := by
  pointwise [k0_pay76, k0_pay75, k0_pay74, k0_pay71]
  simp only [h16, h75, hw, ← EReal.coe_mul, ← EReal.coe_add, ← EReal.coe_sub, sum_coe, tanh_coe]
  rfl

/-- Group 7: the gradient at the normalised rows. -/
theorem back7 (h16 : ∀ q l, x16 (ix2 q l) = ((gU q l : ℝ) : EReal))
    (h75 : ∀ q l, x75 (ix2 q l) = ((dY q l : ℝ) : EReal)) (hw : ∀ p q, w (ix3 0 p q) = ((wG p q : ℝ) : EReal)) (q c : Fin 128) :
    k0_pay84 (F := Ideal) x16 x75 w (ix2 q c)
      = ((∑ p, wG p q * (dY p (lane 7 c) * gU p (lane 7 c)) : ℝ) : EReal) := by
  pointwise [k0_pay84, k0_pay83, k0_pay82, k0_pay79]
  simp only [h16, h75, hw, ← EReal.coe_mul, ← EReal.coe_add, ← EReal.coe_sub, sum_coe, tanh_coe]
  rfl

/-- Group 0: what the chunk adds to the gradient of the mixing weights. -/
theorem wt0 (h16 : ∀ q l, x16 (ix2 q l) = ((gU q l : ℝ) : EReal)) (h74 : ∀ q l, k0_pay16 (F := Ideal) x32 (k0_pay9 (F := Ideal) x32) x61 (ix2 q l) = ((nV q l : ℝ) : EReal))
    (h75 : ∀ q l, x75 (ix2 q l) = ((dY q l : ℝ) : EReal)) (p q : Fin 128) :
    k0_pay24 (F := Ideal) x16 x75 (k0_pay18 (F := Ideal) x32 (k0_pay9 (F := Ideal) x32) x61) w (ix3 0 p q)
      = w (ix3 0 p q) + ((∑ c, dY p (lane 0 c) * gU p (lane 0 c) * nV q (lane 0 c) : ℝ) : EReal) := by
  pointwise [k0_pay24, k0_pay22, k0_pay21, k0_pay18]
  simp only [h16, h74, h75, ← EReal.coe_mul, ← EReal.coe_add, ← EReal.coe_sub, sum_coe, tanh_coe]
  simp only [lane_zero]

/-- Group 1: what the chunk adds to the gradient of the mixing weights. -/
theorem wt1 (h16 : ∀ q l, x16 (ix2 q l) = ((gU q l : ℝ) : EReal)) (h74 : ∀ q l, x74 (ix2 q l) = ((nV q l : ℝ) : EReal))
    (h75 : ∀ q l, x75 (ix2 q l) = ((dY q l : ℝ) : EReal)) (p q : Fin 128) :
    k0_pay33 (F := Ideal) x16 x75 (k0_pay27 (F := Ideal) x74) w (ix3 0 p q)
      = w (ix3 0 p q) + ((∑ c, dY p (lane 1 c) * gU p (lane 1 c) * nV q (lane 1 c) : ℝ) : EReal) := by
  pointwise [k0_pay33, k0_pay31, k0_pay30, k0_pay28, k0_pay27]
  simp only [h16, h74, h75, ← EReal.coe_mul, ← EReal.coe_add, ← EReal.coe_sub, sum_coe, tanh_coe]
  rfl

/-- Group 2: what the chunk adds to the gradient of the mixing weights. -/
theorem wt2 (h16 : ∀ q l, x16 (ix2 q l) = ((gU q l : ℝ) : EReal)) (h74 : ∀ q l, x74 (ix2 q l) = ((nV q l : ℝ) : EReal))
    (h75 : ∀ q l, x75 (ix2 q l) = ((dY q l : ℝ) : EReal)) (p q : Fin 128) :
    k0_pay41 (F := Ideal) x16 x74 x75 w (ix3 0 p q)
      = w (ix3 0 p q) + ((∑ c, dY p (lane 2 c) * gU p (lane 2 c) * nV q (lane 2 c) : ℝ) : EReal) := by
  pointwise [k0_pay41, k0_pay39, k0_pay38, k0_pay36]
  simp only [h16, h74, h75, ← EReal.coe_mul, ← EReal.coe_add, ← EReal.coe_sub, sum_coe, tanh_coe]
  rfl

/-- Group 3: what the chunk adds to the gradient of the mixing weights. -/
theorem wt3 (h16 : ∀ q l, x16 (ix2 q l) = ((gU q l : ℝ) : EReal)) (h74 : ∀ q l, x74 (ix2 q l) = ((nV q l : ℝ) : EReal))
    (h75 : ∀ q l, x75 (ix2 q l) = ((dY q l : ℝ) : EReal)) (p q : Fin 128) :
    k0_pay49 (F := Ideal) x16 x74 x75 w (ix3 0 p q)
      = w (ix3 0 p q) + ((∑ c, dY p (lane 3 c) * gU p (lane 3 c) * nV q (lane 3 c) : ℝ) : EReal) := by
  pointwise [k0_pay49, k0_pay47, k0_pay46, k0_pay44]
  simp only [h16, h74, h75, ← EReal.coe_mul, ← EReal.coe_add, ← EReal.coe_sub, sum_coe, tanh_coe]
  rfl

/-- Group 4: what the chunk adds to the gradient of the mixing weights. -/
theorem wt4 (h16 : ∀ q l, x16 (ix2 q l) = ((gU q l : ℝ) : EReal)) (h74 : ∀ q l, x74 (ix2 q l) = ((nV q l : ℝ) : EReal))
    (h75 : ∀ q l, x75 (ix2 q l) = ((dY q l : ℝ) : EReal)) (p q : Fin 128) :
    k0_pay58 (F := Ideal) x16 x74 x75 w (ix3 0 p q)
      = w (ix3 0 p q) + ((∑ c, dY p (lane 4 c) * gU p (lane 4 c) * nV q (lane 4 c) : ℝ) : EReal) := by
  pointwise [k0_pay58, k0_pay56, k0_pay55, k0_pay53]
  simp only [h16, h74, h75, ← EReal.coe_mul, ← EReal.coe_add, ← EReal.coe_sub, sum_coe, tanh_coe]
  rfl

/-- Group 5: what the chunk adds to the gradient of the mixing weights. -/
theorem wt5 (h16 : ∀ q l, x16 (ix2 q l) = ((gU q l : ℝ) : EReal)) (h74 : ∀ q l, x74 (ix2 q l) = ((nV q l : ℝ) : EReal))
    (h75 : ∀ q l, x75 (ix2 q l) = ((dY q l : ℝ) : EReal)) (p q : Fin 128) :
    k0_pay68 (F := Ideal) x16 x74 x75 w (ix3 0 p q)
      = w (ix3 0 p q) + ((∑ c, dY p (lane 5 c) * gU p (lane 5 c) * nV q (lane 5 c) : ℝ) : EReal) := by
  pointwise [k0_pay68, k0_pay66, k0_pay65, k0_pay63]
  simp only [h16, h74, h75, ← EReal.coe_mul, ← EReal.coe_add, ← EReal.coe_sub, sum_coe, tanh_coe]
  rfl

/-- Group 6: what the chunk adds to the gradient of the mixing weights. -/
theorem wt6 (h16 : ∀ q l, x16 (ix2 q l) = ((gU q l : ℝ) : EReal)) (h74 : ∀ q l, x74 (ix2 q l) = ((nV q l : ℝ) : EReal))
    (h75 : ∀ q l, x75 (ix2 q l) = ((dY q l : ℝ) : EReal)) (p q : Fin 128) :
    k0_pay77 (F := Ideal) x16 x74 x75 w (ix3 0 p q)
      = w (ix3 0 p q) + ((∑ c, dY p (lane 6 c) * gU p (lane 6 c) * nV q (lane 6 c) : ℝ) : EReal) := by
  pointwise [k0_pay77, k0_pay75, k0_pay74, k0_pay72]
  simp only [h16, h74, h75, ← EReal.coe_mul, ← EReal.coe_add, ← EReal.coe_sub, sum_coe, tanh_coe]
  rfl

/-- Group 7: what the chunk adds to the gradient of the mixing weights. -/
theorem wt7 (h16 : ∀ q l, x16 (ix2 q l) = ((gU q l : ℝ) : EReal)) (h74 : ∀ q l, x74 (ix2 q l) = ((nV q l : ℝ) : EReal))
    (h75 : ∀ q l, x75 (ix2 q l) = ((dY q l : ℝ) : EReal)) (p q : Fin 128) :
    k0_pay86 (F := Ideal) (k0_pay85 (F := Ideal) x16 x74 x75 w) (ix3 0 p q)
      = w (ix3 0 p q) + ((∑ c, dY p (lane 7 c) * gU p (lane 7 c) * nV q (lane 7 c) : ℝ) : EReal) := by
  pointwise [k0_pay86, k0_pay85, k0_pay83, k0_pay82, k0_pay80]
  simp only [h16, h74, h75, ← EReal.coe_mul, ← EReal.coe_add, ← EReal.coe_sub, sum_coe, tanh_coe]
  rfl

/-- Group 0: what the chunk adds to the gradient of the biases. -/
theorem bias0 (h16 : ∀ q l, x16 (ix2 q l) = ((gU q l : ℝ) : EReal))
    (h75 : ∀ q l, x75 (ix2 q l) = ((dY q l : ℝ) : EReal)) (p q : Fin 128) :
    k0_pay25 (F := Ideal) x16 x75 w (ix3 0 p q)
      = w (ix3 0 p q) + ((∑ c, dY p (lane 0 c) * gU p (lane 0 c) : ℝ) : EReal) := by
  pointwise [k0_pay25, k0_pay21]
  simp only [h16, h75, ← EReal.coe_mul, ← EReal.coe_add, ← EReal.coe_sub, sum_coe, tanh_coe]
  simp only [lane_zero]

/-- Group 1: what the chunk adds to the gradient of the biases. -/
theorem bias1 (h16 : ∀ q l, x16 (ix2 q l) = ((gU q l : ℝ) : EReal))
    (h75 : ∀ q l, x75 (ix2 q l) = ((dY q l : ℝ) : EReal)) (p q : Fin 128) :
    k0_pay34 (F := Ideal) x16 x75 w (ix3 0 p q)
      = w (ix3 0 p q) + ((∑ c, dY p (lane 1 c) * gU p (lane 1 c) : ℝ) : EReal) := by
  pointwise [k0_pay34, k0_pay30]
  simp only [h16, h75, ← EReal.coe_mul, ← EReal.coe_add, ← EReal.coe_sub, sum_coe, tanh_coe]
  rfl

/-- Group 2: what the chunk adds to the gradient of the biases. -/
theorem bias2 (h16 : ∀ q l, x16 (ix2 q l) = ((gU q l : ℝ) : EReal))
    (h75 : ∀ q l, x75 (ix2 q l) = ((dY q l : ℝ) : EReal)) (p q : Fin 128) :
    k0_pay42 (F := Ideal) x16 x75 w (ix3 0 p q)
      = w (ix3 0 p q) + ((∑ c, dY p (lane 2 c) * gU p (lane 2 c) : ℝ) : EReal) := by
  pointwise [k0_pay42, k0_pay38]
  simp only [h16, h75, ← EReal.coe_mul, ← EReal.coe_add, ← EReal.coe_sub, sum_coe, tanh_coe]
  rfl

/-- Group 3: what the chunk adds to the gradient of the biases. -/
theorem bias3 (h16 : ∀ q l, x16 (ix2 q l) = ((gU q l : ℝ) : EReal))
    (h75 : ∀ q l, x75 (ix2 q l) = ((dY q l : ℝ) : EReal)) (p q : Fin 128) :
    k0_pay51 (F := Ideal) (k0_pay50 (F := Ideal) x16 x75 w) (ix3 0 p q)
      = w (ix3 0 p q) + ((∑ c, dY p (lane 3 c) * gU p (lane 3 c) : ℝ) : EReal) := by
  pointwise [k0_pay51, k0_pay50, k0_pay46]
  simp only [h16, h75, ← EReal.coe_mul, ← EReal.coe_add, ← EReal.coe_sub, sum_coe, tanh_coe]
  rfl

/-- Group 4: what the chunk adds to the gradient of the biases. -/
theorem bias4 (h16 : ∀ q l, x16 (ix2 q l) = ((gU q l : ℝ) : EReal))
    (h75 : ∀ q l, x75 (ix2 q l) = ((dY q l : ℝ) : EReal)) (p q : Fin 128) :
    k0_pay61 (F := Ideal) (k0_pay59 (F := Ideal) w) (k0_pay60 (F := Ideal) x16 x75) (ix3 0 p q)
      = w (ix3 0 p q) + ((∑ c, dY p (lane 4 c) * gU p (lane 4 c) : ℝ) : EReal) := by
  pointwise [k0_pay61, k0_pay60, k0_pay59, k0_pay55]
  simp only [h16, h75, ← EReal.coe_mul, ← EReal.coe_add, ← EReal.coe_sub, sum_coe, tanh_coe]
  rfl

/-- Group 5: what the chunk adds to the gradient of the biases. -/
theorem bias5 (h16 : ∀ q l, x16 (ix2 q l) = ((gU q l : ℝ) : EReal))
    (h75 : ∀ q l, x75 (ix2 q l) = ((dY q l : ℝ) : EReal)) (p q : Fin 128) :
    k0_pay70 (F := Ideal) (k0_pay65 (F := Ideal) x16 x75) (k0_pay69 (F := Ideal) w) (ix3 0 p q)
      = w (ix3 0 p q) + ((∑ c, dY p (lane 5 c) * gU p (lane 5 c) : ℝ) : EReal) := by
  pointwise [k0_pay70, k0_pay69, k0_pay65]
  simp only [h16, h75, ← EReal.coe_mul, ← EReal.coe_add, ← EReal.coe_sub, sum_coe, tanh_coe]
  rfl

/-- Group 6: what the chunk adds to the gradient of the biases. -/
theorem bias6 (h16 : ∀ q l, x16 (ix2 q l) = ((gU q l : ℝ) : EReal))
    (h75 : ∀ q l, x75 (ix2 q l) = ((dY q l : ℝ) : EReal)) (p q : Fin 128) :
    k0_pay78 (F := Ideal) (k0_pay74 (F := Ideal) x16 x75) w (ix3 0 p q)
      = w (ix3 0 p q) + ((∑ c, dY p (lane 6 c) * gU p (lane 6 c) : ℝ) : EReal) := by
  pointwise [k0_pay78, k0_pay74]
  simp only [h16, h75, ← EReal.coe_mul, ← EReal.coe_add, ← EReal.coe_sub, sum_coe, tanh_coe]
  rfl

/-- Group 7: what the chunk adds to the gradient of the biases. -/
theorem bias7 (h16 : ∀ q l, x16 (ix2 q l) = ((gU q l : ℝ) : EReal))
    (h75 : ∀ q l, x75 (ix2 q l) = ((dY q l : ℝ) : EReal)) (p q : Fin 128) :
    k0_pay87 (F := Ideal) (k0_pay82 (F := Ideal) x16 x75) w (ix3 0 p q)
      = w (ix3 0 p q) + ((∑ c, dY p (lane 7 c) * gU p (lane 7 c) : ℝ) : EReal) := by
  pointwise [k0_pay87, k0_pay82]
  simp only [h16, h75, ← EReal.coe_mul, ← EReal.coe_add, ← EReal.coe_sub, sum_coe, tanh_coe]
  rfl

end Cert.GateIdeal.Lift

end
-- ==== Proof.GateStack.lean ====
/- The stacked gradient at the normalised rows, and what the kernel makes of it: the gradient of the scale, and the
   right half of the rows' gradient. -/
module

public import proofs.«01_k».proof.Proof.Gen.GateIdeal.Frame
public import proofs.«01_k».proof.Proof.GateReals
public import proofs.«01_k».proof.Proof.GateLift
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Cert.GateReals

namespace Cert.GateIdeal.Lift

open Cert.GateIdeal Cert.GateIdeal.Gen

variable {v d : Fin 128 → Fin 1024 → ℝ} {g : Fin 1024 → ℝ}
variable {x32 x72 : FVec Ideal S128x1024 .f32} {x61 : FVec Ideal S1x1024 .f32} {x373 : FVec Ideal S8x1024 .f32}
variable {E vH : Fin 128 → Fin 1024 → ℝ} {y0 y1 y2 y3 y4 y5 y6 y7 : FVec Ideal S128x128 .f32}

/-- Eight tiles side by side: the lane picks its tile. -/
theorem stack (h0 : ∀ q c, y0 (ix2 q c) = ((E q (lane 0 c) : ℝ) : EReal))
    (h1 : ∀ q c, y1 (ix2 q c) = ((E q (lane 1 c) : ℝ) : EReal))
    (h2 : ∀ q c, y2 (ix2 q c) = ((E q (lane 2 c) : ℝ) : EReal))
    (h3 : ∀ q c, y3 (ix2 q c) = ((E q (lane 3 c) : ℝ) : EReal))
    (h4 : ∀ q c, y4 (ix2 q c) = ((E q (lane 4 c) : ℝ) : EReal))
    (h5 : ∀ q c, y5 (ix2 q c) = ((E q (lane 5 c) : ℝ) : EReal))
    (h6 : ∀ q c, y6 (ix2 q c) = ((E q (lane 6 c) : ℝ) : EReal))
    (h7 : ∀ q c, y7 (ix2 q c) = ((E q (lane 7 c) : ℝ) : EReal)) (q : Fin 128) (l : Fin 1024) :
    k0_pay88 (F := Ideal) y0 y1 y2 y3 y4 y5 y6 y7 (ix2 q l) = ((E q l : ℝ) : EReal) := by
  pointwise [k0_pay88]
  split_ifs
  all_goals simp only [h0, h1, h2, h3, h4, h5, h6, h7]
  all_goals (congr 2; ext; simp only [lane]; omega)

/-- The gradient of the scale: the first row takes the column sums, the other rows stay. -/
theorem scale_at (h72 : ∀ q l, x72 (ix2 q l) = ((vH q l : ℝ) : EReal)) (h0 : ∀ q c, y0 (ix2 q c) = ((E q (lane 0 c) : ℝ) : EReal))
    (h1 : ∀ q c, y1 (ix2 q c) = ((E q (lane 1 c) : ℝ) : EReal))
    (h2 : ∀ q c, y2 (ix2 q c) = ((E q (lane 2 c) : ℝ) : EReal))
    (h3 : ∀ q c, y3 (ix2 q c) = ((E q (lane 3 c) : ℝ) : EReal))
    (h4 : ∀ q c, y4 (ix2 q c) = ((E q (lane 4 c) : ℝ) : EReal))
    (h5 : ∀ q c, y5 (ix2 q c) = ((E q (lane 5 c) : ℝ) : EReal))
    (h6 : ∀ q c, y6 (ix2 q c) = ((E q (lane 6 c) : ℝ) : EReal))
    (h7 : ∀ q c, y7 (ix2 q c) = ((E q (lane 7 c) : ℝ) : EReal)) (r : Fin 8) (l : Fin 1024) :
    k0_pay89 (F := Ideal) x72 y0 y1 y2 y3 y4 y5 y6 y7 x373 (ix2 r l)
      = x373 (ix2 r l) + (if r.val = 0 then ((∑ q, E q l * vH q l : ℝ) : EReal) else 0) := by
  pointwise [k0_pay89]
  simp only [stack h0 h1 h2 h3 h4 h5 h6 h7, h72, ← EReal.coe_mul, sum_coe]
  rw [(by decide : ∀ r : Fin 8, IntOp.cmpi .eq (BitVec.ofNat 32 r.val) 0#32 = if r.val = 0 then 1#1 else 0#1) r]
  by_cases h : r.val = 0
  · rw [if_pos h, if_pos h]
    rfl
  · rw [if_neg h, if_neg h]
    rfl

/-- The gradient at the normalised rows with its mean along the row taken off. -/
theorem centre (hg : ∀ l, x61 (ix2 0 l) = ((g l : ℝ) : EReal)) (h72 : ∀ q l, x72 (ix2 q l) = ((vH q l : ℝ) : EReal))
    (h0 : ∀ q c, y0 (ix2 q c) = ((E q (lane 0 c) : ℝ) : EReal))
    (h1 : ∀ q c, y1 (ix2 q c) = ((E q (lane 1 c) : ℝ) : EReal))
    (h2 : ∀ q c, y2 (ix2 q c) = ((E q (lane 2 c) : ℝ) : EReal))
    (h3 : ∀ q c, y3 (ix2 q c) = ((E q (lane 3 c) : ℝ) : EReal))
    (h4 : ∀ q c, y4 (ix2 q c) = ((E q (lane 4 c) : ℝ) : EReal))
    (h5 : ∀ q c, y5 (ix2 q c) = ((E q (lane 5 c) : ℝ) : EReal))
    (h6 : ∀ q c, y6 (ix2 q c) = ((E q (lane 6 c) : ℝ) : EReal))
    (h7 : ∀ q c, y7 (ix2 q c) = ((E q (lane 7 c) : ℝ) : EReal)) (q : Fin 128) (l : Fin 1024) :
    k0_pay90 (F := Ideal) (k0_pay13 x61) x72 y0 y1 y2 y3 y4 y5 y6 y7 (ix2 q l)
      = ((E q l * g l - vH q l * ((∑ k, E q k * g k * vH q k) / 1024) : ℝ) : EReal) := by
  pointwise [k0_pay90, k0_pay13]
  simp only [stack h0 h1 h2 h3 h4 h5 h6 h7, h72, hg, c_half, c_one, c_width, c_k, c_eps, ← EReal.coe_mul, ← EReal.coe_add, ← EReal.coe_sub, sum_coe, tanh_coe, div_coe _ (show (1024 : ℝ) ≠ 0 by norm_num)]

/-- The right half of the rows' gradient. -/
theorem right_at {x398 : FVec Ideal S128x1024 .f32} (h : ∀ q l, x32 (ix2 q l) = ((v q l : ℝ) : EReal))
    (h398 : ∀ q l, x398 (ix2 q l) = ((E q l : ℝ) : EReal)) (q : Fin 128) (l : Fin 1024) :
    k0_pay1 (F := Ideal) (k0_pay12 x32 (k0_pay9 x32)) x398 (k0_pay91 (k0_pay14 x32 (k0_pay9 x32))) (ix2 q l)
      = ((pr v q * E q l * dgel (v q l) : ℝ) : EReal) := by
  pointwise [k0_pay1, k0_pay91]
  simp only [pay12_at h, pay14_at h, h398, ← EReal.coe_mul, ← EReal.coe_add, ← EReal.coe_sub, sum_coe, tanh_coe]

end Cert.GateIdeal.Lift

end
-- ==== Proof.GateBlocks.lean ====
/- What the kernel leaves in its blocks at one grid point, over the real numbers. -/
module

public import proofs.«01_k».proof.Proof.Gen.GateIdeal.Frame
public import proofs.«01_k».proof.Proof.GateReals
public import proofs.«01_k».proof.Proof.GateStack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Cert.GateReals

namespace Cert.GateIdeal.Lift

open Cert.GateIdeal Cert.GateIdeal.Gen

/-- Row `q` of chunk `t`. -/
def row (t : Fin 66) (q : Fin 128) : Fin 8448 := ⟨128 * t.val + q.val, by omega⟩
/-- A lane of the left half. -/
def lo (l : Fin 1024) : Fin 2048 := ⟨l.val, by omega⟩
/-- A lane of the right half. -/
def hi (l : Fin 1024) : Fin 2048 := ⟨1024 + l.val, by omega⟩
/-- The left half of a chunk's rows. -/
def ul (Z : Fin 8448 → Fin 2048 → ℝ) (t : Fin 66) (q : Fin 128) (l : Fin 1024) : ℝ := Z (row t q) (lo l)
/-- The right half of a chunk's rows. -/
def vr (Z : Fin 8448 → Fin 2048 → ℝ) (t : Fin 66) (q : Fin 128) (l : Fin 1024) : ℝ := Z (row t q) (hi l)
/-- The incoming gradient at a chunk's rows. -/
def dd (Y : Fin 8448 → Fin 1024 → ℝ) (t : Fin 66) (q : Fin 128) (l : Fin 1024) : ℝ := Y (row t q) l

variable (m : (ℓ : Loc nD τ sig) → Buf (Elt Ideal) ℓ)

/-- Which block each window is on at a grid point. -/
theorem idx : ∀ t : Fin cfg0.N,
    win0_0.index t = ![t.val, 0] ∧ win0_1.index t = ![t.val, 0] ∧ win0_2.index t = ![0, 0, 0] ∧ win0_3.index t = ![0, 0, 0]
      ∧ win0_4.index t = ![0, 0] ∧ win0_5.index t = ![t.val, 0] ∧ win0_6.index t = ![0, 0, 0]
      ∧ win0_7.index t = ![0, 0, 0] ∧ win0_8.index t = ![0, 0] :=
  (by decide +kernel : ∀ t : Fin grid0.N, _)

/-- The arguments are the given real arrays. -/
structure Reals (c : Dev nD) (Z : Fin 8448 → Fin 2048 → ℝ) (Y : Fin 8448 → Fin 1024 → ℝ)
    (W : Fin 8 → Fin 128 → Fin 128 → ℝ) (B : Fin 8 → Fin 128 → ℝ) (G : Fin 1024 → ℝ) : Prop where
  z : ∀ r l, (m ((c.tc : Thread nD τ).loc main_arg0) (ix2 r l) : EReal) = ((Z r l : ℝ) : EReal)
  y : ∀ r l, (m ((c.tc : Thread nD τ).loc main_arg1) (ix2 r l) : EReal) = ((Y r l : ℝ) : EReal)
  w : ∀ a p q, (m ((c.tc : Thread nD τ).loc main_arg2) (ix3 a p q) : EReal) = ((W a p q : ℝ) : EReal)
  b : ∀ a p, (m ((c.tc : Thread nD τ).loc main_arg3) (ix2 a p) : EReal) = ((B a p : ℝ) : EReal)
  g : ∀ l, (m ((c.tc : Thread nD τ).loc main_arg4) (ix1 l) : EReal) = ((G l : ℝ) : EReal)

variable {m} {c : Dev nD} {Z : Fin 8448 → Fin 2048 → ℝ} {Y : Fin 8448 → Fin 1024 → ℝ}
variable {W : Fin 8 → Fin 128 → Fin 128 → ℝ} {B : Fin 8 → Fin 128 → ℝ} {G : Fin 1024 → ℝ}

/-- A block of the rows. -/
theorem blk0 (H : Reals m c Z Y W B G) (t : Fin cfg0.N) (q : Fin 128) (l : Fin 2048) :
    iblk m c 0 t (ix2 q l) = ((Z (row ⟨t.val, t.isLt⟩ q) l : ℝ) : EReal) := by
  rw [← H.z]
  blk_ext [iblk, V, idx t, row]
/-- A block of the incoming gradient. -/
theorem blk1 (H : Reals m c Z Y W B G) (t : Fin cfg0.N) (q : Fin 128) (l : Fin 1024) :
    iblk m c 1 t (ix2 q l) = ((dd Y ⟨t.val, t.isLt⟩ q l : ℝ) : EReal) := by
  rw [dd, ← H.y]
  blk_ext [iblk, V, idx t, row]
/-- The mixing weights. -/
theorem blk2 (H : Reals m c Z Y W B G) (t : Fin cfg0.N) (a : Fin 8) (p q : Fin 128) :
    iblk m c 2 t (ix3 a p q) = ((W a p q : ℝ) : EReal) := by
  rw [← H.w]
  blk_ext [iblk, V, idx t]
/-- The biases, each along a row. -/
theorem blk3 (H : Reals m c Z Y W B G) (t : Fin cfg0.N) (a : Fin 8) (p q : Fin 128) :
    iblk m c 3 t (ix3 a p q) = ((B a p : ℝ) : EReal) := by
  rw [← H.b]
  blk_simp [iblk, idx t]
  entry_read
  pointwise
  blk_ext [idx t]
/-- The scale. -/
theorem blk4 (H : Reals m c Z Y W B G) (t : Fin cfg0.N) (l : Fin 1024) :
    iblk m c 4 t (ix2 0 l) = ((G l : ℝ) : EReal) := by
  rw [← H.g]
  blk_simp [iblk, idx t]
  entry_read
  pointwise
  blk_ext [idx t]

/-- Lane `c` of group `a` is in group `a`. -/
theorem grp_lane (a : Fin 8) (c : Fin 128) : grp (lane a c) = a := by
  ext; simp only [grp, lane]; omega

/-- The gradient at a chunk's rows, both halves. -/
def dzt (u v d : Fin 128 → Fin 1024 → ℝ) (w : Fin 8 → Fin 128 → Fin 128 → ℝ) (b : Fin 8 → Fin 128 → ℝ) (g : Fin 1024 → ℝ)
    (p : Fin 128) (l : Fin 2048) : ℝ :=
  if h : l.val < 1024 then dleft u v d w b g p ⟨l.val, h⟩ else dright u v d w g p ⟨l.val - 1024, by omega⟩

/-- The gradient at a lane of a group of the left half. -/
theorem dzt_left {u v d : Fin 128 → Fin 1024 → ℝ} {w : Fin 8 → Fin 128 → Fin 128 → ℝ} {b : Fin 8 → Fin 128 → ℝ} {g : Fin 1024 → ℝ}
    {p p' : Fin 128} {l : Fin 2048} {c : Fin 128} (a : Fin 8) (h0 : p'.val = p.val) (h1 : l.val = 128 * a.val + c.val) :
    dzt u v d w b g p' l
      = d p (lane a c) * ((∑ q, w a p q * vnorm v g q (lane a c)) + b a p) * dgel (u p (lane a c)) := by
  obtain rfl : p' = p := Fin.ext h0
  have h2 : l.val < 1024 := by omega
  have h3 : (⟨l.val, h2⟩ : Fin 1024) = lane a c := Fin.ext h1
  rw [dzt, dif_pos h2, h3, dleft, mixed, grp_lane]

/-- The gradient at a lane of the right half. -/
theorem dzt_right {u v d : Fin 128 → Fin 1024 → ℝ} {w : Fin 8 → Fin 128 → Fin 128 → ℝ} {b : Fin 8 → Fin 128 → ℝ} {g : Fin 1024 → ℝ}
    {p p' : Fin 128} {l : Fin 2048} {k : Fin 1024} (h0 : p'.val = p.val) (h1 : l.val = 1024 + k.val) :
    dzt u v d w b g p' l = dright u v d w g p k := by
  obtain rfl : p' = p := Fin.ext h0
  have h2 : ¬l.val < 1024 := by omega
  have h3 : (⟨l.val - 1024, by omega⟩ : Fin 1024) = k := Fin.ext (by simp only; omega)
  rw [dzt, dif_neg h2, h3]

/-- The gradient at a lane of the first group of the left half. -/
theorem dzt_first {u v d : Fin 128 → Fin 1024 → ℝ} {w : Fin 8 → Fin 128 → Fin 128 → ℝ} {b : Fin 8 → Fin 128 → ℝ} {g : Fin 1024 → ℝ}
    {p p' : Fin 128} {l : Fin 2048} {c : Fin 128} (h0 : p'.val = p.val) (h1 : l.val = c.val) :
    dzt u v d w b g p' l
      = d p (lane 0 c) * ((∑ q, w 0 p q * vnorm v g q (lane 0 c)) + b 0 p) * dgel (u p (lane 0 c)) :=
  dzt_left 0 h0 (by rw [h1]; simp)

/-- The gradient at the normalised rows, at a lane of a group. -/
theorem dvn_lane {u d : Fin 128 → Fin 1024 → ℝ} {w : Fin 8 → Fin 128 → Fin 128 → ℝ} (a : Fin 8) (q c : Fin 128) :
    dvn u d w q (lane a c) = ∑ p, w a p q * (d p (lane a c) * gel (u p (lane a c))) := by
  rw [dvn, grp_lane]
  rfl

set_option maxHeartbeats 4000000 in
/-- What the first point leaves of the rows' gradient. -/
theorem dz_A (H : Reals m c Z Y W B G) (t : Fin cfg0.N) (y : S128x2048.Idx) (h : t.val % 66 = 0) :
   (outsAt0 m c t.val t.isLt).1 y = ((dzt (ul Z ⟨t.val, t.isLt⟩) (vr Z ⟨t.val, t.isLt⟩) (dd Y ⟨t.val, t.isLt⟩) W B G (y 0) (y 1) : ℝ) : EReal) := by
  rw [outsAt0_A m c t h]
  frame_out
  clear h
  canon_tiles x h using (View.cover_of_tiledBy _ ![128, 128] (by sl_kernel_rfl) y)
  case piece0 =>
    idx_vars x
    rw [dzt_right h0 h1]
    refine (right_at (v := vr Z ⟨t.val, t.isLt⟩) ?_ (centre (E := dvn (ul Z ⟨t.val, t.isLt⟩) (dd Y ⟨t.val, t.isLt⟩) W) (vH := vhat (vr Z ⟨t.val, t.isLt⟩)) (blk4 H t) (pay15_at (v := vr Z ⟨t.val, t.isLt⟩) ?_) (fun q c => (back0 (pay7_at (u := ul Z ⟨t.val, t.isLt⟩) ?_) (blk1 H t) (wG := W 0) ?_ q c).trans (congrArg _ (dvn_lane 0 q c).symm)) (fun q c => (back1 (pay7_at (u := ul Z ⟨t.val, t.isLt⟩) ?_) (blk1 H t) (wG := W 1) ?_ q c).trans (congrArg _ (dvn_lane 1 q c).symm)) (fun q c => (back2 (pay7_at (u := ul Z ⟨t.val, t.isLt⟩) ?_) (blk1 H t) (wG := W 2) ?_ q c).trans (congrArg _ (dvn_lane 2 q c).symm)) (fun q c => (back3 (pay7_at (u := ul Z ⟨t.val, t.isLt⟩) ?_) (blk1 H t) (wG := W 3) ?_ q c).trans (congrArg _ (dvn_lane 3 q c).symm)) (fun q c => (back4 (pay7_at (u := ul Z ⟨t.val, t.isLt⟩) ?_) (blk1 H t) (wG := W 4) ?_ q c).trans (congrArg _ (dvn_lane 4 q c).symm)) (fun q c => (back5 (pay7_at (u := ul Z ⟨t.val, t.isLt⟩) ?_) (blk1 H t) (wG := W 5) ?_ q c).trans (congrArg _ (dvn_lane 5 q c).symm)) (fun q c => (back6 (pay7_at (u := ul Z ⟨t.val, t.isLt⟩) ?_) (blk1 H t) (wG := W 6) ?_ q c).trans (congrArg _ (dvn_lane 6 q c).symm)) (fun q c => (back7 (pay7_at (u := ul Z ⟨t.val, t.isLt⟩) ?_) (blk1 H t) (wG := W 7) ?_ q c).trans (congrArg _ (dvn_lane 7 q c).symm))) _ _).trans rfl
    all_goals
      first
        | exact blk4 H t
        | exact blk1 H t
        | (intros; pointwise; first | exact blk0 H t _ _ | exact blk1 H t _ _ | exact blk2 H t _ _ _ | exact blk3 H t _ _ _)
  case piece8 =>
    idx_vars x
    rw [dzt_first h0 h1]
    refine left0 (pay8_at (u := ul Z ⟨t.val, t.isLt⟩) ?_) (pay16_at (v := vr Z ⟨t.val, t.isLt⟩) (g := G) ?_ ?_) (blk1 H t) (wG := W 0) (bG := B 0) ?_ ?_ _ _
    all_goals
      first
        | exact blk4 H t
        | exact blk1 H t
        | (intros; pointwise; first | exact blk0 H t _ _ | exact blk1 H t _ _ | exact blk2 H t _ _ _ | exact blk3 H t _ _ _)
  case piece7 =>
    idx_vars x
    rw [dzt_left (a := 1) h0 h1]
    refine left1 (pay8_at (u := ul Z ⟨t.val, t.isLt⟩) ?_) (pay16_at (v := vr Z ⟨t.val, t.isLt⟩) (g := G) ?_ ?_) (blk1 H t) (wG := W 1) (bG := B 1) ?_ ?_ _ _
    all_goals
      first
        | exact blk4 H t
        | exact blk1 H t
        | (intros; pointwise; first | exact blk0 H t _ _ | exact blk1 H t _ _ | exact blk2 H t _ _ _ | exact blk3 H t _ _ _)
  case piece6 =>
    idx_vars x
    rw [dzt_left (a := 2) h0 h1]
    refine left2 (pay8_at (u := ul Z ⟨t.val, t.isLt⟩) ?_) (pay16_at (v := vr Z ⟨t.val, t.isLt⟩) (g := G) ?_ ?_) (blk1 H t) (wG := W 2) (bG := B 2) ?_ ?_ _ _
    all_goals
      first
        | exact blk4 H t
        | exact blk1 H t
        | (intros; pointwise; first | exact blk0 H t _ _ | exact blk1 H t _ _ | exact blk2 H t _ _ _ | exact blk3 H t _ _ _)
  case piece5 =>
    idx_vars x
    rw [dzt_left (a := 3) h0 h1]
    refine left3 (pay8_at (u := ul Z ⟨t.val, t.isLt⟩) ?_) (pay16_at (v := vr Z ⟨t.val, t.isLt⟩) (g := G) ?_ ?_) (blk1 H t) (wG := W 3) (bG := B 3) ?_ ?_ _ _
    all_goals
      first
        | exact blk4 H t
        | exact blk1 H t
        | (intros; pointwise; first | exact blk0 H t _ _ | exact blk1 H t _ _ | exact blk2 H t _ _ _ | exact blk3 H t _ _ _)
  case piece4 =>
    idx_vars x
    rw [dzt_left (a := 4) h0 h1]
    refine left4 (pay8_at (u := ul Z ⟨t.val, t.isLt⟩) ?_) (pay16_at (v := vr Z ⟨t.val, t.isLt⟩) (g := G) ?_ ?_) (blk1 H t) (wG := W 4) (bG := B 4) ?_ ?_ _ _
    all_goals
      first
        | exact blk4 H t
        | exact blk1 H t
        | (intros; pointwise; first | exact blk0 H t _ _ | exact blk1 H t _ _ | exact blk2 H t _ _ _ | exact blk3 H t _ _ _)
  case piece3 =>
    idx_vars x
    rw [dzt_left (a := 5) h0 h1]
    refine left5 (pay8_at (u := ul Z ⟨t.val, t.isLt⟩) ?_) (pay16_at (v := vr Z ⟨t.val, t.isLt⟩) (g := G) ?_ ?_) (blk1 H t) (wG := W 5) (bG := B 5) ?_ ?_ _ _
    all_goals
      first
        | exact blk4 H t
        | exact blk1 H t
        | (intros; pointwise; first | exact blk0 H t _ _ | exact blk1 H t _ _ | exact blk2 H t _ _ _ | exact blk3 H t _ _ _)
  case piece2 =>
    idx_vars x
    rw [dzt_left (a := 6) h0 h1]
    refine left6 (pay8_at (u := ul Z ⟨t.val, t.isLt⟩) ?_) (pay16_at (v := vr Z ⟨t.val, t.isLt⟩) (g := G) ?_ ?_) (blk1 H t) (wG := W 6) (bG := B 6) ?_ ?_ _ _
    all_goals
      first
        | exact blk4 H t
        | exact blk1 H t
        | (intros; pointwise; first | exact blk0 H t _ _ | exact blk1 H t _ _ | exact blk2 H t _ _ _ | exact blk3 H t _ _ _)
  case piece1 =>
    idx_vars x
    rw [dzt_left (a := 7) h0 h1]
    refine left7 (pay8_at (u := ul Z ⟨t.val, t.isLt⟩) ?_) (pay16_at (v := vr Z ⟨t.val, t.isLt⟩) (g := G) ?_ ?_) (blk1 H t) (wG := W 7) (bG := B 7) ?_ ?_ _ _
    all_goals
      first
        | exact blk4 H t
        | exact blk1 H t
        | (intros; pointwise; first | exact blk0 H t _ _ | exact blk1 H t _ _ | exact blk2 H t _ _ _ | exact blk3 H t _ _ _)

set_option maxHeartbeats 4000000 in
/-- What a later point leaves of the rows' gradient. -/
theorem dz_B (H : Reals m c Z Y W B G) (t : Fin cfg0.N) (y : S128x2048.Idx) (h : ¬t.val % 66 = 0) :
   (outsAt0 m c t.val t.isLt).1 y = ((dzt (ul Z ⟨t.val, t.isLt⟩) (vr Z ⟨t.val, t.isLt⟩) (dd Y ⟨t.val, t.isLt⟩) W B G (y 0) (y 1) : ℝ) : EReal) := by
  rw [outsAt0_B m c t h]
  frame_out
  clear h
  canon_tiles x h using (View.cover_of_tiledBy _ ![128, 128] (by sl_kernel_rfl) y)
  case piece0 =>
    idx_vars x
    rw [dzt_right h0 h1]
    refine (right_at (v := vr Z ⟨t.val, t.isLt⟩) ?_ (centre (E := dvn (ul Z ⟨t.val, t.isLt⟩) (dd Y ⟨t.val, t.isLt⟩) W) (vH := vhat (vr Z ⟨t.val, t.isLt⟩)) (blk4 H t) (pay15_at (v := vr Z ⟨t.val, t.isLt⟩) ?_) (fun q c => (back0 (pay7_at (u := ul Z ⟨t.val, t.isLt⟩) ?_) (blk1 H t) (wG := W 0) ?_ q c).trans (congrArg _ (dvn_lane 0 q c).symm)) (fun q c => (back1 (pay7_at (u := ul Z ⟨t.val, t.isLt⟩) ?_) (blk1 H t) (wG := W 1) ?_ q c).trans (congrArg _ (dvn_lane 1 q c).symm)) (fun q c => (back2 (pay7_at (u := ul Z ⟨t.val, t.isLt⟩) ?_) (blk1 H t) (wG := W 2) ?_ q c).trans (congrArg _ (dvn_lane 2 q c).symm)) (fun q c => (back3 (pay7_at (u := ul Z ⟨t.val, t.isLt⟩) ?_) (blk1 H t) (wG := W 3) ?_ q c).trans (congrArg _ (dvn_lane 3 q c).symm)) (fun q c => (back4 (pay7_at (u := ul Z ⟨t.val, t.isLt⟩) ?_) (blk1 H t) (wG := W 4) ?_ q c).trans (congrArg _ (dvn_lane 4 q c).symm)) (fun q c => (back5 (pay7_at (u := ul Z ⟨t.val, t.isLt⟩) ?_) (blk1 H t) (wG := W 5) ?_ q c).trans (congrArg _ (dvn_lane 5 q c).symm)) (fun q c => (back6 (pay7_at (u := ul Z ⟨t.val, t.isLt⟩) ?_) (blk1 H t) (wG := W 6) ?_ q c).trans (congrArg _ (dvn_lane 6 q c).symm)) (fun q c => (back7 (pay7_at (u := ul Z ⟨t.val, t.isLt⟩) ?_) (blk1 H t) (wG := W 7) ?_ q c).trans (congrArg _ (dvn_lane 7 q c).symm))) _ _).trans rfl
    all_goals
      first
        | exact blk4 H t
        | exact blk1 H t
        | (intros; pointwise; first | exact blk0 H t _ _ | exact blk1 H t _ _ | exact blk2 H t _ _ _ | exact blk3 H t _ _ _)
  case piece8 =>
    idx_vars x
    rw [dzt_first h0 h1]
    refine left0 (pay8_at (u := ul Z ⟨t.val, t.isLt⟩) ?_) (pay16_at (v := vr Z ⟨t.val, t.isLt⟩) (g := G) ?_ ?_) (blk1 H t) (wG := W 0) (bG := B 0) ?_ ?_ _ _
    all_goals
      first
        | exact blk4 H t
        | exact blk1 H t
        | (intros; pointwise; first | exact blk0 H t _ _ | exact blk1 H t _ _ | exact blk2 H t _ _ _ | exact blk3 H t _ _ _)
  case piece7 =>
    idx_vars x
    rw [dzt_left (a := 1) h0 h1]
    refine left1 (pay8_at (u := ul Z ⟨t.val, t.isLt⟩) ?_) (pay16_at (v := vr Z ⟨t.val, t.isLt⟩) (g := G) ?_ ?_) (blk1 H t) (wG := W 1) (bG := B 1) ?_ ?_ _ _
    all_goals
      first
        | exact blk4 H t
        | exact blk1 H t
        | (intros; pointwise; first | exact blk0 H t _ _ | exact blk1 H t _ _ | exact blk2 H t _ _ _ | exact blk3 H t _ _ _)
  case piece6 =>
    idx_vars x
    rw [dzt_left (a := 2) h0 h1]
    refine left2 (pay8_at (u := ul Z ⟨t.val, t.isLt⟩) ?_) (pay16_at (v := vr Z ⟨t.val, t.isLt⟩) (g := G) ?_ ?_) (blk1 H t) (wG := W 2) (bG := B 2) ?_ ?_ _ _
    all_goals
      first
        | exact blk4 H t
        | exact blk1 H t
        | (intros; pointwise; first | exact blk0 H t _ _ | exact blk1 H t _ _ | exact blk2 H t _ _ _ | exact blk3 H t _ _ _)
  case piece5 =>
    idx_vars x
    rw [dzt_left (a := 3) h0 h1]
    refine left3 (pay8_at (u := ul Z ⟨t.val, t.isLt⟩) ?_) (pay16_at (v := vr Z ⟨t.val, t.isLt⟩) (g := G) ?_ ?_) (blk1 H t) (wG := W 3) (bG := B 3) ?_ ?_ _ _
    all_goals
      first
        | exact blk4 H t
        | exact blk1 H t
        | (intros; pointwise; first | exact blk0 H t _ _ | exact blk1 H t _ _ | exact blk2 H t _ _ _ | exact blk3 H t _ _ _)
  case piece4 =>
    idx_vars x
    rw [dzt_left (a := 4) h0 h1]
    refine left4 (pay8_at (u := ul Z ⟨t.val, t.isLt⟩) ?_) (pay16_at (v := vr Z ⟨t.val, t.isLt⟩) (g := G) ?_ ?_) (blk1 H t) (wG := W 4) (bG := B 4) ?_ ?_ _ _
    all_goals
      first
        | exact blk4 H t
        | exact blk1 H t
        | (intros; pointwise; first | exact blk0 H t _ _ | exact blk1 H t _ _ | exact blk2 H t _ _ _ | exact blk3 H t _ _ _)
  case piece3 =>
    idx_vars x
    rw [dzt_left (a := 5) h0 h1]
    refine left5 (pay8_at (u := ul Z ⟨t.val, t.isLt⟩) ?_) (pay16_at (v := vr Z ⟨t.val, t.isLt⟩) (g := G) ?_ ?_) (blk1 H t) (wG := W 5) (bG := B 5) ?_ ?_ _ _
    all_goals
      first
        | exact blk4 H t
        | exact blk1 H t
        | (intros; pointwise; first | exact blk0 H t _ _ | exact blk1 H t _ _ | exact blk2 H t _ _ _ | exact blk3 H t _ _ _)
  case piece2 =>
    idx_vars x
    rw [dzt_left (a := 6) h0 h1]
    refine left6 (pay8_at (u := ul Z ⟨t.val, t.isLt⟩) ?_) (pay16_at (v := vr Z ⟨t.val, t.isLt⟩) (g := G) ?_ ?_) (blk1 H t) (wG := W 6) (bG := B 6) ?_ ?_ _ _
    all_goals
      first
        | exact blk4 H t
        | exact blk1 H t
        | (intros; pointwise; first | exact blk0 H t _ _ | exact blk1 H t _ _ | exact blk2 H t _ _ _ | exact blk3 H t _ _ _)
  case piece1 =>
    idx_vars x
    rw [dzt_left (a := 7) h0 h1]
    refine left7 (pay8_at (u := ul Z ⟨t.val, t.isLt⟩) ?_) (pay16_at (v := vr Z ⟨t.val, t.isLt⟩) (g := G) ?_ ?_) (blk1 H t) (wG := W 7) (bG := B 7) ?_ ?_ _ _
    all_goals
      first
        | exact blk4 H t
        | exact blk1 H t
        | (intros; pointwise; first | exact blk0 H t _ _ | exact blk1 H t _ _ | exact blk2 H t _ _ _ | exact blk3 H t _ _ _)

end Cert.GateIdeal.Lift

end
-- ==== Proof.GateSums.lean ====
/- What the kernel's accumulated gradients hold after each grid point, over the real numbers. -/
module

public import proofs.«01_k».proof.Proof.Gen.GateIdeal.Frame
public import proofs.«01_k».proof.Proof.GateReals
public import proofs.«01_k».proof.Proof.GateBlocks
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Cert.GateReals

namespace Cert.GateIdeal.Lift

open Cert.GateIdeal Cert.GateIdeal.Gen

variable {m : (ℓ : Loc nD τ sig) → Buf (Elt Ideal) ℓ} {c : Dev nD} {Z : Fin 8448 → Fin 2048 → ℝ} {Y : Fin 8448 → Fin 1024 → ℝ}
variable {W : Fin 8 → Fin 128 → Fin 128 → ℝ} {B : Fin 8 → Fin 128 → ℝ} {G : Fin 1024 → ℝ}

/-- A store over earlier ones that it does not need: what is covered by the later stores is theirs. -/
theorem canon_drop {S : Shape} {e : EltTy} (L L' : List (View.Piece (Elt Ideal) S e)) (y : S.Idx)
    (hc : ∃ p ∈ L, y ∈ p.1.set) : View.canon (L ++ L') y = View.canon L y := by
  induction L with
  | nil => obtain ⟨p, hp, _⟩ := hc; simp at hp
  | cons p L ih =>
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hy⟩ := hc
      rcases List.mem_cons.mp hq with rfl | hq
      · exact absurd hy hm
      · exact ih ⟨q, hq, hy⟩

/-- What the first point leaves of the gradient of the scale. -/
theorem scale_A (H : Reals m c Z Y W B G) (t : Fin cfg0.N) (r : Fin 8) (l : Fin 1024) (h : t.val % 66 = 0) :
    (outsAt0 m c t.val t.isLt).2.2.2 (ix2 r l)
      = (0 : EReal) + (if r.val = 0 then ((dgt (ul Z ⟨t.val, t.isLt⟩) (vr Z ⟨t.val, t.isLt⟩) (dd Y ⟨t.val, t.isLt⟩) W l : ℝ) : EReal) else 0) := by
  rw [outsAt0_A m c t h]
  frame_out
  clear h
  refine (scale_at (E := dvn (ul Z ⟨t.val, t.isLt⟩) (dd Y ⟨t.val, t.isLt⟩) W) (vH := vhat (vr Z ⟨t.val, t.isLt⟩)) (pay15_at (v := vr Z ⟨t.val, t.isLt⟩) ?_) (fun q c => (back0 (pay7_at (u := ul Z ⟨t.val, t.isLt⟩) ?_) (blk1 H t) (wG := W 0) ?_ q c).trans (congrArg _ (dvn_lane 0 q c).symm)) (fun q c => (back1 (pay7_at (u := ul Z ⟨t.val, t.isLt⟩) ?_) (blk1 H t) (wG := W 1) ?_ q c).trans (congrArg _ (dvn_lane 1 q c).symm)) (fun q c => (back2 (pay7_at (u := ul Z ⟨t.val, t.isLt⟩) ?_) (blk1 H t) (wG := W 2) ?_ q c).trans (congrArg _ (dvn_lane 2 q c).symm)) (fun q c => (back3 (pay7_at (u := ul Z ⟨t.val, t.isLt⟩) ?_) (blk1 H t) (wG := W 3) ?_ q c).trans (congrArg _ (dvn_lane 3 q c).symm)) (fun q c => (back4 (pay7_at (u := ul Z ⟨t.val, t.isLt⟩) ?_) (blk1 H t) (wG := W 4) ?_ q c).trans (congrArg _ (dvn_lane 4 q c).symm)) (fun q c => (back5 (pay7_at (u := ul Z ⟨t.val, t.isLt⟩) ?_) (blk1 H t) (wG := W 5) ?_ q c).trans (congrArg _ (dvn_lane 5 q c).symm)) (fun q c => (back6 (pay7_at (u := ul Z ⟨t.val, t.isLt⟩) ?_) (blk1 H t) (wG := W 6) ?_ q c).trans (congrArg _ (dvn_lane 6 q c).symm)) (fun q c => (back7 (pay7_at (u := ul Z ⟨t.val, t.isLt⟩) ?_) (blk1 H t) (wG := W 7) ?_ q c).trans (congrArg _ (dvn_lane 7 q c).symm)) _ _).trans ?_
  on_goal 18 => rw [show k0_pay4 (F := Ideal) (ix2 r l) = 0 from by pointwise [k0_pay4]]; rfl
  all_goals
    first
        | exact blk4 H t
        | exact blk1 H t
        | (intros; pointwise; first | exact blk0 H t _ _ | exact blk1 H t _ _ | exact blk2 H t _ _ _ | exact blk3 H t _ _ _)

/-- What a later point leaves of the gradient of the scale. -/
theorem scale_B (H : Reals m c Z Y W B G) (t : Fin cfg0.N) (r : Fin 8) (l : Fin 1024) (h : ¬t.val % 66 = 0) :
    (outsAt0 m c t.val t.isLt).2.2.2 (ix2 r l)
      = (outsAt0 m c (t.val - 1) (Nat.lt_of_le_of_lt (Nat.sub_le _ _) t.isLt)).2.2.2 (ix2 r l) + (if r.val = 0 then ((dgt (ul Z ⟨t.val, t.isLt⟩) (vr Z ⟨t.val, t.isLt⟩) (dd Y ⟨t.val, t.isLt⟩) W l : ℝ) : EReal) else 0) := by
  rw [outsAt0_B m c t h]
  frame_out
  clear h
  refine (scale_at (E := dvn (ul Z ⟨t.val, t.isLt⟩) (dd Y ⟨t.val, t.isLt⟩) W) (vH := vhat (vr Z ⟨t.val, t.isLt⟩)) (pay15_at (v := vr Z ⟨t.val, t.isLt⟩) ?_) (fun q c => (back0 (pay7_at (u := ul Z ⟨t.val, t.isLt⟩) ?_) (blk1 H t) (wG := W 0) ?_ q c).trans (congrArg _ (dvn_lane 0 q c).symm)) (fun q c => (back1 (pay7_at (u := ul Z ⟨t.val, t.isLt⟩) ?_) (blk1 H t) (wG := W 1) ?_ q c).trans (congrArg _ (dvn_lane 1 q c).symm)) (fun q c => (back2 (pay7_at (u := ul Z ⟨t.val, t.isLt⟩) ?_) (blk1 H t) (wG := W 2) ?_ q c).trans (congrArg _ (dvn_lane 2 q c).symm)) (fun q c => (back3 (pay7_at (u := ul Z ⟨t.val, t.isLt⟩) ?_) (blk1 H t) (wG := W 3) ?_ q c).trans (congrArg _ (dvn_lane 3 q c).symm)) (fun q c => (back4 (pay7_at (u := ul Z ⟨t.val, t.isLt⟩) ?_) (blk1 H t) (wG := W 4) ?_ q c).trans (congrArg _ (dvn_lane 4 q c).symm)) (fun q c => (back5 (pay7_at (u := ul Z ⟨t.val, t.isLt⟩) ?_) (blk1 H t) (wG := W 5) ?_ q c).trans (congrArg _ (dvn_lane 5 q c).symm)) (fun q c => (back6 (pay7_at (u := ul Z ⟨t.val, t.isLt⟩) ?_) (blk1 H t) (wG := W 6) ?_ q c).trans (congrArg _ (dvn_lane 6 q c).symm)) (fun q c => (back7 (pay7_at (u := ul Z ⟨t.val, t.isLt⟩) ?_) (blk1 H t) (wG := W 7) ?_ q c).trans (congrArg _ (dvn_lane 7 q c).symm)) _ _).trans ?_
  on_goal 18 => rfl
  all_goals
    first
        | exact blk4 H t
        | exact blk1 H t
        | (intros; pointwise; first | exact blk0 H t _ _ | exact blk1 H t _ _ | exact blk2 H t _ _ _ | exact blk3 H t _ _ _)

set_option maxHeartbeats 4000000 in
/-- What the first point leaves of the gradient of the mixing weights. -/
theorem weight_A (H : Reals m c Z Y W B G) (t : Fin cfg0.N) (y : S8x128x128.Idx) (h : t.val % 66 = 0) :
   (outsAt0 m c t.val t.isLt).2.1 y
      = ((dwt (ul Z ⟨t.val, t.isLt⟩) (vr Z ⟨t.val, t.isLt⟩) (dd Y ⟨t.val, t.isLt⟩) G (y 0) (y 1) (y 2) : ℝ) : EReal) := by
  rw [outsAt0_A m c t h]
  frame_out
  clear h
  refine (canon_drop [_, _, _, _, _, _, _, _] [_] y (View.cover_of_tiledBy _ ![1, 128, 128] (by sl_kernel_rfl) y)).trans ?_
  canon_tiles x h using (View.cover_of_tiledBy _ ![1, 128, 128] (by sl_kernel_rfl) y)
  case piece7 =>
    idx_vars x
    idx_vars y
    obtain rfl : x0 = 0 := Subsingleton.elim _ _
    obtain rfl : y0 = 0 := Fin.ext h0
    obtain rfl : y1 = x1 := Fin.ext h1
    obtain rfl : y2 = x2 := Fin.ext h2
    refine ((wt0 (pay7_at (u := ul Z ⟨t.val, t.isLt⟩) ?_) (pay16_at (v := vr Z ⟨t.val, t.isLt⟩) (g := G) ?_ ?_) (blk1 H t) _ _).trans (congrArg₂ (· + ·) ?base rfl)).trans (zero_add _)
    case base =>
      refine (congrFun (View.readCov_fill _ _ _ _ _ (by decide)) _).trans ?_
      pointwise [k0_pay2]
    all_goals
      first
        | exact blk4 H t
        | exact blk1 H t
        | (intros; pointwise; first | exact blk0 H t _ _ | exact blk1 H t _ _ | exact blk2 H t _ _ _ | exact blk3 H t _ _ _)
  case piece6 =>
    idx_vars x
    idx_vars y
    obtain rfl : x0 = 0 := Subsingleton.elim _ _
    obtain rfl : y0 = 1 := Fin.ext h0
    obtain rfl : y1 = x1 := Fin.ext h1
    obtain rfl : y2 = x2 := Fin.ext h2
    refine ((wt1 (pay7_at (u := ul Z ⟨t.val, t.isLt⟩) ?_) (pay16_at (v := vr Z ⟨t.val, t.isLt⟩) (g := G) ?_ ?_) (blk1 H t) _ _).trans (congrArg₂ (· + ·) ?base rfl)).trans (zero_add _)
    case base =>
      refine (congrFun (View.readCov_skip _ _ _ _ _ (by decide)) _).trans ?_
      refine (congrFun (View.readCov_fill _ _ _ _ _ (by decide)) _).trans ?_
      pointwise [k0_pay2]
    all_goals
      first
        | exact blk4 H t
        | exact blk1 H t
        | (intros; pointwise; first | exact blk0 H t _ _ | exact blk1 H t _ _ | exact blk2 H t _ _ _ | exact blk3 H t _ _ _)
  case piece5 =>
    idx_vars x
    idx_vars y
    obtain rfl : x0 = 0 := Subsingleton.elim _ _
    obtain rfl : y0 = 2 := Fin.ext h0
    obtain rfl : y1 = x1 := Fin.ext h1
    obtain rfl : y2 = x2 := Fin.ext h2
    refine ((wt2 (pay7_at (u := ul Z ⟨t.val, t.isLt⟩) ?_) (pay16_at (v := vr Z ⟨t.val, t.isLt⟩) (g := G) ?_ ?_) (blk1 H t) _ _).trans (congrArg₂ (· + ·) ?base rfl)).trans (zero_add _)
    case base =>
      refine (congrFun (View.readCov_skip _ _ _ _ _ (by decide)) _).trans ?_
      refine (congrFun (View.readCov_skip _ _ _ _ _ (by decide)) _).trans ?_
      refine (congrFun (View.readCov_fill _ _ _ _ _ (by decide)) _).trans ?_
      pointwise [k0_pay2]
    all_goals
      first
        | exact blk4 H t
        | exact blk1 H t
        | (intros; pointwise; first | exact blk0 H t _ _ | exact blk1 H t _ _ | exact blk2 H t _ _ _ | exact blk3 H t _ _ _)
  case piece4 =>
    idx_vars x
    idx_vars y
    obtain rfl : x0 = 0 := Subsingleton.elim _ _
    obtain rfl : y0 = 3 := Fin.ext h0
    obtain rfl : y1 = x1 := Fin.ext h1
    obtain rfl : y2 = x2 := Fin.ext h2
    refine ((wt3 (pay7_at (u := ul Z ⟨t.val, t.isLt⟩) ?_) (pay16_at (v := vr Z ⟨t.val, t.isLt⟩) (g := G) ?_ ?_) (blk1 H t) _ _).trans (congrArg₂ (· + ·) ?base rfl)).trans (zero_add _)
    case base =>
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_fill _ _ _ _ _ (by decide)) _).trans ?_
      pointwise [k0_pay2]
    all_goals
      first
        | exact blk4 H t
        | exact blk1 H t
        | (intros; pointwise; first | exact blk0 H t _ _ | exact blk1 H t _ _ | exact blk2 H t _ _ _ | exact blk3 H t _ _ _)
  case piece3 =>
    idx_vars x
    idx_vars y
    obtain rfl : x0 = 0 := Subsingleton.elim _ _
    obtain rfl : y0 = 4 := Fin.ext h0
    obtain rfl : y1 = x1 := Fin.ext h1
    obtain rfl : y2 = x2 := Fin.ext h2
    refine ((wt4 (pay7_at (u := ul Z ⟨t.val, t.isLt⟩) ?_) (pay16_at (v := vr Z ⟨t.val, t.isLt⟩) (g := G) ?_ ?_) (blk1 H t) _ _).trans (congrArg₂ (· + ·) ?base rfl)).trans (zero_add _)
    case base =>
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_fill _ _ _ _ _ (by decide)) _).trans ?_
      pointwise [k0_pay2]
    all_goals
      first
        | exact blk4 H t
        | exact blk1 H t
        | (intros; pointwise; first | exact blk0 H t _ _ | exact blk1 H t _ _ | exact blk2 H t _ _ _ | exact blk3 H t _ _ _)
  case piece2 =>
    idx_vars x
    idx_vars y
    obtain rfl : x0 = 0 := Subsingleton.elim _ _
    obtain rfl : y0 = 5 := Fin.ext h0
    obtain rfl : y1 = x1 := Fin.ext h1
    obtain rfl : y2 = x2 := Fin.ext h2
    refine ((wt5 (pay7_at (u := ul Z ⟨t.val, t.isLt⟩) ?_) (pay16_at (v := vr Z ⟨t.val, t.isLt⟩) (g := G) ?_ ?_) (blk1 H t) _ _).trans (congrArg₂ (· + ·) ?base rfl)).trans (zero_add _)
    case base =>
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_fill _ _ _ _ _ (by decide)) _).trans ?_
      pointwise [k0_pay2]
    all_goals
      first
        | exact blk4 H t
        | exact blk1 H t
        | (intros; pointwise; first | exact blk0 H t _ _ | exact blk1 H t _ _ | exact blk2 H t _ _ _ | exact blk3 H t _ _ _)
  case piece1 =>
    idx_vars x
    idx_vars y
    obtain rfl : x0 = 0 := Subsingleton.elim _ _
    obtain rfl : y0 = 6 := Fin.ext h0
    obtain rfl : y1 = x1 := Fin.ext h1
    obtain rfl : y2 = x2 := Fin.ext h2
    refine ((wt6 (pay7_at (u := ul Z ⟨t.val, t.isLt⟩) ?_) (pay16_at (v := vr Z ⟨t.val, t.isLt⟩) (g := G) ?_ ?_) (blk1 H t) _ _).trans (congrArg₂ (· + ·) ?base rfl)).trans (zero_add _)
    case base =>
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_fill _ _ _ _ _ (by decide)) _).trans ?_
      pointwise [k0_pay2]
    all_goals
      first
        | exact blk4 H t
        | exact blk1 H t
        | (intros; pointwise; first | exact blk0 H t _ _ | exact blk1 H t _ _ | exact blk2 H t _ _ _ | exact blk3 H t _ _ _)
  case piece0 =>
    idx_vars x
    idx_vars y
    obtain rfl : x0 = 0 := Subsingleton.elim _ _
    obtain rfl : y0 = 7 := Fin.ext h0
    obtain rfl : y1 = x1 := Fin.ext h1
    obtain rfl : y2 = x2 := Fin.ext h2
    refine ((wt7 (pay7_at (u := ul Z ⟨t.val, t.isLt⟩) ?_) (pay16_at (v := vr Z ⟨t.val, t.isLt⟩) (g := G) ?_ ?_) (blk1 H t) _ _).trans (congrArg₂ (· + ·) ?base rfl)).trans (zero_add _)
    case base =>
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_fill _ _ _ _ _ (by decide)) _).trans ?_
      pointwise [k0_pay2]
    all_goals
      first
        | exact blk4 H t
        | exact blk1 H t
        | (intros; pointwise; first | exact blk0 H t _ _ | exact blk1 H t _ _ | exact blk2 H t _ _ _ | exact blk3 H t _ _ _)

set_option maxHeartbeats 4000000 in
/-- What a later point leaves of the gradient of the mixing weights. -/
theorem weight_B (H : Reals m c Z Y W B G) (t : Fin cfg0.N) (y : S8x128x128.Idx) (h : ¬t.val % 66 = 0) :
   (outsAt0 m c t.val t.isLt).2.1 y
      = (outsAt0 m c (t.val - 1) (Nat.lt_of_le_of_lt (Nat.sub_le _ _) t.isLt)).2.1 y + ((dwt (ul Z ⟨t.val, t.isLt⟩) (vr Z ⟨t.val, t.isLt⟩) (dd Y ⟨t.val, t.isLt⟩) G (y 0) (y 1) (y 2) : ℝ) : EReal) := by
  rw [outsAt0_B m c t h]
  frame_out
  clear h
  canon_tiles x h using (View.cover_of_tiledBy _ ![1, 128, 128] (by sl_kernel_rfl) y)
  case piece7 =>
    idx_vars x
    idx_vars y
    obtain rfl : x0 = 0 := Subsingleton.elim _ _
    obtain rfl : y0 = 0 := Fin.ext h0
    obtain rfl : y1 = x1 := Fin.ext h1
    obtain rfl : y2 = x2 := Fin.ext h2
    refine (wt0 (pay7_at (u := ul Z ⟨t.val, t.isLt⟩) ?_) (pay16_at (v := vr Z ⟨t.val, t.isLt⟩) (g := G) ?_ ?_) (blk1 H t) _ _).trans (congrArg₂ (· + ·) ?base rfl)
    case base => pointwise
    all_goals
      first
        | exact blk4 H t
        | exact blk1 H t
        | (intros; pointwise; first | exact blk0 H t _ _ | exact blk1 H t _ _ | exact blk2 H t _ _ _ | exact blk3 H t _ _ _)
  case piece6 =>
    idx_vars x
    idx_vars y
    obtain rfl : x0 = 0 := Subsingleton.elim _ _
    obtain rfl : y0 = 1 := Fin.ext h0
    obtain rfl : y1 = x1 := Fin.ext h1
    obtain rfl : y2 = x2 := Fin.ext h2
    refine (wt1 (pay7_at (u := ul Z ⟨t.val, t.isLt⟩) ?_) (pay16_at (v := vr Z ⟨t.val, t.isLt⟩) (g := G) ?_ ?_) (blk1 H t) _ _).trans (congrArg₂ (· + ·) ?base rfl)
    case base => pointwise
    all_goals
      first
        | exact blk4 H t
        | exact blk1 H t
        | (intros; pointwise; first | exact blk0 H t _ _ | exact blk1 H t _ _ | exact blk2 H t _ _ _ | exact blk3 H t _ _ _)
  case piece5 =>
    idx_vars x
    idx_vars y
    obtain rfl : x0 = 0 := Subsingleton.elim _ _
    obtain rfl : y0 = 2 := Fin.ext h0
    obtain rfl : y1 = x1 := Fin.ext h1
    obtain rfl : y2 = x2 := Fin.ext h2
    refine (wt2 (pay7_at (u := ul Z ⟨t.val, t.isLt⟩) ?_) (pay16_at (v := vr Z ⟨t.val, t.isLt⟩) (g := G) ?_ ?_) (blk1 H t) _ _).trans (congrArg₂ (· + ·) ?base rfl)
    case base => pointwise
    all_goals
      first
        | exact blk4 H t
        | exact blk1 H t
        | (intros; pointwise; first | exact blk0 H t _ _ | exact blk1 H t _ _ | exact blk2 H t _ _ _ | exact blk3 H t _ _ _)
  case piece4 =>
    idx_vars x
    idx_vars y
    obtain rfl : x0 = 0 := Subsingleton.elim _ _
    obtain rfl : y0 = 3 := Fin.ext h0
    obtain rfl : y1 = x1 := Fin.ext h1
    obtain rfl : y2 = x2 := Fin.ext h2
    refine (wt3 (pay7_at (u := ul Z ⟨t.val, t.isLt⟩) ?_) (pay16_at (v := vr Z ⟨t.val, t.isLt⟩) (g := G) ?_ ?_) (blk1 H t) _ _).trans (congrArg₂ (· + ·) ?base rfl)
    case base => pointwise
    all_goals
      first
        | exact blk4 H t
        | exact blk1 H t
        | (intros; pointwise; first | exact blk0 H t _ _ | exact blk1 H t _ _ | exact blk2 H t _ _ _ | exact blk3 H t _ _ _)
  case piece3 =>
    idx_vars x
    idx_vars y
    obtain rfl : x0 = 0 := Subsingleton.elim _ _
    obtain rfl : y0 = 4 := Fin.ext h0
    obtain rfl : y1 = x1 := Fin.ext h1
    obtain rfl : y2 = x2 := Fin.ext h2
    refine (wt4 (pay7_at (u := ul Z ⟨t.val, t.isLt⟩) ?_) (pay16_at (v := vr Z ⟨t.val, t.isLt⟩) (g := G) ?_ ?_) (blk1 H t) _ _).trans (congrArg₂ (· + ·) ?base rfl)
    case base => pointwise
    all_goals
      first
        | exact blk4 H t
        | exact blk1 H t
        | (intros; pointwise; first | exact blk0 H t _ _ | exact blk1 H t _ _ | exact blk2 H t _ _ _ | exact blk3 H t _ _ _)
  case piece2 =>
    idx_vars x
    idx_vars y
    obtain rfl : x0 = 0 := Subsingleton.elim _ _
    obtain rfl : y0 = 5 := Fin.ext h0
    obtain rfl : y1 = x1 := Fin.ext h1
    obtain rfl : y2 = x2 := Fin.ext h2
    refine (wt5 (pay7_at (u := ul Z ⟨t.val, t.isLt⟩) ?_) (pay16_at (v := vr Z ⟨t.val, t.isLt⟩) (g := G) ?_ ?_) (blk1 H t) _ _).trans (congrArg₂ (· + ·) ?base rfl)
    case base => pointwise
    all_goals
      first
        | exact blk4 H t
        | exact blk1 H t
        | (intros; pointwise; first | exact blk0 H t _ _ | exact blk1 H t _ _ | exact blk2 H t _ _ _ | exact blk3 H t _ _ _)
  case piece1 =>
    idx_vars x
    idx_vars y
    obtain rfl : x0 = 0 := Subsingleton.elim _ _
    obtain rfl : y0 = 6 := Fin.ext h0
    obtain rfl : y1 = x1 := Fin.ext h1
    obtain rfl : y2 = x2 := Fin.ext h2
    refine (wt6 (pay7_at (u := ul Z ⟨t.val, t.isLt⟩) ?_) (pay16_at (v := vr Z ⟨t.val, t.isLt⟩) (g := G) ?_ ?_) (blk1 H t) _ _).trans (congrArg₂ (· + ·) ?base rfl)
    case base => pointwise
    all_goals
      first
        | exact blk4 H t
        | exact blk1 H t
        | (intros; pointwise; first | exact blk0 H t _ _ | exact blk1 H t _ _ | exact blk2 H t _ _ _ | exact blk3 H t _ _ _)
  case piece0 =>
    idx_vars x
    idx_vars y
    obtain rfl : x0 = 0 := Subsingleton.elim _ _
    obtain rfl : y0 = 7 := Fin.ext h0
    obtain rfl : y1 = x1 := Fin.ext h1
    obtain rfl : y2 = x2 := Fin.ext h2
    refine (wt7 (pay7_at (u := ul Z ⟨t.val, t.isLt⟩) ?_) (pay16_at (v := vr Z ⟨t.val, t.isLt⟩) (g := G) ?_ ?_) (blk1 H t) _ _).trans (congrArg₂ (· + ·) ?base rfl)
    case base => pointwise
    all_goals
      first
        | exact blk4 H t
        | exact blk1 H t
        | (intros; pointwise; first | exact blk0 H t _ _ | exact blk1 H t _ _ | exact blk2 H t _ _ _ | exact blk3 H t _ _ _)

set_option maxHeartbeats 4000000 in
/-- What the first point leaves of the gradient of the biases. -/
theorem bias_A (H : Reals m c Z Y W B G) (t : Fin cfg0.N) (y : S8x128x128.Idx) (h : t.val % 66 = 0) :
   (outsAt0 m c t.val t.isLt).2.2.1 y
      = ((dbt (ul Z ⟨t.val, t.isLt⟩) (dd Y ⟨t.val, t.isLt⟩) (y 0) (y 1) : ℝ) : EReal) := by
  rw [outsAt0_A m c t h]
  frame_out
  clear h
  refine (canon_drop [_, _, _, _, _, _, _, _] [_] y (View.cover_of_tiledBy _ ![1, 128, 128] (by sl_kernel_rfl) y)).trans ?_
  canon_tiles x h using (View.cover_of_tiledBy _ ![1, 128, 128] (by sl_kernel_rfl) y)
  case piece7 =>
    idx_vars x
    idx_vars y
    obtain rfl : x0 = 0 := Subsingleton.elim _ _
    obtain rfl : y0 = 0 := Fin.ext h0
    obtain rfl : y1 = x1 := Fin.ext h1
    obtain rfl : y2 = x2 := Fin.ext h2
    refine ((bias0 (pay7_at (u := ul Z ⟨t.val, t.isLt⟩) ?_) (blk1 H t) _ _).trans (congrArg₂ (· + ·) ?base rfl)).trans (zero_add _)
    case base =>
      refine (congrFun (View.readCov_fill _ _ _ _ _ (by decide)) _).trans ?_
      pointwise [k0_pay3]
    all_goals
      first
        | exact blk4 H t
        | exact blk1 H t
        | (intros; pointwise; first | exact blk0 H t _ _ | exact blk1 H t _ _ | exact blk2 H t _ _ _ | exact blk3 H t _ _ _)
  case piece6 =>
    idx_vars x
    idx_vars y
    obtain rfl : x0 = 0 := Subsingleton.elim _ _
    obtain rfl : y0 = 1 := Fin.ext h0
    obtain rfl : y1 = x1 := Fin.ext h1
    obtain rfl : y2 = x2 := Fin.ext h2
    refine ((bias1 (pay7_at (u := ul Z ⟨t.val, t.isLt⟩) ?_) (blk1 H t) _ _).trans (congrArg₂ (· + ·) ?base rfl)).trans (zero_add _)
    case base =>
      refine (congrFun (View.readCov_skip _ _ _ _ _ (by decide)) _).trans ?_
      refine (congrFun (View.readCov_fill _ _ _ _ _ (by decide)) _).trans ?_
      pointwise [k0_pay3]
    all_goals
      first
        | exact blk4 H t
        | exact blk1 H t
        | (intros; pointwise; first | exact blk0 H t _ _ | exact blk1 H t _ _ | exact blk2 H t _ _ _ | exact blk3 H t _ _ _)
  case piece5 =>
    idx_vars x
    idx_vars y
    obtain rfl : x0 = 0 := Subsingleton.elim _ _
    obtain rfl : y0 = 2 := Fin.ext h0
    obtain rfl : y1 = x1 := Fin.ext h1
    obtain rfl : y2 = x2 := Fin.ext h2
    refine ((bias2 (pay7_at (u := ul Z ⟨t.val, t.isLt⟩) ?_) (blk1 H t) _ _).trans (congrArg₂ (· + ·) ?base rfl)).trans (zero_add _)
    case base =>
      refine (congrFun (View.readCov_skip _ _ _ _ _ (by decide)) _).trans ?_
      refine (congrFun (View.readCov_skip _ _ _ _ _ (by decide)) _).trans ?_
      refine (congrFun (View.readCov_fill _ _ _ _ _ (by decide)) _).trans ?_
      pointwise [k0_pay3]
    all_goals
      first
        | exact blk4 H t
        | exact blk1 H t
        | (intros; pointwise; first | exact blk0 H t _ _ | exact blk1 H t _ _ | exact blk2 H t _ _ _ | exact blk3 H t _ _ _)
  case piece4 =>
    idx_vars x
    idx_vars y
    obtain rfl : x0 = 0 := Subsingleton.elim _ _
    obtain rfl : y0 = 3 := Fin.ext h0
    obtain rfl : y1 = x1 := Fin.ext h1
    obtain rfl : y2 = x2 := Fin.ext h2
    refine ((bias3 (pay7_at (u := ul Z ⟨t.val, t.isLt⟩) ?_) (blk1 H t) _ _).trans (congrArg₂ (· + ·) ?base rfl)).trans (zero_add _)
    case base =>
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_fill _ _ _ _ _ (by decide)) _).trans ?_
      pointwise [k0_pay3]
    all_goals
      first
        | exact blk4 H t
        | exact blk1 H t
        | (intros; pointwise; first | exact blk0 H t _ _ | exact blk1 H t _ _ | exact blk2 H t _ _ _ | exact blk3 H t _ _ _)
  case piece3 =>
    idx_vars x
    idx_vars y
    obtain rfl : x0 = 0 := Subsingleton.elim _ _
    obtain rfl : y0 = 4 := Fin.ext h0
    obtain rfl : y1 = x1 := Fin.ext h1
    obtain rfl : y2 = x2 := Fin.ext h2
    refine ((bias4 (pay7_at (u := ul Z ⟨t.val, t.isLt⟩) ?_) (blk1 H t) _ _).trans (congrArg₂ (· + ·) ?base rfl)).trans (zero_add _)
    case base =>
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_fill _ _ _ _ _ (by decide)) _).trans ?_
      pointwise [k0_pay3]
    all_goals
      first
        | exact blk4 H t
        | exact blk1 H t
        | (intros; pointwise; first | exact blk0 H t _ _ | exact blk1 H t _ _ | exact blk2 H t _ _ _ | exact blk3 H t _ _ _)
  case piece2 =>
    idx_vars x
    idx_vars y
    obtain rfl : x0 = 0 := Subsingleton.elim _ _
    obtain rfl : y0 = 5 := Fin.ext h0
    obtain rfl : y1 = x1 := Fin.ext h1
    obtain rfl : y2 = x2 := Fin.ext h2
    refine ((bias5 (pay7_at (u := ul Z ⟨t.val, t.isLt⟩) ?_) (blk1 H t) _ _).trans (congrArg₂ (· + ·) ?base rfl)).trans (zero_add _)
    case base =>
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_fill _ _ _ _ _ (by decide)) _).trans ?_
      pointwise [k0_pay3]
    all_goals
      first
        | exact blk4 H t
        | exact blk1 H t
        | (intros; pointwise; first | exact blk0 H t _ _ | exact blk1 H t _ _ | exact blk2 H t _ _ _ | exact blk3 H t _ _ _)
  case piece1 =>
    idx_vars x
    idx_vars y
    obtain rfl : x0 = 0 := Subsingleton.elim _ _
    obtain rfl : y0 = 6 := Fin.ext h0
    obtain rfl : y1 = x1 := Fin.ext h1
    obtain rfl : y2 = x2 := Fin.ext h2
    refine ((bias6 (pay7_at (u := ul Z ⟨t.val, t.isLt⟩) ?_) (blk1 H t) _ _).trans (congrArg₂ (· + ·) ?base rfl)).trans (zero_add _)
    case base =>
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_fill _ _ _ _ _ (by decide)) _).trans ?_
      pointwise [k0_pay3]
    all_goals
      first
        | exact blk4 H t
        | exact blk1 H t
        | (intros; pointwise; first | exact blk0 H t _ _ | exact blk1 H t _ _ | exact blk2 H t _ _ _ | exact blk3 H t _ _ _)
  case piece0 =>
    idx_vars x
    idx_vars y
    obtain rfl : x0 = 0 := Subsingleton.elim _ _
    obtain rfl : y0 = 7 := Fin.ext h0
    obtain rfl : y1 = x1 := Fin.ext h1
    obtain rfl : y2 = x2 := Fin.ext h2
    refine ((bias7 (pay7_at (u := ul Z ⟨t.val, t.isLt⟩) ?_) (blk1 H t) _ _).trans (congrArg₂ (· + ·) ?base rfl)).trans (zero_add _)
    case base =>
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_fill _ _ _ _ _ (by decide)) _).trans ?_
      pointwise [k0_pay3]
    all_goals
      first
        | exact blk4 H t
        | exact blk1 H t
        | (intros; pointwise; first | exact blk0 H t _ _ | exact blk1 H t _ _ | exact blk2 H t _ _ _ | exact blk3 H t _ _ _)

set_option maxHeartbeats 4000000 in
/-- What a later point leaves of the gradient of the biases. -/
theorem bias_B (H : Reals m c Z Y W B G) (t : Fin cfg0.N) (y : S8x128x128.Idx) (h : ¬t.val % 66 = 0) :
   (outsAt0 m c t.val t.isLt).2.2.1 y
      = (outsAt0 m c (t.val - 1) (Nat.lt_of_le_of_lt (Nat.sub_le _ _) t.isLt)).2.2.1 y + ((dbt (ul Z ⟨t.val, t.isLt⟩) (dd Y ⟨t.val, t.isLt⟩) (y 0) (y 1) : ℝ) : EReal) := by
  rw [outsAt0_B m c t h]
  frame_out
  clear h
  canon_tiles x h using (View.cover_of_tiledBy _ ![1, 128, 128] (by sl_kernel_rfl) y)
  case piece7 =>
    idx_vars x
    idx_vars y
    obtain rfl : x0 = 0 := Subsingleton.elim _ _
    obtain rfl : y0 = 0 := Fin.ext h0
    obtain rfl : y1 = x1 := Fin.ext h1
    obtain rfl : y2 = x2 := Fin.ext h2
    refine (bias0 (pay7_at (u := ul Z ⟨t.val, t.isLt⟩) ?_) (blk1 H t) _ _).trans (congrArg₂ (· + ·) ?base rfl)
    case base => pointwise
    all_goals
      first
        | exact blk4 H t
        | exact blk1 H t
        | (intros; pointwise; first | exact blk0 H t _ _ | exact blk1 H t _ _ | exact blk2 H t _ _ _ | exact blk3 H t _ _ _)
  case piece6 =>
    idx_vars x
    idx_vars y
    obtain rfl : x0 = 0 := Subsingleton.elim _ _
    obtain rfl : y0 = 1 := Fin.ext h0
    obtain rfl : y1 = x1 := Fin.ext h1
    obtain rfl : y2 = x2 := Fin.ext h2
    refine (bias1 (pay7_at (u := ul Z ⟨t.val, t.isLt⟩) ?_) (blk1 H t) _ _).trans (congrArg₂ (· + ·) ?base rfl)
    case base => pointwise
    all_goals
      first
        | exact blk4 H t
        | exact blk1 H t
        | (intros; pointwise; first | exact blk0 H t _ _ | exact blk1 H t _ _ | exact blk2 H t _ _ _ | exact blk3 H t _ _ _)
  case piece5 =>
    idx_vars x
    idx_vars y
    obtain rfl : x0 = 0 := Subsingleton.elim _ _
    obtain rfl : y0 = 2 := Fin.ext h0
    obtain rfl : y1 = x1 := Fin.ext h1
    obtain rfl : y2 = x2 := Fin.ext h2
    refine (bias2 (pay7_at (u := ul Z ⟨t.val, t.isLt⟩) ?_) (blk1 H t) _ _).trans (congrArg₂ (· + ·) ?base rfl)
    case base => pointwise
    all_goals
      first
        | exact blk4 H t
        | exact blk1 H t
        | (intros; pointwise; first | exact blk0 H t _ _ | exact blk1 H t _ _ | exact blk2 H t _ _ _ | exact blk3 H t _ _ _)
  case piece4 =>
    idx_vars x
    idx_vars y
    obtain rfl : x0 = 0 := Subsingleton.elim _ _
    obtain rfl : y0 = 3 := Fin.ext h0
    obtain rfl : y1 = x1 := Fin.ext h1
    obtain rfl : y2 = x2 := Fin.ext h2
    refine (bias3 (pay7_at (u := ul Z ⟨t.val, t.isLt⟩) ?_) (blk1 H t) _ _).trans (congrArg₂ (· + ·) ?base rfl)
    case base => pointwise
    all_goals
      first
        | exact blk4 H t
        | exact blk1 H t
        | (intros; pointwise; first | exact blk0 H t _ _ | exact blk1 H t _ _ | exact blk2 H t _ _ _ | exact blk3 H t _ _ _)
  case piece3 =>
    idx_vars x
    idx_vars y
    obtain rfl : x0 = 0 := Subsingleton.elim _ _
    obtain rfl : y0 = 4 := Fin.ext h0
    obtain rfl : y1 = x1 := Fin.ext h1
    obtain rfl : y2 = x2 := Fin.ext h2
    refine (bias4 (pay7_at (u := ul Z ⟨t.val, t.isLt⟩) ?_) (blk1 H t) _ _).trans (congrArg₂ (· + ·) ?base rfl)
    case base => pointwise
    all_goals
      first
        | exact blk4 H t
        | exact blk1 H t
        | (intros; pointwise; first | exact blk0 H t _ _ | exact blk1 H t _ _ | exact blk2 H t _ _ _ | exact blk3 H t _ _ _)
  case piece2 =>
    idx_vars x
    idx_vars y
    obtain rfl : x0 = 0 := Subsingleton.elim _ _
    obtain rfl : y0 = 5 := Fin.ext h0
    obtain rfl : y1 = x1 := Fin.ext h1
    obtain rfl : y2 = x2 := Fin.ext h2
    refine (bias5 (pay7_at (u := ul Z ⟨t.val, t.isLt⟩) ?_) (blk1 H t) _ _).trans (congrArg₂ (· + ·) ?base rfl)
    case base => pointwise
    all_goals
      first
        | exact blk4 H t
        | exact blk1 H t
        | (intros; pointwise; first | exact blk0 H t _ _ | exact blk1 H t _ _ | exact blk2 H t _ _ _ | exact blk3 H t _ _ _)
  case piece1 =>
    idx_vars x
    idx_vars y
    obtain rfl : x0 = 0 := Subsingleton.elim _ _
    obtain rfl : y0 = 6 := Fin.ext h0
    obtain rfl : y1 = x1 := Fin.ext h1
    obtain rfl : y2 = x2 := Fin.ext h2
    refine (bias6 (pay7_at (u := ul Z ⟨t.val, t.isLt⟩) ?_) (blk1 H t) _ _).trans (congrArg₂ (· + ·) ?base rfl)
    case base => pointwise
    all_goals
      first
        | exact blk4 H t
        | exact blk1 H t
        | (intros; pointwise; first | exact blk0 H t _ _ | exact blk1 H t _ _ | exact blk2 H t _ _ _ | exact blk3 H t _ _ _)
  case piece0 =>
    idx_vars x
    idx_vars y
    obtain rfl : x0 = 0 := Subsingleton.elim _ _
    obtain rfl : y0 = 7 := Fin.ext h0
    obtain rfl : y1 = x1 := Fin.ext h1
    obtain rfl : y2 = x2 := Fin.ext h2
    refine (bias7 (pay7_at (u := ul Z ⟨t.val, t.isLt⟩) ?_) (blk1 H t) _ _).trans (congrArg₂ (· + ·) ?base rfl)
    case base => pointwise
    all_goals
      first
        | exact blk4 H t
        | exact blk1 H t
        | (intros; pointwise; first | exact blk0 H t _ _ | exact blk1 H t _ _ | exact blk2 H t _ _ _ | exact blk3 H t _ _ _)

end Cert.GateIdeal.Lift

end
-- ==== Proof.GateRefLift.lean ====
/- The reference's intermediate arrays, over the real numbers: the activation, the normalised rows, the mixed rows, and the
   gradients that flow back to them. -/
module

public import proofs.«01_k».proof.Proof.Gen.GateRefIdeal.Read
public import proofs.«01_k».proof.Proof.GateReals
public import proofs.«01_k».proof.Proof.GateBlocks
public import Idealize.ShloMosaic.Lib.TwoAxisContraction
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Cert.GateReals

namespace Cert.GateRefIdeal.Lift

open Cert.GateIdeal.Lift (row lo hi ul vr dd grp_lane dzt)
open Cert.GateRefIdeal Cert.GateRefIdeal.Read

variable {Z : Fin 8448 → Fin 2048 → ℝ} {Y : Fin 8448 → Fin 1024 → ℝ}
variable {W : Fin 8 → Fin 128 → Fin 128 → ℝ} {B : Fin 8 → Fin 128 → ℝ} {G : Fin 1024 → ℝ}
variable {x0 : FVec Ideal S8448x2048 .f32} {x1 : FVec Ideal S8448x1024 .f32} {x2 : FVec Ideal S8x128x128 .f32}
variable {x3 : FVec Ideal S8x128 .f32} {x4 : FVec Ideal S1024 .f32}

/-- The place of a lane in its group. -/
def ln (l : Fin 1024) : Fin 128 := ⟨l.val % 128, by omega⟩

/-- A lane is the lane at its place in its group. -/
theorem lane_grp (l : Fin 1024) : lane (grp l) (ln l) = l := by
  ext; simp only [lane, grp, ln]; omega

/-- The hyperbolic tangent. -/
theorem r11 (hz : ∀ r l, x0 (ix2 r l) = ((Z r l : ℝ) : EReal)) (r : Fin 8448) (l : Fin 2048) :
    val_main_v11 (F := Ideal) x0 (ix2 r l) = ((th (Z r l) : ℝ) : EReal) := by
  pointwise [val_main_v11, val_main_v10, val_main_v9, val_main_v8, val_main_v7, val_main_v6, val_main_v5, val_main_v4, val_main_v3, val_main_v2, val_main_cst_2, val_main_cst_1, val_main_cst_0]
  simp only [hz, c_half, c_mhalf, c_one, c_width, c_k, c_eps, c_num, c_den, ← EReal.coe_mul, ← EReal.coe_add, ← EReal.coe_sub, sum_coe, tanh_coe, div_coe _ (show (1024 : ℝ) ≠ 0 by norm_num), div_coe _ (show (200000 : ℝ) ≠ 0 by norm_num)]
  rw [th, kk, mul_div_right_comm]

/-- Half the argument. -/
theorem r1 (hz : ∀ r l, x0 (ix2 r l) = ((Z r l : ℝ) : EReal)) (r : Fin 8448) (l : Fin 2048) :
    val_main_v1 (F := Ideal) x0 (ix2 r l) = ((1 / 2 * Z r l : ℝ) : EReal) := by
  pointwise [val_main_v1, val_main_v0, val_main_cst]
  simp only [hz, c_half, c_mhalf, c_one, c_width, c_k, c_eps, c_num, c_den, ← EReal.coe_mul, ← EReal.coe_add, ← EReal.coe_sub, sum_coe, tanh_coe, div_coe _ (show (1024 : ℝ) ≠ 0 by norm_num), div_coe _ (show (200000 : ℝ) ≠ 0 by norm_num)]

/-- One and the hyperbolic tangent. -/
theorem r18 (hz : ∀ r l, x0 (ix2 r l) = ((Z r l : ℝ) : EReal)) (r : Fin 8448) (l : Fin 2048) :
    val_main_v18 (F := Ideal) x0 (ix2 r l) = ((1 + th (Z r l) : ℝ) : EReal) := by
  pointwise [val_main_v18, val_main_v17, val_main_cst_5]
  simp only [r11 hz, c_half, c_mhalf, c_one, c_width, c_k, c_eps, c_num, c_den, ← EReal.coe_mul, ← EReal.coe_add, ← EReal.coe_sub, sum_coe, tanh_coe, div_coe _ (show (1024 : ℝ) ≠ 0 by norm_num), div_coe _ (show (200000 : ℝ) ≠ 0 by norm_num)]
  simp only [EReal.coe_mul, EReal.coe_add, EReal.coe_sub, EReal.coe_one]

/-- One less the square of the hyperbolic tangent. -/
theorem r16 (hz : ∀ r l, x0 (ix2 r l) = ((Z r l : ℝ) : EReal)) (r : Fin 8448) (l : Fin 2048) :
    val_main_v16 (F := Ideal) x0 (ix2 r l) = (((1 + th (Z r l)) * (1 - th (Z r l)) : ℝ) : EReal) := by
  pointwise [val_main_v16, val_main_v15, val_main_v14, val_main_v13, val_main_v12, val_main_cst_3, val_main_cst_4]
  simp only [r11 hz, c_half, c_mhalf, c_one, c_width, c_k, c_eps, c_num, c_den, ← EReal.coe_mul, ← EReal.coe_add, ← EReal.coe_sub, sum_coe, tanh_coe, div_coe _ (show (1024 : ℝ) ≠ 0 by norm_num), div_coe _ (show (200000 : ℝ) ≠ 0 by norm_num)]
  simp only [EReal.coe_mul, EReal.coe_add, EReal.coe_sub, EReal.coe_one]

/-- The activation. -/
theorem r19 (hz : ∀ r l, x0 (ix2 r l) = ((Z r l : ℝ) : EReal)) (r : Fin 8448) (l : Fin 2048) :
    val_main_v19 (F := Ideal) x0 (ix2 r l) = ((gel (Z r l) : ℝ) : EReal) := by
  pointwise [val_main_v19]
  simp only [r1 hz, r18 hz, c_half, c_mhalf, c_one, c_width, c_k, c_eps, c_num, c_den, ← EReal.coe_mul, ← EReal.coe_add, ← EReal.coe_sub, sum_coe, tanh_coe, div_coe _ (show (1024 : ℝ) ≠ 0 by norm_num), div_coe _ (show (200000 : ℝ) ≠ 0 by norm_num)]
  exact congrArg _ (by rw [gel]; ring)

/-- The activation of the left half. -/
theorem r20 (hz : ∀ r l, x0 (ix2 r l) = ((Z r l : ℝ) : EReal)) (r : Fin 8448) (l : Fin 1024) :
    val_main_v20 (F := Ideal) x0 (ix2 r l) = ((gel (Z r (lo l)) : ℝ) : EReal) := by
  pointwise [val_main_v20]
  exact r19 hz _ _

/-- The activation of the right half. -/
theorem r21 (hz : ∀ r l, x0 (ix2 r l) = ((Z r l : ℝ) : EReal)) (r : Fin 8448) (l : Fin 1024) :
    val_main_v21 (F := Ideal) x0 (ix2 r l) = ((gel (Z r (hi l)) : ℝ) : EReal) := by
  pointwise [val_main_v21]
  exact r19 hz _ _

/-- The mean square of a row, with its constant. -/
theorem r28 (hz : ∀ r l, x0 (ix2 r l) = ((Z r l : ℝ) : EReal)) (t : Fin 66) (q : Fin 128) :
    val_main_v28 (F := Ideal) x0 (ix2 (row t q) 0) = ((ms (vr Z t) q : ℝ) : EReal) := by
  pointwise [val_main_v28, val_main_v27, val_main_v26, val_main_v25, val_main_v24, val_main_v23, val_main_v22, val_main_cst_6, val_main_cst_7, val_main_cst_8]
  simp only [r21 hz, c_half, c_mhalf, c_one, c_width, c_k, c_eps, c_num, c_den, ← EReal.coe_mul, ← EReal.coe_add, ← EReal.coe_sub, sum_coe, tanh_coe, div_coe _ (show (1024 : ℝ) ≠ 0 by norm_num), div_coe _ (show (200000 : ℝ) ≠ 0 by norm_num)]
  rfl

/-- The factor that normalises a row. -/
theorem r29 (hz : ∀ r l, x0 (ix2 r l) = ((Z r l : ℝ) : EReal)) (t : Fin 66) (q : Fin 128) :
    val_main_v29 (F := Ideal) x0 (ix2 (row t q) 0) = ((pr (vr Z t) q : ℝ) : EReal) := by
  pointwise [val_main_v29]
  rw [r28 hz]
  exact rsqrt_coe (ms_pos (vr Z t) q)

/-- The derivative of that factor. -/
theorem r32 (hz : ∀ r l, x0 (ix2 r l) = ((Z r l : ℝ) : EReal)) (t : Fin 66) (q : Fin 128) :
    val_main_v32 (F := Ideal) x0 (ix2 (row t q) 0) = ((-(1 / 2) * (pr (vr Z t) q / ms (vr Z t) q) : ℝ) : EReal) := by
  pointwise [val_main_v32, val_main_v31, val_main_v30, val_main_cst_9]
  simp only [r28 hz, r29 hz, c_mhalf, div_coe _ (ms_pos (vr Z t) q).ne', ← EReal.coe_mul]

/-- The normalised row before its scale. -/
theorem r34 (hz : ∀ r l, x0 (ix2 r l) = ((Z r l : ℝ) : EReal)) (t : Fin 66) (q : Fin 128) (l : Fin 1024) :
    val_main_v34 (F := Ideal) x0 (ix2 (row t q) l) = ((vhat (vr Z t) q l : ℝ) : EReal) := by
  pointwise [val_main_v34, val_main_v33]
  simp only [r21 hz, r29 hz, c_half, c_mhalf, c_one, c_width, c_k, c_eps, c_num, c_den, ← EReal.coe_mul, ← EReal.coe_add, ← EReal.coe_sub, sum_coe, tanh_coe, div_coe _ (show (1024 : ℝ) ≠ 0 by norm_num), div_coe _ (show (200000 : ℝ) ≠ 0 by norm_num)]
  rfl

/-- The normalised row. -/
theorem r37 (hz : ∀ r l, x0 (ix2 r l) = ((Z r l : ℝ) : EReal)) (hg : ∀ l, x4 (ix1 l) = ((G l : ℝ) : EReal)) (t : Fin 66) (q : Fin 128) (l : Fin 1024) :
    val_main_v37 (F := Ideal) x0 x4 (ix2 (row t q) l) = ((vnorm (vr Z t) G q l : ℝ) : EReal) := by
  pointwise [val_main_v37, val_main_v36, val_main_v35]
  simp only [r34 hz, hg, c_half, c_mhalf, c_one, c_width, c_k, c_eps, c_num, c_den, ← EReal.coe_mul, ← EReal.coe_add, ← EReal.coe_sub, sum_coe, tanh_coe, div_coe _ (show (1024 : ℝ) ≠ 0 by norm_num), div_coe _ (show (200000 : ℝ) ≠ 0 by norm_num)]
  rfl

/-- The normalised rows by group. -/
theorem r38 (hz : ∀ r l, x0 (ix2 r l) = ((Z r l : ℝ) : EReal)) (hg : ∀ l, x4 (ix1 l) = ((G l : ℝ) : EReal)) (t : Fin 66) (p : Fin 128) (a : Fin 8) (c : Fin 128) :
    val_main_v38 (F := Ideal) x0 x4 (ix4 t p a c) = ((vnorm (vr Z t) G p (lane a c) : ℝ) : EReal) := by
  rw [val_main_v38_apply, show idx_main_v38 (ix4 t p a c) = ix2 (row t p) (lane a c) from funext fun e => Fin.ext (by
    fin_cases e <;> simp [row, lane, grp, ln] <;> omega)]
  exact r37 hz hg t p (lane a c)

/-- The mixed rows by group. -/
theorem r44 (hz : ∀ r l, x0 (ix2 r l) = ((Z r l : ℝ) : EReal)) (hw : ∀ a p q, x2 (ix3 a p q) = ((W a p q : ℝ) : EReal)) (hb : ∀ a p, x3 (ix2 a p) = ((B a p : ℝ) : EReal)) (hg : ∀ l, x4 (ix1 l) = ((G l : ℝ) : EReal)) (t : Fin 66) (p : Fin 128) (a : Fin 8) (c : Fin 128) :
    val_main_v44 (F := Ideal) x0 x2 x3 x4 (ix4 t p a c) = (((∑ q, W a p q * vnorm (vr Z t) G q (lane a c)) + B a p : ℝ) : EReal) := by
  pointwise [val_main_v44, val_main_v43, val_main_v42, val_main_v41, val_main_v40, val_main_v39]
  simp only [r38 hz hg, hw, hb, c_half, c_mhalf, c_one, c_width, c_k, c_eps, c_num, c_den, ← EReal.coe_mul, ← EReal.coe_add, ← EReal.coe_sub, sum_coe, tanh_coe, div_coe _ (show (1024 : ℝ) ≠ 0 by norm_num), div_coe _ (show (200000 : ℝ) ≠ 0 by norm_num)]
  exact congrArg (fun s : ℝ => ((s + B a p : ℝ) : EReal)) (Finset.sum_congr rfl fun q _ => mul_comm _ _)

/-- The mixed rows. -/
theorem r45 (hz : ∀ r l, x0 (ix2 r l) = ((Z r l : ℝ) : EReal)) (hw : ∀ a p q, x2 (ix3 a p q) = ((W a p q : ℝ) : EReal)) (hb : ∀ a p, x3 (ix2 a p) = ((B a p : ℝ) : EReal)) (hg : ∀ l, x4 (ix1 l) = ((G l : ℝ) : EReal)) (t : Fin 66) (q : Fin 128) (l : Fin 1024) :
    val_main_v45 (F := Ideal) x0 x2 x3 x4 (ix2 (row t q) l) = ((mixed (vr Z t) W B G q l : ℝ) : EReal) := by
  rw [val_main_v45_apply, show idx_main_v45 (ix2 (row t q) l) = ix4 t q (grp l) (ln l) from funext fun e => Fin.ext (by
    fin_cases e <;> simp [row, lane, grp, ln] <;> omega), r44 hz hw hb hg, lane_grp]
  rfl

/-- The gradient at the mixed rows. -/
theorem r47 (hz : ∀ r l, x0 (ix2 r l) = ((Z r l : ℝ) : EReal)) (hy : ∀ r l, x1 (ix2 r l) = ((Y r l : ℝ) : EReal)) (t : Fin 66) (q : Fin 128) (l : Fin 1024) :
    val_main_v47 (F := Ideal) x0 x1 (ix2 (row t q) l) = ((dmix (ul Z t) (dd Y t) q l : ℝ) : EReal) := by
  pointwise [val_main_v47]
  simp only [r20 hz, hy, c_half, c_mhalf, c_one, c_width, c_k, c_eps, c_num, c_den, ← EReal.coe_mul, ← EReal.coe_add, ← EReal.coe_sub, sum_coe, tanh_coe, div_coe _ (show (1024 : ℝ) ≠ 0 by norm_num), div_coe _ (show (200000 : ℝ) ≠ 0 by norm_num)]
  exact congrArg _ (mul_comm _ _)

/-- The gradient at the activation of the left half. -/
theorem r48 (hz : ∀ r l, x0 (ix2 r l) = ((Z r l : ℝ) : EReal)) (hy : ∀ r l, x1 (ix2 r l) = ((Y r l : ℝ) : EReal)) (hw : ∀ a p q, x2 (ix3 a p q) = ((W a p q : ℝ) : EReal)) (hb : ∀ a p, x3 (ix2 a p) = ((B a p : ℝ) : EReal)) (hg : ∀ l, x4 (ix1 l) = ((G l : ℝ) : EReal)) (t : Fin 66) (q : Fin 128) (l : Fin 1024) :
    val_main_v48 (F := Ideal) x0 x1 x2 x3 x4 (ix2 (row t q) l) = ((dd Y t q l * mixed (vr Z t) W B G q l : ℝ) : EReal) := by
  pointwise [val_main_v48]
  simp only [r45 hz hw hb hg, hy, c_half, c_mhalf, c_one, c_width, c_k, c_eps, c_num, c_den, ← EReal.coe_mul, ← EReal.coe_add, ← EReal.coe_sub, sum_coe, tanh_coe, div_coe _ (show (1024 : ℝ) ≠ 0 by norm_num), div_coe _ (show (200000 : ℝ) ≠ 0 by norm_num)]
  rfl

/-- The gradient at the mixed rows, by group. -/
theorem r49 (hz : ∀ r l, x0 (ix2 r l) = ((Z r l : ℝ) : EReal)) (hy : ∀ r l, x1 (ix2 r l) = ((Y r l : ℝ) : EReal)) (t : Fin 66) (p : Fin 128) (a : Fin 8) (c : Fin 128) :
    val_main_v49 (F := Ideal) x0 x1 (ix4 t p a c) = ((dmix (ul Z t) (dd Y t) p (lane a c) : ℝ) : EReal) := by
  rw [val_main_v49_apply, show idx_main_v49 (ix4 t p a c) = ix2 (row t p) (lane a c) from funext fun e => Fin.ext (by
    fin_cases e <;> simp [row, lane, grp, ln] <;> omega)]
  exact r47 hz hy t p (lane a c)

/-- The gradient at the mixed rows, by group, the rows last. -/
theorem r54 (hz : ∀ r l, x0 (ix2 r l) = ((Z r l : ℝ) : EReal)) (hy : ∀ r l, x1 (ix2 r l) = ((Y r l : ℝ) : EReal)) (a : Fin 8) (t : Fin 66) (c p : Fin 128) :
    val_main_v54 (F := Ideal) x0 x1 (ix4 a t c p) = ((dmix (ul Z t) (dd Y t) p (lane a c) : ℝ) : EReal) := by
  pointwise [val_main_v54]
  exact r49 hz hy t p a c

/-- The gradient at the normalised rows, by group. -/
theorem r57 (hz : ∀ r l, x0 (ix2 r l) = ((Z r l : ℝ) : EReal)) (hy : ∀ r l, x1 (ix2 r l) = ((Y r l : ℝ) : EReal)) (hw : ∀ a p q, x2 (ix3 a p q) = ((W a p q : ℝ) : EReal)) (t : Fin 66) (p : Fin 128) (a : Fin 8) (c : Fin 128) :
    val_main_v57 (F := Ideal) x0 x1 x2 (ix4 t p a c) = ((dvn (ul Z t) (dd Y t) W p (lane a c) : ℝ) : EReal) := by
  pointwise [val_main_v57, val_main_v56]
  simp only [r54 hz hy, hw, c_half, c_mhalf, c_one, c_width, c_k, c_eps, c_num, c_den, ← EReal.coe_mul, ← EReal.coe_add, ← EReal.coe_sub, sum_coe, tanh_coe, div_coe _ (show (1024 : ℝ) ≠ 0 by norm_num), div_coe _ (show (200000 : ℝ) ≠ 0 by norm_num)]
  rw [dvn, grp_lane]
  exact congrArg _ (Finset.sum_congr rfl fun q _ => mul_comm _ _)

/-- The gradient at the normalised rows. -/
theorem r58 (hz : ∀ r l, x0 (ix2 r l) = ((Z r l : ℝ) : EReal)) (hy : ∀ r l, x1 (ix2 r l) = ((Y r l : ℝ) : EReal)) (hw : ∀ a p q, x2 (ix3 a p q) = ((W a p q : ℝ) : EReal)) (t : Fin 66) (q : Fin 128) (l : Fin 1024) :
    val_main_v58 (F := Ideal) x0 x1 x2 (ix2 (row t q) l) = ((dvn (ul Z t) (dd Y t) W q l : ℝ) : EReal) := by
  rw [val_main_v58_apply, show idx_main_v58 (ix2 (row t q) l) = ix4 t q (grp l) (ln l) from funext fun e => Fin.ext (by
    fin_cases e <;> simp [row, lane, grp, ln] <;> omega), r57 hz hy hw, lane_grp]

/-- A sum over the rows is a sum over the chunks of sums over a chunk's rows. -/
theorem sum_rows (f : Fin 8448 → ℝ) : ∑ r, f r = ∑ t : Fin 66, ∑ q : Fin 128, f (row t q) := by
  rw [← Fintype.sum_prod_type' (fun (t : Fin 66) (q : Fin 128) => f (row t q)), ← (finProdFinEquiv (m := 66) (n := 128)).sum_comp]
  refine Finset.sum_congr rfl fun x _ => congrArg f (Fin.ext ?_)
  simp only [finProdFinEquiv, Equiv.coe_fn_mk, row]
  omega

/-- The gradient of the mixing weights. -/
theorem r55 (hz : ∀ r l, x0 (ix2 r l) = ((Z r l : ℝ) : EReal)) (hy : ∀ r l, x1 (ix2 r l) = ((Y r l : ℝ) : EReal)) (hg : ∀ l, x4 (ix1 l) = ((G l : ℝ) : EReal)) (a : Fin 8) (p q : Fin 128) :
    val_main_v55 (F := Ideal) x0 x1 x4 (ix3 a p q) = ((∑ t, dwt (ul Z t) (vr Z t) (dd Y t) G a p q : ℝ) : EReal) := by
  unfold val_main_v55
  have hdot : ∀ (u : FVec Ideal S8x66x128x128 .f32) (v : FVec Ideal S66x128x8x128 .f32),
      Host.dotGeneral dot_S8x66x128x128_S66x128x8x128_S8x128x128_12_03_3_1_0_2 none u v (ix3 a p q)
        = ∑ t : Fin 66, ∑ c : Fin 128, u (ix4 a t c p) * v (ix4 t q a c) := by
    intro u v
    simp only [Host.dotGeneral]
    rw [Ideal.dotGeneral_apply, ← Equiv.sum_comp (ValueIdx.contrEquiv2 dot_S8x66x128x128_S66x128x8x128_S8x128x128_12_03_3_1_0_2 66 128 rfl rfl rfl).symm,
      Fintype.sum_prod_type]
    refine Finset.sum_congr rfl fun t _ => Finset.sum_congr rfl fun c _ => ?_
    have h0 := ValueIdx.contrEquiv2_symm_val0 dot_S8x66x128x128_S66x128x8x128_S8x128x128_12_03_3_1_0_2 66 128 rfl rfl rfl (t, c)
    have h1 := ValueIdx.contrEquiv2_symm_val1 dot_S8x66x128x128_S66x128x8x128_S8x128x128_12_03_3_1_0_2 66 128 rfl rfl rfl (t, c)
    have el : dot_S8x66x128x128_S66x128x8x128_S8x128x128_12_03_3_1_0_2.lhsIdx (ix3 a p q) ((ValueIdx.contrEquiv2 dot_S8x66x128x128_S66x128x8x128_S8x128x128_12_03_3_1_0_2 66 128 rfl rfl rfl).symm (t, c)) = ix4 a t c p := by
      funext e; apply Fin.ext
      match e with
      | ⟨0, _⟩ => rfl
      | ⟨1, _⟩ => exact h0
      | ⟨2, _⟩ => exact h1
      | ⟨3, _⟩ => rfl
    have er : dot_S8x66x128x128_S66x128x8x128_S8x128x128_12_03_3_1_0_2.rhsIdx (ix3 a p q) ((ValueIdx.contrEquiv2 dot_S8x66x128x128_S66x128x8x128_S8x128x128_12_03_3_1_0_2 66 128 rfl rfl rfl).symm (t, c)) = ix4 t q a c := by
      funext e; apply Fin.ext
      match e with
      | ⟨0, _⟩ => exact h0
      | ⟨1, _⟩ => rfl
      | ⟨2, _⟩ => rfl
      | ⟨3, _⟩ => exact h1
    rw [el, er]
  rw [hdot]
  simp only [r54 hz hy, r38 hz hg, ← EReal.coe_mul, sum_coe]
  rfl

/-- The host's sum over the first and the last of four axes. -/
theorem sum_outer {n0 n1 n2 n3 : ℕ} (h : (⟨4, ![n0, n1, n2, n3]⟩ : Shape).ReducesTo [0, 3] ⟨2, ![n1, n2]⟩)
    (v : (⟨4, ![n0, n1, n2, n3]⟩ : Shape).Idx → EReal) (init : EReal) (x : Fin n1) (y : Fin n2) :
    Ideal.hostReduceAdd h v init (ix2 x y) = init + ∑ k0 : Fin n0, ∑ k3 : Fin n3, v (ix4 k0 x y k3) := by
  unfold Ideal.hostReduceAdd
  refine congrArg (init + ·) ?_
  refine (Finset.sum_filter_eq_sum_of_fiber _ (fun k : Fin n0 × Fin n3 => ix4 k.1 x y k.2)
    (fun _ _ e => Prod.ext (congrFun e 0) (congrFun e 3)) ?_ v).trans ?_
  · intro i
    constructor
    · intro e
      refine ⟨(i 0, i 3), ?_⟩
      funext a; apply Fin.ext
      match a with
      | ⟨0, _⟩ => rfl
      | ⟨1, _⟩ => exact (congrArg Fin.val (congrFun e 0)).symm
      | ⟨2, _⟩ => exact (congrArg Fin.val (congrFun e 1)).symm
      | ⟨3, _⟩ => rfl
    · rintro ⟨k, rfl⟩
      funext b
      apply Fin.ext
      match b with
      | ⟨0, _⟩ => rfl
      | ⟨1, _⟩ => rfl
  · simp only [Fintype.sum_prod_type]

/-- The gradient of the biases. -/
theorem r50 (hz : ∀ r l, x0 (ix2 r l) = ((Z r l : ℝ) : EReal)) (hy : ∀ r l, x1 (ix2 r l) = ((Y r l : ℝ) : EReal)) (p : Fin 128) (a : Fin 8) :
    val_main_v50 (F := Ideal) x0 x1 (ix2 p a) = ((∑ t, dbt (ul Z t) (dd Y t) a p : ℝ) : EReal) := by
  unfold val_main_v50
  rw [ValueIdx.hostReduceAdd_apply]
  refine (sum_outer _ _ _ _ _).trans ?_
  pointwise [val_main_cst_10]
  simp only [r49 hz hy, sum_coe]
  rfl

/-- The gradient of the biases, once more. -/
theorem r52 (hz : ∀ r l, x0 (ix2 r l) = ((Z r l : ℝ) : EReal)) (hy : ∀ r l, x1 (ix2 r l) = ((Y r l : ℝ) : EReal)) (p : Fin 128) (a : Fin 8) :
    val_main_v52 (F := Ideal) x0 x1 (ix2 p a) = ((∑ t, dbt (ul Z t) (dd Y t) a p : ℝ) : EReal) := by
  unfold val_main_v52
  rw [ValueIdx.hostReduceAdd_apply]
  refine (sum_outer _ _ _ _ _).trans ?_
  pointwise [val_main_cst_11]
  simp only [Finset.univ_unique, Finset.sum_singleton]
  rw [val_main_v51_apply, show idx_main_v51 (ix4 default p a default) = ix2 p a from funext fun e => Fin.ext (by
    fin_cases e <;> simp [row, lane, grp, ln] <;> omega)]
  exact r50 hz hy p a

/-- The gradient of the biases, along the lanes. -/
theorem r103 (hz : ∀ r l, x0 (ix2 r l) = ((Z r l : ℝ) : EReal)) (hy : ∀ r l, x1 (ix2 r l) = ((Y r l : ℝ) : EReal)) (a : Fin 8) (p x : Fin 128) :
    val_main_v103 (F := Ideal) x0 x1 (ix3 a p x) = ((∑ t, dbt (ul Z t) (dd Y t) a p : ℝ) : EReal) := by
  pointwise [val_main_v103, val_main_v102, val_main_v53]
  exact r52 hz hy p a

/-- The gradient of the scale. -/
theorem r64 (hz : ∀ r l, x0 (ix2 r l) = ((Z r l : ℝ) : EReal)) (hy : ∀ r l, x1 (ix2 r l) = ((Y r l : ℝ) : EReal)) (hw : ∀ a p q, x2 (ix3 a p q) = ((W a p q : ℝ) : EReal)) (l : Fin 1024) :
    val_main_v64 (F := Ideal) x0 x1 x2 (ix1 l) = ((∑ t, dgt (ul Z t) (vr Z t) (dd Y t) W l : ℝ) : EReal) := by
  have h60 : val_main_v60 (F := Ideal) x0 x1 x2 (ix1 l) = ((∑ t, dgt (ul Z t) (vr Z t) (dd Y t) W l : ℝ) : EReal) := by
    pointwise [val_main_v60, val_main_v59, val_main_cst_12]
    have h (r : Fin 8448) : val_main_v34 (F := Ideal) x0 (ix2 r l) * val_main_v58 (F := Ideal) x0 x1 x2 (ix2 r l)
        = ((vhat (vr Z ⟨r.val / 128, by omega⟩) ⟨r.val % 128, by omega⟩ l
            * dvn (ul Z ⟨r.val / 128, by omega⟩) (dd Y ⟨r.val / 128, by omega⟩) W ⟨r.val % 128, by omega⟩ l : ℝ) : EReal) := by
      have e : r = row ⟨r.val / 128, by omega⟩ ⟨r.val % 128, by omega⟩ := Fin.ext (by simp only [row]; omega)
      conv_lhs => rw [e]
      rw [r34 hz, r58 hz hy hw, ← EReal.coe_mul]
    simp only [h, sum_coe]
    rw [sum_rows]
    refine congrArg _ (Finset.sum_congr rfl fun t _ => Finset.sum_congr rfl fun q _ => ?_)
    have e0 : (⟨(row t q).val / 128, by omega⟩ : Fin 66) = t := Fin.ext (by simp only [row]; omega)
    have e1 : (⟨(row t q).val % 128, by omega⟩ : Fin 128) = q := Fin.ext (by simp only [row]; omega)
    rw [e0, e1, mul_comm]
  pointwise [val_main_v64, val_main_v61, val_main_cst_13]
  simp only [Finset.univ_unique, Finset.sum_singleton]
  exact h60

/-- The gradient of the scale, the first of eight rows. -/
theorem r105 (hz : ∀ r l, x0 (ix2 r l) = ((Z r l : ℝ) : EReal)) (hy : ∀ r l, x1 (ix2 r l) = ((Y r l : ℝ) : EReal)) (hw : ∀ a p q, x2 (ix3 a p q) = ((W a p q : ℝ) : EReal)) (r : Fin 8) (l : Fin 1024) :
    val_main_v105 (F := Ideal) x0 x1 x2 (ix2 r l) = ((if r.val = 0 then ∑ t, dgt (ul Z t) (vr Z t) (dd Y t) W l else 0 : ℝ) : EReal) := by
  pointwise [val_main_v105, val_main_v104, val_main_call0_v0, val_main_c]
  by_cases h : r.val = 0
  · rw [dif_pos (by omega), if_pos h]
    exact r64 hz hy hw l
  · rw [dif_neg (by omega), if_neg h]
    show ((((0#32 : BitVec 32).toInt : ℝ)) : EReal) = _
    simp

/-- The gradient at the normalised row before its scale. -/
theorem r63 (hz : ∀ r l, x0 (ix2 r l) = ((Z r l : ℝ) : EReal)) (hy : ∀ r l, x1 (ix2 r l) = ((Y r l : ℝ) : EReal)) (hw : ∀ a p q, x2 (ix3 a p q) = ((W a p q : ℝ) : EReal)) (hg : ∀ l, x4 (ix1 l) = ((G l : ℝ) : EReal)) (t : Fin 66) (q : Fin 128) (l : Fin 1024) :
    val_main_v63 (F := Ideal) x0 x1 x2 x4 (ix2 (row t q) l) = ((dvn (ul Z t) (dd Y t) W q l * G l : ℝ) : EReal) := by
  pointwise [val_main_v63, val_main_v62, val_main_v35]
  simp only [r58 hz hy hw, hg, c_half, c_mhalf, c_one, c_width, c_k, c_eps, c_num, c_den, ← EReal.coe_mul, ← EReal.coe_add, ← EReal.coe_sub, sum_coe, tanh_coe, div_coe _ (show (1024 : ℝ) ≠ 0 by norm_num), div_coe _ (show (200000 : ℝ) ≠ 0 by norm_num)]

/-- The gradient that flows through the factor of a row. -/
theorem r72 (hz : ∀ r l, x0 (ix2 r l) = ((Z r l : ℝ) : EReal)) (hy : ∀ r l, x1 (ix2 r l) = ((Y r l : ℝ) : EReal)) (hw : ∀ a p q, x2 (ix3 a p q) = ((W a p q : ℝ) : EReal)) (hg : ∀ l, x4 (ix1 l) = ((G l : ℝ) : EReal)) (t : Fin 66) (q : Fin 128) :
    val_main_v72 (F := Ideal) x0 x1 x2 x4 (ix2 (row t q) 0) = (((∑ k, gel (vr Z t q k) * (dvn (ul Z t) (dd Y t) W q k * G k)) * (-(1 / 2) * (pr (vr Z t) q / ms (vr Z t) q)) / 1024 : ℝ) : EReal) := by
  pointwise [val_main_v72, val_main_v71, val_main_v70, val_main_v67, val_main_v66, val_main_v65, val_main_cst_14, val_main_cst_15]
  simp only [r21 hz, r63 hz hy hw hg, r32 hz, c_half, c_mhalf, c_one, c_width, c_k, c_eps, c_num, c_den, ← EReal.coe_mul, ← EReal.coe_add, ← EReal.coe_sub, sum_coe, tanh_coe, div_coe _ (show (1024 : ℝ) ≠ 0 by norm_num), div_coe _ (show (200000 : ℝ) ≠ 0 by norm_num)]
  rfl

/-- The gradient through the normalisation, in the two forms. -/
theorem norm_grad (e v p s k : ℝ) (hk : p * p = k⁻¹) :
    e * p + v * (s * (-(1 / 2) * (p / k)) / 1024) + s * (-(1 / 2) * (p / k)) / 1024 * v = p * (e - v * p * (p * s / 1024)) := by
  rw [div_eq_mul_inv p k, ← hk]
  ring

/-- The gradient at the activation of the right half. -/
theorem r78 (hz : ∀ r l, x0 (ix2 r l) = ((Z r l : ℝ) : EReal)) (hy : ∀ r l, x1 (ix2 r l) = ((Y r l : ℝ) : EReal)) (hw : ∀ a p q, x2 (ix3 a p q) = ((W a p q : ℝ) : EReal)) (hg : ∀ l, x4 (ix1 l) = ((G l : ℝ) : EReal)) (t : Fin 66) (q : Fin 128) (l : Fin 1024) :
    val_main_v78 (F := Ideal) x0 x1 x2 x4 (ix2 (row t q) l) = ((pr (vr Z t) q * (dvn (ul Z t) (dd Y t) W q l * G l - vhat (vr Z t) q l * ((∑ k, dvn (ul Z t) (dd Y t) W q k * G k * vhat (vr Z t) q k) / 1024)) : ℝ) : EReal) := by
  pointwise [val_main_v78, val_main_v77, val_main_v76, val_main_v75, val_main_v74, val_main_v73, val_main_v69, val_main_v68, val_main_cst_16]
  simp only [r21 hz, r63 hz hy hw hg, r29 hz, c_half, c_mhalf, c_one, c_width, c_k, c_eps, c_num, c_den, ← EReal.coe_mul, ← EReal.coe_add, ← EReal.coe_sub, sum_coe, tanh_coe, div_coe _ (show (1024 : ℝ) ≠ 0 by norm_num), div_coe _ (show (200000 : ℝ) ≠ 0 by norm_num)]
  simp only [Finset.univ_unique, Finset.sum_singleton]
  rw [show (default : Fin 1) = 0 from rfl]
  simp only [r72 hz hy hw hg, ← EReal.coe_mul, ← EReal.coe_add]
  refine congrArg _ ((norm_grad _ _ _ _ _ ?_).trans ?_)
  · rw [pr, ← mul_inv, Real.mul_self_sqrt (ms_pos (vr Z t) q).le]
  · have e : ∑ k, dvn (ul Z t) (dd Y t) W q k * G k * vhat (vr Z t) q k
        = pr (vr Z t) q * ∑ k, gel (vr Z t q k) * (dvn (ul Z t) (dd Y t) W q k * G k) := by
      rw [Finset.mul_sum]
      exact Finset.sum_congr rfl fun k _ => by rw [vhat]; ring
    rw [e]
    rfl

/-- The gradient at the activations. -/
theorem r81 (hz : ∀ r l, x0 (ix2 r l) = ((Z r l : ℝ) : EReal)) (hy : ∀ r l, x1 (ix2 r l) = ((Y r l : ℝ) : EReal)) (hw : ∀ a p q, x2 (ix3 a p q) = ((W a p q : ℝ) : EReal)) (hb : ∀ a p, x3 (ix2 a p) = ((B a p : ℝ) : EReal)) (hg : ∀ l, x4 (ix1 l) = ((G l : ℝ) : EReal)) (t : Fin 66) (p : Fin 128) (l : Fin 2048) :
    val_main_v81 (F := Ideal) x0 x1 x2 x3 x4 (ix2 (row t p) l) = ((if h : l.val < 1024 then dd Y t p ⟨l.val, h⟩ * mixed (vr Z t) W B G p ⟨l.val, h⟩ else pr (vr Z t) p * (dvn (ul Z t) (dd Y t) W p ⟨l.val - 1024, by omega⟩ * G ⟨l.val - 1024, by omega⟩ - vhat (vr Z t) p ⟨l.val - 1024, by omega⟩ * ((∑ k, dvn (ul Z t) (dd Y t) W p k * G k * vhat (vr Z t) p k) / 1024)) : ℝ) : EReal) := by
  pointwise [val_main_v81, val_main_v80, val_main_v79, val_main_cst_17, val_main_cst_18]
  by_cases h : l.val < 1024
  · rw [dif_neg (by omega), dif_pos h, dif_pos h, zero_add]
    exact r48 hz hy hw hb hg t p ⟨l.val, h⟩
  · rw [dif_pos ⟨by omega, by omega⟩, dif_neg h, dif_neg h, add_zero]
    exact r78 hz hy hw hg t p ⟨l.val - 1024, by omega⟩

/-- The gradient at the rows. -/
theorem r101 (hz : ∀ r l, x0 (ix2 r l) = ((Z r l : ℝ) : EReal)) (hy : ∀ r l, x1 (ix2 r l) = ((Y r l : ℝ) : EReal)) (hw : ∀ a p q, x2 (ix3 a p q) = ((W a p q : ℝ) : EReal)) (hb : ∀ a p, x3 (ix2 a p) = ((B a p : ℝ) : EReal)) (hg : ∀ l, x4 (ix1 l) = ((G l : ℝ) : EReal)) (t : Fin 66) (p : Fin 128) (l : Fin 2048) :
    val_main_v101 (F := Ideal) x0 x1 x2 x3 x4 (ix2 (row t p) l) = ((dzt (ul Z t) (vr Z t) (dd Y t) W B G p l : ℝ) : EReal) := by
  obtain ⟨D, hD⟩ : ∃ D : ℝ, (if h : l.val < 1024 then dd Y t p ⟨l.val, h⟩ * mixed (vr Z t) W B G p ⟨l.val, h⟩ else pr (vr Z t) p * (dvn (ul Z t) (dd Y t) W p ⟨l.val - 1024, by omega⟩ * G ⟨l.val - 1024, by omega⟩ - vhat (vr Z t) p ⟨l.val - 1024, by omega⟩ * ((∑ k, dvn (ul Z t) (dd Y t) W p k * G k * vhat (vr Z t) p k) / 1024))) = D := ⟨_, rfl⟩
  have h81 := r81 hz hy hw hb hg t p l
  rw [hD] at h81
  pointwise [val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v2, val_main_cst_19, val_main_cst_20, val_main_cst_21, val_main_cst_22]
  simp only [h81, r1 hz, r16 hz, r18 hz, hz, c_half, c_mhalf, c_one, c_width, c_k, c_eps, c_num, c_den, ← EReal.coe_mul, ← EReal.coe_add, ← EReal.coe_sub, sum_coe, tanh_coe, div_coe _ (show (1024 : ℝ) ≠ 0 by norm_num), div_coe _ (show (200000 : ℝ) ≠ 0 by norm_num)]
  rw [show dzt (ul Z t) (vr Z t) (dd Y t) W B G p l = D * dgel (Z (row t p) l) from ?_]
  · refine congrArg _ ?_
    unfold dgel kk
    ring
  · rw [← hD, dzt]
    split_ifs with h
    · rfl
    · rw [dright]
      refine congrArg _ (congrArg dgel (congrArg (Z (row t p)) (Fin.ext ?_)))
      simp only [hi]
      omega

end Cert.GateRefIdeal.Lift

end
-- ==== Proof.GateValue.lean ====
/- What the gating gradient's kernel leaves: over the real numbers, the four gradients its reference returns. -/
module

public import proofs.«01_k».proof.Defs
public import proofs.«01_k».proof.Proof.Gen.GateIdeal.Frame
public import proofs.«01_k».proof.Proof.Gen.Pre_gate_finite
public import proofs.«01_k».proof.Proof.GateReals
public import proofs.«01_k».proof.Proof.GateSums
public import proofs.«01_k».proof.Proof.GateRefLift
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Cert.GateReals

namespace Cert.GateIdeal.Lift

open Cert.GateIdeal Cert.GateIdeal.Gen
open Cert.GateRefIdeal.Read (val_main_v101 val_main_v55 val_main_v103 val_main_v105)
open Cert.GateRefIdeal.Lift (r101 r55 r103 r105)

variable {m : (ℓ : Loc nD τ sig) → Buf (Elt Ideal) ℓ} {c : Dev nD} {Z : Fin 8448 → Fin 2048 → ℝ} {Y : Fin 8448 → Fin 1024 → ℝ}
variable {W : Fin 8 → Fin 128 → Fin 128 → ℝ} {B : Fin 8 → Fin 128 → ℝ} {G : Fin 1024 → ℝ}

/-- A number whose absolute value is below infinity is a real number. -/
theorem real_of_lt {x : Ideal .f32}
    (h : BitVec.ofBool (decide ((FloatOps.absf x : EReal) < Ideal.ofBits FTy.f32 2139095040#32)) = 1#1) :
    (x : EReal) = ((EReal.toReal x : ℝ) : EReal) := by
  have hi : Ideal.ofBits FTy.f32 2139095040#32 = (⊤ : EReal) := by simp [Ideal.ofBits, Ideal.ieee]
  have ha : (FloatOps.absf x : EReal) = max (x : EReal) (-(x : EReal)) := rfl
  rw [hi, ha] at h
  have hx : max (x : EReal) (-(x : EReal)) < ⊤ := by
    by_contra hc
    rw [decide_eq_false hc] at h
    exact absurd h (by decide)
  refine (EReal.coe_toReal (fun e => ?_) (fun e => ?_)).symm
  · rw [e] at hx; simp at hx
  · rw [e] at hx; simp at hx

/-- Finite arguments are real arrays. -/
theorem reals_of_finite (h : Cert.Pre_GateIdeal_gate_finite m) (c : Dev nD) :
    Reals m c (fun r l => EReal.toReal ((m ((c.tc : Thread nD τ).loc main_arg0)) (ix2 r l))) (fun r l => EReal.toReal ((m ((c.tc : Thread nD τ).loc main_arg1)) (ix2 r l)))
      (fun a p q => EReal.toReal ((m ((c.tc : Thread nD τ).loc main_arg2)) (ix3 a p q))) (fun a p => EReal.toReal ((m ((c.tc : Thread nD τ).loc main_arg3)) (ix2 a p)))
      (fun l => EReal.toReal ((m ((c.tc : Thread nD τ).loc main_arg4)) (ix1 l))) := by
  obtain ⟨h0, h1, h2, h3, h4⟩ := h c
  constructor
  · intro r l
    have e := congrFun h0 (ix2 r l)
    pointwise [Cert.Pre_gate_finite.fn] at e
    exact real_of_lt e
  · intro r l
    have e := congrFun h1 (ix2 r l)
    pointwise [Cert.Pre_gate_finite.fn] at e
    exact real_of_lt e
  · intro a p q
    have e := congrFun h2 (ix3 a p q)
    pointwise [Cert.Pre_gate_finite.fn] at e
    exact real_of_lt e
  · intro a p
    have e := congrFun h3 (ix2 a p)
    pointwise [Cert.Pre_gate_finite.fn] at e
    exact real_of_lt e
  · intro l
    have e := congrFun h4 (ix1 l)
    pointwise [Cert.Pre_gate_finite.fn] at e
    exact real_of_lt e

/-- The gradient at the rows. -/
theorem final5 (H : Reals m c Z Y W B G) : (dats m 0 c).arrAt 5 cfg0.N = val_main_v101 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  blk_simp
  rw [after0_5]
  have hN : t.val < 66 := t.isLt
  have hz : (outsAt0 m c t.val t.isLt).1 y
      = ((dzt (ul Z ⟨t.val, t.isLt⟩) (vr Z ⟨t.val, t.isLt⟩) (dd Y ⟨t.val, t.isLt⟩) W B G (y 0) (y 1) : ℝ) : EReal) := by
    by_cases h : t.val % 66 = 0
    · exact dz_A H t y h
    · exact dz_B H t y h
  refine (hz.trans (r101 H.z H.y H.w H.b H.g ⟨t.val, t.isLt⟩ (y 0) (y 1)).symm).trans ?_
  idx_vars y
  blk_ext [idx t, row]

/-- The gradient of the mixing weights. -/
theorem final6 (H : Reals m c Z Y W B G) : (dats m 0 c).arrAt 6 cfg0.N = val_main_v55 (F := Ideal) (m ((c.tc : Thread nD τ).loc main_arg0)) (m ((c.tc : Thread nD τ).loc main_arg1)) (m ((c.tc : Thread nD τ).loc main_arg4)) := by
  refine (dats m 0 c).arrAt_eq_of_covers 6 _ (by decide +kernel) fun t hf y => ?_
  blk_simp
  rw [after0_6]
  idx_vars y
  rw [Pipeline.eq_sum_fin_of_reset_step_apply_of_flush (fun n h => (outsAt0 m c n h).2.1) 66 (fun _ => (0 : EReal))
    (fun t j => ((dwt (ul Z ⟨t.val, t.isLt⟩) (vr Z ⟨t.val, t.isLt⟩) (dd Y ⟨t.val, t.isLt⟩) G (j 0) (j 1) (j 2) : ℝ) : EReal))
    (fun t h j => by rw [weight_A H t j h, zero_add])
    (fun t h j => weight_B H t j h)
    t ((flush0_6 t).mp hf) _, zero_add, sum_coe]
  have hN : t.val < 66 := t.isLt
  refine Eq.trans ?_ ((r55 H.z H.y H.g y0 y1 y2).symm.trans ?_)
  · refine congrArg _ (Finset.sum_congr rfl fun i _ => ?_)
    have key : ∀ j : Fin 66, j = i → dwt (ul Z j) (vr Z j) (dd Y j) G y0 y1 y2 = dwt (ul Z i) (vr Z i) (dd Y i) G y0 y1 y2 := by
      rintro j rfl; rfl
    exact key _ (Fin.ext (by simp only; omega))
  · blk_ext [idx t]

/-- The gradient of the biases. -/
theorem final7 (H : Reals m c Z Y W B G) : (dats m 0 c).arrAt 7 cfg0.N = val_main_v103 (F := Ideal) (m ((c.tc : Thread nD τ).loc main_arg0)) (m ((c.tc : Thread nD τ).loc main_arg1)) := by
  refine (dats m 0 c).arrAt_eq_of_covers 7 _ (by decide +kernel) fun t hf y => ?_
  blk_simp
  rw [after0_7]
  idx_vars y
  rw [Pipeline.eq_sum_fin_of_reset_step_apply_of_flush (fun n h => (outsAt0 m c n h).2.2.1) 66 (fun _ => (0 : EReal))
    (fun t j => ((dbt (ul Z ⟨t.val, t.isLt⟩) (dd Y ⟨t.val, t.isLt⟩) (j 0) (j 1) : ℝ) : EReal))
    (fun t h j => by rw [bias_A H t j h, zero_add])
    (fun t h j => bias_B H t j h)
    t ((flush0_7 t).mp hf) _, zero_add, sum_coe]
  have hN : t.val < 66 := t.isLt
  refine Eq.trans ?_ ((r103 H.z H.y y0 y1 y2).symm.trans ?_)
  · refine congrArg _ (Finset.sum_congr rfl fun i _ => ?_)
    have key : ∀ j : Fin 66, j = i → dbt (ul Z j) (dd Y j) y0 y1 = dbt (ul Z i) (dd Y i) y0 y1 := by
      rintro j rfl; rfl
    exact key _ (Fin.ext (by simp only; omega))
  · blk_ext [idx t]

/-- The gradient of the scale. -/
theorem final8 (H : Reals m c Z Y W B G) : (dats m 0 c).arrAt 8 cfg0.N = val_main_v105 (F := Ideal) (m ((c.tc : Thread nD τ).loc main_arg0)) (m ((c.tc : Thread nD τ).loc main_arg1)) (m ((c.tc : Thread nD τ).loc main_arg2)) := by
  refine (dats m 0 c).arrAt_eq_of_covers 8 _ (by decide +kernel) fun t hf y => ?_
  blk_simp
  rw [after0_8]
  idx_vars y
  rw [Pipeline.eq_sum_fin_of_reset_step_apply_of_flush (fun n h => (outsAt0 m c n h).2.2.2) 66 (fun _ => (0 : EReal))
    (fun t j => if (j 0).val = 0 then ((dgt (ul Z ⟨t.val, t.isLt⟩) (vr Z ⟨t.val, t.isLt⟩) (dd Y ⟨t.val, t.isLt⟩) W (j 1) : ℝ) : EReal) else 0)
    (fun t h j => by idx_vars j; exact scale_A H t _ _ h)
    (fun t h j => by idx_vars j; exact scale_B H t _ _ h)
    t ((flush0_8 t).mp hf) _, zero_add]
  have hN : t.val < 66 := t.isLt
  refine Eq.trans ?_ ((r105 H.z H.y H.w y0 y1).symm.trans ?_)
  · change (∑ i : Fin 66, _ : EReal) = _
    by_cases h0 : y0.val = 0
    · rw [if_pos h0, ← sum_coe]
      refine Finset.sum_congr rfl fun i _ => ?_
      refine (if_pos h0).trans ?_
      have key : ∀ j : Fin 66, j = i → ((dgt (ul Z j) (vr Z j) (dd Y j) W y1 : ℝ) : EReal) = ((dgt (ul Z i) (vr Z i) (dd Y i) W y1 : ℝ) : EReal) := by
        rintro j rfl; rfl
      exact key _ (Fin.ext (by simp only; omega))
    · rw [if_neg h0]
      exact Finset.sum_eq_zero fun i _ => if_neg h0
  · blk_ext [idx t]

end Cert.GateIdeal.Lift

end
-- ==== Proof.MergeValue.lean ====
/- What the merge gradient's kernel leaves: the five gradients its reference returns. -/
module

public import proofs.«01_k».proof.Defs
public import proofs.«01_k».proof.Proof.Gen.MergeIdeal.Frame
public import proofs.«01_k».proof.Proof.Gen.MergeRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MergeIdeal.Lift

open Cert.MergeIdeal Cert.MergeIdeal.Gen
open Cert.MergeRefIdeal.Read

/-- Lane `l` of branch `k` among the stacked lanes. -/
def lane (k : Fin 3) (l : Fin 1024) : Fin 3072 := match k with
  | 0 => ⟨l.val, by omega⟩
  | 1 => ⟨1024 + l.val, by omega⟩
  | 2 => ⟨2048 + l.val, by omega⟩

/-- Every stacked lane is a lane of a branch. -/
theorem lane_surj (L : Fin 3072) : ∃ k l, L = lane k l := by
  by_cases h0 : L.val < 1024
  · exact ⟨0, ⟨L.val, h0⟩, rfl⟩
  by_cases h1 : L.val < 2048
  · exact ⟨1, ⟨L.val - 1024, by omega⟩, Fin.ext (by simp only [lane]; omega)⟩
  · exact ⟨2, ⟨L.val - 2048, by omega⟩, Fin.ext (by simp only [lane]; omega)⟩

/-- A lane is a lane of one branch. -/
theorem lane_inj {k k' : Fin 3} {l l' : Fin 1024} (h : lane k l = lane k' l') : k = k' ∧ l = l' := by
  have h := congrArg Fin.val h
  match k, k' with
  | 0, 0 | 1, 1 | 2, 2 => exact ⟨rfl, Fin.ext (by simp only [lane] at h; omega)⟩
  | 0, 1 | 0, 2 | 1, 0 | 1, 2 | 2, 0 | 2, 1 => exfalso; simp only [lane] at h; omega

variable (d : Fin 8448 → Fin 1024 → EReal) (T : Fin 3 → Fin 8448 → Fin 1024 → EReal) (z : Fin 8448 → Fin 3072 → EReal) (b : Fin 3072 → EReal)

/-- The gate of a row's lane. -/
def gate (r : Fin 8448) (l : Fin 3072) : EReal := Ideal.logistic (z r l + b l)
/-- The gradient at the logits of a branch's gate. -/
def dlog (k : Fin 3) (r : Fin 8448) (l : Fin 1024) : EReal :=
  d r l * T k r l * gate z b r (lane k l) * (1 - gate z b r (lane k l))
/-- The gradient at a branch. -/
def dgate (k : Fin 3) (r : Fin 8448) (l : Fin 1024) : EReal := d r l * gate z b r (lane k l)

section Reference
variable (x0 : (⟨S8448x1024, .f32⟩ : BufTy).Contents (Elt Ideal)) (x1 : (⟨S3x8448x1024, .f32⟩ : BufTy).Contents (Elt Ideal))
variable (x2 : (⟨S8448x3072, .f32⟩ : BufTy).Contents (Elt Ideal)) (x3 : (⟨S3072, .f32⟩ : BufTy).Contents (Elt Ideal))

/-- The gates. -/
theorem r14 (r : Fin 8448) (l : Fin 3072) :
    val_main_v14 (F := Ideal) x2 x3 (ix2 r l) = gate (fun r l => x2 (ix2 r l)) (fun l => x3 (ix1 l)) r l := by
  pointwise [val_main_v14, val_main_v13, val_main_v12, val_main_v11, val_main_v10, val_main_v9, val_main_v8, val_main_v7, val_main_v6, val_main_cst, val_main_cst_0]
  rfl

/-- The gradient at the first branch. -/
theorem r43 (r : Fin 8448) (l : Fin 1024) :
    val_main_v43 (F := Ideal) x0 x2 x3 (ix2 r l) = x0 (ix2 r l) * gate (fun r l => x2 (ix2 r l)) (fun l => x3 (ix1 l)) r (lane 0 l) := by
  rw [← r14 x2 x3]
  pointwise [val_main_v43, val_main_v32, val_main_v18, val_main_v26]
  exact mul_comm _ _
/-- The gradient at the second branch. -/
theorem r44 (r : Fin 8448) (l : Fin 1024) :
    val_main_v44 (F := Ideal) x0 x2 x3 (ix2 r l) = x0 (ix2 r l) * gate (fun r l => x2 (ix2 r l)) (fun l => x3 (ix1 l)) r (lane 1 l) := by
  rw [← r14 x2 x3]
  pointwise [val_main_v44, val_main_v30, val_main_v19, val_main_v26]
  exact mul_comm _ _
/-- The gradient at the third branch. -/
theorem r45 (r : Fin 8448) (l : Fin 1024) :
    val_main_v45 (F := Ideal) x0 x2 x3 (ix2 r l) = x0 (ix2 r l) * gate (fun r l => x2 (ix2 r l)) (fun l => x3 (ix1 l)) r (lane 2 l) := by
  rw [← r14 x2 x3]
  pointwise [val_main_v45, val_main_v28, val_main_v20, val_main_v27]
  exact mul_comm _ _

/-- The gradient at the gates, at a branch's lane. -/
theorem r38 (k : Fin 3) (r : Fin 8448) (l : Fin 1024) :
    val_main_v38 (F := Ideal) x0 x1 (ix2 r (lane k l)) = x0 (ix2 r l) * x1 (ix3 k r l) := by
  pointwise [val_main_v38, val_main_v37, val_main_v36, val_main_v35, val_main_v34, val_main_v33, val_main_v31, val_main_v29, val_main_v26, val_main_v27, val_main_v1, val_main_v3, val_main_v5, val_main_v0, val_main_v2, val_main_v4, val_main_cst_2, val_main_cst_3, val_main_cst_4]
  match k with
  | 0 =>
    rw [dif_neg (by simp only [lane]; omega), dif_neg (by simp only [lane]; omega), dif_pos (by simp only [lane]; omega), zero_add, zero_add]
    rfl
  | 1 =>
    rw [dif_neg (by simp only [lane]; omega), dif_pos (by simp only [lane]; omega), dif_neg (by simp only [lane]; omega), zero_add, add_zero]
    have e : ∀ h, (⟨(lane 1 l).val - 1024, h⟩ : Fin 1024) = l := fun h => Fin.ext (by simp only [lane]; omega)
    rw [e]
  | 2 =>
    rw [dif_pos (by simp only [lane]; omega), dif_neg (by simp only [lane]; omega), dif_neg (by simp only [lane]; omega), add_zero, add_zero]
    have e : ∀ h, (⟨(lane 2 l).val - 2048, h⟩ : Fin 1024) = l := fun h => Fin.ext (by simp only [lane]; omega)
    rw [e]

/-- The gradient at the logits, at a branch's lane. -/
theorem r39 (k : Fin 3) (r : Fin 8448) (l : Fin 1024) :
    val_main_v39 (F := Ideal) x0 x1 x2 x3 (ix2 r (lane k l))
      = dlog (fun r l => x0 (ix2 r l)) (fun k r l => x1 (ix3 k r l)) (fun r l => x2 (ix2 r l)) (fun l => x3 (ix1 l)) k r l := by
  rw [val_main_v39_apply]
  rw [r38]
  pointwise [val_main_v17, val_main_v16, val_main_v15, val_main_cst_1]
  rw [r14, dlog]
  exact (mul_assoc (_ : EReal) _ _).symm

/-- The gradient at the logits, narrowed. -/
theorem r46 (k : Fin 3) (r : Fin 8448) (l : Fin 1024) :
    val_main_v46 (F := Ideal) x0 x1 x2 x3 (ix2 r (lane k l))
      = dlog (fun r l => x0 (ix2 r l)) (fun k r l => x1 (ix3 k r l)) (fun r l => x2 (ix2 r l)) (fun l => x3 (ix1 l)) k r l :=
  r39 x0 x1 x2 x3 k r l

/-- The gradient at the gates' biases, in the first of eight rows. -/
theorem r48 (a : Fin 8) (k : Fin 3) (l : Fin 1024) :
    val_main_v48 (F := Ideal) x0 x1 x2 x3 (ix2 a (lane k l))
      = if a.val = 0 then ∑ r, dlog (fun r l => x0 (ix2 r l)) (fun k r l => x1 (ix3 k r l)) (fun r l => x2 (ix2 r l)) (fun l => x3 (ix1 l)) k r l else 0 := by
  pointwise [val_main_v48, val_main_v47, val_main_v42, val_main_v41, val_main_v40, val_main_cst_5, val_main_cst_6, val_main_call0_v0, val_main_c]
  simp only [Finset.univ_unique, Finset.sum_singleton, r39]
  have e : (FloatOps.sitofp FTy.f32 0#32 : Ideal .f32) = (0 : EReal) := by simp [FloatOps.sitofp]
  by_cases h : a.val = 0
  · rw [dif_pos (by omega), if_pos h]
  · rw [dif_neg (by omega), if_neg h, e]
end Reference

variable {m : (ℓ : Loc nD τ sig) → Buf (Elt Ideal) ℓ} {c : Dev nD}

/-- Which block each window is on at a grid point. -/
theorem idx : ∀ t : Fin cfg0.N,
    win0_0.index t = ![t.val, 0] ∧ win0_1.index t = ![0, t.val, 0] ∧ win0_2.index t = ![1, t.val, 0] ∧ win0_3.index t = ![2, t.val, 0]
      ∧ win0_4.index t = ![t.val, 0] ∧ win0_5.index t = ![0, 0] ∧ win0_6.index t = ![t.val, 0]
      ∧ win0_7.index t = ![t.val, 0] ∧ win0_8.index t = ![t.val, 0] ∧ win0_9.index t = ![t.val, 0] ∧ win0_10.index t = ![0, 0] :=
  (by decide +kernel : ∀ t : Fin grid0.N, _)

/-- Row `q` of block `t`. -/
def row (t : Fin 33) (q : Fin 256) : Fin 8448 := ⟨256 * t.val + q.val, by omega⟩

/-- A block of the incoming gradient. -/
theorem blk0 (t : Fin cfg0.N) (q : Fin 256) (l : Fin 1024) :
    iblk m c 0 t (ix2 q l) = m ((c.tc : Thread nD τ).loc main_arg0) (ix2 (row ⟨t.val, t.isLt⟩ q) l) := by
  blk_ext [iblk, V, idx t, row]
/-- A block of the first branch. -/
theorem blk1 (t : Fin cfg0.N) (q : Fin 256) (l : Fin 1024) :
    iblk m c 1 t (ix3 0 q l) = m ((c.tc : Thread nD τ).loc main_arg1) (ix3 0 (row ⟨t.val, t.isLt⟩ q) l) := by
  blk_ext [iblk, V, idx t, row]
/-- A block of the second branch. -/
theorem blk2 (t : Fin cfg0.N) (q : Fin 256) (l : Fin 1024) :
    iblk m c 2 t (ix3 0 q l) = m ((c.tc : Thread nD τ).loc main_arg1) (ix3 1 (row ⟨t.val, t.isLt⟩ q) l) := by
  blk_ext [iblk, V, idx t, row]
/-- A block of the third branch. -/
theorem blk3 (t : Fin cfg0.N) (q : Fin 256) (l : Fin 1024) :
    iblk m c 3 t (ix3 0 q l) = m ((c.tc : Thread nD τ).loc main_arg1) (ix3 2 (row ⟨t.val, t.isLt⟩ q) l) := by
  blk_ext [iblk, V, idx t, row]
/-- A block of the logits. -/
theorem blk4 (t : Fin cfg0.N) (q : Fin 256) (l : Fin 3072) :
    iblk m c 4 t (ix2 q l) = m ((c.tc : Thread nD τ).loc main_arg2) (ix2 (row ⟨t.val, t.isLt⟩ q) l) := by
  blk_ext [iblk, V, idx t, row]
/-- The biases along a row. -/
theorem blk5 (t : Fin cfg0.N) (l : Fin 3072) :
    iblk m c 5 t (ix2 0 l) = m ((c.tc : Thread nD τ).loc main_arg3) (ix1 l) := by
  blk_simp [iblk, idx t]
  entry_read
  pointwise
  blk_ext [idx t]

variable (m c) in
/-- The gradient at the logits, of the arguments. -/
def dl (k : Fin 3) (r : Fin 8448) (l : Fin 1024) : EReal :=
  dlog (fun r l => m ((c.tc : Thread nD τ).loc main_arg0) (ix2 r l)) (fun k r l => m ((c.tc : Thread nD τ).loc main_arg1) (ix3 k r l))
    (fun r l => m ((c.tc : Thread nD τ).loc main_arg2) (ix2 r l)) (fun l => m ((c.tc : Thread nD τ).loc main_arg3) (ix1 l)) k r l

variable (m c) in
/-- The gradient at a branch, of the arguments. -/
def dg (k : Fin 3) (r : Fin 8448) (l : Fin 1024) : EReal :=
  dgate (fun r l => m ((c.tc : Thread nD τ).loc main_arg0) (ix2 r l))
    (fun r l => m ((c.tc : Thread nD τ).loc main_arg2) (ix2 r l)) (fun l => m ((c.tc : Thread nD τ).loc main_arg3) (ix1 l)) k r l

/-- What a point leaves of the gradient at the first branch. -/
theorem out6 (t : Fin cfg0.N) (q : Fin 256) (l : Fin 1024) :
    (outsAt0 m c t.val t.isLt).1 (ix2 q l)
      = dg m c 0 (row ⟨t.val, t.isLt⟩ q) l := by
  have hN : t.val < 33 := t.isLt
  by_cases h : t.val % 33 = 0
  · rw [outsAt0_A m c t h (by omega)]
    frame_out
    pointwise [k0_pay4, k0_pay3]
    rw [blk0, blk4, blk5]
    rfl
  · rw [outsAt0_B m c t h (by omega)]
    frame_out
    pointwise [k0_pay4, k0_pay3]
    rw [blk0, blk4, blk5]
    rfl

/-- What a point leaves of the gradient at the second branch. -/
theorem out7 (t : Fin cfg0.N) (q : Fin 256) (l : Fin 1024) :
    (outsAt0 m c t.val t.isLt).2.1 (ix2 q l)
      = dg m c 1 (row ⟨t.val, t.isLt⟩ q) l := by
  have hN : t.val < 33 := t.isLt
  by_cases h : t.val % 33 = 0
  · rw [outsAt0_A m c t h (by omega)]
    frame_out
    pointwise [k0_pay9, k0_pay8]
    rw [blk0, blk4, blk5]
    rfl
  · rw [outsAt0_B m c t h (by omega)]
    frame_out
    pointwise [k0_pay9, k0_pay8]
    rw [blk0, blk4, blk5]
    rfl

/-- What a point leaves of the gradient at the third branch. -/
theorem out8 (t : Fin cfg0.N) (q : Fin 256) (l : Fin 1024) :
    (outsAt0 m c t.val t.isLt).2.2.1 (ix2 q l)
      = dg m c 2 (row ⟨t.val, t.isLt⟩ q) l := by
  have hN : t.val < 33 := t.isLt
  by_cases h : t.val % 33 = 0
  · rw [outsAt0_A m c t h (by omega)]
    frame_out
    pointwise [k0_pay14, k0_pay13]
    rw [blk0, blk4, blk5]
    rfl
  · rw [outsAt0_B m c t h (by omega)]
    frame_out
    pointwise [k0_pay14, k0_pay13]
    rw [blk0, blk4, blk5]
    rfl

/-- What a point leaves of the gradient at the logits. -/
theorem out9 (t : Fin cfg0.N) (q : Fin 256) (k : Fin 3) (l : Fin 1024) :
    (outsAt0 m c t.val t.isLt).2.2.2.1 (ix2 q (lane k l)) = dl m c k (row ⟨t.val, t.isLt⟩ q) l := by
  have hN : t.val < 33 := t.isLt
  generalize hy : lane k l = y
  by_cases h : t.val % 33 = 0
  · rw [outsAt0_A m c t h (by omega)]
    frame_out
    clear h
    canon_tiles x h using (View.cover_of_tiledBy _ ![256, 1024] (by sl_kernel_rfl) _)
    case piece0 =>
      idx_vars x
      obtain rfl : q = x0 := Fin.ext h0
      obtain ⟨rfl, rfl⟩ := lane_inj (hy.trans (Fin.ext h1 : y = lane 2 x1))
      pointwise [k0_pay16, k0_pay15, k0_pay13]
      rw [blk0, blk4, blk5, blk3]
      rfl
    case piece1 =>
      idx_vars x
      obtain rfl : q = x0 := Fin.ext h0
      obtain ⟨rfl, rfl⟩ := lane_inj (hy.trans (Fin.ext h1 : y = lane 1 x1))
      pointwise [k0_pay12, k0_pay11, k0_pay10, k0_pay8]
      rw [blk0, blk4, blk5, blk2]
      rfl
    case piece2 =>
      idx_vars x
      obtain rfl : q = x0 := Fin.ext h0
      obtain ⟨rfl, rfl⟩ := lane_inj (hy.trans (Fin.ext h1 : y = lane 0 x1))
      pointwise [k0_pay6, k0_pay5, k0_pay3]
      rw [blk0, blk4, blk5, blk1]
      rfl
  · rw [outsAt0_B m c t h (by omega)]
    frame_out
    clear h
    canon_tiles x h using (View.cover_of_tiledBy _ ![256, 1024] (by sl_kernel_rfl) _)
    case piece0 =>
      idx_vars x
      obtain rfl : q = x0 := Fin.ext h0
      obtain ⟨rfl, rfl⟩ := lane_inj (hy.trans (Fin.ext h1 : y = lane 2 x1))
      pointwise [k0_pay16, k0_pay15, k0_pay13]
      rw [blk0, blk4, blk5, blk3]
      rfl
    case piece1 =>
      idx_vars x
      obtain rfl : q = x0 := Fin.ext h0
      obtain ⟨rfl, rfl⟩ := lane_inj (hy.trans (Fin.ext h1 : y = lane 1 x1))
      pointwise [k0_pay12, k0_pay11, k0_pay10, k0_pay8]
      rw [blk0, blk4, blk5, blk2]
      rfl
    case piece2 =>
      idx_vars x
      obtain rfl : q = x0 := Fin.ext h0
      obtain ⟨rfl, rfl⟩ := lane_inj (hy.trans (Fin.ext h1 : y = lane 0 x1))
      pointwise [k0_pay6, k0_pay5, k0_pay3]
      rw [blk0, blk4, blk5, blk1]
      rfl

/-- Three rows of column sums side by side: the lane picks its row. -/
theorem pay19_at {v0 : Vec Ideal S256x1024 .f32} {v20 : FVec Ideal S1x1024 .f32} {v26 v31 : FVec Ideal S256x1024 .f32} {v41 : Vec Ideal S256x1024 .f32}
    {v42 : Vec Ideal S1x1024 .f32} {v50 : Vec Ideal S1x256x1024 .f32} {s : Fin 3 → Fin 1024 → EReal}
    (h0 : ∀ l, v20 (ix2 0 l) = s 0 l) (h1 : ∀ l, ∑ q : Fin 256, (k0_pay11 (F := Ideal) v0 v26 v31 (ix2 q l) : EReal) = s 1 l)
    (h2 : ∀ l, ∑ q : Fin 256, (k0_pay15 (F := Ideal) v0 v41 v42 v50 (ix2 q l) : EReal) = s 2 l) (a : Fin 8) (k : Fin 3) (l : Fin 1024) :
    k0_pay19 (F := Ideal) v0 v20 v26 v31 v41 v42 v50 (ix2 a (lane k l)) = s k l := by
  pointwise [k0_pay19]
  match k with
  | 0 =>
    rw [dif_pos (by simp only [lane]; omega)]
    exact h0 l
  | 1 =>
    rw [dif_neg (by simp only [lane]; omega), dif_pos (by simp only [lane]; omega)]
    have e : ∀ h, (⟨(lane 1 l).val - 1024, h⟩ : Fin 1024) = l := fun h => Fin.ext (by simp only [lane]; omega)
    simp only [e]
    exact h1 l
  | 2 =>
    rw [dif_neg (by simp only [lane]; omega), dif_neg (by simp only [lane]; omega)]
    have e : ∀ h, (⟨(lane 2 l).val - 1024 - 1024, h⟩ : Fin 1024) = l := fun h => Fin.ext (by simp only [lane]; omega)
    simp only [e]
    exact h2 l

/-- The first row takes the column sums, the other rows are zero. -/
theorem pay1_at {v67 : FVec Ideal S8x3072 .f32} (a : Fin 8) (y : Fin 3072) :
    k0_pay1 (F := Ideal) k0_pay17 k0_pay18 v67 k0_pay20 (ix2 a y) = if a.val = 0 then v67 (ix2 a y) else 0 := by
  pointwise [k0_pay1, k0_pay17, k0_pay18, k0_pay20]
  rw [(by decide : ∀ r : Fin 8, IntOp.cmpi .eq (BitVec.ofNat 32 r.val) 0#32 = if r.val = 0 then 1#1 else 0#1) a]
  by_cases h : a.val = 0
  · rw [if_pos h, if_pos h]
    rfl
  · rw [if_neg h, if_neg h]
    rfl

/-- The same, added to what was there. -/
theorem pay2_at {v67 : FVec Ideal S8x3072 .f32} {v77 : Vec Ideal S8x3072 .f32} (a : Fin 8) (y : Fin 3072) :
    k0_pay2 (F := Ideal) k0_pay17 k0_pay18 v67 k0_pay20 v77 (ix2 a y) = v77 (ix2 a y) + if a.val = 0 then v67 (ix2 a y) else 0 := by
  pointwise [k0_pay2]
  exact congrArg _ (pay1_at a y)

/-- What the first point leaves of the biases' gradient. -/
theorem out10_A (t : Fin cfg0.N) (h : t.val % 33 = 0) (a : Fin 8) (k : Fin 3) (l : Fin 1024) :
    (outsAt0 m c t.val t.isLt).2.2.2.2 (ix2 a (lane k l)) = if a.val = 0 then ∑ q, dl m c k (row ⟨t.val, t.isLt⟩ q) l else 0 := by
  have hN : t.val < 33 := t.isLt
  rw [outsAt0_A m c t h (by omega)]
  frame_out
  refine (pay1_at a (lane k l)).trans ?_
  rw [pay19_at (s := fun k l => ∑ q, dl m c k (row ⟨t.val, t.isLt⟩ q) l)]
  · intro l
    pointwise [k0_pay7, k0_pay5, k0_pay3]
    simp only [blk0, blk1, blk4, blk5]
    rfl
  · intro l
    pointwise [k0_pay11, k0_pay10, k0_pay8]
    simp only [blk0, blk2, blk4, blk5]
    rfl
  · intro l
    pointwise [k0_pay15, k0_pay13]
    simp only [blk0, blk3, blk4, blk5]
    rfl

/-- What a later point leaves of the biases' gradient. -/
theorem out10_B (t : Fin cfg0.N) (h : ¬t.val % 33 = 0) (a : Fin 8) (k : Fin 3) (l : Fin 1024) :
    (outsAt0 m c t.val t.isLt).2.2.2.2 (ix2 a (lane k l))
      = (outsAt0 m c (t.val - 1) (Nat.lt_of_le_of_lt (Nat.sub_le _ _) t.isLt)).2.2.2.2 (ix2 a (lane k l))
        + if a.val = 0 then ∑ q, dl m c k (row ⟨t.val, t.isLt⟩ q) l else 0 := by
  have hN : t.val < 33 := t.isLt
  rw [outsAt0_B m c t h (by omega)]
  frame_out
  refine (pay2_at a (lane k l)).trans ?_
  rw [pay19_at (s := fun k l => ∑ q, dl m c k (row ⟨t.val, t.isLt⟩ q) l)]
  · intro l
    pointwise [k0_pay7, k0_pay5, k0_pay3]
    simp only [blk0, blk1, blk4, blk5]
    rfl
  · intro l
    pointwise [k0_pay11, k0_pay10, k0_pay8]
    simp only [blk0, blk2, blk4, blk5]
    rfl
  · intro l
    pointwise [k0_pay15, k0_pay13]
    simp only [blk0, blk3, blk4, blk5]
    rfl

/-- The gradient at the first branch. -/
theorem final6 : (dats m 0 c).arrAt 6 cfg0.N = val_main_v43 (F := Ideal) (m ((c.tc : Thread nD τ).loc main_arg0)) (m ((c.tc : Thread nD τ).loc main_arg2)) (m ((c.tc : Thread nD τ).loc main_arg3)) := by
  refine (dats m 0 c).arrAt_eq_of_covers 6 _ (by decide +kernel) fun t hf y => ?_
  blk_simp
  rw [after0_6]
  have hN : t.val < 33 := t.isLt
  idx_vars y
  refine ((out6 t y0 y1).trans (r43 _ _ _ _ _).symm).trans ?_
  blk_ext [idx t, row]

/-- The gradient at the second branch. -/
theorem final7 : (dats m 0 c).arrAt 7 cfg0.N = val_main_v44 (F := Ideal) (m ((c.tc : Thread nD τ).loc main_arg0)) (m ((c.tc : Thread nD τ).loc main_arg2)) (m ((c.tc : Thread nD τ).loc main_arg3)) := by
  refine (dats m 0 c).arrAt_eq_of_covers 7 _ (by decide +kernel) fun t hf y => ?_
  blk_simp
  rw [after0_7]
  have hN : t.val < 33 := t.isLt
  idx_vars y
  refine ((out7 t y0 y1).trans (r44 _ _ _ _ _).symm).trans ?_
  blk_ext [idx t, row]

/-- The gradient at the third branch. -/
theorem final8 : (dats m 0 c).arrAt 8 cfg0.N = val_main_v45 (F := Ideal) (m ((c.tc : Thread nD τ).loc main_arg0)) (m ((c.tc : Thread nD τ).loc main_arg2)) (m ((c.tc : Thread nD τ).loc main_arg3)) := by
  refine (dats m 0 c).arrAt_eq_of_covers 8 _ (by decide +kernel) fun t hf y => ?_
  blk_simp
  rw [after0_8]
  have hN : t.val < 33 := t.isLt
  idx_vars y
  refine ((out8 t y0 y1).trans (r45 _ _ _ _ _).symm).trans ?_
  blk_ext [idx t, row]

/-- The gradient at the logits. -/
theorem final9 : (dats m 0 c).arrAt 9 cfg0.N = val_main_v46 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 9 _ (by decide +kernel) fun t hf y => ?_
  blk_simp
  rw [after0_9]
  have hN : t.val < 33 := t.isLt
  idx_vars y
  obtain ⟨k, l, rfl⟩ := lane_surj y1
  refine ((out9 t y0 k l).trans (r46 _ _ _ _ _ _ _).symm).trans ?_
  blk_ext [idx t, row]

/-- The rows in their blocks. -/
theorem sum_rows (f : Fin 8448 → EReal) : ∑ r, f r = ∑ t : Fin 33, ∑ q : Fin 256, f (row t q) := by
  rw [← Fintype.sum_prod_type' (fun (t : Fin 33) (q : Fin 256) => f (row t q)), ← (finProdFinEquiv (m := 33) (n := 256)).sum_comp]
  refine Finset.sum_congr rfl fun x _ => congrArg f (Fin.ext ?_)
  simp only [finProdFinEquiv, Equiv.coe_fn_mk, row]
  omega

/-- The gradient at the biases. -/
theorem final10 : (dats m 0 c).arrAt 10 cfg0.N = val_main_v48 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 10 _ (by decide +kernel) fun t hf y => ?_
  blk_simp
  rw [after0_10]
  idx_vars y
  obtain ⟨k, l, rfl⟩ := lane_surj y1
  rw [Pipeline.eq_sum_fin_of_reset_step_of_flush (fun n h => ((outsAt0 m c n h).2.2.2.2 (ix2 y0 (lane k l)) : EReal)) 33 (0 : EReal)
    (fun t => if y0.val = 0 then ∑ q, dl m c k (row ⟨t.val, t.isLt⟩ q) l else 0)
    (fun t h => by rw [zero_add]; exact out10_A t h _ _ _)
    (fun t h => out10_B t h _ _ _)
    t ((flush0_10 t).mp hf), zero_add]
  have hN : t.val < 33 := t.isLt
  refine Eq.trans ?_ ((r48 (m ((c.tc : Thread nD τ).loc main_arg0)) (m ((c.tc : Thread nD τ).loc main_arg1)) (m ((c.tc : Thread nD τ).loc main_arg2)) (m ((c.tc : Thread nD τ).loc main_arg3)) y0 k l).symm.trans ?_)
  · change (∑ i : Fin 33, _ : EReal) = _
    by_cases h0 : y0.val = 0
    · rw [if_pos h0, sum_rows]
      refine Finset.sum_congr rfl fun i _ => (if_pos h0).trans ?_
      have key : ∀ j : Fin 33, j = i → ∑ q, dl m c k (row j q) l = ∑ q, dl m c k (row i q) l := by
        rintro j rfl; rfl
      exact key _ (Fin.ext (by simp only; omega))
    · rw [if_neg h0]
      exact Finset.sum_eq_zero fun i _ => if_neg h0
  · blk_ext [idx t]

end Cert.MergeIdeal.Lift

end
-- ==== Proof.SconvRows.lean ====
/- Rows moved by one position within their sequences, as the short convolution's gradient kernel moves them. -/
module

public import proofs.«01_k».proof.Defs
public import proofs.«01_k».proof.Proof.Gen.SconvIdeal.Frame
public import Idealize.ShloMosaic.Lib.Pipeline.ValueKit
public import Idealize.ShloMosaic.Lib.Pointwise
public import Idealize.ShloMosaic.Lib.KernelVsHost
public import Idealize.ShloMosaic.Lib.Claim

@[expose] public section

set_option maxRecDepth 16384

noncomputable section

open Idealize.ShloMosaic Idealize.ShloMosaic.TcCoe Idealize.SL.Sem

namespace Cert.SconvIdeal.Lift

open Cert.SconvIdeal Cert.SconvIdeal.Gen

/-- Row `q` of block `t`. -/
def row (t : Fin 33) (q : Fin 256) : Fin 8448 := ⟨256 * t.val + q.val, by omega⟩

/-- Each row's row before it in its sequence, zero before the first. -/
def up (p : Fin 8448 → Fin 1024 → EReal) (r : Fin 8448) (l : Fin 1024) : EReal :=
  if r.val = 0 ∨ r.val = 8192 then 0 else p ⟨r.val - 1, by omega⟩ l
/-- Each row's row after it in its sequence, zero after the last. -/
def dn (p : Fin 8448 → Fin 1024 → EReal) (r : Fin 8448) (l : Fin 1024) : EReal :=
  if h : r.val = 8191 ∨ r.val = 8447 then 0 else p ⟨r.val + 1, by omega⟩ l

/-- Lane `l` of part `k` among the stacked lanes. -/
def lane (k : Fin 3) (l : Fin 1024) : Fin 3072 := match k with
  | 0 => ⟨l.val, by omega⟩
  | 1 => ⟨1024 + l.val, by omega⟩
  | 2 => ⟨2048 + l.val, by omega⟩

/-- Every stacked lane is a lane of a part. -/
theorem lane_surj (L : Fin 3072) : ∃ k l, L = lane k l := by
  by_cases h0 : L.val < 1024
  · exact ⟨0, ⟨L.val, h0⟩, rfl⟩
  by_cases h1 : L.val < 2048
  · exact ⟨1, ⟨L.val - 1024, by omega⟩, Fin.ext (by simp only [lane]; omega)⟩
  · exact ⟨2, ⟨L.val - 2048, by omega⟩, Fin.ext (by simp only [lane]; omega)⟩

/-- A lane is a lane of one part. -/
theorem lane_inj {k k' : Fin 3} {l l' : Fin 1024} (h : lane k l = lane k' l') : k = k' ∧ l = l' := by
  have h := congrArg Fin.val h
  match k, k' with
  | 0, 0 | 1, 1 | 2, 2 => exact ⟨rfl, Fin.ext (by simp only [lane] at h; omega)⟩
  | 0, 1 | 0, 2 | 1, 0 | 1, 2 | 2, 0 | 2, 1 => exfalso; simp only [lane] at h; omega

section Terms
variable (z : Fin 8448 → Fin 3072 → EReal) (y : Fin 8448 → Fin 1024 → EReal) (w : Fin 3 → Fin 1024 → EReal)

/-- The product that is convolved. -/
def prod (r : Fin 8448) (l : Fin 1024) : EReal := z r (lane 1 l) * z r (lane 2 l)
/-- The gradient at the convolution's result. -/
def dcv (r : Fin 8448) (l : Fin 1024) : EReal := y r l * z r (lane 0 l)
/-- The convolution. -/
def conv (r : Fin 8448) (l : Fin 1024) : EReal := w 0 l * up (prod z) r l + w 1 l * prod z r l + w 2 l * dn (prod z) r l
/-- The gradient at the convolution's operand. -/
def dprod (r : Fin 8448) (l : Fin 1024) : EReal := w 0 l * dn (dcv z y) r l + w 1 l * dcv z y r l + w 2 l * up (dcv z y) r l
/-- The gradient at the rows. -/
def dz (k : Fin 3) (r : Fin 8448) (l : Fin 1024) : EReal := match k with
  | 0 => y r l * conv z w r l
  | 1 => dprod z y w r l * z r (lane 2 l)
  | 2 => dprod z y w r l * z r (lane 1 l)
/-- What a row adds to a tap's gradient. -/
def dwt (k : Fin 3) (r : Fin 8448) (l : Fin 1024) : EReal := match k with
  | 0 => dcv z y r l * up (prod z) r l
  | 1 => dcv z y r l * prod z r l
  | 2 => dcv z y r l * dn (prod z) r l
/-- The first three of eight rows hold values, the others zero. -/
def three (s : Fin 3 → EReal) (a : Fin 8) : EReal := if h : a.val < 3 then s ⟨a.val, h⟩ else 0

/-- Two rows of three values add value by value. -/
theorem three_add (s s' : Fin 3 → EReal) (a : Fin 8) : three (fun k => s k + s' k) a = three s a + three s' a := by
  unfold three
  split_ifs
  · rfl
  · rw [add_zero]
end Terms

/-- Whether a row of a block is a given row. -/
theorem cond_row {n t q : Nat} (hn : n = t) (ht : t < 33) (hq : q < 256) (a : Nat) (ha : a < 10000) :
    IntOp.cmpi .eq (IntOp.addi (BitVec.ofNat 32 q) (Scalar.muli (BitVec.ofNat 32 n) 256#32)) (BitVec.ofNat 32 a)
      = if 256 * t + q = a then 1#1 else 0#1 := by
  subst hn
  have e : IntOp.addi (BitVec.ofNat 32 q) (Scalar.muli (BitVec.ofNat 32 n) 256#32) = BitVec.ofNat 32 (256 * n + q) := by
    apply BitVec.eq_of_toNat_eq
    simp only [IntOp.addi, Scalar.muli, IntOp.muli, BitVec.toNat_add, BitVec.toNat_mul, BitVec.toNat_ofNat]
    omega
  rw [e]
  by_cases h : 256 * n + q = a
  · rw [if_pos h, h]
    simp [IntOp.cmpi]
  · rw [if_neg h]
    have h' : BitVec.ofNat 32 (256 * n + q) ≠ BitVec.ofNat 32 a := fun e => h (by
      have := congrArg BitVec.toNat e
      simp only [BitVec.toNat_ofNat] at this
      omega)
    exact congrArg BitVec.ofBool (beq_eq_false_iff_ne.mpr h')

/-- Whether a number below 256 is a given one. -/
theorem cond_val {q : Nat} (hq : q < 256) (a : Nat) (ha : a < 10000) :
    IntOp.cmpi .eq (BitVec.ofNat 32 q) (BitVec.ofNat 32 a) = if q = a then 1#1 else 0#1 := by
  by_cases h : q = a
  · rw [if_pos h, h]
    simp [IntOp.cmpi]
  · rw [if_neg h]
    have h' : BitVec.ofNat 32 q ≠ BitVec.ofNat 32 a := fun e => h (by
      have := congrArg BitVec.toNat e
      simp only [BitVec.toNat_ofNat] at this
      omega)
    exact congrArg BitVec.ofBool (beq_eq_false_iff_ne.mpr h')

/-- A choice by a decided condition. -/
theorem sel {P : Prop} [Decidable P] (x y : EReal) : Scalar.select (if P then 1#1 else 0#1) x y = if P then x else y := by
  by_cases h : P
  · rw [if_pos h, if_pos h]; rfl
  · rw [if_neg h, if_neg h]; rfl
/-- A choice by either of two decided conditions. -/
theorem sel_or {P Q : Prop} [Decidable P] [Decidable Q] (x y : EReal) :
    Scalar.select (IntOp.ori (if P then 1#1 else 0#1) (if Q then 1#1 else 0#1)) x y = if P ∨ Q then x else y := by
  by_cases h : P <;> by_cases h' : Q <;> simp only [h, h', if_true, if_false, or_true, true_or, or_self] <;> rfl

/-- A block's rows moved on by one, its first row from the block before. -/
theorem sel_up {n : Nat} {t : Fin 33} (hn : n = t.val) (q : Fin 256) (l : Fin 1024) (p : Fin 8448 → Fin 1024 → EReal) (g : EReal → EReal) (hg : g 0 = 0)
    {a : EReal} {b : Fin 256 → EReal} (hb : ∀ q, b q = p (row t q) l) (ha : t.val ≠ 0 → a = p ⟨256 * t.val - 1, by omega⟩ l) :
    Scalar.select
      (IntOp.ori (IntOp.cmpi .eq (IntOp.addi (BitVec.ofNat 32 q.val) (Scalar.muli (BitVec.ofNat 32 n) 256#32)) 0#32)
        (IntOp.cmpi .eq (IntOp.addi (BitVec.ofNat 32 q.val) (Scalar.muli (BitVec.ofNat 32 n) 256#32)) 8192#32)) 0
      (g (Scalar.select (IntOp.cmpi .eq (BitVec.ofNat 32 q.val) 0#32) a (b ⟨(q.val + 256 - 1) % 256, by omega⟩)))
      = g (up p (row t q) l) := by
  rw [cond_row hn t.isLt q.isLt 0 (by omega), cond_row hn t.isLt q.isLt 8192 (by omega), cond_val q.isLt 0 (by omega), sel, sel_or, up]
  change (if (row t q).val = 0 ∨ (row t q).val = 8192 then (0 : EReal) else _) = _
  by_cases h : (row t q).val = 0 ∨ (row t q).val = 8192
  · rw [if_pos h, if_pos h, hg]
  · rw [if_neg h, if_neg h]
    refine congrArg g ?_
    by_cases hq : q.val = 0
    · rw [if_pos hq, ha (by simp only [row] at h; omega)]
      exact congrArg (p · l) (Fin.ext (by simp only [row]; omega))
    · rw [if_neg hq, hb]
      exact congrArg (p · l) (Fin.ext (by simp only [row]; omega))

/-- A block's rows moved back by one, its last row from the block after. -/
theorem sel_dn {n : Nat} {t : Fin 33} (hn : n = t.val) (q : Fin 256) (l : Fin 1024) (p : Fin 8448 → Fin 1024 → EReal) (g : EReal → EReal) (hg : g 0 = 0)
    {a : EReal} {b : Fin 256 → EReal} (hb : ∀ q, b q = p (row t q) l) (ha : ∀ h : t.val < 32, a = p ⟨256 * t.val + 256, by omega⟩ l) :
    Scalar.select
      (IntOp.ori (IntOp.cmpi .eq (IntOp.addi (BitVec.ofNat 32 q.val) (Scalar.muli (BitVec.ofNat 32 n) 256#32)) 8191#32)
        (IntOp.cmpi .eq (IntOp.addi (BitVec.ofNat 32 q.val) (Scalar.muli (BitVec.ofNat 32 n) 256#32)) 8447#32)) 0
      (g (Scalar.select (IntOp.cmpi .eq (BitVec.ofNat 32 q.val) 255#32) a (b ⟨(q.val + 256 - 255) % 256, by omega⟩)))
      = g (dn p (row t q) l) := by
  rw [cond_row hn t.isLt q.isLt 8191 (by omega), cond_row hn t.isLt q.isLt 8447 (by omega), cond_val q.isLt 255 (by omega), sel, sel_or, dn]
  change (if (row t q).val = 8191 ∨ (row t q).val = 8447 then (0 : EReal) else _) = _
  by_cases h : (row t q).val = 8191 ∨ (row t q).val = 8447
  · rw [if_pos h, dif_pos h, hg]
  · rw [if_neg h, dif_neg h]
    refine congrArg g ?_
    by_cases hq : q.val = 255
    · rw [if_pos hq, ha (by simp only [row] at h; omega)]
      exact congrArg (p · l) (Fin.ext (by simp only [row]; omega))
    · rw [if_neg hq, hb]
      exact congrArg (p · l) (Fin.ext (by simp only [row]; omega))

section Payloads
variable {i : grid0.Coords} {t : Fin 33} {p : Fin 8448 → Fin 1024 → EReal}

/-- The products moved on by one. -/
theorem up_at (hi : (i 0).val = t.val) {v1 v2 : Vec Ideal S256x1024 .f32} {v4 v5 : Vec Ideal S8x1024 .f32}
    (hc : ∀ q l, v1 (ix2 q l) * v2 (ix2 q l) = p (row t q) l)
    (hp : ∀ l, t.val ≠ 0 → v4 (ix2 7 l) * v5 (ix2 7 l) = p ⟨256 * t.val - 1, by omega⟩ l) (q : Fin 256) (l : Fin 1024) :
    k0_pay4 (F := Ideal) i v1 v2 v4 v5 (ix2 q l) = up p (row t q) l := by
  pointwise [k0_pay4, k0_pay2, k0_pay3]
  exact sel_up hi q l p (fun x => x) rfl (b := fun q => v1 (ix2 q l) * v2 (ix2 q l)) (fun q => hc q l) (hp l)
/-- The products moved back by one. -/
theorem dn_at (hi : (i 0).val = t.val) {v1 v2 : Vec Ideal S256x1024 .f32} {v4 v5 : Vec Ideal S8x1024 .f32}
    (hc : ∀ q l, v1 (ix2 q l) * v2 (ix2 q l) = p (row t q) l)
    (hp : ∀ l, ∀ h : t.val < 32, v4 (ix2 0 l) * v5 (ix2 0 l) = p ⟨256 * t.val + 256, by omega⟩ l) (q : Fin 256) (l : Fin 1024) :
    k0_pay8 (F := Ideal) (k0_pay3 i) (k0_pay5 v1 v2) (k0_pay6 v4 v5) k0_pay7 (ix2 q l) = dn p (row t q) l := by
  pointwise [k0_pay8, k0_pay2, k0_pay3, k0_pay5, k0_pay6, k0_pay7]
  exact sel_dn hi q l p (fun x => x) rfl (b := fun q => v1 (ix2 q l) * v2 (ix2 q l)) (fun q => hc q l) (hp l)
/-- The gradient at the convolution's operand. -/
theorem dp_at (hi : (i 0).val = t.val) {v51 v53 v55 : FVec Ideal S1x1024 .f32} {v68 : FVec Ideal S256x1024 .f32} {v71 v74 : FVec Ideal S8x1024 .f32}
    {w : Fin 3 → Fin 1024 → EReal} (h0 : ∀ l, v51 (ix2 0 l) = w 0 l) (h1 : ∀ l, v53 (ix2 0 l) = w 1 l) (h2 : ∀ l, v55 (ix2 0 l) = w 2 l)
    (hc : ∀ q l, v68 (ix2 q l) = p (row t q) l) (hp : ∀ l, t.val ≠ 0 → v71 (ix2 7 l) = p ⟨256 * t.val - 1, by omega⟩ l)
    (hn : ∀ l, ∀ h : t.val < 32, v74 (ix2 0 l) = p ⟨256 * t.val + 256, by omega⟩ l) (q : Fin 256) (l : Fin 1024) :
    k0_pay16 (F := Ideal) (BitVec.ofNat 32 (i 0).val) v51 v53 v55 v68 v71 v74 (ix2 q l)
      = w 0 l * dn p (row t q) l + w 1 l * p (row t q) l + w 2 l * up p (row t q) l := by
  pointwise [k0_pay16]
  rw [h0, h1, h2]
  refine congrArg₂ (· + ·) (congrArg₂ (· + ·) ?_ (congrArg _ (hc q l))) ?_
  · exact sel_dn hi q l p (fun x => w 0 l * x) (mul_zero _) (b := fun q => v68 (ix2 q l)) (fun q => hc q l) (hn l)
  · exact sel_up hi q l p (fun x => w 2 l * x) (mul_zero _) (b := fun q => v68 (ix2 q l)) (fun q => hc q l) (hp l)
/-- The taps' gradients over a block, in the first three of eight rows. -/
theorem dw_at {v3 v31 v49 v68 : FVec Ideal S256x1024 .f32} {s : Fin 3 → Fin 1024 → EReal}
    (h0 : ∀ l, ∑ q, v68 (ix2 q l) * v31 (ix2 q l) = s 0 l) (h1 : ∀ l, ∑ q, v68 (ix2 q l) * v3 (ix2 q l) = s 1 l)
    (h2 : ∀ l, ∑ q, v68 (ix2 q l) * v49 (ix2 q l) = s 2 l) (a : Fin 8) (l : Fin 1024) :
    k0_pay20 (F := Ideal) v3 v31 v49 v68 (ix2 a l) = three (fun k => s k l) a := by
  pointwise [k0_pay20]
  rw [h0, h1, h2, cond_val (show a.val < 256 by omega) 0 (by omega), cond_val (show a.val < 256 by omega) 1 (by omega),
    cond_val (show a.val < 256 by omega) 2 (by omega), sel, sel, sel]
  match a with
  | 0 | 1 | 2 | 3 | 4 | 5 | 6 | 7 => simp [three]
end Payloads

end Cert.SconvIdeal.Lift

end
-- ==== Proof.SconvRefLift.lean ====
/- What the short convolution's reference returns, in terms of rows moved by one within their sequences. -/
module

public import proofs.«01_k».proof.Defs
public import proofs.«01_k».proof.Proof.Gen.SconvRefIdeal.Read
public import proofs.«01_k».proof.Proof.SconvRows
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.SconvRefIdeal.Lift

open Cert.SconvRefIdeal Cert.SconvRefIdeal.Read
open Cert.SconvIdeal.Lift (lane up dn prod dcv conv dprod dz dwt three three_add)

variable (x0 : (⟨S8448x3072, .f32⟩ : BufTy).Contents (Elt Ideal)) (x1 : (⟨S8448x1024, .f32⟩ : BufTy).Contents (Elt Ideal))
variable (x2 : (⟨S3x1024, .f32⟩ : BufTy).Contents (Elt Ideal))

/-- The rows' entries. -/
abbrev zz (r : Fin 8448) (l : Fin 3072) : EReal := x0 (ix2 r l)
/-- The incoming gradient's entries. -/
abbrev yy (r : Fin 8448) (l : Fin 1024) : EReal := x1 (ix2 r l)
/-- The taps' entries. -/
abbrev ww (k : Fin 3) (l : Fin 1024) : EReal := x2 (ix2 k l)
/-- A row of the first sequence. -/
def lat (r : Fin 8192) : Fin 8448 := ⟨r.val, by omega⟩
/-- A row of the second sequence. -/
def ctx (r : Fin 256) : Fin 8448 := ⟨8192 + r.val, by omega⟩

/-- The row before, within the first sequence. -/
theorem up_lat (p : Fin 8448 → Fin 1024 → EReal) (r : Fin 8192) (l : Fin 1024) :
    up p (lat r) l = if h : r.val < 1 then 0 else p (lat ⟨r.val - 1, by omega⟩) l := by
  by_cases h : r.val < 1
  · rw [dif_pos h]; exact if_pos (Or.inl (show r.val = 0 by omega))
  · rw [dif_neg h]
    refine if_neg ?_
    change ¬ (r.val = 0 ∨ r.val = 8192)
    omega
/-- The row before, within the second sequence. -/
theorem up_ctx (p : Fin 8448 → Fin 1024 → EReal) (r : Fin 256) (l : Fin 1024) :
    up p (ctx r) l = if h : r.val < 1 then 0 else p (ctx ⟨r.val - 1, by omega⟩) l := by
  by_cases h : r.val < 1
  · rw [dif_pos h]; exact if_pos (Or.inr (show 8192 + r.val = 8192 by omega))
  · rw [dif_neg h]
    refine (if_neg ?_).trans (congrArg (fun x => p x l) (Fin.ext (show 8192 + r.val - 1 = 8192 + (r.val - 1) by omega)))
    change ¬ (8192 + r.val = 0 ∨ 8192 + r.val = 8192)
    omega
/-- The row after, within the first sequence. -/
theorem dn_lat (p : Fin 8448 → Fin 1024 → EReal) (r : Fin 8192) (l : Fin 1024) :
    dn p (lat r) l = if h : r.val < 8191 then p (lat ⟨1 + r.val, by omega⟩) l else 0 := by
  by_cases h : r.val < 8191
  · rw [dif_pos h]
    have h' : ¬ ((lat r).val = 8191 ∨ (lat r).val = 8447) := by
      change ¬ (r.val = 8191 ∨ r.val = 8447)
      omega
    exact (dif_neg h').trans (congrArg (fun x => p x l) (Fin.ext (show r.val + 1 = 1 + r.val by omega)))
  · rw [dif_neg h]; exact dif_pos (Or.inl (show r.val = 8191 by omega))
/-- The row after, within the second sequence. -/
theorem dn_ctx (p : Fin 8448 → Fin 1024 → EReal) (r : Fin 256) (l : Fin 1024) :
    dn p (ctx r) l = if h : r.val < 255 then p (ctx ⟨1 + r.val, by omega⟩) l else 0 := by
  by_cases h : r.val < 255
  · rw [dif_pos h]
    have h' : ¬ ((ctx r).val = 8191 ∨ (ctx r).val = 8447) := by
      change ¬ (8192 + r.val = 8191 ∨ 8192 + r.val = 8447)
      omega
    exact (dif_neg h').trans (congrArg (fun x => p x l) (Fin.ext (show 8192 + r.val + 1 = 8192 + (1 + r.val) by omega)))
  · rw [dif_neg h]; exact dif_pos (Or.inr (show 8192 + r.val = 8447 by omega))
/-- The rows of the two sequences. -/
theorem sum_split (f : Fin 8448 → EReal) : ∑ r, f r = (∑ r, f (ctx r)) + ∑ r, f (lat r) := by
  refine (Fin.sum_univ_add (a := 8192) (b := 256) f).trans ((add_comm _ _).trans ?_)
  rfl

/-- The products, first sequence. -/
theorem r4 (r : Fin 8192) (l : Fin 1024) : val_main_v4 (F := Ideal) x0 (ix2 r l) = prod (zz x0) (lat r) l := by
  pointwise [val_main_v4, val_main_v3, val_main_v2, val_main_v0]
  rfl
/-- The products, second sequence. -/
theorem r34 (r : Fin 256) (l : Fin 1024) : val_main_v34 (F := Ideal) x0 (ix2 r l) = prod (zz x0) (ctx r) l := by
  pointwise [val_main_v34, val_main_v33, val_main_v32, val_main_v30]
  rfl
/-- The products moved forward by one, first sequence. -/
theorem r7 (r : Fin 8192) (l : Fin 1024) : val_main_v7 (F := Ideal) x0 (ix2 r l) = up (prod (zz x0)) (lat r) l := by
  pointwise [val_main_v7, val_main_v6, val_main_v5, val_main_cst]
  simp only [r4]
  exact (up_lat _ r l).symm
/-- The products moved back by one, first sequence. -/
theorem r10 (r : Fin 8192) (l : Fin 1024) : val_main_v10 (F := Ideal) x0 (ix2 r l) = dn (prod (zz x0)) (lat r) l := by
  pointwise [val_main_v10, val_main_v9, val_main_v5, val_main_cst]
  simp only [r4]
  exact (dn_lat _ r l).symm
/-- The products moved forward by one, second sequence. -/
theorem r37 (r : Fin 256) (l : Fin 1024) : val_main_v37 (F := Ideal) x0 (ix2 r l) = up (prod (zz x0)) (ctx r) l := by
  pointwise [val_main_v37, val_main_v36, val_main_v35, val_main_cst_2]
  simp only [r34]
  exact (up_ctx _ r l).symm
/-- The products moved back by one, second sequence. -/
theorem r40 (r : Fin 256) (l : Fin 1024) : val_main_v40 (F := Ideal) x0 (ix2 r l) = dn (prod (zz x0)) (ctx r) l := by
  pointwise [val_main_v40, val_main_v39, val_main_v35, val_main_cst_2]
  simp only [r34]
  exact (dn_ctx _ r l).symm
/-- The gradient at the convolution, first sequence. -/
theorem r107 (r : Fin 8192) (l : Fin 1024) : val_main_v107 (F := Ideal) x0 x1 (ix2 r l) = dcv (zz x0) (yy x1) (lat r) l := by
  pointwise [val_main_v107, val_main_v61, val_main_v1, val_main_v0]
  exact mul_comm _ _
/-- The gradient at the convolution, second sequence. -/
theorem r63 (r : Fin 256) (l : Fin 1024) : val_main_v63 (F := Ideal) x0 x1 (ix2 r l) = dcv (zz x0) (yy x1) (ctx r) l := by
  pointwise [val_main_v63, val_main_v62, val_main_v31, val_main_v30]
  exact mul_comm _ _
/-- The convolution, first sequence. -/
theorem r28 (r : Fin 8192) (l : Fin 1024) : val_main_v28 (F := Ideal) x0 x2 (ix2 r l) = conv (zz x0) (ww x2) (lat r) l := by
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12]
  simp only [r4, r7, r10]
  rfl
/-- The convolution, second sequence. -/
theorem r58 (r : Fin 256) (l : Fin 1024) : val_main_v58 (F := Ideal) x0 x2 (ix2 r l) = conv (zz x0) (ww x2) (ctx r) l := by
  pointwise [val_main_v58, val_main_v57, val_main_v56, val_main_v55, val_main_v54, val_main_v53, val_main_v52, val_main_v51, val_main_v50, val_main_v49, val_main_v48, val_main_v47, val_main_v46, val_main_v45, val_main_v44, val_main_v43, val_main_v42]
  simp only [r34, r37, r40]
  rfl
/-- The gradient at the products, first sequence. -/
theorem r143 (r : Fin 8192) (l : Fin 1024) : val_main_v143 (F := Ideal) x0 x1 x2 (ix2 r l) = dprod (zz x0) (yy x1) (ww x2) (lat r) l := by
  pointwise [val_main_v143, val_main_v142, val_main_v141, val_main_v139, val_main_v138, val_main_v136, val_main_v128, val_main_v127, val_main_v119, val_main_v118, val_main_v110, val_main_v109, val_main_v25, val_main_v24, val_main_v23, val_main_v19, val_main_v18, val_main_v17, val_main_v14, val_main_v13, val_main_v12, val_main_cst_29, val_main_cst_30]
  simp only [r107]
  unfold dprod
  rw [up_lat, dn_lat]
  have e : ∀ a b c a' b' : EReal, a = a' → b = b' → c + a + b = b' + c + a' := by
    intro a b c a' b' ha hb
    rw [ha, hb, add_comm, ← add_assoc]
  refine e _ _ _ _ _ ?_ ?_
  · by_cases h : r.val < 1
    · rw [dif_pos h, dif_neg (fun h' => absurd h'.1 (by omega))]
      exact (mul_zero (_ : EReal)).symm
    · rw [dif_neg h, dif_pos (And.intro (by omega) (by omega))]
  · by_cases h : r.val < 8191
    · rw [dif_pos h, dif_pos h]
    · rw [dif_neg h, dif_neg h]
      exact (mul_zero (_ : EReal)).symm
/-- The gradient at the products, second sequence. -/
theorem r98 (r : Fin 256) (l : Fin 1024) : val_main_v98 (F := Ideal) x0 x1 x2 (ix2 r l) = dprod (zz x0) (yy x1) (ww x2) (ctx r) l := by
  pointwise [val_main_v98, val_main_v97, val_main_v96, val_main_v94, val_main_v93, val_main_v91, val_main_v83, val_main_v82, val_main_v74, val_main_v73, val_main_v66, val_main_v65, val_main_v55, val_main_v54, val_main_v53, val_main_v49, val_main_v48, val_main_v47, val_main_v44, val_main_v43, val_main_v42, val_main_cst_14, val_main_cst_15]
  simp only [r63]
  unfold dprod
  rw [up_ctx, dn_ctx]
  have e : ∀ a b c a' b' : EReal, a = a' → b = b' → c + a + b = b' + c + a' := by
    intro a b c a' b' ha hb
    rw [ha, hb, add_comm, ← add_assoc]
  refine e _ _ _ _ _ ?_ ?_
  · by_cases h : r.val < 1
    · rw [dif_pos h, dif_neg (fun h' => absurd h'.1 (by omega))]
      exact (mul_zero (_ : EReal)).symm
    · rw [dif_neg h, dif_pos (And.intro (by omega) (by omega))]
  · by_cases h : r.val < 255
    · rw [dif_pos h, dif_pos h]
    · rw [dif_neg h, dif_neg h]
      exact (mul_zero (_ : EReal)).symm
/-- The gradient at the first part, first sequence. -/
theorem r150_0 (r : Fin 8192) (l : Fin 1024) : val_main_v150 (F := Ideal) x0 x1 x2 (ix2 r (lane 0 l)) = dz (zz x0) (yy x1) (ww x2) 0 (lat r) l := by
  have hl : l.val < 1024 := l.isLt
  have hk : (lane 0 l).val = 0 + l.val := by
    simp [lane]
  have hz : ∀ h, (⟨(lane 0 l).val - 0, h⟩ : Fin 1024) = l := fun h => Fin.ext (by change (lane 0 l).val - 0 = l.val; omega)
  pointwise [val_main_v150, val_main_v149, val_main_v148, val_main_v147, val_main_v146, val_main_v145, val_main_v144, val_main_v108, val_main_v61, val_main_v2, val_main_v3, val_main_v0, val_main_cst_31, val_main_cst_32, val_main_cst_33]
  simp only [r143, r28]
  rw [dif_neg (fun h => absurd h.1 (by omega)), dif_neg (fun h => absurd h.1 (by omega)), dif_pos (show (lane 0 l).val < 1024 by omega)]
  have hz' : ∀ h, (⟨(lane 0 l).val, h⟩ : Fin 1024) = l := fun h => Fin.ext (by change (lane 0 l).val = l.val; omega)
  have key : ∀ l' : Fin 1024, l' = l → (0 : EReal) + 0 + yy x1 (lat r) l' * conv (zz x0) (ww x2) (lat r) l' = yy x1 (lat r) l * conv (zz x0) (ww x2) (lat r) l := by
    rintro _ rfl
    rw [zero_add, zero_add]
  exact key _ (hz' _)
/-- The gradient at the second part, first sequence. -/
theorem r150_1 (r : Fin 8192) (l : Fin 1024) : val_main_v150 (F := Ideal) x0 x1 x2 (ix2 r (lane 1 l)) = dz (zz x0) (yy x1) (ww x2) 1 (lat r) l := by
  have hl : l.val < 1024 := l.isLt
  have hk : (lane 1 l).val = 1024 + l.val := by
    simp [lane]
  have hz : ∀ h, (⟨(lane 1 l).val - 1024, h⟩ : Fin 1024) = l := fun h => Fin.ext (by change (lane 1 l).val - 1024 = l.val; omega)
  pointwise [val_main_v150, val_main_v149, val_main_v148, val_main_v147, val_main_v146, val_main_v145, val_main_v144, val_main_v108, val_main_v61, val_main_v2, val_main_v3, val_main_v0, val_main_cst_31, val_main_cst_32, val_main_cst_33]
  simp only [r143, r28]
  rw [dif_neg (fun h => absurd h.1 (by omega)), dif_pos (And.intro (by omega) (by omega)), dif_neg (show ¬ (lane 1 l).val < 1024 by omega)]
  have key : ∀ (l' : Fin 1024) (L : Fin 3072), l' = l → L = lane 2 l →
      (0 : EReal) + dprod (zz x0) (yy x1) (ww x2) (lat r) l' * zz x0 (lat r) L + 0 = dprod (zz x0) (yy x1) (ww x2) (lat r) l * zz x0 (lat r) (lane 2 l) := by
    rintro _ _ rfl rfl
    rw [zero_add, add_zero]
  refine key _ _ (hz _) (Fin.ext ?_)
  change 2048 + ((lane 1 l).val - 1024) = 2048 + l.val
  omega
/-- The gradient at the third part, first sequence. -/
theorem r150_2 (r : Fin 8192) (l : Fin 1024) : val_main_v150 (F := Ideal) x0 x1 x2 (ix2 r (lane 2 l)) = dz (zz x0) (yy x1) (ww x2) 2 (lat r) l := by
  have hl : l.val < 1024 := l.isLt
  have hk : (lane 2 l).val = 2048 + l.val := by
    simp [lane]
  have hz : ∀ h, (⟨(lane 2 l).val - 2048, h⟩ : Fin 1024) = l := fun h => Fin.ext (by change (lane 2 l).val - 2048 = l.val; omega)
  pointwise [val_main_v150, val_main_v149, val_main_v148, val_main_v147, val_main_v146, val_main_v145, val_main_v144, val_main_v108, val_main_v61, val_main_v2, val_main_v3, val_main_v0, val_main_cst_31, val_main_cst_32, val_main_cst_33]
  simp only [r143, r28]
  rw [dif_pos (And.intro (by omega) (by omega)), dif_neg (fun h => absurd h.2 (by omega)), dif_neg (show ¬ (lane 2 l).val < 1024 by omega)]
  have key : ∀ (l' : Fin 1024) (L : Fin 3072), l' = l → L = lane 1 l →
      zz x0 (lat r) L * dprod (zz x0) (yy x1) (ww x2) (lat r) l' + (0 : EReal) + 0 = dprod (zz x0) (yy x1) (ww x2) (lat r) l * zz x0 (lat r) (lane 1 l) := by
    rintro _ _ rfl rfl
    rw [add_zero, add_zero, mul_comm]
  refine key _ _ (hz _) (Fin.ext ?_)
  change 1024 + ((lane 2 l).val - 2048) = 1024 + l.val
  omega
/-- The gradient at the first part, second sequence. -/
theorem r105_0 (r : Fin 256) (l : Fin 1024) : val_main_v105 (F := Ideal) x0 x1 x2 (ix2 r (lane 0 l)) = dz (zz x0) (yy x1) (ww x2) 0 (ctx r) l := by
  have hl : l.val < 1024 := l.isLt
  have hk : (lane 0 l).val = 0 + l.val := by
    simp [lane]
  have hz : ∀ h, (⟨(lane 0 l).val - 0, h⟩ : Fin 1024) = l := fun h => Fin.ext (by change (lane 0 l).val - 0 = l.val; omega)
  pointwise [val_main_v105, val_main_v104, val_main_v103, val_main_v102, val_main_v101, val_main_v100, val_main_v99, val_main_v64, val_main_v62, val_main_v32, val_main_v33, val_main_v30, val_main_cst_16, val_main_cst_17, val_main_cst_18]
  simp only [r98, r58]
  rw [dif_neg (fun h => absurd h.1 (by omega)), dif_neg (fun h => absurd h.1 (by omega)), dif_pos (show (lane 0 l).val < 1024 by omega)]
  have hz' : ∀ h, (⟨(lane 0 l).val, h⟩ : Fin 1024) = l := fun h => Fin.ext (by change (lane 0 l).val = l.val; omega)
  have key : ∀ l' : Fin 1024, l' = l → (0 : EReal) + 0 + yy x1 (ctx r) l' * conv (zz x0) (ww x2) (ctx r) l' = yy x1 (ctx r) l * conv (zz x0) (ww x2) (ctx r) l := by
    rintro _ rfl
    rw [zero_add, zero_add]
  exact key _ (hz' _)
/-- The gradient at the second part, second sequence. -/
theorem r105_1 (r : Fin 256) (l : Fin 1024) : val_main_v105 (F := Ideal) x0 x1 x2 (ix2 r (lane 1 l)) = dz (zz x0) (yy x1) (ww x2) 1 (ctx r) l := by
  have hl : l.val < 1024 := l.isLt
  have hk : (lane 1 l).val = 1024 + l.val := by
    simp [lane]
  have hz : ∀ h, (⟨(lane 1 l).val - 1024, h⟩ : Fin 1024) = l := fun h => Fin.ext (by change (lane 1 l).val - 1024 = l.val; omega)
  pointwise [val_main_v105, val_main_v104, val_main_v103, val_main_v102, val_main_v101, val_main_v100, val_main_v99, val_main_v64, val_main_v62, val_main_v32, val_main_v33, val_main_v30, val_main_cst_16, val_main_cst_17, val_main_cst_18]
  simp only [r98, r58]
  rw [dif_neg (fun h => absurd h.1 (by omega)), dif_pos (And.intro (by omega) (by omega)), dif_neg (show ¬ (lane 1 l).val < 1024 by omega)]
  have key : ∀ (l' : Fin 1024) (L : Fin 3072), l' = l → L = lane 2 l →
      (0 : EReal) + dprod (zz x0) (yy x1) (ww x2) (ctx r) l' * zz x0 (ctx r) L + 0 = dprod (zz x0) (yy x1) (ww x2) (ctx r) l * zz x0 (ctx r) (lane 2 l) := by
    rintro _ _ rfl rfl
    rw [zero_add, add_zero]
  refine key _ _ (hz _) (Fin.ext ?_)
  change 2048 + ((lane 1 l).val - 1024) = 2048 + l.val
  omega
/-- The gradient at the third part, second sequence. -/
theorem r105_2 (r : Fin 256) (l : Fin 1024) : val_main_v105 (F := Ideal) x0 x1 x2 (ix2 r (lane 2 l)) = dz (zz x0) (yy x1) (ww x2) 2 (ctx r) l := by
  have hl : l.val < 1024 := l.isLt
  have hk : (lane 2 l).val = 2048 + l.val := by
    simp [lane]
  have hz : ∀ h, (⟨(lane 2 l).val - 2048, h⟩ : Fin 1024) = l := fun h => Fin.ext (by change (lane 2 l).val - 2048 = l.val; omega)
  pointwise [val_main_v105, val_main_v104, val_main_v103, val_main_v102, val_main_v101, val_main_v100, val_main_v99, val_main_v64, val_main_v62, val_main_v32, val_main_v33, val_main_v30, val_main_cst_16, val_main_cst_17, val_main_cst_18]
  simp only [r98, r58]
  rw [dif_pos (And.intro (by omega) (by omega)), dif_neg (fun h => absurd h.2 (by omega)), dif_neg (show ¬ (lane 2 l).val < 1024 by omega)]
  have key : ∀ (l' : Fin 1024) (L : Fin 3072), l' = l → L = lane 1 l →
      zz x0 (ctx r) L * dprod (zz x0) (yy x1) (ww x2) (ctx r) l' + (0 : EReal) + 0 = dprod (zz x0) (yy x1) (ww x2) (ctx r) l * zz x0 (ctx r) (lane 1 l) := by
    rintro _ _ rfl rfl
    rw [add_zero, add_zero, mul_comm]
  refine key _ _ (hz _) (Fin.ext ?_)
  change 1024 + ((lane 2 l).val - 2048) = 1024 + l.val
  omega
set_option maxRecDepth 100000 in
/-- The second sequence's gradient among all rows. -/
theorem r106 (r : Fin 8448) (l : Fin 3072) : val_main_v106 (F := Ideal) x0 x1 x2 (ix2 r l) = if h : 8192 ≤ r.val then val_main_v105 (F := Ideal) x0 x1 x2 (ix2 ⟨r.val - 8192, by omega⟩ l) else 0 := by
  pointwise [val_main_v106, val_main_cst_19]
  by_cases h : 8192 ≤ r.val
  · rw [dif_pos h, dif_pos (And.intro h (by omega))]
  · rw [dif_neg h, dif_neg (fun h' => absurd h'.1 h)]
set_option maxRecDepth 100000 in
/-- The first sequence's gradient among all rows. -/
theorem r151 (r : Fin 8448) (l : Fin 3072) : val_main_v151 (F := Ideal) x0 x1 x2 (ix2 r l) = if h : r.val < 8192 then val_main_v150 (F := Ideal) x0 x1 x2 (ix2 ⟨r.val, h⟩ l) else 0 := by
  pointwise [val_main_v151, val_main_cst_34]
/-- A row's gradient, first sequence. -/
theorem r153_lat (r : Fin 8192) (l : Fin 3072) : val_main_v153 (F := Ideal) x0 x1 x2 (ix2 (lat r) l) = val_main_v150 (F := Ideal) x0 x1 x2 (ix2 r l) := by
  change (val_main_v106 (F := Ideal) x0 x1 x2 (ix2 (lat r) l) + val_main_v151 (F := Ideal) x0 x1 x2 (ix2 (lat r) l) : EReal) = _
  rw [r106, r151, dif_neg (show ¬ 8192 ≤ (lat r).val from by change ¬ 8192 ≤ r.val; omega), dif_pos (show (lat r).val < 8192 from r.isLt)]
  exact zero_add (_ : EReal)
/-- A row's gradient, second sequence. -/
theorem r153_ctx (r : Fin 256) (l : Fin 3072) : val_main_v153 (F := Ideal) x0 x1 x2 (ix2 (ctx r) l) = val_main_v105 (F := Ideal) x0 x1 x2 (ix2 r l) := by
  change (val_main_v106 (F := Ideal) x0 x1 x2 (ix2 (ctx r) l) + val_main_v151 (F := Ideal) x0 x1 x2 (ix2 (ctx r) l) : EReal) = _
  rw [r106, r151, dif_pos (show 8192 ≤ (ctx r).val from by change 8192 ≤ 8192 + r.val; omega), dif_neg (show ¬ (ctx r).val < 8192 from by change ¬ 8192 + r.val < 8192; omega)]
  have e : ∀ h, (⟨(ctx r).val - 8192, h⟩ : Fin 256) = r := fun h => Fin.ext (by change 8192 + r.val - 8192 = r.val; omega)
  rw [e]
  exact add_zero (_ : EReal)
/-- The first tap's gradient. -/
theorem r135_0 (l : Fin 1024) : val_main_v135 (F := Ideal) x0 x1 (ix2 0 l) = ∑ r, dwt (zz x0) (yy x1) 0 r l := by
  pointwise [val_main_v135, val_main_v134, val_main_v133, val_main_v132, val_main_v131, val_main_v130, val_main_v129, val_main_v126, val_main_v125, val_main_v124, val_main_v123, val_main_v122, val_main_v121, val_main_v120, val_main_v117, val_main_v116, val_main_v115, val_main_v114, val_main_v113, val_main_v112, val_main_v111, val_main_v90, val_main_v89, val_main_v88, val_main_v87, val_main_v86, val_main_v85, val_main_v84, val_main_v81, val_main_v80, val_main_v79, val_main_v78, val_main_v77, val_main_v76, val_main_v75, val_main_v72, val_main_v71, val_main_v70, val_main_v69, val_main_v68, val_main_v67, val_main_cst_5, val_main_cst_6, val_main_cst_7, val_main_cst_8, val_main_cst_9, val_main_cst_10, val_main_cst_11, val_main_cst_12, val_main_cst_13, val_main_cst_20, val_main_cst_21, val_main_cst_22, val_main_cst_23, val_main_cst_24, val_main_cst_25, val_main_cst_26, val_main_cst_27, val_main_cst_28]
  simp only [r107, r63, r7, r4, r37, r34, r10, r40, Finset.univ_unique, Finset.sum_singleton]
  rw [sum_split]
  rfl
/-- The second tap's gradient. -/
theorem r135_1 (l : Fin 1024) : val_main_v135 (F := Ideal) x0 x1 (ix2 1 l) = ∑ r, dwt (zz x0) (yy x1) 1 r l := by
  pointwise [val_main_v135, val_main_v134, val_main_v133, val_main_v132, val_main_v131, val_main_v130, val_main_v129, val_main_v126, val_main_v125, val_main_v124, val_main_v123, val_main_v122, val_main_v121, val_main_v120, val_main_v117, val_main_v116, val_main_v115, val_main_v114, val_main_v113, val_main_v112, val_main_v111, val_main_v90, val_main_v89, val_main_v88, val_main_v87, val_main_v86, val_main_v85, val_main_v84, val_main_v81, val_main_v80, val_main_v79, val_main_v78, val_main_v77, val_main_v76, val_main_v75, val_main_v72, val_main_v71, val_main_v70, val_main_v69, val_main_v68, val_main_v67, val_main_cst_5, val_main_cst_6, val_main_cst_7, val_main_cst_8, val_main_cst_9, val_main_cst_10, val_main_cst_11, val_main_cst_12, val_main_cst_13, val_main_cst_20, val_main_cst_21, val_main_cst_22, val_main_cst_23, val_main_cst_24, val_main_cst_25, val_main_cst_26, val_main_cst_27, val_main_cst_28]
  simp only [r107, r63, r7, r4, r37, r34, r10, r40, Finset.univ_unique, Finset.sum_singleton]
  rw [sum_split]
  rfl
/-- The third tap's gradient. -/
theorem r135_2 (l : Fin 1024) : val_main_v135 (F := Ideal) x0 x1 (ix2 2 l) = ∑ r, dwt (zz x0) (yy x1) 2 r l := by
  pointwise [val_main_v135, val_main_v134, val_main_v133, val_main_v132, val_main_v131, val_main_v130, val_main_v129, val_main_v126, val_main_v125, val_main_v124, val_main_v123, val_main_v122, val_main_v121, val_main_v120, val_main_v117, val_main_v116, val_main_v115, val_main_v114, val_main_v113, val_main_v112, val_main_v111, val_main_v90, val_main_v89, val_main_v88, val_main_v87, val_main_v86, val_main_v85, val_main_v84, val_main_v81, val_main_v80, val_main_v79, val_main_v78, val_main_v77, val_main_v76, val_main_v75, val_main_v72, val_main_v71, val_main_v70, val_main_v69, val_main_v68, val_main_v67, val_main_cst_5, val_main_cst_6, val_main_cst_7, val_main_cst_8, val_main_cst_9, val_main_cst_10, val_main_cst_11, val_main_cst_12, val_main_cst_13, val_main_cst_20, val_main_cst_21, val_main_cst_22, val_main_cst_23, val_main_cst_24, val_main_cst_25, val_main_cst_26, val_main_cst_27, val_main_cst_28]
  simp only [r107, r63, r7, r4, r37, r34, r10, r40, Finset.univ_unique, Finset.sum_singleton]
  rw [sum_split]
  rfl
/-- The taps' gradient in the first three of eight rows. -/
theorem r154 (a : Fin 8) (l : Fin 1024) : val_main_v154 (F := Ideal) x0 x1 (ix2 a l) = three (fun k => ∑ r, dwt (zz x0) (yy x1) k r l) a := by
  pointwise [val_main_v154, val_main_call0_v0, val_main_c]
  unfold three
  by_cases h : a.val < 3
  · rw [dif_pos h, dif_pos h]
    have key : ∀ k : Fin 3, val_main_v135 (F := Ideal) x0 x1 (ix2 k l) = ∑ r, dwt (zz x0) (yy x1) k r l := fun k => by
      match k with
      | 0 => exact r135_0 x0 x1 l
      | 1 => exact r135_1 x0 x1 l
      | 2 => exact r135_2 x0 x1 l
    exact key _
  · rw [dif_neg h, dif_neg h]
    simp [FloatOps.sitofp]
/-- A row's gradient at a part's lane. -/
theorem r153 (r : Fin 8448) (k : Fin 3) (l : Fin 1024) :
    val_main_v153 (F := Ideal) x0 x1 x2 (ix2 r (lane k l)) = dz (zz x0) (yy x1) (ww x2) k r l := by
  by_cases h : r.val < 8192
  · have e : r = lat ⟨r.val, h⟩ := rfl
    rw [e, r153_lat]
    match k with
    | 0 => exact r150_0 x0 x1 x2 _ l
    | 1 => exact r150_1 x0 x1 x2 _ l
    | 2 => exact r150_2 x0 x1 x2 _ l
  · have e : r = ctx ⟨r.val - 8192, by omega⟩ := Fin.ext (show r.val = 8192 + (r.val - 8192) by omega)
    rw [e, r153_ctx]
    match k with
    | 0 => exact r105_0 x0 x1 x2 _ l
    | 1 => exact r105_1 x0 x1 x2 _ l
    | 2 => exact r105_2 x0 x1 x2 _ l
end Cert.SconvRefIdeal.Lift

end
-- ==== Proof.SconvValue.lean ====
/- What the short convolution's gradient kernel leaves: the two gradients its reference returns. -/
module

public import proofs.«01_k».proof.Defs
public import proofs.«01_k».proof.Proof.Gen.SconvIdeal.Frame
public import proofs.«01_k».proof.Proof.Gen.SconvRefIdeal.Read
public import proofs.«01_k».proof.Proof.SconvRows
public import proofs.«01_k».proof.Proof.SconvRefLift
public import Idealize.ShloMosaic.Lib.Pipeline.ValueKit
public import Idealize.ShloMosaic.Lib.Pointwise
public import Idealize.ShloMosaic.Lib.KernelVsHost
public import Idealize.ShloMosaic.Lib.Claim

@[expose] public section

set_option maxRecDepth 16384

noncomputable section

open Idealize.ShloMosaic Idealize.ShloMosaic.TcCoe Idealize.SL.Sem

namespace Cert.SconvIdeal.Lift

open Cert.SconvIdeal Cert.SconvIdeal.Gen
open Cert.SconvRefIdeal.Read

variable {m : (ℓ : Loc nD τ sig) → Buf (Elt Ideal) ℓ} {c : Dev nD}

/-- Which block each window is on at a grid point. -/
theorem idx : ∀ t : Fin cfg0.N,
    win0_0.index t = ![t.val, 0] ∧ win0_1.index t = ![32 * t.val - 1, 0] ∧ win0_2.index t = ![min (32 * (t.val + 1)) 1055, 0]
      ∧ win0_3.index t = ![t.val, 0] ∧ win0_4.index t = ![32 * t.val - 1, 0] ∧ win0_5.index t = ![min (32 * (t.val + 1)) 1055, 0]
      ∧ win0_6.index t = ![0, 0] ∧ win0_7.index t = ![t.val, 0] ∧ win0_8.index t = ![0, 0] :=
  (by decide +kernel : ∀ t : Fin grid0.N, _)

/-- The grid's coordinate is the point. -/
theorem coord : ∀ t : Fin cfg0.N, (grid0.coords t 0).val = t.val :=
  (by decide +kernel : ∀ t : Fin grid0.N, _)

variable (m c) in
/-- The rows' entries. -/
def za (r : Fin 8448) (l : Fin 3072) : EReal := m ((c.tc : Thread nD τ).loc main_arg0) (ix2 r l)
variable (m c) in
/-- The incoming gradient's entries. -/
def ya (r : Fin 8448) (l : Fin 1024) : EReal := m ((c.tc : Thread nD τ).loc main_arg1) (ix2 r l)
variable (m c) in
/-- The taps' entries. -/
def wa (k : Fin 3) (l : Fin 1024) : EReal := m ((c.tc : Thread nD τ).loc main_arg2) (ix2 k l)

/-- A block of the rows. -/
theorem blk0 (t : Fin cfg0.N) (q : Fin 256) (l : Fin 3072) :
    iblk m c 0 t (ix2 q l) = za m c (row ⟨t.val, t.isLt⟩ q) l := by
  change _ = m ((c.tc : Thread nD τ).loc main_arg0) (ix2 _ l)
  blk_ext [iblk, V, idx t, row]
/-- The row before a block of rows. -/
theorem blk1 (t : Fin cfg0.N) (h : t.val ≠ 0) (l : Fin 3072) :
    iblk m c 1 t (ix2 7 l) = za m c ⟨256 * t.val - 1, by have hN : t.val < 33 := t.isLt; omega⟩ l := by
  change _ = m ((c.tc : Thread nD τ).loc main_arg0) (ix2 _ l)
  have hN : t.val < 33 := t.isLt
  blk_ext [iblk, V, idx t]
/-- The row after a block of rows. -/
theorem blk2 (t : Fin cfg0.N) (h : t.val < 32) (l : Fin 3072) :
    iblk m c 2 t (ix2 0 l) = za m c ⟨256 * t.val + 256, by omega⟩ l := by
  change _ = m ((c.tc : Thread nD τ).loc main_arg0) (ix2 _ l)
  blk_ext [iblk, V, idx t]
/-- A block of the incoming gradient. -/
theorem blk3 (t : Fin cfg0.N) (q : Fin 256) (l : Fin 1024) :
    iblk m c 3 t (ix2 q l) = ya m c (row ⟨t.val, t.isLt⟩ q) l := by
  change _ = m ((c.tc : Thread nD τ).loc main_arg1) (ix2 _ l)
  blk_ext [iblk, V, idx t, row]
/-- The incoming gradient's row before a block. -/
theorem blk4 (t : Fin cfg0.N) (h : t.val ≠ 0) (l : Fin 1024) :
    iblk m c 4 t (ix2 7 l) = ya m c ⟨256 * t.val - 1, by have hN : t.val < 33 := t.isLt; omega⟩ l := by
  change _ = m ((c.tc : Thread nD τ).loc main_arg1) (ix2 _ l)
  have hN : t.val < 33 := t.isLt
  blk_ext [iblk, V, idx t]
/-- The incoming gradient's row after a block. -/
theorem blk5 (t : Fin cfg0.N) (h : t.val < 32) (l : Fin 1024) :
    iblk m c 5 t (ix2 0 l) = ya m c ⟨256 * t.val + 256, by omega⟩ l := by
  change _ = m ((c.tc : Thread nD τ).loc main_arg1) (ix2 _ l)
  blk_ext [iblk, V, idx t]
/-- Three rows padded to eight, read in the first three. -/
theorem padded_at (x : FVec Ideal S3x1024 .f32) (k : Fin 3) (l : Fin 1024) :
    pad S8x1024 ![0, 0] ![5, 0] ![0, 0] x (sitofp (F := Ideal) .f32 (constantI S_ 32 0#32)) pads_S3x1024_S8x1024_050_000 h_S_
      (ix2 (⟨k.val, by omega⟩ : Fin 8) l) = x (ix2 k l) := by
  pointwise

/-- The padded taps. -/
theorem V0 : V m c main_v0 = pad S8x1024 ![0, 0] ![5, 0] ![0, 0] (m ((c.tc : Thread nD τ).loc main_arg2))
    (sitofp (F := Ideal) .f32 (constantI S_ 32 0#32)) pads_S3x1024_S8x1024_050_000 h_S_ := by
  simp only [V, hostOps0, hostOps0_1, List.flatten_cons, List.flatten_nil, List.append_nil, List.cons_append, List.nil_append]
  entry_read
  rfl

/-- The taps' rows, read from the padded operand. -/
theorem blk6 (t : Fin cfg0.N) (k : Fin 3) (l : Fin 1024) :
    iblk m c 6 t (ix2 ⟨k.val, by omega⟩ l) = wa m c k l := by
  change _ = m ((c.tc : Thread nD τ).loc main_arg2) (ix2 k l)
  have e : iblk m c 6 t (ix2 ⟨k.val, by omega⟩ l) = V m c main_v0 (ix2 (⟨k.val, by omega⟩ : Fin 8) l) := by
    blk_ext [iblk, idx t]
  rw [e, V0]
  exact padded_at _ k l

/-- The first tap. -/
theorem tap0 (t : Fin cfg0.N) (l : Fin 1024) :
    View.ld (iblk m c 6 t) (Rect.unit ![0, 0] ![1, 1024] inb_S8x1024_S1x1024_0_0) (ix2 0 l) = wa m c 0 l := by
  refine Eq.trans ?_ (blk6 t 0 l)
  pointwise
/-- The second tap. -/
theorem tap1 (t : Fin cfg0.N) (l : Fin 1024) :
    View.ld (iblk m c 6 t) (Rect.unit ![1, 0] ![1, 1024] inb_S8x1024_S1x1024_1_0) (ix2 0 l) = wa m c 1 l := by
  refine Eq.trans ?_ (blk6 t 1 l)
  pointwise
/-- The third tap. -/
theorem tap2 (t : Fin cfg0.N) (l : Fin 1024) :
    View.ld (iblk m c 6 t) (Rect.unit ![2, 0] ![1, 1024] inb_S8x1024_S1x1024_2_0) (ix2 0 l) = wa m c 2 l := by
  refine Eq.trans ?_ (blk6 t 2 l)
  pointwise

variable (m c) in
/-- A block's first part. -/
abbrev lB (t : Fin cfg0.N) := View.ld (iblk m c 0 t) (Rect.unit ![0, 0] ![256, 1024] inb_S256x3072_S256x1024_0_0)
variable (m c) in
/-- A block's second part. -/
abbrev lC (t : Fin cfg0.N) := View.ld (iblk m c 0 t) (Rect.unit ![0, 1024] ![256, 1024] inb_S256x3072_S256x1024_0_1024)
variable (m c) in
/-- A block's third part. -/
abbrev lH (t : Fin cfg0.N) := View.ld (iblk m c 0 t) (Rect.unit ![0, 2048] ![256, 1024] inb_S256x3072_S256x1024_0_2048)

/-- The first part, read. -/
theorem lB_at (t : Fin cfg0.N) (q : Fin 256) (l : Fin 1024) : lB m c t (ix2 q l) = za m c (row ⟨t.val, t.isLt⟩ q) (lane 0 l) := by
  refine Eq.trans ?_ (blk0 t q (lane 0 l))
  change View.ld (iblk m c 0 t) (Rect.unit ![0, 0] ![256, 1024] inb_S256x3072_S256x1024_0_0) (ix2 q l) = _
  pointwise
  rfl
/-- The second part, read. -/
theorem lC_at (t : Fin cfg0.N) (q : Fin 256) (l : Fin 1024) : lC m c t (ix2 q l) = za m c (row ⟨t.val, t.isLt⟩ q) (lane 1 l) := by
  refine Eq.trans ?_ (blk0 t q (lane 1 l))
  change View.ld (iblk m c 0 t) (Rect.unit ![0, 1024] ![256, 1024] inb_S256x3072_S256x1024_0_1024) (ix2 q l) = _
  pointwise
  rfl
/-- The third part, read. -/
theorem lH_at (t : Fin cfg0.N) (q : Fin 256) (l : Fin 1024) : lH m c t (ix2 q l) = za m c (row ⟨t.val, t.isLt⟩ q) (lane 2 l) := by
  refine Eq.trans ?_ (blk0 t q (lane 2 l))
  change View.ld (iblk m c 0 t) (Rect.unit ![0, 2048] ![256, 1024] inb_S256x3072_S256x1024_0_2048) (ix2 q l) = _
  pointwise
  rfl
/-- A block's products. -/
theorem prod_at (t : Fin cfg0.N) (q : Fin 256) (l : Fin 1024) :
    mulf (F := Ideal) (s := S256x1024) (φ := .f32) (lC m c t) (lH m c t) (ix2 q l) = prod (za m c) (row ⟨t.val, t.isLt⟩ q) l :=
  congrArg₂ (fun a b : EReal => a * b) (lC_at t q l) (lH_at t q l)
/-- A block's gradient at the convolution. -/
theorem dcv_at (t : Fin cfg0.N) (q : Fin 256) (l : Fin 1024) :
    k0_pay13 (F := Ideal) (lB m c t) (iblk m c 3 t) (ix2 q l) = dcv (za m c) (ya m c) (row ⟨t.val, t.isLt⟩ q) l := by
  refine Eq.trans ?_ (congrArg₂ (fun a b : EReal => a * b) (blk3 t q l) (lB_at t q l))
  unfold k0_pay13
  rfl
/-- A block's products moved forward by one. -/
theorem upt (t : Fin cfg0.N) (q : Fin 256) (l : Fin 1024) :
    k0_pay4 (F := Ideal) (grid0.coords t) (lC m c t) (lH m c t)
        (View.ld (iblk m c 1 t) (Rect.unit ![0, 1024] ![8, 1024] inb_S8x3072_S8x1024_0_1024))
        (View.ld (iblk m c 1 t) (Rect.unit ![0, 2048] ![8, 1024] inb_S8x3072_S8x1024_0_2048)) (ix2 q l)
      = up (prod (za m c)) (row ⟨t.val, t.isLt⟩ q) l := by
  refine up_at (coord t) (prod_at t) (fun l h => ?_) q l
  pointwise
  rw [blk1 t h, blk1 t h]
  rfl
/-- A block's products moved back by one. -/
theorem dnt (t : Fin cfg0.N) (q : Fin 256) (l : Fin 1024) :
    k0_pay8 (F := Ideal) (k0_pay3 (grid0.coords t)) (k0_pay5 (lC m c t) (lH m c t))
        (k0_pay6 (View.ld (iblk m c 2 t) (Rect.unit ![0, 1024] ![8, 1024] inb_S8x3072_S8x1024_0_1024))
        (View.ld (iblk m c 2 t) (Rect.unit ![0, 2048] ![8, 1024] inb_S8x3072_S8x1024_0_2048))) k0_pay7 (ix2 q l)
      = dn (prod (za m c)) (row ⟨t.val, t.isLt⟩ q) l := by
  refine dn_at (coord t) (prod_at t) (fun l h => ?_) q l
  pointwise
  rw [blk2 t h, blk2 t h]
  rfl

/-- The gradient at the second part from the one at the products. -/
theorem pay18_at (v : BitVec 32) (h : Vec Ideal S256x1024 .f32) (a b d : FVec Ideal S1x1024 .f32) (x : FVec Ideal S256x1024 .f32) (y z : FVec Ideal S8x1024 .f32)
    (q : Fin 256) (l : Fin 1024) :
    k0_pay18 (F := Ideal) (k0_pay17 v h a b d x y z) (ix2 q l) = k0_pay16 v a b d x y z (ix2 q l) * h (ix2 q l) := by
  unfold k0_pay18 k0_pay17
  rfl
/-- The gradient at the third part from the one at the products. -/
theorem pay19_at (h : Vec Ideal S256x1024 .f32) (x : FVec Ideal S256x1024 .f32)
    (q : Fin 256) (l : Fin 1024) :
    k0_pay19 (F := Ideal) h x (ix2 q l) = x (ix2 q l) * h (ix2 q l) := by
  unfold k0_pay19
  rfl
/-- What was there, and the update. -/
theorem pay1_at (x : FVec Ideal S8x1024 .f32) (p : Vec Ideal S8x1024 .f32) (a : Fin 8) (l : Fin 1024) :
    k0_pay1 (F := Ideal) x p (ix2 a l) = p (ix2 a l) + x (ix2 a l) := by
  pointwise [k0_pay1]
/-- The gradient at the first part. -/
theorem pay12_at {v3 v31 : FVec Ideal S256x1024 .f32} {v37 : _} {v41 : _} {v45 : _} {v46 : _} {w0 w1 w2 : Vec Ideal S1x1024 .f32} {y : Vec Ideal S256x1024 .f32}
    {r : Fin 256 → Fin 8448} {z : Fin 8448 → Fin 3072 → EReal} {ys : Fin 8448 → Fin 1024 → EReal} {w : Fin 3 → Fin 1024 → EReal}
    (h0 : ∀ l, w0 (ix2 0 l) = w 0 l) (h1 : ∀ l, w1 (ix2 0 l) = w 1 l) (h2 : ∀ l, w2 (ix2 0 l) = w 2 l)
    (hc : ∀ q l, v3 (ix2 q l) = prod z (r q) l) (hu : ∀ q l, v31 (ix2 q l) = up (prod z) (r q) l)
    (hd : ∀ q l, k0_pay8 (F := Ideal) v37 v41 v45 v46 (ix2 q l) = dn (prod z) (r q) l) (hy : ∀ q l, y (ix2 q l) = ys (r q) l)
    (q : Fin 256) (l : Fin 1024) :
    k0_pay12 (F := Ideal) v3 v37 v31 v41 v45 v46 w0 w1 w2 y (ix2 q l) = ys (r q) l * conv z w (r q) l := by
  have e : k0_pay12 (F := Ideal) v3 v37 v31 v41 v45 v46 w0 w1 w2 y (ix2 q l)
      = y (ix2 q l) * (w0 (ix2 0 l) * v31 (ix2 q l) + w1 (ix2 0 l) * v3 (ix2 q l) + w2 (ix2 0 l) * k0_pay8 (F := Ideal) v37 v41 v45 v46 (ix2 q l)) := by
    pointwise [k0_pay12, k0_pay9, k0_pay10, k0_pay11, k0_pay8]
  rw [e, h0, h1, h2, hc, hu, hd, hy]
  rfl

/-- A block's gradient at the products. -/
theorem dpt (t : Fin cfg0.N) (q : Fin 256) (l : Fin 1024) :
    k0_pay16 (F := Ideal) (BitVec.ofNat 32 (grid0.coords t 0).val)
        (k0_pay9 (View.ld (iblk m c 6 t) (Rect.unit ![0, 0] ![1, 1024] inb_S8x1024_S1x1024_0_0)))
        (k0_pay10 (View.ld (iblk m c 6 t) (Rect.unit ![1, 0] ![1, 1024] inb_S8x1024_S1x1024_1_0)))
        (k0_pay11 (View.ld (iblk m c 6 t) (Rect.unit ![2, 0] ![1, 1024] inb_S8x1024_S1x1024_2_0)))
        (k0_pay13 (lB m c t) (iblk m c 3 t))
        (k0_pay14 (iblk m c 4 t) (View.ld (iblk m c 1 t) (Rect.unit ![0, 0] ![8, 1024] inb_S8x3072_S8x1024_0_0)))
        (k0_pay15 (iblk m c 5 t) (View.ld (iblk m c 2 t) (Rect.unit ![0, 0] ![8, 1024] inb_S8x3072_S8x1024_0_0))) (ix2 q l)
      = dprod (za m c) (ya m c) (wa m c) (row ⟨t.val, t.isLt⟩ q) l := by
  refine dp_at (coord t) (w := wa m c) ?_ ?_ ?_ (dcv_at t) ?_ ?_ q l
  · intro l
    refine Eq.trans ?_ (blk6 t 0 l)
    pointwise [k0_pay9]
  · intro l
    refine Eq.trans ?_ (blk6 t 1 l)
    pointwise [k0_pay10]
  · intro l
    refine Eq.trans ?_ (blk6 t 2 l)
    pointwise [k0_pay11]
  · intro l h
    pointwise [k0_pay14]
    rw [blk1 t h, blk4 t h]
    rfl
  · intro l h
    pointwise [k0_pay15]
    rw [blk2 t h, blk5 t h]
    rfl

/-- A block's gradient at the first part. -/
theorem cvt (t : Fin cfg0.N) (q : Fin 256) (l : Fin 1024) :
    k0_pay12 (F := Ideal) (k0_pay2 (lC m c t) (lH m c t)) (k0_pay3 (grid0.coords t))
      (k0_pay4 (grid0.coords t) (lC m c t) (lH m c t)
        (View.ld (iblk m c 1 t) (Rect.unit ![0, 1024] ![8, 1024] inb_S8x3072_S8x1024_0_1024))
        (View.ld (iblk m c 1 t) (Rect.unit ![0, 2048] ![8, 1024] inb_S8x3072_S8x1024_0_2048)))
      (k0_pay5 (lC m c t) (lH m c t))
      (k0_pay6 (View.ld (iblk m c 2 t) (Rect.unit ![0, 1024] ![8, 1024] inb_S8x3072_S8x1024_0_1024))
        (View.ld (iblk m c 2 t) (Rect.unit ![0, 2048] ![8, 1024] inb_S8x3072_S8x1024_0_2048)))
      k0_pay7 (View.ld (iblk m c 6 t) (Rect.unit ![0, 0] ![1, 1024] inb_S8x1024_S1x1024_0_0))
      (View.ld (iblk m c 6 t) (Rect.unit ![1, 0] ![1, 1024] inb_S8x1024_S1x1024_1_0))
      (View.ld (iblk m c 6 t) (Rect.unit ![2, 0] ![1, 1024] inb_S8x1024_S1x1024_2_0)) (iblk m c 3 t) (ix2 q l)
      = ya m c (row ⟨t.val, t.isLt⟩ q) l * conv (za m c) (wa m c) (row ⟨t.val, t.isLt⟩ q) l := by
  exact pay12_at (r := fun q => row ⟨t.val, t.isLt⟩ q) (tap0 t) (tap1 t) (tap2 t) (prod_at t) (upt t) (dnt t) (blk3 t) q l

/-- What a point leaves of the gradient at the rows. -/
theorem out7 (t : Fin cfg0.N) (q : Fin 256) (k : Fin 3) (l : Fin 1024) :
    (outsAt0 m c t.val t.isLt).1 (ix2 q (lane k l)) = dz (za m c) (ya m c) (wa m c) k (row ⟨t.val, t.isLt⟩ q) l := by
  have hN : t.val < 33 := t.isLt
  generalize hy : lane k l = y
  by_cases h : t.val % 33 = 0
  · rw [outsAt0_A m c t h (by omega)]
    frame_out
    clear h
    canon_tiles x h using (View.cover_of_tiledBy _ ![256, 1024] (by sl_kernel_rfl) _)
    case piece0 =>
      idx_vars x
      obtain rfl : q = x0 := Fin.ext h0
      obtain ⟨rfl, rfl⟩ := lane_inj (hy.trans (Fin.ext h1 : y = lane 2 x1))
      refine (pay19_at _ _ q l).trans ?_
      exact congrArg₂ (fun a b : EReal => a * b) (dpt t q l) (lC_at t q l)
    case piece1 =>
      idx_vars x
      obtain rfl : q = x0 := Fin.ext h0
      obtain ⟨rfl, rfl⟩ := lane_inj (hy.trans (Fin.ext h1 : y = lane 1 x1))
      refine (pay18_at _ _ _ _ _ _ _ _ q l).trans ?_
      exact congrArg₂ (fun a b : EReal => a * b) (dpt t q l) (lH_at t q l)
    case piece2 =>
      idx_vars x
      obtain rfl : q = x0 := Fin.ext h0
      obtain ⟨rfl, rfl⟩ := lane_inj (hy.trans (Fin.ext h1 : y = lane 0 x1))
      exact cvt t q l
  · rw [outsAt0_B m c t h (by omega)]
    frame_out
    clear h
    canon_tiles x h using (View.cover_of_tiledBy _ ![256, 1024] (by sl_kernel_rfl) _)
    case piece0 =>
      idx_vars x
      obtain rfl : q = x0 := Fin.ext h0
      obtain ⟨rfl, rfl⟩ := lane_inj (hy.trans (Fin.ext h1 : y = lane 2 x1))
      refine (pay19_at _ _ q l).trans ?_
      exact congrArg₂ (fun a b : EReal => a * b) (dpt t q l) (lC_at t q l)
    case piece1 =>
      idx_vars x
      obtain rfl : q = x0 := Fin.ext h0
      obtain ⟨rfl, rfl⟩ := lane_inj (hy.trans (Fin.ext h1 : y = lane 1 x1))
      refine (pay18_at _ _ _ _ _ _ _ _ q l).trans ?_
      exact congrArg₂ (fun a b : EReal => a * b) (dpt t q l) (lH_at t q l)
    case piece2 =>
      idx_vars x
      obtain rfl : q = x0 := Fin.ext h0
      obtain ⟨rfl, rfl⟩ := lane_inj (hy.trans (Fin.ext h1 : y = lane 0 x1))
      exact cvt t q l

/-- A block's part of the taps' gradient. -/
theorem sum_at (t : Fin cfg0.N) (a : Fin 8) (l : Fin 1024) :
    k0_pay20 (F := Ideal) (k0_pay2 (lC m c t) (lH m c t))
      (k0_pay4 (grid0.coords t) (lC m c t) (lH m c t)
        (View.ld (iblk m c 1 t) (Rect.unit ![0, 1024] ![8, 1024] inb_S8x3072_S8x1024_0_1024))
        (View.ld (iblk m c 1 t) (Rect.unit ![0, 2048] ![8, 1024] inb_S8x3072_S8x1024_0_2048)))
      (k0_pay8 (k0_pay3 (grid0.coords t)) (k0_pay5 (lC m c t) (lH m c t))
        (k0_pay6 (View.ld (iblk m c 2 t) (Rect.unit ![0, 1024] ![8, 1024] inb_S8x3072_S8x1024_0_1024))
        (View.ld (iblk m c 2 t) (Rect.unit ![0, 2048] ![8, 1024] inb_S8x3072_S8x1024_0_2048))) k0_pay7)
      (k0_pay13 (lB m c t) (iblk m c 3 t)) (ix2 a l)
      = three (fun k => ∑ q, dwt (za m c) (ya m c) k (row ⟨t.val, t.isLt⟩ q) l) a := by
  refine dw_at (s := fun k l => ∑ q, dwt (za m c) (ya m c) k (row ⟨t.val, t.isLt⟩ q) l) ?_ ?_ ?_ a l
  · intro l
    exact Finset.sum_congr rfl fun q _ => congrArg₂ (fun a b : EReal => a * b) (dcv_at t q l) (upt t q l)
  · intro l
    exact Finset.sum_congr rfl fun q _ => congrArg₂ (fun a b : EReal => a * b) (dcv_at t q l) (prod_at t q l)
  · intro l
    exact Finset.sum_congr rfl fun q _ => congrArg₂ (fun a b : EReal => a * b) (dcv_at t q l) (dnt t q l)

/-- What the first point leaves of the taps' gradient. -/
theorem out8_A (t : Fin cfg0.N) (h : t.val % 33 = 0) (a : Fin 8) (l : Fin 1024) :
    (outsAt0 m c t.val t.isLt).2 (ix2 a l) = three (fun k => ∑ q, dwt (za m c) (ya m c) k (row ⟨t.val, t.isLt⟩ q) l) a := by
  have hN : t.val < 33 := t.isLt
  rw [outsAt0_A m c t h (by omega)]
  frame_out
  exact sum_at t a l
/-- What a later point leaves of the taps' gradient. -/
theorem out8_B (t : Fin cfg0.N) (h : ¬t.val % 33 = 0) (a : Fin 8) (l : Fin 1024) :
    (outsAt0 m c t.val t.isLt).2 (ix2 a l)
      = (outsAt0 m c (t.val - 1) (Nat.lt_of_le_of_lt (Nat.sub_le _ _) t.isLt)).2 (ix2 a l)
        + three (fun k => ∑ q, dwt (za m c) (ya m c) k (row ⟨t.val, t.isLt⟩ q) l) a := by
  have hN : t.val < 33 := t.isLt
  rw [outsAt0_B m c t h (by omega)]
  frame_out
  refine (pay1_at _ _ a l).trans ?_
  exact congrArg₂ (fun a b : EReal => a + b) rfl (sum_at t a l)

/-- The gradient at the rows. -/
theorem final7 : (dats m 0 c).arrAt 7 cfg0.N = val_main_v153 (F := Ideal) (m ((c.tc : Thread nD τ).loc main_arg0)) (m ((c.tc : Thread nD τ).loc main_arg1)) (m ((c.tc : Thread nD τ).loc main_arg2)) := by
  refine (dats m 0 c).arrAt_eq_of_covers 7 _ (by decide +kernel) fun t hf y => ?_
  blk_simp
  rw [after0_7]
  have hN : t.val < 33 := t.isLt
  idx_vars y
  obtain ⟨k, l, rfl⟩ := lane_surj y1
  refine ((out7 t y0 k l).trans (Cert.SconvRefIdeal.Lift.r153 (m ((c.tc : Thread nD τ).loc main_arg0)) (m ((c.tc : Thread nD τ).loc main_arg1)) (m ((c.tc : Thread nD τ).loc main_arg2)) _ k l).symm).trans ?_
  blk_ext [idx t, row]

/-- The rows in their blocks. -/
theorem sum_rows (f : Fin 8448 → EReal) : ∑ r, f r = ∑ t : Fin 33, ∑ q : Fin 256, f (row t q) := by
  rw [← Fintype.sum_prod_type' (fun (t : Fin 33) (q : Fin 256) => f (row t q)), ← (finProdFinEquiv (m := 33) (n := 256)).sum_comp]
  refine Finset.sum_congr rfl fun x _ => congrArg f (Fin.ext ?_)
  simp only [finProdFinEquiv, Equiv.coe_fn_mk, row]
  omega

/-- Sums of rows of three values. -/
theorem three_sum {n : Nat} (f : Fin n → Fin 3 → EReal) (a : Fin 8) : ∑ i, three (f i) a = three (fun k => ∑ i, f i k) a := by
  unfold three
  by_cases h : a.val < 3
  · simp only [dif_pos h]
  · simp only [dif_neg h, Finset.sum_const_zero]

/-- The gradient at the taps. -/
theorem final8 : (dats m 0 c).arrAt 8 cfg0.N = val_main_v154 (F := Ideal) (m ((c.tc : Thread nD τ).loc main_arg0)) (m ((c.tc : Thread nD τ).loc main_arg1)) := by
  refine (dats m 0 c).arrAt_eq_of_covers 8 _ (by decide +kernel) fun t hf y => ?_
  blk_simp
  rw [after0_8]
  idx_vars y
  rw [Pipeline.eq_sum_fin_of_reset_step_of_flush (fun n h => ((outsAt0 m c n h).2 (ix2 y0 y1) : EReal)) 33 (0 : EReal)
    (fun t => three (fun k => ∑ q, dwt (za m c) (ya m c) k (row ⟨t.val, t.isLt⟩ q) y1) y0)
    (fun t h => by rw [zero_add]; exact out8_A t h _ _)
    (fun t h => out8_B t h _ _)
    t ((flush0_8 t).mp hf), zero_add]
  have hN : t.val < 33 := t.isLt
  refine Eq.trans ?_ ((Cert.SconvRefIdeal.Lift.r154 (m ((c.tc : Thread nD τ).loc main_arg0)) (m ((c.tc : Thread nD τ).loc main_arg1)) y0 y1).symm.trans ?_)
  · change (∑ i : Fin 33, _ : EReal) = _
    refine (three_sum (fun (i : Fin 33) k => ∑ q, dwt (za m c) (ya m c) k (row ⟨33 * (t.val / 33) + i.val, by omega⟩ q) y1) y0).trans ?_
    refine congrArg (fun s => three s y0) (funext fun k => ?_)
    refine Eq.trans ?_ (sum_rows (fun r => dwt (za m c) (ya m c) k r y1)).symm
    refine Finset.sum_congr rfl fun i _ => ?_
    have key : ∀ j : Fin 33, j = i → ∑ q, dwt (za m c) (ya m c) k (row j q) y1 = ∑ q, dwt (za m c) (ya m c) k (row i q) y1 := by
      rintro j rfl; rfl
    exact key _ (Fin.ext (by simp only; omega))
  · blk_ext [idx t]

end Cert.SconvIdeal.Lift

end
-- ==== Proof.Seqs.lean ====
/- The rows of two sequences, 8192 and then 256, in 33 blocks of 256: which rows a block holds, and sums over them. -/
module

public import proofs.«01_k».proof.Defs
public import Idealize.ShloMosaic.Lib.Pointwise
public import Idealize.ShloMosaic.Lib.Claim

@[expose] public section

set_option maxRecDepth 16384

noncomputable section

open Idealize.ShloMosaic Idealize.SL.Sem

namespace Cert.Seqs

/-- Row `q` of block `t`. -/
def row (t : Fin 33) (q : Fin 256) : Fin 8448 := ⟨256 * t.val + q.val, by omega⟩

/-- A row's value where the row is of the first sequence, else zero. -/
def lat (v : Fin 8448 → EReal) (r : Fin 8448) : EReal := if r.val < 8192 then v r else 0
/-- A row's value where the row is of the second sequence, else zero. -/
def ctx (v : Fin 8448 → EReal) (r : Fin 8448) : EReal := if r.val < 8192 then 0 else v r

/-- The rows in their blocks. -/
theorem sum_rows (f : Fin 8448 → EReal) : ∑ r, f r = ∑ t : Fin 33, ∑ q : Fin 256, f (row t q) := by
  rw [← Fintype.sum_prod_type' (fun (t : Fin 33) (q : Fin 256) => f (row t q)), ← (finProdFinEquiv (m := 33) (n := 256)).sum_comp]
  refine Finset.sum_congr rfl fun x _ => congrArg f (Fin.ext ?_)
  simp only [finProdFinEquiv, Equiv.coe_fn_mk, row]
  omega

/-- All rows are those of the first and of the second sequence. -/
theorem sum_two (f : Fin 8448 → EReal) :
    ∑ r, f r = ∑ k : Fin 8192, f ⟨k.val, by omega⟩ + ∑ k : Fin 256, f ⟨8192 + k.val, by omega⟩ :=
  Fin.sum_univ_add (a := 8192) (b := 256) f

/-- The sum over the first sequence's rows. -/
theorem sum_lat (v : Fin 8448 → EReal) : ∑ r, lat v r = ∑ k : Fin 8192, v ⟨k.val, by omega⟩ := by
  rw [sum_two]
  have h0 : ∑ k : Fin 256, lat v ⟨8192 + k.val, by omega⟩ = 0 := Finset.sum_eq_zero fun k _ => if_neg (by simp only; omega)
  rw [h0, add_zero]
  exact Finset.sum_congr rfl fun k _ => if_pos (by simp only; omega)
/-- The sum over the second sequence's rows. -/
theorem sum_ctx (v : Fin 8448 → EReal) : ∑ r, ctx v r = ∑ k : Fin 256, v ⟨8192 + k.val, by omega⟩ := by
  rw [sum_two]
  have h0 : ∑ k : Fin 8192, ctx v ⟨k.val, by omega⟩ = 0 := Finset.sum_eq_zero fun k _ => if_pos (by simp only; omega)
  rw [h0, zero_add]
  exact Finset.sum_congr rfl fun k _ => if_neg (by simp only; omega)

/-- A block lies in the second sequence if it is the last. -/
theorem cond_ctx {n : Nat} {t : Fin 33} (h : n = t.val) :
    Scalar.cmpi .sge (Scalar.muli (BitVec.ofNat 32 n) 256#32) 8192#32 = if t.val = 32 then 1#1 else 0#1 := by
  subst h
  revert t
  decide +kernel

/-- A choice between two rows of values by a decided condition. -/
theorem sel {P : Prop} [Decidable P] {α : Type} (x y : α) : Scalar.select (if P then 1#1 else 0#1) x y = if P then x else y := by
  by_cases h : P
  · rw [if_pos h, if_pos h]; rfl
  · rw [if_neg h, if_neg h]; rfl

/-- Which of eight rows a row is. -/
theorem cond_eight (a b : Fin 8) : IntOp.cmpi .eq (BitVec.ofNat 32 a.val) (BitVec.ofNat 32 b.val) = if a = b then 1#1 else 0#1 := by
  revert a b
  decide +kernel

/-- A block's rows of the first sequence: all, unless it is the last block. -/
theorem lat_block (t : Fin 33) (v : Fin 8448 → EReal) : ∑ q, lat v (row t q) = if t.val = 32 then 0 else ∑ q, v (row t q) := by
  by_cases h : t.val = 32
  · rw [if_pos h]
    exact Finset.sum_eq_zero fun q _ => if_neg (by simp only [row]; omega)
  · rw [if_neg h]
    exact Finset.sum_congr rfl fun q _ => if_pos (by simp only [row]; omega)
/-- A block's rows of the second sequence: none, unless it is the last block. -/
theorem ctx_block (t : Fin 33) (v : Fin 8448 → EReal) : ∑ q, ctx v (row t q) = if t.val = 32 then ∑ q, v (row t q) else 0 := by
  by_cases h : t.val = 32
  · rw [if_pos h]
    exact Finset.sum_congr rfl fun q _ => if_neg (by simp only [row]; omega)
  · rw [if_neg h]
    exact Finset.sum_eq_zero fun q _ => if_pos (by simp only [row]; omega)

end Cert.Seqs

end
-- ==== Proof.ResValue.lean ====
/- What the residual gradient's kernel leaves: the two gradients its reference returns. -/
module

public import proofs.«01_k».proof.Defs
public import proofs.«01_k».proof.Proof.Seqs
public import proofs.«01_k».proof.Proof.Gen.ResIdeal.Frame
public import proofs.«01_k».proof.Proof.Gen.ResRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.ResIdeal.Lift

open Cert.ResIdeal Cert.ResIdeal.Gen Cert.Seqs
open Cert.ResRefIdeal.Read

variable (d : Fin 8448 → Fin 1024 → EReal) (b : Fin 8448 → Fin 1024 → EReal) (g : Fin 8 → Fin 6144 → EReal)

/-- The gate of a row's lane: the first row's for the first sequence, the second row's for the second. -/
def gate (r : Fin 8448) (l : Fin 1024) : EReal :=
  if r.val < 8192 then g 0 ⟨5120 + l.val, by omega⟩ else g 1 ⟨5120 + l.val, by omega⟩
/-- What a row adds to each of the eight rows of column sums. -/
def stat (a : Fin 8) (l : Fin 1024) (r : Fin 8448) : EReal :=
  if a = 0 then lat (fun r => d r l * b r l) r else if a = 1 then ctx (fun r => d r l * b r l) r else 0

section Reference
variable (x0 x1 : (⟨S8448x1024, .f32⟩ : BufTy).Contents (Elt Ideal)) (x2 : (⟨S8x6144, .f32⟩ : BufTy).Contents (Elt Ideal))

/-- The gradient at the branch. -/
theorem r27 (r : Fin 8448) (l : Fin 1024) :
    val_main_v27 (F := Ideal) x0 x2 (ix2 r l) = x0 (ix2 r l) * gate (fun a l => x2 (ix2 a l)) r l := by
  pointwise [val_main_v27, val_main_v26, val_main_v21, val_main_v20, val_main_v19, val_main_v16, val_main_v3, val_main_v2, val_main_v10, val_main_v9, val_main_v8, val_main_v5, val_main_v1, val_main_v0]
  unfold gate
  by_cases h : r.val < 8192
  · rw [dif_pos h, if_pos h]
    exact mul_comm _ _
  · rw [dif_neg h, if_neg h]
    have e : ∀ h', (⟨8192 + (r.val - 8192), h'⟩ : Fin 8448) = r := fun _ => Fin.ext (by simp only; omega)
    rw [e]
    exact mul_comm _ _

/-- The gradients at the two gates. -/
theorem r31 (a : Fin 8) (l : Fin 1024) :
    val_main_v31 (F := Ideal) x0 x1 (ix2 a l) = ∑ r, stat (fun r l => x0 (ix2 r l)) (fun r l => x1 (ix2 r l)) a l r := by
  pointwise [val_main_v31, val_main_v30, val_main_v29, val_main_v28, val_main_v25, val_main_v24, val_main_v23, val_main_v22, val_main_v15, val_main_v14, val_main_v13, val_main_v12, val_main_v11, val_main_v4, val_main_v8, val_main_v19, val_main_cst, val_main_cst_0, val_main_cst_1, val_main_cst_2, val_main_cst_3]
  simp only [Finset.univ_unique, Finset.sum_singleton]
  by_cases h0 : a.val < 1
  · obtain rfl : a = 0 := Fin.ext (by simp only [Fin.val_zero]; omega)
    rw [dif_pos h0]
    exact (sum_lat fun r => x0 (ix2 r l) * x1 (ix2 r l)).symm.trans (Finset.sum_congr rfl fun r _ => (if_pos rfl).symm)
  · rw [dif_neg h0]
    by_cases h1 : a.val - 1 < 1
    · obtain rfl : a = 1 := Fin.ext (by simp only [Fin.val_one]; omega)
      rw [dif_pos h1]
      exact (sum_ctx fun r => x0 (ix2 r l) * x1 (ix2 r l)).symm.trans
        (Finset.sum_congr rfl fun r _ => ((if_neg (by decide)).trans (if_pos rfl)).symm)
    · rw [dif_neg h1]
      refine (Finset.sum_eq_zero fun r _ => ?_).symm
      exact (if_neg fun e => h0 (by rw [e]; decide)).trans (if_neg fun e => h1 (by rw [e]; decide))
end Reference

/-- The gradient at the branch, of a block. -/
theorem pay2_at {i : grid0.Coords} {t : Fin 33} (hi : (i 0).val = t.val) {v2 : Vec Ideal S256x1024 .f32} {v3 v4 : Vec Ideal S1x1024 .f32} (q : Fin 256) (l : Fin 1024) :
    k0_pay2 (F := Ideal) i v2 v3 v4 (ix2 q l) = v2 (ix2 q l) * if t.val = 32 then v3 (ix2 0 l) else v4 (ix2 0 l) := by
  pointwise [k0_pay2]
  rw [cond_ctx hi, sel]

/-- A block's column sums. -/
theorem pay3_at {i : grid0.Coords} {t : Fin 33} (hi : (i 0).val = t.val) {v2 v10 : Vec Ideal S256x1024 .f32}
    (h2 : ∀ q l, v2 (ix2 q l) = d (row t q) l) (h10 : ∀ q l, v10 (ix2 q l) = b (row t q) l) (a : Fin 8) (l : Fin 1024) :
    k0_pay3 (F := Ideal) i v2 v10 (ix2 a l) = ∑ q, stat d b a l (row t q) := by
  pointwise [k0_pay3]
  have c0 : IntOp.cmpi .eq (BitVec.ofNat 32 a.val) 0#32 = if a = 0 then 1#1 else 0#1 := cond_eight a 0
  have c1 : IntOp.cmpi .eq (BitVec.ofNat 32 a.val) 1#32 = if a = 1 then 1#1 else 0#1 := cond_eight a 1
  rw [cond_ctx hi, sel, sel, c0, c1, sel, sel]
  have e : ∑ q : Fin 256, v2 (ix2 q l) * v10 (ix2 q l) = ∑ q, d (row t q) l * b (row t q) l :=
    Finset.sum_congr rfl fun q _ => by rw [h2, h10]
  rw [e]
  by_cases h0 : a = 0
  · subst h0
    rw [if_pos rfl, if_neg (show ¬(0 : Fin 8) = 1 by decide), add_zero]
    exact (lat_block t fun r => d r l * b r l).symm
  · rw [if_neg h0, zero_add]
    by_cases h1 : a = 1
    · subst h1
      rw [if_pos rfl]
      exact (ctx_block t fun r => d r l * b r l).symm
    · rw [if_neg h1]
      exact (Finset.sum_eq_zero fun r _ => (if_neg h0).trans (if_neg h1)).symm

variable {m : (ℓ : Loc nD τ sig) → Buf (Elt Ideal) ℓ} {c : Dev nD}

/-- Which block each window is on at a grid point. -/
theorem idx : ∀ t : Fin cfg0.N,
    win0_0.index t = ![t.val, 0] ∧ win0_1.index t = ![t.val, 0] ∧ win0_2.index t = ![0, 0] ∧ win0_3.index t = ![t.val, 0] ∧ win0_4.index t = ![0, 0] :=
  (by decide +kernel : ∀ t : Fin grid0.N, _)

/-- The grid's coordinate is the point. -/
theorem coord : ∀ t : Fin cfg0.N, (grid0.coords t 0).val = t.val :=
  (by decide +kernel : ∀ t : Fin grid0.N, _)

variable (m c) in
/-- The incoming gradient's entries. -/
def da (r : Fin 8448) (l : Fin 1024) : EReal := m ((c.tc : Thread nD τ).loc main_arg0) (ix2 r l)
variable (m c) in
/-- The branch's entries. -/
def ba (r : Fin 8448) (l : Fin 1024) : EReal := m ((c.tc : Thread nD τ).loc main_arg1) (ix2 r l)
variable (m c) in
/-- The modulation's entries. -/
def ga (a : Fin 8) (l : Fin 6144) : EReal := m ((c.tc : Thread nD τ).loc main_arg2) (ix2 a l)

/-- A block of the incoming gradient. -/
theorem blk0 (t : Fin cfg0.N) (q : Fin 256) (l : Fin 1024) : iblk m c 0 t (ix2 q l) = da m c (row ⟨t.val, t.isLt⟩ q) l := by
  change _ = m ((c.tc : Thread nD τ).loc main_arg0) (ix2 _ l)
  blk_ext [iblk, V, idx t, row]
/-- A block of the branch. -/
theorem blk1 (t : Fin cfg0.N) (q : Fin 256) (l : Fin 1024) : iblk m c 1 t (ix2 q l) = ba m c (row ⟨t.val, t.isLt⟩ q) l := by
  change _ = m ((c.tc : Thread nD τ).loc main_arg1) (ix2 _ l)
  blk_ext [iblk, V, idx t, row]
/-- The modulation's rows. -/
theorem blk2 (t : Fin cfg0.N) (a : Fin 8) (l : Fin 6144) : iblk m c 2 t (ix2 a l) = ga m c a l := by
  change _ = m ((c.tc : Thread nD τ).loc main_arg2) (ix2 a l)
  blk_ext [iblk, V, idx t]

/-- What a point leaves of the gradient at the branch. -/
theorem out3 (t : Fin cfg0.N) (q : Fin 256) (l : Fin 1024) :
    (outsAt0 m c t.val t.isLt).1 (ix2 q l) = da m c (row ⟨t.val, t.isLt⟩ q) l * gate (ga m c) (row ⟨t.val, t.isLt⟩ q) l := by
  have hN : t.val < 33 := t.isLt
  have e : ∀ {v : Vec Ideal S256x1024 .f32} {w : Vec Ideal S1x1024 .f32} {u : Vec Ideal S1x1024 .f32}
      (hv : v (ix2 q l) = da m c (row ⟨t.val, t.isLt⟩ q) l) (hw : w (ix2 0 l) = ga m c 1 ⟨5120 + l.val, by omega⟩)
      (hu : u (ix2 0 l) = ga m c 0 ⟨5120 + l.val, by omega⟩),
      k0_pay2 (F := Ideal) (grid0.coords t) v w u (ix2 q l) = da m c (row ⟨t.val, t.isLt⟩ q) l * gate (ga m c) (row ⟨t.val, t.isLt⟩ q) l := by
    intro v w u hv hw hu
    rw [pay2_at (t := ⟨t.val, t.isLt⟩) (coord t), hv, hw, hu]
    refine congrArg _ ?_
    unfold gate
    by_cases h : t.val = 32
    · rw [if_pos h, if_neg (by simp only [row]; omega)]
    · rw [if_neg h, if_pos (by simp only [row]; omega)]
  by_cases h : t.val % 33 = 0
  · rw [outsAt0_A m c t h (by omega)]
    frame_out
    refine e ?_ ?_ ?_
    · pointwise
      exact blk0 t q l
    · pointwise
      exact blk2 t 1 _
    · pointwise
      exact blk2 t 0 _
  · rw [outsAt0_B m c t h (by omega)]
    frame_out
    refine e ?_ ?_ ?_
    · pointwise
      exact blk0 t q l
    · pointwise
      exact blk2 t 1 _
    · pointwise
      exact blk2 t 0 _

/-- What the first point leaves of the gates' gradient. -/
theorem out4_A (t : Fin cfg0.N) (h : t.val % 33 = 0) (a : Fin 8) (l : Fin 1024) :
    (outsAt0 m c t.val t.isLt).2 (ix2 a l) = ∑ q, stat (da m c) (ba m c) a l (row ⟨t.val, t.isLt⟩ q) := by
  have hN : t.val < 33 := t.isLt
  rw [outsAt0_A m c t h (by omega)]
  frame_out
  exact pay3_at (da m c) (ba m c) (t := ⟨t.val, t.isLt⟩) (coord t) (blk0 t) (blk1 t) a l

/-- What a later point leaves of the gates' gradient. -/
theorem out4_B (t : Fin cfg0.N) (h : ¬t.val % 33 = 0) (a : Fin 8) (l : Fin 1024) :
    (outsAt0 m c t.val t.isLt).2 (ix2 a l)
      = (outsAt0 m c (t.val - 1) (Nat.lt_of_le_of_lt (Nat.sub_le _ _) t.isLt)).2 (ix2 a l)
        + ∑ q, stat (da m c) (ba m c) a l (row ⟨t.val, t.isLt⟩ q) := by
  have hN : t.val < 33 := t.isLt
  rw [outsAt0_B m c t h (by omega)]
  frame_out
  pointwise [k0_pay1]
  exact congrArg _ (pay3_at (da m c) (ba m c) (t := ⟨t.val, t.isLt⟩) (coord t) (blk0 t) (blk1 t) a l)

/-- The gradient at the branch. -/
theorem final3 : (dats m 0 c).arrAt 3 cfg0.N = val_main_v27 (F := Ideal) (m ((c.tc : Thread nD τ).loc main_arg0)) (m ((c.tc : Thread nD τ).loc main_arg2)) := by
  refine (dats m 0 c).arrAt_eq_of_covers 3 _ (by decide +kernel) fun t hf y => ?_
  blk_simp
  rw [after0_3]
  have hN : t.val < 33 := t.isLt
  idx_vars y
  refine ((out3 t y0 y1).trans (r27 _ _ _ _).symm).trans ?_
  blk_ext [idx t, row]

/-- The gradients at the two gates. -/
theorem final4 : (dats m 0 c).arrAt 4 cfg0.N = val_main_v31 (F := Ideal) (m ((c.tc : Thread nD τ).loc main_arg0)) (m ((c.tc : Thread nD τ).loc main_arg1)) := by
  refine (dats m 0 c).arrAt_eq_of_covers 4 _ (by decide +kernel) fun t hf y => ?_
  blk_simp
  rw [after0_4]
  idx_vars y
  rw [Pipeline.eq_sum_fin_of_reset_step_of_flush (fun n h => ((outsAt0 m c n h).2 (ix2 y0 y1) : EReal)) 33 (0 : EReal)
    (fun t => ∑ q, stat (da m c) (ba m c) y0 y1 (row ⟨t.val, t.isLt⟩ q))
    (fun t h => by rw [zero_add]; exact out4_A t h _ _)
    (fun t h => out4_B t h _ _)
    t ((flush0_4 t).mp hf), zero_add]
  have hN : t.val < 33 := t.isLt
  refine Eq.trans ?_ ((r31 (m ((c.tc : Thread nD τ).loc main_arg0)) (m ((c.tc : Thread nD τ).loc main_arg1)) y0 y1).symm.trans ?_)
  · change (∑ i : Fin 33, _ : EReal) = _
    rw [sum_rows]
    refine Finset.sum_congr rfl fun i _ => ?_
    have key : ∀ j : Fin 33, j = i → ∑ q, stat (da m c) (ba m c) y0 y1 (row j q) = ∑ q, stat (da m c) (ba m c) y0 y1 (row i q) := by
      rintro j rfl; rfl
    exact key _ (Fin.ext (by simp only; omega))
  · blk_ext [idx t]

end Cert.ResIdeal.Lift

end
-- ==== Proof.RopeTurn.lean ====
/- The rotation's gradient: the host reference, by chunks of 128 lanes. -/
module

public import proofs.«01_k».proof.Defs
public import proofs.«01_k».proof.Proof.Gen.RopeRefIdeal.Read
public import Idealize.ShloMosaic.Lib.Pointwise
public import Idealize.ShloMosaic.Lib.Claim

@[expose] public section

set_option maxRecDepth 100000

noncomputable section

open Idealize.ShloMosaic Idealize.ShloMosaic.TcCoe Idealize.SL.Sem

namespace Cert.RopeIdeal.Lift

open Cert.RopeRefIdeal Cert.RopeRefIdeal.Read

section Turn
variable (C S : Fin 8192 → Fin 32 → EReal)

/-- The factor of a lane itself: a cosine on a latent row, one on a context row. -/
def ctab (r : Fin 8448) (l : Fin 128) : EReal := if h : r.val < 8192 then C ⟨r.val, h⟩ ⟨l.val % 32, by omega⟩ else 1
/-- The factor of the lane it is paired with: minus or plus a sine on a latent row, zero on a context row. -/
def stab (r : Fin 8448) (l : Fin 128) : EReal :=
  if h : r.val < 8192 then if l.val % 64 < 32 then -S ⟨r.val, h⟩ ⟨l.val % 32, by omega⟩ else S ⟨r.val, h⟩ ⟨l.val % 32, by omega⟩ else 0

/-- The lane a lane is paired with. -/
def mate (l : Fin 128) : Fin 128 := if h : l.val % 64 < 32 then ⟨l.val + 32, by omega⟩ else ⟨l.val - 32, by omega⟩

/-- A chunk of 128 lanes turned back. -/
def turn (x : Fin 8448 → Fin 128 → EReal) (r : Fin 8448) (l : Fin 128) : EReal :=
  x r l * ctab C r l + x r (mate l) * stab S r (mate l)

/-- A chunk turned back, lane by lane: the reference's two halves of a head. -/
theorem turn_low {x : Fin 8448 → Fin 128 → EReal} {r : Fin 8448} {l : Fin 128} (h : r.val < 8192) (hl : l.val % 64 < 32) :
    turn C S x r l = 0 + (x r ⟨l.val + 32, by omega⟩ * S ⟨r.val, h⟩ ⟨l.val % 64, hl⟩ + x r l * C ⟨r.val, h⟩ ⟨l.val % 64, hl⟩) := by
  have e : (⟨l.val % 32, by omega⟩ : Fin 32) = ⟨l.val % 64, hl⟩ := Fin.ext (by simp only; omega)
  have e2 : (⟨(l.val + 32) % 32, by omega⟩ : Fin 32) = ⟨l.val % 64, hl⟩ := Fin.ext (by simp only; omega)
  simp only [turn, ctab, stab, mate, dif_pos h, dif_pos hl]
  rw [if_neg (by omega), e, e2, zero_add]
  exact add_comm _ _
/-- The same for a lane of the upper half of its head. -/
theorem turn_high {x : Fin 8448 → Fin 128 → EReal} {r : Fin 8448} {l : Fin 128} (h : r.val < 8192) (hl : ¬l.val % 64 < 32) :
    turn C S x r l = (x r l * C ⟨r.val, h⟩ ⟨l.val % 64 - 32, by omega⟩
      + -x r ⟨l.val - 32, by omega⟩ * S ⟨r.val, h⟩ ⟨l.val % 64 - 32, by omega⟩) + 0 := by
  have e : (⟨l.val % 32, by omega⟩ : Fin 32) = ⟨l.val % 64 - 32, by omega⟩ := Fin.ext (by simp only; omega)
  have e2 : (⟨(l.val - 32) % 32, by omega⟩ : Fin 32) = ⟨l.val % 64 - 32, by omega⟩ := Fin.ext (by simp only; omega)
  simp only [turn, ctab, stab, mate, dif_pos h, dif_neg hl]
  rw [if_pos (by omega), e, e2, add_zero, mul_neg, neg_mul]
/-- A context row is not turned. -/
theorem turn_ctx {x : Fin 8448 → Fin 128 → EReal} {r : Fin 8448} {l : Fin 128} (h : ¬r.val < 8192) : turn C S x r l = x r l := by
  simp only [turn, ctab, stab, dif_neg h, mul_one, mul_zero, add_zero]

/-- A head's two halves, rotated back, padded to the head and added, on a latent row; the row itself on a context row. -/
theorem heads {w n : Nat} (X : Fin 8448 → Fin w → EReal) (j : Nat) (hw : 128 * j + 128 ≤ w) (hn : n * 64 = w) (r : Fin 8448) (l : Fin 128) :
    (if h : r.val < 8192 then
      (if h1 : r.val < 8192 ∧ (128 * j + l.val) / 64 < n ∧ 32 ≤ (128 * j + l.val) % 64 ∧ (128 * j + l.val) % 64 - 32 < 32 then
          X r ⟨(128 * j + l.val) / 64 * 64 + (32 + ((128 * j + l.val) % 64 - 32)), by omega⟩ * C ⟨r.val, h⟩ ⟨(128 * j + l.val) % 64 - 32, by omega⟩
            + -X r ⟨(128 * j + l.val) / 64 * 64 + ((128 * j + l.val) % 64 - 32), by omega⟩ * S ⟨r.val, h⟩ ⟨(128 * j + l.val) % 64 - 32, by omega⟩
        else 0) +
        if h1 : r.val < 8192 ∧ (128 * j + l.val) / 64 < n ∧ (128 * j + l.val) % 64 < 32 then
          X r ⟨(128 * j + l.val) / 64 * 64 + (32 + (128 * j + l.val) % 64), by omega⟩ * S ⟨r.val, h⟩ ⟨(128 * j + l.val) % 64, by omega⟩
            + X r ⟨(128 * j + l.val) / 64 * 64 + (128 * j + l.val) % 64, by omega⟩ * C ⟨r.val, h⟩ ⟨(128 * j + l.val) % 64, by omega⟩
        else 0
    else X ⟨8192 + (r.val - 8192), by omega⟩ ⟨(128 * j + l.val) / 64 * 64 + (128 * j + l.val) % 64, by omega⟩)
      = turn C S (fun r l => X r ⟨128 * j + l.val, by omega⟩) r l := by
  have hm : (128 * j + l.val) % 64 = l.val % 64 := by omega
  by_cases h : r.val < 8192
  · rw [dif_pos h]
    by_cases hl : l.val % 64 < 32
    · rw [dif_neg (by omega), dif_pos (by omega), turn_low _ _ h hl]
      have e1 : ∀ h', (⟨(128 * j + l.val) / 64 * 64 + (32 + (128 * j + l.val) % 64), h'⟩ : Fin w) = ⟨128 * j + (l.val + 32), by omega⟩ :=
        fun _ => Fin.ext (by simp only; omega)
      have e2 : ∀ h', (⟨(128 * j + l.val) / 64 * 64 + (128 * j + l.val) % 64, h'⟩ : Fin w) = ⟨128 * j + l.val, by omega⟩ :=
        fun _ => Fin.ext (by simp only; omega)
      rw [e1, e2]
      simp only [hm]
    · rw [dif_pos (by omega), dif_neg (by omega), turn_high _ _ h hl]
      have e1 : ∀ h', (⟨(128 * j + l.val) / 64 * 64 + (32 + ((128 * j + l.val) % 64 - 32)), h'⟩ : Fin w) = ⟨128 * j + l.val, by omega⟩ :=
        fun _ => Fin.ext (by simp only; omega)
      have e2 : ∀ h', (⟨(128 * j + l.val) / 64 * 64 + ((128 * j + l.val) % 64 - 32), h'⟩ : Fin w) = ⟨128 * j + (l.val - 32), by omega⟩ :=
        fun _ => Fin.ext (by simp only; omega)
      rw [e1, e2]
      simp only [hm]
  · rw [dif_neg h, turn_ctx _ _ h]
    have e1 : ∀ h', (⟨8192 + (r.val - 8192), h'⟩ : Fin 8448) = r := fun _ => Fin.ext (by simp only; omega)
    have e2 : ∀ h', (⟨(128 * j + l.val) / 64 * 64 + (128 * j + l.val) % 64, h'⟩ : Fin w) = ⟨128 * j + l.val, by omega⟩ :=
      fun _ => Fin.ext (by simp only; omega)
    rw [e1, e2]

end Turn

/-- The cosines of the latent rows' angles. -/
abbrev cosR (r : Fin 8192) (p : Fin 32) : EReal := val_main_v29 (F := Ideal) (ix2 r p)
/-- The sines of the latent rows' angles. -/
abbrev sinR (r : Fin 8192) (p : Fin 32) : EReal := val_main_v30 (F := Ideal) (ix2 r p)

variable (x0 : (⟨S8448x1024, .f32⟩ : BufTy).Contents (Elt Ideal)) (x1 x2 : (⟨S8448x256, .f32⟩ : BufTy).Contents (Elt Ideal))

/-- The queries' gradient. -/
theorem r67 (j : Fin 8) (r : Fin 8448) (l : Fin 128) :
    val_main_v67 (F := Ideal) x0 (ix2 r (⟨128 * j.val + l.val, by omega⟩ : Fin 1024)) = turn cosR sinR (fun r l => x0 (ix2 r ⟨128 * j.val + l.val, by omega⟩)) r l := by
  pointwise [val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v31, val_main_v35, val_main_v36, val_main_cst_4, val_main_cst_5]
  exact heads cosR sinR (fun r y => x0 (ix2 r y)) j.val (by omega) (n := 16) (by omega) r l

/-- The keys' gradient. -/
theorem r104 (j : Fin 2) (r : Fin 8448) (l : Fin 128) :
    val_main_v104 (F := Ideal) x1 (ix2 r (⟨128 * j.val + l.val, by omega⟩ : Fin 256)) = turn cosR sinR (fun r l => x1 (ix2 r ⟨128 * j.val + l.val, by omega⟩)) r l := by
  pointwise [val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v68, val_main_v72, val_main_v73, val_main_cst_7, val_main_cst_8]
  exact heads cosR sinR (fun r y => x1 (ix2 r y)) j.val (by omega) (n := 4) (by omega) r l

end Cert.RopeIdeal.Lift

end
-- ==== Proof.RopeValue.lean ====
/- What the rotation's kernel leaves: the rotated chunks side by side. -/
module

public import proofs.«01_k».proof.Defs
public import proofs.«01_k».proof.Proof.Seqs
public import proofs.«01_k».proof.Proof.RopeTurn
public import proofs.«01_k».proof.Proof.Gen.RopeIdeal.Frame
public import Idealize.ShloMosaic.Lib.Pipeline.ValueKit
public import Idealize.ShloMosaic.Lib.Pointwise
public import Idealize.ShloMosaic.Lib.Claim

@[expose] public section

set_option maxRecDepth 100000

noncomputable section

open Idealize.ShloMosaic Idealize.ShloMosaic.TcCoe Idealize.SL.Sem

namespace Cert.RopeIdeal.Lift

open Cert.RopeIdeal Cert.RopeIdeal.Gen

/-- Which half of its head a lane lies in. -/
theorem cond_half : ∀ l : Fin 128,
    IntOp.cmpi .slt
      (Scalar.select
        (IntOp.andi
          (IntOp.xori (IntOp.cmpi .slt (IntOp.remsi .vector (BitVec.ofNat 32 l.val) (Scalar.select (Scalar.cmpi .eq 64#32 0#32) 1#32 64#32)) 0#32)
            (Scalar.cmpi .slt (Scalar.select (Scalar.cmpi .eq 64#32 0#32) 1#32 64#32) 0#32))
          (IntOp.cmpi .ne (IntOp.remsi .vector (BitVec.ofNat 32 l.val) (Scalar.select (Scalar.cmpi .eq 64#32 0#32) 1#32 64#32)) 0#32))
        (IntOp.addi (IntOp.remsi .vector (BitVec.ofNat 32 l.val) (Scalar.select (Scalar.cmpi .eq 64#32 0#32) 1#32 64#32))
          (Scalar.select (Scalar.cmpi .eq 64#32 0#32) 1#32 64#32))
        (IntOp.remsi .vector (BitVec.ofNat 32 l.val) (Scalar.select (Scalar.cmpi .eq 64#32 0#32) 1#32 64#32)))
      32#32 = if l.val % 64 < 32 then 1#1 else 0#1 := by
  decide +kernel

/-- A chunk turned back, of a block. -/
theorem pay5_at (cv sv x : Vec Ideal S256x128 .f32) (q : Fin 256) (l : Fin 128) :
    k0_pay5 (F := Ideal) cv sv x (ix2 q l) = x (ix2 q l) * cv (ix2 q l) + x (ix2 q (mate l)) * sv (ix2 q (mate l)) := by
  pointwise [k0_pay5, k0_pay4, k0_pay3]
  rw [cond_half, Seqs.sel]
  refine congrArg _ ?_
  unfold mate
  by_cases h : l.val % 64 < 32
  · rw [if_pos h, dif_pos h]
    have e : ∀ h', (⟨(l.val + 128 - 96) % 128, h'⟩ : Fin 128) = ⟨l.val + 32, by omega⟩ := fun _ => Fin.ext (by simp only; omega)
    rw [e]
  · rw [if_neg h, dif_neg h]
    have e : ∀ h', (⟨(l.val + 128 - 32) % 128, h'⟩ : Fin 128) = ⟨l.val - 32, by omega⟩ := fun _ => Fin.ext (by simp only; omega)
    rw [e]

variable {m : (ℓ : Loc nD τ sig) → Buf (Elt Ideal) ℓ} {c : Dev nD}

/-- Which block each window is on at a grid point. -/
theorem idx : ∀ t : Fin cfg0.N,
    win0_0.index t = ![t.val, 0] ∧ win0_1.index t = ![t.val, 0] ∧ win0_2.index t = ![t.val, 0] ∧ win0_3.index t = ![t.val, 0]
      ∧ win0_4.index t = ![t.val, 0] ∧ win0_5.index t = ![t.val, 0] :=
  (by decide +kernel : ∀ t : Fin grid0.N, _)

/-- Two halves side by side, a constant on the context rows, both heads of a chunk alike. -/
theorem wide_at (a b : FVec Ideal S8192x32 .f32) (k : BitVec 32) (r : Fin 8448) (l : Fin 128) :
    shapeCast S8448x128 (broadcastInDim S1x8448x2x64 ![0, 1, 2, 3] bcast_S1x8448x1x64_S1x8448x2x64_0_1_2_3
      (shapeCast S1x8448x1x64 (concatenate S8448x64 0
        [⟨S8192x64, concatenate S8192x64 1 [⟨S8192x32, a⟩, ⟨S8192x32, b⟩] concatenates_S8192x32_S8192x32_S8192x64_d1⟩,
          ⟨S256x64, broadcastInDim S256x64 ![] bcast_S_S256x64 (constant (F := Ideal) S_ .f32 k)⟩] concatenates_S8192x64_S256x64_S8448x64_d0)
        shapeCasts_S8448x64_S1x8448x1x64)) shapeCasts_S1x8448x2x64_S8448x128 (ix2 r l)
      = if h : r.val < 8192 then if l.val % 64 < 32 then a (ix2 ⟨r.val, h⟩ ⟨l.val % 32, by omega⟩) else b (ix2 ⟨r.val, h⟩ ⟨l.val % 32, by omega⟩)
        else FloatOps.ofBits .f32 k := by
  pointwise
  by_cases h : r.val < 8192
  · rw [dif_pos h, dif_pos h]
    by_cases hl : l.val % 64 < 32
    · rw [dif_pos hl, if_pos hl]
      exact congrArg (fun p => a (ix2 (⟨r.val, h⟩ : Fin 8192) p)) (Fin.ext (by simp only; omega))
    · rw [dif_neg hl, if_neg hl]
      exact congrArg (fun p => b (ix2 (⟨r.val, h⟩ : Fin 8192) p)) (Fin.ext (by simp only; omega))
  · rw [dif_neg h, dif_neg h]

/-- The table of factors of a lane itself. -/
theorem V40 (r : Fin 8448) (l : Fin 128) : (V m c main_v40 : FVec Ideal S8448x128 .f32) (ix2 r l) = ctab cosR r l := by
  entry_read
  refine (wide_at (Cert.RopeRefIdeal.Read.val_main_v29 (F := Ideal)) (Cert.RopeRefIdeal.Read.val_main_v29 (F := Ideal)) 0x3F800000#32 r l).trans ?_
  unfold ctab
  by_cases h : r.val < 8192
  · rw [dif_pos h, dif_pos h, ite_self]
  · rw [dif_neg h, dif_neg h]
    simp [Ideal.ofBits, Ideal.ieee]; rw [← EReal.coe_mul]; norm_num

/-- The table of factors of a lane's mate. -/
theorem V43 (r : Fin 8448) (l : Fin 128) : (V m c main_v43 : FVec Ideal S8448x128 .f32) (ix2 r l) = stab sinR r l := by
  entry_read
  refine (wide_at (Host.negf (Cert.RopeRefIdeal.Read.val_main_v30 (F := Ideal))) (Cert.RopeRefIdeal.Read.val_main_v30 (F := Ideal)) 0x00000000#32 r l).trans ?_
  unfold stab
  by_cases h : r.val < 8192
  · rw [dif_pos h, dif_pos h]
    rfl
  · rw [dif_neg h, dif_neg h]
    simp [Ideal.ofBits, Ideal.ieee]

open Cert.RopeRefIdeal.Read Cert.Seqs

/-- A block of the queries' gradient. -/
theorem blk0 (t : Fin cfg0.N) (q : Fin 256) (l : Fin 1024) :
    iblk m c 0 t (ix2 q l) = m ((c.tc : Thread nD τ).loc main_arg0) (ix2 (row ⟨t.val, t.isLt⟩ q) l) := by
  blk_ext [iblk, V, idx t, row]
/-- A block of the keys' gradient. -/
theorem blk1 (t : Fin cfg0.N) (q : Fin 256) (l : Fin 256) :
    iblk m c 1 t (ix2 q l) = m ((c.tc : Thread nD τ).loc main_arg1) (ix2 (row ⟨t.val, t.isLt⟩ q) l) := by
  blk_ext [iblk, V, idx t, row]
/-- A block of the values' gradient. -/
theorem blk2 (t : Fin cfg0.N) (q : Fin 256) (l : Fin 256) :
    iblk m c 2 t (ix2 q l) = m ((c.tc : Thread nD τ).loc main_arg2) (ix2 (row ⟨t.val, t.isLt⟩ q) l) := by
  blk_ext [iblk, V, idx t, row]
/-- A block of the first table. -/
theorem blk3 (t : Fin cfg0.N) (q : Fin 256) (l : Fin 128) : iblk m c 3 t (ix2 q l) = ctab cosR (row ⟨t.val, t.isLt⟩ q) l := by
  refine Eq.trans ?_ (V40 (m := m) (c := c) _ l)
  blk_ext [iblk, idx t, row]
/-- A block of the second table. -/
theorem blk4 (t : Fin cfg0.N) (q : Fin 256) (l : Fin 128) : iblk m c 4 t (ix2 q l) = stab sinR (row ⟨t.val, t.isLt⟩ q) l := by
  refine Eq.trans ?_ (V43 (m := m) (c := c) _ l)
  blk_ext [iblk, idx t, row]

variable (m c) in
/-- The reference's result, of the arguments. -/
def ref (r : Fin 8448) (y : Fin 1536) : EReal :=
  val_main_v106 (F := Ideal) (m ((c.tc : Thread nD τ).loc main_arg0)) (m ((c.tc : Thread nD τ).loc main_arg1)) (m ((c.tc : Thread nD τ).loc main_arg2)) (ix2 r y)

/-- The reference's queries. -/
theorem ref_q (r : Fin 8448) (y : Fin 1536) (h : y.val < 1024) :
    ref m c r y = val_main_v67 (F := Ideal) (m ((c.tc : Thread nD τ).loc main_arg0)) (ix2 r (⟨y.val, h⟩ : Fin 1024)) := by
  unfold ref
  pointwise [val_main_v106, val_main_v105]
  exact dif_pos h
/-- The reference's keys. -/
theorem ref_k (r : Fin 8448) (y : Fin 1536) (h : ¬y.val < 1024) (h' : y.val - 1024 < 256) :
    ref m c r y = val_main_v104 (F := Ideal) (m ((c.tc : Thread nD τ).loc main_arg1)) (ix2 r (⟨y.val - 1024, h'⟩ : Fin 256)) := by
  unfold ref
  pointwise [val_main_v106, val_main_v105]
  exact (dif_neg h).trans (dif_pos h')
/-- The reference's values. -/
theorem ref_v (r : Fin 8448) (y : Fin 1536) (h : ¬y.val < 1024) (h' : ¬y.val - 1024 < 256) :
    ref m c r y = m ((c.tc : Thread nD τ).loc main_arg2) (ix2 r (⟨y.val - 1024 - 256, by omega⟩ : Fin 256)) := by
  unfold ref
  pointwise [val_main_v106, val_main_v105]
  exact (dif_neg h).trans (dif_neg h')

/-- A chunk turned back, of a block whose entries are known. -/
theorem chunk_at (t : Fin cfg0.N) {x : Vec Ideal S256x128 .f32} {f : Fin 8448 → Fin 128 → EReal}
    (hx : ∀ q l, x (ix2 q l) = f (row ⟨t.val, t.isLt⟩ q) l) (q : Fin 256) (l : Fin 128) :
    k0_pay5 (F := Ideal) (View.ld (iblk m c 3 t) r0_0) (View.ld (iblk m c 4 t) r0_0) x (ix2 q l)
      = turn cosR sinR f (row ⟨t.val, t.isLt⟩ q) l := by
  rw [pay5_at, hx, hx]
  have h3 : ∀ l, View.ld (iblk m c 3 t) r0_0 (ix2 q l) = ctab cosR (row ⟨t.val, t.isLt⟩ q) l := by
    intro l
    refine Eq.trans ?_ (blk3 (m := m) (c := c) t q l)
    pointwise
  have h4 : ∀ l, View.ld (iblk m c 4 t) r0_0 (ix2 q l) = stab sinR (row ⟨t.val, t.isLt⟩ q) l := by
    intro l
    refine Eq.trans ?_ (blk4 (m := m) (c := c) t q l)
    pointwise
  rw [h3, h4]
  rfl

/-- A chunk of the queries' lanes. -/
theorem piece_q (t : Fin cfg0.N) (j : Fin 8) {x : Vec Ideal S256x128 .f32}
    (hx : ∀ q l, x (ix2 q l) = iblk m c 0 t (ix2 q (⟨128 * j.val + l.val, by omega⟩ : Fin 1024))) (q : Fin 256) (l : Fin 128)
    (y : Fin 1536) (hy : y.val = 128 * j.val + l.val) :
    k0_pay5 (F := Ideal) (View.ld (iblk m c 3 t) r0_0) (View.ld (iblk m c 4 t) r0_0) x (ix2 q l) = ref m c (row ⟨t.val, t.isLt⟩ q) y := by
  refine (chunk_at t (fun q l => (hx q l).trans (blk0 t q _)) q l).trans ((r67 _ j _ l).symm.trans ?_)
  rw [ref_q _ y (by omega)]
  exact congrArg (fun y : Fin 1024 => val_main_v67 (F := Ideal) (m ((c.tc : Thread nD τ).loc main_arg0)) (ix2 (row ⟨t.val, t.isLt⟩ q) y)) (Fin.ext (by simp only; omega))

/-- A chunk of the keys' lanes. -/
theorem piece_k (t : Fin cfg0.N) (j : Fin 2) {x : Vec Ideal S256x128 .f32}
    (hx : ∀ q l, x (ix2 q l) = iblk m c 1 t (ix2 q (⟨128 * j.val + l.val, by omega⟩ : Fin 256))) (q : Fin 256) (l : Fin 128)
    (y : Fin 1536) (hy : y.val = 1024 + (128 * j.val + l.val)) :
    k0_pay5 (F := Ideal) (View.ld (iblk m c 3 t) r0_0) (View.ld (iblk m c 4 t) r0_0) x (ix2 q l) = ref m c (row ⟨t.val, t.isLt⟩ q) y := by
  refine (chunk_at t (fun q l => (hx q l).trans (blk1 t q _)) q l).trans ((r104 _ j _ l).symm.trans ?_)
  rw [ref_k _ y (by omega) (by omega)]
  exact congrArg (fun y : Fin 256 => val_main_v104 (F := Ideal) (m ((c.tc : Thread nD τ).loc main_arg1)) (ix2 (row ⟨t.val, t.isLt⟩ q) y)) (Fin.ext (by simp only; omega))

/-- A chunk of the values' lanes. -/
theorem piece_v (t : Fin cfg0.N) (j : Fin 2) {x : Vec Ideal S256x128 .f32}
    (hx : ∀ q l, x (ix2 q l) = iblk m c 2 t (ix2 q (⟨128 * j.val + l.val, by omega⟩ : Fin 256))) (q : Fin 256) (l : Fin 128)
    (y : Fin 1536) (hy : y.val = 1280 + (128 * j.val + l.val)) :
    k0_pay2 (F := Ideal) x (ix2 q l) = ref m c (row ⟨t.val, t.isLt⟩ q) y := by
  refine Eq.trans (by pointwise [k0_pay2]) (((hx q l).trans (blk2 t q _)).trans ?_)
  rw [ref_v _ y (by omega) (by omega)]
  exact congrArg (fun y : Fin 256 => m ((c.tc : Thread nD τ).loc main_arg2) (ix2 (row ⟨t.val, t.isLt⟩ q) y)) (Fin.ext (by simp only; omega))

/-- What a point leaves. -/
theorem out5 (t : Fin cfg0.N) (q : Fin 256) (y : Fin 1536) :
    out0_5 (iblk m c 0 t) (iblk m c 1 t) (iblk m c 2 t) (iblk m c 3 t) (iblk m c 4 t) (ix2 q y) = ref m c (row ⟨t.val, t.isLt⟩ q) y := by
  unfold_out out0_5
  canon_tiles x h using (View.cover_of_tiledBy _ ![256, 128] (by sl_kernel_rfl) _)
  case piece0 =>
    idx_vars x
    obtain rfl : q = x0 := Fin.ext h0
    exact piece_v t 1 (fun q l => by pointwise) q x1 y (h1.trans (show 1408 + x1.val = 1280 + (128 * 1 + x1.val) by omega))
  case piece1 =>
    idx_vars x
    obtain rfl : q = x0 := Fin.ext h0
    exact piece_k t 1 (fun q l => by pointwise) q x1 y (h1.trans (show 1152 + x1.val = 1024 + (128 * 1 + x1.val) by omega))
  case piece2 =>
    idx_vars x
    obtain rfl : q = x0 := Fin.ext h0
    exact piece_v t 0 (fun q l => by pointwise) q x1 y (h1.trans (show 1280 + x1.val = 1280 + (128 * 0 + x1.val) by omega))
  case piece3 =>
    idx_vars x
    obtain rfl : q = x0 := Fin.ext h0
    exact piece_k t 0 (fun q l => by pointwise) q x1 y (h1.trans (show 1024 + x1.val = 1024 + (128 * 0 + x1.val) by omega))
  case piece4 =>
    idx_vars x
    obtain rfl : q = x0 := Fin.ext h0
    exact piece_q t 7 (fun q l => by pointwise) q x1 y (h1.trans (show 896 + x1.val = 128 * 7 + x1.val by omega))
  case piece5 =>
    idx_vars x
    obtain rfl : q = x0 := Fin.ext h0
    exact piece_q t 6 (fun q l => by pointwise) q x1 y (h1.trans (show 768 + x1.val = 128 * 6 + x1.val by omega))
  case piece6 =>
    idx_vars x
    obtain rfl : q = x0 := Fin.ext h0
    exact piece_q t 5 (fun q l => by pointwise) q x1 y (h1.trans (show 640 + x1.val = 128 * 5 + x1.val by omega))
  case piece7 =>
    idx_vars x
    obtain rfl : q = x0 := Fin.ext h0
    exact piece_q t 4 (fun q l => by pointwise) q x1 y (h1.trans (show 512 + x1.val = 128 * 4 + x1.val by omega))
  case piece8 =>
    idx_vars x
    obtain rfl : q = x0 := Fin.ext h0
    exact piece_q t 3 (fun q l => by pointwise) q x1 y (h1.trans (show 384 + x1.val = 128 * 3 + x1.val by omega))
  case piece9 =>
    idx_vars x
    obtain rfl : q = x0 := Fin.ext h0
    exact piece_q t 2 (fun q l => by pointwise) q x1 y (h1.trans (show 256 + x1.val = 128 * 2 + x1.val by omega))
  case piece10 =>
    idx_vars x
    obtain rfl : q = x0 := Fin.ext h0
    exact piece_q t 1 (fun q l => by pointwise) q x1 y (h1.trans (show 128 + x1.val = 128 * 1 + x1.val by omega))
  case piece11 =>
    idx_vars x
    obtain rfl : q = x0 := Fin.ext h0
    exact piece_q t 0 (fun q l => by pointwise) q x1 y (h1.trans (show x1.val = 128 * 0 + x1.val by omega))

/-- The result. -/
theorem final5 : (dats m 0 c).arrAt 5 cfg0.N
    = val_main_v106 (F := Ideal) (m ((c.tc : Thread nD τ).loc main_arg0)) (m ((c.tc : Thread nD τ).loc main_arg1)) (m ((c.tc : Thread nD τ).loc main_arg2)) := by
  refine (dats m 0 c).arrAt_eq_of_covers 5 _ (by decide +kernel) fun t hf y => ?_
  blk_simp
  rw [after0_5]
  have hN : t.val < 33 := t.isLt
  idx_vars y
  refine (out5 t y0 y1).trans ?_
  unfold ref
  blk_ext [idx t, row]

end Cert.RopeIdeal.Lift

end
-- ==== Proof.NormRow.lean ====
/- The norm's gradient of one row: the chain rule through the root mean square, and its closed form. -/
module

public import proofs.«01_k».proof.Proof.GateReals

@[expose] public section

noncomputable section

open Idealize.ShloMosaic

namespace Cert.NormRow

open Cert.GateReals

variable (x e : Fin 1024 → EReal)

/-- The mean square of a row, and the small constant. -/
def ms : EReal := Ideal.div (∑ k, x k * x k) (Ideal.ofBits .f32 0x44800000#32) + Ideal.ofBits .f32 0x358637BD#32
/-- The factor that normalises a row. -/
def rs : EReal := Ideal.rsqrt (ms x)
/-- The normalised row. -/
def nx (l : Fin 1024) : EReal := x l * rs x
/-- The gradient of a row in closed form, of the gradient `e` of the normalised row. -/
def closed (l : Fin 1024) : EReal :=
  rs x * (e l - nx x l * Ideal.div (∑ k, e k * nx x k) (Ideal.ofBits .f32 0x44800000#32))
/-- The gradient of the mean square, by the chain rule. -/
def through : EReal :=
  Ideal.div ((∑ k, x k * e k) * (Ideal.ofBits .f32 0xBF000000#32 * Ideal.div (rs x) (ms x))) (Ideal.ofBits .f32 0x44800000#32)
/-- The gradient of a row by the chain rule. -/
def chained (l : Fin 1024) : EReal := e l * rs x + x l * through x e + through x e * x l

/-- The two agree on a row of real numbers. -/
theorem chained_eq (hx : ∀ k, ∃ r : ℝ, x k = r) (he : ∀ k, ∃ r : ℝ, e k = r) (l : Fin 1024) : chained x e l = closed x e l := by
  choose a ha using hx
  choose b hb using he
  have h1024 : (1024 : ℝ) ≠ 0 := by norm_num
  have pos : 0 < (∑ k, a k * a k) / 1024 + 8796093 / 8796093022208 := by
    have h : 0 ≤ (∑ k, a k * a k) / 1024 := div_nonneg (Finset.sum_nonneg fun k _ => mul_self_nonneg _) (by norm_num)
    linarith [show (0 : ℝ) < 8796093 / 8796093022208 by norm_num]
  have hm : ms x = (((∑ k, a k * a k) / 1024 + 8796093 / 8796093022208 : ℝ) : EReal) := by
    simp only [ms, ha, c_width, c_eps, ← EReal.coe_mul, ← EReal.coe_add, sum_coe, div_coe _ h1024]
  generalize hM : (∑ k, a k * a k) / 1024 + 8796093 / 8796093022208 = M at hm pos
  have hr : rs x = (((√M)⁻¹ : ℝ) : EReal) := by
    rw [rs, hm]
    exact rsqrt_coe pos
  have hsq : (√M)⁻¹ * (√M)⁻¹ = 1 / M := by
    rw [← mul_inv, Real.mul_self_sqrt pos.le, one_div]
  generalize (√M)⁻¹ = p at hr hsq
  have hn : ∀ k, nx x k = ((a k * p : ℝ) : EReal) := fun k => by rw [nx, ha, hr, EReal.coe_mul]
  have hs : (∑ k, b k * (a k * p)) = p * ∑ k, a k * b k := by
    rw [Finset.mul_sum]
    exact Finset.sum_congr rfl fun k _ => by ring
  simp only [chained, closed, through, hn, hr, hm, ha, hb, c_width, c_mhalf, ← EReal.coe_mul, ← EReal.coe_add, ← EReal.coe_sub, sum_coe,
    div_coe _ h1024, div_coe _ pos.ne']
  rw [hs]
  refine congrArg _ ?_
  have e3 : p / M = p * (p * p) := by rw [hsq]; ring
  rw [e3]
  ring

/-! ## Eight rows of column sums -/

/-- Eight rows, each added in its place. -/
theorem stacked (a : Fin 8) (s0 s1 s2 s3 s4 s5 s6 : EReal) :
    0 + (if a = 0 then s0 else 0) + (if a = 1 then s1 else 0) + (if a = 2 then s2 else 0) + (if a = 3 then s3 else 0)
      + (if a = 4 then s4 else 0) + (if a = 5 then s5 else 0) + (if a = 6 then s6 else 0)
      = (![s0, s1, s2, s3, s4, s5, s6, 0] : Fin 8 → EReal) a := by
  fin_cases a <;> simp

/-- Sums of rows, row by row. -/
theorem sums {ι κ : Type} [Fintype ι] (h : ι → κ) (a : Fin 8) (f0 f1 f2 f3 f4 f5 f6 : κ → EReal) :
    ∑ q, (![f0, f1, f2, f3, f4, f5, f6, fun _ => 0] : Fin 8 → κ → EReal) a (h q)
      = (![∑ q, f0 (h q), ∑ q, f1 (h q), ∑ q, f2 (h q), ∑ q, f3 (h q), ∑ q, f4 (h q), ∑ q, f5 (h q), ∑ q, f6 (h q), 0] : Fin 8 → EReal) a := by
  fin_cases a <;> simp

end Cert.NormRow

end
-- ==== Proof.NormRef.lean ====
/- What the reference of the modulated norm's gradient computes, row by row and column by column. -/
module

public import proofs.«01_k».proof.Proof.Seqs
public import proofs.«01_k».proof.Proof.NormRow
public import proofs.«01_k».proof.Proof.Gen.NormRefIdeal.Read
public import Idealize.ShloMosaic.Lib.Pointwise
public import Idealize.ShloMosaic.Lib.Claim

@[expose] public section

set_option maxRecDepth 16384

noncomputable section

open Idealize.ShloMosaic

namespace Cert.NormRef

open Cert.Seqs Cert.NormRow
open Cert.NormRefIdeal Cert.NormRefIdeal.Read

/-- A row of the first sequence. -/
def lo (k : Fin 8192) : Fin 8448 := ⟨k.val, by omega⟩
/-- A row of the second sequence. -/
def hi (k : Fin 256) : Fin 8448 := ⟨8192 + k.val, by omega⟩

section Values
variable (x dh dres b : Fin 8448 → Fin 1024 → EReal) (g : Fin 1024 → EReal) (mo : Fin 8 → Fin 6144 → EReal)

/-- A part of the modulation at a row: of the first row of `mo` for the first sequence, of the second for the second. -/
def part (n : Nat) (hn : n ≤ 5120) (r : Fin 8448) (l : Fin 1024) : EReal :=
  if r.val < 8192 then mo 0 ⟨n + l.val, by omega⟩ else mo 1 ⟨n + l.val, by omega⟩
/-- The gradient at the scaled norm. -/
def ee (r : Fin 8448) (l : Fin 1024) : EReal := dh r l * (1 + part mo 4096 (by decide) r l)
/-- The gradient at the rows, by the chain rule. -/
def dxr (r : Fin 8448) (l : Fin 1024) : EReal := dres r l + chained (x r) (fun j => ee dh mo r j * g j) l
/-- The gradient at the rows, in closed form. -/
def dx (r : Fin 8448) (l : Fin 1024) : EReal := dres r l + closed (x r) (fun j => ee dh mo r j * g j) l

/-- What a row adds to each of the eight rows of column sums, `z` being the gradient at the rows. -/
def stat (z : Fin 8448 → Fin 1024 → EReal) (l : Fin 1024) : Fin 8 → Fin 8448 → EReal :=
  ![lat fun r => dh r l, ctx fun r => dh r l, lat fun r => dh r l * (nx (x r) l * g l), ctx fun r => dh r l * (nx (x r) l * g l),
    fun r => ee dh mo r l * nx (x r) l, lat fun r => z r l * b r l, ctx fun r => z r l * b r l, fun _ => 0]

/-- The part of the modulation at a row of the first sequence. -/
theorem part_lo (n : Nat) (hn : n ≤ 5120) (k : Fin 8192) (l : Fin 1024) : part mo n hn (lo k) l = mo 0 ⟨n + l.val, by omega⟩ := if_pos k.isLt
/-- The part of the modulation at a row of the second sequence. -/
theorem part_hi (n : Nat) (hn : n ≤ 5120) (k : Fin 256) (l : Fin 1024) : part mo n hn (hi k) l = mo 1 ⟨n + l.val, by omega⟩ :=
  if_neg (by simp only [hi]; omega)
end Values

/-- A value of a row of either sequence. -/
theorem either {f : Fin 8448 → EReal} (r : Fin 8448) {u : r.val < 8192 → EReal} {v : ¬r.val < 8192 → EReal}
    (hu : ∀ h, u h = f (lo ⟨r.val, h⟩)) (hv : ∀ h, v h = f (hi ⟨r.val - 8192, by omega⟩)) :
    (if h : r.val < 8192 then u h else v h) = f r := by
  by_cases h : r.val < 8192
  · rw [dif_pos h, hu]; rfl
  · rw [dif_neg h, hv]
    exact congrArg f (Fin.ext (by simp only [hi]; omega))

/-- One of eight rows joined one under the other. -/
theorem picked (a : Fin 8) (s0 s1 s2 s3 s4 s5 s6 s7 : EReal) :
    (if a.val < 1 then s0 else if a.val - 1 < 1 then s1 else if a.val - 1 - 1 < 1 then s2 else if a.val - 1 - 1 - 1 < 1 then s3
      else if a.val - 1 - 1 - 1 - 1 < 1 then s4 else if a.val - 1 - 1 - 1 - 1 - 1 < 1 then s5
      else if a.val - 1 - 1 - 1 - 1 - 1 - 1 < 1 then s6 else s7)
      = (![s0, s1, s2, s3, s4, s5, s6, s7] : Fin 8 → EReal) a := by
  fin_cases a <;> simp

variable (x0 x1 x2 x3 : (⟨S8448x1024, .f32⟩ : BufTy).Contents (Elt Ideal)) (x4 : (⟨S1024, .f32⟩ : BufTy).Contents (Elt Ideal))
  (x5 : (⟨S8x6144, .f32⟩ : BufTy).Contents (Elt Ideal))

/-! ### The first sequence -/

/-- The gradient at a row. -/
theorem lo62 (k : Fin 8192) (l : Fin 1024) :
    val_main_v62 (F := Ideal) x0 x1 x2 x4 x5 (ix2 k l) = dxr (fun r l => x0 (ix2 r l)) (fun r l => x1 (ix2 r l)) (fun r l => x2 (ix2 r l)) (fun l => x4 (ix1 l)) (fun a l => x5 (ix2 a l)) (lo k) l := by
  simp only [dxr, ee, part_lo]
  pointwise [val_main_v62, val_main_v61, val_main_v60, val_main_v59, val_main_v58, val_main_v57, val_main_v56, val_main_v55, val_main_v54, val_main_v53, val_main_v52, val_main_v51, val_main_v50, val_main_v49, val_main_v48, val_main_v46, val_main_v45, val_main_v40, val_main_v39, val_main_v27, val_main_v22, val_main_v19, val_main_v18, val_main_v17, val_main_v9, val_main_v10, val_main_v11, val_main_v12, val_main_v13, val_main_v14, val_main_v15, val_main_v16, val_main_v0, val_main_cst, val_main_cst_0, val_main_cst_1, val_main_v26, val_main_v25, val_main_v8, val_main_v4, val_main_v5, val_main_cst_3, val_main_v1, val_main_v2, val_main_cst_2, val_main_cst_10, val_main_cst_11, val_main_cst_12]
  simp only [Finset.univ_unique, Finset.sum_singleton]
  rfl
/-- The sum of the incoming gradient. -/
theorem lo35 (l : Fin 1024) : val_main_v35 (F := Ideal) x1 (ix1 l) = ∑ k, x1 (ix2 (lo k) l) := by
  pointwise [val_main_v35, val_main_v34, val_main_v33, val_main_v1, val_main_cst_4, val_main_cst_5]
  simp only [Finset.univ_unique, Finset.sum_singleton]
  rfl
/-- The sum that is the scale's gradient. -/
theorem lo41 (l : Fin 1024) :
    val_main_v41 (F := Ideal) x0 x1 x4 (ix1 l) = ∑ k, x1 (ix2 (lo k) l) * (nx (fun j => x0 (ix2 (lo k) j)) l * x4 (ix1 l)) := by
  pointwise [val_main_v41, val_main_v38, val_main_v37, val_main_v36, val_main_v24, val_main_v23, val_main_v22, val_main_v21, val_main_v20, val_main_v9, val_main_v10, val_main_v11, val_main_v12, val_main_v13, val_main_v14, val_main_v15, val_main_v16, val_main_v0, val_main_cst, val_main_cst_0, val_main_cst_1, val_main_v1, val_main_cst_6, val_main_cst_7]
  simp only [Finset.univ_unique, Finset.sum_singleton]
  exact Finset.sum_congr rfl fun k _ => mul_comm _ _
/-- The sum that is the norm's own scale's gradient. -/
theorem lo47 (l : Fin 1024) :
    val_main_v47 (F := Ideal) x0 x1 x5 (ix1 l) = ∑ k, ee (fun r l => x1 (ix2 r l)) (fun a l => x5 (ix2 a l)) (lo k) l * nx (fun j => x0 (ix2 (lo k) j)) l := by
  simp only [ee, part_lo]
  pointwise [val_main_v47, val_main_v44, val_main_v43, val_main_v42, val_main_v40, val_main_v39, val_main_v27, val_main_v21, val_main_v20, val_main_v9, val_main_v10, val_main_v11, val_main_v12, val_main_v13, val_main_v14, val_main_v15, val_main_v16, val_main_v0, val_main_cst, val_main_cst_0, val_main_cst_1, val_main_v26, val_main_v25, val_main_v8, val_main_v4, val_main_v5, val_main_cst_3, val_main_v1, val_main_cst_8, val_main_cst_9]
  simp only [Finset.univ_unique, Finset.sum_singleton]
  exact Finset.sum_congr rfl fun k _ => mul_comm _ _
/-- The sum that is the gate's gradient. -/
theorem lo71 (l : Fin 1024) :
    val_main_v71 (F := Ideal) x0 x1 x2 x3 x4 x5 (ix1 l) = ∑ k, dxr (fun r l => x0 (ix2 r l)) (fun r l => x1 (ix2 r l)) (fun r l => x2 (ix2 r l)) (fun l => x4 (ix1 l)) (fun a l => x5 (ix2 a l)) (lo k) l * x3 (ix2 (lo k) l) := by
  simp only [← lo62]
  pointwise [val_main_v71, val_main_v70, val_main_v69, val_main_v68, val_main_v3, val_main_cst_13, val_main_cst_14]
  simp only [Finset.univ_unique, Finset.sum_singleton]
  rfl
/-- The gradient at the branch before the norm. -/
theorem lo67 (k : Fin 8192) (l : Fin 1024) :
    val_main_v67 (F := Ideal) x0 x1 x2 x4 x5 (ix2 k l) = dxr (fun r l => x0 (ix2 r l)) (fun r l => x1 (ix2 r l)) (fun r l => x2 (ix2 r l)) (fun l => x4 (ix1 l)) (fun a l => x5 (ix2 a l)) (lo k) l * part (fun a l => x5 (ix2 a l)) 2048 (by decide) (lo k) l := by
  rw [part_lo, ← lo62]
  pointwise [val_main_v67, val_main_v66, val_main_v63, val_main_v6, val_main_v4, val_main_v5]
  exact mul_comm _ _

/-! ### The second sequence -/

/-- The gradient at a row. -/
theorem hi62 (k : Fin 256) (l : Fin 1024) :
    val_main_v134 (F := Ideal) x0 x1 x2 x4 x5 (ix2 k l) = dxr (fun r l => x0 (ix2 r l)) (fun r l => x1 (ix2 r l)) (fun r l => x2 (ix2 r l)) (fun l => x4 (ix1 l)) (fun a l => x5 (ix2 a l)) (hi k) l := by
  simp only [dxr, ee, part_hi]
  pointwise [val_main_v134, val_main_v133, val_main_v132, val_main_v131, val_main_v130, val_main_v129, val_main_v128, val_main_v127, val_main_v126, val_main_v125, val_main_v124, val_main_v123, val_main_v122, val_main_v121, val_main_v120, val_main_v118, val_main_v117, val_main_v112, val_main_v111, val_main_v99, val_main_v94, val_main_v91, val_main_v90, val_main_v89, val_main_v81, val_main_v82, val_main_v83, val_main_v84, val_main_v85, val_main_v86, val_main_v87, val_main_v88, val_main_v72, val_main_cst_15, val_main_cst_16, val_main_cst_17, val_main_v98, val_main_v97, val_main_v80, val_main_v76, val_main_v77, val_main_cst_19, val_main_v73, val_main_v74, val_main_cst_18, val_main_cst_26, val_main_cst_27, val_main_cst_28]
  simp only [Finset.univ_unique, Finset.sum_singleton]
  rfl
/-- The sum of the incoming gradient. -/
theorem hi35 (l : Fin 1024) : val_main_v107 (F := Ideal) x1 (ix1 l) = ∑ k, x1 (ix2 (hi k) l) := by
  pointwise [val_main_v107, val_main_v106, val_main_v105, val_main_v73, val_main_cst_20, val_main_cst_21]
  simp only [Finset.univ_unique, Finset.sum_singleton]
  rfl
/-- The sum that is the scale's gradient. -/
theorem hi41 (l : Fin 1024) :
    val_main_v113 (F := Ideal) x0 x1 x4 (ix1 l) = ∑ k, x1 (ix2 (hi k) l) * (nx (fun j => x0 (ix2 (hi k) j)) l * x4 (ix1 l)) := by
  pointwise [val_main_v113, val_main_v110, val_main_v109, val_main_v108, val_main_v96, val_main_v95, val_main_v94, val_main_v93, val_main_v92, val_main_v81, val_main_v82, val_main_v83, val_main_v84, val_main_v85, val_main_v86, val_main_v87, val_main_v88, val_main_v72, val_main_cst_15, val_main_cst_16, val_main_cst_17, val_main_v73, val_main_cst_22, val_main_cst_23]
  simp only [Finset.univ_unique, Finset.sum_singleton]
  exact Finset.sum_congr rfl fun k _ => mul_comm _ _
/-- The sum that is the norm's own scale's gradient. -/
theorem hi47 (l : Fin 1024) :
    val_main_v119 (F := Ideal) x0 x1 x5 (ix1 l) = ∑ k, ee (fun r l => x1 (ix2 r l)) (fun a l => x5 (ix2 a l)) (hi k) l * nx (fun j => x0 (ix2 (hi k) j)) l := by
  simp only [ee, part_hi]
  pointwise [val_main_v119, val_main_v116, val_main_v115, val_main_v114, val_main_v112, val_main_v111, val_main_v99, val_main_v93, val_main_v92, val_main_v81, val_main_v82, val_main_v83, val_main_v84, val_main_v85, val_main_v86, val_main_v87, val_main_v88, val_main_v72, val_main_cst_15, val_main_cst_16, val_main_cst_17, val_main_v98, val_main_v97, val_main_v80, val_main_v76, val_main_v77, val_main_cst_19, val_main_v73, val_main_cst_24, val_main_cst_25]
  simp only [Finset.univ_unique, Finset.sum_singleton]
  exact Finset.sum_congr rfl fun k _ => mul_comm _ _
/-- The sum that is the gate's gradient. -/
theorem hi71 (l : Fin 1024) :
    val_main_v143 (F := Ideal) x0 x1 x2 x3 x4 x5 (ix1 l) = ∑ k, dxr (fun r l => x0 (ix2 r l)) (fun r l => x1 (ix2 r l)) (fun r l => x2 (ix2 r l)) (fun l => x4 (ix1 l)) (fun a l => x5 (ix2 a l)) (hi k) l * x3 (ix2 (hi k) l) := by
  simp only [← hi62]
  pointwise [val_main_v143, val_main_v142, val_main_v141, val_main_v140, val_main_v75, val_main_cst_29, val_main_cst_30]
  simp only [Finset.univ_unique, Finset.sum_singleton]
  rfl
/-- The gradient at the branch before the norm. -/
theorem hi67 (k : Fin 256) (l : Fin 1024) :
    val_main_v139 (F := Ideal) x0 x1 x2 x4 x5 (ix2 k l) = dxr (fun r l => x0 (ix2 r l)) (fun r l => x1 (ix2 r l)) (fun r l => x2 (ix2 r l)) (fun l => x4 (ix1 l)) (fun a l => x5 (ix2 a l)) (hi k) l * part (fun a l => x5 (ix2 a l)) 2048 (by decide) (hi k) l := by
  rw [part_hi, ← hi62]
  pointwise [val_main_v139, val_main_v138, val_main_v135, val_main_v78, val_main_v76, val_main_v77]
  exact mul_comm _ _

/-! ### The three results -/

variable (h0 : ∀ r l, ∃ y : ℝ, x0 (ix2 r l) = (y : EReal)) (h1 : ∀ r l, ∃ y : ℝ, x1 (ix2 r l) = (y : EReal))
  (h4 : ∀ l, ∃ y : ℝ, x4 (ix1 l) = (y : EReal)) (h5 : ∀ a l, ∃ y : ℝ, x5 (ix2 a l) = (y : EReal))
include h0 h1 h4 h5

/-- Of real arguments the two forms of the rows' gradient agree. -/
theorem dxr_eq (r : Fin 8448) (l : Fin 1024) : dxr (fun r l => x0 (ix2 r l)) (fun r l => x1 (ix2 r l)) (fun r l => x2 (ix2 r l)) (fun l => x4 (ix1 l)) (fun a l => x5 (ix2 a l)) r l = dx (fun r l => x0 (ix2 r l)) (fun r l => x1 (ix2 r l)) (fun r l => x2 (ix2 r l)) (fun l => x4 (ix1 l)) (fun a l => x5 (ix2 a l)) r l := by
  refine congrArg _ (chained_eq _ _ (fun k => h0 r k) (fun k => ?_) l)
  obtain ⟨a, ha⟩ := h1 r k
  obtain ⟨b, hb⟩ := h4 k
  obtain ⟨s, hs⟩ : ∃ y : ℝ, part (fun a l => x5 (ix2 a l)) 4096 (by decide) r k = (y : EReal) := by
    unfold part
    by_cases h : r.val < 8192
    · rw [if_pos h]; exact h5 0 _
    · rw [if_neg h]; exact h5 1 _
  refine ⟨a * (1 + s) * b, ?_⟩
  simp only [ee, hs, ha, hb, ← EReal.coe_one, ← EReal.coe_mul, ← EReal.coe_add]

/-- The gradient at the rows. -/
theorem r146 (r : Fin 8448) (l : Fin 1024) :
    val_main_v146 (F := Ideal) x0 x1 x2 x4 x5 (ix2 r l) = dx (fun r l => x0 (ix2 r l)) (fun r l => x1 (ix2 r l)) (fun r l => x2 (ix2 r l)) (fun l => x4 (ix1 l)) (fun a l => x5 (ix2 a l)) r l := by
  rw [← dxr_eq x0 x1 x2 x4 x5 h0 h1 h4 h5]
  pointwise [val_main_v146]
  exact either (f := fun r => dxr (fun r l => x0 (ix2 r l)) (fun r l => x1 (ix2 r l)) (fun r l => x2 (ix2 r l)) (fun l => x4 (ix1 l)) (fun a l => x5 (ix2 a l)) r l) r (fun h => lo62 ..) (fun h => hi62 ..)

/-- The gradient at the branch before the norm. -/
theorem r157 (r : Fin 8448) (l : Fin 1024) :
    val_main_v157 (F := Ideal) x0 x1 x2 x4 x5 (ix2 r l) = dx (fun r l => x0 (ix2 r l)) (fun r l => x1 (ix2 r l)) (fun r l => x2 (ix2 r l)) (fun l => x4 (ix1 l)) (fun a l => x5 (ix2 a l)) r l * part (fun a l => x5 (ix2 a l)) 2048 (by decide) r l := by
  rw [← dxr_eq x0 x1 x2 x4 x5 h0 h1 h4 h5]
  pointwise [val_main_v157, val_main_v156]
  exact either (f := fun r => dxr (fun r l => x0 (ix2 r l)) (fun r l => x1 (ix2 r l)) (fun r l => x2 (ix2 r l)) (fun l => x4 (ix1 l)) (fun a l => x5 (ix2 a l)) r l * part (fun a l => x5 (ix2 a l)) 2048 (by decide) r l) r (fun h => lo67 ..) (fun h => hi67 ..)

/-- The eight rows of column sums. -/
theorem r155 (a : Fin 8) (l : Fin 1024) :
    val_main_v155 (F := Ideal) x0 x1 x2 x3 x4 x5 (ix2 a l) = ∑ r, stat (fun r l => x0 (ix2 r l)) (fun r l => x1 (ix2 r l)) (fun r l => x3 (ix2 r l)) (fun l => x4 (ix1 l)) (fun a l => x5 (ix2 a l)) (dx (fun r l => x0 (ix2 r l)) (fun r l => x1 (ix2 r l)) (fun r l => x2 (ix2 r l)) (fun l => x4 (ix1 l)) (fun a l => x5 (ix2 a l))) l a r := by
  have hz : dx (fun r l => x0 (ix2 r l)) (fun r l => x1 (ix2 r l)) (fun r l => x2 (ix2 r l)) (fun l => x4 (ix1 l)) (fun a l => x5 (ix2 a l)) = dxr (fun r l => x0 (ix2 r l)) (fun r l => x1 (ix2 r l)) (fun r l => x2 (ix2 r l)) (fun l => x4 (ix1 l)) (fun a l => x5 (ix2 a l)) :=
    funext fun r => funext fun l => (dxr_eq x0 x1 x2 x4 x5 h0 h1 h4 h5 r l).symm
  rw [hz]
  refine Eq.trans ?_ (sums (fun r => r) a _ _ _ _ _ _ _).symm
  rw [sum_lat, sum_ctx, sum_lat, sum_ctx, sum_two, sum_lat, sum_ctx]
  pointwise [val_main_v155, val_main_v154, val_main_v153, val_main_v152, val_main_v151, val_main_v150, val_main_v149, val_main_v148, val_main_v147, val_main_v145, val_main_v144, val_main_cst_31]
  rw [lo35, lo41, lo47, lo71, hi35, hi41, hi47, hi71]
  exact picked ..

end Cert.NormRef

end
-- ==== Proof.NormValue.lean ====
/- What the kernel of the modulated norm's gradient leaves: the three arrays its reference returns. -/
module

public import proofs.«01_k».proof.Defs
public import proofs.«01_k».proof.Proof.GateValue
public import proofs.«01_k».proof.Proof.NormRef
public import proofs.«01_k».proof.Proof.Gen.NormIdeal.Frame
public import proofs.«01_k».proof.Proof.Gen.Pre_norm_finite
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.NormIdeal.Lift

open Cert.NormIdeal Cert.NormIdeal.Gen Cert.Seqs Cert.NormRow
open Cert.NormRef (part ee dx stat)

/-! ## One block of rows -/

section Block
variable {x dh dres b : Fin 8448 → Fin 1024 → EReal} {g : Fin 1024 → EReal} {mo : Fin 8 → Fin 6144 → EReal}
variable {i : grid0.Coords} {t : Fin 33} {v2 v3 v25 v60 : Vec Ideal S256x1024 .f32} {v4 v16 v17 v53 v54 : Vec Ideal S1x1024 .f32}

/-- The two rows of the modulation, chosen by the block. -/
theorem part_row (n : Nat) (hn : n ≤ 5120) (t : Fin 33) (q : Fin 256) (l : Fin 1024) :
    (if t.val = 32 then mo 1 ⟨n + l.val, by omega⟩ else mo 0 ⟨n + l.val, by omega⟩) = part mo n hn (row t q) l := by
  unfold part
  by_cases h : t.val = 32
  · rw [if_pos h, if_neg (by simp only [row]; omega)]
  · rw [if_neg h, if_pos (by simp only [row]; omega)]

/-- The factor that normalises a row. -/
theorem pay3_at (h3 : ∀ q l, v3 (ix2 q l) = x (row t q) l) (q : Fin 256) : k0_pay3 (F := Ideal) v3 (ix2 q 0) = rs (x (row t q)) := by
  pointwise [k0_pay3]
  simp only [h3]
  rfl
/-- The normalised rows. -/
theorem pay4_at (h3 : ∀ q l, v3 (ix2 q l) = x (row t q) l) (q : Fin 256) (l : Fin 1024) :
    k0_pay4 (F := Ideal) v3 (ix2 q l) = nx (x (row t q)) l := by
  pointwise [k0_pay4]
  rw [pay3_at h3, h3]
  rfl
/-- The gradient at the scaled norm. -/
theorem pay5_at (hi : (i 0).val = t.val) (h2 : ∀ q l, v2 (ix2 q l) = dh (row t q) l)
    (h16 : ∀ l : Fin 1024, v16 (ix2 0 l) = mo 1 ⟨4096 + l.val, by omega⟩) (h17 : ∀ l : Fin 1024, v17 (ix2 0 l) = mo 0 ⟨4096 + l.val, by omega⟩) (q : Fin 256) (l : Fin 1024) :
    k0_pay5 (F := Ideal) i v2 v16 v17 (ix2 q l) = ee dh mo (row t q) l := by
  pointwise [k0_pay5]
  rw [cond_ctx hi, sel, h2, h16, h17, part_row 4096 (by decide) t q l]
  rfl
/-- The gradient at the rows. -/
theorem pay6_at (hi : (i 0).val = t.val) (h2 : ∀ q l, v2 (ix2 q l) = dh (row t q) l) (h3 : ∀ q l, v3 (ix2 q l) = x (row t q) l)
    (h4 : ∀ l, v4 (ix2 0 l) = g l)
    (h16 : ∀ l : Fin 1024, v16 (ix2 0 l) = mo 1 ⟨4096 + l.val, by omega⟩) (h17 : ∀ l : Fin 1024, v17 (ix2 0 l) = mo 0 ⟨4096 + l.val, by omega⟩)
    (h25 : ∀ q l, v25 (ix2 q l) = dres (row t q) l) (q : Fin 256) (l : Fin 1024) :
    k0_pay6 (F := Ideal) i v2 v3 v4 v16 v17 v25 (ix2 q l) = dx x dh dres g mo (row t q) l := by
  pointwise [k0_pay6, k0_pay2]
  simp only [pay3_at h3, pay4_at h3, pay5_at hi h2 h16 h17, h4, h25]
  rfl
/-- The gradient at the branch before the norm. -/
theorem pay14_at {v36 : FVec Ideal S256x1024 .f32} {z : Fin 8448 → Fin 1024 → EReal} (hi : (i 0).val = t.val) (h36 : ∀ q l, v36 (ix2 q l) = z (row t q) l)
    (h53 : ∀ l : Fin 1024, v53 (ix2 0 l) = mo 1 ⟨2048 + l.val, by omega⟩) (h54 : ∀ l : Fin 1024, v54 (ix2 0 l) = mo 0 ⟨2048 + l.val, by omega⟩) (q : Fin 256) (l : Fin 1024) :
    k0_pay14 (F := Ideal) (Scalar.cmpi .sge (Scalar.muli (BitVec.ofNat 32 (i 0).val) 256#32) 8192#32) v36 v53 v54 (ix2 q l)
      = z (row t q) l * part mo 2048 (by decide) (row t q) l := by
  pointwise [k0_pay14]
  rw [cond_ctx hi, sel, h36, h53, h54, part_row 2048 (by decide) t q l]

/-- A block's column sums. -/
theorem pay20_at {v36 : FVec Ideal S256x1024 .f32} {z : Fin 8448 → Fin 1024 → EReal} (hi : (i 0).val = t.val)
    (h2 : ∀ q l, v2 (ix2 q l) = dh (row t q) l) (h3 : ∀ q l, v3 (ix2 q l) = x (row t q) l) (h4 : ∀ l, v4 (ix2 0 l) = g l)
    (h16 : ∀ l : Fin 1024, v16 (ix2 0 l) = mo 1 ⟨4096 + l.val, by omega⟩) (h17 : ∀ l : Fin 1024, v17 (ix2 0 l) = mo 0 ⟨4096 + l.val, by omega⟩)
    (h36 : ∀ q l, v36 (ix2 q l) = z (row t q) l) (h60 : ∀ q l, v60 (ix2 q l) = b (row t q) l) (a : Fin 8) (l : Fin 1024) :
    k0_pay20 (F := Ideal) (k0_pay9 (F := Ideal) (k0_pay4 (F := Ideal) v3) (k0_pay5 (F := Ideal) i v2 v16 v17))
        (k0_pay11 (F := Ideal) (Scalar.cmpi .sge (Scalar.muli (BitVec.ofNat 32 (i 0).val) 256#32) 8192#32) v2)
        (k0_pay12 (F := Ideal) (Scalar.cmpi .sge (Scalar.muli (BitVec.ofNat 32 (i 0).val) 256#32) 8192#32) v2 (k0_pay2 (F := Ideal) v4) (k0_pay4 (F := Ideal) v3))
        (k0_pay13 (F := Ideal) (Scalar.cmpi .sge (Scalar.muli (BitVec.ofNat 32 (i 0).val) 256#32) 8192#32) v2 (k0_pay2 (F := Ideal) v4) (k0_pay4 (F := Ideal) v3))
        (k0_pay16 (F := Ideal) (Scalar.cmpi .sge (Scalar.muli (BitVec.ofNat 32 (i 0).val) 256#32) 8192#32) v36 v60)
        (k0_pay17 (F := Ideal) (Scalar.cmpi .sge (Scalar.muli (BitVec.ofNat 32 (i 0).val) 256#32) 8192#32) v36 v60)
        (iota .tc S8x1024 32 [0] iota_S8x1024_d0_w32)
        (k0_pay18 (F := Ideal) (Scalar.cmpi .sge (Scalar.muli (BitVec.ofNat 32 (i 0).val) 256#32) 8192#32) v2) k0_pay19
        (Scalar.ofBits .f32 0x00000000#32) (ix2 a l)
      = ∑ q, stat x dh b g mo z l a (row t q) := by
  refine Eq.trans ?_ (sums (row t) a _ _ _ _ _ _ _).symm
  rw [← stacked, lat_block, ctx_block, lat_block, ctx_block, lat_block, ctx_block]
  pointwise [k0_pay20, k0_pay9, k0_pay11, k0_pay12, k0_pay13, k0_pay16, k0_pay17, k0_pay18, k0_pay19, k0_pay10, k0_pay7, k0_pay8, k0_pay15, k0_pay2]
  have c : ∀ b : Fin 8, IntOp.cmpi .eq (BitVec.ofNat 32 a.val) (BitVec.ofNat 32 b.val) = if a = b then 1#1 else 0#1 := cond_eight a
  have c0 : IntOp.cmpi .eq (BitVec.ofNat 32 a.val) 0#32 = if a = 0 then 1#1 else 0#1 := c 0
  have c1 : IntOp.cmpi .eq (BitVec.ofNat 32 a.val) 1#32 = if a = 1 then 1#1 else 0#1 := c 1
  have c2 : IntOp.cmpi .eq (BitVec.ofNat 32 a.val) 2#32 = if a = 2 then 1#1 else 0#1 := c 2
  have c3 : IntOp.cmpi .eq (BitVec.ofNat 32 a.val) 3#32 = if a = 3 then 1#1 else 0#1 := c 3
  have c4 : IntOp.cmpi .eq (BitVec.ofNat 32 a.val) 4#32 = if a = 4 then 1#1 else 0#1 := c 4
  have c5 : IntOp.cmpi .eq (BitVec.ofNat 32 a.val) 5#32 = if a = 5 then 1#1 else 0#1 := c 5
  have c6 : IntOp.cmpi .eq (BitVec.ofNat 32 a.val) 6#32 = if a = 6 then 1#1 else 0#1 := c 6
  simp only [cond_ctx hi, sel, c0, c1, c2, c3, c4, c5, c6, pay4_at h3, pay5_at hi h2 h16 h17, h2, h4, h36, h60]
end Block

/-! ## The arrays -/

variable {m : (ℓ : Loc nD τ sig) → Buf (Elt Ideal) ℓ} {c : Dev nD}

/-- Which block each window is on at a grid point. -/
theorem idx : ∀ t : Fin cfg0.N,
    win0_0.index t = ![t.val, 0] ∧ win0_1.index t = ![t.val, 0] ∧ win0_2.index t = ![0, 0] ∧ win0_3.index t = ![0, 0] ∧ win0_4.index t = ![t.val, 0]
      ∧ win0_5.index t = ![t.val, 0] ∧ win0_6.index t = ![t.val, 0] ∧ win0_7.index t = ![0, 0] ∧ win0_8.index t = ![t.val, 0] :=
  (by decide +kernel : ∀ t : Fin grid0.N, _)

/-- The grid's coordinate is the point. -/
theorem coord : ∀ t : Fin cfg0.N, (grid0.coords t 0).val = t.val :=
  (by decide +kernel : ∀ t : Fin grid0.N, _)

variable (m c) in
/-- The rows. -/
def xa (r : Fin 8448) (l : Fin 1024) : EReal := m ((c.tc : Thread nD τ).loc main_arg0) (ix2 r l)
variable (m c) in
/-- The gradient that comes in. -/
def da (r : Fin 8448) (l : Fin 1024) : EReal := m ((c.tc : Thread nD τ).loc main_arg1) (ix2 r l)
variable (m c) in
/-- The gradient that comes in past the norm. -/
def ra (r : Fin 8448) (l : Fin 1024) : EReal := m ((c.tc : Thread nD τ).loc main_arg2) (ix2 r l)
variable (m c) in
/-- The branch before the norm. -/
def ba (r : Fin 8448) (l : Fin 1024) : EReal := m ((c.tc : Thread nD τ).loc main_arg3) (ix2 r l)
variable (m c) in
/-- The norm's scale. -/
def ga (l : Fin 1024) : EReal := m ((c.tc : Thread nD τ).loc main_arg4) (ix1 l)
variable (m c) in
/-- The modulation. -/
def ma (a : Fin 8) (l : Fin 6144) : EReal := m ((c.tc : Thread nD τ).loc main_arg5) (ix2 a l)
variable (m c) in
/-- The gradient at the rows. -/
abbrev za : Fin 8448 → Fin 1024 → EReal := dx (xa m c) (da m c) (ra m c) (ga m c) (ma m c)
variable (m c) in
/-- What a row adds to the column sums. -/
abbrev sa (a : Fin 8) (l : Fin 1024) (r : Fin 8448) : EReal := stat (xa m c) (da m c) (ba m c) (ga m c) (ma m c) (za m c) l a r

/-- A block of the rows. -/
theorem blk0 (t : Fin cfg0.N) (q : Fin 256) (l : Fin 1024) : iblk m c 0 t (ix2 q l) = xa m c (row ⟨t.val, t.isLt⟩ q) l := by
  change _ = m ((c.tc : Thread nD τ).loc main_arg0) (ix2 _ l)
  blk_ext [iblk, V, idx t, row]
/-- A block of the gradient past the norm. -/
theorem blk1 (t : Fin cfg0.N) (q : Fin 256) (l : Fin 1024) : iblk m c 1 t (ix2 q l) = ra m c (row ⟨t.val, t.isLt⟩ q) l := by
  change _ = m ((c.tc : Thread nD τ).loc main_arg2) (ix2 _ l)
  blk_ext [iblk, V, idx t, row]
/-- The norm's scale as a row. -/
theorem V0 (l : Fin 1024) : (V m c main_v0 : FVec Ideal S1x1024 .f32) (ix2 0 l) = ga m c l := by
  entry_read
  pointwise
  rfl
/-- The norm's scale. -/
theorem blk2 (t : Fin cfg0.N) (l : Fin 1024) : iblk m c 2 t (ix2 0 l) = ga m c l := by
  refine Eq.trans ?_ (V0 l)
  blk_ext [iblk, idx t]
/-- The modulation. -/
theorem blk3 (t : Fin cfg0.N) (a : Fin 8) (l : Fin 6144) : iblk m c 3 t (ix2 a l) = ma m c a l := by
  change _ = m ((c.tc : Thread nD τ).loc main_arg5) (ix2 a l)
  blk_ext [iblk, V, idx t]
/-- A block of the gradient that comes in. -/
theorem blk4 (t : Fin cfg0.N) (q : Fin 256) (l : Fin 1024) : iblk m c 4 t (ix2 q l) = da m c (row ⟨t.val, t.isLt⟩ q) l := by
  change _ = m ((c.tc : Thread nD τ).loc main_arg1) (ix2 _ l)
  blk_ext [iblk, V, idx t, row]
/-- A block of the branch before the norm. -/
theorem blk5 (t : Fin cfg0.N) (q : Fin 256) (l : Fin 1024) : iblk m c 5 t (ix2 q l) = ba m c (row ⟨t.val, t.isLt⟩ q) l := by
  change _ = m ((c.tc : Thread nD τ).loc main_arg3) (ix2 _ l)
  blk_ext [iblk, V, idx t, row]

/-- The second sequence's scale. -/
theorem mod1_4096 (t : Fin cfg0.N) (l : Fin 1024) : View.ld (iblk m c 3 t) (Rect.unit ![1, 4096] ![1, 1024] inb_S8x6144_S1x1024_1_4096) (ix2 0 l) = ma m c 1 ⟨4096 + l.val, by omega⟩ := by
  pointwise
  exact blk3 t 1 _
/-- The first sequence's scale. -/
theorem mod0_4096 (t : Fin cfg0.N) (l : Fin 1024) : View.ld (iblk m c 3 t) (Rect.unit ![0, 4096] ![1, 1024] inb_S8x6144_S1x1024_0_4096) (ix2 0 l) = ma m c 0 ⟨4096 + l.val, by omega⟩ := by
  pointwise
  exact blk3 t 0 _
/-- The second sequence's gate. -/
theorem mod1_2048 (t : Fin cfg0.N) (l : Fin 1024) : View.ld (iblk m c 3 t) (Rect.unit ![1, 2048] ![1, 1024] inb_S8x6144_S1x1024_1_2048) (ix2 0 l) = ma m c 1 ⟨2048 + l.val, by omega⟩ := by
  pointwise
  exact blk3 t 1 _
/-- The first sequence's gate. -/
theorem mod0_2048 (t : Fin cfg0.N) (l : Fin 1024) : View.ld (iblk m c 3 t) (Rect.unit ![0, 2048] ![1, 1024] inb_S8x6144_S1x1024_0_2048) (ix2 0 l) = ma m c 0 ⟨2048 + l.val, by omega⟩ := by
  pointwise
  exact blk3 t 0 _

/-- The rows' gradient of a block. -/
theorem z_at (t : Fin cfg0.N) (q : Fin 256) (l : Fin 1024) :
    k0_pay6 (F := Ideal) (grid0.coords t) (iblk m c 4 t) (iblk m c 0 t) (iblk m c 2 t) (View.ld (iblk m c 3 t) (Rect.unit ![1, 4096] ![1, 1024] inb_S8x6144_S1x1024_1_4096)) (View.ld (iblk m c 3 t) (Rect.unit ![0, 4096] ![1, 1024] inb_S8x6144_S1x1024_0_4096)) (iblk m c 1 t) (ix2 q l)
      = za m c (row ⟨t.val, t.isLt⟩ q) l :=
  pay6_at (t := ⟨t.val, t.isLt⟩) (coord t) (blk4 t) (blk0 t) (blk2 t) (mod1_4096 t) (mod0_4096 t) (blk1 t) q l

/-- What a point leaves of the rows' gradient. -/
theorem out6 (t : Fin cfg0.N) (q : Fin 256) (l : Fin 1024) :
    (outsAt0 m c t.val t.isLt).1 (ix2 q l) = za m c (row ⟨t.val, t.isLt⟩ q) l := by
  have hN : t.val < 33 := t.isLt
  by_cases h : t.val % 33 = 0
  · rw [outsAt0_A m c t h (by omega)]
    frame_out
    exact z_at t q l
  · rw [outsAt0_B m c t h (by omega)]
    frame_out
    exact z_at t q l

/-- The column sums before, and a block's. -/
theorem pay1_at (u : FVec Ideal S8x1024 .f32) (v : Vec Ideal S8x1024 .f32) (a : Fin 8) (l : Fin 1024) :
    k0_pay1 (F := Ideal) u v (ix2 a l) = v (ix2 a l) + u (ix2 a l) := by
  pointwise [k0_pay1]

/-- What the first point leaves of the column sums. -/
theorem out7_A (t : Fin cfg0.N) (h : t.val % 33 = 0) (a : Fin 8) (l : Fin 1024) :
    (outsAt0 m c t.val t.isLt).2.1 (ix2 a l) = ∑ q, sa m c a l (row ⟨t.val, t.isLt⟩ q) := by
  have hN : t.val < 33 := t.isLt
  rw [outsAt0_A m c t h (by omega)]
  frame_out
  exact pay20_at (t := ⟨t.val, t.isLt⟩) (coord t) (blk4 t) (blk0 t) (blk2 t) (mod1_4096 t) (mod0_4096 t) (z_at t) (blk5 t) a l

/-- What a later point leaves of the column sums. -/
theorem out7_B (t : Fin cfg0.N) (h : ¬t.val % 33 = 0) (a : Fin 8) (l : Fin 1024) :
    (outsAt0 m c t.val t.isLt).2.1 (ix2 a l)
      = (outsAt0 m c (t.val - 1) (Nat.lt_of_le_of_lt (Nat.sub_le _ _) t.isLt)).2.1 (ix2 a l)
        + ∑ q, sa m c a l (row ⟨t.val, t.isLt⟩ q) := by
  have hN : t.val < 33 := t.isLt
  rw [outsAt0_B m c t h (by omega)]
  frame_out
  refine (pay1_at _ _ a l).trans (congrArg _ ?_)
  exact (pay20_at (t := ⟨t.val, t.isLt⟩) (coord t) (blk4 t) (blk0 t) (blk2 t) (mod1_4096 t) (mod0_4096 t) (z_at t) (blk5 t) a l)

/-- What a point leaves of the gradient at the branch before the norm. -/
theorem out8 (t : Fin cfg0.N) (q : Fin 256) (l : Fin 1024) :
    (outsAt0 m c t.val t.isLt).2.2 (ix2 q l) = za m c (row ⟨t.val, t.isLt⟩ q) l * part (ma m c) 2048 (by decide) (row ⟨t.val, t.isLt⟩ q) l := by
  have hN : t.val < 33 := t.isLt
  by_cases h : t.val % 33 = 0
  · rw [outsAt0_A m c t h (by omega)]
    frame_out
    exact pay14_at (t := ⟨t.val, t.isLt⟩) (z := za m c) (coord t) (z_at t) (mod1_2048 t) (mod0_2048 t) q l
  · rw [outsAt0_B m c t h (by omega)]
    frame_out
    exact pay14_at (t := ⟨t.val, t.isLt⟩) (z := za m c) (coord t) (z_at t) (mod1_2048 t) (mod0_2048 t) q l

/-! ## The results, of finite arguments -/

/-- The rows, the gradient that comes in, the norm's scale and the modulation are real arrays. -/
structure Reals (m : (ℓ : Loc nD τ sig) → Buf (Elt Ideal) ℓ) (c : Dev nD) : Prop where
  x : ∀ r l, ∃ y : ℝ, (m ((c.tc : Thread nD τ).loc main_arg0) (ix2 r l) : EReal) = (y : EReal)
  d : ∀ r l, ∃ y : ℝ, (m ((c.tc : Thread nD τ).loc main_arg1) (ix2 r l) : EReal) = (y : EReal)
  g : ∀ l, ∃ y : ℝ, (m ((c.tc : Thread nD τ).loc main_arg4) (ix1 l) : EReal) = (y : EReal)
  mo : ∀ a l, ∃ y : ℝ, (m ((c.tc : Thread nD τ).loc main_arg5) (ix2 a l) : EReal) = (y : EReal)

/-- Finite arguments are real arrays. -/
theorem reals_of_finite (h : Cert.Pre_NormIdeal_norm_finite m) (c : Dev nD) : Reals m c := by
  obtain ⟨h0, h1, h4, h5⟩ := h c
  constructor
  · intro r l
    have e := congrFun h0 (ix2 r l)
    pointwise [Cert.Pre_norm_finite.fn] at e
    exact ⟨_, Cert.GateIdeal.Lift.real_of_lt e⟩
  · intro r l
    have e := congrFun h1 (ix2 r l)
    pointwise [Cert.Pre_norm_finite.fn] at e
    exact ⟨_, Cert.GateIdeal.Lift.real_of_lt e⟩
  · intro l
    have e := congrFun h4 (ix1 l)
    pointwise [Cert.Pre_norm_finite.fn] at e
    exact ⟨_, Cert.GateIdeal.Lift.real_of_lt e⟩
  · intro a l
    have e := congrFun h5 (ix2 a l)
    pointwise [Cert.Pre_norm_finite.fn] at e
    exact ⟨_, Cert.GateIdeal.Lift.real_of_lt e⟩

open Cert.NormRefIdeal.Read (val_main_v146 val_main_v155 val_main_v157)

/-- The gradient at the rows. -/
theorem final6 (R : Reals m c) : (dats m 0 c).arrAt 6 cfg0.N = val_main_v146 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) := by
  refine (dats m 0 c).arrAt_eq_of_covers 6 _ (by decide +kernel) fun t hf y => ?_
  blk_simp
  rw [after0_6]
  have hN : t.val < 33 := t.isLt
  idx_vars y
  refine ((out6 t y0 y1).trans (Cert.NormRef.r146 _ _ _ _ _ R.x R.d R.g R.mo _ _).symm).trans ?_
  blk_ext [idx t, row]

/-- The gradient at the branch before the norm. -/
theorem final8 (R : Reals m c) : (dats m 0 c).arrAt 8 cfg0.N = val_main_v157 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) := by
  refine (dats m 0 c).arrAt_eq_of_covers 8 _ (by decide +kernel) fun t hf y => ?_
  blk_simp
  rw [after0_8]
  have hN : t.val < 33 := t.isLt
  idx_vars y
  refine ((out8 t y0 y1).trans (Cert.NormRef.r157 _ _ _ _ _ R.x R.d R.g R.mo _ _).symm).trans ?_
  blk_ext [idx t, row]

/-- The eight rows of column sums. -/
theorem final7 (R : Reals m c) : (dats m 0 c).arrAt 7 cfg0.N = val_main_v155 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 7 _ (by decide +kernel) fun t hf y => ?_
  blk_simp
  rw [after0_7]
  idx_vars y
  rw [Pipeline.eq_sum_fin_of_reset_step_of_flush (fun n h => ((outsAt0 m c n h).2.1 (ix2 y0 y1) : EReal)) 33 (0 : EReal)
    (fun t => ∑ q, sa m c y0 y1 (row ⟨t.val, t.isLt⟩ q))
    (fun t h => by rw [zero_add]; exact out7_A t h _ _)
    (fun t h => out7_B t h _ _)
    t ((flush0_7 t).mp hf), zero_add]
  have hN : t.val < 33 := t.isLt
  refine Eq.trans ?_ ((Cert.NormRef.r155 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) R.x R.d R.g R.mo y0 y1).symm.trans ?_)
  · change (∑ i : Fin 33, _ : EReal) = _
    rw [sum_rows]
    refine Finset.sum_congr rfl fun i _ => ?_
    have key : ∀ j : Fin 33, j = i → ∑ q, sa m c y0 y1 (row j q) = ∑ q, sa m c y0 y1 (row i q) := by
      rintro j rfl; rfl
    exact key _ (Fin.ext (by simp only; omega))
  · blk_ext [idx t]

end Cert.NormIdeal.Lift

end
-- ==== Proof.NormInRef.lean ====
/- What the reference of the gradient of the norm before the projections computes, row by row and column by column. -/
module

public import proofs.«01_k».proof.Proof.NormRef
public import proofs.«01_k».proof.Proof.Gen.NormInRefIdeal.Read
public import Idealize.ShloMosaic.Lib.Pointwise
public import Idealize.ShloMosaic.Lib.Claim

@[expose] public section

set_option maxRecDepth 16384

noncomputable section

open Idealize.ShloMosaic

namespace Cert.NormInRef

open Cert.Seqs Cert.NormRow
open Cert.NormRef (part part_lo part_hi either lo hi)
open Cert.NormInRefIdeal Cert.NormInRefIdeal.Read

section Values
variable (x dh dres : Fin 8448 → Fin 1024 → EReal) (g : Fin 1024 → EReal) (mo : Fin 8 → Fin 6144 → EReal)

/-- The gradient at the scaled norm. -/
def ee (r : Fin 8448) (l : Fin 1024) : EReal := dh r l * (1 + part mo 1024 (by decide) r l)
/-- The gradient at the rows, by the chain rule. -/
def dxr (r : Fin 8448) (l : Fin 1024) : EReal := dres r l + chained (x r) (fun j => ee dh mo r j * g j) l
/-- The gradient at the rows, in closed form. -/
def dx (r : Fin 8448) (l : Fin 1024) : EReal := dres r l + closed (x r) (fun j => ee dh mo r j * g j) l

/-- What a row adds to each of the eight rows of column sums. -/
def stat (l : Fin 1024) : Fin 8 → Fin 8448 → EReal :=
  ![lat fun r => dh r l, ctx fun r => dh r l, lat fun r => dh r l * (nx (x r) l * g l), ctx fun r => dh r l * (nx (x r) l * g l),
    fun r => ee dh mo r l * nx (x r) l, fun _ => 0, fun _ => 0, fun _ => 0]
end Values

/-- Five rows and three of zeros, each added in its place. -/
theorem stacked (a : Fin 8) (s0 s1 s2 s3 s4 : EReal) :
    0 + (if a = 0 then s0 else 0) + (if a = 1 then s1 else 0) + (if a = 2 then s2 else 0) + (if a = 3 then s3 else 0)
      + (if a = 4 then s4 else 0) = (![s0, s1, s2, s3, s4, 0, 0, 0] : Fin 8 → EReal) a := by
  fin_cases a <;> simp

/-- Sums of rows, row by row. -/
theorem sums {ι κ : Type} [Fintype ι] (h : ι → κ) (a : Fin 8) (f0 f1 f2 f3 f4 : κ → EReal) :
    ∑ q, (![f0, f1, f2, f3, f4, fun _ => 0, fun _ => 0, fun _ => 0] : Fin 8 → κ → EReal) a (h q)
      = (![∑ q, f0 (h q), ∑ q, f1 (h q), ∑ q, f2 (h q), ∑ q, f3 (h q), ∑ q, f4 (h q), 0, 0, 0] : Fin 8 → EReal) a := by
  fin_cases a <;> simp

/-- One of five rows joined one under the other, with three of zeros below. -/
theorem picked (a : Fin 8) (s0 s1 s2 s3 s4 : EReal) :
    (if a.val < 5 then if a.val < 1 then s0 else if a.val - 1 < 1 then s1 else if a.val - 1 - 1 < 1 then s2 else if a.val - 1 - 1 - 1 < 1 then s3
      else s4 else 0)
      = (![s0, s1, s2, s3, s4, 0, 0, 0] : Fin 8 → EReal) a := by
  fin_cases a <;> simp

variable (x0 x1 x2 x3 x4 x5 : (⟨S8448x1024, .f32⟩ : BufTy).Contents (Elt Ideal)) (x6 : (⟨S1024, .f32⟩ : BufTy).Contents (Elt Ideal))
  (x7 : (⟨S8x6144, .f32⟩ : BufTy).Contents (Elt Ideal))

/-- The gradient that comes in is the sum of four. -/
theorem sum_at (r : Fin 8448) (l : Fin 1024) :
    val_main_v2 (F := Ideal) x1 x2 x3 x4 (ix2 r l) = x1 (ix2 r l) + x2 (ix2 r l) + x3 (ix2 r l) + x4 (ix2 r l) := by
  pointwise [val_main_v2, val_main_v1, val_main_v0]

/-! ### The first sequence -/

/-- The gradient at a row. -/
theorem lo_dx (k : Fin 8192) (l : Fin 1024) :
    val_main_v63 (F := Ideal) x0 x1 x2 x3 x4 x5 x6 x7 (ix2 k l) = dxr (fun r l => x0 (ix2 r l)) (fun r l => val_main_v2 (F := Ideal) x1 x2 x3 x4 (ix2 r l)) (fun r l => x5 (ix2 r l)) (fun l => x6 (ix1 l)) (fun a l => x7 (ix2 a l)) (lo k) l := by
  simp only [dxr, ee, part_lo]
  pointwise [val_main_v63, val_main_v5, val_main_v62, val_main_v60, val_main_v61, val_main_v53, val_main_v59, val_main_v58, val_main_v3, val_main_v47, val_main_v52, val_main_v57, val_main_v41, val_main_v46, val_main_v17, val_main_v56, val_main_cst_12, val_main_v4, val_main_v40, val_main_v23, val_main_v16, val_main_v54, val_main_v55, val_main_v28, val_main_v14, val_main_v15, val_main_v51, val_main_v20, val_main_cst_11, val_main_v27, val_main_v12, val_main_v13, val_main_cst_1, val_main_v50, val_main_v19, val_main_v18, val_main_v26, val_main_v9, val_main_v11, val_main_cst_0, val_main_v49, val_main_cst_10, val_main_cst_2, val_main_cst_3, val_main_v7, val_main_v10, val_main_cst, val_main_v6]
  simp only [Finset.univ_unique, Finset.sum_singleton]
  rfl
/-- The sum of the incoming gradient. -/
theorem lo_shift (l : Fin 1024) : val_main_v36 (F := Ideal) x1 x2 x3 x4 (ix1 l) = ∑ k, val_main_v2 (F := Ideal) x1 x2 x3 x4 (ix2 (lo k) l) := by
  pointwise [val_main_v36, val_main_v35, val_main_cst_5, val_main_v34, val_main_v4, val_main_cst_4]
  simp only [Finset.univ_unique, Finset.sum_singleton]
  rfl
/-- The sum that is the scale's gradient. -/
theorem lo_scale (l : Fin 1024) :
    val_main_v42 (F := Ideal) x0 x1 x2 x3 x4 x6 (ix1 l) = ∑ k, val_main_v2 (F := Ideal) x1 x2 x3 x4 (ix2 (lo k) l) * (nx (fun j => x0 (ix2 (lo k) j)) l * x6 (ix1 l)) := by
  pointwise [val_main_v42, val_main_v39, val_main_cst_7, val_main_v38, val_main_v37, val_main_cst_6, val_main_v25, val_main_v4, val_main_v22, val_main_v24, val_main_v3, val_main_v21, val_main_v23, val_main_v17, val_main_v16, val_main_v14, val_main_v15, val_main_v12, val_main_v13, val_main_cst_1, val_main_v11, val_main_cst_0, val_main_v10, val_main_cst]
  simp only [Finset.univ_unique, Finset.sum_singleton]
  exact Finset.sum_congr rfl fun k _ => mul_comm _ _
/-- The sum that is the norm's own scale's gradient. -/
theorem lo_own (l : Fin 1024) :
    val_main_v48 (F := Ideal) x0 x1 x2 x3 x4 x7 (ix1 l) = ∑ k, ee (fun r l => val_main_v2 (F := Ideal) x1 x2 x3 x4 (ix2 r l)) (fun a l => x7 (ix2 a l)) (lo k) l * nx (fun j => x0 (ix2 (lo k) j)) l := by
  simp only [ee, part_lo]
  pointwise [val_main_v48, val_main_v45, val_main_cst_9, val_main_v44, val_main_v43, val_main_cst_8, val_main_v22, val_main_v41, val_main_v3, val_main_v21, val_main_v4, val_main_v40, val_main_v17, val_main_v28, val_main_v16, val_main_v27, val_main_v14, val_main_v15, val_main_v26, val_main_v9, val_main_v12, val_main_v13, val_main_cst_1, val_main_cst_3, val_main_v7, val_main_v11, val_main_cst_0, val_main_v6, val_main_v10, val_main_cst]
  simp only [Finset.univ_unique, Finset.sum_singleton]
  exact Finset.sum_congr rfl fun k _ => mul_comm _ _

/-! ### The second sequence -/

/-- The gradient at a row. -/
theorem hi_dx (k : Fin 256) (l : Fin 1024) :
    val_main_v124 (F := Ideal) x0 x1 x2 x3 x4 x5 x6 x7 (ix2 k l) = dxr (fun r l => x0 (ix2 r l)) (fun r l => val_main_v2 (F := Ideal) x1 x2 x3 x4 (ix2 r l)) (fun r l => x5 (ix2 r l)) (fun l => x6 (ix1 l)) (fun a l => x7 (ix2 a l)) (hi k) l := by
  simp only [dxr, ee, part_hi]
  pointwise [val_main_v124, val_main_v66, val_main_v123, val_main_v121, val_main_v122, val_main_v114, val_main_v120, val_main_v119, val_main_v64, val_main_v108, val_main_v113, val_main_v118, val_main_v102, val_main_v107, val_main_v78, val_main_v117, val_main_cst_26, val_main_v65, val_main_v101, val_main_v84, val_main_v77, val_main_v115, val_main_v116, val_main_v89, val_main_v75, val_main_v76, val_main_v112, val_main_v81, val_main_cst_25, val_main_v88, val_main_v73, val_main_v74, val_main_cst_15, val_main_v111, val_main_v80, val_main_v79, val_main_v87, val_main_v70, val_main_v72, val_main_cst_14, val_main_v110, val_main_cst_24, val_main_cst_16, val_main_cst_17, val_main_v68, val_main_v71, val_main_cst_13, val_main_v67]
  simp only [Finset.univ_unique, Finset.sum_singleton]
  rfl
/-- The sum of the incoming gradient. -/
theorem hi_shift (l : Fin 1024) : val_main_v97 (F := Ideal) x1 x2 x3 x4 (ix1 l) = ∑ k, val_main_v2 (F := Ideal) x1 x2 x3 x4 (ix2 (hi k) l) := by
  pointwise [val_main_v97, val_main_v96, val_main_cst_19, val_main_v95, val_main_v65, val_main_cst_18]
  simp only [Finset.univ_unique, Finset.sum_singleton]
  rfl
/-- The sum that is the scale's gradient. -/
theorem hi_scale (l : Fin 1024) :
    val_main_v103 (F := Ideal) x0 x1 x2 x3 x4 x6 (ix1 l) = ∑ k, val_main_v2 (F := Ideal) x1 x2 x3 x4 (ix2 (hi k) l) * (nx (fun j => x0 (ix2 (hi k) j)) l * x6 (ix1 l)) := by
  pointwise [val_main_v103, val_main_v100, val_main_cst_21, val_main_v99, val_main_v98, val_main_cst_20, val_main_v86, val_main_v65, val_main_v83, val_main_v85, val_main_v64, val_main_v82, val_main_v84, val_main_v78, val_main_v77, val_main_v75, val_main_v76, val_main_v73, val_main_v74, val_main_cst_15, val_main_v72, val_main_cst_14, val_main_v71, val_main_cst_13]
  simp only [Finset.univ_unique, Finset.sum_singleton]
  exact Finset.sum_congr rfl fun k _ => mul_comm _ _
/-- The sum that is the norm's own scale's gradient. -/
theorem hi_own (l : Fin 1024) :
    val_main_v109 (F := Ideal) x0 x1 x2 x3 x4 x7 (ix1 l) = ∑ k, ee (fun r l => val_main_v2 (F := Ideal) x1 x2 x3 x4 (ix2 r l)) (fun a l => x7 (ix2 a l)) (hi k) l * nx (fun j => x0 (ix2 (hi k) j)) l := by
  simp only [ee, part_hi]
  pointwise [val_main_v109, val_main_v106, val_main_cst_23, val_main_v105, val_main_v104, val_main_cst_22, val_main_v83, val_main_v102, val_main_v64, val_main_v82, val_main_v65, val_main_v101, val_main_v78, val_main_v89, val_main_v77, val_main_v88, val_main_v75, val_main_v76, val_main_v87, val_main_v70, val_main_v73, val_main_v74, val_main_cst_15, val_main_cst_17, val_main_v68, val_main_v72, val_main_cst_14, val_main_v67, val_main_v71, val_main_cst_13]
  simp only [Finset.univ_unique, Finset.sum_singleton]
  exact Finset.sum_congr rfl fun k _ => mul_comm _ _

/-! ### The two results -/

variable (h0 : ∀ r l, ∃ y : ℝ, x0 (ix2 r l) = (y : EReal)) (h1 : ∀ r l, ∃ y : ℝ, val_main_v2 (F := Ideal) x1 x2 x3 x4 (ix2 r l) = (y : EReal))
  (h6 : ∀ l, ∃ y : ℝ, x6 (ix1 l) = (y : EReal)) (h7 : ∀ a l, ∃ y : ℝ, x7 (ix2 a l) = (y : EReal))

include h0 h1 h6 h7 in
/-- Of real arguments the two forms of the rows' gradient agree. -/
theorem dxr_eq (r : Fin 8448) (l : Fin 1024) : dxr (fun r l => x0 (ix2 r l)) (fun r l => val_main_v2 (F := Ideal) x1 x2 x3 x4 (ix2 r l)) (fun r l => x5 (ix2 r l)) (fun l => x6 (ix1 l)) (fun a l => x7 (ix2 a l)) r l = dx (fun r l => x0 (ix2 r l)) (fun r l => val_main_v2 (F := Ideal) x1 x2 x3 x4 (ix2 r l)) (fun r l => x5 (ix2 r l)) (fun l => x6 (ix1 l)) (fun a l => x7 (ix2 a l)) r l := by
  refine congrArg _ (chained_eq _ _ (fun k => h0 r k) (fun k => ?_) l)
  obtain ⟨a, ha⟩ := h1 r k
  obtain ⟨b, hb⟩ := h6 k
  obtain ⟨s, hs⟩ : ∃ y : ℝ, part (fun a l => x7 (ix2 a l)) 1024 (by decide) r k = (y : EReal) := by
    unfold part
    by_cases h : r.val < 8192
    · rw [if_pos h]; exact h7 0 _
    · rw [if_neg h]; exact h7 1 _
  refine ⟨a * (1 + s) * b, ?_⟩
  simp only [ee, hs, ha, hb, ← EReal.coe_one, ← EReal.coe_mul, ← EReal.coe_add]

include h0 h1 h6 h7 in
/-- The gradient at the rows. -/
theorem rows_at (r : Fin 8448) (l : Fin 1024) :
    val_main_v126 (F := Ideal) x0 x1 x2 x3 x4 x5 x6 x7 (ix2 r l) = dx (fun r l => x0 (ix2 r l)) (fun r l => val_main_v2 (F := Ideal) x1 x2 x3 x4 (ix2 r l)) (fun r l => x5 (ix2 r l)) (fun l => x6 (ix1 l)) (fun a l => x7 (ix2 a l)) r l := by
  rw [← dxr_eq x0 x1 x2 x3 x4 x5 x6 x7 h0 h1 h6 h7]
  pointwise [val_main_v126]
  exact either (f := fun r => dxr (fun r l => x0 (ix2 r l)) (fun r l => val_main_v2 (F := Ideal) x1 x2 x3 x4 (ix2 r l)) (fun r l => x5 (ix2 r l)) (fun l => x6 (ix1 l)) (fun a l => x7 (ix2 a l)) r l) r (fun h => lo_dx ..) (fun h => hi_dx ..)

/-- The eight rows of column sums. -/
theorem sums_at (a : Fin 8) (l : Fin 1024) :
    val_main_v134 (F := Ideal) x0 x1 x2 x3 x4 x6 x7 (ix2 a l) = ∑ r, stat (fun r l => x0 (ix2 r l)) (fun r l => val_main_v2 (F := Ideal) x1 x2 x3 x4 (ix2 r l)) (fun l => x6 (ix1 l)) (fun a l => x7 (ix2 a l)) l a r := by
  refine Eq.trans ?_ (sums (fun r => r) a _ _ _ _ _).symm
  rw [sum_lat, sum_ctx, sum_lat, sum_ctx, sum_two]
  pointwise [val_main_v134, val_main_v133, val_main_v132, val_main_v131, val_main_v130, val_main_v129, val_main_v128, val_main_v127, val_main_v125, val_main_cst_27]
  rw [lo_shift, lo_scale, lo_own, hi_shift, hi_scale, hi_own]
  exact picked ..

end Cert.NormInRef

end
-- ==== Proof.NormInValue.lean ====
/- What the kernel of the gradient of the norm before the projections leaves: the two arrays its reference returns. -/
module

public import proofs.«01_k».proof.Defs
public import proofs.«01_k».proof.Proof.GateValue
public import proofs.«01_k».proof.Proof.NormInRef
public import proofs.«01_k».proof.Proof.Gen.NormInIdeal.Frame
public import proofs.«01_k».proof.Proof.Gen.Pre_normin_finite
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.NormInIdeal.Lift

open Cert.NormInIdeal Cert.NormInIdeal.Gen Cert.Seqs Cert.NormRow
open Cert.NormRef (part)
open Cert.NormInRef (ee dx stat)

/-! ## One block of rows -/

section Block
variable {x dh dres : Fin 8448 → Fin 1024 → EReal} {g : Fin 1024 → EReal} {mo : Fin 8 → Fin 6144 → EReal}
variable {i : grid0.Coords} {t : Fin 33} {v2 v3 v5 v7 v9 v31 : Vec Ideal S256x1024 .f32} {v10 v22 v23 : Vec Ideal S1x1024 .f32}

/-- The two rows of the scale, chosen by the block. -/
theorem part_row (t : Fin 33) (q : Fin 256) (l : Fin 1024) :
    (if t.val = 32 then mo 1 ⟨1024 + l.val, by omega⟩ else mo 0 ⟨1024 + l.val, by omega⟩) = part mo 1024 (by decide) (row t q) l := by
  unfold part
  by_cases h : t.val = 32
  · rw [if_pos h, if_neg (by simp only [row]; omega)]
  · rw [if_neg h, if_pos (by simp only [row]; omega)]

/-- The factor that normalises a row. -/
theorem pay5_at (h9 : ∀ q l, v9 (ix2 q l) = x (row t q) l) (q : Fin 256) : k0_pay5 (F := Ideal) v9 (ix2 q 0) = rs (x (row t q)) := by
  pointwise [k0_pay5]
  simp only [h9]
  rfl
/-- The normalised rows. -/
theorem pay6_at (h9 : ∀ q l, v9 (ix2 q l) = x (row t q) l) (q : Fin 256) (l : Fin 1024) :
    k0_pay6 (F := Ideal) v9 (ix2 q l) = nx (x (row t q)) l := by
  pointwise [k0_pay6]
  rw [pay5_at h9, h9]
  rfl
/-- The gradient at the scaled norm. -/
theorem pay7_at (hi : (i 0).val = t.val) (h8 : ∀ q l, k0_pay3 (F := Ideal) v2 v3 v5 v7 (ix2 q l) = dh (row t q) l)
    (h22 : ∀ l : Fin 1024, v22 (ix2 0 l) = mo 1 ⟨1024 + l.val, by omega⟩) (h23 : ∀ l : Fin 1024, v23 (ix2 0 l) = mo 0 ⟨1024 + l.val, by omega⟩) (q : Fin 256) (l : Fin 1024) :
    k0_pay7 (F := Ideal) i v2 v3 v5 v7 v22 v23 (ix2 q l) = ee dh mo (row t q) l := by
  pointwise [k0_pay7]
  rw [cond_ctx hi, sel, h8, h22, h23, part_row t q l]
  rfl
/-- The gradient at the rows. -/
theorem pay10_at (hi : (i 0).val = t.val)
    (h8 : ∀ q l, k0_pay3 (F := Ideal) v2 v3 v5 v7 (ix2 q l) = dh (row t q) l) (h9 : ∀ q l, v9 (ix2 q l) = x (row t q) l) (h10 : ∀ l, v10 (ix2 0 l) = g l)
    (h22 : ∀ l : Fin 1024, v22 (ix2 0 l) = mo 1 ⟨1024 + l.val, by omega⟩) (h23 : ∀ l : Fin 1024, v23 (ix2 0 l) = mo 0 ⟨1024 + l.val, by omega⟩)
    (h31 : ∀ q l, v31 (ix2 q l) = dres (row t q) l) (q : Fin 256) (l : Fin 1024) :
    k0_pay10 (F := Ideal) (k0_pay5 (F := Ideal) v9) (k0_pay6 (F := Ideal) v9) (k0_pay8 (F := Ideal) i v2 v3 v5 v7 v10 v22 v23) v31
        (k0_pay9 (F := Ideal) i v2 v3 v5 v7 v9 v10 v22 v23) (ix2 q l) = dx x dh dres g mo (row t q) l := by
  pointwise [k0_pay10, k0_pay9, k0_pay8, k0_pay4]
  simp only [pay5_at h9, pay6_at h9, pay7_at hi h8 h22 h23, h10, h31]
  rfl

/-- A block's column sums. -/
theorem pay1_at (hi : (i 0).val = t.val)
    (h8 : ∀ q l, k0_pay3 (F := Ideal) v2 v3 v5 v7 (ix2 q l) = dh (row t q) l) (h9 : ∀ q l, v9 (ix2 q l) = x (row t q) l) (h10 : ∀ l, v10 (ix2 0 l) = g l)
    (h22 : ∀ l : Fin 1024, v22 (ix2 0 l) = mo 1 ⟨1024 + l.val, by omega⟩) (h23 : ∀ l : Fin 1024, v23 (ix2 0 l) = mo 0 ⟨1024 + l.val, by omega⟩) (a : Fin 8) (l : Fin 1024) :
    k0_pay1 (F := Ideal) (k0_pay12 (F := Ideal) (k0_pay6 (F := Ideal) v9) (k0_pay7 (F := Ideal) i v2 v3 v5 v7 v22 v23))
        (k0_pay14 (F := Ideal) (Scalar.cmpi .sge (Scalar.muli (BitVec.ofNat 32 (i 0).val) 256#32) 8192#32) (k0_pay3 (F := Ideal) v2 v3 v5 v7) (k0_pay4 (F := Ideal) v10) (k0_pay6 (F := Ideal) v9))
        (iota .tc S8x1024 32 [0] iota_S8x1024_d0_w32)
        (k0_pay15 (F := Ideal) (Scalar.cmpi .sge (Scalar.muli (BitVec.ofNat 32 (i 0).val) 256#32) 8192#32) (k0_pay3 (F := Ideal) v2 v3 v5 v7)) k0_pay16 (Scalar.ofBits .f32 0x00000000#32)
        (k0_pay17 (F := Ideal) (Scalar.cmpi .sge (Scalar.muli (BitVec.ofNat 32 (i 0).val) 256#32) 8192#32) (k0_pay3 (F := Ideal) v2 v3 v5 v7) (k0_pay4 (F := Ideal) v10) (k0_pay6 (F := Ideal) v9)) (ix2 a l)
      = ∑ q, stat x dh g mo l a (row t q) := by
  refine Eq.trans ?_ (Cert.NormInRef.sums (row t) a _ _ _ _ _).symm
  rw [← Cert.NormInRef.stacked, lat_block, ctx_block, lat_block, ctx_block]
  pointwise [k0_pay1, k0_pay12, k0_pay14, k0_pay15, k0_pay16, k0_pay17, k0_pay11, k0_pay13, k0_pay4]
  have c : ∀ b : Fin 8, IntOp.cmpi .eq (BitVec.ofNat 32 a.val) (BitVec.ofNat 32 b.val) = if a = b then 1#1 else 0#1 := cond_eight a
  have c0 : IntOp.cmpi .eq (BitVec.ofNat 32 a.val) 0#32 = if a = 0 then 1#1 else 0#1 := c 0
  have c1 : IntOp.cmpi .eq (BitVec.ofNat 32 a.val) 1#32 = if a = 1 then 1#1 else 0#1 := c 1
  have c2 : IntOp.cmpi .eq (BitVec.ofNat 32 a.val) 2#32 = if a = 2 then 1#1 else 0#1 := c 2
  have c3 : IntOp.cmpi .eq (BitVec.ofNat 32 a.val) 3#32 = if a = 3 then 1#1 else 0#1 := c 3
  have c4 : IntOp.cmpi .eq (BitVec.ofNat 32 a.val) 4#32 = if a = 4 then 1#1 else 0#1 := c 4
  simp only [cond_ctx hi, sel, c0, c1, c2, c3, c4, pay6_at h9, pay7_at hi h8 h22 h23, h8, h10]

/-- The column sums before, and a block's. -/
theorem pay2_at (v53 v58 : FVec Ideal S1x1024 .f32) (v59 : IVec S8x1024 32) (v74 : FVec Ideal S8x1024 .f32) (v76 : IVec S8x1024 1) (z : Ideal .f32) (v78 : FVec Ideal S8x1024 .f32)
    (v : Vec Ideal S8x1024 .f32) (a : Fin 8) (l : Fin 1024) :
    k0_pay2 (F := Ideal) v53 v58 v59 v74 v76 z v78 v (ix2 a l) = v (ix2 a l) + k0_pay1 (F := Ideal) v53 v58 v59 v74 v76 z v78 (ix2 a l) := by
  pointwise [k0_pay2]
end Block

/-! ## The arrays -/

variable {m : (ℓ : Loc nD τ sig) → Buf (Elt Ideal) ℓ} {c : Dev nD}

/-- Which block each window is on at a grid point. -/
theorem idx : ∀ t : Fin cfg0.N,
    win0_0.index t = ![t.val, 0] ∧ win0_1.index t = ![t.val, 0] ∧ win0_2.index t = ![0, 0] ∧ win0_3.index t = ![0, 0] ∧ win0_4.index t = ![t.val, 0]
      ∧ win0_5.index t = ![t.val, 0] ∧ win0_6.index t = ![t.val, 0] ∧ win0_7.index t = ![t.val, 0] ∧ win0_8.index t = ![t.val, 0] ∧ win0_9.index t = ![0, 0] :=
  (by decide +kernel : ∀ t : Fin grid0.N, _)

/-- The grid's coordinate is the point. -/
theorem coord : ∀ t : Fin cfg0.N, (grid0.coords t 0).val = t.val :=
  (by decide +kernel : ∀ t : Fin grid0.N, _)

open Cert.NormInRefIdeal.Read (val_main_v2 val_main_v126 val_main_v134)

variable (m c) in
/-- The rows. -/
def xa (r : Fin 8448) (l : Fin 1024) : EReal := m ((c.tc : Thread nD τ).loc main_arg0) (ix2 r l)
variable (m c) in
/-- The gradient that comes in, of four parts. -/
def da (r : Fin 8448) (l : Fin 1024) : EReal := val_main_v2 (F := Ideal) (m ((c.tc : Thread nD τ).loc main_arg1)) (m ((c.tc : Thread nD τ).loc main_arg2)) (m ((c.tc : Thread nD τ).loc main_arg3)) (m ((c.tc : Thread nD τ).loc main_arg4)) (ix2 r l)
variable (m c) in
/-- The gradient that comes in past the norm. -/
def ra (r : Fin 8448) (l : Fin 1024) : EReal := m ((c.tc : Thread nD τ).loc main_arg5) (ix2 r l)
variable (m c) in
/-- The norm's scale. -/
def ga (l : Fin 1024) : EReal := m ((c.tc : Thread nD τ).loc main_arg6) (ix1 l)
variable (m c) in
/-- The modulation. -/
def ma (a : Fin 8) (l : Fin 6144) : EReal := m ((c.tc : Thread nD τ).loc main_arg7) (ix2 a l)
variable (m c) in
/-- The gradient at the rows. -/
abbrev za : Fin 8448 → Fin 1024 → EReal := dx (xa m c) (da m c) (ra m c) (ga m c) (ma m c)
variable (m c) in
/-- What a row adds to the column sums. -/
abbrev sa (a : Fin 8) (l : Fin 1024) (r : Fin 8448) : EReal := stat (xa m c) (da m c) (ga m c) (ma m c) l a r

/-- A block of the rows. -/
theorem blk0 (t : Fin cfg0.N) (q : Fin 256) (l : Fin 1024) : iblk m c 0 t (ix2 q l) = xa m c (row ⟨t.val, t.isLt⟩ q) l := by
  change _ = m ((c.tc : Thread nD τ).loc main_arg0) (ix2 _ l)
  blk_ext [iblk, V, idx t, row]
/-- A block of the gradient past the norm. -/
theorem blk1 (t : Fin cfg0.N) (q : Fin 256) (l : Fin 1024) : iblk m c 1 t (ix2 q l) = ra m c (row ⟨t.val, t.isLt⟩ q) l := by
  change _ = m ((c.tc : Thread nD τ).loc main_arg5) (ix2 _ l)
  blk_ext [iblk, V, idx t, row]
/-- The norm's scale as a row. -/
theorem V0 (l : Fin 1024) : (V m c main_v0 : FVec Ideal S1x1024 .f32) (ix2 0 l) = ga m c l := by
  entry_read
  pointwise
  rfl
/-- The norm's scale. -/
theorem blk2 (t : Fin cfg0.N) (l : Fin 1024) : iblk m c 2 t (ix2 0 l) = ga m c l := by
  refine Eq.trans ?_ (V0 l)
  blk_ext [iblk, idx t]
/-- The modulation. -/
theorem blk3 (t : Fin cfg0.N) (a : Fin 8) (l : Fin 6144) : iblk m c 3 t (ix2 a l) = ma m c a l := by
  change _ = m ((c.tc : Thread nD τ).loc main_arg7) (ix2 a l)
  blk_ext [iblk, V, idx t]
/-- A block of the first part of the gradient that comes in. -/
theorem blk4 (t : Fin cfg0.N) (q : Fin 256) (l : Fin 1024) :
    iblk m c 4 t (ix2 q l) = m ((c.tc : Thread nD τ).loc main_arg1) (ix2 (row ⟨t.val, t.isLt⟩ q) l) := by
  blk_ext [iblk, V, idx t, row]
/-- A block of the second part of the gradient that comes in. -/
theorem blk5 (t : Fin cfg0.N) (q : Fin 256) (l : Fin 1024) :
    iblk m c 5 t (ix2 q l) = m ((c.tc : Thread nD τ).loc main_arg2) (ix2 (row ⟨t.val, t.isLt⟩ q) l) := by
  blk_ext [iblk, V, idx t, row]
/-- A block of the third part of the gradient that comes in. -/
theorem blk6 (t : Fin cfg0.N) (q : Fin 256) (l : Fin 1024) :
    iblk m c 6 t (ix2 q l) = m ((c.tc : Thread nD τ).loc main_arg3) (ix2 (row ⟨t.val, t.isLt⟩ q) l) := by
  blk_ext [iblk, V, idx t, row]
/-- A block of the fourth part of the gradient that comes in. -/
theorem blk7 (t : Fin cfg0.N) (q : Fin 256) (l : Fin 1024) :
    iblk m c 7 t (ix2 q l) = m ((c.tc : Thread nD τ).loc main_arg4) (ix2 (row ⟨t.val, t.isLt⟩ q) l) := by
  blk_ext [iblk, V, idx t, row]
/-- A block of the gradient that comes in. -/
theorem blk_da (t : Fin cfg0.N) (q : Fin 256) (l : Fin 1024) :
    k0_pay3 (F := Ideal) (iblk m c 4 t) (iblk m c 5 t) (iblk m c 6 t) (iblk m c 7 t) (ix2 q l) = da m c (row ⟨t.val, t.isLt⟩ q) l := by
  refine Eq.trans ?_ (Cert.NormInRef.sum_at (m ((c.tc : Thread nD τ).loc main_arg1)) (m ((c.tc : Thread nD τ).loc main_arg2)) (m ((c.tc : Thread nD τ).loc main_arg3)) (m ((c.tc : Thread nD τ).loc main_arg4)) _ l).symm
  pointwise [k0_pay3]
  rw [blk4 t q l, blk5 t q l, blk6 t q l, blk7 t q l]
  rfl

/-- The second sequence's scale. -/
theorem mod1_1024 (t : Fin cfg0.N) (l : Fin 1024) : View.ld (iblk m c 3 t) (Rect.unit ![1, 1024] ![1, 1024] inb_S8x6144_S1x1024_1_1024) (ix2 0 l) = ma m c 1 ⟨1024 + l.val, by omega⟩ := by
  pointwise
  exact blk3 t 1 _
/-- The first sequence's scale. -/
theorem mod0_1024 (t : Fin cfg0.N) (l : Fin 1024) : View.ld (iblk m c 3 t) (Rect.unit ![0, 1024] ![1, 1024] inb_S8x6144_S1x1024_0_1024) (ix2 0 l) = ma m c 0 ⟨1024 + l.val, by omega⟩ := by
  pointwise
  exact blk3 t 0 _

/-- What a point leaves of the rows' gradient. -/
theorem out8 (t : Fin cfg0.N) (q : Fin 256) (l : Fin 1024) :
    (outsAt0 m c t.val t.isLt).1 (ix2 q l) = za m c (row ⟨t.val, t.isLt⟩ q) l := by
  have hN : t.val < 33 := t.isLt
  by_cases h : t.val % 33 = 0
  · rw [outsAt0_A m c t h (by omega)]
    frame_out
    exact pay10_at (t := ⟨t.val, t.isLt⟩) (coord t) (blk_da t) (blk0 t) (blk2 t) (mod1_1024 t) (mod0_1024 t) (blk1 t) q l
  · rw [outsAt0_B m c t h (by omega)]
    frame_out
    exact pay10_at (t := ⟨t.val, t.isLt⟩) (coord t) (blk_da t) (blk0 t) (blk2 t) (mod1_1024 t) (mod0_1024 t) (blk1 t) q l

/-- What the first point leaves of the column sums. -/
theorem out9_A (t : Fin cfg0.N) (h : t.val % 33 = 0) (a : Fin 8) (l : Fin 1024) :
    (outsAt0 m c t.val t.isLt).2 (ix2 a l) = ∑ q, sa m c a l (row ⟨t.val, t.isLt⟩ q) := by
  have hN : t.val < 33 := t.isLt
  rw [outsAt0_A m c t h (by omega)]
  frame_out
  exact pay1_at (t := ⟨t.val, t.isLt⟩) (coord t) (blk_da t) (blk0 t) (blk2 t) (mod1_1024 t) (mod0_1024 t) a l

/-- What a later point leaves of the column sums. -/
theorem out9_B (t : Fin cfg0.N) (h : ¬t.val % 33 = 0) (a : Fin 8) (l : Fin 1024) :
    (outsAt0 m c t.val t.isLt).2 (ix2 a l)
      = (outsAt0 m c (t.val - 1) (Nat.lt_of_le_of_lt (Nat.sub_le _ _) t.isLt)).2 (ix2 a l)
        + ∑ q, sa m c a l (row ⟨t.val, t.isLt⟩ q) := by
  have hN : t.val < 33 := t.isLt
  rw [outsAt0_B m c t h (by omega)]
  frame_out
  refine (pay2_at _ _ _ _ _ _ _ _ a l).trans (congrArg _ ?_)
  exact pay1_at (t := ⟨t.val, t.isLt⟩) (coord t) (blk_da t) (blk0 t) (blk2 t) (mod1_1024 t) (mod0_1024 t) a l

/-! ## The results, of finite arguments -/

/-- The rows, the gradient that comes in, the norm's scale and the modulation are real arrays. -/
structure Reals (m : (ℓ : Loc nD τ sig) → Buf (Elt Ideal) ℓ) (c : Dev nD) : Prop where
  x : ∀ r l, ∃ y : ℝ, (m ((c.tc : Thread nD τ).loc main_arg0) (ix2 r l) : EReal) = (y : EReal)
  d : ∀ r l, ∃ y : ℝ, (val_main_v2 (F := Ideal) (m ((c.tc : Thread nD τ).loc main_arg1)) (m ((c.tc : Thread nD τ).loc main_arg2)) (m ((c.tc : Thread nD τ).loc main_arg3)) (m ((c.tc : Thread nD τ).loc main_arg4)) (ix2 r l) : EReal) = (y : EReal)
  g : ∀ l, ∃ y : ℝ, (m ((c.tc : Thread nD τ).loc main_arg6) (ix1 l) : EReal) = (y : EReal)
  mo : ∀ a l, ∃ y : ℝ, (m ((c.tc : Thread nD τ).loc main_arg7) (ix2 a l) : EReal) = (y : EReal)

/-- A sum of four real numbers is real. -/
theorem sum_real {x0 x1 x2 x3 : EReal} {y0 y1 y2 y3 : ℝ} (h0 : x0 = (y0 : EReal)) (h1 : x1 = (y1 : EReal)) (h2 : x2 = (y2 : EReal)) (h3 : x3 = (y3 : EReal)) :
    ∃ y : ℝ, x0 + x1 + x2 + x3 = (y : EReal) :=
  ⟨y0 + y1 + y2 + y3, by rw [h0, h1, h2, h3]; norm_cast⟩

/-- Finite arguments are real arrays. -/
theorem reals_of_finite (h : Cert.Pre_NormInIdeal_normin_finite m) (c : Dev nD) : Reals m c := by
  obtain ⟨h0, h1, h2, h3, h4, h6, h7⟩ := h c
  constructor
  · intro r l
    have e := congrFun h0 (ix2 r l)
    pointwise [Cert.Pre_normin_finite.fn, Cert.Pre_normin_finite.fn_part1] at e
    exact ⟨_, Cert.GateIdeal.Lift.real_of_lt e⟩
  · intro r l
    have e1 := congrFun h1 (ix2 r l)
    have e2 := congrFun h2 (ix2 r l)
    have e3 := congrFun h3 (ix2 r l)
    have e4 := congrFun h4 (ix2 r l)
    pointwise [Cert.Pre_normin_finite.fn, Cert.Pre_normin_finite.fn_part1] at e1
    pointwise [Cert.Pre_normin_finite.fn, Cert.Pre_normin_finite.fn_part1] at e2
    pointwise [Cert.Pre_normin_finite.fn, Cert.Pre_normin_finite.fn_part1] at e3
    pointwise [Cert.Pre_normin_finite.fn, Cert.Pre_normin_finite.fn_part1] at e4
    obtain ⟨y, hy⟩ := sum_real (Cert.GateIdeal.Lift.real_of_lt e1) (Cert.GateIdeal.Lift.real_of_lt e2) (Cert.GateIdeal.Lift.real_of_lt e3)
      (Cert.GateIdeal.Lift.real_of_lt e4)
    exact ⟨y, (Cert.NormInRef.sum_at (m ((c.tc : Thread nD τ).loc main_arg1)) (m ((c.tc : Thread nD τ).loc main_arg2)) (m ((c.tc : Thread nD τ).loc main_arg3)) (m ((c.tc : Thread nD τ).loc main_arg4)) r l).trans hy⟩
  · intro l
    have e := congrFun h6 (ix1 l)
    pointwise [Cert.Pre_normin_finite.fn, Cert.Pre_normin_finite.fn_part1] at e
    exact ⟨_, Cert.GateIdeal.Lift.real_of_lt e⟩
  · intro a l
    have e := congrFun h7 (ix2 a l)
    pointwise [Cert.Pre_normin_finite.fn, Cert.Pre_normin_finite.fn_part1] at e
    exact ⟨_, Cert.GateIdeal.Lift.real_of_lt e⟩

/-- The gradient at the rows. -/
theorem final8 (R : Reals m c) : (dats m 0 c).arrAt 8 cfg0.N = val_main_v126 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (dats m 0 c).arrAt_eq_of_covers 8 _ (by decide +kernel) fun t hf y => ?_
  blk_simp
  rw [after0_8]
  have hN : t.val < 33 := t.isLt
  idx_vars y
  refine ((out8 t y0 y1).trans (Cert.NormInRef.rows_at _ _ _ _ _ _ _ _ R.x R.d R.g R.mo _ _).symm).trans ?_
  blk_ext [idx t, row]

/-- The eight rows of column sums. -/
theorem final9 : (dats m 0 c).arrAt 9 cfg0.N = val_main_v134 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) := by
  refine (dats m 0 c).arrAt_eq_of_covers 9 _ (by decide +kernel) fun t hf y => ?_
  blk_simp
  rw [after0_9]
  idx_vars y
  rw [Pipeline.eq_sum_fin_of_reset_step_of_flush (fun n h => ((outsAt0 m c n h).2 (ix2 y0 y1) : EReal)) 33 (0 : EReal)
    (fun t => ∑ q, sa m c y0 y1 (row ⟨t.val, t.isLt⟩ q))
    (fun t h => by rw [zero_add]; exact out9_A t h _ _)
    (fun t h => out9_B t h _ _)
    t ((flush0_9 t).mp hf), zero_add]
  have hN : t.val < 33 := t.isLt
  refine Eq.trans ?_ ((Cert.NormInRef.sums_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) y0 y1).symm.trans ?_)
  · change (∑ i : Fin 33, _ : EReal) = _
    rw [sum_rows]
    refine Finset.sum_congr rfl fun i _ => ?_
    have key : ∀ j : Fin 33, j = i → ∑ q, sa m c y0 y1 (row j q) = ∑ q, sa m c y0 y1 (row i q) := by
      rintro j rfl; rfl
    exact key _ (Fin.ext (by simp only; omega))
  · blk_ext [idx t]

end Cert.NormInIdeal.Lift

end
-- ==== Proof.NormFValue.lean ====
/- What the modulated norm leaves: the array its reference returns, row by row. -/
module

public import proofs.«01_k».proof.Defs
public import proofs.«01_k».proof.Proof.NormRef
public import proofs.«01_k».proof.Proof.Gen.NormFIdeal.Frame
public import proofs.«01_k».proof.Proof.Gen.NormFRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.NormFIdeal.Lift

open Cert.NormFIdeal Cert.NormFIdeal.Gen Cert.Seqs Cert.NormRow
open Cert.NormRef (part part_lo part_hi either lo hi)

/-- The modulated norm at a row. -/
def nm (x : Fin 8448 → Fin 1024 → EReal) (g : Fin 1024 → EReal) (mo : Fin 8 → Fin 6144 → EReal) (r : Fin 8448) (l : Fin 1024) : EReal :=
  nx (x r) l * g l * (1 + part mo 1024 (by decide) r l) + part mo 0 (by decide) r l

/-! ## The reference -/

section Reference
open Cert.NormFRefIdeal Cert.NormFRefIdeal.Read

variable (x0 : (⟨S8448x1024, .f32⟩ : BufTy).Contents (Elt Ideal)) (x1 : (⟨S1024, .f32⟩ : BufTy).Contents (Elt Ideal))
  (x2 : (⟨S8x6144, .f32⟩ : BufTy).Contents (Elt Ideal))

/-- A row of the first sequence. -/
theorem ref_lo (k : Fin 8192) (l : Fin 1024) :
    val_main_v25 (F := Ideal) x0 x1 x2 (ix2 k l) = nm (fun r l => x0 (ix2 r l)) (fun l => x1 (ix1 l)) (fun a l => x2 (ix2 a l)) (lo k) l := by
  simp only [nm, part_lo]
  pointwise [val_main_v25, val_main_v24, val_main_v23, val_main_v22, val_main_v21, val_main_v20, val_main_v19, val_main_v18, val_main_cst_2, val_main_v17, val_main_v16, val_main_v15, val_main_v14, val_main_v13, val_main_v12, val_main_v11, val_main_v10, val_main_cst_1, val_main_v9, val_main_v8, val_main_cst_0, val_main_v7, val_main_v6, val_main_cst, val_main_v5, val_main_v4, val_main_v3, val_main_v2, val_main_v1, val_main_v0]
  rfl
/-- A row of the second sequence. -/
theorem ref_hi (k : Fin 256) (l : Fin 1024) :
    val_main_v51 (F := Ideal) x0 x1 x2 (ix2 k l) = nm (fun r l => x0 (ix2 r l)) (fun l => x1 (ix1 l)) (fun a l => x2 (ix2 a l)) (hi k) l := by
  simp only [nm, part_hi]
  pointwise [val_main_v51, val_main_v50, val_main_v49, val_main_v48, val_main_v47, val_main_v46, val_main_v45, val_main_v44, val_main_cst_6, val_main_v43, val_main_v42, val_main_v41, val_main_v40, val_main_v39, val_main_v38, val_main_v37, val_main_v36, val_main_cst_5, val_main_v35, val_main_v34, val_main_cst_4, val_main_v33, val_main_v32, val_main_cst_3, val_main_v31, val_main_v30, val_main_v29, val_main_v28, val_main_v27, val_main_v26]
  rfl
/-- The reference's rows. -/
theorem ref (r : Fin 8448) (l : Fin 1024) :
    val_main_v53 (F := Ideal) x0 x1 x2 (ix2 r l) = nm (fun r l => x0 (ix2 r l)) (fun l => x1 (ix1 l)) (fun a l => x2 (ix2 a l)) r l := by
  pointwise [val_main_v53, val_main_v52]
  exact either (f := fun r => nm (fun r l => x0 (ix2 r l)) (fun l => x1 (ix1 l)) (fun a l => x2 (ix2 a l)) r l) r (fun h => ref_lo ..) (fun h => ref_hi ..)
end Reference

/-! ## The kernel -/

/-- The two rows of the modulation, chosen by the block. -/
theorem part_row {mo : Fin 8 → Fin 6144 → EReal} (n : Nat) (hn : n ≤ 5120) (t : Fin 33) (q : Fin 256) (l : Fin 1024) :
    (if t.val = 32 then mo 1 ⟨n + l.val, by omega⟩ else mo 0 ⟨n + l.val, by omega⟩) = part mo n hn (row t q) l := by
  unfold part
  by_cases h : t.val = 32
  · rw [if_pos h, if_neg (by simp only [row]; omega)]
  · rw [if_neg h, if_pos (by simp only [row]; omega)]

/-- One block of rows. -/
theorem pay1_at {x : Fin 8448 → Fin 1024 → EReal} {g : Fin 1024 → EReal} {mo : Fin 8 → Fin 6144 → EReal} {i : grid0.Coords} {t : Fin 33}
    {v2 : Vec Ideal S256x1024 .f32} {v13 v17 v18 v24 v25 : Vec Ideal S1x1024 .f32} (hi : (i 0).val = t.val)
    (h2 : ∀ q l, v2 (ix2 q l) = x (row t q) l) (h13 : ∀ l, v13 (ix2 0 l) = g l)
    (h17 : ∀ l : Fin 1024, v17 (ix2 0 l) = mo 1 ⟨1024 + l.val, by omega⟩) (h18 : ∀ l : Fin 1024, v18 (ix2 0 l) = mo 0 ⟨1024 + l.val, by omega⟩)
    (h24 : ∀ l : Fin 1024, v24 (ix2 0 l) = mo 1 ⟨0 + l.val, by omega⟩) (h25 : ∀ l : Fin 1024, v25 (ix2 0 l) = mo 0 ⟨0 + l.val, by omega⟩)
    (q : Fin 256) (l : Fin 1024) :
    k0_pay1 (F := Ideal) i v2 v13 v17 v18 v24 v25 (ix2 q l) = nm x g mo (row t q) l := by
  pointwise [k0_pay1]
  simp only [cond_ctx hi, sel, h2, h13, h17, h18, h24, h25]
  rw [part_row 1024 (by decide) t q l, part_row 0 (by decide) t q l]
  rfl

variable {m : (ℓ : Loc nD τ sig) → Buf (Elt Ideal) ℓ} {c : Dev nD}

/-- Which block each window is on at a grid point. -/
theorem idx : ∀ t : Fin cfg0.N,
    win0_0.index t = ![t.val, 0] ∧ win0_1.index t = ![0, 0] ∧ win0_2.index t = ![0, 0] ∧ win0_3.index t = ![t.val, 0] :=
  (by decide +kernel : ∀ t : Fin grid0.N, _)

/-- The grid's coordinate is the point. -/
theorem coord : ∀ t : Fin cfg0.N, (grid0.coords t 0).val = t.val :=
  (by decide +kernel : ∀ t : Fin grid0.N, _)

variable (m c) in
/-- The rows. -/
def xa (r : Fin 8448) (l : Fin 1024) : EReal := m ((c.tc : Thread nD τ).loc main_arg0) (ix2 r l)
variable (m c) in
/-- The norm's scale. -/
def ga (l : Fin 1024) : EReal := m ((c.tc : Thread nD τ).loc main_arg1) (ix1 l)
variable (m c) in
/-- The modulation. -/
def ma (a : Fin 8) (l : Fin 6144) : EReal := m ((c.tc : Thread nD τ).loc main_arg2) (ix2 a l)

/-- A block of the rows. -/
theorem blk0 (t : Fin cfg0.N) (q : Fin 256) (l : Fin 1024) : iblk m c 0 t (ix2 q l) = xa m c (row ⟨t.val, t.isLt⟩ q) l := by
  change _ = m ((c.tc : Thread nD τ).loc main_arg0) (ix2 _ l)
  blk_ext [iblk, V, idx t, row]
/-- The norm's scale as a row. -/
theorem V0 (l : Fin 1024) : (V m c main_v0 : FVec Ideal S1x1024 .f32) (ix2 0 l) = ga m c l := by
  entry_read
  pointwise
  rfl
/-- The norm's scale. -/
theorem blk1 (t : Fin cfg0.N) (l : Fin 1024) : iblk m c 1 t (ix2 0 l) = ga m c l := by
  refine Eq.trans ?_ (V0 l)
  blk_ext [iblk, idx t]
/-- The modulation. -/
theorem blk2 (t : Fin cfg0.N) (a : Fin 8) (l : Fin 6144) : iblk m c 2 t (ix2 a l) = ma m c a l := by
  change _ = m ((c.tc : Thread nD τ).loc main_arg2) (ix2 a l)
  blk_ext [iblk, V, idx t]

/-- A part of a row of the modulation. -/
theorem ld_mod {u : Vec Ideal S8x6144 .f32} {mo : Fin 8 → Fin 6144 → EReal} (h : ∀ a l, u (ix2 a l) = mo a l) (l : Fin 1024) :
    View.ld u r0_2 (ix2 0 l) = mo 1 ⟨1024 + l.val, by omega⟩ ∧ View.ld u r0_3 (ix2 0 l) = mo 0 ⟨1024 + l.val, by omega⟩
      ∧ View.ld u r0_4 (ix2 0 l) = mo 1 ⟨0 + l.val, by omega⟩ ∧ View.ld u r0_5 (ix2 0 l) = mo 0 ⟨0 + l.val, by omega⟩ := by
  refine ⟨?_, ?_, ?_, ?_⟩
  · pointwise
    exact h 1 _
  · pointwise
    exact h 0 _
  · refine Eq.trans ?_ (h 1 ⟨0 + l.val, by omega⟩)
    pointwise
  · refine Eq.trans ?_ (h 0 ⟨0 + l.val, by omega⟩)
    pointwise

/-- What a point leaves. -/
theorem out3 (t : Fin cfg0.N) (q : Fin 256) (l : Fin 1024) :
    out0_3 (grid0.coords t) (iblk m c 0 t) (iblk m c 1 t) (iblk m c 2 t) (ix2 q l) = nm (xa m c) (ga m c) (ma m c) (row ⟨t.val, t.isLt⟩ q) l := by
  unfold out0_3
  frame_out
  exact pay1_at (t := ⟨t.val, t.isLt⟩) (coord t) (blk0 t) (blk1 t) (fun l => (ld_mod (blk2 t) l).1) (fun l => (ld_mod (blk2 t) l).2.1)
    (fun l => (ld_mod (blk2 t) l).2.2.1) (fun l => (ld_mod (blk2 t) l).2.2.2) q l

/-- The result. -/
theorem final3 : (dats m 0 c).arrAt 3 cfg0.N
    = Cert.NormFRefIdeal.Read.val_main_v53 (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  have hN : t.val < 33 := t.isLt
  idx_vars y
  refine ((out3 t y0 y1).trans (ref _ _ _ _ _).symm).trans ?_
  blk_ext [idx t, row]

end Cert.NormFIdeal.Lift

end
-- ==== Proof.lean ====
/- The claim, put together: every program leaves its arguments unchanged, and every kernel returns over the reals
   what its reference returns. The values themselves are found in the modules named after the programs. -/
module

public import proofs.«01_k».proof.Defs
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.GateRefIdeal.Run
public import proofs.«01_k».proof.Proof.Gen.GateRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Sconv
public import proofs.«01_k».proof.Proof.Gen.Sconv.Skeleton
public import proofs.«01_k».proof.Proof.Gen.Sconv.Launch
public import proofs.«01_k».proof.Proof.Gen.Sconv.Points
public import proofs.«01_k».proof.Proof.Gen.Sconv.Frame
public import proofs.«01_k».proof.Proof.Gen.SconvIdeal
public import proofs.«01_k».proof.Proof.Gen.SconvIdeal.Skeleton
public import proofs.«01_k».proof.Proof.Gen.SconvIdeal.Launch
public import proofs.«01_k».proof.Proof.Gen.SconvIdeal.Points
public import proofs.«01_k».proof.Proof.Gen.SconvIdeal.Frame
public import proofs.«01_k».proof.Proof.Gen.SconvRefIdeal
public import proofs.«01_k».proof.Proof.Gen.SconvRefIdeal.Run
public import proofs.«01_k».proof.Proof.Gen.SconvRefIdeal.Read
public import proofs.«01_k».proof.Proof.Gen.Res
public import proofs.«01_k».proof.Proof.Gen.Res.Skeleton
public import proofs.«01_k».proof.Proof.Gen.Res.Launch
public import proofs.«01_k».proof.Proof.Gen.Res.Points
public import proofs.«01_k».proof.Proof.Gen.Res.Frame
public import proofs.«01_k».proof.Proof.Gen.ResIdeal
public import proofs.«01_k».proof.Proof.Gen.ResIdeal.Skeleton
public import proofs.«01_k».proof.Proof.Gen.ResIdeal.Launch
public import proofs.«01_k».proof.Proof.Gen.ResIdeal.Points
public import proofs.«01_k».proof.Proof.Gen.ResIdeal.Frame
public import proofs.«01_k».proof.Proof.Gen.ResRefIdeal
public import proofs.«01_k».proof.Proof.Gen.ResRefIdeal.Run
public import proofs.«01_k».proof.Proof.Gen.ResRefIdeal.Read
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeRefIdeal
public import proofs.«01_k».proof.Proof.Gen.RopeRefIdeal.Run
public import proofs.«01_k».proof.Proof.Gen.RopeRefIdeal.Read
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.NormRefIdeal.Run
public import proofs.«01_k».proof.Proof.Gen.NormRefIdeal.Read
public import proofs.«01_k».proof.Proof.Gen.NormIn
public import proofs.«01_k».proof.Proof.Gen.NormIn.Skeleton
public import proofs.«01_k».proof.Proof.Gen.NormIn.Launch
public import proofs.«01_k».proof.Proof.Gen.NormIn.Points
public import proofs.«01_k».proof.Proof.Gen.NormIn.Frame
public import proofs.«01_k».proof.Proof.Gen.NormInIdeal
public import proofs.«01_k».proof.Proof.Gen.NormInIdeal.Skeleton
public import proofs.«01_k».proof.Proof.Gen.NormInIdeal.Launch
public import proofs.«01_k».proof.Proof.Gen.NormInIdeal.Points
public import proofs.«01_k».proof.Proof.Gen.NormInIdeal.Frame
public import proofs.«01_k».proof.Proof.Gen.NormInRefIdeal
public import proofs.«01_k».proof.Proof.Gen.NormInRefIdeal.Run
public import proofs.«01_k».proof.Proof.Gen.NormInRefIdeal.Read
public import proofs.«01_k».proof.Proof.Gen.NormF
public import proofs.«01_k».proof.Proof.Gen.NormF.Skeleton
public import proofs.«01_k».proof.Proof.Gen.NormF.Launch
public import proofs.«01_k».proof.Proof.Gen.NormF.Points
public import proofs.«01_k».proof.Proof.Gen.NormF.Frame
public import proofs.«01_k».proof.Proof.Gen.NormFIdeal
public import proofs.«01_k».proof.Proof.Gen.NormFIdeal.Skeleton
public import proofs.«01_k».proof.Proof.Gen.NormFIdeal.Launch
public import proofs.«01_k».proof.Proof.Gen.NormFIdeal.Points
public import proofs.«01_k».proof.Proof.Gen.NormFIdeal.Frame
public import proofs.«01_k».proof.Proof.Gen.NormFRefIdeal
public import proofs.«01_k».proof.Proof.Gen.NormFRefIdeal.Run
public import proofs.«01_k».proof.Proof.Gen.NormFRefIdeal.Read
public import proofs.«01_k».proof.Proof.Gen.UpX
public import proofs.«01_k».proof.Proof.Gen.UpX.Skeleton
public import proofs.«01_k».proof.Proof.Gen.UpX.Launch
public import proofs.«01_k».proof.Proof.Gen.UpX.Points
public import proofs.«01_k».proof.Proof.Gen.UpX.Frame
public import proofs.«01_k».proof.Proof.Gen.UpXIdeal
public import proofs.«01_k».proof.Proof.Gen.UpXIdeal.Skeleton
public import proofs.«01_k».proof.Proof.Gen.UpXIdeal.Launch
public import proofs.«01_k».proof.Proof.Gen.UpXIdeal.Points
public import proofs.«01_k».proof.Proof.Gen.UpXIdeal.Frame
public import proofs.«01_k».proof.Proof.Gen.UpXRefIdeal
public import proofs.«01_k».proof.Proof.Gen.UpXRefIdeal.Run
public import proofs.«01_k».proof.Proof.Gen.UpXRefIdeal.Read
public import proofs.«01_k».proof.Proof.Gen.UpW
public import proofs.«01_k».proof.Proof.Gen.UpW.Skeleton
public import proofs.«01_k».proof.Proof.Gen.UpW.Launch
public import proofs.«01_k».proof.Proof.Gen.UpW.Points
public import proofs.«01_k».proof.Proof.Gen.UpW.Frame
public import proofs.«01_k».proof.Proof.Gen.UpWIdeal
public import proofs.«01_k».proof.Proof.Gen.UpWIdeal.Skeleton
public import proofs.«01_k».proof.Proof.Gen.UpWIdeal.Launch
public import proofs.«01_k».proof.Proof.Gen.UpWIdeal.Points
public import proofs.«01_k».proof.Proof.Gen.UpWIdeal.Frame
public import proofs.«01_k».proof.Proof.Gen.UpWRefIdeal
public import proofs.«01_k».proof.Proof.Gen.UpWRefIdeal.Run
public import proofs.«01_k».proof.Proof.Gen.UpWRefIdeal.Read
public import proofs.«01_k».proof.Proof.Gen.DownX
public import proofs.«01_k».proof.Proof.Gen.DownX.Skeleton
public import proofs.«01_k».proof.Proof.Gen.DownX.Launch
public import proofs.«01_k».proof.Proof.Gen.DownX.Points
public import proofs.«01_k».proof.Proof.Gen.DownX.Frame
public import proofs.«01_k».proof.Proof.Gen.DownXIdeal
public import proofs.«01_k».proof.Proof.Gen.DownXIdeal.Skeleton
public import proofs.«01_k».proof.Proof.Gen.DownXIdeal.Launch
public import proofs.«01_k».proof.Proof.Gen.DownXIdeal.Points
public import proofs.«01_k».proof.Proof.Gen.DownXIdeal.Frame
public import proofs.«01_k».proof.Proof.Gen.DownXRefIdeal
public import proofs.«01_k».proof.Proof.Gen.DownXRefIdeal.Run
public import proofs.«01_k».proof.Proof.Gen.DownXRefIdeal.Read
public import proofs.«01_k».proof.Proof.Gen.DownW
public import proofs.«01_k».proof.Proof.Gen.DownW.Skeleton
public import proofs.«01_k».proof.Proof.Gen.DownW.Launch
public import proofs.«01_k».proof.Proof.Gen.DownW.Points
public import proofs.«01_k».proof.Proof.Gen.DownW.Frame
public import proofs.«01_k».proof.Proof.Gen.DownWIdeal
public import proofs.«01_k».proof.Proof.Gen.DownWIdeal.Skeleton
public import proofs.«01_k».proof.Proof.Gen.DownWIdeal.Launch
public import proofs.«01_k».proof.Proof.Gen.DownWIdeal.Points
public import proofs.«01_k».proof.Proof.Gen.DownWIdeal.Frame
public import proofs.«01_k».proof.Proof.Gen.DownWRefIdeal
public import proofs.«01_k».proof.Proof.Gen.DownWRefIdeal.Run
public import proofs.«01_k».proof.Proof.Gen.DownWRefIdeal.Read
public import proofs.«01_k».proof.Proof.Gen.In3X
public import proofs.«01_k».proof.Proof.Gen.In3X.Skeleton
public import proofs.«01_k».proof.Proof.Gen.In3X.Launch
public import proofs.«01_k».proof.Proof.Gen.In3X.Points
public import proofs.«01_k».proof.Proof.Gen.In3X.Frame
public import proofs.«01_k».proof.Proof.Gen.In3XIdeal
public import proofs.«01_k».proof.Proof.Gen.In3XIdeal.Skeleton
public import proofs.«01_k».proof.Proof.Gen.In3XIdeal.Launch
public import proofs.«01_k».proof.Proof.Gen.In3XIdeal.Points
public import proofs.«01_k».proof.Proof.Gen.In3XIdeal.Frame
public import proofs.«01_k».proof.Proof.Gen.In3XRefIdeal
public import proofs.«01_k».proof.Proof.Gen.In3XRefIdeal.Run
public import proofs.«01_k».proof.Proof.Gen.In3XRefIdeal.Read
public import proofs.«01_k».proof.Proof.Gen.In3W
public import proofs.«01_k».proof.Proof.Gen.In3W.Skeleton
public import proofs.«01_k».proof.Proof.Gen.In3W.Launch
public import proofs.«01_k».proof.Proof.Gen.In3W.Points
public import proofs.«01_k».proof.Proof.Gen.In3W.Frame
public import proofs.«01_k».proof.Proof.Gen.In3WIdeal
public import proofs.«01_k».proof.Proof.Gen.In3WIdeal.Skeleton
public import proofs.«01_k».proof.Proof.Gen.In3WIdeal.Launch
public import proofs.«01_k».proof.Proof.Gen.In3WIdeal.Points
public import proofs.«01_k».proof.Proof.Gen.In3WIdeal.Frame
public import proofs.«01_k».proof.Proof.Gen.In3WRefIdeal
public import proofs.«01_k».proof.Proof.Gen.In3WRefIdeal.Run
public import proofs.«01_k».proof.Proof.Gen.In3WRefIdeal.Read
public import proofs.«01_k».proof.Proof.Gen.OutX
public import proofs.«01_k».proof.Proof.Gen.OutX.Skeleton
public import proofs.«01_k».proof.Proof.Gen.OutX.Launch
public import proofs.«01_k».proof.Proof.Gen.OutX.Points
public import proofs.«01_k».proof.Proof.Gen.OutX.Frame
public import proofs.«01_k».proof.Proof.Gen.OutXIdeal
public import proofs.«01_k».proof.Proof.Gen.OutXIdeal.Skeleton
public import proofs.«01_k».proof.Proof.Gen.OutXIdeal.Launch
public import proofs.«01_k».proof.Proof.Gen.OutXIdeal.Points
public import proofs.«01_k».proof.Proof.Gen.OutXIdeal.Frame
public import proofs.«01_k».proof.Proof.Gen.OutXRefIdeal
public import proofs.«01_k».proof.Proof.Gen.OutXRefIdeal.Run
public import proofs.«01_k».proof.Proof.Gen.OutXRefIdeal.Read
public import proofs.«01_k».proof.Proof.Gen.OutW
public import proofs.«01_k».proof.Proof.Gen.OutW.Skeleton
public import proofs.«01_k».proof.Proof.Gen.OutW.Launch
public import proofs.«01_k».proof.Proof.Gen.OutW.Points
public import proofs.«01_k».proof.Proof.Gen.OutW.Frame
public import proofs.«01_k».proof.Proof.Gen.OutWIdeal
public import proofs.«01_k».proof.Proof.Gen.OutWIdeal.Skeleton
public import proofs.«01_k».proof.Proof.Gen.OutWIdeal.Launch
public import proofs.«01_k».proof.Proof.Gen.OutWIdeal.Points
public import proofs.«01_k».proof.Proof.Gen.OutWIdeal.Frame
public import proofs.«01_k».proof.Proof.Gen.OutWRefIdeal
public import proofs.«01_k».proof.Proof.Gen.OutWRefIdeal.Run
public import proofs.«01_k».proof.Proof.Gen.OutWRefIdeal.Read
public import proofs.«01_k».proof.Proof.Gen.In2X
public import proofs.«01_k».proof.Proof.Gen.In2X.Skeleton
public import proofs.«01_k».proof.Proof.Gen.In2X.Launch
public import proofs.«01_k».proof.Proof.Gen.In2X.Points
public import proofs.«01_k».proof.Proof.Gen.In2X.Frame
public import proofs.«01_k».proof.Proof.Gen.In2XIdeal
public import proofs.«01_k».proof.Proof.Gen.In2XIdeal.Skeleton
public import proofs.«01_k».proof.Proof.Gen.In2XIdeal.Launch
public import proofs.«01_k».proof.Proof.Gen.In2XIdeal.Points
public import proofs.«01_k».proof.Proof.Gen.In2XIdeal.Frame
public import proofs.«01_k».proof.Proof.Gen.In2XRefIdeal
public import proofs.«01_k».proof.Proof.Gen.In2XRefIdeal.Run
public import proofs.«01_k».proof.Proof.Gen.In2XRefIdeal.Read
public import proofs.«01_k».proof.Proof.Gen.In2W
public import proofs.«01_k».proof.Proof.Gen.In2W.Skeleton
public import proofs.«01_k».proof.Proof.Gen.In2W.Launch
public import proofs.«01_k».proof.Proof.Gen.In2W.Points
public import proofs.«01_k».proof.Proof.Gen.In2W.Frame
public import proofs.«01_k».proof.Proof.Gen.In2WIdeal
public import proofs.«01_k».proof.Proof.Gen.In2WIdeal.Skeleton
public import proofs.«01_k».proof.Proof.Gen.In2WIdeal.Launch
public import proofs.«01_k».proof.Proof.Gen.In2WIdeal.Points
public import proofs.«01_k».proof.Proof.Gen.In2WIdeal.Frame
public import proofs.«01_k».proof.Proof.Gen.In2WRefIdeal
public import proofs.«01_k».proof.Proof.Gen.In2WRefIdeal.Run
public import proofs.«01_k».proof.Proof.Gen.In2WRefIdeal.Read
public import proofs.«01_k».proof.Proof.Gen.In1X
public import proofs.«01_k».proof.Proof.Gen.In1X.Skeleton
public import proofs.«01_k».proof.Proof.Gen.In1X.Launch
public import proofs.«01_k».proof.Proof.Gen.In1X.Points
public import proofs.«01_k».proof.Proof.Gen.In1X.Frame
public import proofs.«01_k».proof.Proof.Gen.In1XIdeal
public import proofs.«01_k».proof.Proof.Gen.In1XIdeal.Skeleton
public import proofs.«01_k».proof.Proof.Gen.In1XIdeal.Launch
public import proofs.«01_k».proof.Proof.Gen.In1XIdeal.Points
public import proofs.«01_k».proof.Proof.Gen.In1XIdeal.Frame
public import proofs.«01_k».proof.Proof.Gen.In1XRefIdeal
public import proofs.«01_k».proof.Proof.Gen.In1XRefIdeal.Run
public import proofs.«01_k».proof.Proof.Gen.In1XRefIdeal.Read
public import proofs.«01_k».proof.Proof.Gen.In1W
public import proofs.«01_k».proof.Proof.Gen.In1W.Skeleton
public import proofs.«01_k».proof.Proof.Gen.In1W.Launch
public import proofs.«01_k».proof.Proof.Gen.In1W.Points
public import proofs.«01_k».proof.Proof.Gen.In1W.Frame
public import proofs.«01_k».proof.Proof.Gen.In1WIdeal
public import proofs.«01_k».proof.Proof.Gen.In1WIdeal.Skeleton
public import proofs.«01_k».proof.Proof.Gen.In1WIdeal.Launch
public import proofs.«01_k».proof.Proof.Gen.In1WIdeal.Points
public import proofs.«01_k».proof.Proof.Gen.In1WIdeal.Frame
public import proofs.«01_k».proof.Proof.Gen.In1WRefIdeal
public import proofs.«01_k».proof.Proof.Gen.In1WRefIdeal.Run
public import proofs.«01_k».proof.Proof.Gen.In1WRefIdeal.Read
public import proofs.«01_k».proof.Proof.Gen.UpF
public import proofs.«01_k».proof.Proof.Gen.UpF.Skeleton
public import proofs.«01_k».proof.Proof.Gen.UpF.Launch
public import proofs.«01_k».proof.Proof.Gen.UpF.Points
public import proofs.«01_k».proof.Proof.Gen.UpF.Frame
public import proofs.«01_k».proof.Proof.Gen.UpFIdeal
public import proofs.«01_k».proof.Proof.Gen.UpFIdeal.Skeleton
public import proofs.«01_k».proof.Proof.Gen.UpFIdeal.Launch
public import proofs.«01_k».proof.Proof.Gen.UpFIdeal.Points
public import proofs.«01_k».proof.Proof.Gen.UpFIdeal.Frame
public import proofs.«01_k».proof.Proof.Gen.UpFRefIdeal
public import proofs.«01_k».proof.Proof.Gen.UpFRefIdeal.Run
public import proofs.«01_k».proof.Proof.Gen.UpFRefIdeal.Read
public import proofs.«01_k».proof.Proof.Gen.In3F
public import proofs.«01_k».proof.Proof.Gen.In3F.Skeleton
public import proofs.«01_k».proof.Proof.Gen.In3F.Launch
public import proofs.«01_k».proof.Proof.Gen.In3F.Points
public import proofs.«01_k».proof.Proof.Gen.In3F.Frame
public import proofs.«01_k».proof.Proof.Gen.In3FIdeal
public import proofs.«01_k».proof.Proof.Gen.In3FIdeal.Skeleton
public import proofs.«01_k».proof.Proof.Gen.In3FIdeal.Launch
public import proofs.«01_k».proof.Proof.Gen.In3FIdeal.Points
public import proofs.«01_k».proof.Proof.Gen.In3FIdeal.Frame
public import proofs.«01_k».proof.Proof.Gen.In3FRefIdeal
public import proofs.«01_k».proof.Proof.Gen.In3FRefIdeal.Run
public import proofs.«01_k».proof.Proof.Gen.In3FRefIdeal.Read
public import proofs.«01_k».proof.Proof.Gen.In2F
public import proofs.«01_k».proof.Proof.Gen.In2F.Skeleton
public import proofs.«01_k».proof.Proof.Gen.In2F.Launch
public import proofs.«01_k».proof.Proof.Gen.In2F.Points
public import proofs.«01_k».proof.Proof.Gen.In2F.Frame
public import proofs.«01_k».proof.Proof.Gen.In2FIdeal
public import proofs.«01_k».proof.Proof.Gen.In2FIdeal.Skeleton
public import proofs.«01_k».proof.Proof.Gen.In2FIdeal.Launch
public import proofs.«01_k».proof.Proof.Gen.In2FIdeal.Points
public import proofs.«01_k».proof.Proof.Gen.In2FIdeal.Frame
public import proofs.«01_k».proof.Proof.Gen.In2FRefIdeal
public import proofs.«01_k».proof.Proof.Gen.In2FRefIdeal.Run
public import proofs.«01_k».proof.Proof.Gen.In2FRefIdeal.Read
public import proofs.«01_k».proof.Proof.Gen.Pre_gate_finite
public import proofs.«01_k».proof.Proof.Gen.Pre_norm_finite
public import proofs.«01_k».proof.Proof.Gen.Pre_normin_finite
public import proofs.«01_k».proof.Proof.UpXValue
public import proofs.«01_k».proof.Proof.UpWValue
public import proofs.«01_k».proof.Proof.DownXValue
public import proofs.«01_k».proof.Proof.DownWValue
public import proofs.«01_k».proof.Proof.In3XValue
public import proofs.«01_k».proof.Proof.In3WValue
public import proofs.«01_k».proof.Proof.OutXValue
public import proofs.«01_k».proof.Proof.OutWValue
public import proofs.«01_k».proof.Proof.In2XValue
public import proofs.«01_k».proof.Proof.In2WValue
public import proofs.«01_k».proof.Proof.In1XValue
public import proofs.«01_k».proof.Proof.In1WValue
public import proofs.«01_k».proof.Proof.UpFValue
public import proofs.«01_k».proof.Proof.In3FValue
public import proofs.«01_k».proof.Proof.In2FValue
public import proofs.«01_k».proof.Proof.GateValue
public import proofs.«01_k».proof.Proof.MergeValue
public import proofs.«01_k».proof.Proof.SconvValue
public import proofs.«01_k».proof.Proof.ResValue
public import proofs.«01_k».proof.Proof.RopeValue
public import proofs.«01_k».proof.Proof.NormValue
public import proofs.«01_k».proof.Proof.NormInValue
public import proofs.«01_k».proof.Proof.NormFValue
public import Idealize.ShloMosaic.Lib.Claim

@[expose] public section

set_option maxRecDepth 16384

noncomputable section

namespace Cert.Proof

open Idealize.ShloMosaic Idealize.SL.Sem

/-- The host reference of Gate runs and leaves its arguments as they were; it has no semaphore. -/
theorem gateRefIdeal_runs : quiescent_GateRefIdeal (hGateRefIdeal := Cert.GateRefIdeal.Gen.facts) := fun m g _ =>
  (θ_run Cert.GateRefIdeal.defs _ _).mono (fun r h => ⟨fun c => (h c).2.2.2.2, sem_eq_zero_of_no_sems (by decide) r.2⟩)
    (Cert.GateRefIdeal.Value.run (F := Idealize.ShloMosaic.Ideal) m g)

/-- The host reference of Gate runs and leaves its arguments as they were; it has no semaphore. -/
theorem gateRef_runs : quiescent_GateRefIdeal_pre_gate_finite (hGateRefIdeal := Cert.GateRefIdeal.Gen.facts)
    (hPre_gate_finite := Cert.Pre_gate_finite.Gen.facts) := fun m g _ =>
  (θ_run Cert.GateRefIdeal.defs _ _).mono (fun r h => ⟨fun c => (h c).2.2.2.2, sem_eq_zero_of_no_sems (by decide) r.2⟩)
    (Cert.GateRefIdeal.Value.run (F := Idealize.ShloMosaic.Ideal) m g)

/-- The host reference of Merge runs and leaves its arguments as they were; it has no semaphore. -/
theorem mergeRefIdeal_runs : quiescent_MergeRefIdeal (hMergeRefIdeal := Cert.MergeRefIdeal.Gen.facts) := fun m g _ =>
  (θ_run Cert.MergeRefIdeal.defs _ _).mono (fun r h => ⟨fun c => (h c).2.2.2.2.2, sem_eq_zero_of_no_sems (by decide) r.2⟩)
    (Cert.MergeRefIdeal.Value.run (F := Idealize.ShloMosaic.Ideal) m g)

/-- The host reference of Sconv runs and leaves its arguments as they were; it has no semaphore. -/
theorem sconvRefIdeal_runs : quiescent_SconvRefIdeal (hSconvRefIdeal := Cert.SconvRefIdeal.Gen.facts) := fun m g _ =>
  (θ_run Cert.SconvRefIdeal.defs _ _).mono (fun r h => ⟨fun c => (h c).2.2, sem_eq_zero_of_no_sems (by decide) r.2⟩)
    (Cert.SconvRefIdeal.Value.run (F := Idealize.ShloMosaic.Ideal) m g)

/-- The host reference of Res runs and leaves its arguments as they were; it has no semaphore. -/
theorem resRefIdeal_runs : quiescent_ResRefIdeal (hResRefIdeal := Cert.ResRefIdeal.Gen.facts) := fun m g _ =>
  (θ_run Cert.ResRefIdeal.defs _ _).mono (fun r h => ⟨fun c => (h c).2.2, sem_eq_zero_of_no_sems (by decide) r.2⟩)
    (Cert.ResRefIdeal.Value.run (F := Idealize.ShloMosaic.Ideal) m g)

/-- The host reference of Rope runs and leaves its arguments as they were; it has no semaphore. -/
theorem ropeRefIdeal_runs : quiescent_RopeRefIdeal (hRopeRefIdeal := Cert.RopeRefIdeal.Gen.facts) := fun m g _ =>
  (θ_run Cert.RopeRefIdeal.defs _ _).mono (fun r h => ⟨fun c => (h c).2, sem_eq_zero_of_no_sems (by decide) r.2⟩)
    (Cert.RopeRefIdeal.Value.run (F := Idealize.ShloMosaic.Ideal) m g)

/-- The host reference of Norm runs and leaves its arguments as they were; it has no semaphore. -/
theorem normRefIdeal_runs : quiescent_NormRefIdeal (hNormRefIdeal := Cert.NormRefIdeal.Gen.facts) := fun m g _ =>
  (θ_run Cert.NormRefIdeal.defs _ _).mono (fun r h => ⟨fun c => (h c).2.2.2, sem_eq_zero_of_no_sems (by decide) r.2⟩)
    (Cert.NormRefIdeal.Value.run (F := Idealize.ShloMosaic.Ideal) m g)

/-- The host reference of Norm runs and leaves its arguments as they were; it has no semaphore. -/
theorem normRef_runs : quiescent_NormRefIdeal_pre_norm_finite (hNormRefIdeal := Cert.NormRefIdeal.Gen.facts)
    (hPre_norm_finite := Cert.Pre_norm_finite.Gen.facts) := fun m g _ =>
  (θ_run Cert.NormRefIdeal.defs _ _).mono (fun r h => ⟨fun c => (h c).2.2.2, sem_eq_zero_of_no_sems (by decide) r.2⟩)
    (Cert.NormRefIdeal.Value.run (F := Idealize.ShloMosaic.Ideal) m g)

/-- The host reference of NormIn runs and leaves its arguments as they were; it has no semaphore. -/
theorem normInRefIdeal_runs : quiescent_NormInRefIdeal (hNormInRefIdeal := Cert.NormInRefIdeal.Gen.facts) := fun m g _ =>
  (θ_run Cert.NormInRefIdeal.defs _ _).mono (fun r h => ⟨fun c => (h c).2.2, sem_eq_zero_of_no_sems (by decide) r.2⟩)
    (Cert.NormInRefIdeal.Value.run (F := Idealize.ShloMosaic.Ideal) m g)

/-- The host reference of NormIn runs and leaves its arguments as they were; it has no semaphore. -/
theorem normInRef_runs : quiescent_NormInRefIdeal_pre_normin_finite (hNormInRefIdeal := Cert.NormInRefIdeal.Gen.facts)
    (hPre_normin_finite := Cert.Pre_normin_finite.Gen.facts) := fun m g _ =>
  (θ_run Cert.NormInRefIdeal.defs _ _).mono (fun r h => ⟨fun c => (h c).2.2, sem_eq_zero_of_no_sems (by decide) r.2⟩)
    (Cert.NormInRefIdeal.Value.run (F := Idealize.ShloMosaic.Ideal) m g)

/-- The host reference of NormF runs and leaves its arguments as they were; it has no semaphore. -/
theorem normFRefIdeal_runs : quiescent_NormFRefIdeal (hNormFRefIdeal := Cert.NormFRefIdeal.Gen.facts) := fun m g _ =>
  (θ_run Cert.NormFRefIdeal.defs _ _).mono (fun r h => ⟨fun c => (h c).2, sem_eq_zero_of_no_sems (by decide) r.2⟩)
    (Cert.NormFRefIdeal.Value.run (F := Idealize.ShloMosaic.Ideal) m g)

/-- The host reference of UpX runs and leaves its arguments as they were; it has no semaphore. -/
theorem upXRefIdeal_runs : quiescent_UpXRefIdeal (hUpXRefIdeal := Cert.UpXRefIdeal.Gen.facts) := fun m g _ =>
  (θ_run Cert.UpXRefIdeal.defs _ _).mono (fun r h => ⟨fun c => (h c).2, sem_eq_zero_of_no_sems (by decide) r.2⟩)
    (Cert.UpXRefIdeal.Value.run (F := Idealize.ShloMosaic.Ideal) m g)

/-- The host reference of UpW runs and leaves its arguments as they were; it has no semaphore. -/
theorem upWRefIdeal_runs : quiescent_UpWRefIdeal (hUpWRefIdeal := Cert.UpWRefIdeal.Gen.facts) := fun m g _ =>
  (θ_run Cert.UpWRefIdeal.defs _ _).mono (fun r h => ⟨fun c => (h c).2, sem_eq_zero_of_no_sems (by decide) r.2⟩)
    (Cert.UpWRefIdeal.Value.run (F := Idealize.ShloMosaic.Ideal) m g)

/-- The host reference of DownX runs and leaves its arguments as they were; it has no semaphore. -/
theorem downXRefIdeal_runs : quiescent_DownXRefIdeal (hDownXRefIdeal := Cert.DownXRefIdeal.Gen.facts) := fun m g _ =>
  (θ_run Cert.DownXRefIdeal.defs _ _).mono (fun r h => ⟨fun c => (h c).2, sem_eq_zero_of_no_sems (by decide) r.2⟩)
    (Cert.DownXRefIdeal.Value.run (F := Idealize.ShloMosaic.Ideal) m g)

/-- The host reference of DownW runs and leaves its arguments as they were; it has no semaphore. -/
theorem downWRefIdeal_runs : quiescent_DownWRefIdeal (hDownWRefIdeal := Cert.DownWRefIdeal.Gen.facts) := fun m g _ =>
  (θ_run Cert.DownWRefIdeal.defs _ _).mono (fun r h => ⟨fun c => (h c).2, sem_eq_zero_of_no_sems (by decide) r.2⟩)
    (Cert.DownWRefIdeal.Value.run (F := Idealize.ShloMosaic.Ideal) m g)

/-- The host reference of In3X runs and leaves its arguments as they were; it has no semaphore. -/
theorem in3XRefIdeal_runs : quiescent_In3XRefIdeal (hIn3XRefIdeal := Cert.In3XRefIdeal.Gen.facts) := fun m g _ =>
  (θ_run Cert.In3XRefIdeal.defs _ _).mono (fun r h => ⟨fun c => (h c).2, sem_eq_zero_of_no_sems (by decide) r.2⟩)
    (Cert.In3XRefIdeal.Value.run (F := Idealize.ShloMosaic.Ideal) m g)

/-- The host reference of In3W runs and leaves its arguments as they were; it has no semaphore. -/
theorem in3WRefIdeal_runs : quiescent_In3WRefIdeal (hIn3WRefIdeal := Cert.In3WRefIdeal.Gen.facts) := fun m g _ =>
  (θ_run Cert.In3WRefIdeal.defs _ _).mono (fun r h => ⟨fun c => (h c).2, sem_eq_zero_of_no_sems (by decide) r.2⟩)
    (Cert.In3WRefIdeal.Value.run (F := Idealize.ShloMosaic.Ideal) m g)

/-- The host reference of OutX runs and leaves its arguments as they were; it has no semaphore. -/
theorem outXRefIdeal_runs : quiescent_OutXRefIdeal (hOutXRefIdeal := Cert.OutXRefIdeal.Gen.facts) := fun m g _ =>
  (θ_run Cert.OutXRefIdeal.defs _ _).mono (fun r h => ⟨fun c => (h c).2, sem_eq_zero_of_no_sems (by decide) r.2⟩)
    (Cert.OutXRefIdeal.Value.run (F := Idealize.ShloMosaic.Ideal) m g)

/-- The host reference of OutW runs and leaves its arguments as they were; it has no semaphore. -/
theorem outWRefIdeal_runs : quiescent_OutWRefIdeal (hOutWRefIdeal := Cert.OutWRefIdeal.Gen.facts) := fun m g _ =>
  (θ_run Cert.OutWRefIdeal.defs _ _).mono (fun r h => ⟨fun c => (h c).2, sem_eq_zero_of_no_sems (by decide) r.2⟩)
    (Cert.OutWRefIdeal.Value.run (F := Idealize.ShloMosaic.Ideal) m g)

/-- The host reference of In2X runs and leaves its arguments as they were; it has no semaphore. -/
theorem in2XRefIdeal_runs : quiescent_In2XRefIdeal (hIn2XRefIdeal := Cert.In2XRefIdeal.Gen.facts) := fun m g _ =>
  (θ_run Cert.In2XRefIdeal.defs _ _).mono (fun r h => ⟨fun c => (h c).2, sem_eq_zero_of_no_sems (by decide) r.2⟩)
    (Cert.In2XRefIdeal.Value.run (F := Idealize.ShloMosaic.Ideal) m g)

/-- The host reference of In2W runs and leaves its arguments as they were; it has no semaphore. -/
theorem in2WRefIdeal_runs : quiescent_In2WRefIdeal (hIn2WRefIdeal := Cert.In2WRefIdeal.Gen.facts) := fun m g _ =>
  (θ_run Cert.In2WRefIdeal.defs _ _).mono (fun r h => ⟨fun c => (h c).2, sem_eq_zero_of_no_sems (by decide) r.2⟩)
    (Cert.In2WRefIdeal.Value.run (F := Idealize.ShloMosaic.Ideal) m g)

/-- The host reference of In1X runs and leaves its arguments as they were; it has no semaphore. -/
theorem in1XRefIdeal_runs : quiescent_In1XRefIdeal (hIn1XRefIdeal := Cert.In1XRefIdeal.Gen.facts) := fun m g _ =>
  (θ_run Cert.In1XRefIdeal.defs _ _).mono (fun r h => ⟨fun c => (h c).2, sem_eq_zero_of_no_sems (by decide) r.2⟩)
    (Cert.In1XRefIdeal.Value.run (F := Idealize.ShloMosaic.Ideal) m g)

/-- The host reference of In1W runs and leaves its arguments as they were; it has no semaphore. -/
theorem in1WRefIdeal_runs : quiescent_In1WRefIdeal (hIn1WRefIdeal := Cert.In1WRefIdeal.Gen.facts) := fun m g _ =>
  (θ_run Cert.In1WRefIdeal.defs _ _).mono (fun r h => ⟨fun c => (h c).2, sem_eq_zero_of_no_sems (by decide) r.2⟩)
    (Cert.In1WRefIdeal.Value.run (F := Idealize.ShloMosaic.Ideal) m g)

/-- The host reference of UpF runs and leaves its arguments as they were; it has no semaphore. -/
theorem upFRefIdeal_runs : quiescent_UpFRefIdeal (hUpFRefIdeal := Cert.UpFRefIdeal.Gen.facts) := fun m g _ =>
  (θ_run Cert.UpFRefIdeal.defs _ _).mono (fun r h => ⟨fun c => (h c).2, sem_eq_zero_of_no_sems (by decide) r.2⟩)
    (Cert.UpFRefIdeal.Value.run (F := Idealize.ShloMosaic.Ideal) m g)

/-- The host reference of In3F runs and leaves its arguments as they were; it has no semaphore. -/
theorem in3FRefIdeal_runs : quiescent_In3FRefIdeal (hIn3FRefIdeal := Cert.In3FRefIdeal.Gen.facts) := fun m g _ =>
  (θ_run Cert.In3FRefIdeal.defs _ _).mono (fun r h => ⟨fun c => (h c).2, sem_eq_zero_of_no_sems (by decide) r.2⟩)
    (Cert.In3FRefIdeal.Value.run (F := Idealize.ShloMosaic.Ideal) m g)

/-- The host reference of In2F runs and leaves its arguments as they were; it has no semaphore. -/
theorem in2FRefIdeal_runs : quiescent_In2FRefIdeal (hIn2FRefIdeal := Cert.In2FRefIdeal.Gen.facts) := fun m g _ =>
  (θ_run Cert.In2FRefIdeal.defs _ _).mono (fun r h => ⟨fun c => (h c).2, sem_eq_zero_of_no_sems (by decide) r.2⟩)
    (Cert.In2FRefIdeal.Value.run (F := Idealize.ShloMosaic.Ideal) m g)

/-- The gating gradient's two constants are the numbers its launch rounds. -/
theorem gate_constants : preserves_Gate_GateIdeal :=
  ⟨IdealRules.named_const.statement Cert.GateIdeal.κ "cubic" .f32 0x3D372713#32 ((8943 / 200000 : ℝ) : EReal) rfl,
   IdealRules.named_const.statement Cert.GateIdeal.κ "cubic3" .f32 0x3E095D4F#32 ((26829 / 200000 : ℝ) : EReal) rfl⟩

/-- Gate: over the reals kernel and reference return the same four arrays, of finite arguments. -/
theorem gate_equal : algebraic_GateIdeal_GateRefIdeal_pre_gate_finite (hGateIdeal := Cert.GateIdeal.Gen.facts)
    (hGateRefIdeal := Cert.GateRefIdeal.Gen.facts) (hPre_gate_finite := Cert.Pre_gate_finite.Gen.facts) := by
  pair_intro
  · run_from Cert.GateIdeal.Gen.run_main m g
  · run_from Cert.GateRefIdeal.Value.run m' g'
    · have e : Cert.GateRefIdeal.Read.val_main_v101 (F := Ideal) (m' ((c.tc : Thread Cert.GateRefIdeal.nD Cert.GateRefIdeal.τ).loc Cert.GateRefIdeal.main_arg0)) (m' ((c.tc : Thread Cert.GateRefIdeal.nD Cert.GateRefIdeal.τ).loc Cert.GateRefIdeal.main_arg1)) (m' ((c.tc : Thread Cert.GateRefIdeal.nD Cert.GateRefIdeal.τ).loc Cert.GateRefIdeal.main_arg2)) (m' ((c.tc : Thread Cert.GateRefIdeal.nD Cert.GateRefIdeal.τ).loc Cert.GateRefIdeal.main_arg3)) (m' ((c.tc : Thread Cert.GateRefIdeal.nD Cert.GateRefIdeal.τ).loc Cert.GateRefIdeal.main_arg4)) = (Cert.GateIdeal.Gen.dats m 0 c).arrAt 5 Cert.GateIdeal.cfg0.N := by
        rw [(hagree c).1, (hagree c).2.1, (hagree c).2.2.1, (hagree c).2.2.2.1, (hagree c).2.2.2.2]
        exact (Cert.GateIdeal.Lift.final5 (Cert.GateIdeal.Lift.reals_of_finite hpre c)).symm
      rw [← (hagree c).1]
      exact (Cert.GateRefIdeal.Read.val_main_v101_eq (F := Ideal) (StableHlo.launchContents m' c)).trans e
    · have e : Cert.GateRefIdeal.Read.val_main_v55 (F := Ideal) (m' ((c.tc : Thread Cert.GateRefIdeal.nD Cert.GateRefIdeal.τ).loc Cert.GateRefIdeal.main_arg0)) (m' ((c.tc : Thread Cert.GateRefIdeal.nD Cert.GateRefIdeal.τ).loc Cert.GateRefIdeal.main_arg1)) (m' ((c.tc : Thread Cert.GateRefIdeal.nD Cert.GateRefIdeal.τ).loc Cert.GateRefIdeal.main_arg4)) = (Cert.GateIdeal.Gen.dats m 0 c).arrAt 6 Cert.GateIdeal.cfg0.N := by
        rw [(hagree c).1, (hagree c).2.1, (hagree c).2.2.2.2]
        exact (Cert.GateIdeal.Lift.final6 (Cert.GateIdeal.Lift.reals_of_finite hpre c)).symm
      exact (Cert.GateRefIdeal.Read.val_main_v55_eq (F := Ideal) (StableHlo.launchContents m' c)).trans e
    · have e : Cert.GateRefIdeal.Read.val_main_v103 (F := Ideal) (m' ((c.tc : Thread Cert.GateRefIdeal.nD Cert.GateRefIdeal.τ).loc Cert.GateRefIdeal.main_arg0)) (m' ((c.tc : Thread Cert.GateRefIdeal.nD Cert.GateRefIdeal.τ).loc Cert.GateRefIdeal.main_arg1)) = (Cert.GateIdeal.Gen.dats m 0 c).arrAt 7 Cert.GateIdeal.cfg0.N := by
        rw [(hagree c).1, (hagree c).2.1]
        exact (Cert.GateIdeal.Lift.final7 (Cert.GateIdeal.Lift.reals_of_finite hpre c)).symm
      exact (Cert.GateRefIdeal.Read.val_main_v103_eq (F := Ideal) (StableHlo.launchContents m' c)).trans e
    · have e : Cert.GateRefIdeal.Read.val_main_v105 (F := Ideal) (m' ((c.tc : Thread Cert.GateRefIdeal.nD Cert.GateRefIdeal.τ).loc Cert.GateRefIdeal.main_arg0)) (m' ((c.tc : Thread Cert.GateRefIdeal.nD Cert.GateRefIdeal.τ).loc Cert.GateRefIdeal.main_arg1)) (m' ((c.tc : Thread Cert.GateRefIdeal.nD Cert.GateRefIdeal.τ).loc Cert.GateRefIdeal.main_arg2)) = (Cert.GateIdeal.Gen.dats m 0 c).arrAt 8 Cert.GateIdeal.cfg0.N := by
        rw [(hagree c).1, (hagree c).2.1, (hagree c).2.2.1]
        exact (Cert.GateIdeal.Lift.final8 (Cert.GateIdeal.Lift.reals_of_finite hpre c)).symm
      exact (Cert.GateRefIdeal.Read.val_main_v105_eq (F := Ideal) (StableHlo.launchContents m' c)).trans e

/-- Merge: over the reals kernel and reference return the same five arrays. -/
theorem merge_equal : algebraic_MergeIdeal_MergeRefIdeal (hMergeIdeal := Cert.MergeIdeal.Gen.facts)
    (hMergeRefIdeal := Cert.MergeRefIdeal.Gen.facts) := by
  pair_intro
  · run_from Cert.MergeIdeal.Gen.run_main m g
  · run_from Cert.MergeRefIdeal.Value.run m' g'
    · exact (Cert.MergeRefIdeal.Read.val_main_v43_eq (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg2)) (m ((c.tc : Thread Cert.MergeIdeal.nD Cert.MergeIdeal.τ).loc Cert.MergeIdeal.main_arg3))).trans (Cert.MergeIdeal.Lift.final6).symm
    · exact (Cert.MergeRefIdeal.Read.val_main_v44_eq (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg2)) (m ((c.tc : Thread Cert.MergeIdeal.nD Cert.MergeIdeal.τ).loc Cert.MergeIdeal.main_arg3))).trans (Cert.MergeIdeal.Lift.final7).symm
    · exact (Cert.MergeRefIdeal.Read.val_main_v45_eq (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg2)) (m ((c.tc : Thread Cert.MergeIdeal.nD Cert.MergeIdeal.τ).loc Cert.MergeIdeal.main_arg3))).trans (Cert.MergeIdeal.Lift.final8).symm
    · exact (Cert.MergeRefIdeal.Read.val_main_v46_eq (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3))).trans (Cert.MergeIdeal.Lift.final9).symm
    · exact (Cert.MergeRefIdeal.Read.val_main_v48_eq (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3))).trans (Cert.MergeIdeal.Lift.final10).symm

/-- Sconv: over the reals kernel and reference return the same two arrays. -/
theorem sconv_equal : algebraic_SconvIdeal_SconvRefIdeal (hSconvIdeal := Cert.SconvIdeal.Gen.facts)
    (hSconvRefIdeal := Cert.SconvRefIdeal.Gen.facts) := by
  pair_intro
  · run_from Cert.SconvIdeal.Gen.run_main m g
    exact Cert.SconvIdeal.Gen.V_main_arg2 m c
  · run_from Cert.SconvRefIdeal.Value.run m' g'
    · have e : Cert.SconvRefIdeal.Read.val_main_v153 (F := Ideal) (m' ((c.tc : Thread Cert.SconvRefIdeal.nD Cert.SconvRefIdeal.τ).loc Cert.SconvRefIdeal.main_arg0)) (m' ((c.tc : Thread Cert.SconvRefIdeal.nD Cert.SconvRefIdeal.τ).loc Cert.SconvRefIdeal.main_arg1)) (m' ((c.tc : Thread Cert.SconvRefIdeal.nD Cert.SconvRefIdeal.τ).loc Cert.SconvRefIdeal.main_arg2)) = (Cert.SconvIdeal.Gen.dats m 0 c).arrAt 7 Cert.SconvIdeal.cfg0.N := by
        rw [(hagree c).1, (hagree c).2.1, (hagree c).2.2]
        exact (Cert.SconvIdeal.Lift.final7).symm
      exact (Cert.SconvRefIdeal.Read.val_main_v153_eq (F := Ideal) (StableHlo.launchContents m' c)).trans e
    · have e : Cert.SconvRefIdeal.Read.val_main_v154 (F := Ideal) (m' ((c.tc : Thread Cert.SconvRefIdeal.nD Cert.SconvRefIdeal.τ).loc Cert.SconvRefIdeal.main_arg0)) (m' ((c.tc : Thread Cert.SconvRefIdeal.nD Cert.SconvRefIdeal.τ).loc Cert.SconvRefIdeal.main_arg1)) = (Cert.SconvIdeal.Gen.dats m 0 c).arrAt 8 Cert.SconvIdeal.cfg0.N := by
        rw [(hagree c).1, (hagree c).2.1]
        exact (Cert.SconvIdeal.Lift.final8).symm
      exact (Cert.SconvRefIdeal.Read.val_main_v154_eq (F := Ideal) (StableHlo.launchContents m' c)).trans e

/-- Res: over the reals kernel and reference return the same two arrays. -/
theorem res_equal : algebraic_ResIdeal_ResRefIdeal (hResIdeal := Cert.ResIdeal.Gen.facts)
    (hResRefIdeal := Cert.ResRefIdeal.Gen.facts) := by
  pair_intro
  · run_from Cert.ResIdeal.Gen.run_main m g
  · run_from Cert.ResRefIdeal.Value.run m' g'
    · rw [(hagree c).2.2]
      exact (Cert.ResRefIdeal.Read.val_main_v27_eq (F := Ideal) (m ((c.tc : Thread Cert.ResIdeal.nD Cert.ResIdeal.τ).loc Cert.ResIdeal.main_arg0)) (m ((c.tc : Thread Cert.ResIdeal.nD Cert.ResIdeal.τ).loc Cert.ResIdeal.main_arg2))).trans (Cert.ResIdeal.Lift.final3).symm
    · exact (Cert.ResRefIdeal.Read.val_main_v31_eq (F := Ideal) (m ((c.tc : Thread Cert.ResIdeal.nD Cert.ResIdeal.τ).loc Cert.ResIdeal.main_arg0)) (m ((c.tc : Thread Cert.ResIdeal.nD Cert.ResIdeal.τ).loc Cert.ResIdeal.main_arg1))).trans (Cert.ResIdeal.Lift.final4).symm

/-- Rope: over the reals kernel and reference return the same array. -/
theorem rope_equal : algebraic_RopeIdeal_RopeRefIdeal (hRopeIdeal := Cert.RopeIdeal.Gen.facts)
    (hRopeRefIdeal := Cert.RopeRefIdeal.Gen.facts) := by
  pair_intro
  · run_from Cert.RopeIdeal.Gen.run_main m g
  · run_from Cert.RopeRefIdeal.Value.run m' g'
    have e : Cert.RopeRefIdeal.Read.val_main_v106 (F := Ideal) (m' ((c.tc : Thread Cert.RopeRefIdeal.nD Cert.RopeRefIdeal.τ).loc Cert.RopeRefIdeal.main_arg0)) (m' ((c.tc : Thread Cert.RopeRefIdeal.nD Cert.RopeRefIdeal.τ).loc Cert.RopeRefIdeal.main_arg1)) (m' ((c.tc : Thread Cert.RopeRefIdeal.nD Cert.RopeRefIdeal.τ).loc Cert.RopeRefIdeal.main_arg2)) = (Cert.RopeIdeal.Gen.dats m 0 c).arrAt 5 Cert.RopeIdeal.cfg0.N := by
      rw [(hagree c).1, (hagree c).2.1, (hagree c).2.2]
      exact (Cert.RopeIdeal.Lift.final5).symm
    exact (Cert.RopeRefIdeal.Read.val_main_v106_eq (F := Ideal) m' c).trans e

/-- Norm: over the reals kernel and reference return the same three arrays, of finite rows, gradient, scale and modulation. -/
theorem norm_equal : algebraic_NormIdeal_NormRefIdeal_pre_norm_finite (hNormIdeal := Cert.NormIdeal.Gen.facts)
    (hNormRefIdeal := Cert.NormRefIdeal.Gen.facts) (hPre_norm_finite := Cert.Pre_norm_finite.Gen.facts) := by
  pair_intro
  · run_from Cert.NormIdeal.Gen.run_main m g
  · run_from Cert.NormRefIdeal.Value.run m' g'
    · have e : Cert.NormRefIdeal.Read.val_main_v146 (F := Ideal) (m' ((c.tc : Thread Cert.NormRefIdeal.nD Cert.NormRefIdeal.τ).loc Cert.NormRefIdeal.main_arg0)) (m' ((c.tc : Thread Cert.NormRefIdeal.nD Cert.NormRefIdeal.τ).loc Cert.NormRefIdeal.main_arg1)) (m' ((c.tc : Thread Cert.NormRefIdeal.nD Cert.NormRefIdeal.τ).loc Cert.NormRefIdeal.main_arg2)) (m' ((c.tc : Thread Cert.NormRefIdeal.nD Cert.NormRefIdeal.τ).loc Cert.NormRefIdeal.main_arg4)) (m' ((c.tc : Thread Cert.NormRefIdeal.nD Cert.NormRefIdeal.τ).loc Cert.NormRefIdeal.main_arg5)) = (Cert.NormIdeal.Gen.dats m 0 c).arrAt 6 Cert.NormIdeal.cfg0.N := by
        rw [(hagree c).1, (hagree c).2.1, (hagree c).2.2.1, (hagree c).2.2.2.2.1, (hagree c).2.2.2.2.2]
        exact (Cert.NormIdeal.Lift.final6 (Cert.NormIdeal.Lift.reals_of_finite hpre c)).symm
      exact (Cert.NormRefIdeal.Read.val_main_v146_eq (F := Ideal) (StableHlo.launchContents m' c)).trans e
    · have e : Cert.NormRefIdeal.Read.val_main_v155 (F := Ideal) (m' ((c.tc : Thread Cert.NormRefIdeal.nD Cert.NormRefIdeal.τ).loc Cert.NormRefIdeal.main_arg0)) (m' ((c.tc : Thread Cert.NormRefIdeal.nD Cert.NormRefIdeal.τ).loc Cert.NormRefIdeal.main_arg1)) (m' ((c.tc : Thread Cert.NormRefIdeal.nD Cert.NormRefIdeal.τ).loc Cert.NormRefIdeal.main_arg2)) (m' ((c.tc : Thread Cert.NormRefIdeal.nD Cert.NormRefIdeal.τ).loc Cert.NormRefIdeal.main_arg3)) (m' ((c.tc : Thread Cert.NormRefIdeal.nD Cert.NormRefIdeal.τ).loc Cert.NormRefIdeal.main_arg4)) (m' ((c.tc : Thread Cert.NormRefIdeal.nD Cert.NormRefIdeal.τ).loc Cert.NormRefIdeal.main_arg5)) = (Cert.NormIdeal.Gen.dats m 0 c).arrAt 7 Cert.NormIdeal.cfg0.N := by
        rw [(hagree c).1, (hagree c).2.1, (hagree c).2.2.1, (hagree c).2.2.2.1, (hagree c).2.2.2.2.1, (hagree c).2.2.2.2.2]
        exact (Cert.NormIdeal.Lift.final7 (Cert.NormIdeal.Lift.reals_of_finite hpre c)).symm
      exact (Cert.NormRefIdeal.Read.val_main_v155_eq (F := Ideal) (StableHlo.launchContents m' c)).trans e
    · have e : Cert.NormRefIdeal.Read.val_main_v157 (F := Ideal) (m' ((c.tc : Thread Cert.NormRefIdeal.nD Cert.NormRefIdeal.τ).loc Cert.NormRefIdeal.main_arg0)) (m' ((c.tc : Thread Cert.NormRefIdeal.nD Cert.NormRefIdeal.τ).loc Cert.NormRefIdeal.main_arg1)) (m' ((c.tc : Thread Cert.NormRefIdeal.nD Cert.NormRefIdeal.τ).loc Cert.NormRefIdeal.main_arg2)) (m' ((c.tc : Thread Cert.NormRefIdeal.nD Cert.NormRefIdeal.τ).loc Cert.NormRefIdeal.main_arg4)) (m' ((c.tc : Thread Cert.NormRefIdeal.nD Cert.NormRefIdeal.τ).loc Cert.NormRefIdeal.main_arg5)) = (Cert.NormIdeal.Gen.dats m 0 c).arrAt 8 Cert.NormIdeal.cfg0.N := by
        rw [(hagree c).1, (hagree c).2.1, (hagree c).2.2.1, (hagree c).2.2.2.2.1, (hagree c).2.2.2.2.2]
        exact (Cert.NormIdeal.Lift.final8 (Cert.NormIdeal.Lift.reals_of_finite hpre c)).symm
      exact (Cert.NormRefIdeal.Read.val_main_v157_eq (F := Ideal) (StableHlo.launchContents m' c)).trans e

/-- NormIn: over the reals kernel and reference return the same two arrays, of finite rows, gradients, scale and modulation. -/
theorem normIn_equal : algebraic_NormInIdeal_NormInRefIdeal_pre_normin_finite (hNormInIdeal := Cert.NormInIdeal.Gen.facts)
    (hNormInRefIdeal := Cert.NormInRefIdeal.Gen.facts) (hPre_normin_finite := Cert.Pre_normin_finite.Gen.facts) := by
  pair_intro
  · run_from Cert.NormInIdeal.Gen.run_main m g
  · run_from Cert.NormInRefIdeal.Value.run m' g'
    · have e : Cert.NormInRefIdeal.Read.val_main_v126 (F := Ideal) (m' ((c.tc : Thread Cert.NormInRefIdeal.nD Cert.NormInRefIdeal.τ).loc Cert.NormInRefIdeal.main_arg0)) (m' ((c.tc : Thread Cert.NormInRefIdeal.nD Cert.NormInRefIdeal.τ).loc Cert.NormInRefIdeal.main_arg1)) (m' ((c.tc : Thread Cert.NormInRefIdeal.nD Cert.NormInRefIdeal.τ).loc Cert.NormInRefIdeal.main_arg2)) (m' ((c.tc : Thread Cert.NormInRefIdeal.nD Cert.NormInRefIdeal.τ).loc Cert.NormInRefIdeal.main_arg3)) (m' ((c.tc : Thread Cert.NormInRefIdeal.nD Cert.NormInRefIdeal.τ).loc Cert.NormInRefIdeal.main_arg4)) (m' ((c.tc : Thread Cert.NormInRefIdeal.nD Cert.NormInRefIdeal.τ).loc Cert.NormInRefIdeal.main_arg5)) (m' ((c.tc : Thread Cert.NormInRefIdeal.nD Cert.NormInRefIdeal.τ).loc Cert.NormInRefIdeal.main_arg6)) (m' ((c.tc : Thread Cert.NormInRefIdeal.nD Cert.NormInRefIdeal.τ).loc Cert.NormInRefIdeal.main_arg7)) = (Cert.NormInIdeal.Gen.dats m 0 c).arrAt 8 Cert.NormInIdeal.cfg0.N := by
        rw [(hagree c).1, (hagree c).2.1, (hagree c).2.2.1, (hagree c).2.2.2.1, (hagree c).2.2.2.2.1, (hagree c).2.2.2.2.2.1, (hagree c).2.2.2.2.2.2.1, (hagree c).2.2.2.2.2.2.2]
        exact (Cert.NormInIdeal.Lift.final8 (Cert.NormInIdeal.Lift.reals_of_finite hpre c)).symm
      exact (Cert.NormInRefIdeal.Read.val_main_v126_eq (F := Ideal) m' c).trans e
    · have e : Cert.NormInRefIdeal.Read.val_main_v134 (F := Ideal) (m' ((c.tc : Thread Cert.NormInRefIdeal.nD Cert.NormInRefIdeal.τ).loc Cert.NormInRefIdeal.main_arg0)) (m' ((c.tc : Thread Cert.NormInRefIdeal.nD Cert.NormInRefIdeal.τ).loc Cert.NormInRefIdeal.main_arg1)) (m' ((c.tc : Thread Cert.NormInRefIdeal.nD Cert.NormInRefIdeal.τ).loc Cert.NormInRefIdeal.main_arg2)) (m' ((c.tc : Thread Cert.NormInRefIdeal.nD Cert.NormInRefIdeal.τ).loc Cert.NormInRefIdeal.main_arg3)) (m' ((c.tc : Thread Cert.NormInRefIdeal.nD Cert.NormInRefIdeal.τ).loc Cert.NormInRefIdeal.main_arg4)) (m' ((c.tc : Thread Cert.NormInRefIdeal.nD Cert.NormInRefIdeal.τ).loc Cert.NormInRefIdeal.main_arg6)) (m' ((c.tc : Thread Cert.NormInRefIdeal.nD Cert.NormInRefIdeal.τ).loc Cert.NormInRefIdeal.main_arg7)) = (Cert.NormInIdeal.Gen.dats m 0 c).arrAt 9 Cert.NormInIdeal.cfg0.N := by
        rw [(hagree c).1, (hagree c).2.1, (hagree c).2.2.1, (hagree c).2.2.2.1, (hagree c).2.2.2.2.1, (hagree c).2.2.2.2.2.2.1, (hagree c).2.2.2.2.2.2.2]
        exact (Cert.NormInIdeal.Lift.final9).symm
      exact (Cert.NormInRefIdeal.Read.val_main_v134_eq (F := Ideal) m' c).trans e

/-- NormF: over the reals kernel and reference return the same array. -/
theorem normF_equal : algebraic_NormFIdeal_NormFRefIdeal (hNormFIdeal := Cert.NormFIdeal.Gen.facts)
    (hNormFRefIdeal := Cert.NormFRefIdeal.Gen.facts) := by
  pair_intro
  · run_from Cert.NormFIdeal.Gen.run_main m g
  · run_from Cert.NormFRefIdeal.Value.run m' g'
    rw [(hagree c).2.2]
    exact (Cert.NormFRefIdeal.Read.val_main_v53_eq (F := Ideal) _ _ _).trans (Cert.NormFIdeal.Lift.final3).symm

/-- UpX: over the reals kernel and reference return the same array. -/
theorem upX_equal : algebraic_UpXIdeal_UpXRefIdeal (hUpXIdeal := Cert.UpXIdeal.Gen.facts) (hUpXRefIdeal := Cert.UpXRefIdeal.Gen.facts) := by
  pair_intro
  · run_from Cert.UpXIdeal.Gen.run_main m g
  · run_from Cert.UpXRefIdeal.Value.run m' g'
    exact (Cert.UpXIdeal.Product.final m _).symm

/-- UpW: over the reals kernel and reference return the same array. -/
theorem upW_equal : algebraic_UpWIdeal_UpWRefIdeal (hUpWIdeal := Cert.UpWIdeal.Gen.facts) (hUpWRefIdeal := Cert.UpWRefIdeal.Gen.facts) := by
  pair_intro
  · run_from Cert.UpWIdeal.Gen.run_main m g
  · run_from Cert.UpWRefIdeal.Value.run m' g'
    exact (Cert.UpWIdeal.Product.final m _).symm

/-- DownX: over the reals kernel and reference return the same array. -/
theorem downX_equal : algebraic_DownXIdeal_DownXRefIdeal (hDownXIdeal := Cert.DownXIdeal.Gen.facts) (hDownXRefIdeal := Cert.DownXRefIdeal.Gen.facts) := by
  pair_intro
  · run_from Cert.DownXIdeal.Gen.run_main m g
  · run_from Cert.DownXRefIdeal.Value.run m' g'
    exact (Cert.DownXIdeal.Product.final m _).symm

/-- DownW: over the reals kernel and reference return the same array. -/
theorem downW_equal : algebraic_DownWIdeal_DownWRefIdeal (hDownWIdeal := Cert.DownWIdeal.Gen.facts) (hDownWRefIdeal := Cert.DownWRefIdeal.Gen.facts) := by
  pair_intro
  · run_from Cert.DownWIdeal.Gen.run_main m g
  · run_from Cert.DownWRefIdeal.Value.run m' g'
    exact (Cert.DownWIdeal.Product.final m _).symm

/-- In3X: over the reals kernel and reference return the same array. -/
theorem in3X_equal : algebraic_In3XIdeal_In3XRefIdeal (hIn3XIdeal := Cert.In3XIdeal.Gen.facts) (hIn3XRefIdeal := Cert.In3XRefIdeal.Gen.facts) := by
  pair_intro
  · run_from Cert.In3XIdeal.Gen.run_main m g
  · run_from Cert.In3XRefIdeal.Value.run m' g'
    exact (Cert.In3XIdeal.Product.final m _).symm

/-- In3W: over the reals kernel and reference return the same array. -/
theorem in3W_equal : algebraic_In3WIdeal_In3WRefIdeal (hIn3WIdeal := Cert.In3WIdeal.Gen.facts) (hIn3WRefIdeal := Cert.In3WRefIdeal.Gen.facts) := by
  pair_intro
  · run_from Cert.In3WIdeal.Gen.run_main m g
  · run_from Cert.In3WRefIdeal.Value.run m' g'
    exact (Cert.In3WIdeal.Product.final m _).symm

/-- OutX: over the reals kernel and reference return the same array. -/
theorem outX_equal : algebraic_OutXIdeal_OutXRefIdeal (hOutXIdeal := Cert.OutXIdeal.Gen.facts) (hOutXRefIdeal := Cert.OutXRefIdeal.Gen.facts) := by
  pair_intro
  · run_from Cert.OutXIdeal.Gen.run_main m g
  · run_from Cert.OutXRefIdeal.Value.run m' g'
    exact (Cert.OutXIdeal.Product.final m _).symm

/-- OutW: over the reals kernel and reference return the same array. -/
theorem outW_equal : algebraic_OutWIdeal_OutWRefIdeal (hOutWIdeal := Cert.OutWIdeal.Gen.facts) (hOutWRefIdeal := Cert.OutWRefIdeal.Gen.facts) := by
  pair_intro
  · run_from Cert.OutWIdeal.Gen.run_main m g
  · run_from Cert.OutWRefIdeal.Value.run m' g'
    exact (Cert.OutWIdeal.Product.final m _).symm

/-- In2X: over the reals kernel and reference return the same array. -/
theorem in2X_equal : algebraic_In2XIdeal_In2XRefIdeal (hIn2XIdeal := Cert.In2XIdeal.Gen.facts) (hIn2XRefIdeal := Cert.In2XRefIdeal.Gen.facts) := by
  pair_intro
  · run_from Cert.In2XIdeal.Gen.run_main m g
  · run_from Cert.In2XRefIdeal.Value.run m' g'
    exact (Cert.In2XIdeal.Product.final m _).symm

/-- In2W: over the reals kernel and reference return the same array. -/
theorem in2W_equal : algebraic_In2WIdeal_In2WRefIdeal (hIn2WIdeal := Cert.In2WIdeal.Gen.facts) (hIn2WRefIdeal := Cert.In2WRefIdeal.Gen.facts) := by
  pair_intro
  · run_from Cert.In2WIdeal.Gen.run_main m g
  · run_from Cert.In2WRefIdeal.Value.run m' g'
    exact (Cert.In2WIdeal.Product.final m _).symm

/-- In1X: over the reals kernel and reference return the same array. -/
theorem in1X_equal : algebraic_In1XIdeal_In1XRefIdeal (hIn1XIdeal := Cert.In1XIdeal.Gen.facts) (hIn1XRefIdeal := Cert.In1XRefIdeal.Gen.facts) := by
  pair_intro
  · run_from Cert.In1XIdeal.Gen.run_main m g
  · run_from Cert.In1XRefIdeal.Value.run m' g'
    exact (Cert.In1XIdeal.Product.final m _).symm

/-- In1W: over the reals kernel and reference return the same array. -/
theorem in1W_equal : algebraic_In1WIdeal_In1WRefIdeal (hIn1WIdeal := Cert.In1WIdeal.Gen.facts) (hIn1WRefIdeal := Cert.In1WRefIdeal.Gen.facts) := by
  pair_intro
  · run_from Cert.In1WIdeal.Gen.run_main m g
  · run_from Cert.In1WRefIdeal.Value.run m' g'
    exact (Cert.In1WIdeal.Product.final m _).symm

/-- UpF: over the reals kernel and reference return the same array. -/
theorem upF_equal : algebraic_UpFIdeal_UpFRefIdeal (hUpFIdeal := Cert.UpFIdeal.Gen.facts) (hUpFRefIdeal := Cert.UpFRefIdeal.Gen.facts) := by
  pair_intro
  · run_from Cert.UpFIdeal.Gen.run_main m g
  · run_from Cert.UpFRefIdeal.Value.run m' g'
    exact (Cert.UpFIdeal.Product.final m _).symm

/-- In3F: over the reals kernel and reference return the same array. -/
theorem in3F_equal : algebraic_In3FIdeal_In3FRefIdeal (hIn3FIdeal := Cert.In3FIdeal.Gen.facts) (hIn3FRefIdeal := Cert.In3FRefIdeal.Gen.facts) := by
  pair_intro
  · run_from Cert.In3FIdeal.Gen.run_main m g
  · run_from Cert.In3FRefIdeal.Value.run m' g'
    exact (Cert.In3FIdeal.Product.final m _).symm

/-- In2F: over the reals kernel and reference return the same array. -/
theorem in2F_equal : algebraic_In2FIdeal_In2FRefIdeal (hIn2FIdeal := Cert.In2FIdeal.Gen.facts) (hIn2FRefIdeal := Cert.In2FRefIdeal.Gen.facts) := by
  pair_intro
  · run_from Cert.In2FIdeal.Gen.run_main m g
  · run_from Cert.In2FRefIdeal.Value.run m' g'
    exact (Cert.In2FIdeal.Product.final m _).symm

/-- The whole claim. -/
theorem claim : Cert.Claim := ⟨Cert.Gate.Gen.facts,
  Cert.GateIdeal.Gen.facts,
  Cert.GateRefIdeal.Gen.facts,
  Cert.Merge.Gen.facts,
  Cert.MergeIdeal.Gen.facts,
  Cert.MergeRefIdeal.Gen.facts,
  Cert.Sconv.Gen.facts,
  Cert.SconvIdeal.Gen.facts,
  Cert.SconvRefIdeal.Gen.facts,
  Cert.Res.Gen.facts,
  Cert.ResIdeal.Gen.facts,
  Cert.ResRefIdeal.Gen.facts,
  Cert.Rope.Gen.facts,
  Cert.RopeIdeal.Gen.facts,
  Cert.RopeRefIdeal.Gen.facts,
  Cert.Norm.Gen.facts,
  Cert.NormIdeal.Gen.facts,
  Cert.NormRefIdeal.Gen.facts,
  Cert.NormIn.Gen.facts,
  Cert.NormInIdeal.Gen.facts,
  Cert.NormInRefIdeal.Gen.facts,
  Cert.NormF.Gen.facts,
  Cert.NormFIdeal.Gen.facts,
  Cert.NormFRefIdeal.Gen.facts,
  Cert.UpX.Gen.facts,
  Cert.UpXIdeal.Gen.facts,
  Cert.UpXRefIdeal.Gen.facts,
  Cert.UpW.Gen.facts,
  Cert.UpWIdeal.Gen.facts,
  Cert.UpWRefIdeal.Gen.facts,
  Cert.DownX.Gen.facts,
  Cert.DownXIdeal.Gen.facts,
  Cert.DownXRefIdeal.Gen.facts,
  Cert.DownW.Gen.facts,
  Cert.DownWIdeal.Gen.facts,
  Cert.DownWRefIdeal.Gen.facts,
  Cert.In3X.Gen.facts,
  Cert.In3XIdeal.Gen.facts,
  Cert.In3XRefIdeal.Gen.facts,
  Cert.In3W.Gen.facts,
  Cert.In3WIdeal.Gen.facts,
  Cert.In3WRefIdeal.Gen.facts,
  Cert.OutX.Gen.facts,
  Cert.OutXIdeal.Gen.facts,
  Cert.OutXRefIdeal.Gen.facts,
  Cert.OutW.Gen.facts,
  Cert.OutWIdeal.Gen.facts,
  Cert.OutWRefIdeal.Gen.facts,
  Cert.In2X.Gen.facts,
  Cert.In2XIdeal.Gen.facts,
  Cert.In2XRefIdeal.Gen.facts,
  Cert.In2W.Gen.facts,
  Cert.In2WIdeal.Gen.facts,
  Cert.In2WRefIdeal.Gen.facts,
  Cert.In1X.Gen.facts,
  Cert.In1XIdeal.Gen.facts,
  Cert.In1XRefIdeal.Gen.facts,
  Cert.In1W.Gen.facts,
  Cert.In1WIdeal.Gen.facts,
  Cert.In1WRefIdeal.Gen.facts,
  Cert.UpF.Gen.facts,
  Cert.UpFIdeal.Gen.facts,
  Cert.UpFRefIdeal.Gen.facts,
  Cert.In3F.Gen.facts,
  Cert.In3FIdeal.Gen.facts,
  Cert.In3FRefIdeal.Gen.facts,
  Cert.In2F.Gen.facts,
  Cert.In2FIdeal.Gen.facts,
  Cert.In2FRefIdeal.Gen.facts,
  Cert.Pre_gate_finite.Gen.facts,
  Cert.Pre_norm_finite.Gen.facts,
  Cert.Pre_normin_finite.Gen.facts,
  fun m g _ => Cert.Gate.Gen.frame m g,
  fun m g _ => Cert.GateIdeal.Gen.frame m g,
  fun m g _ => Cert.GateIdeal.Gen.frame m g,
  gateRefIdeal_runs,
  gateRef_runs,
  fun m g _ => Cert.Merge.Gen.frame m g,
  fun m g _ => Cert.MergeIdeal.Gen.frame m g,
  mergeRefIdeal_runs,
  fun m g _ => Cert.Sconv.Gen.frame m g,
  fun m g _ => Cert.SconvIdeal.Gen.frame m g,
  sconvRefIdeal_runs,
  fun m g _ => Cert.Res.Gen.frame m g,
  fun m g _ => Cert.ResIdeal.Gen.frame m g,
  resRefIdeal_runs,
  fun m g _ => Cert.Rope.Gen.frame m g,
  fun m g _ => Cert.RopeIdeal.Gen.frame m g,
  ropeRefIdeal_runs,
  fun m g _ => Cert.Norm.Gen.frame m g,
  fun m g _ => Cert.NormIdeal.Gen.frame m g,
  fun m g _ => Cert.NormIdeal.Gen.frame m g,
  normRefIdeal_runs,
  normRef_runs,
  fun m g _ => Cert.NormIn.Gen.frame m g,
  fun m g _ => Cert.NormInIdeal.Gen.frame m g,
  fun m g _ => Cert.NormInIdeal.Gen.frame m g,
  normInRefIdeal_runs,
  normInRef_runs,
  fun m g _ => Cert.NormF.Gen.frame m g,
  fun m g _ => Cert.NormFIdeal.Gen.frame m g,
  normFRefIdeal_runs,
  fun m g _ => Cert.UpX.Gen.frame m g,
  fun m g _ => Cert.UpXIdeal.Gen.frame m g,
  upXRefIdeal_runs,
  fun m g _ => Cert.UpW.Gen.frame m g,
  fun m g _ => Cert.UpWIdeal.Gen.frame m g,
  upWRefIdeal_runs,
  fun m g _ => Cert.DownX.Gen.frame m g,
  fun m g _ => Cert.DownXIdeal.Gen.frame m g,
  downXRefIdeal_runs,
  fun m g _ => Cert.DownW.Gen.frame m g,
  fun m g _ => Cert.DownWIdeal.Gen.frame m g,
  downWRefIdeal_runs,
  fun m g _ => Cert.In3X.Gen.frame m g,
  fun m g _ => Cert.In3XIdeal.Gen.frame m g,
  in3XRefIdeal_runs,
  fun m g _ => Cert.In3W.Gen.frame m g,
  fun m g _ => Cert.In3WIdeal.Gen.frame m g,
  in3WRefIdeal_runs,
  fun m g _ => Cert.OutX.Gen.frame m g,
  fun m g _ => Cert.OutXIdeal.Gen.frame m g,
  outXRefIdeal_runs,
  fun m g _ => Cert.OutW.Gen.frame m g,
  fun m g _ => Cert.OutWIdeal.Gen.frame m g,
  outWRefIdeal_runs,
  fun m g _ => Cert.In2X.Gen.frame m g,
  fun m g _ => Cert.In2XIdeal.Gen.frame m g,
  in2XRefIdeal_runs,
  fun m g _ => Cert.In2W.Gen.frame m g,
  fun m g _ => Cert.In2WIdeal.Gen.frame m g,
  in2WRefIdeal_runs,
  fun m g _ => Cert.In1X.Gen.frame m g,
  fun m g _ => Cert.In1XIdeal.Gen.frame m g,
  in1XRefIdeal_runs,
  fun m g _ => Cert.In1W.Gen.frame m g,
  fun m g _ => Cert.In1WIdeal.Gen.frame m g,
  in1WRefIdeal_runs,
  fun m g _ => Cert.UpF.Gen.frame m g,
  fun m g _ => Cert.UpFIdeal.Gen.frame m g,
  upFRefIdeal_runs,
  fun m g _ => Cert.In3F.Gen.frame m g,
  fun m g _ => Cert.In3FIdeal.Gen.frame m g,
  in3FRefIdeal_runs,
  fun m g _ => Cert.In2F.Gen.frame m g,
  fun m g _ => Cert.In2FIdeal.Gen.frame m g,
  in2FRefIdeal_runs,
  gate_constants,
  gate_equal,
  trivial,
  merge_equal,
  trivial,
  sconv_equal,
  trivial,
  res_equal,
  trivial,
  rope_equal,
  trivial,
  norm_equal,
  trivial,
  normIn_equal,
  trivial,
  normF_equal,
  trivial,
  upX_equal,
  trivial,
  upW_equal,
  trivial,
  downX_equal,
  trivial,
  downW_equal,
  trivial,
  in3X_equal,
  trivial,
  in3W_equal,
  trivial,
  outX_equal,
  trivial,
  outW_equal,
  trivial,
  in2X_equal,
  trivial,
  in2W_equal,
  trivial,
  in1X_equal,
  trivial,
  in1W_equal,
  trivial,
  upF_equal,
  trivial,
  in3F_equal,
  trivial,
  in2F_equal⟩

end Cert.Proof

end
